-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_finite [hPre_finite : Cert.Pre_finite.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_finite.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4))).1 = (fun _ => 1#1)
    ∧ (Cert.Pre_finite.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4))).2.1 = (fun _ => 1#1)
    ∧ (Cert.Pre_finite.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4))).2.2.1 = (fun _ => 1#1)
    ∧ (Cert.Pre_finite.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4))).2.2.2 = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_finite [hPre_finite : Cert.Pre_finite.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_finite.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4))).1 = (fun _ => 1#1)
    ∧ (Cert.Pre_finite.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4))).2.1 = (fun _ => 1#1)
    ∧ (Cert.Pre_finite.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4))).2.2.1 = (fun _ => 1#1)
    ∧ (Cert.Pre_finite.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4))).2.2.2 = (fun _ => 1#1)

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Kernel4Ideal_pre_finite [hKernel4Ideal : Cert.Kernel4Ideal.Facts] [hPre_finite : Cert.Pre_finite.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_finite m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Reference4Ideal_pre_finite [hReference4Ideal : Cert.Reference4Ideal.Facts] [hPre_finite : Cert.Pre_finite.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_finite m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)) →
    ∃ (v0 : (c : Dev Cert.Kernel2Ideal.nD) → Buf (Elt Ideal) ((c.tc : Thread Cert.Kernel2Ideal.nD Cert.Kernel2Ideal.τ).loc Cert.Kernel2Ideal.main_v1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v1) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v31) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v1_0)) (v1 : (c : Dev Cert.Kernel3Ideal.nD) → Buf (Elt Ideal) ((c.tc : Thread Cert.Kernel3Ideal.nD Cert.Kernel3Ideal.τ).loc Cert.Kernel3Ideal.main_v1_1)) (v2 : (c : Dev Cert.Kernel3Ideal.nD) → Buf (Elt Ideal) ((c.tc : Thread Cert.Kernel3Ideal.nD Cert.Kernel3Ideal.τ).loc Cert.Kernel3Ideal.main_v1_2)) (v3 : (c : Dev Cert.Kernel3Ideal.nD) → Buf (Elt Ideal) ((c.tc : Thread Cert.Kernel3Ideal.nD Cert.Kernel3Ideal.τ).loc Cert.Kernel3Ideal.main_v1_3)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v1_0) = v0 c
          ∧ r.2.mem ((c.tc : Thread Cert.Kernel3Ideal.nD Cert.Kernel3Ideal.τ).loc Cert.Kernel3Ideal.main_v1_1) = v1 c
          ∧ r.2.mem ((c.tc : Thread Cert.Kernel3Ideal.nD Cert.Kernel3Ideal.τ).loc Cert.Kernel3Ideal.main_v1_2) = v2 c
          ∧ r.2.mem ((c.tc : Thread Cert.Kernel3Ideal.nD Cert.Kernel3Ideal.τ).loc Cert.Kernel3Ideal.main_v1_3) = v3 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v23) = v0 c
          ∧ r.2.mem ((c.tc : Thread Cert.Reference3Ideal.nD Cert.Reference3Ideal.τ).loc Cert.Reference3Ideal.main_v24) = v1 c
          ∧ r.2.mem ((c.tc : Thread Cert.Reference3Ideal.nD Cert.Reference3Ideal.τ).loc Cert.Reference3Ideal.main_v25) = v2 c
          ∧ r.2.mem ((c.tc : Thread Cert.Reference3Ideal.nD Cert.Reference3Ideal.τ).loc Cert.Reference3Ideal.main_v26) = v3 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal_pre_finite [hKernel4Ideal : Cert.Kernel4Ideal.Facts] [hReference4Ideal : Cert.Reference4Ideal.Facts] [hPre_finite : Cert.Pre_finite.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_finite m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v19)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v19) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v29) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def preserves_Kernel5_Kernel5Ideal : Prop :=
  IdealRules.named_const.Statement Cert.Kernel5Ideal.κ "q_scale" .f32 0x3DD53B95#32 ((((Real.log 2) * (Real.sqrt 192))⁻¹ : ℝ) : EReal)

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)) →
    ∃ (v0 : (c : Dev Cert.Kernel5Ideal.nD) → Buf (Elt Ideal) ((c.tc : Thread Cert.Kernel5Ideal.nD Cert.Kernel5Ideal.τ).loc Cert.Kernel5Ideal.main_v45_0)) (v1 : (c : Dev Cert.Kernel5Ideal.nD) → Buf (Elt Ideal) ((c.tc : Thread Cert.Kernel5Ideal.nD Cert.Kernel5Ideal.τ).loc Cert.Kernel5Ideal.main_v45_1)) (v2 : (c : Dev Cert.Kernel5Ideal.nD) → Buf (Elt Ideal) ((c.tc : Thread Cert.Kernel5Ideal.nD Cert.Kernel5Ideal.τ).loc Cert.Kernel5Ideal.main_v45_2)) (v3 : (c : Dev Cert.Kernel5Ideal.nD) → Buf (Elt Ideal) ((c.tc : Thread Cert.Kernel5Ideal.nD Cert.Kernel5Ideal.τ).loc Cert.Kernel5Ideal.main_v45_3)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v45_0) = v0 c
          ∧ r.2.mem ((c.tc : Thread Cert.Kernel5Ideal.nD Cert.Kernel5Ideal.τ).loc Cert.Kernel5Ideal.main_v45_1) = v1 c
          ∧ r.2.mem ((c.tc : Thread Cert.Kernel5Ideal.nD Cert.Kernel5Ideal.τ).loc Cert.Kernel5Ideal.main_v45_2) = v2 c
          ∧ r.2.mem ((c.tc : Thread Cert.Kernel5Ideal.nD Cert.Kernel5Ideal.τ).loc Cert.Kernel5Ideal.main_v45_3) = v3 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v110) = v0 c
          ∧ r.2.mem ((c.tc : Thread Cert.Reference5Ideal.nD Cert.Reference5Ideal.τ).loc Cert.Reference5Ideal.main_v111) = v1 c
          ∧ r.2.mem ((c.tc : Thread Cert.Reference5Ideal.nD Cert.Reference5Ideal.τ).loc Cert.Reference5Ideal.main_v112) = v2 c
          ∧ r.2.mem ((c.tc : Thread Cert.Reference5Ideal.nD Cert.Reference5Ideal.τ).loc Cert.Reference5Ideal.main_v113) = v3 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hPre_finite : Cert.Pre_finite.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Kernel4Ideal_pre_finite (hKernel4Ideal := hKernel4Ideal) (hPre_finite := hPre_finite)
    ∧ quiescent_Reference4Ideal (hReference4Ideal := hReference4Ideal)
    ∧ quiescent_Reference4Ideal_pre_finite (hReference4Ideal := hReference4Ideal) (hPre_finite := hPre_finite)
    ∧ quiescent_Kernel5 (hKernel5 := hKernel5)
    ∧ quiescent_Kernel5Ideal (hKernel5Ideal := hKernel5Ideal)
    ∧ quiescent_Reference5Ideal (hReference5Ideal := hReference5Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal_pre_finite (hKernel4Ideal := hKernel4Ideal) (hReference4Ideal := hReference4Ideal) (hPre_finite := hPre_finite)
    ∧ preserves_Kernel5_Kernel5Ideal
    ∧ algebraic_Kernel5Ideal_Reference5Ideal (hKernel5Ideal := hKernel5Ideal) (hReference5Ideal := hReference5Ideal)
-- ==== Pre_finite.lean ====
abbrev S8192x16x128 : Shape := ⟨3, ![8192, 16, 128]⟩
abbrev S8192x16x64 : Shape := ⟨3, ![8192, 16, 64]⟩
abbrev S8192x64 : Shape := ⟨2, ![8192, 64]⟩
abbrev S_ : Shape := ⟨0, ![]⟩

class Facts : Prop where
  bcast_S_S8192x16x128 : S_.BroadcastsInDim S8192x16x128 (![] : Fin 0 → Fin S8192x16x128.rank)
  bcast_S_S8192x16x64 : S_.BroadcastsInDim S8192x16x64 (![] : Fin 0 → Fin S8192x16x64.rank)
  bcast_S_S8192x64 : S_.BroadcastsInDim S8192x64 (![] : Fin 0 → Fin S8192x64.rank)

variable [Facts]

def fn {F : FTy → Type} [FloatOps F] (main_arg0 : FVec F S8192x16x128 .f32) (main_arg1 : FVec F S8192x16x64 .f32) (main_arg2 : FVec F S8192x16x128 .f32) (main_arg3 : FVec F S8192x64 .f32) (main_arg4 : FVec F S8192x16x128 .f32) : IVec S8192x16x128 1 × IVec S8192x16x64 1 × IVec S8192x16x128 1 × IVec S8192x64 1 :=
  let main_v0 : FVec F S8192x16x128 .f32 := Host.absf main_arg0
  let main_cst : FVec F S_ .f32 := constant S_ .f32 0x7F800000#32
  let main_v1 : FVec F S8192x16x128 .f32 := broadcastInDim S8192x16x128 ![] bcast_S_S8192x16x128 main_cst
  let main_v2 : IVec S8192x16x128 1 := cmpf .olt main_v0 main_v1
  let main_v3 : FVec F S8192x16x64 .f32 := Host.absf main_arg1
  let main_cst_0 : FVec F S_ .f32 := constant S_ .f32 0x7F800000#32
  let main_v4 : FVec F S8192x16x64 .f32 := broadcastInDim S8192x16x64 ![] bcast_S_S8192x16x64 main_cst_0
  let main_v5 : IVec S8192x16x64 1 := cmpf .olt main_v3 main_v4
  let main_v6 : FVec F S8192x16x128 .f32 := Host.absf main_arg2
  let main_cst_1 : FVec F S_ .f32 := constant S_ .f32 0x7F800000#32
  let main_v7 : FVec F S8192x16x128 .f32 := broadcastInDim S8192x16x128 ![] bcast_S_S8192x16x128 main_cst_1
  let main_v8 : IVec S8192x16x128 1 := cmpf .olt main_v6 main_v7
  let main_v9 : FVec F S8192x64 .f32 := Host.absf main_arg3
  let main_cst_2 : FVec F S_ .f32 := constant S_ .f32 0x7F800000#32
  let main_v10 : FVec F S8192x64 .f32 := broadcastInDim S8192x64 ![] bcast_S_S8192x64 main_cst_2
  let main_v11 : IVec S8192x64 1 := cmpf .olt main_v9 main_v10
  (main_v2, main_v5, main_v8, main_v11)
-- ==== Kernel.lean ====
abbrev S8192x2048 : Shape := ⟨2, ![8192, 2048]⟩
abbrev S2048x15424 : Shape := ⟨2, ![2048, 15424]⟩
abbrev S3x2048 : Shape := ⟨2, ![3, 2048]⟩
abbrev S15424x2048 : Shape := ⟨2, ![15424, 2048]⟩
abbrev S2048x2048 : Shape := ⟨2, ![2048, 2048]⟩
abbrev S256x2048 : Shape := ⟨2, ![256, 2048]⟩
abbrev S3x256 : Shape := ⟨2, ![3, 256]⟩
abbrev S2048x256 : Shape := ⟨2, ![2048, 256]⟩
abbrev S8x256 : Shape := ⟨2, ![8, 256]⟩
abbrev S1x256 : Shape := ⟨2, ![1, 256]⟩
abbrev S1024x2048 : Shape := ⟨2, ![1024, 2048]⟩
abbrev S1024x256 : Shape := ⟨2, ![1024, 256]⟩

abbrev nBuf : Space → Nat
  | .hbm => 5
  | .vmem => 19
  | .smem => 0
  | _ => 0

abbrev bufTy : (tb : Table) → Fin (tcTables nBuf tb) → BufTy
  | .hbm, ⟨0, _⟩ => ⟨S8192x2048, .bf16⟩
  | .hbm, ⟨1, _⟩ => ⟨S2048x15424, .f32⟩
  | .hbm, ⟨2, _⟩ => ⟨S3x2048, .f32⟩
  | .hbm, ⟨3, _⟩ => ⟨S15424x2048, .f32⟩
  | .hbm, ⟨4, _⟩ => ⟨S8192x2048, .bf16⟩
  | .local _ .vmem, ⟨0, _⟩ => ⟨S2048x2048, .bf16⟩
  | .local _ .vmem, ⟨1, _⟩ => ⟨S2048x2048, .bf16⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .f32⟩
  | .local _ .vmem, ⟨10, _⟩ => ⟨S3x256, .f32⟩
  | .local _ .vmem, ⟨11, _⟩ => ⟨S3x256, .f32⟩
  | .local _ .vmem, ⟨12, _⟩ => ⟨S2048x256, .bf16⟩
  | .local _ .vmem, ⟨13, _⟩ => ⟨S2048x256, .bf16⟩
  | .local _ .vmem, ⟨14, _⟩ => ⟨S256x2048, .bf16⟩
  | .local _ .vmem, ⟨15, _⟩ => ⟨S256x2048, .bf16⟩
  | .local _ .vmem, ⟨16, _⟩ => ⟨S256x2048, .bf16⟩
  | .local _ .vmem, ⟨17, _⟩ => ⟨S256x2048, .bf16⟩
  | .local _ .vmem, ⟨18, _⟩ => ⟨S8x256, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_scratch3 : Ref sig .tc := ⟨.vmem, 17, rfl⟩
abbrev cc0_scratch4 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![8, 4], ![false, false]⟩

def k0_mult1 (i : grid0.Coords) : BitVec 32 :=
  let c3136_i32 : BitVec 32 := 3136#32
  let arg0 : BitVec 32 := BitVec.ofNat 32 (i 0).val
  let c256_i32 : BitVec 32 := 256#32
  let v0 : BitVec 32 := Scalar.muli arg0 c256_i32
  let v1 : BitVec 32 := Scalar.addi c3136_i32 v0
  v1
def k0_mult2 (i : grid0.Coords) : BitVec 32 :=
  let c5184_i32 : BitVec 32 := 5184#32
  let arg0 : BitVec 32 := BitVec.ofNat 32 (i 0).val
  let c256_i32 : BitVec 32 := 256#32
  let v0 : BitVec 32 := Scalar.muli arg0 c256_i32
  let v1 : BitVec 32 := Scalar.addi c5184_i32 v0
  v1
def k0_mult3 (i : grid0.Coords) : BitVec 32 :=
  let c7232_i32 : BitVec 32 := 7232#32
  let arg0 : BitVec 32 := BitVec.ofNat 32 (i 0).val
  let c256_i32 : BitVec 32 := 256#32
  let v0 : BitVec 32 := Scalar.muli arg0 c256_i32
  let v1 : BitVec 32 := Scalar.addi c7232_i32 v0
  v1
def k0_mult4 (i : grid0.Coords) : BitVec 32 :=
  let c9280_i32 : BitVec 32 := 9280#32
  let arg0 : BitVec 32 := BitVec.ofNat 32 (i 0).val
  let c256_i32 : BitVec 32 := 256#32
  let v0 : BitVec 32 := Scalar.muli arg0 c256_i32
  let v1 : BitVec 32 := Scalar.addi c9280_i32 v0
  v1
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c256_i32 : BitVec 32 := 256#32
  let v0 : BitVec 32 := Scalar.muli arg0 c256_i32
  let c3136_i32 : BitVec 32 := 3136#32
  let v1 : BitVec 32 := Scalar.addi c3136_i32 v0
  let v2 : BitVec 32 := v1
  let c0_i32 : BitVec 32 := 0#32
  let c0_i32_0 : BitVec 32 := 0#32
  ![v2.toNat, c0_i32.toNat]

def cc0_transform_2 (i : grid0.Coords) : Fin 2 → Nat :=
  let arg0 : BitVec 32 := BitVec.ofNat 32 (i 0).val
  let arg1 : BitVec 32 := BitVec.ofNat 32 (i 1).val
  let c256_i32 : BitVec 32 := 256#32
  let v0 : BitVec 32 := Scalar.muli arg0 c256_i32
  let c5184_i32 : BitVec 32 := 5184#32
  let v1 : BitVec 32 := Scalar.addi c5184_i32 v0
  let v2 : BitVec 32 := v1
  let c0_i32 : BitVec 32 := 0#32
  let c0_i32_0 : BitVec 32 := 0#32
  ![v2.toNat, c0_i32.toNat]

def cc0_transform_3 (i : grid0.Coords) : Fin 2 → Nat :=
  let arg0 : BitVec 32 := BitVec.ofNat 32 (i 0).val
  let arg1 : BitVec 32 := BitVec.ofNat 32 (i 1).val
  let c256_i32 : BitVec 32 := 256#32
  let v0 : BitVec 32 := Scalar.muli arg0 c256_i32
  let c7232_i32 : BitVec 32 := 7232#32
  let v1 : BitVec 32 := Scalar.addi c7232_i32 v0
  let v2 : BitVec 32 := v1
  let c0_i32 : BitVec 32 := 0#32
  let c0_i32_0 : BitVec 32 := 0#32
  ![v2.toNat, c0_i32.toNat]

def cc0_transform_4 (i : grid0.Coords) : Fin 2 → Nat :=
  let arg0 : BitVec 32 := BitVec.ofNat 32 (i 0).val
  let arg1 : BitVec 32 := BitVec.ofNat 32 (i 1).val
  let c256_i32 : BitVec 32 := 256#32
  let v0 : BitVec 32 := Scalar.muli arg0 c256_i32
  let c9280_i32 : BitVec 32 := 9280#32
  let v1 : BitVec 32 := Scalar.addi c9280_i32 v0
  let v2 : BitVec 32 := v1
  let c0_i32 : BitVec 32 := 0#32
  let c0_i32_0 : BitVec 32 := 0#32
  ![v2.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S3x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S2048x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== ReferenceIdeal.lean ====
abbrev S8192x2048 : Shape := ⟨2, ![8192, 2048]⟩
abbrev S2048x15424 : Shape := ⟨2, ![2048, 15424]⟩
abbrev S3x2048 : Shape := ⟨2, ![3, 2048]⟩
abbrev S2048x2048 : Shape := ⟨2, ![2048, 2048]⟩
abbrev S_ : Shape := ⟨0, ![]⟩
abbrev S8194x2048 : Shape := ⟨2, ![8194, 2048]⟩
abbrev S1x2048 : Shape := ⟨2, ![1, 2048]⟩
abbrev S2048 : Shape := ⟨1, ![2048]⟩

abbrev nBuf : Space → Nat
  | .hbm => 51
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x15424, .f32⟩
  | .hbm, ⟨2, _⟩ => ⟨S3x2048, .f32⟩
  | .hbm, ⟨3, _⟩ => ⟨S8192x2048, .f32⟩
  | .hbm, ⟨4, _⟩ => ⟨S2048x2048, .f32⟩
  | .hbm, ⟨5, _⟩ => ⟨S8192x2048, .f32⟩
  | .hbm, ⟨6, _⟩ => ⟨S8192x2048, .f32⟩
  | .hbm, ⟨7, _⟩ => ⟨S2048x2048, .f32⟩
  | .hbm, ⟨8, _⟩ => ⟨S8192x2048, .f32⟩
  | .hbm, ⟨9, _⟩ => ⟨S8192x2048, .f32⟩
  | .hbm, ⟨10, _⟩ => ⟨S2048x2048, .f32⟩
  | .hbm, ⟨11, _⟩ => ⟨S8192x2048, .f32⟩
  | .hbm, ⟨12, _⟩ => ⟨S8192x2048, .f32⟩
  | .hbm, ⟨13, _⟩ => ⟨S2048x2048, .f32⟩
  | .hbm, ⟨14, _⟩ => ⟨S8192x2048, .f32⟩
  | .hbm, ⟨15, _⟩ => ⟨S8192x2048, .f32⟩
  | .hbm, ⟨16, _⟩ => ⟨S_, .i32⟩
  | .hbm, ⟨17, _⟩ => ⟨S_, .f32⟩
  | .hbm, ⟨18, _⟩ => ⟨S8194x2048, .f32⟩
  | .hbm, ⟨19, _⟩ => ⟨S1x2048, .f32⟩
  | .hbm, ⟨20, _⟩ => ⟨S2048, .f32⟩
  | .hbm, ⟨21, _⟩ => ⟨S8192x2048, .f32⟩
  | .hbm, ⟨22, _⟩ => ⟨S1x2048, .f32⟩
  | .hbm, ⟨23, _⟩ => ⟨S8192x2048, .f32⟩
  | .hbm, ⟨24, _⟩ => ⟨S8192x2048, .f32⟩
  | .hbm, ⟨25, _⟩ => ⟨S1x2048, .f32⟩
  | .hbm, ⟨26, _⟩ => ⟨S2048, .f32⟩
  | .hbm, ⟨27, _⟩ => ⟨S8192x2048, .f32⟩
  | .hbm, ⟨28, _⟩ => ⟨S1x2048, .f32⟩
  | .hbm, ⟨29, _⟩ => ⟨S8192x2048, .f32⟩
  | .hbm, ⟨30, _⟩ => ⟨S8192x2048, .f32⟩
  | .hbm, ⟨31, _⟩ => ⟨S8192x2048, .f32⟩
  | .hbm, ⟨32, _⟩ => ⟨S1x2048, .f32⟩
  | .hbm, ⟨33, _⟩ => ⟨S2048, .f32⟩
  | .hbm, ⟨34, _⟩ => ⟨S8192x2048, .f32⟩
  | .hbm, ⟨35, _⟩ => ⟨S1x2048, .f32⟩
  | .hbm, ⟨36, _⟩ => ⟨S8192x2048, .f32⟩
  | .hbm, ⟨37, _⟩ => ⟨S8192x2048, .f32⟩
  | .hbm, ⟨38, _⟩ => ⟨S8192x2048, .f32⟩
  | .hbm, ⟨39, _⟩ => ⟨S8192x2048, .f32⟩
  | .hbm, ⟨40, _⟩ => ⟨S8192x2048, .f32⟩
  | .hbm, ⟨41, _⟩ => ⟨S8192x2048, .f32⟩
  | .hbm, ⟨42, _⟩ => ⟨S_, .f32⟩
  | .hbm, ⟨43, _⟩ => ⟨S8192x2048, .f32⟩
  | .hbm, ⟨44, _⟩ => ⟨S8192x2048, .f32⟩
  | .hbm, ⟨45, _⟩ => ⟨S_, .f32⟩
  | .hbm, ⟨46, _⟩ => ⟨S8192x2048, .f32⟩
  | .hbm, ⟨47, _⟩ => ⟨S8192x2048, .f32⟩
  | .hbm, ⟨48, _⟩ => ⟨S8192x2048, .f32⟩
  | .hbm, ⟨49, _⟩ => ⟨S8192x2048, .f32⟩
  | .hbm, ⟨50, _⟩ => ⟨S8192x2048, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_c : Ref sig .tc := ⟨.hbm, 16, rfl⟩
abbrev main_call0_v0 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_call1_v0 : Ref sig .tc := ⟨.hbm, 40, rfl⟩
abbrev main_call1_v1 : Ref sig .tc := ⟨.hbm, 41, rfl⟩
abbrev main_call1_cst : Ref sig .tc := ⟨.hbm, 42, rfl⟩
abbrev main_call1_v2 : Ref sig .tc := ⟨.hbm, 43, rfl⟩
abbrev main_call1_v3 : Ref sig .tc := ⟨.hbm, 44, rfl⟩
abbrev main_call1_cst_0 : Ref sig .tc := ⟨.hbm, 45, rfl⟩
abbrev main_call1_v4 : Ref sig .tc := ⟨.hbm, 46, rfl⟩
abbrev main_call1_v5 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩

abbrev nD : Nat := 1
abbrev τ : Topo := Topo.v7x

variable {F : FTy → Type} [FloatOps F]
-- ==== Kernel2.lean ====
abbrev S8192x2048 : Shape := ⟨2, ![8192, 2048]⟩
abbrev S8192x6144 : Shape := ⟨2, ![8192, 6144]⟩
abbrev S2048x2048 : Shape := ⟨2, ![2048, 2048]⟩
abbrev S2048 : Shape := ⟨1, ![2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩

abbrev nBuf : Space → Nat
  | .hbm => 10
  | .vmem => 18
  | .smem => 0
  | _ => 0

abbrev bufTy : (tb : Table) → Fin (tcTables nBuf tb) → BufTy
  | .hbm, ⟨0, _⟩ => ⟨S8192x2048, .f32⟩
  | .hbm, ⟨1, _⟩ => ⟨S8192x2048, .bf16⟩
  | .hbm, ⟨2, _⟩ => ⟨S8192x6144, .bf16⟩
  | .hbm, ⟨3, _⟩ => ⟨S8192x2048, .bf16⟩
  | .hbm, ⟨4, _⟩ => ⟨S2048x2048, .bf16⟩
  | .hbm, ⟨5, _⟩ => ⟨S2048x2048, .bf16⟩
  | .hbm, ⟨6, _⟩ => ⟨S2048x2048, .bf16⟩
  | .hbm, ⟨7, _⟩ => ⟨S2048, .f32⟩
  | .hbm, ⟨8, _⟩ => ⟨S1x2048, .f32⟩
  | .hbm, ⟨9, _⟩ => ⟨S8192x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .bf16⟩
  | .local _ .vmem, ⟨3, _⟩ => ⟨S256x2048, .bf16⟩
  | .local _ .vmem, ⟨4, _⟩ => ⟨S256x2048, .bf16⟩
  | .local _ .vmem, ⟨5, _⟩ => ⟨S256x2048, .bf16⟩
  | .local _ .vmem, ⟨6, _⟩ => ⟨S256x2048, .bf16⟩
  | .local _ .vmem, ⟨7, _⟩ => ⟨S256x2048, .bf16⟩
  | .local _ .vmem, ⟨8, _⟩ => ⟨S256x2048, .bf16⟩
  | .local _ .vmem, ⟨9, _⟩ => ⟨S256x2048, .bf16⟩
  | .local _ .vmem, ⟨10, _⟩ => ⟨S256x2048, .bf16⟩
  | .local _ .vmem, ⟨11, _⟩ => ⟨S256x2048, .bf16⟩
  | .local _ .vmem, ⟨12, _⟩ => ⟨S2048x2048, .bf16⟩
  | .local _ .vmem, ⟨13, _⟩ => ⟨S2048x2048, .bf16⟩
  | .local _ .vmem, ⟨14, _⟩ => ⟨S2048x2048, .bf16⟩
  | .local _ .vmem, ⟨15, _⟩ => ⟨S1x2048, .f32⟩
  | .local _ .vmem, ⟨16, _⟩ => ⟨S256x2048, .f32⟩
  | .local _ .vmem, ⟨17, _⟩ => ⟨S256x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg10_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem10_1 : DmaSem sig := 17

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S2048x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2048x2048 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S2048x2048 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S256x2048 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Reference2Ideal.lean ====
abbrev S8192x2048 : Shape := ⟨2, ![8192, 2048]⟩
abbrev S8192x6144 : Shape := ⟨2, ![8192, 6144]⟩
abbrev S2048x2048 : Shape := ⟨2, ![2048, 2048]⟩
abbrev S2048 : Shape := ⟨1, ![2048]⟩
abbrev S_ : Shape := ⟨0, ![]⟩
abbrev S8192 : Shape := ⟨1, ![8192]⟩
abbrev S8192x1 : Shape := ⟨2, ![8192, 1]⟩
abbrev S1x2048 : Shape := ⟨2, ![1, 2048]⟩

abbrev nBuf : Space → Nat
  | .hbm => 43
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .bf16⟩
  | .hbm, ⟨2, _⟩ => ⟨S8192x6144, .bf16⟩
  | .hbm, ⟨3, _⟩ => ⟨S8192x2048, .bf16⟩
  | .hbm, ⟨4, _⟩ => ⟨S2048x2048, .bf16⟩
  | .hbm, ⟨5, _⟩ => ⟨S2048x2048, .bf16⟩
  | .hbm, ⟨6, _⟩ => ⟨S2048x2048, .bf16⟩
  | .hbm, ⟨7, _⟩ => ⟨S2048, .f32⟩
  | .hbm, ⟨8, _⟩ => ⟨S8192x2048, .bf16⟩
  | .hbm, ⟨9, _⟩ => ⟨S8192x2048, .f32⟩
  | .hbm, ⟨10, _⟩ => ⟨S8192x2048, .bf16⟩
  | .hbm, ⟨11, _⟩ => ⟨S8192x2048, .f32⟩
  | .hbm, ⟨12, _⟩ => ⟨S8192x2048, .bf16⟩
  | .hbm, ⟨13, _⟩ => ⟨S8192x2048, .f32⟩
  | .hbm, ⟨14, _⟩ => ⟨S8192x2048, .f32⟩
  | .hbm, ⟨15, _⟩ => ⟨S8192x2048, .f32⟩
  | .hbm, ⟨16, _⟩ => ⟨S2048x2048, .f32⟩
  | .hbm, ⟨17, _⟩ => ⟨S8192x2048, .f32⟩
  | .hbm, ⟨18, _⟩ => ⟨S8192x2048, .f32⟩
  | .hbm, ⟨19, _⟩ => ⟨S2048x2048, .f32⟩
  | .hbm, ⟨20, _⟩ => ⟨S8192x2048, .f32⟩
  | .hbm, ⟨21, _⟩ => ⟨S8192x2048, .f32⟩
  | .hbm, ⟨22, _⟩ => ⟨S8192x2048, .f32⟩
  | .hbm, ⟨23, _⟩ => ⟨S8192x2048, .f32⟩
  | .hbm, ⟨24, _⟩ => ⟨S2048x2048, .f32⟩
  | .hbm, ⟨25, _⟩ => ⟨S8192x2048, .f32⟩
  | .hbm, ⟨26, _⟩ => ⟨S8192x2048, .f32⟩
  | .hbm, ⟨27, _⟩ => ⟨S_, .f32⟩
  | .hbm, ⟨28, _⟩ => ⟨S8192, .f32⟩
  | .hbm, ⟨29, _⟩ => ⟨S8192x1, .f32⟩
  | .hbm, ⟨30, _⟩ => ⟨S_, .f32⟩
  | .hbm, ⟨31, _⟩ => ⟨S8192x1, .f32⟩
  | .hbm, ⟨32, _⟩ => ⟨S8192x1, .f32⟩
  | .hbm, ⟨33, _⟩ => ⟨S_, .f32⟩
  | .hbm, ⟨34, _⟩ => ⟨S8192x1, .f32⟩
  | .hbm, ⟨35, _⟩ => ⟨S8192x1, .f32⟩
  | .hbm, ⟨36, _⟩ => ⟨S8192x1, .f32⟩
  | .hbm, ⟨37, _⟩ => ⟨S8192x2048, .f32⟩
  | .hbm, ⟨38, _⟩ => ⟨S8192x2048, .f32⟩
  | .hbm, ⟨39, _⟩ => ⟨S1x2048, .f32⟩
  | .hbm, ⟨40, _⟩ => ⟨S8192x2048, .f32⟩
  | .hbm, ⟨41, _⟩ => ⟨S8192x2048, .f32⟩
  | .hbm, ⟨42, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst : Ref sig .tc := ⟨.hbm, 27, rfl⟩
abbrev main_v19 : Ref sig .tc := ⟨.hbm, 28, rfl⟩
abbrev main_v20 : Ref sig .tc := ⟨.hbm, 29, rfl⟩
abbrev main_cst_0 : Ref sig .tc := ⟨.hbm, 30, rfl⟩
abbrev main_v21 : Ref sig .tc := ⟨.hbm, 31, rfl⟩
abbrev main_v22 : Ref sig .tc := ⟨.hbm, 32, rfl⟩
abbrev main_cst_1 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩

abbrev nD : Nat := 1
abbrev τ : Topo := Topo.v7x

variable {F : FTy → Type} [FloatOps F]
-- ==== Kernel3.lean ====
abbrev S8192x2048 : Shape := ⟨2, ![8192, 2048]⟩
abbrev S2048x15424 : Shape := ⟨2, ![2048, 15424]⟩
abbrev S2048x2048 : Shape := ⟨2, ![2048, 2048]⟩
abbrev S15424x2048 : Shape := ⟨2, ![15424, 2048]⟩
abbrev S8192x6144 : Shape := ⟨2, ![8192, 6144]⟩
abbrev S1024x2048 : Shape := ⟨2, ![1024, 2048]⟩
abbrev S64x2048 : Shape := ⟨2, ![64, 2048]⟩
abbrev S1024x1024 : Shape := ⟨2, ![1024, 1024]⟩
abbrev S512x2048 : Shape := ⟨2, ![512, 2048]⟩
abbrev S512x1024 : Shape := ⟨2, ![512, 1024]⟩

abbrev nBuf : Space → Nat
  | .hbm => 10
  | .vmem => 19
  | .smem => 0
  | _ => 0

abbrev bufTy : (tb : Table) → Fin (tcTables nBuf tb) → BufTy
  | .hbm, ⟨0, _⟩ => ⟨S8192x2048, .bf16⟩
  | .hbm, ⟨1, _⟩ => ⟨S2048x15424, .f32⟩
  | .hbm, ⟨2, _⟩ => ⟨S2048x2048, .f32⟩
  | .hbm, ⟨3, _⟩ => ⟨S2048x2048, .f32⟩
  | .hbm, ⟨4, _⟩ => ⟨S2048x2048, .f32⟩
  | .hbm, ⟨5, _⟩ => ⟨S15424x2048, .f32⟩
  | .hbm, ⟨6, _⟩ => ⟨S8192x6144, .bf16⟩
  | .hbm, ⟨7, _⟩ => ⟨S2048x2048, .bf16⟩
  | .hbm, ⟨8, _⟩ => ⟨S2048x2048, .bf16⟩
  | .hbm, ⟨9, _⟩ => ⟨S2048x2048, .bf16⟩
  | .local _ .vmem, ⟨0, _⟩ => ⟨S1024x2048, .bf16⟩
  | .local _ .vmem, ⟨1, _⟩ => ⟨S1024x2048, .bf16⟩
  | .local _ .vmem, ⟨2, _⟩ => ⟨S1024x2048, .f32⟩
  | .local _ .vmem, ⟨3, _⟩ => ⟨S1024x2048, .f32⟩
  | .local _ .vmem, ⟨4, _⟩ => ⟨S64x2048, .f32⟩
  | .local _ .vmem, ⟨5, _⟩ => ⟨S64x2048, .f32⟩
  | .local _ .vmem, ⟨6, _⟩ => ⟨S64x2048, .f32⟩
  | .local _ .vmem, ⟨7, _⟩ => ⟨S64x2048, .f32⟩
  | .local _ .vmem, ⟨8, _⟩ => ⟨S64x2048, .f32⟩
  | .local _ .vmem, ⟨9, _⟩ => ⟨S64x2048, .f32⟩
  | .local _ .vmem, ⟨10, _⟩ => ⟨S1024x1024, .bf16⟩
  | .local _ .vmem, ⟨11, _⟩ => ⟨S1024x1024, .bf16⟩
  | .local _ .vmem, ⟨12, _⟩ => ⟨S64x2048, .bf16⟩
  | .local _ .vmem, ⟨13, _⟩ => ⟨S64x2048, .bf16⟩
  | .local _ .vmem, ⟨14, _⟩ => ⟨S64x2048, .bf16⟩
  | .local _ .vmem, ⟨15, _⟩ => ⟨S64x2048, .bf16⟩
  | .local _ .vmem, ⟨16, _⟩ => ⟨S64x2048, .bf16⟩
  | .local _ .vmem, ⟨17, _⟩ => ⟨S64x2048, .bf16⟩
  | .local _ .vmem, ⟨18, _⟩ => ⟨S1024x2048, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev main_v1_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![6, 8], ![false, false]⟩

def k0_mult1 (i : grid0.Coords) : BitVec 32 :=
  let c1088_i32 : BitVec 32 := 1088#32
  let arg0 : BitVec 32 := BitVec.ofNat 32 (i 0).val
  let c1024_i32 : BitVec 32 := 1024#32
  let v0 : BitVec 32 := Scalar.muli arg0 c1024_i32
  let v1 : BitVec 32 := Scalar.addi c1088_i32 v0
  let c2_i32 : BitVec 32 := 2#32
  let v2 : BitVec 1 := Scalar.cmpi .slt arg0 c2_i32
  let c0_i32 : BitVec 32 := 0#32
  let c8192_i32 : BitVec 32 := 8192#32
  let v3 : BitVec 32 := Scalar.select v2 c0_i32 c8192_i32
  let v4 : BitVec 32 := Scalar.addi v1 v3
  v4
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c1024_i32 : BitVec 32 := 1024#32
  let v0 : BitVec 32 := Scalar.muli arg0 c1024_i32
  let c1088_i32 : BitVec 32 := 1088#32
  let v1 : BitVec 32 := Scalar.addi c1088_i32 v0
  let c2_i32 : BitVec 32 := 2#32
  let v2 : BitVec 1 := Scalar.cmpi .slt arg0 c2_i32
  let c0_i32 : BitVec 32 := 0#32
  let c8192_i32 : BitVec 32 := 8192#32
  let v3 : BitVec 32 := Scalar.select v2 c0_i32 c8192_i32
  let v4 : BitVec 32 := Scalar.addi v1 v3
  let v5 : BitVec 32 := v4
  let c0_i32_0 : BitVec 32 := 0#32
  let c0_i32_1 : BitVec 32 := 0#32
  ![v5.toNat, c0_i32_0.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c31_i32 : BitVec 32 := 31#32
  let v2 : BitVec 32 := Scalar.minsi v1 c31_i32
  let c0_i32 : BitVec 32 := 0#32
  let c0_i32_0 : BitVec 32 := 0#32
  ![v2.toNat, c0_i32.toNat]

def cc0_transform_3 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c31_i32 : BitVec 32 := 31#32
  let v2 : BitVec 32 := Scalar.minsi v1 c31_i32
  let c0_i32 : BitVec 32 := 0#32
  let c0_i32_0 : BitVec 32 := 0#32
  ![v2.toNat, c0_i32.toNat]

def cc0_transform_4 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c31_i32 : BitVec 32 := 31#32
  let v2 : BitVec 32 := Scalar.minsi v1 c31_i32
  let c0_i32 : BitVec 32 := 0#32
  let c0_i32_0 : BitVec 32 := 0#32
  ![v2.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c31_i32 : BitVec 32 := 31#32
  let v2 : BitVec 32 := Scalar.minsi v1 c31_i32
  let c0_i32 : BitVec 32 := 0#32
  let c0_i32_0 : BitVec 32 := 0#32
  ![v2.toNat, c0_i32.toNat]

def cc0_transform_7 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c31_i32 : BitVec 32 := 31#32
  let v2 : BitVec 32 := Scalar.minsi v1 c31_i32
  let c0_i32 : BitVec 32 := 0#32
  let c0_i32_0 : BitVec 32 := 0#32
  ![v2.toNat, c0_i32.toNat]

def cc0_transform_8 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c31_i32 : BitVec 32 := 31#32
  let v2 : BitVec 32 := Scalar.minsi v1 c31_i32
  let c0_i32 : BitVec 32 := 0#32
  let c0_i32_0 : BitVec 32 := 0#32
  ![v2.toNat, c0_i32.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S64x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S64x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S64x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S64x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S64x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S64x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference3Ideal.lean ====
abbrev S8192x2048 : Shape := ⟨2, ![8192, 2048]⟩
abbrev S2048x15424 : Shape := ⟨2, ![2048, 15424]⟩
abbrev S2048x2048 : Shape := ⟨2, ![2048, 2048]⟩
abbrev S_ : Shape := ⟨0, ![]⟩
abbrev S8192x6144 : Shape := ⟨2, ![8192, 6144]⟩

abbrev nBuf : Space → Nat
  | .hbm => 44
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x15424, .f32⟩
  | .hbm, ⟨2, _⟩ => ⟨S2048x2048, .f32⟩
  | .hbm, ⟨3, _⟩ => ⟨S2048x2048, .f32⟩
  | .hbm, ⟨4, _⟩ => ⟨S2048x2048, .f32⟩
  | .hbm, ⟨5, _⟩ => ⟨S8192x2048, .f32⟩
  | .hbm, ⟨6, _⟩ => ⟨S2048x2048, .f32⟩
  | .hbm, ⟨7, _⟩ => ⟨S8192x2048, .f32⟩
  | .hbm, ⟨8, _⟩ => ⟨S8192x2048, .f32⟩
  | .hbm, ⟨9, _⟩ => ⟨S2048x2048, .f32⟩
  | .hbm, ⟨10, _⟩ => ⟨S8192x2048, .f32⟩
  | .hbm, ⟨11, _⟩ => ⟨S8192x2048, .f32⟩
  | .hbm, ⟨12, _⟩ => ⟨S2048x2048, .f32⟩
  | .hbm, ⟨13, _⟩ => ⟨S8192x2048, .f32⟩
  | .hbm, ⟨14, _⟩ => ⟨S8192x2048, .f32⟩
  | .hbm, ⟨15, _⟩ => ⟨S8192x2048, .f32⟩
  | .hbm, ⟨16, _⟩ => ⟨S_, .f32⟩
  | .hbm, ⟨17, _⟩ => ⟨S8192x2048, .f32⟩
  | .hbm, ⟨18, _⟩ => ⟨S8192x2048, .f32⟩
  | .hbm, ⟨19, _⟩ => ⟨S_, .f32⟩
  | .hbm, ⟨20, _⟩ => ⟨S8192x2048, .f32⟩
  | .hbm, ⟨21, _⟩ => ⟨S8192x2048, .f32⟩
  | .hbm, ⟨22, _⟩ => ⟨S8192x2048, .f32⟩
  | .hbm, ⟨23, _⟩ => ⟨S8192x2048, .f32⟩
  | .hbm, ⟨24, _⟩ => ⟨S8192x2048, .f32⟩
  | .hbm, ⟨25, _⟩ => ⟨S_, .f32⟩
  | .hbm, ⟨26, _⟩ => ⟨S8192x2048, .f32⟩
  | .hbm, ⟨27, _⟩ => ⟨S8192x2048, .f32⟩
  | .hbm, ⟨28, _⟩ => ⟨S_, .f32⟩
  | .hbm, ⟨29, _⟩ => ⟨S8192x2048, .f32⟩
  | .hbm, ⟨30, _⟩ => ⟨S8192x2048, .f32⟩
  | .hbm, ⟨31, _⟩ => ⟨S8192x2048, .f32⟩
  | .hbm, ⟨32, _⟩ => ⟨S8192x2048, .f32⟩
  | .hbm, ⟨33, _⟩ => ⟨S_, .f32⟩
  | .hbm, ⟨34, _⟩ => ⟨S8192x2048, .f32⟩
  | .hbm, ⟨35, _⟩ => ⟨S8192x2048, .f32⟩
  | .hbm, ⟨36, _⟩ => ⟨S_, .f32⟩
  | .hbm, ⟨37, _⟩ => ⟨S8192x2048, .f32⟩
  | .hbm, ⟨38, _⟩ => ⟨S8192x2048, .f32⟩
  | .hbm, ⟨39, _⟩ => ⟨S8192x6144, .f32⟩
  | .hbm, ⟨40, _⟩ => ⟨S8192x6144, .bf16⟩
  | .hbm, ⟨41, _⟩ => ⟨S2048x2048, .bf16⟩
  | .hbm, ⟨42, _⟩ => ⟨S2048x2048, .bf16⟩
  | .hbm, ⟨43, _⟩ => ⟨S2048x2048, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_call0_v0 : Ref sig .tc := ⟨.hbm, 14, rfl⟩
abbrev main_call0_v1 : Ref sig .tc := ⟨.hbm, 15, rfl⟩
abbrev main_call0_cst : Ref sig .tc := ⟨.hbm, 16, rfl⟩
abbrev main_call0_v2 : Ref sig .tc := ⟨.hbm, 17, rfl⟩
abbrev main_call0_v3 : Ref sig .tc := ⟨.hbm, 18, rfl⟩
abbrev main_call0_cst_0 : Ref sig .tc := ⟨.hbm, 19, rfl⟩
abbrev main_call0_v4 : Ref sig .tc := ⟨.hbm, 20, rfl⟩
abbrev main_call0_v5 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_cst : Ref sig .tc := ⟨.hbm, 25, rfl⟩
abbrev main_v12 : Ref sig .tc := ⟨.hbm, 26, rfl⟩
abbrev main_v13 : Ref sig .tc := ⟨.hbm, 27, rfl⟩
abbrev main_cst_0 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_cst_1 : Ref sig .tc := ⟨.hbm, 33, rfl⟩
abbrev main_v18 : Ref sig .tc := ⟨.hbm, 34, rfl⟩
abbrev main_v19 : Ref sig .tc := ⟨.hbm, 35, rfl⟩
abbrev main_cst_2 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩

abbrev nD : Nat := 1
abbrev τ : Topo := Topo.v7x

variable {F : FTy → Type} [FloatOps F]
-- ==== Kernel4.lean ====
abbrev S8192x16x128 : Shape := ⟨3, ![8192, 16, 128]⟩
abbrev S8192x16x64 : Shape := ⟨3, ![8192, 16, 64]⟩
abbrev S8192x64 : Shape := ⟨2, ![8192, 64]⟩
abbrev S_ : Shape := ⟨0, ![]⟩
abbrev S8192x16x256 : Shape := ⟨3, ![8192, 16, 256]⟩
abbrev S8192x1x64 : Shape := ⟨3, ![8192, 1, 64]⟩
abbrev S16x512x16x128 : Shape := ⟨4, ![16, 512, 16, 128]⟩
abbrev S16x16x128x512 : Shape := ⟨4, ![16, 16, 128, 512]⟩
abbrev S16x16x16x512 : Shape := ⟨4, ![16, 16, 16, 512]⟩
abbrev S16x256x8192 : Shape := ⟨3, ![16, 256, 8192]⟩
abbrev S16x8192x256 : Shape := ⟨3, ![16, 8192, 256]⟩
abbrev S16x16x144x512 : Shape := ⟨4, ![16, 16, 144, 512]⟩
abbrev S2x4096x2048 : Shape := ⟨3, ![2, 4096, 2048]⟩
abbrev S2x256x1024 : Shape := ⟨3, ![2, 256, 1024]⟩
abbrev S2x8192x256 : Shape := ⟨3, ![2, 8192, 256]⟩
abbrev S2x16x144x512 : Shape := ⟨4, ![2, 16, 144, 512]⟩
abbrev S2x1024x256 : Shape := ⟨3, ![2, 1024, 256]⟩
abbrev S2x512x1024 : Shape := ⟨3, ![2, 512, 1024]⟩
abbrev S2x2x1x1024 : Shape := ⟨4, ![2, 2, 1, 1024]⟩
abbrev S2x2x144x1024 : Shape := ⟨4, ![2, 2, 144, 1024]⟩
abbrev S1x512x256 : Shape := ⟨3, ![1, 512, 256]⟩
abbrev S512x256 : Shape := ⟨2, ![512, 256]⟩
abbrev S1x256x1024 : Shape := ⟨3, ![1, 256, 1024]⟩
abbrev S256x1024 : Shape := ⟨2, ![256, 1024]⟩
abbrev S512x1024 : Shape := ⟨2, ![512, 1024]⟩
abbrev S1x512x1024 : Shape := ⟨3, ![1, 512, 1024]⟩
abbrev S1x1x1x1024 : Shape := ⟨4, ![1, 1, 1, 1024]⟩
abbrev S1x1024 : Shape := ⟨2, ![1, 1024]⟩
abbrev S1024 : Shape := ⟨1, ![1024]⟩
abbrev S1x1x144x1024 : Shape := ⟨4, ![1, 1, 144, 1024]⟩
abbrev S144x1024 : Shape := ⟨2, ![144, 1024]⟩
abbrev S1x1x144x512 : Shape := ⟨4, ![1, 1, 144, 512]⟩
abbrev S144x512 : Shape := ⟨2, ![144, 512]⟩
abbrev S512x512 : Shape := ⟨2, ![512, 512]⟩
abbrev S1x256x512 : Shape := ⟨3, ![1, 256, 512]⟩
abbrev S256x512 : Shape := ⟨2, ![256, 512]⟩
abbrev S1x512x512 : Shape := ⟨3, ![1, 512, 512]⟩
abbrev S1x1x1x512 : Shape := ⟨4, ![1, 1, 1, 512]⟩
abbrev S1x512 : Shape := ⟨2, ![1, 512]⟩
abbrev S512 : Shape := ⟨1, ![512]⟩
abbrev S128x1024 : Shape := ⟨2, ![128, 1024]⟩
abbrev S1024x128 : Shape := ⟨2, ![1024, 128]⟩
abbrev S1x1024x128 : Shape := ⟨3, ![1, 1024, 128]⟩

abbrev nBuf : Space → Nat
  | .hbm => 29
  | .vmem => 14
  | .smem => 0
  | _ => 0

abbrev bufTy : (tb : Table) → Fin (tcTables nBuf tb) → BufTy
  | .hbm, ⟨0, _⟩ => ⟨S8192x16x128, .f32⟩
  | .hbm, ⟨1, _⟩ => ⟨S8192x16x64, .f32⟩
  | .hbm, ⟨2, _⟩ => ⟨S8192x16x128, .f32⟩
  | .hbm, ⟨3, _⟩ => ⟨S8192x64, .f32⟩
  | .hbm, ⟨4, _⟩ => ⟨S8192x16x128, .f32⟩
  | .hbm, ⟨5, _⟩ => ⟨S_, .f32⟩
  | .hbm, ⟨6, _⟩ => ⟨S8192x16x64, .f32⟩
  | .hbm, ⟨7, _⟩ => ⟨S8192x16x256, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S8192x16x256, .f32⟩
  | .hbm, ⟨14, _⟩ => ⟨S8192x16x256, .f32⟩
  | .hbm, ⟨15, _⟩ => ⟨S8192x1x64, .f32⟩
  | .hbm, ⟨16, _⟩ => ⟨S8192x16x64, .f32⟩
  | .hbm, ⟨17, _⟩ => ⟨S8192x16x256, .f32⟩
  | .hbm, ⟨18, _⟩ => ⟨S8192x16x128, .bf16⟩
  | .hbm, ⟨19, _⟩ => ⟨S16x512x16x128, .bf16⟩
  | .hbm, ⟨20, _⟩ => ⟨S16x16x128x512, .bf16⟩
  | .hbm, ⟨21, _⟩ => ⟨S_, .bf16⟩
  | .hbm, ⟨22, _⟩ => ⟨S16x16x16x512, .bf16⟩
  | .hbm, ⟨23, _⟩ => ⟨S8192x16x256, .bf16⟩
  | .hbm, ⟨24, _⟩ => ⟨S16x256x8192, .bf16⟩
  | .hbm, ⟨25, _⟩ => ⟨S8192x16x256, .bf16⟩
  | .hbm, ⟨26, _⟩ => ⟨S16x8192x256, .bf16⟩
  | .hbm, ⟨27, _⟩ => ⟨S16x16x144x512, .bf16⟩
  | .hbm, ⟨28, _⟩ => ⟨S2x4096x2048, .bf16⟩
  | .local _ .vmem, ⟨0, _⟩ => ⟨S2x256x1024, .bf16⟩
  | .local _ .vmem, ⟨1, _⟩ => ⟨S2x256x1024, .bf16⟩
  | .local _ .vmem, ⟨2, _⟩ => ⟨S2x256x1024, .bf16⟩
  | .local _ .vmem, ⟨3, _⟩ => ⟨S2x256x1024, .bf16⟩
  | .local _ .vmem, ⟨4, _⟩ => ⟨S2x8192x256, .bf16⟩
  | .local _ .vmem, ⟨5, _⟩ => ⟨S2x8192x256, .bf16⟩
  | .local _ .vmem, ⟨6, _⟩ => ⟨S2x16x144x512, .bf16⟩
  | .local _ .vmem, ⟨7, _⟩ => ⟨S2x16x144x512, .bf16⟩
  | .local _ .vmem, ⟨8, _⟩ => ⟨S2x1024x256, .bf16⟩
  | .local _ .vmem, ⟨9, _⟩ => ⟨S2x1024x256, .bf16⟩
  | .local _ .vmem, ⟨10, _⟩ => ⟨S2x512x1024, .f32⟩
  | .local _ .vmem, ⟨11, _⟩ => ⟨S2x512x1024, .f32⟩
  | .local _ .vmem, ⟨12, _⟩ => ⟨S2x2x1x1024, .f32⟩
  | .local _ .vmem, ⟨13, _⟩ => ⟨S2x2x144x1024, .f32⟩
  | _, _ => ⟨S8192x16x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_cst_1 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 4], ![false, false]⟩

def k0_mult1 : BitVec 32 :=
  let c0_i32_12 : BitVec 32 := 0#32
  c0_i32_12
def k0_mult2 : BitVec 32 :=
  let c0_i32_22 : BitVec 32 := 0#32
  c0_i32_22
@[reducible] def k0_t1_loop (i : grid0.Coords) : Scf.Loop 32 :=
  let c0_i32_39 : BitVec 32 := 0#32
  let arg1 : BitVec 32 := BitVec.ofNat 32 (i 1).val
  let c0_i32_32 : BitVec 32 := 0#32
  let v41 : BitVec 1 := Scalar.cmpi .sgt arg1 c0_i32_32
  let v42 : BitVec 32 := Scalar.extui v41
  let c0_i32_33 : BitVec 32 := 0#32
  let v43 : BitVec 1 := Scalar.cmpi .slt arg1 c0_i32_33
  let v44 : BitVec 32 := Scalar.extui v43
  let v45 : BitVec 32 := Scalar.subi v42 v44
  let c2_i32_31 : BitVec 32 := 2#32
  let c0_i32_34 : BitVec 32 := 0#32
  let v46 : BitVec 1 := Scalar.cmpi .sgt c2_i32_31 c0_i32_34
  let v47 : BitVec 32 := Scalar.extui v46
  let c0_i32_35 : BitVec 32 := 0#32
  let v48 : BitVec 1 := Scalar.cmpi .slt c2_i32_31 c0_i32_35
  let v49 : BitVec 32 := Scalar.extui v48
  let v50 : BitVec 32 := Scalar.subi v47 v49
  let v51 : BitVec 1 := Scalar.cmpi .ne v45 v50
  let v52 : BitVec 32 := Scalar.remsi arg1 c2_i32_31
  let c0_i32_36 : BitVec 32 := 0#32
  let v53 : BitVec 1 := Scalar.cmpi .ne v52 c0_i32_36
  let v54 : BitVec 1 := Scalar.andi v51 v53
  let v40 : BitVec 32 := Scalar.divsi arg1 c2_i32_31
  let c1_i32_37 : BitVec 32 := 1#32
  let v55 : BitVec 32 := Scalar.subi v40 c1_i32_37
  let v56 : BitVec 32 := Scalar.select v54 v55 v40
  let v57 : BitVec 32 := Scalar.subi v56 c0_i32_39
  let c1_i32_40 : BitVec 32 := 1#32
  let v59 : BitVec 32 := Scalar.divsi v57 c1_i32_40
  let v60 : BitVec 32 := Scalar.muli v59 c1_i32_40
  let v61 : BitVec 32 := Scalar.addi c0_i32_39 v60
  let c1_i32_41 : BitVec 32 := 1#32
  ⟨c0_i32_39, v61, c1_i32_41⟩
def k0_mult3 (i : grid0.Coords) (k0_t1 : Fin (k0_t1_loop i).trips) : BitVec 32 :=
  let c4_i32_65 : BitVec 32 := 4#32
  let c0_i32_39 : BitVec 32 := 0#32
  let c1_i32_41 : BitVec 32 := 1#32
  let arg11 : BitVec 32 := Scf.iv c0_i32_39 c1_i32_41 k0_t1
  let v100 : BitVec 32 := Scalar.muli c4_i32_65 arg11
  let c1_i32_66 : BitVec 32 := 1#32
  let v101 : BitVec 32 := Scalar.addi v100 c1_i32_66
  let c512_i32 : BitVec 32 := 512#32
  let v102 : BitVec 32 := Scalar.muli v101 c512_i32
  v102
def k0_off1 (i : grid0.Coords) (k0_t1 : Fin (k0_t1_loop i).trips) (c1_i32_66 : BitVec 32) : Fin 3 → Nat :=
  let c0_67 : Index := 0#32
  let c4_i32_65 : BitVec 32 := 4#32
  let c0_i32_39 : BitVec 32 := 0#32
  let c1_i32_41 : BitVec 32 := 1#32
  let arg11 : BitVec 32 := Scf.iv c0_i32_39 c1_i32_41 k0_t1
  let v100 : BitVec 32 := Scalar.muli c4_i32_65 arg11
  let v101 : BitVec 32 := Scalar.addi v100 c1_i32_66
  let c512_i32 : BitVec 32 := 512#32
  let v102 : BitVec 32 := Scalar.muli v101 c512_i32
  let v103 : BitVec 32 := v102
  let v104 : Index := Scalar.indexCast v103
  let c0_68 : Index := 0#32
  ![0, v104.toNat, 0]
def k0_off2 (i : grid0.Coords) (k0_t1 : Fin (k0_t1_loop i).trips) : Fin 4 → Nat :=
  let c0_88 : Index := 0#32
  let c4_i32_65 : BitVec 32 := 4#32
  let c0_i32_39 : BitVec 32 := 0#32
  let c1_i32_41 : BitVec 32 := 1#32
  let arg11 : BitVec 32 := Scf.iv c0_i32_39 c1_i32_41 k0_t1
  let v100 : BitVec 32 := Scalar.muli c4_i32_65 arg11
  let v130 : Index := Scalar.indexCast v100
  let c0_89 : Index := 0#32
  let c0_90 : Index := 0#32
  ![0, v130.toNat, 0, 0]
def k0_mult4 (i : grid0.Coords) (k0_t1 : Fin (k0_t1_loop i).trips) : BitVec 32 :=
  let c4_i32_65 : BitVec 32 := 4#32
  let c0_i32_39 : BitVec 32 := 0#32
  let c1_i32_41 : BitVec 32 := 1#32
  let arg11 : BitVec 32 := Scf.iv c0_i32_39 c1_i32_41 k0_t1
  let v100 : BitVec 32 := Scalar.muli c4_i32_65 arg11
  let c1_i32_100 : BitVec 32 := 1#32
  let v141 : BitVec 32 := Scalar.addi v100 c1_i32_100
  let c512_i32_101 : BitVec 32 := 512#32
  let v142 : BitVec 32 := Scalar.muli v141 c512_i32_101
  v142
def k0_off3 (i : grid0.Coords) (k0_t1 : Fin (k0_t1_loop i).trips) (c1_i32_100 : BitVec 32) : Fin 3 → Nat :=
  let c1_102 : Index := 1#32
  let c4_i32_65 : BitVec 32 := 4#32
  let c0_i32_39 : BitVec 32 := 0#32
  let c1_i32_41 : BitVec 32 := 1#32
  let arg11 : BitVec 32 := Scf.iv c0_i32_39 c1_i32_41 k0_t1
  let v100 : BitVec 32 := Scalar.muli c4_i32_65 arg11
  let v141 : BitVec 32 := Scalar.addi v100 c1_i32_100
  let c512_i32_101 : BitVec 32 := 512#32
  let v142 : BitVec 32 := Scalar.muli v141 c512_i32_101
  let v143 : BitVec 32 := v142
  let v144 : Index := Scalar.indexCast v143
  let c0_103 : Index := 0#32
  ![1, v144.toNat, 0]
def k0_off4 (i : grid0.Coords) (k0_t1 : Fin (k0_t1_loop i).trips) : Fin 4 → Nat :=
  let c1_123 : Index := 1#32
  let c4_i32_65 : BitVec 32 := 4#32
  let c0_i32_39 : BitVec 32 := 0#32
  let c1_i32_41 : BitVec 32 := 1#32
  let arg11 : BitVec 32 := Scf.iv c0_i32_39 c1_i32_41 k0_t1
  let v100 : BitVec 32 := Scalar.muli c4_i32_65 arg11
  let v170 : Index := Scalar.indexCast v100
  let c0_124 : Index := 0#32
  let c0_125 : Index := 0#32
  ![1, v170.toNat, 0, 0]
def k0_mult5 (i : grid0.Coords) (k0_t1 : Fin (k0_t1_loop i).trips) : BitVec 32 :=
  let c4_i32_65 : BitVec 32 := 4#32
  let c0_i32_39 : BitVec 32 := 0#32
  let c1_i32_41 : BitVec 32 := 1#32
  let arg11 : BitVec 32 := Scf.iv c0_i32_39 c1_i32_41 k0_t1
  let v100 : BitVec 32 := Scalar.muli c4_i32_65 arg11
  let c2_i32_135 : BitVec 32 := 2#32
  let v181 : BitVec 32 := Scalar.addi v100 c2_i32_135
  let c512_i32_136 : BitVec 32 := 512#32
  let v182 : BitVec 32 := Scalar.muli v181 c512_i32_136
  v182
def k0_off5 (i : grid0.Coords) (k0_t1 : Fin (k0_t1_loop i).trips) (c1_i32_146 : BitVec 32) : Fin 4 → Nat :=
  let c0_159 : Index := 0#32
  let c4_i32_65 : BitVec 32 := 4#32
  let c0_i32_39 : BitVec 32 := 0#32
  let c1_i32_41 : BitVec 32 := 1#32
  let arg11 : BitVec 32 := Scf.iv c0_i32_39 c1_i32_41 k0_t1
  let v100 : BitVec 32 := Scalar.muli c4_i32_65 arg11
  let v193 : BitVec 32 := Scalar.addi v100 c1_i32_146
  let v211 : Index := Scalar.indexCast v193
  let c0_160 : Index := 0#32
  let c0_161 : Index := 0#32
  ![0, v211.toNat, 0, 0]
def k0_mult6 (i : grid0.Coords) (k0_t1 : Fin (k0_t1_loop i).trips) : BitVec 32 :=
  let c4_i32_65 : BitVec 32 := 4#32
  let c0_i32_39 : BitVec 32 := 0#32
  let c1_i32_41 : BitVec 32 := 1#32
  let arg11 : BitVec 32 := Scf.iv c0_i32_39 c1_i32_41 k0_t1
  let v100 : BitVec 32 := Scalar.muli c4_i32_65 arg11
  let c2_i32_171 : BitVec 32 := 2#32
  let v222 : BitVec 32 := Scalar.addi v100 c2_i32_171
  let c512_i32_172 : BitVec 32 := 512#32
  let v223 : BitVec 32 := Scalar.muli v222 c512_i32_172
  v223
def k0_off6 (i : grid0.Coords) (k0_t1 : Fin (k0_t1_loop i).trips) (c1_i32_182 : BitVec 32) : Fin 4 → Nat :=
  let c1_195 : Index := 1#32
  let c4_i32_65 : BitVec 32 := 4#32
  let c0_i32_39 : BitVec 32 := 0#32
  let c1_i32_41 : BitVec 32 := 1#32
  let arg11 : BitVec 32 := Scf.iv c0_i32_39 c1_i32_41 k0_t1
  let v100 : BitVec 32 := Scalar.muli c4_i32_65 arg11
  let v234 : BitVec 32 := Scalar.addi v100 c1_i32_182
  let v252 : Index := Scalar.indexCast v234
  let c0_196 : Index := 0#32
  let c0_197 : Index := 0#32
  ![1, v252.toNat, 0, 0]
def k0_mult7 (i : grid0.Coords) (k0_t1 : Fin (k0_t1_loop i).trips) : BitVec 32 :=
  let c4_i32_207 : BitVec 32 := 4#32
  let c0_i32_39 : BitVec 32 := 0#32
  let c1_i32_41 : BitVec 32 := 1#32
  let arg11 : BitVec 32 := Scf.iv c0_i32_39 c1_i32_41 k0_t1
  let v263 : BitVec 32 := Scalar.muli c4_i32_207 arg11
  let c2_i32_208 : BitVec 32 := 2#32
  let v264 : BitVec 32 := Scalar.addi v263 c2_i32_208
  let c1_i32_209 : BitVec 32 := 1#32
  let v265 : BitVec 32 := Scalar.addi v264 c1_i32_209
  let c512_i32_210 : BitVec 32 := 512#32
  let v266 : BitVec 32 := Scalar.muli v265 c512_i32_210
  v266
def k0_off7 (i : grid0.Coords) (k0_t1 : Fin (k0_t1_loop i).trips) (c1_i32_209 : BitVec 32) : Fin 3 → Nat :=
  let c0_211 : Index := 0#32
  let c4_i32_207 : BitVec 32 := 4#32
  let c0_i32_39 : BitVec 32 := 0#32
  let c1_i32_41 : BitVec 32 := 1#32
  let arg11 : BitVec 32 := Scf.iv c0_i32_39 c1_i32_41 k0_t1
  let v263 : BitVec 32 := Scalar.muli c4_i32_207 arg11
  let c2_i32_208 : BitVec 32 := 2#32
  let v264 : BitVec 32 := Scalar.addi v263 c2_i32_208
  let v265 : BitVec 32 := Scalar.addi v264 c1_i32_209
  let c512_i32_210 : BitVec 32 := 512#32
  let v266 : BitVec 32 := Scalar.muli v265 c512_i32_210
  let v267 : BitVec 32 := v266
  let v268 : Index := Scalar.indexCast v267
  let c0_212 : Index := 0#32
  ![0, v268.toNat, 0]
def k0_mult8 (i : grid0.Coords) (k0_t1 : Fin (k0_t1_loop i).trips) : BitVec 32 :=
  let c4_i32_207 : BitVec 32 := 4#32
  let c0_i32_39 : BitVec 32 := 0#32
  let c1_i32_41 : BitVec 32 := 1#32
  let arg11 : BitVec 32 := Scf.iv c0_i32_39 c1_i32_41 k0_t1
  let v263 : BitVec 32 := Scalar.muli c4_i32_207 arg11
  let c2_i32_208 : BitVec 32 := 2#32
  let v264 : BitVec 32 := Scalar.addi v263 c2_i32_208
  let c1_i32_244 : BitVec 32 := 1#32
  let v305 : BitVec 32 := Scalar.addi v264 c1_i32_244
  let c512_i32_245 : BitVec 32 := 512#32
  let v306 : BitVec 32 := Scalar.muli v305 c512_i32_245
  v306
def k0_off8 (i : grid0.Coords) (k0_t1 : Fin (k0_t1_loop i).trips) (c1_i32_244 : BitVec 32) : Fin 3 → Nat :=
  let c1_246 : Index := 1#32
  let c4_i32_207 : BitVec 32 := 4#32
  let c0_i32_39 : BitVec 32 := 0#32
  let c1_i32_41 : BitVec 32 := 1#32
  let arg11 : BitVec 32 := Scf.iv c0_i32_39 c1_i32_41 k0_t1
  let v263 : BitVec 32 := Scalar.muli c4_i32_207 arg11
  let c2_i32_208 : BitVec 32 := 2#32
  let v264 : BitVec 32 := Scalar.addi v263 c2_i32_208
  let v305 : BitVec 32 := Scalar.addi v264 c1_i32_244
  let c512_i32_245 : BitVec 32 := 512#32
  let v306 : BitVec 32 := Scalar.muli v305 c512_i32_245
  let v307 : BitVec 32 := v306
  let v308 : Index := Scalar.indexCast v307
  let c0_247 : Index := 0#32
  ![1, v308.toNat, 0]
def k0_mult9 (i : grid0.Coords) (k0_t1 : Fin (k0_t1_loop i).trips) : BitVec 32 :=
  let c4_i32_207 : BitVec 32 := 4#32
  let c0_i32_39 : BitVec 32 := 0#32
  let c1_i32_41 : BitVec 32 := 1#32
  let arg11 : BitVec 32 := Scf.iv c0_i32_39 c1_i32_41 k0_t1
  let v263 : BitVec 32 := Scalar.muli c4_i32_207 arg11
  let c2_i32_208 : BitVec 32 := 2#32
  let v264 : BitVec 32 := Scalar.addi v263 c2_i32_208
  let c2_i32_279 : BitVec 32 := 2#32
  let v345 : BitVec 32 := Scalar.addi v264 c2_i32_279
  let c512_i32_280 : BitVec 32 := 512#32
  let v346 : BitVec 32 := Scalar.muli v345 c512_i32_280
  v346
def k0_off9 (i : grid0.Coords) (k0_t1 : Fin (k0_t1_loop i).trips) : Fin 4 → Nat :=
  let c0_303 : Index := 0#32
  let c4_i32_207 : BitVec 32 := 4#32
  let c0_i32_39 : BitVec 32 := 0#32
  let c1_i32_41 : BitVec 32 := 1#32
  let arg11 : BitVec 32 := Scf.iv c0_i32_39 c1_i32_41 k0_t1
  let v263 : BitVec 32 := Scalar.muli c4_i32_207 arg11
  let c2_i32_208 : BitVec 32 := 2#32
  let v264 : BitVec 32 := Scalar.addi v263 c2_i32_208
  let c1_i32_290 : BitVec 32 := 1#32
  let v357 : BitVec 32 := Scalar.addi v264 c1_i32_290
  let v375 : Index := Scalar.indexCast v357
  let c0_304 : Index := 0#32
  let c0_305 : Index := 0#32
  ![0, v375.toNat, 0, 0]
def k0_mult10 (i : grid0.Coords) (k0_t1 : Fin (k0_t1_loop i).trips) : BitVec 32 :=
  let c4_i32_207 : BitVec 32 := 4#32
  let c0_i32_39 : BitVec 32 := 0#32
  let c1_i32_41 : BitVec 32 := 1#32
  let arg11 : BitVec 32 := Scf.iv c0_i32_39 c1_i32_41 k0_t1
  let v263 : BitVec 32 := Scalar.muli c4_i32_207 arg11
  let c2_i32_208 : BitVec 32 := 2#32
  let v264 : BitVec 32 := Scalar.addi v263 c2_i32_208
  let c2_i32_315 : BitVec 32 := 2#32
  let v386 : BitVec 32 := Scalar.addi v264 c2_i32_315
  let c512_i32_316 : BitVec 32 := 512#32
  let v387 : BitVec 32 := Scalar.muli v386 c512_i32_316
  v387
def k0_off10 (i : grid0.Coords) (k0_t1 : Fin (k0_t1_loop i).trips) : Fin 4 → Nat :=
  let c1_339 : Index := 1#32
  let c4_i32_207 : BitVec 32 := 4#32
  let c0_i32_39 : BitVec 32 := 0#32
  let c1_i32_41 : BitVec 32 := 1#32
  let arg11 : BitVec 32 := Scf.iv c0_i32_39 c1_i32_41 k0_t1
  let v263 : BitVec 32 := Scalar.muli c4_i32_207 arg11
  let c2_i32_208 : BitVec 32 := 2#32
  let v264 : BitVec 32 := Scalar.addi v263 c2_i32_208
  let c1_i32_326 : BitVec 32 := 1#32
  let v398 : BitVec 32 := Scalar.addi v264 c1_i32_326
  let v416 : Index := Scalar.indexCast v398
  let c0_340 : Index := 0#32
  let c0_341 : Index := 0#32
  ![1, v416.toNat, 0, 0]
@[reducible] def k0_t2_loop (i : grid0.Coords) : Scf.Loop 32 :=
  let c0_i32_39 : BitVec 32 := 0#32
  let arg1 : BitVec 32 := BitVec.ofNat 32 (i 1).val
  let c0_i32_32 : BitVec 32 := 0#32
  let v41 : BitVec 1 := Scalar.cmpi .sgt arg1 c0_i32_32
  let v42 : BitVec 32 := Scalar.extui v41
  let c0_i32_33 : BitVec 32 := 0#32
  let v43 : BitVec 1 := Scalar.cmpi .slt arg1 c0_i32_33
  let v44 : BitVec 32 := Scalar.extui v43
  let v45 : BitVec 32 := Scalar.subi v42 v44
  let c2_i32_31 : BitVec 32 := 2#32
  let c0_i32_34 : BitVec 32 := 0#32
  let v46 : BitVec 1 := Scalar.cmpi .sgt c2_i32_31 c0_i32_34
  let v47 : BitVec 32 := Scalar.extui v46
  let c0_i32_35 : BitVec 32 := 0#32
  let v48 : BitVec 1 := Scalar.cmpi .slt c2_i32_31 c0_i32_35
  let v49 : BitVec 32 := Scalar.extui v48
  let v50 : BitVec 32 := Scalar.subi v47 v49
  let v51 : BitVec 1 := Scalar.cmpi .ne v45 v50
  let v52 : BitVec 32 := Scalar.remsi arg1 c2_i32_31
  let c0_i32_36 : BitVec 32 := 0#32
  let v53 : BitVec 1 := Scalar.cmpi .ne v52 c0_i32_36
  let v54 : BitVec 1 := Scalar.andi v51 v53
  let v40 : BitVec 32 := Scalar.divsi arg1 c2_i32_31
  let c1_i32_37 : BitVec 32 := 1#32
  let v55 : BitVec 32 := Scalar.subi v40 c1_i32_37
  let v56 : BitVec 32 := Scalar.select v54 v55 v40
  let v57 : BitVec 32 := Scalar.subi v56 c0_i32_39
  let c1_i32_40 : BitVec 32 := 1#32
  let v59 : BitVec 32 := Scalar.divsi v57 c1_i32_40
  let v60 : BitVec 32 := Scalar.muli v59 c1_i32_40
  let v61 : BitVec 32 := Scalar.addi c0_i32_39 v60
  let v58 : BitVec 32 := Scalar.addi c0_i32_39 v57
  let c1_i32_42 : BitVec 32 := 1#32
  ⟨v61, v58, c1_i32_42⟩
def k0_mult11 (i : grid0.Coords) (k0_t2 : Fin (k0_t2_loop i).trips) : BitVec 32 :=
  let c4_i32_65 : BitVec 32 := 4#32
  let c0_i32_39 : BitVec 32 := 0#32
  let arg1 : BitVec 32 := BitVec.ofNat 32 (i 1).val
  let c0_i32_32 : BitVec 32 := 0#32
  let v41 : BitVec 1 := Scalar.cmpi .sgt arg1 c0_i32_32
  let v42 : BitVec 32 := Scalar.extui v41
  let c0_i32_33 : BitVec 32 := 0#32
  let v43 : BitVec 1 := Scalar.cmpi .slt arg1 c0_i32_33
  let v44 : BitVec 32 := Scalar.extui v43
  let v45 : BitVec 32 := Scalar.subi v42 v44
  let c2_i32_31 : BitVec 32 := 2#32
  let c0_i32_34 : BitVec 32 := 0#32
  let v46 : BitVec 1 := Scalar.cmpi .sgt c2_i32_31 c0_i32_34
  let v47 : BitVec 32 := Scalar.extui v46
  let c0_i32_35 : BitVec 32 := 0#32
  let v48 : BitVec 1 := Scalar.cmpi .slt c2_i32_31 c0_i32_35
  let v49 : BitVec 32 := Scalar.extui v48
  let v50 : BitVec 32 := Scalar.subi v47 v49
  let v51 : BitVec 1 := Scalar.cmpi .ne v45 v50
  let v52 : BitVec 32 := Scalar.remsi arg1 c2_i32_31
  let c0_i32_36 : BitVec 32 := 0#32
  let v53 : BitVec 1 := Scalar.cmpi .ne v52 c0_i32_36
  let v54 : BitVec 1 := Scalar.andi v51 v53
  let v40 : BitVec 32 := Scalar.divsi arg1 c2_i32_31
  let c1_i32_37 : BitVec 32 := 1#32
  let v55 : BitVec 32 := Scalar.subi v40 c1_i32_37
  let v56 : BitVec 32 := Scalar.select v54 v55 v40
  let v57 : BitVec 32 := Scalar.subi v56 c0_i32_39
  let c1_i32_40 : BitVec 32 := 1#32
  let v59 : BitVec 32 := Scalar.divsi v57 c1_i32_40
  let v60 : BitVec 32 := Scalar.muli v59 c1_i32_40
  let v61 : BitVec 32 := Scalar.addi c0_i32_39 v60
  let c1_i32_42 : BitVec 32 := 1#32
  let arg11 : BitVec 32 := Scf.iv v61 c1_i32_42 k0_t2
  let v100 : BitVec 32 := Scalar.muli c4_i32_65 arg11
  let c1_i32_66 : BitVec 32 := 1#32
  let v101 : BitVec 32 := Scalar.addi v100 c1_i32_66
  let c512_i32 : BitVec 32 := 512#32
  let v102 : BitVec 32 := Scalar.muli v101 c512_i32
  v102
def k0_off11 (i : grid0.Coords) (k0_t2 : Fin (k0_t2_loop i).trips) (c1_i32_66 : BitVec 32) : Fin 3 → Nat :=
  let c0_67 : Index := 0#32
  let c4_i32_65 : BitVec 32 := 4#32
  let c0_i32_39 : BitVec 32 := 0#32
  let arg1 : BitVec 32 := BitVec.ofNat 32 (i 1).val
  let c0_i32_32 : BitVec 32 := 0#32
  let v41 : BitVec 1 := Scalar.cmpi .sgt arg1 c0_i32_32
  let v42 : BitVec 32 := Scalar.extui v41
  let c0_i32_33 : BitVec 32 := 0#32
  let v43 : BitVec 1 := Scalar.cmpi .slt arg1 c0_i32_33
  let v44 : BitVec 32 := Scalar.extui v43
  let v45 : BitVec 32 := Scalar.subi v42 v44
  let c2_i32_31 : BitVec 32 := 2#32
  let c0_i32_34 : BitVec 32 := 0#32
  let v46 : BitVec 1 := Scalar.cmpi .sgt c2_i32_31 c0_i32_34
  let v47 : BitVec 32 := Scalar.extui v46
  let c0_i32_35 : BitVec 32 := 0#32
  let v48 : BitVec 1 := Scalar.cmpi .slt c2_i32_31 c0_i32_35
  let v49 : BitVec 32 := Scalar.extui v48
  let v50 : BitVec 32 := Scalar.subi v47 v49
  let v51 : BitVec 1 := Scalar.cmpi .ne v45 v50
  let v52 : BitVec 32 := Scalar.remsi arg1 c2_i32_31
  let c0_i32_36 : BitVec 32 := 0#32
  let v53 : BitVec 1 := Scalar.cmpi .ne v52 c0_i32_36
  let v54 : BitVec 1 := Scalar.andi v51 v53
  let v40 : BitVec 32 := Scalar.divsi arg1 c2_i32_31
  let c1_i32_37 : BitVec 32 := 1#32
  let v55 : BitVec 32 := Scalar.subi v40 c1_i32_37
  let v56 : BitVec 32 := Scalar.select v54 v55 v40
  let v57 : BitVec 32 := Scalar.subi v56 c0_i32_39
  let c1_i32_40 : BitVec 32 := 1#32
  let v59 : BitVec 32 := Scalar.divsi v57 c1_i32_40
  let v60 : BitVec 32 := Scalar.muli v59 c1_i32_40
  let v61 : BitVec 32 := Scalar.addi c0_i32_39 v60
  let c1_i32_42 : BitVec 32 := 1#32
  let arg11 : BitVec 32 := Scf.iv v61 c1_i32_42 k0_t2
  let v100 : BitVec 32 := Scalar.muli c4_i32_65 arg11
  let v101 : BitVec 32 := Scalar.addi v100 c1_i32_66
  let c512_i32 : BitVec 32 := 512#32
  let v102 : BitVec 32 := Scalar.muli v101 c512_i32
  let v103 : BitVec 32 := v102
  let v104 : Index := Scalar.indexCast v103
  let c0_68 : Index := 0#32
  ![0, v104.toNat, 0]
def k0_off12 (i : grid0.Coords) (k0_t2 : Fin (k0_t2_loop i).trips) : Fin 4 → Nat :=
  let c0_88 : Index := 0#32
  let c4_i32_65 : BitVec 32 := 4#32
  let c0_i32_39 : BitVec 32 := 0#32
  let arg1 : BitVec 32 := BitVec.ofNat 32 (i 1).val
  let c0_i32_32 : BitVec 32 := 0#32
  let v41 : BitVec 1 := Scalar.cmpi .sgt arg1 c0_i32_32
  let v42 : BitVec 32 := Scalar.extui v41
  let c0_i32_33 : BitVec 32 := 0#32
  let v43 : BitVec 1 := Scalar.cmpi .slt arg1 c0_i32_33
  let v44 : BitVec 32 := Scalar.extui v43
  let v45 : BitVec 32 := Scalar.subi v42 v44
  let c2_i32_31 : BitVec 32 := 2#32
  let c0_i32_34 : BitVec 32 := 0#32
  let v46 : BitVec 1 := Scalar.cmpi .sgt c2_i32_31 c0_i32_34
  let v47 : BitVec 32 := Scalar.extui v46
  let c0_i32_35 : BitVec 32 := 0#32
  let v48 : BitVec 1 := Scalar.cmpi .slt c2_i32_31 c0_i32_35
  let v49 : BitVec 32 := Scalar.extui v48
  let v50 : BitVec 32 := Scalar.subi v47 v49
  let v51 : BitVec 1 := Scalar.cmpi .ne v45 v50
  let v52 : BitVec 32 := Scalar.remsi arg1 c2_i32_31
  let c0_i32_36 : BitVec 32 := 0#32
  let v53 : BitVec 1 := Scalar.cmpi .ne v52 c0_i32_36
  let v54 : BitVec 1 := Scalar.andi v51 v53
  let v40 : BitVec 32 := Scalar.divsi arg1 c2_i32_31
  let c1_i32_37 : BitVec 32 := 1#32
  let v55 : BitVec 32 := Scalar.subi v40 c1_i32_37
  let v56 : BitVec 32 := Scalar.select v54 v55 v40
  let v57 : BitVec 32 := Scalar.subi v56 c0_i32_39
  let c1_i32_40 : BitVec 32 := 1#32
  let v59 : BitVec 32 := Scalar.divsi v57 c1_i32_40
  let v60 : BitVec 32 := Scalar.muli v59 c1_i32_40
  let v61 : BitVec 32 := Scalar.addi c0_i32_39 v60
  let c1_i32_42 : BitVec 32 := 1#32
  let arg11 : BitVec 32 := Scf.iv v61 c1_i32_42 k0_t2
  let v100 : BitVec 32 := Scalar.muli c4_i32_65 arg11
  let v130 : Index := Scalar.indexCast v100
  let c0_89 : Index := 0#32
  let c0_90 : Index := 0#32
  ![0, v130.toNat, 0, 0]
def k0_mult12 (i : grid0.Coords) (k0_t2 : Fin (k0_t2_loop i).trips) : BitVec 32 :=
  let c4_i32_65 : BitVec 32 := 4#32
  let c0_i32_39 : BitVec 32 := 0#32
  let arg1 : BitVec 32 := BitVec.ofNat 32 (i 1).val
  let c0_i32_32 : BitVec 32 := 0#32
  let v41 : BitVec 1 := Scalar.cmpi .sgt arg1 c0_i32_32
  let v42 : BitVec 32 := Scalar.extui v41
  let c0_i32_33 : BitVec 32 := 0#32
  let v43 : BitVec 1 := Scalar.cmpi .slt arg1 c0_i32_33
  let v44 : BitVec 32 := Scalar.extui v43
  let v45 : BitVec 32 := Scalar.subi v42 v44
  let c2_i32_31 : BitVec 32 := 2#32
  let c0_i32_34 : BitVec 32 := 0#32
  let v46 : BitVec 1 := Scalar.cmpi .sgt c2_i32_31 c0_i32_34
  let v47 : BitVec 32 := Scalar.extui v46
  let c0_i32_35 : BitVec 32 := 0#32
  let v48 : BitVec 1 := Scalar.cmpi .slt c2_i32_31 c0_i32_35
  let v49 : BitVec 32 := Scalar.extui v48
  let v50 : BitVec 32 := Scalar.subi v47 v49
  let v51 : BitVec 1 := Scalar.cmpi .ne v45 v50
  let v52 : BitVec 32 := Scalar.remsi arg1 c2_i32_31
  let c0_i32_36 : BitVec 32 := 0#32
  let v53 : BitVec 1 := Scalar.cmpi .ne v52 c0_i32_36
  let v54 : BitVec 1 := Scalar.andi v51 v53
  let v40 : BitVec 32 := Scalar.divsi arg1 c2_i32_31
  let c1_i32_37 : BitVec 32 := 1#32
  let v55 : BitVec 32 := Scalar.subi v40 c1_i32_37
  let v56 : BitVec 32 := Scalar.select v54 v55 v40
  let v57 : BitVec 32 := Scalar.subi v56 c0_i32_39
  let c1_i32_40 : BitVec 32 := 1#32
  let v59 : BitVec 32 := Scalar.divsi v57 c1_i32_40
  let v60 : BitVec 32 := Scalar.muli v59 c1_i32_40
  let v61 : BitVec 32 := Scalar.addi c0_i32_39 v60
  let c1_i32_42 : BitVec 32 := 1#32
  let arg11 : BitVec 32 := Scf.iv v61 c1_i32_42 k0_t2
  let v100 : BitVec 32 := Scalar.muli c4_i32_65 arg11
  let c1_i32_100 : BitVec 32 := 1#32
  let v141 : BitVec 32 := Scalar.addi v100 c1_i32_100
  let c512_i32_101 : BitVec 32 := 512#32
  let v142 : BitVec 32 := Scalar.muli v141 c512_i32_101
  v142
def k0_off13 (i : grid0.Coords) (k0_t2 : Fin (k0_t2_loop i).trips) (c1_i32_100 : BitVec 32) : Fin 3 → Nat :=
  let c1_102 : Index := 1#32
  let c4_i32_65 : BitVec 32 := 4#32
  let c0_i32_39 : BitVec 32 := 0#32
  let arg1 : BitVec 32 := BitVec.ofNat 32 (i 1).val
  let c0_i32_32 : BitVec 32 := 0#32
  let v41 : BitVec 1 := Scalar.cmpi .sgt arg1 c0_i32_32
  let v42 : BitVec 32 := Scalar.extui v41
  let c0_i32_33 : BitVec 32 := 0#32
  let v43 : BitVec 1 := Scalar.cmpi .slt arg1 c0_i32_33
  let v44 : BitVec 32 := Scalar.extui v43
  let v45 : BitVec 32 := Scalar.subi v42 v44
  let c2_i32_31 : BitVec 32 := 2#32
  let c0_i32_34 : BitVec 32 := 0#32
  let v46 : BitVec 1 := Scalar.cmpi .sgt c2_i32_31 c0_i32_34
  let v47 : BitVec 32 := Scalar.extui v46
  let c0_i32_35 : BitVec 32 := 0#32
  let v48 : BitVec 1 := Scalar.cmpi .slt c2_i32_31 c0_i32_35
  let v49 : BitVec 32 := Scalar.extui v48
  let v50 : BitVec 32 := Scalar.subi v47 v49
  let v51 : BitVec 1 := Scalar.cmpi .ne v45 v50
  let v52 : BitVec 32 := Scalar.remsi arg1 c2_i32_31
  let c0_i32_36 : BitVec 32 := 0#32
  let v53 : BitVec 1 := Scalar.cmpi .ne v52 c0_i32_36
  let v54 : BitVec 1 := Scalar.andi v51 v53
  let v40 : BitVec 32 := Scalar.divsi arg1 c2_i32_31
  let c1_i32_37 : BitVec 32 := 1#32
  let v55 : BitVec 32 := Scalar.subi v40 c1_i32_37
  let v56 : BitVec 32 := Scalar.select v54 v55 v40
  let v57 : BitVec 32 := Scalar.subi v56 c0_i32_39
  let c1_i32_40 : BitVec 32 := 1#32
  let v59 : BitVec 32 := Scalar.divsi v57 c1_i32_40
  let v60 : BitVec 32 := Scalar.muli v59 c1_i32_40
  let v61 : BitVec 32 := Scalar.addi c0_i32_39 v60
  let c1_i32_42 : BitVec 32 := 1#32
  let arg11 : BitVec 32 := Scf.iv v61 c1_i32_42 k0_t2
  let v100 : BitVec 32 := Scalar.muli c4_i32_65 arg11
  let v141 : BitVec 32 := Scalar.addi v100 c1_i32_100
  let c512_i32_101 : BitVec 32 := 512#32
  let v142 : BitVec 32 := Scalar.muli v141 c512_i32_101
  let v143 : BitVec 32 := v142
  let v144 : Index := Scalar.indexCast v143
  let c0_103 : Index := 0#32
  ![1, v144.toNat, 0]
def k0_off14 (i : grid0.Coords) (k0_t2 : Fin (k0_t2_loop i).trips) : Fin 4 → Nat :=
  let c1_123 : Index := 1#32
  let c4_i32_65 : BitVec 32 := 4#32
  let c0_i32_39 : BitVec 32 := 0#32
  let arg1 : BitVec 32 := BitVec.ofNat 32 (i 1).val
  let c0_i32_32 : BitVec 32 := 0#32
  let v41 : BitVec 1 := Scalar.cmpi .sgt arg1 c0_i32_32
  let v42 : BitVec 32 := Scalar.extui v41
  let c0_i32_33 : BitVec 32 := 0#32
  let v43 : BitVec 1 := Scalar.cmpi .slt arg1 c0_i32_33
  let v44 : BitVec 32 := Scalar.extui v43
  let v45 : BitVec 32 := Scalar.subi v42 v44
  let c2_i32_31 : BitVec 32 := 2#32
  let c0_i32_34 : BitVec 32 := 0#32
  let v46 : BitVec 1 := Scalar.cmpi .sgt c2_i32_31 c0_i32_34
  let v47 : BitVec 32 := Scalar.extui v46
  let c0_i32_35 : BitVec 32 := 0#32
  let v48 : BitVec 1 := Scalar.cmpi .slt c2_i32_31 c0_i32_35
  let v49 : BitVec 32 := Scalar.extui v48
  let v50 : BitVec 32 := Scalar.subi v47 v49
  let v51 : BitVec 1 := Scalar.cmpi .ne v45 v50
  let v52 : BitVec 32 := Scalar.remsi arg1 c2_i32_31
  let c0_i32_36 : BitVec 32 := 0#32
  let v53 : BitVec 1 := Scalar.cmpi .ne v52 c0_i32_36
  let v54 : BitVec 1 := Scalar.andi v51 v53
  let v40 : BitVec 32 := Scalar.divsi arg1 c2_i32_31
  let c1_i32_37 : BitVec 32 := 1#32
  let v55 : BitVec 32 := Scalar.subi v40 c1_i32_37
  let v56 : BitVec 32 := Scalar.select v54 v55 v40
  let v57 : BitVec 32 := Scalar.subi v56 c0_i32_39
  let c1_i32_40 : BitVec 32 := 1#32
  let v59 : BitVec 32 := Scalar.divsi v57 c1_i32_40
  let v60 : BitVec 32 := Scalar.muli v59 c1_i32_40
  let v61 : BitVec 32 := Scalar.addi c0_i32_39 v60
  let c1_i32_42 : BitVec 32 := 1#32
  let arg11 : BitVec 32 := Scf.iv v61 c1_i32_42 k0_t2
  let v100 : BitVec 32 := Scalar.muli c4_i32_65 arg11
  let v170 : Index := Scalar.indexCast v100
  let c0_124 : Index := 0#32
  let c0_125 : Index := 0#32
  ![1, v170.toNat, 0, 0]
def k0_mult13 (i : grid0.Coords) (k0_t2 : Fin (k0_t2_loop i).trips) : BitVec 32 :=
  let c4_i32_65 : BitVec 32 := 4#32
  let c0_i32_39 : BitVec 32 := 0#32
  let arg1 : BitVec 32 := BitVec.ofNat 32 (i 1).val
  let c0_i32_32 : BitVec 32 := 0#32
  let v41 : BitVec 1 := Scalar.cmpi .sgt arg1 c0_i32_32
  let v42 : BitVec 32 := Scalar.extui v41
  let c0_i32_33 : BitVec 32 := 0#32
  let v43 : BitVec 1 := Scalar.cmpi .slt arg1 c0_i32_33
  let v44 : BitVec 32 := Scalar.extui v43
  let v45 : BitVec 32 := Scalar.subi v42 v44
  let c2_i32_31 : BitVec 32 := 2#32
  let c0_i32_34 : BitVec 32 := 0#32
  let v46 : BitVec 1 := Scalar.cmpi .sgt c2_i32_31 c0_i32_34
  let v47 : BitVec 32 := Scalar.extui v46
  let c0_i32_35 : BitVec 32 := 0#32
  let v48 : BitVec 1 := Scalar.cmpi .slt c2_i32_31 c0_i32_35
  let v49 : BitVec 32 := Scalar.extui v48
  let v50 : BitVec 32 := Scalar.subi v47 v49
  let v51 : BitVec 1 := Scalar.cmpi .ne v45 v50
  let v52 : BitVec 32 := Scalar.remsi arg1 c2_i32_31
  let c0_i32_36 : BitVec 32 := 0#32
  let v53 : BitVec 1 := Scalar.cmpi .ne v52 c0_i32_36
  let v54 : BitVec 1 := Scalar.andi v51 v53
  let v40 : BitVec 32 := Scalar.divsi arg1 c2_i32_31
  let c1_i32_37 : BitVec 32 := 1#32
  let v55 : BitVec 32 := Scalar.subi v40 c1_i32_37
  let v56 : BitVec 32 := Scalar.select v54 v55 v40
  let v57 : BitVec 32 := Scalar.subi v56 c0_i32_39
  let c1_i32_40 : BitVec 32 := 1#32
  let v59 : BitVec 32 := Scalar.divsi v57 c1_i32_40
  let v60 : BitVec 32 := Scalar.muli v59 c1_i32_40
  let v61 : BitVec 32 := Scalar.addi c0_i32_39 v60
  let c1_i32_42 : BitVec 32 := 1#32
  let arg11 : BitVec 32 := Scf.iv v61 c1_i32_42 k0_t2
  let v100 : BitVec 32 := Scalar.muli c4_i32_65 arg11
  let c2_i32_135 : BitVec 32 := 2#32
  let v181 : BitVec 32 := Scalar.addi v100 c2_i32_135
  let c512_i32_136 : BitVec 32 := 512#32
  let v182 : BitVec 32 := Scalar.muli v181 c512_i32_136
  v182
def k0_off15 (i : grid0.Coords) (k0_t2 : Fin (k0_t2_loop i).trips) (c1_i32_146 : BitVec 32) : Fin 4 → Nat :=
  let c0_159 : Index := 0#32
  let c4_i32_65 : BitVec 32 := 4#32
  let c0_i32_39 : BitVec 32 := 0#32
  let arg1 : BitVec 32 := BitVec.ofNat 32 (i 1).val
  let c0_i32_32 : BitVec 32 := 0#32
  let v41 : BitVec 1 := Scalar.cmpi .sgt arg1 c0_i32_32
  let v42 : BitVec 32 := Scalar.extui v41
  let c0_i32_33 : BitVec 32 := 0#32
  let v43 : BitVec 1 := Scalar.cmpi .slt arg1 c0_i32_33
  let v44 : BitVec 32 := Scalar.extui v43
  let v45 : BitVec 32 := Scalar.subi v42 v44
  let c2_i32_31 : BitVec 32 := 2#32
  let c0_i32_34 : BitVec 32 := 0#32
  let v46 : BitVec 1 := Scalar.cmpi .sgt c2_i32_31 c0_i32_34
  let v47 : BitVec 32 := Scalar.extui v46
  let c0_i32_35 : BitVec 32 := 0#32
  let v48 : BitVec 1 := Scalar.cmpi .slt c2_i32_31 c0_i32_35
  let v49 : BitVec 32 := Scalar.extui v48
  let v50 : BitVec 32 := Scalar.subi v47 v49
  let v51 : BitVec 1 := Scalar.cmpi .ne v45 v50
  let v52 : BitVec 32 := Scalar.remsi arg1 c2_i32_31
  let c0_i32_36 : BitVec 32 := 0#32
  let v53 : BitVec 1 := Scalar.cmpi .ne v52 c0_i32_36
  let v54 : BitVec 1 := Scalar.andi v51 v53
  let v40 : BitVec 32 := Scalar.divsi arg1 c2_i32_31
  let c1_i32_37 : BitVec 32 := 1#32
  let v55 : BitVec 32 := Scalar.subi v40 c1_i32_37
  let v56 : BitVec 32 := Scalar.select v54 v55 v40
  let v57 : BitVec 32 := Scalar.subi v56 c0_i32_39
  let c1_i32_40 : BitVec 32 := 1#32
  let v59 : BitVec 32 := Scalar.divsi v57 c1_i32_40
  let v60 : BitVec 32 := Scalar.muli v59 c1_i32_40
  let v61 : BitVec 32 := Scalar.addi c0_i32_39 v60
  let c1_i32_42 : BitVec 32 := 1#32
  let arg11 : BitVec 32 := Scf.iv v61 c1_i32_42 k0_t2
  let v100 : BitVec 32 := Scalar.muli c4_i32_65 arg11
  let v193 : BitVec 32 := Scalar.addi v100 c1_i32_146
  let v211 : Index := Scalar.indexCast v193
  let c0_160 : Index := 0#32
  let c0_161 : Index := 0#32
  ![0, v211.toNat, 0, 0]
def k0_mult14 (i : grid0.Coords) (k0_t2 : Fin (k0_t2_loop i).trips) : BitVec 32 :=
  let c4_i32_65 : BitVec 32 := 4#32
  let c0_i32_39 : BitVec 32 := 0#32
  let arg1 : BitVec 32 := BitVec.ofNat 32 (i 1).val
  let c0_i32_32 : BitVec 32 := 0#32
  let v41 : BitVec 1 := Scalar.cmpi .sgt arg1 c0_i32_32
  let v42 : BitVec 32 := Scalar.extui v41
  let c0_i32_33 : BitVec 32 := 0#32
  let v43 : BitVec 1 := Scalar.cmpi .slt arg1 c0_i32_33
  let v44 : BitVec 32 := Scalar.extui v43
  let v45 : BitVec 32 := Scalar.subi v42 v44
  let c2_i32_31 : BitVec 32 := 2#32
  let c0_i32_34 : BitVec 32 := 0#32
  let v46 : BitVec 1 := Scalar.cmpi .sgt c2_i32_31 c0_i32_34
  let v47 : BitVec 32 := Scalar.extui v46
  let c0_i32_35 : BitVec 32 := 0#32
  let v48 : BitVec 1 := Scalar.cmpi .slt c2_i32_31 c0_i32_35
  let v49 : BitVec 32 := Scalar.extui v48
  let v50 : BitVec 32 := Scalar.subi v47 v49
  let v51 : BitVec 1 := Scalar.cmpi .ne v45 v50
  let v52 : BitVec 32 := Scalar.remsi arg1 c2_i32_31
  let c0_i32_36 : BitVec 32 := 0#32
  let v53 : BitVec 1 := Scalar.cmpi .ne v52 c0_i32_36
  let v54 : BitVec 1 := Scalar.andi v51 v53
  let v40 : BitVec 32 := Scalar.divsi arg1 c2_i32_31
  let c1_i32_37 : BitVec 32 := 1#32
  let v55 : BitVec 32 := Scalar.subi v40 c1_i32_37
  let v56 : BitVec 32 := Scalar.select v54 v55 v40
  let v57 : BitVec 32 := Scalar.subi v56 c0_i32_39
  let c1_i32_40 : BitVec 32 := 1#32
  let v59 : BitVec 32 := Scalar.divsi v57 c1_i32_40
  let v60 : BitVec 32 := Scalar.muli v59 c1_i32_40
  let v61 : BitVec 32 := Scalar.addi c0_i32_39 v60
  let c1_i32_42 : BitVec 32 := 1#32
  let arg11 : BitVec 32 := Scf.iv v61 c1_i32_42 k0_t2
  let v100 : BitVec 32 := Scalar.muli c4_i32_65 arg11
  let c2_i32_171 : BitVec 32 := 2#32
  let v222 : BitVec 32 := Scalar.addi v100 c2_i32_171
  let c512_i32_172 : BitVec 32 := 512#32
  let v223 : BitVec 32 := Scalar.muli v222 c512_i32_172
  v223
def k0_off16 (i : grid0.Coords) (k0_t2 : Fin (k0_t2_loop i).trips) (c1_i32_182 : BitVec 32) : Fin 4 → Nat :=
  let c1_195 : Index := 1#32
  let c4_i32_65 : BitVec 32 := 4#32
  let c0_i32_39 : BitVec 32 := 0#32
  let arg1 : BitVec 32 := BitVec.ofNat 32 (i 1).val
  let c0_i32_32 : BitVec 32 := 0#32
  let v41 : BitVec 1 := Scalar.cmpi .sgt arg1 c0_i32_32
  let v42 : BitVec 32 := Scalar.extui v41
  let c0_i32_33 : BitVec 32 := 0#32
  let v43 : BitVec 1 := Scalar.cmpi .slt arg1 c0_i32_33
  let v44 : BitVec 32 := Scalar.extui v43
  let v45 : BitVec 32 := Scalar.subi v42 v44
  let c2_i32_31 : BitVec 32 := 2#32
  let c0_i32_34 : BitVec 32 := 0#32
  let v46 : BitVec 1 := Scalar.cmpi .sgt c2_i32_31 c0_i32_34
  let v47 : BitVec 32 := Scalar.extui v46
  let c0_i32_35 : BitVec 32 := 0#32
  let v48 : BitVec 1 := Scalar.cmpi .slt c2_i32_31 c0_i32_35
  let v49 : BitVec 32 := Scalar.extui v48
  let v50 : BitVec 32 := Scalar.subi v47 v49
  let v51 : BitVec 1 := Scalar.cmpi .ne v45 v50
  let v52 : BitVec 32 := Scalar.remsi arg1 c2_i32_31
  let c0_i32_36 : BitVec 32 := 0#32
  let v53 : BitVec 1 := Scalar.cmpi .ne v52 c0_i32_36
  let v54 : BitVec 1 := Scalar.andi v51 v53
  let v40 : BitVec 32 := Scalar.divsi arg1 c2_i32_31
  let c1_i32_37 : BitVec 32 := 1#32
  let v55 : BitVec 32 := Scalar.subi v40 c1_i32_37
  let v56 : BitVec 32 := Scalar.select v54 v55 v40
  let v57 : BitVec 32 := Scalar.subi v56 c0_i32_39
  let c1_i32_40 : BitVec 32 := 1#32
  let v59 : BitVec 32 := Scalar.divsi v57 c1_i32_40
  let v60 : BitVec 32 := Scalar.muli v59 c1_i32_40
  let v61 : BitVec 32 := Scalar.addi c0_i32_39 v60
  let c1_i32_42 : BitVec 32 := 1#32
  let arg11 : BitVec 32 := Scf.iv v61 c1_i32_42 k0_t2
  let v100 : BitVec 32 := Scalar.muli c4_i32_65 arg11
  let v234 : BitVec 32 := Scalar.addi v100 c1_i32_182
  let v252 : Index := Scalar.indexCast v234
  let c0_196 : Index := 0#32
  let c0_197 : Index := 0#32
  ![1, v252.toNat, 0, 0]
def k0_mult15 (i : grid0.Coords) (k0_t2 : Fin (k0_t2_loop i).trips) : BitVec 32 :=
  let c4_i32_207 : BitVec 32 := 4#32
  let c0_i32_39 : BitVec 32 := 0#32
  let arg1 : BitVec 32 := BitVec.ofNat 32 (i 1).val
  let c0_i32_32 : BitVec 32 := 0#32
  let v41 : BitVec 1 := Scalar.cmpi .sgt arg1 c0_i32_32
  let v42 : BitVec 32 := Scalar.extui v41
  let c0_i32_33 : BitVec 32 := 0#32
  let v43 : BitVec 1 := Scalar.cmpi .slt arg1 c0_i32_33
  let v44 : BitVec 32 := Scalar.extui v43
  let v45 : BitVec 32 := Scalar.subi v42 v44
  let c2_i32_31 : BitVec 32 := 2#32
  let c0_i32_34 : BitVec 32 := 0#32
  let v46 : BitVec 1 := Scalar.cmpi .sgt c2_i32_31 c0_i32_34
  let v47 : BitVec 32 := Scalar.extui v46
  let c0_i32_35 : BitVec 32 := 0#32
  let v48 : BitVec 1 := Scalar.cmpi .slt c2_i32_31 c0_i32_35
  let v49 : BitVec 32 := Scalar.extui v48
  let v50 : BitVec 32 := Scalar.subi v47 v49
  let v51 : BitVec 1 := Scalar.cmpi .ne v45 v50
  let v52 : BitVec 32 := Scalar.remsi arg1 c2_i32_31
  let c0_i32_36 : BitVec 32 := 0#32
  let v53 : BitVec 1 := Scalar.cmpi .ne v52 c0_i32_36
  let v54 : BitVec 1 := Scalar.andi v51 v53
  let v40 : BitVec 32 := Scalar.divsi arg1 c2_i32_31
  let c1_i32_37 : BitVec 32 := 1#32
  let v55 : BitVec 32 := Scalar.subi v40 c1_i32_37
  let v56 : BitVec 32 := Scalar.select v54 v55 v40
  let v57 : BitVec 32 := Scalar.subi v56 c0_i32_39
  let c1_i32_40 : BitVec 32 := 1#32
  let v59 : BitVec 32 := Scalar.divsi v57 c1_i32_40
  let v60 : BitVec 32 := Scalar.muli v59 c1_i32_40
  let v61 : BitVec 32 := Scalar.addi c0_i32_39 v60
  let c1_i32_42 : BitVec 32 := 1#32
  let arg11 : BitVec 32 := Scf.iv v61 c1_i32_42 k0_t2
  let v263 : BitVec 32 := Scalar.muli c4_i32_207 arg11
  let c2_i32_208 : BitVec 32 := 2#32
  let v264 : BitVec 32 := Scalar.addi v263 c2_i32_208
  let c1_i32_209 : BitVec 32 := 1#32
  let v265 : BitVec 32 := Scalar.addi v264 c1_i32_209
  let c512_i32_210 : BitVec 32 := 512#32
  let v266 : BitVec 32 := Scalar.muli v265 c512_i32_210
  v266
def k0_off17 (i : grid0.Coords) (k0_t2 : Fin (k0_t2_loop i).trips) (c1_i32_209 : BitVec 32) : Fin 3 → Nat :=
  let c0_211 : Index := 0#32
  let c4_i32_207 : BitVec 32 := 4#32
  let c0_i32_39 : BitVec 32 := 0#32
  let arg1 : BitVec 32 := BitVec.ofNat 32 (i 1).val
  let c0_i32_32 : BitVec 32 := 0#32
  let v41 : BitVec 1 := Scalar.cmpi .sgt arg1 c0_i32_32
  let v42 : BitVec 32 := Scalar.extui v41
  let c0_i32_33 : BitVec 32 := 0#32
  let v43 : BitVec 1 := Scalar.cmpi .slt arg1 c0_i32_33
  let v44 : BitVec 32 := Scalar.extui v43
  let v45 : BitVec 32 := Scalar.subi v42 v44
  let c2_i32_31 : BitVec 32 := 2#32
  let c0_i32_34 : BitVec 32 := 0#32
  let v46 : BitVec 1 := Scalar.cmpi .sgt c2_i32_31 c0_i32_34
  let v47 : BitVec 32 := Scalar.extui v46
  let c0_i32_35 : BitVec 32 := 0#32
  let v48 : BitVec 1 := Scalar.cmpi .slt c2_i32_31 c0_i32_35
  let v49 : BitVec 32 := Scalar.extui v48
  let v50 : BitVec 32 := Scalar.subi v47 v49
  let v51 : BitVec 1 := Scalar.cmpi .ne v45 v50
  let v52 : BitVec 32 := Scalar.remsi arg1 c2_i32_31
  let c0_i32_36 : BitVec 32 := 0#32
  let v53 : BitVec 1 := Scalar.cmpi .ne v52 c0_i32_36
  let v54 : BitVec 1 := Scalar.andi v51 v53
  let v40 : BitVec 32 := Scalar.divsi arg1 c2_i32_31
  let c1_i32_37 : BitVec 32 := 1#32
  let v55 : BitVec 32 := Scalar.subi v40 c1_i32_37
  let v56 : BitVec 32 := Scalar.select v54 v55 v40
  let v57 : BitVec 32 := Scalar.subi v56 c0_i32_39
  let c1_i32_40 : BitVec 32 := 1#32
  let v59 : BitVec 32 := Scalar.divsi v57 c1_i32_40
  let v60 : BitVec 32 := Scalar.muli v59 c1_i32_40
  let v61 : BitVec 32 := Scalar.addi c0_i32_39 v60
  let c1_i32_42 : BitVec 32 := 1#32
  let arg11 : BitVec 32 := Scf.iv v61 c1_i32_42 k0_t2
  let v263 : BitVec 32 := Scalar.muli c4_i32_207 arg11
  let c2_i32_208 : BitVec 32 := 2#32
  let v264 : BitVec 32 := Scalar.addi v263 c2_i32_208
  let v265 : BitVec 32 := Scalar.addi v264 c1_i32_209
  let c512_i32_210 : BitVec 32 := 512#32
  let v266 : BitVec 32 := Scalar.muli v265 c512_i32_210
  let v267 : BitVec 32 := v266
  let v268 : Index := Scalar.indexCast v267
  let c0_212 : Index := 0#32
  ![0, v268.toNat, 0]
def k0_mult16 (i : grid0.Coords) (k0_t2 : Fin (k0_t2_loop i).trips) : BitVec 32 :=
  let c4_i32_207 : BitVec 32 := 4#32
  let c0_i32_39 : BitVec 32 := 0#32
  let arg1 : BitVec 32 := BitVec.ofNat 32 (i 1).val
  let c0_i32_32 : BitVec 32 := 0#32
  let v41 : BitVec 1 := Scalar.cmpi .sgt arg1 c0_i32_32
  let v42 : BitVec 32 := Scalar.extui v41
  let c0_i32_33 : BitVec 32 := 0#32
  let v43 : BitVec 1 := Scalar.cmpi .slt arg1 c0_i32_33
  let v44 : BitVec 32 := Scalar.extui v43
  let v45 : BitVec 32 := Scalar.subi v42 v44
  let c2_i32_31 : BitVec 32 := 2#32
  let c0_i32_34 : BitVec 32 := 0#32
  let v46 : BitVec 1 := Scalar.cmpi .sgt c2_i32_31 c0_i32_34
  let v47 : BitVec 32 := Scalar.extui v46
  let c0_i32_35 : BitVec 32 := 0#32
  let v48 : BitVec 1 := Scalar.cmpi .slt c2_i32_31 c0_i32_35
  let v49 : BitVec 32 := Scalar.extui v48
  let v50 : BitVec 32 := Scalar.subi v47 v49
  let v51 : BitVec 1 := Scalar.cmpi .ne v45 v50
  let v52 : BitVec 32 := Scalar.remsi arg1 c2_i32_31
  let c0_i32_36 : BitVec 32 := 0#32
  let v53 : BitVec 1 := Scalar.cmpi .ne v52 c0_i32_36
  let v54 : BitVec 1 := Scalar.andi v51 v53
  let v40 : BitVec 32 := Scalar.divsi arg1 c2_i32_31
  let c1_i32_37 : BitVec 32 := 1#32
  let v55 : BitVec 32 := Scalar.subi v40 c1_i32_37
  let v56 : BitVec 32 := Scalar.select v54 v55 v40
  let v57 : BitVec 32 := Scalar.subi v56 c0_i32_39
  let c1_i32_40 : BitVec 32 := 1#32
  let v59 : BitVec 32 := Scalar.divsi v57 c1_i32_40
  let v60 : BitVec 32 := Scalar.muli v59 c1_i32_40
  let v61 : BitVec 32 := Scalar.addi c0_i32_39 v60
  let c1_i32_42 : BitVec 32 := 1#32
  let arg11 : BitVec 32 := Scf.iv v61 c1_i32_42 k0_t2
  let v263 : BitVec 32 := Scalar.muli c4_i32_207 arg11
  let c2_i32_208 : BitVec 32 := 2#32
  let v264 : BitVec 32 := Scalar.addi v263 c2_i32_208
  let c1_i32_244 : BitVec 32 := 1#32
  let v305 : BitVec 32 := Scalar.addi v264 c1_i32_244
  let c512_i32_245 : BitVec 32 := 512#32
  let v306 : BitVec 32 := Scalar.muli v305 c512_i32_245
  v306
def k0_off18 (i : grid0.Coords) (k0_t2 : Fin (k0_t2_loop i).trips) (c1_i32_244 : BitVec 32) : Fin 3 → Nat :=
  let c1_246 : Index := 1#32
  let c4_i32_207 : BitVec 32 := 4#32
  let c0_i32_39 : BitVec 32 := 0#32
  let arg1 : BitVec 32 := BitVec.ofNat 32 (i 1).val
  let c0_i32_32 : BitVec 32 := 0#32
  let v41 : BitVec 1 := Scalar.cmpi .sgt arg1 c0_i32_32
  let v42 : BitVec 32 := Scalar.extui v41
  let c0_i32_33 : BitVec 32 := 0#32
  let v43 : BitVec 1 := Scalar.cmpi .slt arg1 c0_i32_33
  let v44 : BitVec 32 := Scalar.extui v43
  let v45 : BitVec 32 := Scalar.subi v42 v44
  let c2_i32_31 : BitVec 32 := 2#32
  let c0_i32_34 : BitVec 32 := 0#32
  let v46 : BitVec 1 := Scalar.cmpi .sgt c2_i32_31 c0_i32_34
  let v47 : BitVec 32 := Scalar.extui v46
  let c0_i32_35 : BitVec 32 := 0#32
  let v48 : BitVec 1 := Scalar.cmpi .slt c2_i32_31 c0_i32_35
  let v49 : BitVec 32 := Scalar.extui v48
  let v50 : BitVec 32 := Scalar.subi v47 v49
  let v51 : BitVec 1 := Scalar.cmpi .ne v45 v50
  let v52 : BitVec 32 := Scalar.remsi arg1 c2_i32_31
  let c0_i32_36 : BitVec 32 := 0#32
  let v53 : BitVec 1 := Scalar.cmpi .ne v52 c0_i32_36
  let v54 : BitVec 1 := Scalar.andi v51 v53
  let v40 : BitVec 32 := Scalar.divsi arg1 c2_i32_31
  let c1_i32_37 : BitVec 32 := 1#32
  let v55 : BitVec 32 := Scalar.subi v40 c1_i32_37
  let v56 : BitVec 32 := Scalar.select v54 v55 v40
  let v57 : BitVec 32 := Scalar.subi v56 c0_i32_39
  let c1_i32_40 : BitVec 32 := 1#32
  let v59 : BitVec 32 := Scalar.divsi v57 c1_i32_40
  let v60 : BitVec 32 := Scalar.muli v59 c1_i32_40
  let v61 : BitVec 32 := Scalar.addi c0_i32_39 v60
  let c1_i32_42 : BitVec 32 := 1#32
  let arg11 : BitVec 32 := Scf.iv v61 c1_i32_42 k0_t2
  let v263 : BitVec 32 := Scalar.muli c4_i32_207 arg11
  let c2_i32_208 : BitVec 32 := 2#32
  let v264 : BitVec 32 := Scalar.addi v263 c2_i32_208
  let v305 : BitVec 32 := Scalar.addi v264 c1_i32_244
  let c512_i32_245 : BitVec 32 := 512#32
  let v306 : BitVec 32 := Scalar.muli v305 c512_i32_245
  let v307 : BitVec 32 := v306
  let v308 : Index := Scalar.indexCast v307
  let c0_247 : Index := 0#32
  ![1, v308.toNat, 0]
def k0_mult17 (i : grid0.Coords) (k0_t2 : Fin (k0_t2_loop i).trips) : BitVec 32 :=
  let c4_i32_207 : BitVec 32 := 4#32
  let c0_i32_39 : BitVec 32 := 0#32
  let arg1 : BitVec 32 := BitVec.ofNat 32 (i 1).val
  let c0_i32_32 : BitVec 32 := 0#32
  let v41 : BitVec 1 := Scalar.cmpi .sgt arg1 c0_i32_32
  let v42 : BitVec 32 := Scalar.extui v41
  let c0_i32_33 : BitVec 32 := 0#32
  let v43 : BitVec 1 := Scalar.cmpi .slt arg1 c0_i32_33
  let v44 : BitVec 32 := Scalar.extui v43
  let v45 : BitVec 32 := Scalar.subi v42 v44
  let c2_i32_31 : BitVec 32 := 2#32
  let c0_i32_34 : BitVec 32 := 0#32
  let v46 : BitVec 1 := Scalar.cmpi .sgt c2_i32_31 c0_i32_34
  let v47 : BitVec 32 := Scalar.extui v46
  let c0_i32_35 : BitVec 32 := 0#32
  let v48 : BitVec 1 := Scalar.cmpi .slt c2_i32_31 c0_i32_35
  let v49 : BitVec 32 := Scalar.extui v48
  let v50 : BitVec 32 := Scalar.subi v47 v49
  let v51 : BitVec 1 := Scalar.cmpi .ne v45 v50
  let v52 : BitVec 32 := Scalar.remsi arg1 c2_i32_31
  let c0_i32_36 : BitVec 32 := 0#32
  let v53 : BitVec 1 := Scalar.cmpi .ne v52 c0_i32_36
  let v54 : BitVec 1 := Scalar.andi v51 v53
  let v40 : BitVec 32 := Scalar.divsi arg1 c2_i32_31
  let c1_i32_37 : BitVec 32 := 1#32
  let v55 : BitVec 32 := Scalar.subi v40 c1_i32_37
  let v56 : BitVec 32 := Scalar.select v54 v55 v40
  let v57 : BitVec 32 := Scalar.subi v56 c0_i32_39
  let c1_i32_40 : BitVec 32 := 1#32
  let v59 : BitVec 32 := Scalar.divsi v57 c1_i32_40
  let v60 : BitVec 32 := Scalar.muli v59 c1_i32_40
  let v61 : BitVec 32 := Scalar.addi c0_i32_39 v60
  let c1_i32_42 : BitVec 32 := 1#32
  let arg11 : BitVec 32 := Scf.iv v61 c1_i32_42 k0_t2
  let v263 : BitVec 32 := Scalar.muli c4_i32_207 arg11
  let c2_i32_208 : BitVec 32 := 2#32
  let v264 : BitVec 32 := Scalar.addi v263 c2_i32_208
  let c2_i32_279 : BitVec 32 := 2#32
  let v345 : BitVec 32 := Scalar.addi v264 c2_i32_279
  let c512_i32_280 : BitVec 32 := 512#32
  let v346 : BitVec 32 := Scalar.muli v345 c512_i32_280
  v346
def k0_off19 (i : grid0.Coords) (k0_t2 : Fin (k0_t2_loop i).trips) : Fin 4 → Nat :=
  let c0_303 : Index := 0#32
  let c4_i32_207 : BitVec 32 := 4#32
  let c0_i32_39 : BitVec 32 := 0#32
  let arg1 : BitVec 32 := BitVec.ofNat 32 (i 1).val
  let c0_i32_32 : BitVec 32 := 0#32
  let v41 : BitVec 1 := Scalar.cmpi .sgt arg1 c0_i32_32
  let v42 : BitVec 32 := Scalar.extui v41
  let c0_i32_33 : BitVec 32 := 0#32
  let v43 : BitVec 1 := Scalar.cmpi .slt arg1 c0_i32_33
  let v44 : BitVec 32 := Scalar.extui v43
  let v45 : BitVec 32 := Scalar.subi v42 v44
  let c2_i32_31 : BitVec 32 := 2#32
  let c0_i32_34 : BitVec 32 := 0#32
  let v46 : BitVec 1 := Scalar.cmpi .sgt c2_i32_31 c0_i32_34
  let v47 : BitVec 32 := Scalar.extui v46
  let c0_i32_35 : BitVec 32 := 0#32
  let v48 : BitVec 1 := Scalar.cmpi .slt c2_i32_31 c0_i32_35
  let v49 : BitVec 32 := Scalar.extui v48
  let v50 : BitVec 32 := Scalar.subi v47 v49
  let v51 : BitVec 1 := Scalar.cmpi .ne v45 v50
  let v52 : BitVec 32 := Scalar.remsi arg1 c2_i32_31
  let c0_i32_36 : BitVec 32 := 0#32
  let v53 : BitVec 1 := Scalar.cmpi .ne v52 c0_i32_36
  let v54 : BitVec 1 := Scalar.andi v51 v53
  let v40 : BitVec 32 := Scalar.divsi arg1 c2_i32_31
  let c1_i32_37 : BitVec 32 := 1#32
  let v55 : BitVec 32 := Scalar.subi v40 c1_i32_37
  let v56 : BitVec 32 := Scalar.select v54 v55 v40
  let v57 : BitVec 32 := Scalar.subi v56 c0_i32_39
  let c1_i32_40 : BitVec 32 := 1#32
  let v59 : BitVec 32 := Scalar.divsi v57 c1_i32_40
  let v60 : BitVec 32 := Scalar.muli v59 c1_i32_40
  let v61 : BitVec 32 := Scalar.addi c0_i32_39 v60
  let c1_i32_42 : BitVec 32 := 1#32
  let arg11 : BitVec 32 := Scf.iv v61 c1_i32_42 k0_t2
  let v263 : BitVec 32 := Scalar.muli c4_i32_207 arg11
  let c2_i32_208 : BitVec 32 := 2#32
  let v264 : BitVec 32 := Scalar.addi v263 c2_i32_208
  let c1_i32_290 : BitVec 32 := 1#32
  let v357 : BitVec 32 := Scalar.addi v264 c1_i32_290
  let v375 : Index := Scalar.indexCast v357
  let c0_304 : Index := 0#32
  let c0_305 : Index := 0#32
  ![0, v375.toNat, 0, 0]
def k0_mult18 (i : grid0.Coords) (k0_t2 : Fin (k0_t2_loop i).trips) : BitVec 32 :=
  let c4_i32_207 : BitVec 32 := 4#32
  let c0_i32_39 : BitVec 32 := 0#32
  let arg1 : BitVec 32 := BitVec.ofNat 32 (i 1).val
  let c0_i32_32 : BitVec 32 := 0#32
  let v41 : BitVec 1 := Scalar.cmpi .sgt arg1 c0_i32_32
  let v42 : BitVec 32 := Scalar.extui v41
  let c0_i32_33 : BitVec 32 := 0#32
  let v43 : BitVec 1 := Scalar.cmpi .slt arg1 c0_i32_33
  let v44 : BitVec 32 := Scalar.extui v43
  let v45 : BitVec 32 := Scalar.subi v42 v44
  let c2_i32_31 : BitVec 32 := 2#32
  let c0_i32_34 : BitVec 32 := 0#32
  let v46 : BitVec 1 := Scalar.cmpi .sgt c2_i32_31 c0_i32_34
  let v47 : BitVec 32 := Scalar.extui v46
  let c0_i32_35 : BitVec 32 := 0#32
  let v48 : BitVec 1 := Scalar.cmpi .slt c2_i32_31 c0_i32_35
  let v49 : BitVec 32 := Scalar.extui v48
  let v50 : BitVec 32 := Scalar.subi v47 v49
  let v51 : BitVec 1 := Scalar.cmpi .ne v45 v50
  let v52 : BitVec 32 := Scalar.remsi arg1 c2_i32_31
  let c0_i32_36 : BitVec 32 := 0#32
  let v53 : BitVec 1 := Scalar.cmpi .ne v52 c0_i32_36
  let v54 : BitVec 1 := Scalar.andi v51 v53
  let v40 : BitVec 32 := Scalar.divsi arg1 c2_i32_31
  let c1_i32_37 : BitVec 32 := 1#32
  let v55 : BitVec 32 := Scalar.subi v40 c1_i32_37
  let v56 : BitVec 32 := Scalar.select v54 v55 v40
  let v57 : BitVec 32 := Scalar.subi v56 c0_i32_39
  let c1_i32_40 : BitVec 32 := 1#32
  let v59 : BitVec 32 := Scalar.divsi v57 c1_i32_40
  let v60 : BitVec 32 := Scalar.muli v59 c1_i32_40
  let v61 : BitVec 32 := Scalar.addi c0_i32_39 v60
  let c1_i32_42 : BitVec 32 := 1#32
  let arg11 : BitVec 32 := Scf.iv v61 c1_i32_42 k0_t2
  let v263 : BitVec 32 := Scalar.muli c4_i32_207 arg11
  let c2_i32_208 : BitVec 32 := 2#32
  let v264 : BitVec 32 := Scalar.addi v263 c2_i32_208
  let c2_i32_315 : BitVec 32 := 2#32
  let v386 : BitVec 32 := Scalar.addi v264 c2_i32_315
  let c512_i32_316 : BitVec 32 := 512#32
  let v387 : BitVec 32 := Scalar.muli v386 c512_i32_316
  v387
def k0_off20 (i : grid0.Coords) (k0_t2 : Fin (k0_t2_loop i).trips) : Fin 4 → Nat :=
  let c1_339 : Index := 1#32
  let c4_i32_207 : BitVec 32 := 4#32
  let c0_i32_39 : BitVec 32 := 0#32
  let arg1 : BitVec 32 := BitVec.ofNat 32 (i 1).val
  let c0_i32_32 : BitVec 32 := 0#32
  let v41 : BitVec 1 := Scalar.cmpi .sgt arg1 c0_i32_32
  let v42 : BitVec 32 := Scalar.extui v41
  let c0_i32_33 : BitVec 32 := 0#32
  let v43 : BitVec 1 := Scalar.cmpi .slt arg1 c0_i32_33
  let v44 : BitVec 32 := Scalar.extui v43
  let v45 : BitVec 32 := Scalar.subi v42 v44
  let c2_i32_31 : BitVec 32 := 2#32
  let c0_i32_34 : BitVec 32 := 0#32
  let v46 : BitVec 1 := Scalar.cmpi .sgt c2_i32_31 c0_i32_34
  let v47 : BitVec 32 := Scalar.extui v46
  let c0_i32_35 : BitVec 32 := 0#32
  let v48 : BitVec 1 := Scalar.cmpi .slt c2_i32_31 c0_i32_35
  let v49 : BitVec 32 := Scalar.extui v48
  let v50 : BitVec 32 := Scalar.subi v47 v49
  let v51 : BitVec 1 := Scalar.cmpi .ne v45 v50
  let v52 : BitVec 32 := Scalar.remsi arg1 c2_i32_31
  let c0_i32_36 : BitVec 32 := 0#32
  let v53 : BitVec 1 := Scalar.cmpi .ne v52 c0_i32_36
  let v54 : BitVec 1 := Scalar.andi v51 v53
  let v40 : BitVec 32 := Scalar.divsi arg1 c2_i32_31
  let c1_i32_37 : BitVec 32 := 1#32
  let v55 : BitVec 32 := Scalar.subi v40 c1_i32_37
  let v56 : BitVec 32 := Scalar.select v54 v55 v40
  let v57 : BitVec 32 := Scalar.subi v56 c0_i32_39
  let c1_i32_40 : BitVec 32 := 1#32
  let v59 : BitVec 32 := Scalar.divsi v57 c1_i32_40
  let v60 : BitVec 32 := Scalar.muli v59 c1_i32_40
  let v61 : BitVec 32 := Scalar.addi c0_i32_39 v60
  let c1_i32_42 : BitVec 32 := 1#32
  let arg11 : BitVec 32 := Scf.iv v61 c1_i32_42 k0_t2
  let v263 : BitVec 32 := Scalar.muli c4_i32_207 arg11
  let c2_i32_208 : BitVec 32 := 2#32
  let v264 : BitVec 32 := Scalar.addi v263 c2_i32_208
  let c1_i32_326 : BitVec 32 := 1#32
  let v398 : BitVec 32 := Scalar.addi v264 c1_i32_326
  let v416 : Index := Scalar.indexCast v398
  let c0_340 : Index := 0#32
  let c0_341 : Index := 0#32
  ![1, v416.toNat, 0, 0]
def k0_cond1 (i : grid0.Coords) : BitVec 1 :=
  let arg1 : BitVec 32 := BitVec.ofNat 32 (i 1).val
  let c2_i32 : BitVec 32 := 2#32
  let c0_i32 : BitVec 32 := 0#32
  let v9 : BitVec 1 := Scalar.cmpi .eq c2_i32 c0_i32
  let c1_i32 : BitVec 32 := 1#32
  let v10 : BitVec 32 := Scalar.select v9 c1_i32 c2_i32
  let v11 : BitVec 32 := Scalar.remsi arg1 v10
  let c0_i32_9 : BitVec 32 := 0#32
  let v13 : BitVec 1 := Scalar.cmpi .slt v11 c0_i32_9
  let c0_i32_10 : BitVec 32 := 0#32
  let v14 : BitVec 1 := Scalar.cmpi .slt v10 c0_i32_10
  let v15 : BitVec 1 := Scalar.xori v13 v14
  let c0_i32_8 : BitVec 32 := 0#32
  let v12 : BitVec 1 := Scalar.cmpi .ne v11 c0_i32_8
  let v16 : BitVec 1 := Scalar.andi v15 v12
  let v17 : BitVec 32 := Scalar.addi v11 v10
  let v18 : BitVec 32 := Scalar.select v16 v17 v11
  let c1_i32_11 : BitVec 32 := 1#32
  let v19 : BitVec 1 := Scalar.cmpi .eq v18 c1_i32_11
  let v_true : BitVec 1 := 1#1
  let v62 : BitVec 1 := Scalar.xori v19 v_true
  let true_43 : BitVec 1 := 1#1
  let v63 : BitVec 1 := Scalar.xori v62 true_43
  let v64 : BitVec 32 := Scalar.extui v63
  let c0_i32_44 : BitVec 32 := 0#32
  let v65 : BitVec 1 := Scalar.cmpi .ne v64 c0_i32_44
  v65

def k0_mult19 (i : grid0.Coords) : BitVec 32 :=
  let c2_i32_65 : BitVec 32 := 2#32
  let arg1 : BitVec 32 := BitVec.ofNat 32 (i 1).val
  let v100 : BitVec 32 := Scalar.muli c2_i32_65 arg1
  let c2_i32_66 : BitVec 32 := 2#32
  let v101 : BitVec 32 := Scalar.subi v100 c2_i32_66
  let c1_i32_67 : BitVec 32 := 1#32
  let v102 : BitVec 32 := Scalar.addi v101 c1_i32_67
  let c512_i32 : BitVec 32 := 512#32
  let v103 : BitVec 32 := Scalar.muli v102 c512_i32
  v103
def k0_off21 (i : grid0.Coords) (c1_i32_67 : BitVec 32) : Fin 3 → Nat :=
  let c0_68 : Index := 0#32
  let c2_i32_65 : BitVec 32 := 2#32
  let arg1 : BitVec 32 := BitVec.ofNat 32 (i 1).val
  let v100 : BitVec 32 := Scalar.muli c2_i32_65 arg1
  let c2_i32_66 : BitVec 32 := 2#32
  let v101 : BitVec 32 := Scalar.subi v100 c2_i32_66
  let v102 : BitVec 32 := Scalar.addi v101 c1_i32_67
  let c512_i32 : BitVec 32 := 512#32
  let v103 : BitVec 32 := Scalar.muli v102 c512_i32
  let v104 : BitVec 32 := v103
  let v105 : Index := Scalar.indexCast v104
  let c0_69 : Index := 0#32
  ![0, v105.toNat, 0]
def k0_off22 (i : grid0.Coords) : Fin 4 → Nat :=
  let c0_89 : Index := 0#32
  let c2_i32_65 : BitVec 32 := 2#32
  let arg1 : BitVec 32 := BitVec.ofNat 32 (i 1).val
  let v100 : BitVec 32 := Scalar.muli c2_i32_65 arg1
  let c2_i32_66 : BitVec 32 := 2#32
  let v101 : BitVec 32 := Scalar.subi v100 c2_i32_66
  let v131 : Index := Scalar.indexCast v101
  let c0_90 : Index := 0#32
  let c0_91 : Index := 0#32
  ![0, v131.toNat, 0, 0]
def k0_mult20 (i : grid0.Coords) : BitVec 32 :=
  let c2_i32_65 : BitVec 32 := 2#32
  let arg1 : BitVec 32 := BitVec.ofNat 32 (i 1).val
  let v100 : BitVec 32 := Scalar.muli c2_i32_65 arg1
  let c2_i32_66 : BitVec 32 := 2#32
  let v101 : BitVec 32 := Scalar.subi v100 c2_i32_66
  let c1_i32_101 : BitVec 32 := 1#32
  let v142 : BitVec 32 := Scalar.addi v101 c1_i32_101
  let c512_i32_102 : BitVec 32 := 512#32
  let v143 : BitVec 32 := Scalar.muli v142 c512_i32_102
  v143
def k0_off23 (i : grid0.Coords) (c1_i32_101 : BitVec 32) : Fin 3 → Nat :=
  let c1_103 : Index := 1#32
  let c2_i32_65 : BitVec 32 := 2#32
  let arg1 : BitVec 32 := BitVec.ofNat 32 (i 1).val
  let v100 : BitVec 32 := Scalar.muli c2_i32_65 arg1
  let c2_i32_66 : BitVec 32 := 2#32
  let v101 : BitVec 32 := Scalar.subi v100 c2_i32_66
  let v142 : BitVec 32 := Scalar.addi v101 c1_i32_101
  let c512_i32_102 : BitVec 32 := 512#32
  let v143 : BitVec 32 := Scalar.muli v142 c512_i32_102
  let v144 : BitVec 32 := v143
  let v145 : Index := Scalar.indexCast v144
  let c0_104 : Index := 0#32
  ![1, v145.toNat, 0]
def k0_off24 (i : grid0.Coords) : Fin 4 → Nat :=
  let c1_124 : Index := 1#32
  let c2_i32_65 : BitVec 32 := 2#32
  let arg1 : BitVec 32 := BitVec.ofNat 32 (i 1).val
  let v100 : BitVec 32 := Scalar.muli c2_i32_65 arg1
  let c2_i32_66 : BitVec 32 := 2#32
  let v101 : BitVec 32 := Scalar.subi v100 c2_i32_66
  let v171 : Index := Scalar.indexCast v101
  let c0_125 : Index := 0#32
  let c0_126 : Index := 0#32
  ![1, v171.toNat, 0, 0]
def k0_mult21 (i : grid0.Coords) : BitVec 32 :=
  let c2_i32_65 : BitVec 32 := 2#32
  let arg1 : BitVec 32 := BitVec.ofNat 32 (i 1).val
  let v100 : BitVec 32 := Scalar.muli c2_i32_65 arg1
  let c2_i32_66 : BitVec 32 := 2#32
  let v101 : BitVec 32 := Scalar.subi v100 c2_i32_66
  let c2_i32_136 : BitVec 32 := 2#32
  let v182 : BitVec 32 := Scalar.addi v101 c2_i32_136
  let c512_i32_137 : BitVec 32 := 512#32
  let v183 : BitVec 32 := Scalar.muli v182 c512_i32_137
  v183
def k0_off25 (i : grid0.Coords) : Fin 4 → Nat :=
  let c0_160 : Index := 0#32
  let c2_i32_65 : BitVec 32 := 2#32
  let arg1 : BitVec 32 := BitVec.ofNat 32 (i 1).val
  let v100 : BitVec 32 := Scalar.muli c2_i32_65 arg1
  let c2_i32_66 : BitVec 32 := 2#32
  let v101 : BitVec 32 := Scalar.subi v100 c2_i32_66
  let c1_i32_147 : BitVec 32 := 1#32
  let v194 : BitVec 32 := Scalar.addi v101 c1_i32_147
  let v212 : Index := Scalar.indexCast v194
  let c0_161 : Index := 0#32
  let c0_162 : Index := 0#32
  ![0, v212.toNat, 0, 0]
def k0_mult22 (i : grid0.Coords) : BitVec 32 :=
  let c2_i32_65 : BitVec 32 := 2#32
  let arg1 : BitVec 32 := BitVec.ofNat 32 (i 1).val
  let v100 : BitVec 32 := Scalar.muli c2_i32_65 arg1
  let c2_i32_66 : BitVec 32 := 2#32
  let v101 : BitVec 32 := Scalar.subi v100 c2_i32_66
  let c2_i32_172 : BitVec 32 := 2#32
  let v223 : BitVec 32 := Scalar.addi v101 c2_i32_172
  let c512_i32_173 : BitVec 32 := 512#32
  let v224 : BitVec 32 := Scalar.muli v223 c512_i32_173
  v224
def k0_off26 (i : grid0.Coords) : Fin 4 → Nat :=
  let c1_196 : Index := 1#32
  let c2_i32_65 : BitVec 32 := 2#32
  let arg1 : BitVec 32 := BitVec.ofNat 32 (i 1).val
  let v100 : BitVec 32 := Scalar.muli c2_i32_65 arg1
  let c2_i32_66 : BitVec 32 := 2#32
  let v101 : BitVec 32 := Scalar.subi v100 c2_i32_66
  let c1_i32_183 : BitVec 32 := 1#32
  let v235 : BitVec 32 := Scalar.addi v101 c1_i32_183
  let v253 : Index := Scalar.indexCast v235
  let c0_197 : Index := 0#32
  let c0_198 : Index := 0#32
  ![1, v253.toNat, 0, 0]
def k0_mult23 (i : grid0.Coords) : BitVec 32 :=
  let c2_i32_208 : BitVec 32 := 2#32
  let arg1 : BitVec 32 := BitVec.ofNat 32 (i 1).val
  let v267 : BitVec 32 := Scalar.muli c2_i32_208 arg1
  let c1_i32_209 : BitVec 32 := 1#32
  let v268 : BitVec 32 := Scalar.addi v267 c1_i32_209
  let c512_i32_210 : BitVec 32 := 512#32
  let v269 : BitVec 32 := Scalar.muli v268 c512_i32_210
  v269
def k0_off27 (i : grid0.Coords) : Fin 3 → Nat :=
  let c0_211 : Index := 0#32
  let c2_i32_208 : BitVec 32 := 2#32
  let arg1 : BitVec 32 := BitVec.ofNat 32 (i 1).val
  let v267 : BitVec 32 := Scalar.muli c2_i32_208 arg1
  let c1_i32_209 : BitVec 32 := 1#32
  let v268 : BitVec 32 := Scalar.addi v267 c1_i32_209
  let c512_i32_210 : BitVec 32 := 512#32
  let v269 : BitVec 32 := Scalar.muli v268 c512_i32_210
  let v270 : BitVec 32 := v269
  let v271 : Index := Scalar.indexCast v270
  let c0_212 : Index := 0#32
  ![0, v271.toNat, 0]
def k0_off28 (i : grid0.Coords) : Fin 4 → Nat :=
  let c0_233 : Index := 0#32
  let c2_i32_219 : BitVec 32 := 2#32
  let arg1 : BitVec 32 := BitVec.ofNat 32 (i 1).val
  let v280 : BitVec 32 := Scalar.muli c2_i32_219 arg1
  let v300 : Index := Scalar.indexCast v280
  let c0_234 : Index := 0#32
  let c0_235 : Index := 0#32
  ![0, v300.toNat, 0, 0]
def k0_mult24 (i : grid0.Coords) : BitVec 32 :=
  let c2_i32_270 : BitVec 32 := 2#32
  let arg1 : BitVec 32 := BitVec.ofNat 32 (i 1).val
  let v340 : BitVec 32 := Scalar.muli c2_i32_270 arg1
  let c1_i32_271 : BitVec 32 := 1#32
  let v341 : BitVec 32 := Scalar.addi v340 c1_i32_271
  let c512_i32_272 : BitVec 32 := 512#32
  let v342 : BitVec 32 := Scalar.muli v341 c512_i32_272
  v342
def k0_off29 (i : grid0.Coords) : Fin 3 → Nat :=
  let c1_273 : Index := 1#32
  let c2_i32_270 : BitVec 32 := 2#32
  let arg1 : BitVec 32 := BitVec.ofNat 32 (i 1).val
  let v340 : BitVec 32 := Scalar.muli c2_i32_270 arg1
  let c1_i32_271 : BitVec 32 := 1#32
  let v341 : BitVec 32 := Scalar.addi v340 c1_i32_271
  let c512_i32_272 : BitVec 32 := 512#32
  let v342 : BitVec 32 := Scalar.muli v341 c512_i32_272
  let v343 : BitVec 32 := v342
  let v344 : Index := Scalar.indexCast v343
  let c0_274 : Index := 0#32
  ![1, v344.toNat, 0]
def k0_off30 (i : grid0.Coords) : Fin 4 → Nat :=
  let c1_296 : Index := 1#32
  let c2_i32_282 : BitVec 32 := 2#32
  let arg1 : BitVec 32 := BitVec.ofNat 32 (i 1).val
  let v353 : BitVec 32 := Scalar.muli c2_i32_282 arg1
  let v373 : Index := Scalar.indexCast v353
  let c0_297 : Index := 0#32
  let c0_298 : Index := 0#32
  ![1, v373.toNat, 0, 0]
def k0_off31 (i : grid0.Coords) : Fin 4 → Nat :=
  let c0_348 : Index := 0#32
  let c2_i32_333 : BitVec 32 := 2#32
  let arg1 : BitVec 32 := BitVec.ofNat 32 (i 1).val
  let v413 : BitVec 32 := Scalar.muli c2_i32_333 arg1
  let c1_i32_334 : BitVec 32 := 1#32
  let v414 : BitVec 32 := Scalar.addi v413 c1_i32_334
  let v434 : Index := Scalar.indexCast v414
  let c0_349 : Index := 0#32
  let c0_350 : Index := 0#32
  ![0, v434.toNat, 0, 0]
def k0_off32 (i : grid0.Coords) : Fin 4 → Nat :=
  let c1_375 : Index := 1#32
  let c2_i32_360 : BitVec 32 := 2#32
  let arg1 : BitVec 32 := BitVec.ofNat 32 (i 1).val
  let v445 : BitVec 32 := Scalar.muli c2_i32_360 arg1
  let c1_i32_361 : BitVec 32 := 1#32
  let v446 : BitVec 32 := Scalar.addi v445 c1_i32_361
  let v466 : Index := Scalar.indexCast v446
  let c0_376 : Index := 0#32
  let c0_377 : Index := 0#32
  ![1, v466.toNat, 0, 0]
def k0_mult25 : BitVec 32 :=
  let c0_i32_400 : BitVec 32 := 0#32
  c0_i32_400
def k0_mult26 : BitVec 32 :=
  let c0_i32_410 : BitVec 32 := 0#32
  c0_i32_410
def k0_cond2 (i : grid0.Coords) : BitVec 1 :=
  let arg1 : BitVec 32 := BitVec.ofNat 32 (i 1).val
  let c2_i32 : BitVec 32 := 2#32
  let c0_i32 : BitVec 32 := 0#32
  let v9 : BitVec 1 := Scalar.cmpi .eq c2_i32 c0_i32
  let c1_i32 : BitVec 32 := 1#32
  let v10 : BitVec 32 := Scalar.select v9 c1_i32 c2_i32
  let v11 : BitVec 32 := Scalar.remsi arg1 v10
  let c0_i32_9 : BitVec 32 := 0#32
  let v13 : BitVec 1 := Scalar.cmpi .slt v11 c0_i32_9
  let c0_i32_10 : BitVec 32 := 0#32
  let v14 : BitVec 1 := Scalar.cmpi .slt v10 c0_i32_10
  let v15 : BitVec 1 := Scalar.xori v13 v14
  let c0_i32_8 : BitVec 32 := 0#32
  let v12 : BitVec 1 := Scalar.cmpi .ne v11 c0_i32_8
  let v16 : BitVec 1 := Scalar.andi v15 v12
  let v17 : BitVec 32 := Scalar.addi v11 v10
  let v18 : BitVec 32 := Scalar.select v16 v17 v11
  let c1_i32_11 : BitVec 32 := 1#32
  let v19 : BitVec 1 := Scalar.cmpi .eq v18 c1_i32_11
  let v_false : BitVec 1 := 0#1
  let v66 : BitVec 1 := Scalar.xori v19 v_false
  let true_45 : BitVec 1 := 1#1
  let v67 : BitVec 1 := Scalar.xori v66 true_45
  let v68 : BitVec 32 := Scalar.extui v67
  let c0_i32_46 : BitVec 32 := 0#32
  let v69 : BitVec 1 := Scalar.cmpi .ne v68 c0_i32_46
  v69

def k0_mult27 (i : grid0.Coords) : BitVec 32 :=
  let c2_i32_65 : BitVec 32 := 2#32
  let arg1 : BitVec 32 := BitVec.ofNat 32 (i 1).val
  let v103 : BitVec 32 := Scalar.muli c2_i32_65 arg1
  let c1_i32_66 : BitVec 32 := 1#32
  let v104 : BitVec 32 := Scalar.addi v103 c1_i32_66
  let c512_i32 : BitVec 32 := 512#32
  let v105 : BitVec 32 := Scalar.muli v104 c512_i32
  v105
def k0_off33 (i : grid0.Coords) : Fin 3 → Nat :=
  let c0_67 : Index := 0#32
  let c2_i32_65 : BitVec 32 := 2#32
  let arg1 : BitVec 32 := BitVec.ofNat 32 (i 1).val
  let v103 : BitVec 32 := Scalar.muli c2_i32_65 arg1
  let c1_i32_66 : BitVec 32 := 1#32
  let v104 : BitVec 32 := Scalar.addi v103 c1_i32_66
  let c512_i32 : BitVec 32 := 512#32
  let v105 : BitVec 32 := Scalar.muli v104 c512_i32
  let v106 : BitVec 32 := v105
  let v107 : Index := Scalar.indexCast v106
  let c0_68 : Index := 0#32
  ![0, v107.toNat, 0]
def k0_off34 (i : grid0.Coords) : Fin 4 → Nat :=
  let c0_89 : Index := 0#32
  let c2_i32_75 : BitVec 32 := 2#32
  let arg1 : BitVec 32 := BitVec.ofNat 32 (i 1).val
  let v116 : BitVec 32 := Scalar.muli c2_i32_75 arg1
  let v136 : Index := Scalar.indexCast v116
  let c0_90 : Index := 0#32
  let c0_91 : Index := 0#32
  ![0, v136.toNat, 0, 0]
def k0_mult28 (i : grid0.Coords) : BitVec 32 :=
  let c2_i32_126 : BitVec 32 := 2#32
  let arg1 : BitVec 32 := BitVec.ofNat 32 (i 1).val
  let v176 : BitVec 32 := Scalar.muli c2_i32_126 arg1
  let c1_i32_127 : BitVec 32 := 1#32
  let v177 : BitVec 32 := Scalar.addi v176 c1_i32_127
  let c512_i32_128 : BitVec 32 := 512#32
  let v178 : BitVec 32 := Scalar.muli v177 c512_i32_128
  v178
def k0_off35 (i : grid0.Coords) : Fin 3 → Nat :=
  let c1_129 : Index := 1#32
  let c2_i32_126 : BitVec 32 := 2#32
  let arg1 : BitVec 32 := BitVec.ofNat 32 (i 1).val
  let v176 : BitVec 32 := Scalar.muli c2_i32_126 arg1
  let c1_i32_127 : BitVec 32 := 1#32
  let v177 : BitVec 32 := Scalar.addi v176 c1_i32_127
  let c512_i32_128 : BitVec 32 := 512#32
  let v178 : BitVec 32 := Scalar.muli v177 c512_i32_128
  let v179 : BitVec 32 := v178
  let v180 : Index := Scalar.indexCast v179
  let c0_130 : Index := 0#32
  ![1, v180.toNat, 0]
def k0_off36 (i : grid0.Coords) : Fin 4 → Nat :=
  let c1_152 : Index := 1#32
  let c2_i32_138 : BitVec 32 := 2#32
  let arg1 : BitVec 32 := BitVec.ofNat 32 (i 1).val
  let v189 : BitVec 32 := Scalar.muli c2_i32_138 arg1
  let v209 : Index := Scalar.indexCast v189
  let c0_153 : Index := 0#32
  let c0_154 : Index := 0#32
  ![1, v209.toNat, 0, 0]
def k0_off37 (i : grid0.Coords) : Fin 4 → Nat :=
  let c0_204 : Index := 0#32
  let c2_i32_189 : BitVec 32 := 2#32
  let arg1 : BitVec 32 := BitVec.ofNat 32 (i 1).val
  let v249 : BitVec 32 := Scalar.muli c2_i32_189 arg1
  let c1_i32_190 : BitVec 32 := 1#32
  let v250 : BitVec 32 := Scalar.addi v249 c1_i32_190
  let v270 : Index := Scalar.indexCast v250
  let c0_205 : Index := 0#32
  let c0_206 : Index := 0#32
  ![0, v270.toNat, 0, 0]
def k0_off38 (i : grid0.Coords) : Fin 4 → Nat :=
  let c1_231 : Index := 1#32
  let c2_i32_216 : BitVec 32 := 2#32
  let arg1 : BitVec 32 := BitVec.ofNat 32 (i 1).val
  let v281 : BitVec 32 := Scalar.muli c2_i32_216 arg1
  let c1_i32_217 : BitVec 32 := 1#32
  let v282 : BitVec 32 := Scalar.addi v281 c1_i32_217
  let v302 : Index := Scalar.indexCast v282
  let c0_232 : Index := 0#32
  let c0_233 : Index := 0#32
  ![1, v302.toNat, 0, 0]
def k0_mult29 : BitVec 32 :=
  let c0_i32_256 : BitVec 32 := 0#32
  c0_i32_256
def k0_mult30 : BitVec 32 :=
  let c0_i32_266 : BitVec 32 := 0#32
  c0_i32_266
@[reducible] def k0_t3_loop (i : grid0.Coords) : Scf.Loop 32 :=
  let c0_i32_55 : BitVec 32 := 0#32
  let arg1 : BitVec 32 := BitVec.ofNat 32 (i 1).val
  let c4_i32 : BitVec 32 := 4#32
  let v8 : BitVec 32 := Scalar.addi arg1 c4_i32
  let c0_i32_48 : BitVec 32 := 0#32
  let v71 : BitVec 1 := Scalar.cmpi .sgt v8 c0_i32_48
  let v72 : BitVec 32 := Scalar.extui v71
  let c0_i32_49 : BitVec 32 := 0#32
  let v73 : BitVec 1 := Scalar.cmpi .slt v8 c0_i32_49
  let v74 : BitVec 32 := Scalar.extui v73
  let v75 : BitVec 32 := Scalar.subi v72 v74
  let c2_i32_47 : BitVec 32 := 2#32
  let c0_i32_50 : BitVec 32 := 0#32
  let v76 : BitVec 1 := Scalar.cmpi .sgt c2_i32_47 c0_i32_50
  let v77 : BitVec 32 := Scalar.extui v76
  let c0_i32_51 : BitVec 32 := 0#32
  let v78 : BitVec 1 := Scalar.cmpi .slt c2_i32_47 c0_i32_51
  let v79 : BitVec 32 := Scalar.extui v78
  let v80 : BitVec 32 := Scalar.subi v77 v79
  let v81 : BitVec 1 := Scalar.cmpi .ne v75 v80
  let v82 : BitVec 32 := Scalar.remsi v8 c2_i32_47
  let c0_i32_52 : BitVec 32 := 0#32
  let v83 : BitVec 1 := Scalar.cmpi .ne v82 c0_i32_52
  let v84 : BitVec 1 := Scalar.andi v81 v83
  let v70 : BitVec 32 := Scalar.divsi v8 c2_i32_47
  let c1_i32_53 : BitVec 32 := 1#32
  let v85 : BitVec 32 := Scalar.subi v70 c1_i32_53
  let v86 : BitVec 32 := Scalar.select v84 v85 v70
  let v87 : BitVec 32 := Scalar.subi v86 c0_i32_55
  let c1_i32_56 : BitVec 32 := 1#32
  let v89 : BitVec 32 := Scalar.divsi v87 c1_i32_56
  let v90 : BitVec 32 := Scalar.muli v89 c1_i32_56
  let v91 : BitVec 32 := Scalar.addi c0_i32_55 v90
  let c1_i32_57 : BitVec 32 := 1#32
  ⟨c0_i32_55, v91, c1_i32_57⟩
def k0_mult31 (i : grid0.Coords) (k0_t3 : Fin (k0_t3_loop i).trips) : BitVec 32 :=
  let c4_i32_65 : BitVec 32 := 4#32
  let c0_i32_55 : BitVec 32 := 0#32
  let c1_i32_57 : BitVec 32 := 1#32
  let arg11 : BitVec 32 := Scf.iv c0_i32_55 c1_i32_57 k0_t3
  let v100 : BitVec 32 := Scalar.muli c4_i32_65 arg11
  let c1_i32_66 : BitVec 32 := 1#32
  let v101 : BitVec 32 := Scalar.addi v100 c1_i32_66
  let c512_i32 : BitVec 32 := 512#32
  let v102 : BitVec 32 := Scalar.muli v101 c512_i32
  v102
def k0_off39 (i : grid0.Coords) (k0_t3 : Fin (k0_t3_loop i).trips) (c1_i32_66 : BitVec 32) : Fin 3 → Nat :=
  let c0_67 : Index := 0#32
  let c4_i32_65 : BitVec 32 := 4#32
  let c0_i32_55 : BitVec 32 := 0#32
  let c1_i32_57 : BitVec 32 := 1#32
  let arg11 : BitVec 32 := Scf.iv c0_i32_55 c1_i32_57 k0_t3
  let v100 : BitVec 32 := Scalar.muli c4_i32_65 arg11
  let v101 : BitVec 32 := Scalar.addi v100 c1_i32_66
  let c512_i32 : BitVec 32 := 512#32
  let v102 : BitVec 32 := Scalar.muli v101 c512_i32
  let v103 : BitVec 32 := v102
  let v104 : Index := Scalar.indexCast v103
  let c0_68 : Index := 0#32
  ![0, v104.toNat, 0]
def k0_off40 (i : grid0.Coords) (k0_t3 : Fin (k0_t3_loop i).trips) : Fin 4 → Nat :=
  let c0_88 : Index := 0#32
  let c4_i32_65 : BitVec 32 := 4#32
  let c0_i32_55 : BitVec 32 := 0#32
  let c1_i32_57 : BitVec 32 := 1#32
  let arg11 : BitVec 32 := Scf.iv c0_i32_55 c1_i32_57 k0_t3
  let v100 : BitVec 32 := Scalar.muli c4_i32_65 arg11
  let v130 : Index := Scalar.indexCast v100
  let c0_89 : Index := 0#32
  let c0_90 : Index := 0#32
  ![0, v130.toNat, 0, 0]
def k0_mult32 (i : grid0.Coords) (k0_t3 : Fin (k0_t3_loop i).trips) : BitVec 32 :=
  let c4_i32_65 : BitVec 32 := 4#32
  let c0_i32_55 : BitVec 32 := 0#32
  let c1_i32_57 : BitVec 32 := 1#32
  let arg11 : BitVec 32 := Scf.iv c0_i32_55 c1_i32_57 k0_t3
  let v100 : BitVec 32 := Scalar.muli c4_i32_65 arg11
  let c1_i32_100 : BitVec 32 := 1#32
  let v141 : BitVec 32 := Scalar.addi v100 c1_i32_100
  let c512_i32_101 : BitVec 32 := 512#32
  let v142 : BitVec 32 := Scalar.muli v141 c512_i32_101
  v142
def k0_off41 (i : grid0.Coords) (k0_t3 : Fin (k0_t3_loop i).trips) (c1_i32_100 : BitVec 32) : Fin 3 → Nat :=
  let c1_102 : Index := 1#32
  let c4_i32_65 : BitVec 32 := 4#32
  let c0_i32_55 : BitVec 32 := 0#32
  let c1_i32_57 : BitVec 32 := 1#32
  let arg11 : BitVec 32 := Scf.iv c0_i32_55 c1_i32_57 k0_t3
  let v100 : BitVec 32 := Scalar.muli c4_i32_65 arg11
  let v141 : BitVec 32 := Scalar.addi v100 c1_i32_100
  let c512_i32_101 : BitVec 32 := 512#32
  let v142 : BitVec 32 := Scalar.muli v141 c512_i32_101
  let v143 : BitVec 32 := v142
  let v144 : Index := Scalar.indexCast v143
  let c0_103 : Index := 0#32
  ![1, v144.toNat, 0]
def k0_off42 (i : grid0.Coords) (k0_t3 : Fin (k0_t3_loop i).trips) : Fin 4 → Nat :=
  let c1_123 : Index := 1#32
  let c4_i32_65 : BitVec 32 := 4#32
  let c0_i32_55 : BitVec 32 := 0#32
  let c1_i32_57 : BitVec 32 := 1#32
  let arg11 : BitVec 32 := Scf.iv c0_i32_55 c1_i32_57 k0_t3
  let v100 : BitVec 32 := Scalar.muli c4_i32_65 arg11
  let v170 : Index := Scalar.indexCast v100
  let c0_124 : Index := 0#32
  let c0_125 : Index := 0#32
  ![1, v170.toNat, 0, 0]
def k0_mult33 (i : grid0.Coords) (k0_t3 : Fin (k0_t3_loop i).trips) : BitVec 32 :=
  let c4_i32_65 : BitVec 32 := 4#32
  let c0_i32_55 : BitVec 32 := 0#32
  let c1_i32_57 : BitVec 32 := 1#32
  let arg11 : BitVec 32 := Scf.iv c0_i32_55 c1_i32_57 k0_t3
  let v100 : BitVec 32 := Scalar.muli c4_i32_65 arg11
  let c2_i32_135 : BitVec 32 := 2#32
  let v181 : BitVec 32 := Scalar.addi v100 c2_i32_135
  let c512_i32_136 : BitVec 32 := 512#32
  let v182 : BitVec 32 := Scalar.muli v181 c512_i32_136
  v182
def k0_off43 (i : grid0.Coords) (k0_t3 : Fin (k0_t3_loop i).trips) (c1_i32_146 : BitVec 32) : Fin 4 → Nat :=
  let c0_159 : Index := 0#32
  let c4_i32_65 : BitVec 32 := 4#32
  let c0_i32_55 : BitVec 32 := 0#32
  let c1_i32_57 : BitVec 32 := 1#32
  let arg11 : BitVec 32 := Scf.iv c0_i32_55 c1_i32_57 k0_t3
  let v100 : BitVec 32 := Scalar.muli c4_i32_65 arg11
  let v193 : BitVec 32 := Scalar.addi v100 c1_i32_146
  let v211 : Index := Scalar.indexCast v193
  let c0_160 : Index := 0#32
  let c0_161 : Index := 0#32
  ![0, v211.toNat, 0, 0]
def k0_mult34 (i : grid0.Coords) (k0_t3 : Fin (k0_t3_loop i).trips) : BitVec 32 :=
  let c4_i32_65 : BitVec 32 := 4#32
  let c0_i32_55 : BitVec 32 := 0#32
  let c1_i32_57 : BitVec 32 := 1#32
  let arg11 : BitVec 32 := Scf.iv c0_i32_55 c1_i32_57 k0_t3
  let v100 : BitVec 32 := Scalar.muli c4_i32_65 arg11
  let c2_i32_171 : BitVec 32 := 2#32
  let v222 : BitVec 32 := Scalar.addi v100 c2_i32_171
  let c512_i32_172 : BitVec 32 := 512#32
  let v223 : BitVec 32 := Scalar.muli v222 c512_i32_172
  v223
def k0_off44 (i : grid0.Coords) (k0_t3 : Fin (k0_t3_loop i).trips) (c1_i32_182 : BitVec 32) : Fin 4 → Nat :=
  let c1_195 : Index := 1#32
  let c4_i32_65 : BitVec 32 := 4#32
  let c0_i32_55 : BitVec 32 := 0#32
  let c1_i32_57 : BitVec 32 := 1#32
  let arg11 : BitVec 32 := Scf.iv c0_i32_55 c1_i32_57 k0_t3
  let v100 : BitVec 32 := Scalar.muli c4_i32_65 arg11
  let v234 : BitVec 32 := Scalar.addi v100 c1_i32_182
  let v252 : Index := Scalar.indexCast v234
  let c0_196 : Index := 0#32
  let c0_197 : Index := 0#32
  ![1, v252.toNat, 0, 0]
def k0_mult35 (i : grid0.Coords) (k0_t3 : Fin (k0_t3_loop i).trips) : BitVec 32 :=
  let c4_i32_207 : BitVec 32 := 4#32
  let c0_i32_55 : BitVec 32 := 0#32
  let c1_i32_57 : BitVec 32 := 1#32
  let arg11 : BitVec 32 := Scf.iv c0_i32_55 c1_i32_57 k0_t3
  let v263 : BitVec 32 := Scalar.muli c4_i32_207 arg11
  let c2_i32_208 : BitVec 32 := 2#32
  let v264 : BitVec 32 := Scalar.addi v263 c2_i32_208
  let c1_i32_209 : BitVec 32 := 1#32
  let v265 : BitVec 32 := Scalar.addi v264 c1_i32_209
  let c512_i32_210 : BitVec 32 := 512#32
  let v266 : BitVec 32 := Scalar.muli v265 c512_i32_210
  v266
def k0_off45 (i : grid0.Coords) (k0_t3 : Fin (k0_t3_loop i).trips) (c1_i32_209 : BitVec 32) : Fin 3 → Nat :=
  let c0_211 : Index := 0#32
  let c4_i32_207 : BitVec 32 := 4#32
  let c0_i32_55 : BitVec 32 := 0#32
  let c1_i32_57 : BitVec 32 := 1#32
  let arg11 : BitVec 32 := Scf.iv c0_i32_55 c1_i32_57 k0_t3
  let v263 : BitVec 32 := Scalar.muli c4_i32_207 arg11
  let c2_i32_208 : BitVec 32 := 2#32
  let v264 : BitVec 32 := Scalar.addi v263 c2_i32_208
  let v265 : BitVec 32 := Scalar.addi v264 c1_i32_209
  let c512_i32_210 : BitVec 32 := 512#32
  let v266 : BitVec 32 := Scalar.muli v265 c512_i32_210
  let v267 : BitVec 32 := v266
  let v268 : Index := Scalar.indexCast v267
  let c0_212 : Index := 0#32
  ![0, v268.toNat, 0]
def k0_mult36 (i : grid0.Coords) (k0_t3 : Fin (k0_t3_loop i).trips) : BitVec 32 :=
  let c4_i32_207 : BitVec 32 := 4#32
  let c0_i32_55 : BitVec 32 := 0#32
  let c1_i32_57 : BitVec 32 := 1#32
  let arg11 : BitVec 32 := Scf.iv c0_i32_55 c1_i32_57 k0_t3
  let v263 : BitVec 32 := Scalar.muli c4_i32_207 arg11
  let c2_i32_208 : BitVec 32 := 2#32
  let v264 : BitVec 32 := Scalar.addi v263 c2_i32_208
  let c1_i32_244 : BitVec 32 := 1#32
  let v305 : BitVec 32 := Scalar.addi v264 c1_i32_244
  let c512_i32_245 : BitVec 32 := 512#32
  let v306 : BitVec 32 := Scalar.muli v305 c512_i32_245
  v306
def k0_off46 (i : grid0.Coords) (k0_t3 : Fin (k0_t3_loop i).trips) (c1_i32_244 : BitVec 32) : Fin 3 → Nat :=
  let c1_246 : Index := 1#32
  let c4_i32_207 : BitVec 32 := 4#32
  let c0_i32_55 : BitVec 32 := 0#32
  let c1_i32_57 : BitVec 32 := 1#32
  let arg11 : BitVec 32 := Scf.iv c0_i32_55 c1_i32_57 k0_t3
  let v263 : BitVec 32 := Scalar.muli c4_i32_207 arg11
  let c2_i32_208 : BitVec 32 := 2#32
  let v264 : BitVec 32 := Scalar.addi v263 c2_i32_208
  let v305 : BitVec 32 := Scalar.addi v264 c1_i32_244
  let c512_i32_245 : BitVec 32 := 512#32
  let v306 : BitVec 32 := Scalar.muli v305 c512_i32_245
  let v307 : BitVec 32 := v306
  let v308 : Index := Scalar.indexCast v307
  let c0_247 : Index := 0#32
  ![1, v308.toNat, 0]
def k0_mult37 (i : grid0.Coords) (k0_t3 : Fin (k0_t3_loop i).trips) : BitVec 32 :=
  let c4_i32_207 : BitVec 32 := 4#32
  let c0_i32_55 : BitVec 32 := 0#32
  let c1_i32_57 : BitVec 32 := 1#32
  let arg11 : BitVec 32 := Scf.iv c0_i32_55 c1_i32_57 k0_t3
  let v263 : BitVec 32 := Scalar.muli c4_i32_207 arg11
  let c2_i32_208 : BitVec 32 := 2#32
  let v264 : BitVec 32 := Scalar.addi v263 c2_i32_208
  let c2_i32_279 : BitVec 32 := 2#32
  let v345 : BitVec 32 := Scalar.addi v264 c2_i32_279
  let c512_i32_280 : BitVec 32 := 512#32
  let v346 : BitVec 32 := Scalar.muli v345 c512_i32_280
  v346
def k0_off47 (i : grid0.Coords) (k0_t3 : Fin (k0_t3_loop i).trips) : Fin 4 → Nat :=
  let c0_303 : Index := 0#32
  let c4_i32_207 : BitVec 32 := 4#32
  let c0_i32_55 : BitVec 32 := 0#32
  let c1_i32_57 : BitVec 32 := 1#32
  let arg11 : BitVec 32 := Scf.iv c0_i32_55 c1_i32_57 k0_t3
  let v263 : BitVec 32 := Scalar.muli c4_i32_207 arg11
  let c2_i32_208 : BitVec 32 := 2#32
  let v264 : BitVec 32 := Scalar.addi v263 c2_i32_208
  let c1_i32_290 : BitVec 32 := 1#32
  let v357 : BitVec 32 := Scalar.addi v264 c1_i32_290
  let v375 : Index := Scalar.indexCast v357
  let c0_304 : Index := 0#32
  let c0_305 : Index := 0#32
  ![0, v375.toNat, 0, 0]
def k0_mult38 (i : grid0.Coords) (k0_t3 : Fin (k0_t3_loop i).trips) : BitVec 32 :=
  let c4_i32_207 : BitVec 32 := 4#32
  let c0_i32_55 : BitVec 32 := 0#32
  let c1_i32_57 : BitVec 32 := 1#32
  let arg11 : BitVec 32 := Scf.iv c0_i32_55 c1_i32_57 k0_t3
  let v263 : BitVec 32 := Scalar.muli c4_i32_207 arg11
  let c2_i32_208 : BitVec 32 := 2#32
  let v264 : BitVec 32 := Scalar.addi v263 c2_i32_208
  let c2_i32_315 : BitVec 32 := 2#32
  let v386 : BitVec 32 := Scalar.addi v264 c2_i32_315
  let c512_i32_316 : BitVec 32 := 512#32
  let v387 : BitVec 32 := Scalar.muli v386 c512_i32_316
  v387
def k0_off48 (i : grid0.Coords) (k0_t3 : Fin (k0_t3_loop i).trips) : Fin 4 → Nat :=
  let c1_339 : Index := 1#32
  let c4_i32_207 : BitVec 32 := 4#32
  let c0_i32_55 : BitVec 32 := 0#32
  let c1_i32_57 : BitVec 32 := 1#32
  let arg11 : BitVec 32 := Scf.iv c0_i32_55 c1_i32_57 k0_t3
  let v263 : BitVec 32 := Scalar.muli c4_i32_207 arg11
  let c2_i32_208 : BitVec 32 := 2#32
  let v264 : BitVec 32 := Scalar.addi v263 c2_i32_208
  let c1_i32_326 : BitVec 32 := 1#32
  let v398 : BitVec 32 := Scalar.addi v264 c1_i32_326
  let v416 : Index := Scalar.indexCast v398
  let c0_340 : Index := 0#32
  let c0_341 : Index := 0#32
  ![1, v416.toNat, 0, 0]
@[reducible] def k0_t4_loop (i : grid0.Coords) : Scf.Loop 32 :=
  let c0_i32_55 : BitVec 32 := 0#32
  let arg1 : BitVec 32 := BitVec.ofNat 32 (i 1).val
  let c4_i32 : BitVec 32 := 4#32
  let v8 : BitVec 32 := Scalar.addi arg1 c4_i32
  let c0_i32_48 : BitVec 32 := 0#32
  let v71 : BitVec 1 := Scalar.cmpi .sgt v8 c0_i32_48
  let v72 : BitVec 32 := Scalar.extui v71
  let c0_i32_49 : BitVec 32 := 0#32
  let v73 : BitVec 1 := Scalar.cmpi .slt v8 c0_i32_49
  let v74 : BitVec 32 := Scalar.extui v73
  let v75 : BitVec 32 := Scalar.subi v72 v74
  let c2_i32_47 : BitVec 32 := 2#32
  let c0_i32_50 : BitVec 32 := 0#32
  let v76 : BitVec 1 := Scalar.cmpi .sgt c2_i32_47 c0_i32_50
  let v77 : BitVec 32 := Scalar.extui v76
  let c0_i32_51 : BitVec 32 := 0#32
  let v78 : BitVec 1 := Scalar.cmpi .slt c2_i32_47 c0_i32_51
  let v79 : BitVec 32 := Scalar.extui v78
  let v80 : BitVec 32 := Scalar.subi v77 v79
  let v81 : BitVec 1 := Scalar.cmpi .ne v75 v80
  let v82 : BitVec 32 := Scalar.remsi v8 c2_i32_47
  let c0_i32_52 : BitVec 32 := 0#32
  let v83 : BitVec 1 := Scalar.cmpi .ne v82 c0_i32_52
  let v84 : BitVec 1 := Scalar.andi v81 v83
  let v70 : BitVec 32 := Scalar.divsi v8 c2_i32_47
  let c1_i32_53 : BitVec 32 := 1#32
  let v85 : BitVec 32 := Scalar.subi v70 c1_i32_53
  let v86 : BitVec 32 := Scalar.select v84 v85 v70
  let v87 : BitVec 32 := Scalar.subi v86 c0_i32_55
  let c1_i32_56 : BitVec 32 := 1#32
  let v89 : BitVec 32 := Scalar.divsi v87 c1_i32_56
  let v90 : BitVec 32 := Scalar.muli v89 c1_i32_56
  let v91 : BitVec 32 := Scalar.addi c0_i32_55 v90
  let v88 : BitVec 32 := Scalar.addi c0_i32_55 v87
  let c1_i32_58 : BitVec 32 := 1#32
  ⟨v91, v88, c1_i32_58⟩
def k0_mult39 (i : grid0.Coords) (k0_t4 : Fin (k0_t4_loop i).trips) : BitVec 32 :=
  let c4_i32_65 : BitVec 32 := 4#32
  let c0_i32_55 : BitVec 32 := 0#32
  let arg1 : BitVec 32 := BitVec.ofNat 32 (i 1).val
  let c4_i32 : BitVec 32 := 4#32
  let v8 : BitVec 32 := Scalar.addi arg1 c4_i32
  let c0_i32_48 : BitVec 32 := 0#32
  let v71 : BitVec 1 := Scalar.cmpi .sgt v8 c0_i32_48
  let v72 : BitVec 32 := Scalar.extui v71
  let c0_i32_49 : BitVec 32 := 0#32
  let v73 : BitVec 1 := Scalar.cmpi .slt v8 c0_i32_49
  let v74 : BitVec 32 := Scalar.extui v73
  let v75 : BitVec 32 := Scalar.subi v72 v74
  let c2_i32_47 : BitVec 32 := 2#32
  let c0_i32_50 : BitVec 32 := 0#32
  let v76 : BitVec 1 := Scalar.cmpi .sgt c2_i32_47 c0_i32_50
  let v77 : BitVec 32 := Scalar.extui v76
  let c0_i32_51 : BitVec 32 := 0#32
  let v78 : BitVec 1 := Scalar.cmpi .slt c2_i32_47 c0_i32_51
  let v79 : BitVec 32 := Scalar.extui v78
  let v80 : BitVec 32 := Scalar.subi v77 v79
  let v81 : BitVec 1 := Scalar.cmpi .ne v75 v80
  let v82 : BitVec 32 := Scalar.remsi v8 c2_i32_47
  let c0_i32_52 : BitVec 32 := 0#32
  let v83 : BitVec 1 := Scalar.cmpi .ne v82 c0_i32_52
  let v84 : BitVec 1 := Scalar.andi v81 v83
  let v70 : BitVec 32 := Scalar.divsi v8 c2_i32_47
  let c1_i32_53 : BitVec 32 := 1#32
  let v85 : BitVec 32 := Scalar.subi v70 c1_i32_53
  let v86 : BitVec 32 := Scalar.select v84 v85 v70
  let v87 : BitVec 32 := Scalar.subi v86 c0_i32_55
  let c1_i32_56 : BitVec 32 := 1#32
  let v89 : BitVec 32 := Scalar.divsi v87 c1_i32_56
  let v90 : BitVec 32 := Scalar.muli v89 c1_i32_56
  let v91 : BitVec 32 := Scalar.addi c0_i32_55 v90
  let c1_i32_58 : BitVec 32 := 1#32
  let arg11 : BitVec 32 := Scf.iv v91 c1_i32_58 k0_t4
  let v100 : BitVec 32 := Scalar.muli c4_i32_65 arg11
  let c1_i32_66 : BitVec 32 := 1#32
  let v101 : BitVec 32 := Scalar.addi v100 c1_i32_66
  let c512_i32 : BitVec 32 := 512#32
  let v102 : BitVec 32 := Scalar.muli v101 c512_i32
  v102
def k0_off49 (i : grid0.Coords) (k0_t4 : Fin (k0_t4_loop i).trips) (c1_i32_66 : BitVec 32) : Fin 3 → Nat :=
  let c0_67 : Index := 0#32
  let c4_i32_65 : BitVec 32 := 4#32
  let c0_i32_55 : BitVec 32 := 0#32
  let arg1 : BitVec 32 := BitVec.ofNat 32 (i 1).val
  let c4_i32 : BitVec 32 := 4#32
  let v8 : BitVec 32 := Scalar.addi arg1 c4_i32
  let c0_i32_48 : BitVec 32 := 0#32
  let v71 : BitVec 1 := Scalar.cmpi .sgt v8 c0_i32_48
  let v72 : BitVec 32 := Scalar.extui v71
  let c0_i32_49 : BitVec 32 := 0#32
  let v73 : BitVec 1 := Scalar.cmpi .slt v8 c0_i32_49
  let v74 : BitVec 32 := Scalar.extui v73
  let v75 : BitVec 32 := Scalar.subi v72 v74
  let c2_i32_47 : BitVec 32 := 2#32
  let c0_i32_50 : BitVec 32 := 0#32
  let v76 : BitVec 1 := Scalar.cmpi .sgt c2_i32_47 c0_i32_50
  let v77 : BitVec 32 := Scalar.extui v76
  let c0_i32_51 : BitVec 32 := 0#32
  let v78 : BitVec 1 := Scalar.cmpi .slt c2_i32_47 c0_i32_51
  let v79 : BitVec 32 := Scalar.extui v78
  let v80 : BitVec 32 := Scalar.subi v77 v79
  let v81 : BitVec 1 := Scalar.cmpi .ne v75 v80
  let v82 : BitVec 32 := Scalar.remsi v8 c2_i32_47
  let c0_i32_52 : BitVec 32 := 0#32
  let v83 : BitVec 1 := Scalar.cmpi .ne v82 c0_i32_52
  let v84 : BitVec 1 := Scalar.andi v81 v83
  let v70 : BitVec 32 := Scalar.divsi v8 c2_i32_47
  let c1_i32_53 : BitVec 32 := 1#32
  let v85 : BitVec 32 := Scalar.subi v70 c1_i32_53
  let v86 : BitVec 32 := Scalar.select v84 v85 v70
  let v87 : BitVec 32 := Scalar.subi v86 c0_i32_55
  let c1_i32_56 : BitVec 32 := 1#32
  let v89 : BitVec 32 := Scalar.divsi v87 c1_i32_56
  let v90 : BitVec 32 := Scalar.muli v89 c1_i32_56
  let v91 : BitVec 32 := Scalar.addi c0_i32_55 v90
  let c1_i32_58 : BitVec 32 := 1#32
  let arg11 : BitVec 32 := Scf.iv v91 c1_i32_58 k0_t4
  let v100 : BitVec 32 := Scalar.muli c4_i32_65 arg11
  let v101 : BitVec 32 := Scalar.addi v100 c1_i32_66
  let c512_i32 : BitVec 32 := 512#32
  let v102 : BitVec 32 := Scalar.muli v101 c512_i32
  let v103 : BitVec 32 := v102
  let v104 : Index := Scalar.indexCast v103
  let c0_68 : Index := 0#32
  ![0, v104.toNat, 0]
def k0_off50 (i : grid0.Coords) (k0_t4 : Fin (k0_t4_loop i).trips) : Fin 4 → Nat :=
  let c0_88 : Index := 0#32
  let c4_i32_65 : BitVec 32 := 4#32
  let c0_i32_55 : BitVec 32 := 0#32
  let arg1 : BitVec 32 := BitVec.ofNat 32 (i 1).val
  let c4_i32 : BitVec 32 := 4#32
  let v8 : BitVec 32 := Scalar.addi arg1 c4_i32
  let c0_i32_48 : BitVec 32 := 0#32
  let v71 : BitVec 1 := Scalar.cmpi .sgt v8 c0_i32_48
  let v72 : BitVec 32 := Scalar.extui v71
  let c0_i32_49 : BitVec 32 := 0#32
  let v73 : BitVec 1 := Scalar.cmpi .slt v8 c0_i32_49
  let v74 : BitVec 32 := Scalar.extui v73
  let v75 : BitVec 32 := Scalar.subi v72 v74
  let c2_i32_47 : BitVec 32 := 2#32
  let c0_i32_50 : BitVec 32 := 0#32
  let v76 : BitVec 1 := Scalar.cmpi .sgt c2_i32_47 c0_i32_50
  let v77 : BitVec 32 := Scalar.extui v76
  let c0_i32_51 : BitVec 32 := 0#32
  let v78 : BitVec 1 := Scalar.cmpi .slt c2_i32_47 c0_i32_51
  let v79 : BitVec 32 := Scalar.extui v78
  let v80 : BitVec 32 := Scalar.subi v77 v79
  let v81 : BitVec 1 := Scalar.cmpi .ne v75 v80
  let v82 : BitVec 32 := Scalar.remsi v8 c2_i32_47
  let c0_i32_52 : BitVec 32 := 0#32
  let v83 : BitVec 1 := Scalar.cmpi .ne v82 c0_i32_52
  let v84 : BitVec 1 := Scalar.andi v81 v83
  let v70 : BitVec 32 := Scalar.divsi v8 c2_i32_47
  let c1_i32_53 : BitVec 32 := 1#32
  let v85 : BitVec 32 := Scalar.subi v70 c1_i32_53
  let v86 : BitVec 32 := Scalar.select v84 v85 v70
  let v87 : BitVec 32 := Scalar.subi v86 c0_i32_55
  let c1_i32_56 : BitVec 32 := 1#32
  let v89 : BitVec 32 := Scalar.divsi v87 c1_i32_56
  let v90 : BitVec 32 := Scalar.muli v89 c1_i32_56
  let v91 : BitVec 32 := Scalar.addi c0_i32_55 v90
  let c1_i32_58 : BitVec 32 := 1#32
  let arg11 : BitVec 32 := Scf.iv v91 c1_i32_58 k0_t4
  let v100 : BitVec 32 := Scalar.muli c4_i32_65 arg11
  let v130 : Index := Scalar.indexCast v100
  let c0_89 : Index := 0#32
  let c0_90 : Index := 0#32
  ![0, v130.toNat, 0, 0]
def k0_mult40 (i : grid0.Coords) (k0_t4 : Fin (k0_t4_loop i).trips) : BitVec 32 :=
  let c4_i32_65 : BitVec 32 := 4#32
  let c0_i32_55 : BitVec 32 := 0#32
  let arg1 : BitVec 32 := BitVec.ofNat 32 (i 1).val
  let c4_i32 : BitVec 32 := 4#32
  let v8 : BitVec 32 := Scalar.addi arg1 c4_i32
  let c0_i32_48 : BitVec 32 := 0#32
  let v71 : BitVec 1 := Scalar.cmpi .sgt v8 c0_i32_48
  let v72 : BitVec 32 := Scalar.extui v71
  let c0_i32_49 : BitVec 32 := 0#32
  let v73 : BitVec 1 := Scalar.cmpi .slt v8 c0_i32_49
  let v74 : BitVec 32 := Scalar.extui v73
  let v75 : BitVec 32 := Scalar.subi v72 v74
  let c2_i32_47 : BitVec 32 := 2#32
  let c0_i32_50 : BitVec 32 := 0#32
  let v76 : BitVec 1 := Scalar.cmpi .sgt c2_i32_47 c0_i32_50
  let v77 : BitVec 32 := Scalar.extui v76
  let c0_i32_51 : BitVec 32 := 0#32
  let v78 : BitVec 1 := Scalar.cmpi .slt c2_i32_47 c0_i32_51
  let v79 : BitVec 32 := Scalar.extui v78
  let v80 : BitVec 32 := Scalar.subi v77 v79
  let v81 : BitVec 1 := Scalar.cmpi .ne v75 v80
  let v82 : BitVec 32 := Scalar.remsi v8 c2_i32_47
  let c0_i32_52 : BitVec 32 := 0#32
  let v83 : BitVec 1 := Scalar.cmpi .ne v82 c0_i32_52
  let v84 : BitVec 1 := Scalar.andi v81 v83
  let v70 : BitVec 32 := Scalar.divsi v8 c2_i32_47
  let c1_i32_53 : BitVec 32 := 1#32
  let v85 : BitVec 32 := Scalar.subi v70 c1_i32_53
  let v86 : BitVec 32 := Scalar.select v84 v85 v70
  let v87 : BitVec 32 := Scalar.subi v86 c0_i32_55
  let c1_i32_56 : BitVec 32 := 1#32
  let v89 : BitVec 32 := Scalar.divsi v87 c1_i32_56
  let v90 : BitVec 32 := Scalar.muli v89 c1_i32_56
  let v91 : BitVec 32 := Scalar.addi c0_i32_55 v90
  let c1_i32_58 : BitVec 32 := 1#32
  let arg11 : BitVec 32 := Scf.iv v91 c1_i32_58 k0_t4
  let v100 : BitVec 32 := Scalar.muli c4_i32_65 arg11
  let c1_i32_100 : BitVec 32 := 1#32
  let v141 : BitVec 32 := Scalar.addi v100 c1_i32_100
  let c512_i32_101 : BitVec 32 := 512#32
  let v142 : BitVec 32 := Scalar.muli v141 c512_i32_101
  v142
def k0_off51 (i : grid0.Coords) (k0_t4 : Fin (k0_t4_loop i).trips) (c1_i32_100 : BitVec 32) : Fin 3 → Nat :=
  let c1_102 : Index := 1#32
  let c4_i32_65 : BitVec 32 := 4#32
  let c0_i32_55 : BitVec 32 := 0#32
  let arg1 : BitVec 32 := BitVec.ofNat 32 (i 1).val
  let c4_i32 : BitVec 32 := 4#32
  let v8 : BitVec 32 := Scalar.addi arg1 c4_i32
  let c0_i32_48 : BitVec 32 := 0#32
  let v71 : BitVec 1 := Scalar.cmpi .sgt v8 c0_i32_48
  let v72 : BitVec 32 := Scalar.extui v71
  let c0_i32_49 : BitVec 32 := 0#32
  let v73 : BitVec 1 := Scalar.cmpi .slt v8 c0_i32_49
  let v74 : BitVec 32 := Scalar.extui v73
  let v75 : BitVec 32 := Scalar.subi v72 v74
  let c2_i32_47 : BitVec 32 := 2#32
  let c0_i32_50 : BitVec 32 := 0#32
  let v76 : BitVec 1 := Scalar.cmpi .sgt c2_i32_47 c0_i32_50
  let v77 : BitVec 32 := Scalar.extui v76
  let c0_i32_51 : BitVec 32 := 0#32
  let v78 : BitVec 1 := Scalar.cmpi .slt c2_i32_47 c0_i32_51
  let v79 : BitVec 32 := Scalar.extui v78
  let v80 : BitVec 32 := Scalar.subi v77 v79
  let v81 : BitVec 1 := Scalar.cmpi .ne v75 v80
  let v82 : BitVec 32 := Scalar.remsi v8 c2_i32_47
  let c0_i32_52 : BitVec 32 := 0#32
  let v83 : BitVec 1 := Scalar.cmpi .ne v82 c0_i32_52
  let v84 : BitVec 1 := Scalar.andi v81 v83
  let v70 : BitVec 32 := Scalar.divsi v8 c2_i32_47
  let c1_i32_53 : BitVec 32 := 1#32
  let v85 : BitVec 32 := Scalar.subi v70 c1_i32_53
  let v86 : BitVec 32 := Scalar.select v84 v85 v70
  let v87 : BitVec 32 := Scalar.subi v86 c0_i32_55
  let c1_i32_56 : BitVec 32 := 1#32
  let v89 : BitVec 32 := Scalar.divsi v87 c1_i32_56
  let v90 : BitVec 32 := Scalar.muli v89 c1_i32_56
  let v91 : BitVec 32 := Scalar.addi c0_i32_55 v90
  let c1_i32_58 : BitVec 32 := 1#32
  let arg11 : BitVec 32 := Scf.iv v91 c1_i32_58 k0_t4
  let v100 : BitVec 32 := Scalar.muli c4_i32_65 arg11
  let v141 : BitVec 32 := Scalar.addi v100 c1_i32_100
  let c512_i32_101 : BitVec 32 := 512#32
  let v142 : BitVec 32 := Scalar.muli v141 c512_i32_101
  let v143 : BitVec 32 := v142
  let v144 : Index := Scalar.indexCast v143
  let c0_103 : Index := 0#32
  ![1, v144.toNat, 0]
def k0_off52 (i : grid0.Coords) (k0_t4 : Fin (k0_t4_loop i).trips) : Fin 4 → Nat :=
  let c1_123 : Index := 1#32
  let c4_i32_65 : BitVec 32 := 4#32
  let c0_i32_55 : BitVec 32 := 0#32
  let arg1 : BitVec 32 := BitVec.ofNat 32 (i 1).val
  let c4_i32 : BitVec 32 := 4#32
  let v8 : BitVec 32 := Scalar.addi arg1 c4_i32
  let c0_i32_48 : BitVec 32 := 0#32
  let v71 : BitVec 1 := Scalar.cmpi .sgt v8 c0_i32_48
  let v72 : BitVec 32 := Scalar.extui v71
  let c0_i32_49 : BitVec 32 := 0#32
  let v73 : BitVec 1 := Scalar.cmpi .slt v8 c0_i32_49
  let v74 : BitVec 32 := Scalar.extui v73
  let v75 : BitVec 32 := Scalar.subi v72 v74
  let c2_i32_47 : BitVec 32 := 2#32
  let c0_i32_50 : BitVec 32 := 0#32
  let v76 : BitVec 1 := Scalar.cmpi .sgt c2_i32_47 c0_i32_50
  let v77 : BitVec 32 := Scalar.extui v76
  let c0_i32_51 : BitVec 32 := 0#32
  let v78 : BitVec 1 := Scalar.cmpi .slt c2_i32_47 c0_i32_51
  let v79 : BitVec 32 := Scalar.extui v78
  let v80 : BitVec 32 := Scalar.subi v77 v79
  let v81 : BitVec 1 := Scalar.cmpi .ne v75 v80
  let v82 : BitVec 32 := Scalar.remsi v8 c2_i32_47
  let c0_i32_52 : BitVec 32 := 0#32
  let v83 : BitVec 1 := Scalar.cmpi .ne v82 c0_i32_52
  let v84 : BitVec 1 := Scalar.andi v81 v83
  let v70 : BitVec 32 := Scalar.divsi v8 c2_i32_47
  let c1_i32_53 : BitVec 32 := 1#32
  let v85 : BitVec 32 := Scalar.subi v70 c1_i32_53
  let v86 : BitVec 32 := Scalar.select v84 v85 v70
  let v87 : BitVec 32 := Scalar.subi v86 c0_i32_55
  let c1_i32_56 : BitVec 32 := 1#32
  let v89 : BitVec 32 := Scalar.divsi v87 c1_i32_56
  let v90 : BitVec 32 := Scalar.muli v89 c1_i32_56
  let v91 : BitVec 32 := Scalar.addi c0_i32_55 v90
  let c1_i32_58 : BitVec 32 := 1#32
  let arg11 : BitVec 32 := Scf.iv v91 c1_i32_58 k0_t4
  let v100 : BitVec 32 := Scalar.muli c4_i32_65 arg11
  let v170 : Index := Scalar.indexCast v100
  let c0_124 : Index := 0#32
  let c0_125 : Index := 0#32
  ![1, v170.toNat, 0, 0]
def k0_mult41 (i : grid0.Coords) (k0_t4 : Fin (k0_t4_loop i).trips) : BitVec 32 :=
  let c4_i32_65 : BitVec 32 := 4#32
  let c0_i32_55 : BitVec 32 := 0#32
  let arg1 : BitVec 32 := BitVec.ofNat 32 (i 1).val
  let c4_i32 : BitVec 32 := 4#32
  let v8 : BitVec 32 := Scalar.addi arg1 c4_i32
  let c0_i32_48 : BitVec 32 := 0#32
  let v71 : BitVec 1 := Scalar.cmpi .sgt v8 c0_i32_48
  let v72 : BitVec 32 := Scalar.extui v71
  let c0_i32_49 : BitVec 32 := 0#32
  let v73 : BitVec 1 := Scalar.cmpi .slt v8 c0_i32_49
  let v74 : BitVec 32 := Scalar.extui v73
  let v75 : BitVec 32 := Scalar.subi v72 v74
  let c2_i32_47 : BitVec 32 := 2#32
  let c0_i32_50 : BitVec 32 := 0#32
  let v76 : BitVec 1 := Scalar.cmpi .sgt c2_i32_47 c0_i32_50
  let v77 : BitVec 32 := Scalar.extui v76
  let c0_i32_51 : BitVec 32 := 0#32
  let v78 : BitVec 1 := Scalar.cmpi .slt c2_i32_47 c0_i32_51
  let v79 : BitVec 32 := Scalar.extui v78
  let v80 : BitVec 32 := Scalar.subi v77 v79
  let v81 : BitVec 1 := Scalar.cmpi .ne v75 v80
  let v82 : BitVec 32 := Scalar.remsi v8 c2_i32_47
  let c0_i32_52 : BitVec 32 := 0#32
  let v83 : BitVec 1 := Scalar.cmpi .ne v82 c0_i32_52
  let v84 : BitVec 1 := Scalar.andi v81 v83
  let v70 : BitVec 32 := Scalar.divsi v8 c2_i32_47
  let c1_i32_53 : BitVec 32 := 1#32
  let v85 : BitVec 32 := Scalar.subi v70 c1_i32_53
  let v86 : BitVec 32 := Scalar.select v84 v85 v70
  let v87 : BitVec 32 := Scalar.subi v86 c0_i32_55
  let c1_i32_56 : BitVec 32 := 1#32
  let v89 : BitVec 32 := Scalar.divsi v87 c1_i32_56
  let v90 : BitVec 32 := Scalar.muli v89 c1_i32_56
  let v91 : BitVec 32 := Scalar.addi c0_i32_55 v90
  let c1_i32_58 : BitVec 32 := 1#32
  let arg11 : BitVec 32 := Scf.iv v91 c1_i32_58 k0_t4
  let v100 : BitVec 32 := Scalar.muli c4_i32_65 arg11
  let c2_i32_135 : BitVec 32 := 2#32
  let v181 : BitVec 32 := Scalar.addi v100 c2_i32_135
  let c512_i32_136 : BitVec 32 := 512#32
  let v182 : BitVec 32 := Scalar.muli v181 c512_i32_136
  v182
def k0_off53 (i : grid0.Coords) (k0_t4 : Fin (k0_t4_loop i).trips) (c1_i32_146 : BitVec 32) : Fin 4 → Nat :=
  let c0_159 : Index := 0#32
  let c4_i32_65 : BitVec 32 := 4#32
  let c0_i32_55 : BitVec 32 := 0#32
  let arg1 : BitVec 32 := BitVec.ofNat 32 (i 1).val
  let c4_i32 : BitVec 32 := 4#32
  let v8 : BitVec 32 := Scalar.addi arg1 c4_i32
  let c0_i32_48 : BitVec 32 := 0#32
  let v71 : BitVec 1 := Scalar.cmpi .sgt v8 c0_i32_48
  let v72 : BitVec 32 := Scalar.extui v71
  let c0_i32_49 : BitVec 32 := 0#32
  let v73 : BitVec 1 := Scalar.cmpi .slt v8 c0_i32_49
  let v74 : BitVec 32 := Scalar.extui v73
  let v75 : BitVec 32 := Scalar.subi v72 v74
  let c2_i32_47 : BitVec 32 := 2#32
  let c0_i32_50 : BitVec 32 := 0#32
  let v76 : BitVec 1 := Scalar.cmpi .sgt c2_i32_47 c0_i32_50
  let v77 : BitVec 32 := Scalar.extui v76
  let c0_i32_51 : BitVec 32 := 0#32
  let v78 : BitVec 1 := Scalar.cmpi .slt c2_i32_47 c0_i32_51
  let v79 : BitVec 32 := Scalar.extui v78
  let v80 : BitVec 32 := Scalar.subi v77 v79
  let v81 : BitVec 1 := Scalar.cmpi .ne v75 v80
  let v82 : BitVec 32 := Scalar.remsi v8 c2_i32_47
  let c0_i32_52 : BitVec 32 := 0#32
  let v83 : BitVec 1 := Scalar.cmpi .ne v82 c0_i32_52
  let v84 : BitVec 1 := Scalar.andi v81 v83
  let v70 : BitVec 32 := Scalar.divsi v8 c2_i32_47
  let c1_i32_53 : BitVec 32 := 1#32
  let v85 : BitVec 32 := Scalar.subi v70 c1_i32_53
  let v86 : BitVec 32 := Scalar.select v84 v85 v70
  let v87 : BitVec 32 := Scalar.subi v86 c0_i32_55
  let c1_i32_56 : BitVec 32 := 1#32
  let v89 : BitVec 32 := Scalar.divsi v87 c1_i32_56
  let v90 : BitVec 32 := Scalar.muli v89 c1_i32_56
  let v91 : BitVec 32 := Scalar.addi c0_i32_55 v90
  let c1_i32_58 : BitVec 32 := 1#32
  let arg11 : BitVec 32 := Scf.iv v91 c1_i32_58 k0_t4
  let v100 : BitVec 32 := Scalar.muli c4_i32_65 arg11
  let v193 : BitVec 32 := Scalar.addi v100 c1_i32_146
  let v211 : Index := Scalar.indexCast v193
  let c0_160 : Index := 0#32
  let c0_161 : Index := 0#32
  ![0, v211.toNat, 0, 0]
def k0_mult42 (i : grid0.Coords) (k0_t4 : Fin (k0_t4_loop i).trips) : BitVec 32 :=
  let c4_i32_65 : BitVec 32 := 4#32
  let c0_i32_55 : BitVec 32 := 0#32
  let arg1 : BitVec 32 := BitVec.ofNat 32 (i 1).val
  let c4_i32 : BitVec 32 := 4#32
  let v8 : BitVec 32 := Scalar.addi arg1 c4_i32
  let c0_i32_48 : BitVec 32 := 0#32
  let v71 : BitVec 1 := Scalar.cmpi .sgt v8 c0_i32_48
  let v72 : BitVec 32 := Scalar.extui v71
  let c0_i32_49 : BitVec 32 := 0#32
  let v73 : BitVec 1 := Scalar.cmpi .slt v8 c0_i32_49
  let v74 : BitVec 32 := Scalar.extui v73
  let v75 : BitVec 32 := Scalar.subi v72 v74
  let c2_i32_47 : BitVec 32 := 2#32
  let c0_i32_50 : BitVec 32 := 0#32
  let v76 : BitVec 1 := Scalar.cmpi .sgt c2_i32_47 c0_i32_50
  let v77 : BitVec 32 := Scalar.extui v76
  let c0_i32_51 : BitVec 32 := 0#32
  let v78 : BitVec 1 := Scalar.cmpi .slt c2_i32_47 c0_i32_51
  let v79 : BitVec 32 := Scalar.extui v78
  let v80 : BitVec 32 := Scalar.subi v77 v79
  let v81 : BitVec 1 := Scalar.cmpi .ne v75 v80
  let v82 : BitVec 32 := Scalar.remsi v8 c2_i32_47
  let c0_i32_52 : BitVec 32 := 0#32
  let v83 : BitVec 1 := Scalar.cmpi .ne v82 c0_i32_52
  let v84 : BitVec 1 := Scalar.andi v81 v83
  let v70 : BitVec 32 := Scalar.divsi v8 c2_i32_47
  let c1_i32_53 : BitVec 32 := 1#32
  let v85 : BitVec 32 := Scalar.subi v70 c1_i32_53
  let v86 : BitVec 32 := Scalar.select v84 v85 v70
  let v87 : BitVec 32 := Scalar.subi v86 c0_i32_55
  let c1_i32_56 : BitVec 32 := 1#32
  let v89 : BitVec 32 := Scalar.divsi v87 c1_i32_56
  let v90 : BitVec 32 := Scalar.muli v89 c1_i32_56
  let v91 : BitVec 32 := Scalar.addi c0_i32_55 v90
  let c1_i32_58 : BitVec 32 := 1#32
  let arg11 : BitVec 32 := Scf.iv v91 c1_i32_58 k0_t4
  let v100 : BitVec 32 := Scalar.muli c4_i32_65 arg11
  let c2_i32_171 : BitVec 32 := 2#32
  let v222 : BitVec 32 := Scalar.addi v100 c2_i32_171
  let c512_i32_172 : BitVec 32 := 512#32
  let v223 : BitVec 32 := Scalar.muli v222 c512_i32_172
  v223
def k0_off54 (i : grid0.Coords) (k0_t4 : Fin (k0_t4_loop i).trips) (c1_i32_182 : BitVec 32) : Fin 4 → Nat :=
  let c1_195 : Index := 1#32
  let c4_i32_65 : BitVec 32 := 4#32
  let c0_i32_55 : BitVec 32 := 0#32
  let arg1 : BitVec 32 := BitVec.ofNat 32 (i 1).val
  let c4_i32 : BitVec 32 := 4#32
  let v8 : BitVec 32 := Scalar.addi arg1 c4_i32
  let c0_i32_48 : BitVec 32 := 0#32
  let v71 : BitVec 1 := Scalar.cmpi .sgt v8 c0_i32_48
  let v72 : BitVec 32 := Scalar.extui v71
  let c0_i32_49 : BitVec 32 := 0#32
  let v73 : BitVec 1 := Scalar.cmpi .slt v8 c0_i32_49
  let v74 : BitVec 32 := Scalar.extui v73
  let v75 : BitVec 32 := Scalar.subi v72 v74
  let c2_i32_47 : BitVec 32 := 2#32
  let c0_i32_50 : BitVec 32 := 0#32
  let v76 : BitVec 1 := Scalar.cmpi .sgt c2_i32_47 c0_i32_50
  let v77 : BitVec 32 := Scalar.extui v76
  let c0_i32_51 : BitVec 32 := 0#32
  let v78 : BitVec 1 := Scalar.cmpi .slt c2_i32_47 c0_i32_51
  let v79 : BitVec 32 := Scalar.extui v78
  let v80 : BitVec 32 := Scalar.subi v77 v79
  let v81 : BitVec 1 := Scalar.cmpi .ne v75 v80
  let v82 : BitVec 32 := Scalar.remsi v8 c2_i32_47
  let c0_i32_52 : BitVec 32 := 0#32
  let v83 : BitVec 1 := Scalar.cmpi .ne v82 c0_i32_52
  let v84 : BitVec 1 := Scalar.andi v81 v83
  let v70 : BitVec 32 := Scalar.divsi v8 c2_i32_47
  let c1_i32_53 : BitVec 32 := 1#32
  let v85 : BitVec 32 := Scalar.subi v70 c1_i32_53
  let v86 : BitVec 32 := Scalar.select v84 v85 v70
  let v87 : BitVec 32 := Scalar.subi v86 c0_i32_55
  let c1_i32_56 : BitVec 32 := 1#32
  let v89 : BitVec 32 := Scalar.divsi v87 c1_i32_56
  let v90 : BitVec 32 := Scalar.muli v89 c1_i32_56
  let v91 : BitVec 32 := Scalar.addi c0_i32_55 v90
  let c1_i32_58 : BitVec 32 := 1#32
  let arg11 : BitVec 32 := Scf.iv v91 c1_i32_58 k0_t4
  let v100 : BitVec 32 := Scalar.muli c4_i32_65 arg11
  let v234 : BitVec 32 := Scalar.addi v100 c1_i32_182
  let v252 : Index := Scalar.indexCast v234
  let c0_196 : Index := 0#32
  let c0_197 : Index := 0#32
  ![1, v252.toNat, 0, 0]
def k0_mult43 (i : grid0.Coords) (k0_t4 : Fin (k0_t4_loop i).trips) : BitVec 32 :=
  let c4_i32_207 : BitVec 32 := 4#32
  let c0_i32_55 : BitVec 32 := 0#32
  let arg1 : BitVec 32 := BitVec.ofNat 32 (i 1).val
  let c4_i32 : BitVec 32 := 4#32
  let v8 : BitVec 32 := Scalar.addi arg1 c4_i32
  let c0_i32_48 : BitVec 32 := 0#32
  let v71 : BitVec 1 := Scalar.cmpi .sgt v8 c0_i32_48
  let v72 : BitVec 32 := Scalar.extui v71
  let c0_i32_49 : BitVec 32 := 0#32
  let v73 : BitVec 1 := Scalar.cmpi .slt v8 c0_i32_49
  let v74 : BitVec 32 := Scalar.extui v73
  let v75 : BitVec 32 := Scalar.subi v72 v74
  let c2_i32_47 : BitVec 32 := 2#32
  let c0_i32_50 : BitVec 32 := 0#32
  let v76 : BitVec 1 := Scalar.cmpi .sgt c2_i32_47 c0_i32_50
  let v77 : BitVec 32 := Scalar.extui v76
  let c0_i32_51 : BitVec 32 := 0#32
  let v78 : BitVec 1 := Scalar.cmpi .slt c2_i32_47 c0_i32_51
  let v79 : BitVec 32 := Scalar.extui v78
  let v80 : BitVec 32 := Scalar.subi v77 v79
  let v81 : BitVec 1 := Scalar.cmpi .ne v75 v80
  let v82 : BitVec 32 := Scalar.remsi v8 c2_i32_47
  let c0_i32_52 : BitVec 32 := 0#32
  let v83 : BitVec 1 := Scalar.cmpi .ne v82 c0_i32_52
  let v84 : BitVec 1 := Scalar.andi v81 v83
  let v70 : BitVec 32 := Scalar.divsi v8 c2_i32_47
  let c1_i32_53 : BitVec 32 := 1#32
  let v85 : BitVec 32 := Scalar.subi v70 c1_i32_53
  let v86 : BitVec 32 := Scalar.select v84 v85 v70
  let v87 : BitVec 32 := Scalar.subi v86 c0_i32_55
  let c1_i32_56 : BitVec 32 := 1#32
  let v89 : BitVec 32 := Scalar.divsi v87 c1_i32_56
  let v90 : BitVec 32 := Scalar.muli v89 c1_i32_56
  let v91 : BitVec 32 := Scalar.addi c0_i32_55 v90
  let c1_i32_58 : BitVec 32 := 1#32
  let arg11 : BitVec 32 := Scf.iv v91 c1_i32_58 k0_t4
  let v263 : BitVec 32 := Scalar.muli c4_i32_207 arg11
  let c2_i32_208 : BitVec 32 := 2#32
  let v264 : BitVec 32 := Scalar.addi v263 c2_i32_208
  let c1_i32_209 : BitVec 32 := 1#32
  let v265 : BitVec 32 := Scalar.addi v264 c1_i32_209
  let c512_i32_210 : BitVec 32 := 512#32
  let v266 : BitVec 32 := Scalar.muli v265 c512_i32_210
  v266
def k0_off55 (i : grid0.Coords) (k0_t4 : Fin (k0_t4_loop i).trips) (c1_i32_209 : BitVec 32) : Fin 3 → Nat :=
  let c0_211 : Index := 0#32
  let c4_i32_207 : BitVec 32 := 4#32
  let c0_i32_55 : BitVec 32 := 0#32
  let arg1 : BitVec 32 := BitVec.ofNat 32 (i 1).val
  let c4_i32 : BitVec 32 := 4#32
  let v8 : BitVec 32 := Scalar.addi arg1 c4_i32
  let c0_i32_48 : BitVec 32 := 0#32
  let v71 : BitVec 1 := Scalar.cmpi .sgt v8 c0_i32_48
  let v72 : BitVec 32 := Scalar.extui v71
  let c0_i32_49 : BitVec 32 := 0#32
  let v73 : BitVec 1 := Scalar.cmpi .slt v8 c0_i32_49
  let v74 : BitVec 32 := Scalar.extui v73
  let v75 : BitVec 32 := Scalar.subi v72 v74
  let c2_i32_47 : BitVec 32 := 2#32
  let c0_i32_50 : BitVec 32 := 0#32
  let v76 : BitVec 1 := Scalar.cmpi .sgt c2_i32_47 c0_i32_50
  let v77 : BitVec 32 := Scalar.extui v76
  let c0_i32_51 : BitVec 32 := 0#32
  let v78 : BitVec 1 := Scalar.cmpi .slt c2_i32_47 c0_i32_51
  let v79 : BitVec 32 := Scalar.extui v78
  let v80 : BitVec 32 := Scalar.subi v77 v79
  let v81 : BitVec 1 := Scalar.cmpi .ne v75 v80
  let v82 : BitVec 32 := Scalar.remsi v8 c2_i32_47
  let c0_i32_52 : BitVec 32 := 0#32
  let v83 : BitVec 1 := Scalar.cmpi .ne v82 c0_i32_52
  let v84 : BitVec 1 := Scalar.andi v81 v83
  let v70 : BitVec 32 := Scalar.divsi v8 c2_i32_47
  let c1_i32_53 : BitVec 32 := 1#32
  let v85 : BitVec 32 := Scalar.subi v70 c1_i32_53
  let v86 : BitVec 32 := Scalar.select v84 v85 v70
  let v87 : BitVec 32 := Scalar.subi v86 c0_i32_55
  let c1_i32_56 : BitVec 32 := 1#32
  let v89 : BitVec 32 := Scalar.divsi v87 c1_i32_56
  let v90 : BitVec 32 := Scalar.muli v89 c1_i32_56
  let v91 : BitVec 32 := Scalar.addi c0_i32_55 v90
  let c1_i32_58 : BitVec 32 := 1#32
  let arg11 : BitVec 32 := Scf.iv v91 c1_i32_58 k0_t4
  let v263 : BitVec 32 := Scalar.muli c4_i32_207 arg11
  let c2_i32_208 : BitVec 32 := 2#32
  let v264 : BitVec 32 := Scalar.addi v263 c2_i32_208
  let v265 : BitVec 32 := Scalar.addi v264 c1_i32_209
  let c512_i32_210 : BitVec 32 := 512#32
  let v266 : BitVec 32 := Scalar.muli v265 c512_i32_210
  let v267 : BitVec 32 := v266
  let v268 : Index := Scalar.indexCast v267
  let c0_212 : Index := 0#32
  ![0, v268.toNat, 0]
def k0_mult44 (i : grid0.Coords) (k0_t4 : Fin (k0_t4_loop i).trips) : BitVec 32 :=
  let c4_i32_207 : BitVec 32 := 4#32
  let c0_i32_55 : BitVec 32 := 0#32
  let arg1 : BitVec 32 := BitVec.ofNat 32 (i 1).val
  let c4_i32 : BitVec 32 := 4#32
  let v8 : BitVec 32 := Scalar.addi arg1 c4_i32
  let c0_i32_48 : BitVec 32 := 0#32
  let v71 : BitVec 1 := Scalar.cmpi .sgt v8 c0_i32_48
  let v72 : BitVec 32 := Scalar.extui v71
  let c0_i32_49 : BitVec 32 := 0#32
  let v73 : BitVec 1 := Scalar.cmpi .slt v8 c0_i32_49
  let v74 : BitVec 32 := Scalar.extui v73
  let v75 : BitVec 32 := Scalar.subi v72 v74
  let c2_i32_47 : BitVec 32 := 2#32
  let c0_i32_50 : BitVec 32 := 0#32
  let v76 : BitVec 1 := Scalar.cmpi .sgt c2_i32_47 c0_i32_50
  let v77 : BitVec 32 := Scalar.extui v76
  let c0_i32_51 : BitVec 32 := 0#32
  let v78 : BitVec 1 := Scalar.cmpi .slt c2_i32_47 c0_i32_51
  let v79 : BitVec 32 := Scalar.extui v78
  let v80 : BitVec 32 := Scalar.subi v77 v79
  let v81 : BitVec 1 := Scalar.cmpi .ne v75 v80
  let v82 : BitVec 32 := Scalar.remsi v8 c2_i32_47
  let c0_i32_52 : BitVec 32 := 0#32
  let v83 : BitVec 1 := Scalar.cmpi .ne v82 c0_i32_52
  let v84 : BitVec 1 := Scalar.andi v81 v83
  let v70 : BitVec 32 := Scalar.divsi v8 c2_i32_47
  let c1_i32_53 : BitVec 32 := 1#32
  let v85 : BitVec 32 := Scalar.subi v70 c1_i32_53
  let v86 : BitVec 32 := Scalar.select v84 v85 v70
  let v87 : BitVec 32 := Scalar.subi v86 c0_i32_55
  let c1_i32_56 : BitVec 32 := 1#32
  let v89 : BitVec 32 := Scalar.divsi v87 c1_i32_56
  let v90 : BitVec 32 := Scalar.muli v89 c1_i32_56
  let v91 : BitVec 32 := Scalar.addi c0_i32_55 v90
  let c1_i32_58 : BitVec 32 := 1#32
  let arg11 : BitVec 32 := Scf.iv v91 c1_i32_58 k0_t4
  let v263 : BitVec 32 := Scalar.muli c4_i32_207 arg11
  let c2_i32_208 : BitVec 32 := 2#32
  let v264 : BitVec 32 := Scalar.addi v263 c2_i32_208
  let c1_i32_244 : BitVec 32 := 1#32
  let v305 : BitVec 32 := Scalar.addi v264 c1_i32_244
  let c512_i32_245 : BitVec 32 := 512#32
  let v306 : BitVec 32 := Scalar.muli v305 c512_i32_245
  v306
def k0_off56 (i : grid0.Coords) (k0_t4 : Fin (k0_t4_loop i).trips) (c1_i32_244 : BitVec 32) : Fin 3 → Nat :=
  let c1_246 : Index := 1#32
  let c4_i32_207 : BitVec 32 := 4#32
  let c0_i32_55 : BitVec 32 := 0#32
  let arg1 : BitVec 32 := BitVec.ofNat 32 (i 1).val
  let c4_i32 : BitVec 32 := 4#32
  let v8 : BitVec 32 := Scalar.addi arg1 c4_i32
  let c0_i32_48 : BitVec 32 := 0#32
  let v71 : BitVec 1 := Scalar.cmpi .sgt v8 c0_i32_48
  let v72 : BitVec 32 := Scalar.extui v71
  let c0_i32_49 : BitVec 32 := 0#32
  let v73 : BitVec 1 := Scalar.cmpi .slt v8 c0_i32_49
  let v74 : BitVec 32 := Scalar.extui v73
  let v75 : BitVec 32 := Scalar.subi v72 v74
  let c2_i32_47 : BitVec 32 := 2#32
  let c0_i32_50 : BitVec 32 := 0#32
  let v76 : BitVec 1 := Scalar.cmpi .sgt c2_i32_47 c0_i32_50
  let v77 : BitVec 32 := Scalar.extui v76
  let c0_i32_51 : BitVec 32 := 0#32
  let v78 : BitVec 1 := Scalar.cmpi .slt c2_i32_47 c0_i32_51
  let v79 : BitVec 32 := Scalar.extui v78
  let v80 : BitVec 32 := Scalar.subi v77 v79
  let v81 : BitVec 1 := Scalar.cmpi .ne v75 v80
  let v82 : BitVec 32 := Scalar.remsi v8 c2_i32_47
  let c0_i32_52 : BitVec 32 := 0#32
  let v83 : BitVec 1 := Scalar.cmpi .ne v82 c0_i32_52
  let v84 : BitVec 1 := Scalar.andi v81 v83
  let v70 : BitVec 32 := Scalar.divsi v8 c2_i32_47
  let c1_i32_53 : BitVec 32 := 1#32
  let v85 : BitVec 32 := Scalar.subi v70 c1_i32_53
  let v86 : BitVec 32 := Scalar.select v84 v85 v70
  let v87 : BitVec 32 := Scalar.subi v86 c0_i32_55
  let c1_i32_56 : BitVec 32 := 1#32
  let v89 : BitVec 32 := Scalar.divsi v87 c1_i32_56
  let v90 : BitVec 32 := Scalar.muli v89 c1_i32_56
  let v91 : BitVec 32 := Scalar.addi c0_i32_55 v90
  let c1_i32_58 : BitVec 32 := 1#32
  let arg11 : BitVec 32 := Scf.iv v91 c1_i32_58 k0_t4
  let v263 : BitVec 32 := Scalar.muli c4_i32_207 arg11
  let c2_i32_208 : BitVec 32 := 2#32
  let v264 : BitVec 32 := Scalar.addi v263 c2_i32_208
  let v305 : BitVec 32 := Scalar.addi v264 c1_i32_244
  let c512_i32_245 : BitVec 32 := 512#32
  let v306 : BitVec 32 := Scalar.muli v305 c512_i32_245
  let v307 : BitVec 32 := v306
  let v308 : Index := Scalar.indexCast v307
  let c0_247 : Index := 0#32
  ![1, v308.toNat, 0]
def k0_mult45 (i : grid0.Coords) (k0_t4 : Fin (k0_t4_loop i).trips) : BitVec 32 :=
  let c4_i32_207 : BitVec 32 := 4#32
  let c0_i32_55 : BitVec 32 := 0#32
  let arg1 : BitVec 32 := BitVec.ofNat 32 (i 1).val
  let c4_i32 : BitVec 32 := 4#32
  let v8 : BitVec 32 := Scalar.addi arg1 c4_i32
  let c0_i32_48 : BitVec 32 := 0#32
  let v71 : BitVec 1 := Scalar.cmpi .sgt v8 c0_i32_48
  let v72 : BitVec 32 := Scalar.extui v71
  let c0_i32_49 : BitVec 32 := 0#32
  let v73 : BitVec 1 := Scalar.cmpi .slt v8 c0_i32_49
  let v74 : BitVec 32 := Scalar.extui v73
  let v75 : BitVec 32 := Scalar.subi v72 v74
  let c2_i32_47 : BitVec 32 := 2#32
  let c0_i32_50 : BitVec 32 := 0#32
  let v76 : BitVec 1 := Scalar.cmpi .sgt c2_i32_47 c0_i32_50
  let v77 : BitVec 32 := Scalar.extui v76
  let c0_i32_51 : BitVec 32 := 0#32
  let v78 : BitVec 1 := Scalar.cmpi .slt c2_i32_47 c0_i32_51
  let v79 : BitVec 32 := Scalar.extui v78
  let v80 : BitVec 32 := Scalar.subi v77 v79
  let v81 : BitVec 1 := Scalar.cmpi .ne v75 v80
  let v82 : BitVec 32 := Scalar.remsi v8 c2_i32_47
  let c0_i32_52 : BitVec 32 := 0#32
  let v83 : BitVec 1 := Scalar.cmpi .ne v82 c0_i32_52
  let v84 : BitVec 1 := Scalar.andi v81 v83
  let v70 : BitVec 32 := Scalar.divsi v8 c2_i32_47
  let c1_i32_53 : BitVec 32 := 1#32
  let v85 : BitVec 32 := Scalar.subi v70 c1_i32_53
  let v86 : BitVec 32 := Scalar.select v84 v85 v70
  let v87 : BitVec 32 := Scalar.subi v86 c0_i32_55
  let c1_i32_56 : BitVec 32 := 1#32
  let v89 : BitVec 32 := Scalar.divsi v87 c1_i32_56
  let v90 : BitVec 32 := Scalar.muli v89 c1_i32_56
  let v91 : BitVec 32 := Scalar.addi c0_i32_55 v90
  let c1_i32_58 : BitVec 32 := 1#32
  let arg11 : BitVec 32 := Scf.iv v91 c1_i32_58 k0_t4
  let v263 : BitVec 32 := Scalar.muli c4_i32_207 arg11
  let c2_i32_208 : BitVec 32 := 2#32
  let v264 : BitVec 32 := Scalar.addi v263 c2_i32_208
  let c2_i32_279 : BitVec 32 := 2#32
  let v345 : BitVec 32 := Scalar.addi v264 c2_i32_279
  let c512_i32_280 : BitVec 32 := 512#32
  let v346 : BitVec 32 := Scalar.muli v345 c512_i32_280
  v346
def k0_off57 (i : grid0.Coords) (k0_t4 : Fin (k0_t4_loop i).trips) : Fin 4 → Nat :=
  let c0_303 : Index := 0#32
  let c4_i32_207 : BitVec 32 := 4#32
  let c0_i32_55 : BitVec 32 := 0#32
  let arg1 : BitVec 32 := BitVec.ofNat 32 (i 1).val
  let c4_i32 : BitVec 32 := 4#32
  let v8 : BitVec 32 := Scalar.addi arg1 c4_i32
  let c0_i32_48 : BitVec 32 := 0#32
  let v71 : BitVec 1 := Scalar.cmpi .sgt v8 c0_i32_48
  let v72 : BitVec 32 := Scalar.extui v71
  let c0_i32_49 : BitVec 32 := 0#32
  let v73 : BitVec 1 := Scalar.cmpi .slt v8 c0_i32_49
  let v74 : BitVec 32 := Scalar.extui v73
  let v75 : BitVec 32 := Scalar.subi v72 v74
  let c2_i32_47 : BitVec 32 := 2#32
  let c0_i32_50 : BitVec 32 := 0#32
  let v76 : BitVec 1 := Scalar.cmpi .sgt c2_i32_47 c0_i32_50
  let v77 : BitVec 32 := Scalar.extui v76
  let c0_i32_51 : BitVec 32 := 0#32
  let v78 : BitVec 1 := Scalar.cmpi .slt c2_i32_47 c0_i32_51
  let v79 : BitVec 32 := Scalar.extui v78
  let v80 : BitVec 32 := Scalar.subi v77 v79
  let v81 : BitVec 1 := Scalar.cmpi .ne v75 v80
  let v82 : BitVec 32 := Scalar.remsi v8 c2_i32_47
  let c0_i32_52 : BitVec 32 := 0#32
  let v83 : BitVec 1 := Scalar.cmpi .ne v82 c0_i32_52
  let v84 : BitVec 1 := Scalar.andi v81 v83
  let v70 : BitVec 32 := Scalar.divsi v8 c2_i32_47
  let c1_i32_53 : BitVec 32 := 1#32
  let v85 : BitVec 32 := Scalar.subi v70 c1_i32_53
  let v86 : BitVec 32 := Scalar.select v84 v85 v70
  let v87 : BitVec 32 := Scalar.subi v86 c0_i32_55
  let c1_i32_56 : BitVec 32 := 1#32
  let v89 : BitVec 32 := Scalar.divsi v87 c1_i32_56
  let v90 : BitVec 32 := Scalar.muli v89 c1_i32_56
  let v91 : BitVec 32 := Scalar.addi c0_i32_55 v90
  let c1_i32_58 : BitVec 32 := 1#32
  let arg11 : BitVec 32 := Scf.iv v91 c1_i32_58 k0_t4
  let v263 : BitVec 32 := Scalar.muli c4_i32_207 arg11
  let c2_i32_208 : BitVec 32 := 2#32
  let v264 : BitVec 32 := Scalar.addi v263 c2_i32_208
  let c1_i32_290 : BitVec 32 := 1#32
  let v357 : BitVec 32 := Scalar.addi v264 c1_i32_290
  let v375 : Index := Scalar.indexCast v357
  let c0_304 : Index := 0#32
  let c0_305 : Index := 0#32
  ![0, v375.toNat, 0, 0]
def k0_mult46 (i : grid0.Coords) (k0_t4 : Fin (k0_t4_loop i).trips) : BitVec 32 :=
  let c4_i32_207 : BitVec 32 := 4#32
  let c0_i32_55 : BitVec 32 := 0#32
  let arg1 : BitVec 32 := BitVec.ofNat 32 (i 1).val
  let c4_i32 : BitVec 32 := 4#32
  let v8 : BitVec 32 := Scalar.addi arg1 c4_i32
  let c0_i32_48 : BitVec 32 := 0#32
  let v71 : BitVec 1 := Scalar.cmpi .sgt v8 c0_i32_48
  let v72 : BitVec 32 := Scalar.extui v71
  let c0_i32_49 : BitVec 32 := 0#32
  let v73 : BitVec 1 := Scalar.cmpi .slt v8 c0_i32_49
  let v74 : BitVec 32 := Scalar.extui v73
  let v75 : BitVec 32 := Scalar.subi v72 v74
  let c2_i32_47 : BitVec 32 := 2#32
  let c0_i32_50 : BitVec 32 := 0#32
  let v76 : BitVec 1 := Scalar.cmpi .sgt c2_i32_47 c0_i32_50
  let v77 : BitVec 32 := Scalar.extui v76
  let c0_i32_51 : BitVec 32 := 0#32
  let v78 : BitVec 1 := Scalar.cmpi .slt c2_i32_47 c0_i32_51
  let v79 : BitVec 32 := Scalar.extui v78
  let v80 : BitVec 32 := Scalar.subi v77 v79
  let v81 : BitVec 1 := Scalar.cmpi .ne v75 v80
  let v82 : BitVec 32 := Scalar.remsi v8 c2_i32_47
  let c0_i32_52 : BitVec 32 := 0#32
  let v83 : BitVec 1 := Scalar.cmpi .ne v82 c0_i32_52
  let v84 : BitVec 1 := Scalar.andi v81 v83
  let v70 : BitVec 32 := Scalar.divsi v8 c2_i32_47
  let c1_i32_53 : BitVec 32 := 1#32
  let v85 : BitVec 32 := Scalar.subi v70 c1_i32_53
  let v86 : BitVec 32 := Scalar.select v84 v85 v70
  let v87 : BitVec 32 := Scalar.subi v86 c0_i32_55
  let c1_i32_56 : BitVec 32 := 1#32
  let v89 : BitVec 32 := Scalar.divsi v87 c1_i32_56
  let v90 : BitVec 32 := Scalar.muli v89 c1_i32_56
  let v91 : BitVec 32 := Scalar.addi c0_i32_55 v90
  let c1_i32_58 : BitVec 32 := 1#32
  let arg11 : BitVec 32 := Scf.iv v91 c1_i32_58 k0_t4
  let v263 : BitVec 32 := Scalar.muli c4_i32_207 arg11
  let c2_i32_208 : BitVec 32 := 2#32
  let v264 : BitVec 32 := Scalar.addi v263 c2_i32_208
  let c2_i32_315 : BitVec 32 := 2#32
  let v386 : BitVec 32 := Scalar.addi v264 c2_i32_315
  let c512_i32_316 : BitVec 32 := 512#32
  let v387 : BitVec 32 := Scalar.muli v386 c512_i32_316
  v387
def k0_off58 (i : grid0.Coords) (k0_t4 : Fin (k0_t4_loop i).trips) : Fin 4 → Nat :=
  let c1_339 : Index := 1#32
  let c4_i32_207 : BitVec 32 := 4#32
  let c0_i32_55 : BitVec 32 := 0#32
  let arg1 : BitVec 32 := BitVec.ofNat 32 (i 1).val
  let c4_i32 : BitVec 32 := 4#32
  let v8 : BitVec 32 := Scalar.addi arg1 c4_i32
  let c0_i32_48 : BitVec 32 := 0#32
  let v71 : BitVec 1 := Scalar.cmpi .sgt v8 c0_i32_48
  let v72 : BitVec 32 := Scalar.extui v71
  let c0_i32_49 : BitVec 32 := 0#32
  let v73 : BitVec 1 := Scalar.cmpi .slt v8 c0_i32_49
  let v74 : BitVec 32 := Scalar.extui v73
  let v75 : BitVec 32 := Scalar.subi v72 v74
  let c2_i32_47 : BitVec 32 := 2#32
  let c0_i32_50 : BitVec 32 := 0#32
  let v76 : BitVec 1 := Scalar.cmpi .sgt c2_i32_47 c0_i32_50
  let v77 : BitVec 32 := Scalar.extui v76
  let c0_i32_51 : BitVec 32 := 0#32
  let v78 : BitVec 1 := Scalar.cmpi .slt c2_i32_47 c0_i32_51
  let v79 : BitVec 32 := Scalar.extui v78
  let v80 : BitVec 32 := Scalar.subi v77 v79
  let v81 : BitVec 1 := Scalar.cmpi .ne v75 v80
  let v82 : BitVec 32 := Scalar.remsi v8 c2_i32_47
  let c0_i32_52 : BitVec 32 := 0#32
  let v83 : BitVec 1 := Scalar.cmpi .ne v82 c0_i32_52
  let v84 : BitVec 1 := Scalar.andi v81 v83
  let v70 : BitVec 32 := Scalar.divsi v8 c2_i32_47
  let c1_i32_53 : BitVec 32 := 1#32
  let v85 : BitVec 32 := Scalar.subi v70 c1_i32_53
  let v86 : BitVec 32 := Scalar.select v84 v85 v70
  let v87 : BitVec 32 := Scalar.subi v86 c0_i32_55
  let c1_i32_56 : BitVec 32 := 1#32
  let v89 : BitVec 32 := Scalar.divsi v87 c1_i32_56
  let v90 : BitVec 32 := Scalar.muli v89 c1_i32_56
  let v91 : BitVec 32 := Scalar.addi c0_i32_55 v90
  let c1_i32_58 : BitVec 32 := 1#32
  let arg11 : BitVec 32 := Scf.iv v91 c1_i32_58 k0_t4
  let v263 : BitVec 32 := Scalar.muli c4_i32_207 arg11
  let c2_i32_208 : BitVec 32 := 2#32
  let v264 : BitVec 32 := Scalar.addi v263 c2_i32_208
  let c1_i32_326 : BitVec 32 := 1#32
  let v398 : BitVec 32 := Scalar.addi v264 c1_i32_326
  let v416 : Index := Scalar.indexCast v398
  let c0_340 : Index := 0#32
  let c0_341 : Index := 0#32
  ![1, v416.toNat, 0, 0]
def k0_cond3 (i : grid0.Coords) : BitVec 1 :=
  let arg1 : BitVec 32 := BitVec.ofNat 32 (i 1).val
  let c2_i32 : BitVec 32 := 2#32
  let c0_i32 : BitVec 32 := 0#32
  let v9 : BitVec 1 := Scalar.cmpi .eq c2_i32 c0_i32
  let c1_i32 : BitVec 32 := 1#32
  let v10 : BitVec 32 := Scalar.select v9 c1_i32 c2_i32
  let v11 : BitVec 32 := Scalar.remsi arg1 v10
  let c0_i32_9 : BitVec 32 := 0#32
  let v13 : BitVec 1 := Scalar.cmpi .slt v11 c0_i32_9
  let c0_i32_10 : BitVec 32 := 0#32
  let v14 : BitVec 1 := Scalar.cmpi .slt v10 c0_i32_10
  let v15 : BitVec 1 := Scalar.xori v13 v14
  let c0_i32_8 : BitVec 32 := 0#32
  let v12 : BitVec 1 := Scalar.cmpi .ne v11 c0_i32_8
  let v16 : BitVec 1 := Scalar.andi v15 v12
  let v17 : BitVec 32 := Scalar.addi v11 v10
  let v18 : BitVec 32 := Scalar.select v16 v17 v11
  let c1_i32_11 : BitVec 32 := 1#32
  let v19 : BitVec 1 := Scalar.cmpi .eq v18 c1_i32_11
  let true_59 : BitVec 1 := 1#1
  let v92 : BitVec 1 := Scalar.xori v19 true_59
  let true_60 : BitVec 1 := 1#1
  let v93 : BitVec 1 := Scalar.xori v92 true_60
  let v94 : BitVec 32 := Scalar.extui v93
  let c0_i32_61 : BitVec 32 := 0#32
  let v95 : BitVec 1 := Scalar.cmpi .ne v94 c0_i32_61
  v95

def k0_mult47 (i : grid0.Coords) : BitVec 32 :=
  let c2_i32_65 : BitVec 32 := 2#32
  let arg1 : BitVec 32 := BitVec.ofNat 32 (i 1).val
  let c4_i32 : BitVec 32 := 4#32
  let v8 : BitVec 32 := Scalar.addi arg1 c4_i32
  let v100 : BitVec 32 := Scalar.muli c2_i32_65 v8
  let c2_i32_66 : BitVec 32 := 2#32
  let v101 : BitVec 32 := Scalar.subi v100 c2_i32_66
  let c1_i32_67 : BitVec 32 := 1#32
  let v102 : BitVec 32 := Scalar.addi v101 c1_i32_67
  let c512_i32 : BitVec 32 := 512#32
  let v103 : BitVec 32 := Scalar.muli v102 c512_i32
  v103
def k0_off59 (i : grid0.Coords) (c1_i32_67 : BitVec 32) : Fin 3 → Nat :=
  let c0_68 : Index := 0#32
  let c2_i32_65 : BitVec 32 := 2#32
  let arg1 : BitVec 32 := BitVec.ofNat 32 (i 1).val
  let c4_i32 : BitVec 32 := 4#32
  let v8 : BitVec 32 := Scalar.addi arg1 c4_i32
  let v100 : BitVec 32 := Scalar.muli c2_i32_65 v8
  let c2_i32_66 : BitVec 32 := 2#32
  let v101 : BitVec 32 := Scalar.subi v100 c2_i32_66
  let v102 : BitVec 32 := Scalar.addi v101 c1_i32_67
  let c512_i32 : BitVec 32 := 512#32
  let v103 : BitVec 32 := Scalar.muli v102 c512_i32
  let v104 : BitVec 32 := v103
  let v105 : Index := Scalar.indexCast v104
  let c0_69 : Index := 0#32
  ![0, v105.toNat, 0]
def k0_off60 (i : grid0.Coords) : Fin 4 → Nat :=
  let c0_89 : Index := 0#32
  let c2_i32_65 : BitVec 32 := 2#32
  let arg1 : BitVec 32 := BitVec.ofNat 32 (i 1).val
  let c4_i32 : BitVec 32 := 4#32
  let v8 : BitVec 32 := Scalar.addi arg1 c4_i32
  let v100 : BitVec 32 := Scalar.muli c2_i32_65 v8
  let c2_i32_66 : BitVec 32 := 2#32
  let v101 : BitVec 32 := Scalar.subi v100 c2_i32_66
  let v131 : Index := Scalar.indexCast v101
  let c0_90 : Index := 0#32
  let c0_91 : Index := 0#32
  ![0, v131.toNat, 0, 0]
def k0_mult48 (i : grid0.Coords) : BitVec 32 :=
  let c2_i32_65 : BitVec 32 := 2#32
  let arg1 : BitVec 32 := BitVec.ofNat 32 (i 1).val
  let c4_i32 : BitVec 32 := 4#32
  let v8 : BitVec 32 := Scalar.addi arg1 c4_i32
  let v100 : BitVec 32 := Scalar.muli c2_i32_65 v8
  let c2_i32_66 : BitVec 32 := 2#32
  let v101 : BitVec 32 := Scalar.subi v100 c2_i32_66
  let c1_i32_101 : BitVec 32 := 1#32
  let v142 : BitVec 32 := Scalar.addi v101 c1_i32_101
  let c512_i32_102 : BitVec 32 := 512#32
  let v143 : BitVec 32 := Scalar.muli v142 c512_i32_102
  v143
def k0_off61 (i : grid0.Coords) (c1_i32_101 : BitVec 32) : Fin 3 → Nat :=
  let c1_103 : Index := 1#32
  let c2_i32_65 : BitVec 32 := 2#32
  let arg1 : BitVec 32 := BitVec.ofNat 32 (i 1).val
  let c4_i32 : BitVec 32 := 4#32
  let v8 : BitVec 32 := Scalar.addi arg1 c4_i32
  let v100 : BitVec 32 := Scalar.muli c2_i32_65 v8
  let c2_i32_66 : BitVec 32 := 2#32
  let v101 : BitVec 32 := Scalar.subi v100 c2_i32_66
  let v142 : BitVec 32 := Scalar.addi v101 c1_i32_101
  let c512_i32_102 : BitVec 32 := 512#32
  let v143 : BitVec 32 := Scalar.muli v142 c512_i32_102
  let v144 : BitVec 32 := v143
  let v145 : Index := Scalar.indexCast v144
  let c0_104 : Index := 0#32
  ![1, v145.toNat, 0]
def k0_off62 (i : grid0.Coords) : Fin 4 → Nat :=
  let c1_124 : Index := 1#32
  let c2_i32_65 : BitVec 32 := 2#32
  let arg1 : BitVec 32 := BitVec.ofNat 32 (i 1).val
  let c4_i32 : BitVec 32 := 4#32
  let v8 : BitVec 32 := Scalar.addi arg1 c4_i32
  let v100 : BitVec 32 := Scalar.muli c2_i32_65 v8
  let c2_i32_66 : BitVec 32 := 2#32
  let v101 : BitVec 32 := Scalar.subi v100 c2_i32_66
  let v171 : Index := Scalar.indexCast v101
  let c0_125 : Index := 0#32
  let c0_126 : Index := 0#32
  ![1, v171.toNat, 0, 0]
def k0_mult49 (i : grid0.Coords) : BitVec 32 :=
  let c2_i32_65 : BitVec 32 := 2#32
  let arg1 : BitVec 32 := BitVec.ofNat 32 (i 1).val
  let c4_i32 : BitVec 32 := 4#32
  let v8 : BitVec 32 := Scalar.addi arg1 c4_i32
  let v100 : BitVec 32 := Scalar.muli c2_i32_65 v8
  let c2_i32_66 : BitVec 32 := 2#32
  let v101 : BitVec 32 := Scalar.subi v100 c2_i32_66
  let c2_i32_136 : BitVec 32 := 2#32
  let v182 : BitVec 32 := Scalar.addi v101 c2_i32_136
  let c512_i32_137 : BitVec 32 := 512#32
  let v183 : BitVec 32 := Scalar.muli v182 c512_i32_137
  v183
def k0_off63 (i : grid0.Coords) : Fin 4 → Nat :=
  let c0_160 : Index := 0#32
  let c2_i32_65 : BitVec 32 := 2#32
  let arg1 : BitVec 32 := BitVec.ofNat 32 (i 1).val
  let c4_i32 : BitVec 32 := 4#32
  let v8 : BitVec 32 := Scalar.addi arg1 c4_i32
  let v100 : BitVec 32 := Scalar.muli c2_i32_65 v8
  let c2_i32_66 : BitVec 32 := 2#32
  let v101 : BitVec 32 := Scalar.subi v100 c2_i32_66
  let c1_i32_147 : BitVec 32 := 1#32
  let v194 : BitVec 32 := Scalar.addi v101 c1_i32_147
  let v212 : Index := Scalar.indexCast v194
  let c0_161 : Index := 0#32
  let c0_162 : Index := 0#32
  ![0, v212.toNat, 0, 0]
def k0_mult50 (i : grid0.Coords) : BitVec 32 :=
  let c2_i32_65 : BitVec 32 := 2#32
  let arg1 : BitVec 32 := BitVec.ofNat 32 (i 1).val
  let c4_i32 : BitVec 32 := 4#32
  let v8 : BitVec 32 := Scalar.addi arg1 c4_i32
  let v100 : BitVec 32 := Scalar.muli c2_i32_65 v8
  let c2_i32_66 : BitVec 32 := 2#32
  let v101 : BitVec 32 := Scalar.subi v100 c2_i32_66
  let c2_i32_172 : BitVec 32 := 2#32
  let v223 : BitVec 32 := Scalar.addi v101 c2_i32_172
  let c512_i32_173 : BitVec 32 := 512#32
  let v224 : BitVec 32 := Scalar.muli v223 c512_i32_173
  v224
def k0_off64 (i : grid0.Coords) : Fin 4 → Nat :=
  let c1_196 : Index := 1#32
  let c2_i32_65 : BitVec 32 := 2#32
  let arg1 : BitVec 32 := BitVec.ofNat 32 (i 1).val
  let c4_i32 : BitVec 32 := 4#32
  let v8 : BitVec 32 := Scalar.addi arg1 c4_i32
  let v100 : BitVec 32 := Scalar.muli c2_i32_65 v8
  let c2_i32_66 : BitVec 32 := 2#32
  let v101 : BitVec 32 := Scalar.subi v100 c2_i32_66
  let c1_i32_183 : BitVec 32 := 1#32
  let v235 : BitVec 32 := Scalar.addi v101 c1_i32_183
  let v253 : Index := Scalar.indexCast v235
  let c0_197 : Index := 0#32
  let c0_198 : Index := 0#32
  ![1, v253.toNat, 0, 0]
def k0_mult51 (i : grid0.Coords) : BitVec 32 :=
  let c2_i32_208 : BitVec 32 := 2#32
  let arg1 : BitVec 32 := BitVec.ofNat 32 (i 1).val
  let c4_i32 : BitVec 32 := 4#32
  let v8 : BitVec 32 := Scalar.addi arg1 c4_i32
  let v267 : BitVec 32 := Scalar.muli c2_i32_208 v8
  let c1_i32_209 : BitVec 32 := 1#32
  let v268 : BitVec 32 := Scalar.addi v267 c1_i32_209
  let c512_i32_210 : BitVec 32 := 512#32
  let v269 : BitVec 32 := Scalar.muli v268 c512_i32_210
  v269
def k0_off65 (i : grid0.Coords) : Fin 3 → Nat :=
  let c0_211 : Index := 0#32
  let c2_i32_208 : BitVec 32 := 2#32
  let arg1 : BitVec 32 := BitVec.ofNat 32 (i 1).val
  let c4_i32 : BitVec 32 := 4#32
  let v8 : BitVec 32 := Scalar.addi arg1 c4_i32
  let v267 : BitVec 32 := Scalar.muli c2_i32_208 v8
  let c1_i32_209 : BitVec 32 := 1#32
  let v268 : BitVec 32 := Scalar.addi v267 c1_i32_209
  let c512_i32_210 : BitVec 32 := 512#32
  let v269 : BitVec 32 := Scalar.muli v268 c512_i32_210
  let v270 : BitVec 32 := v269
  let v271 : Index := Scalar.indexCast v270
  let c0_212 : Index := 0#32
  ![0, v271.toNat, 0]
def k0_off66 (i : grid0.Coords) : Fin 4 → Nat :=
  let c0_233 : Index := 0#32
  let c2_i32_219 : BitVec 32 := 2#32
  let arg1 : BitVec 32 := BitVec.ofNat 32 (i 1).val
  let c4_i32 : BitVec 32 := 4#32
  let v8 : BitVec 32 := Scalar.addi arg1 c4_i32
  let v280 : BitVec 32 := Scalar.muli c2_i32_219 v8
  let v300 : Index := Scalar.indexCast v280
  let c0_234 : Index := 0#32
  let c0_235 : Index := 0#32
  ![0, v300.toNat, 0, 0]
def k0_mult52 (i : grid0.Coords) : BitVec 32 :=
  let c2_i32_270 : BitVec 32 := 2#32
  let arg1 : BitVec 32 := BitVec.ofNat 32 (i 1).val
  let c4_i32 : BitVec 32 := 4#32
  let v8 : BitVec 32 := Scalar.addi arg1 c4_i32
  let v340 : BitVec 32 := Scalar.muli c2_i32_270 v8
  let c1_i32_271 : BitVec 32 := 1#32
  let v341 : BitVec 32 := Scalar.addi v340 c1_i32_271
  let c512_i32_272 : BitVec 32 := 512#32
  let v342 : BitVec 32 := Scalar.muli v341 c512_i32_272
  v342
def k0_off67 (i : grid0.Coords) : Fin 3 → Nat :=
  let c1_273 : Index := 1#32
  let c2_i32_270 : BitVec 32 := 2#32
  let arg1 : BitVec 32 := BitVec.ofNat 32 (i 1).val
  let c4_i32 : BitVec 32 := 4#32
  let v8 : BitVec 32 := Scalar.addi arg1 c4_i32
  let v340 : BitVec 32 := Scalar.muli c2_i32_270 v8
  let c1_i32_271 : BitVec 32 := 1#32
  let v341 : BitVec 32 := Scalar.addi v340 c1_i32_271
  let c512_i32_272 : BitVec 32 := 512#32
  let v342 : BitVec 32 := Scalar.muli v341 c512_i32_272
  let v343 : BitVec 32 := v342
  let v344 : Index := Scalar.indexCast v343
  let c0_274 : Index := 0#32
  ![1, v344.toNat, 0]
def k0_off68 (i : grid0.Coords) : Fin 4 → Nat :=
  let c1_296 : Index := 1#32
  let c2_i32_282 : BitVec 32 := 2#32
  let arg1 : BitVec 32 := BitVec.ofNat 32 (i 1).val
  let c4_i32 : BitVec 32 := 4#32
  let v8 : BitVec 32 := Scalar.addi arg1 c4_i32
  let v353 : BitVec 32 := Scalar.muli c2_i32_282 v8
  let v373 : Index := Scalar.indexCast v353
  let c0_297 : Index := 0#32
  let c0_298 : Index := 0#32
  ![1, v373.toNat, 0, 0]
def k0_off69 (i : grid0.Coords) : Fin 4 → Nat :=
  let c0_348 : Index := 0#32
  let c2_i32_333 : BitVec 32 := 2#32
  let arg1 : BitVec 32 := BitVec.ofNat 32 (i 1).val
  let c4_i32 : BitVec 32 := 4#32
  let v8 : BitVec 32 := Scalar.addi arg1 c4_i32
  let v413 : BitVec 32 := Scalar.muli c2_i32_333 v8
  let c1_i32_334 : BitVec 32 := 1#32
  let v414 : BitVec 32 := Scalar.addi v413 c1_i32_334
  let v434 : Index := Scalar.indexCast v414
  let c0_349 : Index := 0#32
  let c0_350 : Index := 0#32
  ![0, v434.toNat, 0, 0]
def k0_off70 (i : grid0.Coords) : Fin 4 → Nat :=
  let c1_375 : Index := 1#32
  let c2_i32_360 : BitVec 32 := 2#32
  let arg1 : BitVec 32 := BitVec.ofNat 32 (i 1).val
  let c4_i32 : BitVec 32 := 4#32
  let v8 : BitVec 32 := Scalar.addi arg1 c4_i32
  let v445 : BitVec 32 := Scalar.muli c2_i32_360 v8
  let c1_i32_361 : BitVec 32 := 1#32
  let v446 : BitVec 32 := Scalar.addi v445 c1_i32_361
  let v466 : Index := Scalar.indexCast v446
  let c0_376 : Index := 0#32
  let c0_377 : Index := 0#32
  ![1, v466.toNat, 0, 0]
def k0_cond4 (i : grid0.Coords) : BitVec 1 :=
  let arg1 : BitVec 32 := BitVec.ofNat 32 (i 1).val
  let c2_i32 : BitVec 32 := 2#32
  let c0_i32 : BitVec 32 := 0#32
  let v9 : BitVec 1 := Scalar.cmpi .eq c2_i32 c0_i32
  let c1_i32 : BitVec 32 := 1#32
  let v10 : BitVec 32 := Scalar.select v9 c1_i32 c2_i32
  let v11 : BitVec 32 := Scalar.remsi arg1 v10
  let c0_i32_9 : BitVec 32 := 0#32
  let v13 : BitVec 1 := Scalar.cmpi .slt v11 c0_i32_9
  let c0_i32_10 : BitVec 32 := 0#32
  let v14 : BitVec 1 := Scalar.cmpi .slt v10 c0_i32_10
  let v15 : BitVec 1 := Scalar.xori v13 v14
  let c0_i32_8 : BitVec 32 := 0#32
  let v12 : BitVec 1 := Scalar.cmpi .ne v11 c0_i32_8
  let v16 : BitVec 1 := Scalar.andi v15 v12
  let v17 : BitVec 32 := Scalar.addi v11 v10
  let v18 : BitVec 32 := Scalar.select v16 v17 v11
  let c1_i32_11 : BitVec 32 := 1#32
  let v19 : BitVec 1 := Scalar.cmpi .eq v18 c1_i32_11
  let false_62 : BitVec 1 := 0#1
  let v96 : BitVec 1 := Scalar.xori v19 false_62
  let true_63 : BitVec 1 := 1#1
  let v97 : BitVec 1 := Scalar.xori v96 true_63
  let v98 : BitVec 32 := Scalar.extui v97
  let c0_i32_64 : BitVec 32 := 0#32
  let v99 : BitVec 1 := Scalar.cmpi .ne v98 c0_i32_64
  v99

def k0_mult53 (i : grid0.Coords) : BitVec 32 :=
  let c2_i32_65 : BitVec 32 := 2#32
  let arg1 : BitVec 32 := BitVec.ofNat 32 (i 1).val
  let c4_i32 : BitVec 32 := 4#32
  let v8 : BitVec 32 := Scalar.addi arg1 c4_i32
  let v103 : BitVec 32 := Scalar.muli c2_i32_65 v8
  let c1_i32_66 : BitVec 32 := 1#32
  let v104 : BitVec 32 := Scalar.addi v103 c1_i32_66
  let c512_i32 : BitVec 32 := 512#32
  let v105 : BitVec 32 := Scalar.muli v104 c512_i32
  v105
def k0_off71 (i : grid0.Coords) : Fin 3 → Nat :=
  let c0_67 : Index := 0#32
  let c2_i32_65 : BitVec 32 := 2#32
  let arg1 : BitVec 32 := BitVec.ofNat 32 (i 1).val
  let c4_i32 : BitVec 32 := 4#32
  let v8 : BitVec 32 := Scalar.addi arg1 c4_i32
  let v103 : BitVec 32 := Scalar.muli c2_i32_65 v8
  let c1_i32_66 : BitVec 32 := 1#32
  let v104 : BitVec 32 := Scalar.addi v103 c1_i32_66
  let c512_i32 : BitVec 32 := 512#32
  let v105 : BitVec 32 := Scalar.muli v104 c512_i32
  let v106 : BitVec 32 := v105
  let v107 : Index := Scalar.indexCast v106
  let c0_68 : Index := 0#32
  ![0, v107.toNat, 0]
def k0_off72 (i : grid0.Coords) : Fin 4 → Nat :=
  let c0_89 : Index := 0#32
  let c2_i32_75 : BitVec 32 := 2#32
  let arg1 : BitVec 32 := BitVec.ofNat 32 (i 1).val
  let c4_i32 : BitVec 32 := 4#32
  let v8 : BitVec 32 := Scalar.addi arg1 c4_i32
  let v116 : BitVec 32 := Scalar.muli c2_i32_75 v8
  let v136 : Index := Scalar.indexCast v116
  let c0_90 : Index := 0#32
  let c0_91 : Index := 0#32
  ![0, v136.toNat, 0, 0]
def k0_mult54 (i : grid0.Coords) : BitVec 32 :=
  let c2_i32_126 : BitVec 32 := 2#32
  let arg1 : BitVec 32 := BitVec.ofNat 32 (i 1).val
  let c4_i32 : BitVec 32 := 4#32
  let v8 : BitVec 32 := Scalar.addi arg1 c4_i32
  let v176 : BitVec 32 := Scalar.muli c2_i32_126 v8
  let c1_i32_127 : BitVec 32 := 1#32
  let v177 : BitVec 32 := Scalar.addi v176 c1_i32_127
  let c512_i32_128 : BitVec 32 := 512#32
  let v178 : BitVec 32 := Scalar.muli v177 c512_i32_128
  v178
def k0_off73 (i : grid0.Coords) : Fin 3 → Nat :=
  let c1_129 : Index := 1#32
  let c2_i32_126 : BitVec 32 := 2#32
  let arg1 : BitVec 32 := BitVec.ofNat 32 (i 1).val
  let c4_i32 : BitVec 32 := 4#32
  let v8 : BitVec 32 := Scalar.addi arg1 c4_i32
  let v176 : BitVec 32 := Scalar.muli c2_i32_126 v8
  let c1_i32_127 : BitVec 32 := 1#32
  let v177 : BitVec 32 := Scalar.addi v176 c1_i32_127
  let c512_i32_128 : BitVec 32 := 512#32
  let v178 : BitVec 32 := Scalar.muli v177 c512_i32_128
  let v179 : BitVec 32 := v178
  let v180 : Index := Scalar.indexCast v179
  let c0_130 : Index := 0#32
  ![1, v180.toNat, 0]
def k0_off74 (i : grid0.Coords) : Fin 4 → Nat :=
  let c1_152 : Index := 1#32
  let c2_i32_138 : BitVec 32 := 2#32
  let arg1 : BitVec 32 := BitVec.ofNat 32 (i 1).val
  let c4_i32 : BitVec 32 := 4#32
  let v8 : BitVec 32 := Scalar.addi arg1 c4_i32
  let v189 : BitVec 32 := Scalar.muli c2_i32_138 v8
  let v209 : Index := Scalar.indexCast v189
  let c0_153 : Index := 0#32
  let c0_154 : Index := 0#32
  ![1, v209.toNat, 0, 0]
def k0_off75 (i : grid0.Coords) : Fin 4 → Nat :=
  let c0_204 : Index := 0#32
  let c2_i32_189 : BitVec 32 := 2#32
  let arg1 : BitVec 32 := BitVec.ofNat 32 (i 1).val
  let c4_i32 : BitVec 32 := 4#32
  let v8 : BitVec 32 := Scalar.addi arg1 c4_i32
  let v249 : BitVec 32 := Scalar.muli c2_i32_189 v8
  let c1_i32_190 : BitVec 32 := 1#32
  let v250 : BitVec 32 := Scalar.addi v249 c1_i32_190
  let v270 : Index := Scalar.indexCast v250
  let c0_205 : Index := 0#32
  let c0_206 : Index := 0#32
  ![0, v270.toNat, 0, 0]
def k0_off76 (i : grid0.Coords) : Fin 4 → Nat :=
  let c1_231 : Index := 1#32
  let c2_i32_216 : BitVec 32 := 2#32
  let arg1 : BitVec 32 := BitVec.ofNat 32 (i 1).val
  let c4_i32 : BitVec 32 := 4#32
  let v8 : BitVec 32 := Scalar.addi arg1 c4_i32
  let v281 : BitVec 32 := Scalar.muli c2_i32_216 v8
  let c1_i32_217 : BitVec 32 := 1#32
  let v282 : BitVec 32 := Scalar.addi v281 c1_i32_217
  let v302 : Index := Scalar.indexCast v282
  let c0_232 : Index := 0#32
  let c0_233 : Index := 0#32
  ![1, v302.toNat, 0, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.addi arg1 c4_i32
  let c0_i32 : BitVec 32 := 0#32
  let c0_i32_0 : BitVec 32 := 0#32
  ![arg0.toNat, c0_i32.toNat, v0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

abbrev stage0_0 : Fin 2 → Memref sig .tc .vmem S2x256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2x256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2x8192x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2x16x144x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S2x1024x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference4Ideal.lean ====
abbrev S8192x16x128 : Shape := ⟨3, ![8192, 16, 128]⟩
abbrev S8192x16x64 : Shape := ⟨3, ![8192, 16, 64]⟩
abbrev S8192x64 : Shape := ⟨2, ![8192, 64]⟩
abbrev S16x8192x8192 : Shape := ⟨3, ![16, 8192, 8192]⟩
abbrev S8192x8192x16 : Shape := ⟨3, ![8192, 8192, 16]⟩
abbrev S_ : Shape := ⟨0, ![]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S1x8192x8192 : Shape := ⟨3, ![1, 8192, 8192]⟩
abbrev S16x8192 : Shape := ⟨2, ![16, 8192]⟩
abbrev S16x8192x1 : Shape := ⟨3, ![16, 8192, 1]⟩
abbrev S16x128x8192 : Shape := ⟨3, ![16, 128, 8192]⟩
abbrev S2x4096x2048 : Shape := ⟨3, ![2, 4096, 2048]⟩

abbrev nBuf : Space → Nat
  | .hbm => 43
  | .vmem => 0
  | .smem => 0
  | _ => 0

abbrev bufTy : (tb : Table) → Fin (tcTables nBuf tb) → BufTy
  | .hbm, ⟨0, _⟩ => ⟨S8192x16x128, .f32⟩
  | .hbm, ⟨1, _⟩ => ⟨S8192x16x64, .f32⟩
  | .hbm, ⟨2, _⟩ => ⟨S8192x16x128, .f32⟩
  | .hbm, ⟨3, _⟩ => ⟨S8192x64, .f32⟩
  | .hbm, ⟨4, _⟩ => ⟨S8192x16x128, .f32⟩
  | .hbm, ⟨5, _⟩ => ⟨S16x8192x8192, .f32⟩
  | .hbm, ⟨6, _⟩ => ⟨S8192x8192x16, .f32⟩
  | .hbm, ⟨7, _⟩ => ⟨S16x8192x8192, .f32⟩
  | .hbm, ⟨8, _⟩ => ⟨S16x8192x8192, .f32⟩
  | .hbm, ⟨9, _⟩ => ⟨S_, .f32⟩
  | .hbm, ⟨10, _⟩ => ⟨S_, .f32⟩
  | .hbm, ⟨11, _⟩ => ⟨S16x8192x8192, .f32⟩
  | .hbm, ⟨12, _⟩ => ⟨S16x8192x8192, .f32⟩
  | .hbm, ⟨13, _⟩ => ⟨S8192, .i32⟩
  | .hbm, ⟨14, _⟩ => ⟨S1x8192, .i32⟩
  | .hbm, ⟨15, _⟩ => ⟨S8192x1, .i32⟩
  | .hbm, ⟨16, _⟩ => ⟨S8192x8192, .i32⟩
  | .hbm, ⟨17, _⟩ => ⟨S8192x8192, .i32⟩
  | .hbm, ⟨18, _⟩ => ⟨S8192x8192, .i1⟩
  | .hbm, ⟨19, _⟩ => ⟨S1x8192x8192, .i1⟩
  | .hbm, ⟨20, _⟩ => ⟨S_, .f32⟩
  | .hbm, ⟨21, _⟩ => ⟨S_, .f32⟩
  | .hbm, ⟨22, _⟩ => ⟨S16x8192x8192, .i1⟩
  | .hbm, ⟨23, _⟩ => ⟨S16x8192x8192, .f32⟩
  | .hbm, ⟨24, _⟩ => ⟨S16x8192x8192, .f32⟩
  | .hbm, ⟨25, _⟩ => ⟨S_, .f32⟩
  | .hbm, ⟨26, _⟩ => ⟨S16x8192, .f32⟩
  | .hbm, ⟨27, _⟩ => ⟨S_, .f32⟩
  | .hbm, ⟨28, _⟩ => ⟨S16x8192, .f32⟩
  | .hbm, ⟨29, _⟩ => ⟨S16x8192, .f32⟩
  | .hbm, ⟨30, _⟩ => ⟨S16x8192x1, .f32⟩
  | .hbm, ⟨31, _⟩ => ⟨S16x8192x8192, .f32⟩
  | .hbm, ⟨32, _⟩ => ⟨S16x8192x8192, .f32⟩
  | .hbm, ⟨33, _⟩ => ⟨S16x8192x8192, .f32⟩
  | .hbm, ⟨34, _⟩ => ⟨S_, .f32⟩
  | .hbm, ⟨35, _⟩ => ⟨S16x8192, .f32⟩
  | .hbm, ⟨36, _⟩ => ⟨S16x8192x1, .f32⟩
  | .hbm, ⟨37, _⟩ => ⟨S16x8192x8192, .f32⟩
  | .hbm, ⟨38, _⟩ => ⟨S16x8192x8192, .f32⟩
  | .hbm, ⟨39, _⟩ => ⟨S16x128x8192, .f32⟩
  | .hbm, ⟨40, _⟩ => ⟨S8192x16x128, .f32⟩
  | .hbm, ⟨41, _⟩ => ⟨S2x4096x2048, .f32⟩
  | .hbm, ⟨42, _⟩ => ⟨S2x4096x2048, .bf16⟩
  | _, _ => ⟨S8192x16x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_0 : Ref sig .tc := ⟨.hbm, 20, rfl⟩
abbrev main_call0_v0 : Ref sig .tc := ⟨.hbm, 21, rfl⟩
abbrev main_call0_v1 : Ref sig .tc := ⟨.hbm, 22, rfl⟩
abbrev main_call0_v2 : Ref sig .tc := ⟨.hbm, 23, rfl⟩
abbrev main_v14 : Ref sig .tc := ⟨.hbm, 24, rfl⟩
abbrev main_cst_1 : Ref sig .tc := ⟨.hbm, 25, rfl⟩
abbrev main_v15 : Ref sig .tc := ⟨.hbm, 26, rfl⟩
abbrev main_cst_2 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_3 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩

abbrev nD : Nat := 1
abbrev τ : Topo := Topo.v7x

variable {F : FTy → Type} [FloatOps F]
-- ==== Kernel5.lean ====
abbrev S8192x2048 : Shape := ⟨2, ![8192, 2048]⟩
abbrev S8192 : Shape := ⟨1, ![8192]⟩
abbrev S2048 : Shape := ⟨1, ![2048]⟩
abbrev S2048x15424 : Shape := ⟨2, ![2048, 15424]⟩
abbrev S512 : Shape := ⟨1, ![512]⟩
abbrev S512x3072 : Shape := ⟨2, ![512, 3072]⟩
abbrev S512x4096 : Shape := ⟨2, ![512, 4096]⟩
abbrev S32 : Shape := ⟨1, ![32]⟩
abbrev S_ : Shape := ⟨0, ![]⟩
abbrev S32x1 : Shape := ⟨2, ![32, 1]⟩
abbrev S1x8192 : Shape := ⟨2, ![1, 8192]⟩
abbrev S32x8192 : Shape := ⟨2, ![32, 8192]⟩
abbrev S64x8192 : Shape := ⟨2, ![64, 8192]⟩
abbrev S128x8192 : Shape := ⟨2, ![128, 8192]⟩
abbrev S512x16x192 : Shape := ⟨3, ![512, 16, 192]⟩
abbrev S512x16x32 : Shape := ⟨3, ![512, 16, 32]⟩
abbrev S512x16x256 : Shape := ⟨3, ![512, 16, 256]⟩
abbrev S512x16x128 : Shape := ⟨3, ![512, 16, 128]⟩
abbrev S512x2048 : Shape := ⟨2, ![512, 2048]⟩
abbrev S2048x1088 : Shape := ⟨2, ![2048, 1088]⟩
abbrev S2048x32 : Shape := ⟨2, ![2048, 32]⟩
abbrev S2048x1152 : Shape := ⟨2, ![2048, 1152]⟩
abbrev S1x2048 : Shape := ⟨2, ![1, 2048]⟩
abbrev S1x512 : Shape := ⟨2, ![1, 512]⟩
abbrev S4096x512 : Shape := ⟨2, ![4096, 512]⟩
abbrev S2048x512 : Shape := ⟨2, ![2048, 512]⟩
abbrev S16x256x8192 : Shape := ⟨3, ![16, 256, 8192]⟩
abbrev S16x8192x256 : Shape := ⟨3, ![16, 8192, 256]⟩
abbrev S16x16x144x512 : Shape := ⟨4, ![16, 16, 144, 512]⟩
abbrev S128x512 : Shape := ⟨2, ![128, 512]⟩
abbrev S16x256x512 : Shape := ⟨3, ![16, 256, 512]⟩
abbrev S16x512x256 : Shape := ⟨3, ![16, 512, 256]⟩
abbrev S16x1x144x512 : Shape := ⟨4, ![16, 1, 144, 512]⟩
abbrev S512x1 : Shape := ⟨2, ![512, 1]⟩
abbrev S512x1152 : Shape := ⟨2, ![512, 1152]⟩
abbrev S512x512 : Shape := ⟨2, ![512, 512]⟩
abbrev S512x128 : Shape := ⟨2, ![512, 128]⟩
abbrev S16x512 : Shape := ⟨2, ![16, 512]⟩
abbrev S1024x512 : Shape := ⟨2, ![1024, 512]⟩
abbrev S1x128x512 : Shape := ⟨3, ![1, 128, 512]⟩
abbrev S64x512 : Shape := ⟨2, ![64, 512]⟩
abbrev S1x512x128 : Shape := ⟨3, ![1, 512, 128]⟩
abbrev S1x1x128x512 : Shape := ⟨4, ![1, 1, 128, 512]⟩
abbrev S1x1x16x512 : Shape := ⟨4, ![1, 1, 16, 512]⟩

abbrev nBuf : Space → Nat
  | .hbm => 62
  | .vmem => 21
  | .smem => 0
  | _ => 0

abbrev bufTy : (tb : Table) → Fin (tcTables nBuf tb) → BufTy
  | .hbm, ⟨0, _⟩ => ⟨S8192x2048, .f32⟩
  | .hbm, ⟨1, _⟩ => ⟨S8192, .i32⟩
  | .hbm, ⟨2, _⟩ => ⟨S2048, .f32⟩
  | .hbm, ⟨3, _⟩ => ⟨S2048x15424, .f32⟩
  | .hbm, ⟨4, _⟩ => ⟨S512, .f32⟩
  | .hbm, ⟨5, _⟩ => ⟨S512x3072, .f32⟩
  | .hbm, ⟨6, _⟩ => ⟨S512, .f32⟩
  | .hbm, ⟨7, _⟩ => ⟨S512x4096, .f32⟩
  | .hbm, ⟨8, _⟩ => ⟨S32, .f32⟩
  | .hbm, ⟨9, _⟩ => ⟨S_, .f32⟩
  | .hbm, ⟨10, _⟩ => ⟨S32, .f32⟩
  | .hbm, ⟨11, _⟩ => ⟨S32, .f32⟩
  | .hbm, ⟨12, _⟩ => ⟨S_, .f32⟩
  | .hbm, ⟨13, _⟩ => ⟨S32, .f32⟩
  | .hbm, ⟨14, _⟩ => ⟨S32, .f32⟩
  | .hbm, ⟨15, _⟩ => ⟨S32, .f32⟩
  | .hbm, ⟨16, _⟩ => ⟨S_, .f32⟩
  | .hbm, ⟨17, _⟩ => ⟨S32, .f32⟩
  | .hbm, ⟨18, _⟩ => ⟨S32, .f32⟩
  | .hbm, ⟨19, _⟩ => ⟨S_, .f32⟩
  | .hbm, ⟨20, _⟩ => ⟨S32, .f32⟩
  | .hbm, ⟨21, _⟩ => ⟨S32, .f32⟩
  | .hbm, ⟨22, _⟩ => ⟨S32x1, .f32⟩
  | .hbm, ⟨23, _⟩ => ⟨S8192, .f32⟩
  | .hbm, ⟨24, _⟩ => ⟨S1x8192, .f32⟩
  | .hbm, ⟨25, _⟩ => ⟨S32x8192, .f32⟩
  | .hbm, ⟨26, _⟩ => ⟨S32x8192, .f32⟩
  | .hbm, ⟨27, _⟩ => ⟨S32x8192, .f32⟩
  | .hbm, ⟨28, _⟩ => ⟨S32x8192, .f32⟩
  | .hbm, ⟨29, _⟩ => ⟨S32x8192, .f32⟩
  | .hbm, ⟨30, _⟩ => ⟨S_, .f32⟩
  | .hbm, ⟨31, _⟩ => ⟨S64x8192, .f32⟩
  | .hbm, ⟨32, _⟩ => ⟨S128x8192, .f32⟩
  | .hbm, ⟨33, _⟩ => ⟨S32x8192, .f32⟩
  | .hbm, ⟨34, _⟩ => ⟨S128x8192, .f32⟩
  | .hbm, ⟨35, _⟩ => ⟨S512x16x192, .f32⟩
  | .hbm, ⟨36, _⟩ => ⟨S512x16x32, .f32⟩
  | .hbm, ⟨37, _⟩ => ⟨S512x16x32, .f32⟩
  | .hbm, ⟨38, _⟩ => ⟨S512x16x256, .f32⟩
  | .hbm, ⟨39, _⟩ => ⟨S512x4096, .f32⟩
  | .hbm, ⟨40, _⟩ => ⟨S512x16x256, .f32⟩
  | .hbm, ⟨41, _⟩ => ⟨S512x16x128, .f32⟩
  | .hbm, ⟨42, _⟩ => ⟨S512x2048, .f32⟩
  | .hbm, ⟨43, _⟩ => ⟨S512x16x128, .f32⟩
  | .hbm, ⟨44, _⟩ => ⟨S512x2048, .f32⟩
  | .hbm, ⟨45, _⟩ => ⟨S2048x1088, .f32⟩
  | .hbm, ⟨46, _⟩ => ⟨S2048x32, .f32⟩
  | .hbm, ⟨47, _⟩ => ⟨S2048x32, .f32⟩
  | .hbm, ⟨48, _⟩ => ⟨S2048x1152, .f32⟩
  | .hbm, ⟨49, _⟩ => ⟨S1x2048, .f32⟩
  | .hbm, ⟨50, _⟩ => ⟨S2048x1152, .bf16⟩
  | .hbm, ⟨51, _⟩ => ⟨S1x512, .f32⟩
  | .hbm, ⟨52, _⟩ => ⟨S1x512, .f32⟩
  | .hbm, ⟨53, _⟩ => ⟨S4096x512, .f32⟩
  | .hbm, ⟨54, _⟩ => ⟨S4096x512, .bf16⟩
  | .hbm, ⟨55, _⟩ => ⟨S512x2048, .bf16⟩
  | .hbm, ⟨56, _⟩ => ⟨S2048x512, .f32⟩
  | .hbm, ⟨57, _⟩ => ⟨S2048x512, .bf16⟩
  | .hbm, ⟨58, _⟩ => ⟨S8192x2048, .bf16⟩
  | .hbm, ⟨59, _⟩ => ⟨S16x256x8192, .bf16⟩
  | .hbm, ⟨60, _⟩ => ⟨S16x8192x256, .bf16⟩
  | .hbm, ⟨61, _⟩ => ⟨S16x16x144x512, .bf16⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S2048x1152, .bf16⟩
  | .local _ .vmem, ⟨4, _⟩ => ⟨S1x512, .f32⟩
  | .local _ .vmem, ⟨5, _⟩ => ⟨S1x512, .f32⟩
  | .local _ .vmem, ⟨6, _⟩ => ⟨S4096x512, .bf16⟩
  | .local _ .vmem, ⟨7, _⟩ => ⟨S512x2048, .bf16⟩
  | .local _ .vmem, ⟨8, _⟩ => ⟨S2048x512, .bf16⟩
  | .local _ .vmem, ⟨9, _⟩ => ⟨S128x512, .f32⟩
  | .local _ .vmem, ⟨10, _⟩ => ⟨S128x512, .f32⟩
  | .local _ .vmem, ⟨11, _⟩ => ⟨S128x512, .f32⟩
  | .local _ .vmem, ⟨12, _⟩ => ⟨S128x512, .f32⟩
  | .local _ .vmem, ⟨13, _⟩ => ⟨S512x2048, .bf16⟩
  | .local _ .vmem, ⟨14, _⟩ => ⟨S512x2048, .bf16⟩
  | .local _ .vmem, ⟨15, _⟩ => ⟨S16x256x512, .bf16⟩
  | .local _ .vmem, ⟨16, _⟩ => ⟨S16x256x512, .bf16⟩
  | .local _ .vmem, ⟨17, _⟩ => ⟨S16x512x256, .bf16⟩
  | .local _ .vmem, ⟨18, _⟩ => ⟨S16x512x256, .bf16⟩
  | .local _ .vmem, ⟨19, _⟩ => ⟨S16x1x144x512, .bf16⟩
  | .local _ .vmem, ⟨20, _⟩ => ⟨S16x1x144x512, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_cst_1 : Ref sig .tc := ⟨.hbm, 16, rfl⟩
abbrev main_v6 : Ref sig .tc := ⟨.hbm, 17, rfl⟩
abbrev main_v7 : Ref sig .tc := ⟨.hbm, 18, rfl⟩
abbrev main_cst_2 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_3 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45_0 : Ref sig .tc := ⟨.hbm, 58, rfl⟩
abbrev main_v45_1 : Ref sig .tc := ⟨.hbm, 59, rfl⟩
abbrev main_v45_2 : Ref sig .tc := ⟨.hbm, 60, rfl⟩
abbrev main_v45_3 : Ref sig .tc := ⟨.hbm, 61, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_stg9_0 : Ref sig .tc := ⟨.vmem, 11, rfl⟩
abbrev cc0_stg9_1 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg13_1 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10
abbrev cc0_sem9_0 : DmaSem sig := 11
abbrev cc0_sem9_1 : DmaSem sig := 12
abbrev cc0_sem10_0 : DmaSem sig := 13
abbrev cc0_sem10_1 : DmaSem sig := 14
abbrev cc0_sem11_0 : DmaSem sig := 15
abbrev cc0_sem11_1 : DmaSem sig := 16
abbrev cc0_sem12_0 : DmaSem sig := 17
abbrev cc0_sem12_1 : DmaSem sig := 18
abbrev cc0_sem13_0 : DmaSem sig := 19
abbrev cc0_sem13_1 : DmaSem sig := 20

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_13 (i : grid0.Coords) : Fin 4 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  let c0_i32_13 : BitVec 32 := 0#32
  ![c0_i32_11.toNat, v16.toNat, c0_i32_12.toNat, v26.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x1152 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4096x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2048x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S128x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S128x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x2048 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S16x256x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S16x512x256 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S16x1x144x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== Kernel5Ideal.lean ====
variable {F : FTy → Type} [FloatOps F] [Named F]
def κ : String → Option EReal := fun
  | "q_scale" => some ((((Real.log 2) * (Real.sqrt 192))⁻¹ : ℝ) : EReal)
  | _ => none
-- ==== Reference5Ideal.lean ====
abbrev S8192x2048 : Shape := ⟨2, ![8192, 2048]⟩
abbrev S8192 : Shape := ⟨1, ![8192]⟩
abbrev S2048 : Shape := ⟨1, ![2048]⟩
abbrev S2048x15424 : Shape := ⟨2, ![2048, 15424]⟩
abbrev S512 : Shape := ⟨1, ![512]⟩
abbrev S512x3072 : Shape := ⟨2, ![512, 3072]⟩
abbrev S512x4096 : Shape := ⟨2, ![512, 4096]⟩
abbrev S32 : Shape := ⟨1, ![32]⟩
abbrev S_ : Shape := ⟨0, ![]⟩
abbrev S8192x1 : Shape := ⟨2, ![8192, 1]⟩
abbrev S1x32 : Shape := ⟨2, ![1, 32]⟩
abbrev S8192x32 : Shape := ⟨2, ![8192, 32]⟩
abbrev S8192x1x32 : Shape := ⟨3, ![8192, 1, 32]⟩
abbrev S1x2048 : Shape := ⟨2, ![1, 2048]⟩
abbrev S2048x1088 : Shape := ⟨2, ![2048, 1088]⟩
abbrev S8192x1088 : Shape := ⟨2, ![8192, 1088]⟩
abbrev S8192x512 : Shape := ⟨2, ![8192, 512]⟩
abbrev S1x512 : Shape := ⟨2, ![1, 512]⟩
abbrev S8192x3072 : Shape := ⟨2, ![8192, 3072]⟩
abbrev S8192x16x192 : Shape := ⟨3, ![8192, 16, 192]⟩
abbrev S8192x4096 : Shape := ⟨2, ![8192, 4096]⟩
abbrev S8192x16x256 : Shape := ⟨3, ![8192, 16, 256]⟩
abbrev S8192x64 : Shape := ⟨2, ![8192, 64]⟩
abbrev S8192x1x64 : Shape := ⟨3, ![8192, 1, 64]⟩
abbrev S8192x16x64 : Shape := ⟨3, ![8192, 16, 64]⟩
abbrev S8192x16x128 : Shape := ⟨3, ![8192, 16, 128]⟩
abbrev S8192x16x32 : Shape := ⟨3, ![8192, 16, 32]⟩
abbrev S16x256x8192 : Shape := ⟨3, ![16, 256, 8192]⟩
abbrev S16x8192x256 : Shape := ⟨3, ![16, 8192, 256]⟩
abbrev S16x512x16x128 : Shape := ⟨4, ![16, 512, 16, 128]⟩
abbrev S16x16x128x512 : Shape := ⟨4, ![16, 16, 128, 512]⟩
abbrev S16x16x16x512 : Shape := ⟨4, ![16, 16, 16, 512]⟩
abbrev S16x16x144x512 : Shape := ⟨4, ![16, 16, 144, 512]⟩

abbrev nBuf : Space → Nat
  | .hbm => 139
  | .vmem => 0
  | .smem => 0
  | _ => 0

abbrev hbmTy0_0 (i : Nat) : BufTy := match i % 128 with
  | 0 => ⟨S8192x2048, .f32⟩
  | 1 => ⟨S8192, .i32⟩
  | 2 => ⟨S2048, .f32⟩
  | 3 => ⟨S2048x15424, .f32⟩
  | 4 => ⟨S512, .f32⟩
  | 5 => ⟨S512x3072, .f32⟩
  | 6 => ⟨S512, .f32⟩
  | 7 => ⟨S512x4096, .f32⟩
  | 8 => ⟨S32, .f32⟩
  | 9 => ⟨S_, .f32⟩
  | 10 => ⟨S32, .f32⟩
  | 11 => ⟨S32, .f32⟩
  | 12 => ⟨S_, .f32⟩
  | 13 => ⟨S32, .f32⟩
  | 14 => ⟨S32, .f32⟩
  | 15 => ⟨S32, .f32⟩
  | 16 => ⟨S_, .f32⟩
  | 17 => ⟨S32, .f32⟩
  | 18 => ⟨S32, .f32⟩
  | 19 => ⟨S_, .f32⟩
  | 20 => ⟨S32, .f32⟩
  | 21 => ⟨S32, .f32⟩
  | 22 => ⟨S8192, .f32⟩
  | 23 => ⟨S8192x1, .f32⟩
  | 24 => ⟨S1x32, .f32⟩
  | 25 => ⟨S8192x32, .f32⟩
  | 26 => ⟨S8192x32, .f32⟩
  | 27 => ⟨S8192x32, .f32⟩
  | 28 => ⟨S8192x32, .f32⟩
  | 29 => ⟨S8192x1x32, .f32⟩
  | 30 => ⟨S8192x32, .f32⟩
  | 31 => ⟨S8192x1x32, .f32⟩
  | 32 => ⟨S8192x2048, .f32⟩
  | 33 => ⟨S_, .f32⟩
  | 34 => ⟨S8192, .f32⟩
  | 35 => ⟨S8192x1, .f32⟩
  | 36 => ⟨S_, .f32⟩
  | 37 => ⟨S8192x1, .f32⟩
  | 38 => ⟨S8192x1, .f32⟩
  | 39 => ⟨S_, .f32⟩
  | 40 => ⟨S8192x1, .f32⟩
  | 41 => ⟨S8192x1, .f32⟩
  | 42 => ⟨S8192x1, .f32⟩
  | 43 => ⟨S8192x2048, .f32⟩
  | 44 => ⟨S8192x2048, .f32⟩
  | 45 => ⟨S1x2048, .f32⟩
  | 46 => ⟨S8192x2048, .f32⟩
  | 47 => ⟨S8192x2048, .f32⟩
  | 48 => ⟨S2048x1088, .f32⟩
  | 49 => ⟨S8192x1088, .f32⟩
  | 50 => ⟨S8192x512, .f32⟩
  | 51 => ⟨S8192x512, .f32⟩
  | 52 => ⟨S_, .f32⟩
  | 53 => ⟨S8192, .f32⟩
  | 54 => ⟨S8192x1, .f32⟩
  | 55 => ⟨S_, .f32⟩
  | 56 => ⟨S8192x1, .f32⟩
  | 57 => ⟨S8192x1, .f32⟩
  | 58 => ⟨S_, .f32⟩
  | 59 => ⟨S8192x1, .f32⟩
  | 60 => ⟨S8192x1, .f32⟩
  | 61 => ⟨S8192x1, .f32⟩
  | 62 => ⟨S8192x512, .f32⟩
  | 63 => ⟨S8192x512, .f32⟩
  | 64 => ⟨S1x512, .f32⟩
  | 65 => ⟨S8192x512, .f32⟩
  | 66 => ⟨S8192x512, .f32⟩
  | 67 => ⟨S8192x3072, .f32⟩
  | 68 => ⟨S_, .f32⟩
  | 69 => ⟨S_, .f32⟩
  | 70 => ⟨S_, .f32⟩
  | 71 => ⟨S_, .f32⟩
  | 72 => ⟨S_, .f32⟩
  | 73 => ⟨S8192x3072, .f32⟩
  | 74 => ⟨S8192x3072, .f32⟩
  | 75 => ⟨S8192x16x192, .f32⟩
  | 76 => ⟨S8192x512, .f32⟩
  | 77 => ⟨S8192x512, .f32⟩
  | 78 => ⟨S_, .f32⟩
  | 79 => ⟨S8192, .f32⟩
  | 80 => ⟨S8192x1, .f32⟩
  | 81 => ⟨S_, .f32⟩
  | 82 => ⟨S8192x1, .f32⟩
  | 83 => ⟨S8192x1, .f32⟩
  | 84 => ⟨S_, .f32⟩
  | 85 => ⟨S8192x1, .f32⟩
  | 86 => ⟨S8192x1, .f32⟩
  | 87 => ⟨S8192x1, .f32⟩
  | 88 => ⟨S8192x512, .f32⟩
  | 89 => ⟨S8192x512, .f32⟩
  | 90 => ⟨S1x512, .f32⟩
  | 91 => ⟨S8192x512, .f32⟩
  | 92 => ⟨S8192x512, .f32⟩
  | 93 => ⟨S8192x4096, .f32⟩
  | 94 => ⟨S8192x16x256, .f32⟩
  | 95 => ⟨S8192x64, .f32⟩
  | 96 => ⟨S8192x1x64, .f32⟩
  | 97 => ⟨S8192x1x32, .f32⟩
  | 98 => ⟨S8192x1x32, .f32⟩
  | 99 => ⟨S8192x1x32, .f32⟩
  | 100 => ⟨S8192x1x32, .f32⟩
  | 101 => ⟨S8192x1x32, .f32⟩
  | 102 => ⟨S8192x1x32, .f32⟩
  | 103 => ⟨S8192x1x32, .f32⟩
  | 104 => ⟨S8192x1x32, .f32⟩
  | 105 => ⟨S8192x1x64, .f32⟩
  | 106 => ⟨S8192x16x64, .f32⟩
  | 107 => ⟨S_, .f32⟩
  | 108 => ⟨S8192x16x64, .f32⟩
  | 109 => ⟨S8192x16x128, .f32⟩
  | 110 => ⟨S8192x16x64, .f32⟩
  | 111 => ⟨S8192x16x32, .f32⟩
  | 112 => ⟨S8192x16x32, .f32⟩
  | 113 => ⟨S8192x16x32, .f32⟩
  | 114 => ⟨S8192x16x32, .f32⟩
  | 115 => ⟨S8192x16x32, .f32⟩
  | 116 => ⟨S8192x16x32, .f32⟩
  | 117 => ⟨S8192x16x32, .f32⟩
  | 118 => ⟨S8192x16x32, .f32⟩
  | 119 => ⟨S8192x16x32, .f32⟩
  | 120 => ⟨S8192x16x32, .f32⟩
  | 121 => ⟨S8192x16x32, .f32⟩
  | 122 => ⟨S8192x16x32, .f32⟩
  | 123 => ⟨S8192x16x64, .f32⟩
  | 124 => ⟨S8192x16x256, .f32⟩
  | 125 => ⟨S16x256x8192, .f32⟩
  | 126 => ⟨S8192x16x128, .f32⟩
  | 127 => ⟨S8192x16x256, .f32⟩
  | _ => ⟨S8192x2048, .f32⟩

abbrev hbmTy0_1 (i : Nat) : BufTy := match i % 128 with
  | 0 => ⟨S16x8192x256, .f32⟩
  | 1 => ⟨S8192x16x128, .f32⟩
  | 2 => ⟨S16x512x16x128, .f32⟩
  | 3 => ⟨S16x16x128x512, .f32⟩
  | 4 => ⟨S_, .f32⟩
  | 5 => ⟨S16x16x16x512, .f32⟩
  | 6 => ⟨S16x16x144x512, .f32⟩
  | 7 => ⟨S8192x2048, .bf16⟩
  | 8 => ⟨S16x256x8192, .bf16⟩
  | 9 => ⟨S16x8192x256, .bf16⟩
  | 10 => ⟨S16x16x144x512, .bf16⟩
  | _ => ⟨S8192x2048, .f32⟩

abbrev hbmTy (i : Nat) : BufTy := match i / 128 with
  | 0 => hbmTy0_0 i
  | 1 => hbmTy0_1 i
  | _ => ⟨S8192x2048, .f32⟩

abbrev bufTy : (tb : Table) → Fin (tcTables nBuf tb) → BufTy
  | .hbm, ⟨i, _⟩ => hbmTy i
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_cst_1 : Ref sig .tc := ⟨.hbm, 16, rfl⟩
abbrev main_v6 : Ref sig .tc := ⟨.hbm, 17, rfl⟩
abbrev main_v7 : Ref sig .tc := ⟨.hbm, 18, rfl⟩
abbrev main_cst_2 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_3 : Ref sig .tc := ⟨.hbm, 33, rfl⟩
abbrev main_v21 : Ref sig .tc := ⟨.hbm, 34, rfl⟩
abbrev main_v22 : Ref sig .tc := ⟨.hbm, 35, rfl⟩
abbrev main_cst_4 : Ref sig .tc := ⟨.hbm, 36, rfl⟩
abbrev main_v23 : Ref sig .tc := ⟨.hbm, 37, rfl⟩
abbrev main_v24 : Ref sig .tc := ⟨.hbm, 38, rfl⟩
abbrev main_cst_5 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_cst_6 : Ref sig .tc := ⟨.hbm, 52, rfl⟩
abbrev main_v37 : Ref sig .tc := ⟨.hbm, 53, rfl⟩
abbrev main_v38 : Ref sig .tc := ⟨.hbm, 54, rfl⟩
abbrev main_cst_7 : Ref sig .tc := ⟨.hbm, 55, rfl⟩
abbrev main_v39 : Ref sig .tc := ⟨.hbm, 56, rfl⟩
abbrev main_v40 : Ref sig .tc := ⟨.hbm, 57, rfl⟩
abbrev main_cst_8 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_cst_9 : Ref sig .tc := ⟨.hbm, 68, rfl⟩
abbrev main_v50 : Ref sig .tc := ⟨.hbm, 69, rfl⟩
abbrev main_cst_10 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_cst_11 : Ref sig .tc := ⟨.hbm, 78, rfl⟩
abbrev main_v58 : Ref sig .tc := ⟨.hbm, 79, rfl⟩
abbrev main_v59 : Ref sig .tc := ⟨.hbm, 80, rfl⟩
abbrev main_cst_12 : Ref sig .tc := ⟨.hbm, 81, rfl⟩
abbrev main_v60 : Ref sig .tc := ⟨.hbm, 82, rfl⟩
abbrev main_v61 : Ref sig .tc := ⟨.hbm, 83, rfl⟩
abbrev main_cst_13 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_cst_14 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩
abbrev main_v87 : Ref sig .tc := ⟨.hbm, 111, rfl⟩
abbrev main_v88 : Ref sig .tc := ⟨.hbm, 112, rfl⟩
abbrev main_v89 : Ref sig .tc := ⟨.hbm, 113, rfl⟩
abbrev main_v90 : Ref sig .tc := ⟨.hbm, 114, rfl⟩
abbrev main_v91 : Ref sig .tc := ⟨.hbm, 115, rfl⟩
abbrev main_v92 : Ref sig .tc := ⟨.hbm, 116, rfl⟩
abbrev main_v93 : Ref sig .tc := ⟨.hbm, 117, rfl⟩
abbrev main_v94 : Ref sig .tc := ⟨.hbm, 118, rfl⟩
abbrev main_v95 : Ref sig .tc := ⟨.hbm, 119, rfl⟩
abbrev main_v96 : Ref sig .tc := ⟨.hbm, 120, rfl⟩
abbrev main_v97 : Ref sig .tc := ⟨.hbm, 121, rfl⟩
abbrev main_v98 : Ref sig .tc := ⟨.hbm, 122, rfl⟩
abbrev main_v99 : Ref sig .tc := ⟨.hbm, 123, rfl⟩
abbrev main_v100 : Ref sig .tc := ⟨.hbm, 124, rfl⟩
abbrev main_v101 : Ref sig .tc := ⟨.hbm, 125, rfl⟩
abbrev main_v102 : Ref sig .tc := ⟨.hbm, 126, rfl⟩
abbrev main_v103 : Ref sig .tc := ⟨.hbm, 127, rfl⟩
abbrev main_v104 : Ref sig .tc := ⟨.hbm, 128, rfl⟩
abbrev main_v105 : Ref sig .tc := ⟨.hbm, 129, rfl⟩
abbrev main_v106 : Ref sig .tc := ⟨.hbm, 130, rfl⟩
abbrev main_v107 : Ref sig .tc := ⟨.hbm, 131, rfl⟩
abbrev main_cst_15 : Ref sig .tc := ⟨.hbm, 132, rfl⟩
abbrev main_v108 : Ref sig .tc := ⟨.hbm, 133, rfl⟩
abbrev main_v109 : Ref sig .tc := ⟨.hbm, 134, rfl⟩
abbrev main_v110 : Ref sig .tc := ⟨.hbm, 135, rfl⟩
abbrev main_v111 : Ref sig .tc := ⟨.hbm, 136, rfl⟩
abbrev main_v112 : Ref sig .tc := ⟨.hbm, 137, rfl⟩
abbrev main_v113 : Ref sig .tc := ⟨.hbm, 138, rfl⟩

abbrev nD : Nat := 1
abbrev τ : Topo := Topo.v7x

variable {F : FTy → Type} [FloatOps F]
-- ==== Proof.ConvStep.lean ====
/- What one grid point of the convolution mixer's kernel leaves in its result block and in its five scratch arrays,
   as plain terms of what it found: the two ways the body runs (first row block of a column block: the weights are cast
   into scratch and the carried rows cleared; any other row block: both are read back) leave the same terms over the
   weights and the carried rows they work with. -/
module

public import proofs.«01_k».proof.Proof.Gen.KernelIdeal.Frame
public import Idealize.ShloMosaic.Lib.Pipeline.Value
public import Idealize.ShloMosaic.Lib.ValueIdx
public import Idealize.ShloMosaic.Lib.Tactic

@[expose] public section

noncomputable section

namespace Cert.KernelIdeal.Conv

open Cert.KernelIdeal Cert.KernelIdeal.Gen Idealize.ShloMosaic Idealize.ShloMosaic.TcCoe Idealize.SL.Sem

variable {F : FTy → Type} [FloatOps F]

/-- The zero offset, written out, is the zero offset. -/
theorem hz : (![0, 0] : Fin 2 → Nat) = fun _ => 0 := funext fun a => by fin_cases a <;> rfl

/-- The result block a grid point writes: the lower 1024 rows over the upper 1024 rows, from the input rows `x0`, the four
    cast weight blocks `w1 … w4`, the taps `x5` and the carried rows `cr`. -/
def outV (x0 : Vec F S2048x2048 .bf16) (w1 w2 w3 w4 : Vec F S256x2048 .bf16) (x5 : Vec F S3x256 .f32) (cr : Vec F S8x256 .f32) :
    S2048x256.Idx → Elt F .bf16 :=
  View.canon
      [⟨Rect.unit ![1024, 0] ![1024, 256] inb_S2048x256_S1024x256_1024_0,
          k0_pay14 (k0_pay7 x0 w3 w1) (k0_pay8 x0 w2) (k0_pay9 x0 w3 w1 cr) (k0_pay10 x0 w3 w1 cr) x5
            (k0_pay11 x5) (View.ld x0 (Rect.unit ![1024, 0] ![1024, 2048] inb_S2048x2048_S1024x2048_1024_0)) w4⟩,
        ⟨Rect.unit ![0, 0] ![1024, 256] inb_S2048x256_S1024x256_0_0,
          k0_pay13 (k0_pay7 x0 w3 w1) (k0_pay8 x0 w2) (k0_pay9 x0 w3 w1 cr) (k0_pay10 x0 w3 w1 cr) x5
            (k0_pay11 x5) (View.ld x0 (Rect.unit ![0, 0] ![1024, 2048] inb_S2048x2048_S1024x2048_0_0)) w4⟩]

variable (c : Dev nD) (i : grid0.Coords) (arg2 : Memref sig .tc .vmem S2048x2048 .bf16) (harg2 : arg2.IsWhole) (arg3 : Memref sig .tc .vmem S256x2048 .f32) (harg3 : arg3.IsWhole) (arg4 : Memref sig .tc .vmem S256x2048 .f32) (harg4 : arg4.IsWhole) (arg5 : Memref sig .tc .vmem S256x2048 .f32) (harg5 : arg5.IsWhole) (arg6 : Memref sig .tc .vmem S256x2048 .f32) (harg6 : arg6.IsWhole) (arg7 : Memref sig .tc .vmem S3x256 .f32) (harg7 : arg7.IsWhole) (arg8 : Memref sig .tc .vmem S2048x256 .bf16) (harg8 : arg8.IsWhole) (arg9 : Memref sig .tc .vmem S256x2048 .bf16) (harg9 : arg9.IsWhole) (arg10 : Memref sig .tc .vmem S256x2048 .bf16) (harg10 : arg10.IsWhole) (arg11 : Memref sig .tc .vmem S256x2048 .bf16) (harg11 : arg11.IsWhole) (arg12 : Memref sig .tc .vmem S256x2048 .bf16) (harg12 : arg12.IsWhole) (arg13 : Memref sig .tc .vmem S8x256 .f32) (harg13 : arg13.IsWhole)
  (x0 : Vec F S2048x2048 .bf16) (x1 : Vec F S256x2048 .f32) (x2 : Vec F S256x2048 .f32) (x3 : Vec F S256x2048 .f32) (x4 : Vec F S256x2048 .f32) (x5 : Vec F S3x256 .f32) (xs0 : Vec F S256x2048 .bf16) (xs1 : Vec F S256x2048 .bf16) (xs2 : Vec F S256x2048 .bf16) (xs3 : Vec F S256x2048 .bf16) (xs4 : Vec F S8x256 .f32)

/-- Past the first row block the result block is `outV` of the scratch the point before left. -/
theorem out_B (hc : ¬cond0_0 i) :
    out0_B_6 c i arg2 harg2 arg3 harg3 arg4 harg4 arg5 harg5 arg6 harg6 arg7 harg7 arg8 harg8 arg9 harg9 arg10 harg10 arg11 harg11 arg12 harg12 arg13 harg13 hc x0 x1 x2 x3 x4 x5 xs0 xs1 xs2 xs3 xs4 = outV x0 xs0 xs1 xs2 xs3 x5 xs4 := by
  unfold out0_B_6
  rw [View.read_writes_eq_canon _ _ _ (cover0_B_6 c i arg2 harg2 arg3 harg3 arg4 harg4 arg5 harg5 arg6 harg6 arg7 harg7 arg8 harg8 arg9 harg9 arg10 harg10 arg11 harg11 arg12 harg12 arg13 harg13 hc x0 x1 x2 x3 x4 x5 xs0 xs1 xs2 xs3 xs4)]
  unfold kernelRun0_B outV
  dsimp only
  sl_unfold_words
  simp only [View.readAt_eq_ld, harg2.read_unread, harg7.read_unread, harg9.read_unread, harg10.read_unread, harg11.read_unread, harg12.read_unread, harg13.read_unread, View.ld_unit_zero (S := S2048x2048) hz, View.ld_unit_zero (S := S256x2048) hz, View.ld_unit_zero (S := S8x256) hz, View.ld_unit_zero (S := S3x256) hz]

/-- On the first row block the result block is `outV` of the weights cast there and of no carried rows. -/
theorem out_A (hc : cond0_0 i) :
    out0_A_6 c i arg2 harg2 arg3 harg3 arg4 harg4 arg5 harg5 arg6 harg6 arg7 harg7 arg8 harg8 arg9 harg9 arg10 harg10 arg11 harg11 arg12 harg12 arg13 harg13 hc x0 x1 x2 x3 x4 x5 = outV x0 (k0_pay3 x1) (k0_pay4 x2) (k0_pay5 x3) (k0_pay6 x4) x5 k0_pay2 := by
  unfold out0_A_6
  rw [View.read_writes_eq_canon _ _ _ (cover0_A_6 c i arg2 harg2 arg3 harg3 arg4 harg4 arg5 harg5 arg6 harg6 arg7 harg7 arg8 harg8 arg9 harg9 arg10 harg10 arg11 harg11 arg12 harg12 arg13 harg13 hc x0 x1 x2 x3 x4 x5)]
  unfold kernelRun0_A outV
  dsimp only
  sl_unfold_words
  simp only [View.readAt_eq_ld, harg2.read_unread, harg3.read_unread, harg4.read_unread, harg5.read_unread, harg6.read_unread, harg7.read_unread, View.ld_unit_zero (S := S2048x2048) hz, View.ld_unit_zero (S := S256x2048) hz, View.ld_unit_zero (S := S8x256) hz, View.ld_unit_zero (S := S3x256) hz, View.readCov_unit_zero (S := S256x2048) _ hz, View.readCov_unit_zero (S := S8x256) _ hz]

/-- Past the first row block the carried rows left are the last rows of the point's products. -/
theorem sout_B_4 (hc : ¬cond0_0 i) :
    sout0_B_4 c i arg2 harg2 arg3 harg3 arg4 harg4 arg5 harg5 arg6 harg6 arg7 harg7 arg8 harg8 arg9 harg9 arg10 harg10 arg11 harg11 arg12 harg12 arg13 harg13 hc x0 x1 x2 x3 x4 x5 xs0 xs1 xs2 xs3 xs4 = k0_pay1 (k0_pay7 x0 xs2 xs0) := by
  unfold sout0_B_4
  rw [View.read_writes_eq_canon _ _ _ (scover0_B_4 c i arg2 harg2 arg3 harg3 arg4 harg4 arg5 harg5 arg6 harg6 arg7 harg7 arg8 harg8 arg9 harg9 arg10 harg10 arg11 harg11 arg12 harg12 arg13 harg13 hc x0 x1 x2 x3 x4 x5 xs0 xs1 xs2 xs3 xs4)]
  unfold kernelRun0_B
  dsimp only
  sl_unfold_words
  simp only [View.readAt_eq_ld, harg2.read_unread, harg7.read_unread, harg9.read_unread, harg10.read_unread, harg11.read_unread, harg12.read_unread, harg13.read_unread, View.ld_unit_zero (S := S2048x2048) hz, View.ld_unit_zero (S := S256x2048) hz, View.ld_unit_zero (S := S8x256) hz, View.ld_unit_zero (S := S3x256) hz]
  rw [View.canon_unit_zero hz]

/-- On the first row block, likewise, over the weights cast there. -/
theorem sout_A_4 (hc : cond0_0 i) :
    sout0_A_4 c i arg2 harg2 arg3 harg3 arg4 harg4 arg5 harg5 arg6 harg6 arg7 harg7 arg8 harg8 arg9 harg9 arg10 harg10 arg11 harg11 arg12 harg12 arg13 harg13 hc x0 x1 x2 x3 x4 x5 = k0_pay1 (k0_pay7 x0 (k0_pay5 x3) (k0_pay3 x1)) := by
  unfold sout0_A_4
  rw [View.read_writes_eq_canon _ _ _ (scover0_A_4 c i arg2 harg2 arg3 harg3 arg4 harg4 arg5 harg5 arg6 harg6 arg7 harg7 arg8 harg8 arg9 harg9 arg10 harg10 arg11 harg11 arg12 harg12 arg13 harg13 hc x0 x1 x2 x3 x4 x5)]
  unfold kernelRun0_A
  dsimp only
  sl_unfold_words
  simp only [View.readAt_eq_ld, harg2.read_unread, harg3.read_unread, harg4.read_unread, harg5.read_unread, harg6.read_unread, harg7.read_unread, View.ld_unit_zero (S := S2048x2048) hz, View.ld_unit_zero (S := S256x2048) hz, View.ld_unit_zero (S := S8x256) hz, View.ld_unit_zero (S := S3x256) hz, View.readCov_unit_zero (S := S256x2048) _ hz]
  rw [View.canon_cons_unit_zero hz]

/-- On the first row block scratch 0 is left at its weight block, cast. -/
theorem sout_A_0 (hc : cond0_0 i) :
    sout0_A_0 c i arg2 harg2 arg3 harg3 arg4 harg4 arg5 harg5 arg6 harg6 arg7 harg7 arg8 harg8 arg9 harg9 arg10 harg10 arg11 harg11 arg12 harg12 arg13 harg13 hc x0 x1 x2 x3 x4 x5 = k0_pay3 x1 := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 arg12 harg12 arg13 harg13 hc x0 x1 x2 x3 x4 x5)]
  unfold kernelRun0_A
  dsimp only
  sl_unfold_words
  simp only [View.readAt_eq_ld, harg3.read_unread, harg4.read_unread, harg5.read_unread, harg6.read_unread, View.ld_unit_zero (S := S256x2048) hz]
  rw [View.canon_unit_zero hz]

/-- Past it scratch 0 is as the point before left it. -/
theorem sout_B_0 (hc : ¬cond0_0 i) :
    sout0_B_0 c i arg2 harg2 arg3 harg3 arg4 harg4 arg5 harg5 arg6 harg6 arg7 harg7 arg8 harg8 arg9 harg9 arg10 harg10 arg11 harg11 arg12 harg12 arg13 harg13 hc x0 x1 x2 x3 x4 x5 xs0 xs1 xs2 xs3 xs4 = xs0 := by
  unfold sout0_B_0
  rfl

/-- On the first row block scratch 1 is left at its weight block, cast. -/
theorem sout_A_1 (hc : cond0_0 i) :
    sout0_A_1 c i arg2 harg2 arg3 harg3 arg4 harg4 arg5 harg5 arg6 harg6 arg7 harg7 arg8 harg8 arg9 harg9 arg10 harg10 arg11 harg11 arg12 harg12 arg13 harg13 hc x0 x1 x2 x3 x4 x5 = k0_pay4 x2 := by
  unfold sout0_A_1
  rw [View.read_writes_eq_canon _ _ _ (scover0_A_1 c i arg2 harg2 arg3 harg3 arg4 harg4 arg5 harg5 arg6 harg6 arg7 harg7 arg8 harg8 arg9 harg9 arg10 harg10 arg11 harg11 arg12 harg12 arg13 harg13 hc x0 x1 x2 x3 x4 x5)]
  unfold kernelRun0_A
  dsimp only
  sl_unfold_words
  simp only [View.readAt_eq_ld, harg3.read_unread, harg4.read_unread, harg5.read_unread, harg6.read_unread, View.ld_unit_zero (S := S256x2048) hz]
  rw [View.canon_unit_zero hz]

/-- Past it scratch 1 is as the point before left it. -/
theorem sout_B_1 (hc : ¬cond0_0 i) :
    sout0_B_1 c i arg2 harg2 arg3 harg3 arg4 harg4 arg5 harg5 arg6 harg6 arg7 harg7 arg8 harg8 arg9 harg9 arg10 harg10 arg11 harg11 arg12 harg12 arg13 harg13 hc x0 x1 x2 x3 x4 x5 xs0 xs1 xs2 xs3 xs4 = xs1 := by
  unfold sout0_B_1
  rfl

/-- On the first row block scratch 2 is left at its weight block, cast. -/
theorem sout_A_2 (hc : cond0_0 i) :
    sout0_A_2 c i arg2 harg2 arg3 harg3 arg4 harg4 arg5 harg5 arg6 harg6 arg7 harg7 arg8 harg8 arg9 harg9 arg10 harg10 arg11 harg11 arg12 harg12 arg13 harg13 hc x0 x1 x2 x3 x4 x5 = k0_pay5 x3 := by
  unfold sout0_A_2
  rw [View.read_writes_eq_canon _ _ _ (scover0_A_2 c i arg2 harg2 arg3 harg3 arg4 harg4 arg5 harg5 arg6 harg6 arg7 harg7 arg8 harg8 arg9 harg9 arg10 harg10 arg11 harg11 arg12 harg12 arg13 harg13 hc x0 x1 x2 x3 x4 x5)]
  unfold kernelRun0_A
  dsimp only
  sl_unfold_words
  simp only [View.readAt_eq_ld, harg3.read_unread, harg4.read_unread, harg5.read_unread, harg6.read_unread, View.ld_unit_zero (S := S256x2048) hz]
  rw [View.canon_unit_zero hz]

/-- Past it scratch 2 is as the point before left it. -/
theorem sout_B_2 (hc : ¬cond0_0 i) :
    sout0_B_2 c i arg2 harg2 arg3 harg3 arg4 harg4 arg5 harg5 arg6 harg6 arg7 harg7 arg8 harg8 arg9 harg9 arg10 harg10 arg11 harg11 arg12 harg12 arg13 harg13 hc x0 x1 x2 x3 x4 x5 xs0 xs1 xs2 xs3 xs4 = xs2 := by
  unfold sout0_B_2
  rfl

/-- On the first row block scratch 3 is left at its weight block, cast. -/
theorem sout_A_3 (hc : cond0_0 i) :
    sout0_A_3 c i arg2 harg2 arg3 harg3 arg4 harg4 arg5 harg5 arg6 harg6 arg7 harg7 arg8 harg8 arg9 harg9 arg10 harg10 arg11 harg11 arg12 harg12 arg13 harg13 hc x0 x1 x2 x3 x4 x5 = k0_pay6 x4 := by
  unfold sout0_A_3
  rw [View.read_writes_eq_canon _ _ _ (scover0_A_3 c i arg2 harg2 arg3 harg3 arg4 harg4 arg5 harg5 arg6 harg6 arg7 harg7 arg8 harg8 arg9 harg9 arg10 harg10 arg11 harg11 arg12 harg12 arg13 harg13 hc x0 x1 x2 x3 x4 x5)]
  unfold kernelRun0_A
  dsimp only
  sl_unfold_words
  simp only [View.readAt_eq_ld, harg3.read_unread, harg4.read_unread, harg5.read_unread, harg6.read_unread, View.ld_unit_zero (S := S256x2048) hz]
  rw [View.canon_unit_zero hz]

/-- Past it scratch 3 is as the point before left it. -/
theorem sout_B_3 (hc : ¬cond0_0 i) :
    sout0_B_3 c i arg2 harg2 arg3 harg3 arg4 harg4 arg5 harg5 arg6 harg6 arg7 harg7 arg8 harg8 arg9 harg9 arg10 harg10 arg11 harg11 arg12 harg12 arg13 harg13 hc x0 x1 x2 x3 x4 x5 xs0 xs1 xs2 xs3 xs4 = xs3 := by
  unfold sout0_B_3
  rfl

end Cert.KernelIdeal.Conv
end
-- ==== Proof.ConvRead.lean ====
/- What the convolution mixer's kernel reads at a grid point: its input blocks at an index, as elements of the arguments. -/
module

public import proofs.«01_k».proof.Proof.Gen.KernelIdeal.Frame
public import Idealize.ShloMosaic.Lib.Pipeline.ValueKit
public import Idealize.ShloMosaic.Lib.Pointwise

@[expose] public section

set_option maxRecDepth 16384

noncomputable section

namespace Cert.KernelIdeal.Conv

open Cert.KernelIdeal Cert.KernelIdeal.Gen Idealize.ShloMosaic Idealize.ShloMosaic.TcCoe Idealize.SL.Sem

variable {F : FTy → Type} [FloatOps F] (m : (ℓ : Loc nD τ sig) → Buf (Elt F) ℓ) (c : Dev nD)

/-- The block indices of the input windows at point `t`: row block `t % 4`, column block `t / 4`. -/
theorem idx_in : ∀ t : Fin cfg0.N, win0_0.index t = ![t.val % 4, 0] ∧ win0_1.index t = ![3136 + 256 * (t.val / 4), 0]
    ∧ win0_2.index t = ![5184 + 256 * (t.val / 4), 0] ∧ win0_3.index t = ![7232 + 256 * (t.val / 4), 0]
    ∧ win0_4.index t = ![9280 + 256 * (t.val / 4), 0] ∧ win0_5.index t = ![0, t.val / 4] :=
  (by decide +kernel : ∀ t : Fin grid0.N, _)

theorem N32 : cfg0.N = 32 := rfl

/-- The input rows' block. -/
theorem blk_h (t : Fin cfg0.N) (y : S2048x2048.Idx) (hb : 2048 * (t.val % 4) + (y 0).val < 8192) :
    iblk m c 0 t y = m ((c.tc : Thread nD τ).loc main_arg0) (ix2 ⟨2048 * (t.val % 4) + (y 0).val, hb⟩ (y 1)) := by
  blk_ext [iblk, V, (idx_in t).1]

/-- The input's weight block: columns 3136 + 256 (t / 4) … of the weights, transposed. -/
theorem blk_w1 (t : Fin cfg0.N) (y : S256x2048.Idx) (hb : 3136 + 256 * (t.val / 4) + (y 0).val < 15424) :
    iblk m c 1 t y = m ((c.tc : Thread nD τ).loc main_arg1) (ix2 (y 1) ⟨3136 + 256 * (t.val / 4) + (y 0).val, hb⟩) := by
  blk_simp [iblk]
  entry_read
  pointwise
  have e : win0_1.index t = ![3136 + 256 * (t.val / 4), 0] := (idx_in t).2.1
  have e0 := Pipeline.Window.rect_emb_val_off win0_1 t y 0
  have e1 := Pipeline.Window.rect_emb_val_off win0_1 t y 1
  rw [e] at e0 e1
  refine congrArg _ (congrArg₂ ix2 (Fin.ext ?_) (Fin.ext ?_))
  · exact e1.trans (Nat.zero_add _)
  · exact e0

/-- The first gate's weight block: columns 5184 + 256 (t / 4) … of the weights, transposed. -/
theorem blk_w2 (t : Fin cfg0.N) (y : S256x2048.Idx) (hb : 5184 + 256 * (t.val / 4) + (y 0).val < 15424) :
    iblk m c 2 t y = m ((c.tc : Thread nD τ).loc main_arg1) (ix2 (y 1) ⟨5184 + 256 * (t.val / 4) + (y 0).val, hb⟩) := by
  blk_simp [iblk]
  entry_read
  pointwise
  have e : win0_2.index t = ![5184 + 256 * (t.val / 4), 0] := (idx_in t).2.2.1
  have e0 := Pipeline.Window.rect_emb_val_off win0_2 t y 0
  have e1 := Pipeline.Window.rect_emb_val_off win0_2 t y 1
  rw [e] at e0 e1
  refine congrArg _ (congrArg₂ ix2 (Fin.ext ?_) (Fin.ext ?_))
  · exact e1.trans (Nat.zero_add _)
  · exact e0

/-- The second gate's weight block: columns 7232 + 256 (t / 4) … of the weights, transposed. -/
theorem blk_w3 (t : Fin cfg0.N) (y : S256x2048.Idx) (hb : 7232 + 256 * (t.val / 4) + (y 0).val < 15424) :
    iblk m c 3 t y = m ((c.tc : Thread nD τ).loc main_arg1) (ix2 (y 1) ⟨7232 + 256 * (t.val / 4) + (y 0).val, hb⟩) := by
  blk_simp [iblk]
  entry_read
  pointwise
  have e : win0_3.index t = ![7232 + 256 * (t.val / 4), 0] := (idx_in t).2.2.2.1
  have e0 := Pipeline.Window.rect_emb_val_off win0_3 t y 0
  have e1 := Pipeline.Window.rect_emb_val_off win0_3 t y 1
  rw [e] at e0 e1
  refine congrArg _ (congrArg₂ ix2 (Fin.ext ?_) (Fin.ext ?_))
  · exact e1.trans (Nat.zero_add _)
  · exact e0

/-- The output gate's weight block: columns 9280 + 256 (t / 4) … of the weights, transposed. -/
theorem blk_w4 (t : Fin cfg0.N) (y : S256x2048.Idx) (hb : 9280 + 256 * (t.val / 4) + (y 0).val < 15424) :
    iblk m c 4 t y = m ((c.tc : Thread nD τ).loc main_arg1) (ix2 (y 1) ⟨9280 + 256 * (t.val / 4) + (y 0).val, hb⟩) := by
  blk_simp [iblk]
  entry_read
  pointwise
  have e : win0_4.index t = ![9280 + 256 * (t.val / 4), 0] := (idx_in t).2.2.2.2.1
  have e0 := Pipeline.Window.rect_emb_val_off win0_4 t y 0
  have e1 := Pipeline.Window.rect_emb_val_off win0_4 t y 1
  rw [e] at e0 e1
  refine congrArg _ (congrArg₂ ix2 (Fin.ext ?_) (Fin.ext ?_))
  · exact e1.trans (Nat.zero_add _)
  · exact e0

/-- The taps' block. -/
theorem blk_cw (t : Fin cfg0.N) (y : S3x256.Idx) (hb : 256 * (t.val / 4) + (y 1).val < 2048) :
    iblk m c 5 t y = m ((c.tc : Thread nD τ).loc main_arg2) (ix2 (y 0) ⟨256 * (t.val / 4) + (y 1).val, hb⟩) := by
  blk_ext [iblk, V, (idx_in t).2.2.2.2.2]

end Cert.KernelIdeal.Conv
end
-- ==== Proof.ConvState.lean ====
/- The convolution mixer's scratch over the grid: after every point the four scratch weights are the column block's weights
   cast, and the carried rows are the last eight rows of the point's products; so every point's result block is `outV` of
   the point's own blocks and of the rows the row block before left (none at the top). -/
module

public import proofs.«01_k».proof.Proof.ConvStep
public import proofs.«01_k».proof.Proof.ConvRead

@[expose] public section

set_option maxRecDepth 16384

noncomputable section

namespace Cert.KernelIdeal.Conv

open Cert.KernelIdeal Cert.KernelIdeal.Gen Idealize.ShloMosaic Idealize.ShloMosaic.TcCoe Idealize.SL.Sem

variable {F : FTy → Type} [FloatOps F] (m : (ℓ : Loc nD τ sig) → Buf (Elt F) ℓ) (c : Dev nD)

/-- Two points of one column block read the same weight blocks. -/
theorem blk_w_same (t u : Fin cfg0.N) (h : t.val / 4 = u.val / 4) :
    iblk m c 1 t = iblk m c 1 u ∧ iblk m c 2 t = iblk m c 2 u ∧ iblk m c 3 t = iblk m c 3 u ∧ iblk m c 4 t = iblk m c 4 u := by
  have ht : t.val < 32 := t.isLt
  refine ⟨funext fun (y : S256x2048.Idx) => ?_, funext fun (y : S256x2048.Idx) => ?_, funext fun (y : S256x2048.Idx) => ?_, funext fun (y : S256x2048.Idx) => ?_⟩ <;>
    have hy : (y 0).val < 256 := (y 0).isLt
  · rw [blk_w1 m c t y (by omega), blk_w1 m c u y (by omega)]; simp only [h]
  · rw [blk_w2 m c t y (by omega), blk_w2 m c u y (by omega)]; simp only [h]
  · rw [blk_w3 m c t y (by omega), blk_w3 m c u y (by omega)]; simp only [h]
  · rw [blk_w4 m c t y (by omega), blk_w4 m c u y (by omega)]; simp only [h]

/-- The products of the input's and the second gate's projections, at a point. -/
def prodV (t : Fin cfg0.N) : FVec F S2048x256 .f32 :=
  k0_pay7 (iblk m c 0 t) (k0_pay5 (iblk m c 3 t)) (k0_pay3 (iblk m c 1 t))

/-- THE SCRATCH after point `t`. -/
theorem scratch (n : ℕ) : ∀ t : Fin cfg0.N, t.val = n →
    (outsAt0 m c t.val t.isLt).2.1 = k0_pay3 (iblk m c 1 t) ∧ (outsAt0 m c t.val t.isLt).2.2.1 = k0_pay4 (iblk m c 2 t)
    ∧ (outsAt0 m c t.val t.isLt).2.2.2.1 = k0_pay5 (iblk m c 3 t) ∧ (outsAt0 m c t.val t.isLt).2.2.2.2.1 = k0_pay6 (iblk m c 4 t)
    ∧ (outsAt0 m c t.val t.isLt).2.2.2.2.2 = k0_pay1 (prodV m c t) := by
  induction n with
  | zero =>
    intro t ht
    have h0 : t.val % 4 = 0 := by omega
    rw [outsAt0_A m c t h0]
    dsimp only
    rw [sout_A_0, sout_A_1, sout_A_2, sout_A_3, sout_A_4, prodV]
    exact ⟨rfl, rfl, rfl, rfl, rfl⟩
  | succ n ih =>
    intro t ht
    by_cases h0 : t.val % 4 = 0
    · rw [outsAt0_A m c t h0]
      dsimp only
      rw [sout_A_0, sout_A_1, sout_A_2, sout_A_3, sout_A_4, prodV]
      exact ⟨rfl, rfl, rfl, rfl, rfl⟩
    · have hp : t.val - 1 < cfg0.N := by have := t.isLt; omega
      obtain ⟨i1, i2, i3, i4, -⟩ := ih ⟨t.val - 1, hp⟩ (by show t.val - 1 = n; omega)
      obtain ⟨b1, b2, b3, b4⟩ := blk_w_same m c ⟨t.val - 1, hp⟩ t (by show (t.val - 1) / 4 = t.val / 4; omega)
      dsimp only at i1 i2 i3 i4
      rw [outsAt0_B m c t h0]
      dsimp only
      rw [sout_B_0, sout_B_1, sout_B_2, sout_B_3, sout_B_4, i1, i2, i3, i4, b1, b2, b3, b4, prodV]
      exact ⟨rfl, rfl, rfl, rfl, rfl⟩

/-- The rows a point's shifts take from above its row block: none at the top, else the last rows of the row block before. -/
def carV (t : Fin cfg0.N) : FVec F S8x256 .f32 :=
  if t.val % 4 = 0 then k0_pay2 else k0_pay1 (prodV m c ⟨t.val - 1, by have := t.isLt; omega⟩)

/-- THE RESULT BLOCK of point `t`. -/
theorem out_eq (t : Fin cfg0.N) :
    (outsAt0 m c t.val t.isLt).1 = outV (iblk m c 0 t) (k0_pay3 (iblk m c 1 t)) (k0_pay4 (iblk m c 2 t)) (k0_pay5 (iblk m c 3 t))
      (k0_pay6 (iblk m c 4 t)) (iblk m c 5 t) (carV m c t) := by
  by_cases h0 : t.val % 4 = 0
  · rw [outsAt0_A m c t h0]
    dsimp only
    rw [out_A, carV, if_pos h0]
  · have hp : t.val - 1 < cfg0.N := by have := t.isLt; omega
    obtain ⟨i1, i2, i3, i4, i5⟩ := scratch m c _ ⟨t.val - 1, hp⟩ rfl
    dsimp only at i1 i2 i3 i4 i5
    obtain ⟨b1, b2, b3, b4⟩ := blk_w_same m c ⟨t.val - 1, hp⟩ t (by show (t.val - 1) / 4 = t.val / 4; omega)
    rw [outsAt0_B m c t h0]
    dsimp only
    rw [out_B, i1, i2, i3, i4, i5, b1, b2, b3, b4, carV, if_neg h0]

end Cert.KernelIdeal.Conv
end
-- ==== Proof.Sigmoid.lean ====
/- The logistic function over the extended reals, in the two spellings the programs use. -/
module

public import Idealize.ShloMosaic.Lib.Pointwise

@[expose] public section

noncomputable section

namespace Cert.Sigmoid

open Idealize.ShloMosaic

/-- The single-precision word of one half is one half. -/
theorem half_word : Ideal.ofBits FTy.f32 1056964608#32 = ((1 / 2 : ℝ) : EReal) := by
  simp [Ideal.ofBits, Ideal.ieee, -EReal.coe_mul]
  norm_num

/-- The half-width word of one half is one half. -/
theorem half_word_bf16 : Ideal.ofBits FTy.bf16 16128#16 = ((1 / 2 : ℝ) : EReal) := by
  simp [Ideal.ofBits, Ideal.ieee, -EReal.coe_mul]
  norm_num

/-- `1 / (1 + e⁻ˣ)`. -/
def sig (x : EReal) : EReal := Ideal.div 1 (1 + Ideal.exp (-x))

/-- Half the hyperbolic tangent of half the argument, and a half, is the logistic function — at the infinities too. -/
theorem half_tanh (x : EReal) :
    Ideal.ofBits FTy.f32 1056964608#32 * Ideal.tanh (Ideal.ofBits FTy.f32 1056964608#32 * x) + Ideal.ofBits FTy.f32 1056964608#32
      = sig x := by
  rw [half_word]
  unfold sig
  induction x using EReal.rec with
  | bot =>
    rw [EReal.coe_mul_bot_of_pos (by norm_num)]
    show ((1 / 2 : ℝ) : EReal) * ((-1 : ℝ) : EReal) + ((1 / 2 : ℝ) : EReal) = Ideal.div 1 (1 + ⊤)
    rw [← EReal.coe_mul, ← EReal.coe_add, ← EReal.coe_one, EReal.coe_add_top]
    simp [Ideal.div]
  | top =>
    rw [EReal.coe_mul_top_of_pos (by norm_num)]
    show ((1 / 2 : ℝ) : EReal) * ((1 : ℝ) : EReal) + ((1 / 2 : ℝ) : EReal) = Ideal.div 1 (1 + 0)
    rw [← EReal.coe_mul, ← EReal.coe_add, add_zero, show (1 / 2 * 1 + 1 / 2 : ℝ) = 1 by norm_num]
    simp [Ideal.div]
  | coe r =>
    rw [← EReal.coe_mul, ← EReal.coe_neg]
    show ((1 / 2 : ℝ) : EReal) * ((Real.tanh (1 / 2 * r) : ℝ) : EReal) + ((1 / 2 : ℝ) : EReal) = Ideal.div 1 (1 + ((Real.exp (-r) : ℝ) : EReal))
    have hp : (0:ℝ) < 1 + Real.exp (-r) := by positivity
    rw [← EReal.coe_one, ← EReal.coe_add, ← EReal.coe_mul, ← EReal.coe_add]
    unfold Ideal.div
    rw [if_neg (by rw [EReal.coe_eq_zero]; exact hp.ne'), ← EReal.coe_inv, ← EReal.coe_mul, one_mul, EReal.coe_eq_coe_iff]
    have h1 : Real.exp (1 / 2 * r) ≠ 0 := (Real.exp_pos _).ne'
    have h2 : Real.exp (-r) = Real.exp (-(1 / 2 * r)) * Real.exp (-(1 / 2 * r)) := by rw [← Real.exp_add]; congr 1; ring
    have h3 : (0:ℝ) < Real.exp (1 / 2 * r) := Real.exp_pos _
    rw [Real.tanh_eq_sinh_div_cosh, Real.sinh_eq, Real.cosh_eq, h2, Real.exp_neg]
    field_simp
    ring

/-- The same with the half-width word. -/
theorem half_tanh_bf16 (x : EReal) :
    Ideal.ofBits FTy.bf16 16128#16 * Ideal.tanh (Ideal.ofBits FTy.bf16 16128#16 * x) + Ideal.ofBits FTy.bf16 16128#16 = sig x := by
  rw [half_word_bf16, ← half_word]
  exact half_tanh x

end Cert.Sigmoid
end
-- ==== Proof.ConvPay.lean ====
/- The convolution mixer's block computation over exact numbers, read at an index. -/
module

public import proofs.«01_k».proof.Proof.ConvStep
public import proofs.«01_k».proof.Proof.Sigmoid
public import Idealize.ShloMosaic.Lib.Pipeline.ValueKit
public import Idealize.ShloMosaic.Lib.Pointwise

@[expose] public section

set_option maxRecDepth 16384

noncomputable section

namespace Cert.KernelIdeal.Conv

open Cert.KernelIdeal Cert.KernelIdeal.Gen Idealize.ShloMosaic Idealize.ShloMosaic.TcCoe Idealize.SL.Sem
open scoped BigOperators

variable (x0 : Vec Ideal S2048x2048 .bf16) (w w1 w2 w3 w4 : Vec Ideal S256x2048 .bf16) (x5 : Vec Ideal S3x256 .f32) (cr : Vec Ideal S8x256 .f32)

/-- A row of the input against a row of the weights. -/
def dotRow (r : Fin 2048) (q : Fin 256) : EReal := ∑ k : Fin 2048, x0 (ix2 r k) * w (ix2 q k)

/-- The products of two projections. -/
theorem pay7_at (r : Fin 2048) (q : Fin 256) : k0_pay7 x0 w3 w1 (ix2 r q) = dotRow x0 w3 r q * dotRow x0 w1 r q := by
  unfold dotRow
  pointwise [k0_pay7]

/-- The first gate's projection. -/
theorem pay8_at (r : Fin 2048) (q : Fin 256) : k0_pay8 x0 w2 (ix2 r q) = dotRow x0 w2 r q := by
  unfold dotRow
  pointwise [k0_pay8]

/-- The carried rows left: the last eight rows. -/
theorem pay1_at (v8 : FVec Ideal S2048x256 .f32) (r : Fin 8) (q : Fin 256) :
    k0_pay1 v8 (ix2 r q) = v8 (ix2 ⟨2040 + r.val, by omega⟩ q) := by
  pointwise [k0_pay1]

/-- No carried rows: zeros. -/
theorem pay2_at (r : Fin 8) (q : Fin 256) : (k0_pay2 (F := Ideal)) (ix2 r q) = 0 := by
  pointwise [k0_pay2]

/-- A comparison of a row number with a literal, as a choice. -/
theorem sel_eq {α : Type} (r k : Nat) (hr : r < 2048) (hk : k < 2048) (a b : α) :
    Scalar.select (IntOp.cmpi CmpIPredicate.eq (BitVec.ofNat 32 r) (BitVec.ofNat 32 k)) a b = if r = k then a else b := by
  have h : (BitVec.ofNat 32 r = BitVec.ofNat 32 k) ↔ r = k := by
    constructor
    · intro h
      have := congrArg BitVec.toNat h
      simp only [BitVec.toNat_ofNat] at this
      omega
    · rintro rfl; rfl
  unfold IntOp.cmpi
  by_cases e : r = k
  · subst e; simp [ValueIdx.select_one]
  · rw [if_neg e]
    have : ¬ (BitVec.ofNat 32 r = BitVec.ofNat 32 k) := fun q => e (h.1 q)
    simp only [beq_eq_false_iff_ne.2 this]
    rfl

/-- The products one row up: row 0 from the last carried row. -/
theorem pay9_at (r : Fin 2048) (q : Fin 256) : k0_pay9 x0 w3 w1 cr (ix2 r q) = if h : r.val = 0 then cr (ix2 7 q) else k0_pay7 x0 w3 w1 (ix2 ⟨r.val - 1, by omega⟩ q) := by
  pointwise [k0_pay9]
  refine (sel_eq r.val 0 r.isLt (by norm_num) _ _).trans ?_
  by_cases h : r.val = 0
  · rw [if_pos h, dif_pos h]
  · rw [if_neg h, dif_neg h]
    exact congrArg (fun z => k0_pay7 x0 w3 w1 (ix2 z q)) (Fin.ext (by show (r.val + 2048 - 1) % 2048 = r.val - 1; omega))

/-- The products two rows up: rows 0 and 1 from the last two carried rows. -/
theorem pay10_at (r : Fin 2048) (q : Fin 256) : k0_pay10 x0 w3 w1 cr (ix2 r q) = if h : r.val < 2 then cr (ix2 ⟨6 + r.val, by omega⟩ q) else k0_pay7 x0 w3 w1 (ix2 ⟨r.val - 2, by omega⟩ q) := by
  pointwise [k0_pay10]
  refine (sel_eq r.val 0 r.isLt (by norm_num) _ _).trans ?_
  by_cases h : r.val = 0
  · rw [if_pos h, dif_pos (by omega)]
    exact congrArg (fun z => cr (ix2 z q)) (Fin.ext (by show 6 = 6 + r.val; omega))
  · rw [if_neg h]
    refine (sel_eq r.val 1 r.isLt (by norm_num) _ _).trans ?_
    by_cases h1 : r.val = 1
    · rw [if_pos h1, dif_pos (by omega)]
      exact congrArg (fun z => cr (ix2 z q)) (Fin.ext (by show 7 = 6 + r.val; omega))
    · rw [if_neg h1, dif_neg (by omega)]
      exact congrArg (fun z => k0_pay7 x0 w3 w1 (ix2 z q)) (Fin.ext (by show (r.val + 2048 - 2) % 2048 = r.val - 2; omega))

/-- THE RESULT BLOCK at an index: the first gate times the three taps of the products, times the output gate's `z · sig z`. -/
theorem outV_at (r : Fin 2048) (q : Fin 256) :
    outV x0 w1 w2 w3 w4 x5 cr (ix2 r q)
      = dotRow x0 w2 r q * (x5 (ix2 0 q) * k0_pay10 x0 w3 w1 cr (ix2 r q) + x5 (ix2 1 q) * k0_pay9 x0 w3 w1 cr (ix2 r q)
          + x5 (ix2 2 q) * k0_pay7 x0 w3 w1 (ix2 r q))
        * (dotRow x0 w4 r q * Sigmoid.sig (dotRow x0 w4 r q)) := by
  unfold outV
  refine View.canon_eq_of_allAt _ _ _ ?_ ?_
  · exact View.cover_of_tiled_head _ _ _ (by rfl) _
  · refine View.allAt_cons_unit _ _ _ _ _ ?_ (View.allAt_cons_unit _ _ _ _ _ ?_ (View.allAt_nil _ _)) <;> intro x hx <;>
      have h0 := hx 0 <;> have h1 := hx 1
    · obtain ⟨a, b, rfl⟩ : ∃ (a : Fin 1024) (b : Fin 256), x = ix2 a b := ⟨x 0, x 1, eq_ix2 x⟩
      obtain rfl : q = b := Fin.ext (by simpa using h1)
      have hb : 1024 + a.val < 2048 := by omega
      have ea : r = ⟨1024 + a.val, hb⟩ := Fin.ext h0
      rw [← Sigmoid.half_tanh, ← pay8_at]
      unfold dotRow
      pointwise [k0_pay14, k0_pay11, k0_pay12]
      subst ea
      rfl
    · obtain ⟨a, b, rfl⟩ : ∃ (a : Fin 1024) (b : Fin 256), x = ix2 a b := ⟨x 0, x 1, eq_ix2 x⟩
      obtain rfl : q = b := Fin.ext (by simpa using h1)
      have hb : a.val < 2048 := by omega
      have ea : r = ⟨a.val, hb⟩ := Fin.ext (by simpa using h0)
      rw [← Sigmoid.half_tanh, ← pay8_at]
      unfold dotRow
      pointwise [k0_pay13, k0_pay11, k0_pay12]
      subst ea
      rfl

end Cert.KernelIdeal.Conv
end
-- ==== Proof.ConvSpec.lean ====
/- The convolution mixer as mathematics, and the reference program's result as it. -/
module

public import proofs.«01_k».proof.Proof.Gen.ReferenceIdeal.Run
public import proofs.«01_k».proof.Proof.Sigmoid
public import Idealize.ShloMosaic.Lib.Pointwise

@[expose] public section

set_option maxRecDepth 16384

noncomputable section

namespace Cert.ConvSpec

open Idealize.ShloMosaic Idealize.ShloMosaic.TcCoe Idealize.SL.Sem
open scoped BigOperators

variable (h : (⟨2, ![8192, 2048]⟩ : Shape).Idx → EReal) (w : (⟨2, ![2048, 15424]⟩ : Shape).Idx → EReal)
  (cw : (⟨2, ![3, 2048]⟩ : Shape).Idx → EReal)

/-- The projection of the input rows by the 2048 weight columns from column `st` on. -/
def proj (st : ℕ) (hst : st + 2048 ≤ 15424) (r : Fin 8192) (q : Fin 2048) : EReal :=
  ∑ k : Fin 2048, h (ix2 r k) * w (ix2 k ⟨st + q.val, by omega⟩)

/-- The gated input: the second gate's projection times the input's. -/
def gated (r : Fin 8192) (q : Fin 2048) : EReal :=
  proj h w 7232 (by norm_num) r q * proj h w 3136 (by norm_num) r q

/-- The gated input `d` rows up, zero above the first row. -/
def up (d : ℕ) (r : Fin 8192) (q : Fin 2048) : EReal :=
  if d ≤ r.val then gated h w ⟨r.val - d, by omega⟩ q else 0

/-- The mixer's result: the first gate times the causal three-tap convolution of the gated input, times `z · sig z` of the
    output gate. -/
def out (r : Fin 8192) (q : Fin 2048) : EReal :=
  (proj h w 5184 (by norm_num) r q
      * (cw (ix2 0 q) * up h w 2 r q + cw (ix2 1 q) * up h w 1 r q + cw (ix2 2 q) * up h w 0 r q))
    * (proj h w 9280 (by norm_num) r q * Sigmoid.sig (proj h w 9280 (by norm_num) r q))

/-- THE REFERENCE's result at an index. -/
theorem reference_at (m : (ℓ : Loc Cert.ReferenceIdeal.nD Cert.ReferenceIdeal.τ Cert.ReferenceIdeal.sig) → Buf (Elt Ideal) ℓ) (c : Dev Cert.ReferenceIdeal.nD)
    (r : Fin 8192) (q : Fin 2048) :
    Cert.ReferenceIdeal.Value.res_main_v37 (F := Ideal) m c (ix2 r q)
      = out (m ((c.tc : Thread Cert.ReferenceIdeal.nD Cert.ReferenceIdeal.τ).loc Cert.ReferenceIdeal.main_arg0))
          (m ((c.tc : Thread Cert.ReferenceIdeal.nD Cert.ReferenceIdeal.τ).loc Cert.ReferenceIdeal.main_arg1))
          (m ((c.tc : Thread Cert.ReferenceIdeal.nD Cert.ReferenceIdeal.τ).loc Cert.ReferenceIdeal.main_arg2)) r q := by
  unfold out up gated proj Sigmoid.sig
  unfold Cert.ReferenceIdeal.Value.res_main_v37
  pointwise
  have hz : (FloatOps.sitofp FTy.f32 0#32 : Ideal .f32) = 0 := by
    show (((0#32 : BitVec 32).toInt : ℝ) : EReal) = 0
    simp
  have hr : r.val < 8192 := r.isLt
  refine congrArg₂ (· * ·) (congrArg₂ (· * ·) rfl (congrArg₂ (· + ·) (congrArg₂ (· + ·) (congrArg₂ (· * ·) rfl ?_) (congrArg₂ (· * ·) rfl ?_)) rfl)) rfl
  · by_cases e : 2 ≤ r.val
    · rw [dif_pos ⟨e, by omega⟩, if_pos e]
    · rw [dif_neg (fun x => e x.1), if_neg e]; exact hz
  · by_cases e : 1 ≤ r.val
    · rw [dif_pos ⟨by omega, by omega⟩, if_pos e]
      have h1 : 1 + r.val - 2 = r.val - 1 := by omega
      simp only [h1]
    · rw [dif_neg (fun x => e (by omega)), if_neg e]; exact hz

end Cert.ConvSpec
end
-- ==== Proof.ConvTie.lean ====
/- The convolution mixer's kernel computes the mixer: its result array at every index. -/
module

public import proofs.«01_k».proof.Proof.Gen.KernelIdeal.Value
public import proofs.«01_k».proof.Proof.ConvState
public import proofs.«01_k».proof.Proof.ConvPay
public import proofs.«01_k».proof.Proof.ConvSpec

@[expose] public section

set_option maxRecDepth 16384

noncomputable section

namespace Cert.KernelIdeal.Conv

open Cert.KernelIdeal Cert.KernelIdeal.Gen Idealize.ShloMosaic Idealize.ShloMosaic.TcCoe Idealize.SL.Sem
open scoped BigOperators

variable (m : (ℓ : Loc nD τ sig) → Buf (Elt Ideal) ℓ) (c : Dev nD)

/-- The input rows, the weights and the taps, as arrays of extended reals. -/
abbrev argH : (⟨2, ![8192, 2048]⟩ : Shape).Idx → EReal := m ((c.tc : Thread nD τ).loc main_arg0)
abbrev argW : (⟨2, ![2048, 15424]⟩ : Shape).Idx → EReal := m ((c.tc : Thread nD τ).loc main_arg1)
abbrev argC : (⟨2, ![3, 2048]⟩ : Shape).Idx → EReal := m ((c.tc : Thread nD τ).loc main_arg2)

/-- The array row and column of a place in point `t`'s block. -/
abbrev rowOf (t : Fin cfg0.N) (a : Fin 2048) : Fin 8192 := ⟨2048 * (t.val % 4) + a.val, by omega⟩
abbrev colOf (t : Fin cfg0.N) (b : Fin 256) : Fin 2048 := ⟨256 * (t.val / 4) + b.val, by have : t.val < 32 := t.isLt; omega⟩

/-- The cast of a weight block changes nothing over exact numbers. -/
theorem cast_at (x : Vec Ideal S256x2048 .f32) (q : Fin 256) (k : Fin 2048) :
    k0_pay3 x (ix2 q k) = x (ix2 q k) ∧ k0_pay4 x (ix2 q k) = x (ix2 q k) ∧ k0_pay5 x (ix2 q k) = x (ix2 q k) ∧ k0_pay6 x (ix2 q k) = x (ix2 q k) := by
  refine ⟨?_, ?_, ?_, ?_⟩
  · pointwise [k0_pay3]
  · pointwise [k0_pay4]
  · pointwise [k0_pay5]
  · pointwise [k0_pay6]

/-- The input's projection. -/
theorem dot1 (t : Fin cfg0.N) (a : Fin 2048) (b : Fin 256) :
    dotRow (iblk m c 0 t) (k0_pay3 (iblk m c 1 t)) a b = ConvSpec.proj (argH m c) (argW m c) 3136 (by norm_num) (rowOf t a) (colOf t b) := by
  refine Finset.sum_congr rfl fun k _ => ?_
  have ht : t.val < 32 := t.isLt
  rw [(cast_at _ b k).1, blk_h m c t _ (by show _ + a.val < _; omega), blk_w1 m c t _ (by show _ + b.val < _; omega)]
  refine congrArg₂ (· * ·) rfl (congrArg (fun z => argW m c (ix2 k z)) (Fin.ext ?_))
  show 3136 + 256 * (t.val / 4) + b.val = 3136 + (256 * (t.val / 4) + b.val)
  omega

/-- The first gate's. -/
theorem dot2 (t : Fin cfg0.N) (a : Fin 2048) (b : Fin 256) :
    dotRow (iblk m c 0 t) (k0_pay4 (iblk m c 2 t)) a b = ConvSpec.proj (argH m c) (argW m c) 5184 (by norm_num) (rowOf t a) (colOf t b) := by
  refine Finset.sum_congr rfl fun k _ => ?_
  have ht : t.val < 32 := t.isLt
  rw [(cast_at _ b k).2.1, blk_h m c t _ (by show _ + a.val < _; omega), blk_w2 m c t _ (by show _ + b.val < _; omega)]
  refine congrArg₂ (· * ·) rfl (congrArg (fun z => argW m c (ix2 k z)) (Fin.ext ?_))
  show 5184 + 256 * (t.val / 4) + b.val = 5184 + (256 * (t.val / 4) + b.val)
  omega

/-- The second gate's. -/
theorem dot3 (t : Fin cfg0.N) (a : Fin 2048) (b : Fin 256) :
    dotRow (iblk m c 0 t) (k0_pay5 (iblk m c 3 t)) a b = ConvSpec.proj (argH m c) (argW m c) 7232 (by norm_num) (rowOf t a) (colOf t b) := by
  refine Finset.sum_congr rfl fun k _ => ?_
  have ht : t.val < 32 := t.isLt
  rw [(cast_at _ b k).2.2.1, blk_h m c t _ (by show _ + a.val < _; omega), blk_w3 m c t _ (by show _ + b.val < _; omega)]
  refine congrArg₂ (· * ·) rfl (congrArg (fun z => argW m c (ix2 k z)) (Fin.ext ?_))
  show 7232 + 256 * (t.val / 4) + b.val = 7232 + (256 * (t.val / 4) + b.val)
  omega

/-- The output gate's. -/
theorem dot4 (t : Fin cfg0.N) (a : Fin 2048) (b : Fin 256) :
    dotRow (iblk m c 0 t) (k0_pay6 (iblk m c 4 t)) a b = ConvSpec.proj (argH m c) (argW m c) 9280 (by norm_num) (rowOf t a) (colOf t b) := by
  refine Finset.sum_congr rfl fun k _ => ?_
  have ht : t.val < 32 := t.isLt
  rw [(cast_at _ b k).2.2.2, blk_h m c t _ (by show _ + a.val < _; omega), blk_w4 m c t _ (by show _ + b.val < _; omega)]
  refine congrArg₂ (· * ·) rfl (congrArg (fun z => argW m c (ix2 k z)) (Fin.ext ?_))
  show 9280 + 256 * (t.val / 4) + b.val = 9280 + (256 * (t.val / 4) + b.val)
  omega

/-- The products at a place of the block are the gated input at its array index. -/
theorem prod_at (t : Fin cfg0.N) (a : Fin 2048) (b : Fin 256) :
    k0_pay7 (iblk m c 0 t) (k0_pay5 (iblk m c 3 t)) (k0_pay3 (iblk m c 1 t)) (ix2 a b)
      = ConvSpec.gated (argH m c) (argW m c) (rowOf t a) (colOf t b) := by
  rw [pay7_at, dot1, dot3]
  rfl

/-- Carried row `8 - d` (for `d` at most 8) is the gated input `d` rows above the row block. -/
theorem car_at (t : Fin cfg0.N) (d a : ℕ) (e : Fin 8) (b : Fin 256) (hd : a < d) (he : e.val + d = 8 + a) (ha : a < 2048) :
    carV m c t (ix2 e b) = ConvSpec.up (argH m c) (argW m c) d (rowOf t ⟨a, ha⟩) (colOf t b) := by
  have ht : t.val < 32 := t.isLt
  unfold carV ConvSpec.up
  by_cases h0 : t.val % 4 = 0
  · rw [if_pos h0, pay2_at, if_neg (by show ¬ d ≤ 2048 * (t.val % 4) + a; omega)]
  · rw [if_neg h0, pay1_at, if_pos (by show d ≤ 2048 * (t.val % 4) + a; omega), prodV, prod_at]
    refine congrArg₂ _ (Fin.ext ?_) (Fin.ext ?_)
    · show 2048 * ((t.val - 1) % 4) + (2040 + e.val) = 2048 * (t.val % 4) + a - d; omega
    · show 256 * ((t.val - 1) / 4) + b.val = 256 * (t.val / 4) + b.val; omega

/-- The products `d` rows up inside the row block. -/
theorem up_at (t : Fin cfg0.N) (d : ℕ) (a : Fin 2048) (b : Fin 256) (hd : d ≤ a.val) :
    k0_pay7 (iblk m c 0 t) (k0_pay5 (iblk m c 3 t)) (k0_pay3 (iblk m c 1 t)) (ix2 ⟨a.val - d, by omega⟩ b)
      = ConvSpec.up (argH m c) (argW m c) d (rowOf t a) (colOf t b) := by
  unfold ConvSpec.up
  rw [prod_at, if_pos (by show d ≤ 2048 * (t.val % 4) + a.val; omega)]
  refine congrArg₂ _ (Fin.ext ?_) rfl
  show 2048 * (t.val % 4) + (a.val - d) = 2048 * (t.val % 4) + a.val - d; omega

/-- THE RESULT BLOCK of point `t` is the mixer's block. -/
theorem block_at (t : Fin cfg0.N) (a : Fin 2048) (b : Fin 256) :
    (outsAt0 m c t.val t.isLt).1 (ix2 a b) = ConvSpec.out (argH m c) (argW m c) (argC m c) (rowOf t a) (colOf t b) := by
  have ht : t.val < 32 := t.isLt
  have hcw : ∀ e : Fin 3, iblk m c 5 t (ix2 e b) = argC m c (ix2 e (colOf t b)) := fun e => blk_cw m c t _ (by show _ + b.val < _; omega)
  rw [out_eq, outV_at, dot2, dot4, hcw, hcw, hcw]
  unfold ConvSpec.out
  have h2 : k0_pay10 (iblk m c 0 t) (k0_pay5 (iblk m c 3 t)) (k0_pay3 (iblk m c 1 t)) (carV m c t) (ix2 a b)
      = ConvSpec.up (argH m c) (argW m c) 2 (rowOf t a) (colOf t b) := by
    rw [pay10_at]
    by_cases h : a.val < 2
    · rw [dif_pos h]; exact car_at m c t 2 a.val _ b h (by show 6 + a.val + 2 = _; omega) a.isLt
    · rw [dif_neg h]; exact up_at m c t 2 a b (by omega)
  have h1 : k0_pay9 (iblk m c 0 t) (k0_pay5 (iblk m c 3 t)) (k0_pay3 (iblk m c 1 t)) (carV m c t) (ix2 a b)
      = ConvSpec.up (argH m c) (argW m c) 1 (rowOf t a) (colOf t b) := by
    rw [pay9_at]
    by_cases h : a.val = 0
    · rw [dif_pos h]; exact car_at m c t 1 a.val 7 b (by omega) (by show 7 + 1 = _; omega) a.isLt
    · rw [dif_neg h]; exact up_at m c t 1 a b (by omega)
  have h00 := up_at m c t 0 a b (Nat.zero_le _)
  rw [h2, h1]
  exact congrArg₂ (· * ·) (congrArg₂ (· * ·) rfl (congrArg₂ (· + ·) rfl (congrArg₂ (· * ·) rfl h00))) rfl

/-- THE KERNEL's result array at an index is the mixer's. -/
theorem kernel_at (r : Fin 8192) (q : Fin 2048) :
    Cert.KernelIdeal.Value.G6 m c (ix2 r q) = ConvSpec.out (argH m c) (argW m c) (argC m c) r q := by
  have ht : r.val / 2048 + 4 * (q.val / 256) < cfg0.N := by show _ < 32; omega
  have e := block_at m c ⟨r.val / 2048 + 4 * (q.val / 256), ht⟩ ⟨r.val % 2048, by omega⟩ ⟨q.val % 256, by omega⟩
  have hp : Cert.KernelIdeal.Value.pt6Of (ix2 r q) = r.val / 2048 + 4 * (q.val / 256) := by
    show 1 * (r.val / 2048 - 0) + 4 * (q.val / 256 - 0) = _; omega
  have hr : rowOf ⟨r.val / 2048 + 4 * (q.val / 256), ht⟩ ⟨r.val % 2048, by omega⟩ = r := Fin.ext (by
    show 2048 * ((r.val / 2048 + 4 * (q.val / 256)) % 4) + r.val % 2048 = r.val; omega)
  have hq : colOf ⟨r.val / 2048 + 4 * (q.val / 256), ht⟩ ⟨q.val % 256, by omega⟩ = q := Fin.ext (by
    show 256 * ((r.val / 2048 + 4 * (q.val / 256)) / 4) + q.val % 256 = q.val; omega)
  rw [hr, hq] at e
  rw [← e]
  unfold Cert.KernelIdeal.Value.G6
  rw [dif_pos (by rw [hp]; exact ht)]
  dsimp only
  rw [Cert.KernelIdeal.Value.outsAt0_sweep, Cert.KernelIdeal.Value.fold0_congr m c _ _ _ _ hp]
  refine congrArg _ (funext fun z => ?_)
  match z with
  | ⟨0, _⟩ => rfl
  | ⟨1, _⟩ => rfl

end Cert.KernelIdeal.Conv
end
-- ==== Proof.OutSpec.lean ====
/- The layer's last step as mathematics — the two branches' output projections, their gated merge, the shared output
   projection and the residual sum with the root-mean-square norm — and the reference program's result as it. -/
module

public import proofs.«01_k».proof.Proof.Gen.Reference2Ideal.Run
public import Idealize.ShloMosaic.Lib.Pointwise

@[expose] public section

set_option maxRecDepth 16384

noncomputable section

namespace Cert.OutSpec

open Idealize.ShloMosaic Idealize.ShloMosaic.TcCoe Idealize.SL.Sem
open scoped BigOperators

/-- One merged element of a row: the attention branch (its row `a` times the gate row `s`, projected) and the convolution
    branch (its row `b`, projected), each times its merge gate. -/
def merged (a s gm b gc : Fin 2048 → EReal) (w1 w2 : (⟨2, ![2048, 2048]⟩ : Shape).Idx → EReal) (e : Fin 2048) : EReal :=
  gm e * (∑ k : Fin 2048, a k * s k * w1 (ix2 k e)) + gc e * (∑ k : Fin 2048, b k * w2 (ix2 k e))

/-- The merged row, projected. -/
def outp (v : Fin 2048 → EReal) (w3 : (⟨2, ![2048, 2048]⟩ : Shape).Idx → EReal) (q : Fin 2048) : EReal :=
  ∑ e : Fin 2048, v e * w3 (ix2 e q)

/-- The residual element `x` plus element `q` of the row `v`, normalised by the root of its mean square (over 2048 elements,
    with the norm's small constant under the root), times the gain `g`. -/
def resid (x : EReal) (v : Fin 2048 → EReal) (g : EReal) (q : Fin 2048) : EReal :=
  x + v q * Ideal.rsqrt (Ideal.div (∑ e : Fin 2048, v e * v e) (Ideal.ofBits .f32 0x45000000#32) + Ideal.ofBits .f32 0x358637BD#32) * g

/-- The layer's result at an index, from the residual stream, the attention's output, the three gates side by side, the
    convolution branch, the three projections' weights and the gain. -/
def out (x at' : (⟨2, ![8192, 2048]⟩ : Shape).Idx → EReal) (g : (⟨2, ![8192, 6144]⟩ : Shape).Idx → EReal)
    (co : (⟨2, ![8192, 2048]⟩ : Shape).Idx → EReal) (w1 w2 w3 : (⟨2, ![2048, 2048]⟩ : Shape).Idx → EReal)
    (gn : (⟨1, ![2048]⟩ : Shape).Idx → EReal) (r : Fin 8192) (q : Fin 2048) : EReal :=
  resid (x (ix2 r q))
    (outp (merged (fun k => at' (ix2 r k)) (fun k => g (ix2 r ⟨k.val, by omega⟩)) (fun k => g (ix2 r ⟨2048 + k.val, by omega⟩))
      (fun k => co (ix2 r k)) (fun k => g (ix2 r ⟨4096 + k.val, by omega⟩)) w1 w2) w3)
    (gn (ix1 q)) q

open Cert.Reference2Ideal in
/-- THE REFERENCE's run ends with the layer's result, its arguments unchanged. -/
theorem reference_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      (r.2.mem ((c.tc : Thread nD τ).loc main_v31) = fun i : (⟨2, ![8192, 2048]⟩ : Shape).Idx =>
        out (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
          (m ((c.tc : Thread nD τ).loc main_arg6)) (m ((c.tc : Thread nD τ).loc main_arg7)) (i 0) (i 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) := by
  refine (θ_run defs _ _).mono (fun r h c => ⟨(h c).1.trans (funext fun (i : (⟨2, ![8192, 2048]⟩ : Shape).Idx) => ?_), (h c).2⟩) (Cert.Reference2Ideal.Value.run (F := Ideal) m ρ)
  obtain ⟨a, b, rfl⟩ : ∃ (a : Fin 8192) (b : Fin 2048), i = ix2 a b := ⟨i 0, i 1, eq_ix2 i⟩
  show _ = out _ _ _ _ _ _ _ _ a b
  unfold out resid outp merged
  pointwise

end Cert.OutSpec
end
-- ==== Proof.OutTie.lean ====
/- The last call's kernel computes the layer's last step: its result array at every index. -/
module

public import proofs.«01_k».proof.Proof.Gen.Kernel2Ideal.Value
public import proofs.«01_k».proof.Proof.OutSpec
public import Idealize.ShloMosaic.Lib.Pipeline.ValueKit
public import Idealize.ShloMosaic.Lib.Pointwise

@[expose] public section

set_option maxRecDepth 16384

noncomputable section

namespace Cert.Kernel2Ideal.Out

open Cert.Kernel2Ideal Cert.Kernel2Ideal.Gen Idealize.ShloMosaic Idealize.ShloMosaic.TcCoe Idealize.SL.Sem
open Cert.OutSpec
open scoped BigOperators

/-- The block a grid point leaves, at an index: the last step's row computation over the point's blocks. -/
theorem pay_at (x0 : Vec Ideal S256x2048 .f32) (x1 x2 x3 x4 x5 : Vec Ideal S256x2048 .bf16) (w1 w2 w3 : Vec Ideal S2048x2048 .bf16)
    (g : Vec Ideal S1x2048 .f32) (r : Fin 256) (q : Fin 2048) :
    out0_10 x0 x1 x2 x3 x4 x5 w1 w2 w3 g (ix2 r q) = resid (x0 (ix2 r q))
      (outp (merged (fun k => x1 (ix2 r k)) (fun k => x2 (ix2 r k)) (fun k => x3 (ix2 r k)) (fun k => x4 (ix2 r k))
        (fun k => x5 (ix2 r k)) w1 w2) w3) (g (ix2 0 q)) q := by
  unfold resid outp merged
  frame_out
  pointwise [k0_pay1, k0_pay2, k0_pay3, k0_pay4]

/-- The block indices of the windows at point `t`: row block `t`; the gates' three column blocks; the weights and the gain whole. -/
theorem idx : ∀ t : Fin cfg0.N, win0_0.index t = ![t.val, 0] ∧ win0_1.index t = ![t.val, 0] ∧ win0_2.index t = ![t.val, 0]
    ∧ win0_3.index t = ![t.val, 1] ∧ win0_4.index t = ![t.val, 0] ∧ win0_5.index t = ![t.val, 2] ∧ win0_6.index t = ![0, 0]
    ∧ win0_7.index t = ![0, 0] ∧ win0_8.index t = ![0, 0] ∧ win0_9.index t = ![0, 0] ∧ win0_10.index t = ![t.val, 0] :=
  (by decide +kernel : ∀ t : Fin grid0.N, _)

variable (m : (ℓ : Loc nD τ sig) → Buf (Elt Ideal) ℓ) (c : Dev nD)

/-- The array row of a row of point `t`'s block. -/
abbrev rowOf (t : Fin cfg0.N) (a : Fin 256) : Fin 8192 := ⟨256 * t.val + a.val, by have : t.val < 32 := t.isLt; omega⟩

/-- The layer's input: row block `t`. -/
theorem blk0 (t : Fin cfg0.N) (a : Fin 256) (b : Fin 2048) :
    iblk m c 0 t (ix2 a b) = m ((c.tc : Thread nD τ).loc main_arg0) (ix2 (rowOf t a) b) := by
  blk_ext [iblk, V, (idx t).1]

/-- The attention rows: row block `t`. -/
theorem blk1 (t : Fin cfg0.N) (a : Fin 256) (b : Fin 2048) :
    iblk m c 1 t (ix2 a b) = m ((c.tc : Thread nD τ).loc main_arg1) (ix2 (rowOf t a) b) := by
  blk_ext [iblk, V, (idx t).2.1]

/-- The attention's gate: row block `t` of the first 2048 gate columns. -/
theorem blk2 (t : Fin cfg0.N) (a : Fin 256) (b : Fin 2048) :
    iblk m c 2 t (ix2 a b) = m ((c.tc : Thread nD τ).loc main_arg2) (ix2 (rowOf t a) ⟨b.val, by omega⟩) := by
  blk_ext [iblk, V, (idx t).2.2.1]

/-- The attention branch's mixing gate: row block `t` of the next 2048 gate columns. -/
theorem blk3 (t : Fin cfg0.N) (a : Fin 256) (b : Fin 2048) :
    iblk m c 3 t (ix2 a b) = m ((c.tc : Thread nD τ).loc main_arg2) (ix2 (rowOf t a) ⟨2048 + b.val, by omega⟩) := by
  blk_ext [iblk, V, (idx t).2.2.2.1]

/-- The convolution rows: row block `t`. -/
theorem blk4 (t : Fin cfg0.N) (a : Fin 256) (b : Fin 2048) :
    iblk m c 4 t (ix2 a b) = m ((c.tc : Thread nD τ).loc main_arg3) (ix2 (rowOf t a) b) := by
  blk_ext [iblk, V, (idx t).2.2.2.2.1]

/-- The convolution branch's mixing gate: row block `t` of the last 2048 gate columns. -/
theorem blk5 (t : Fin cfg0.N) (a : Fin 256) (b : Fin 2048) :
    iblk m c 5 t (ix2 a b) = m ((c.tc : Thread nD τ).loc main_arg2) (ix2 (rowOf t a) ⟨4096 + b.val, by omega⟩) := by
  blk_ext [iblk, V, (idx t).2.2.2.2.2.1]

/-- The attention branch's weights, whole. -/
theorem blk6 (t : Fin cfg0.N) : iblk m c 6 t = m ((c.tc : Thread nD τ).loc main_arg4) := by
  refine funext fun (y : S2048x2048.Idx) => ?_
  blk_ext [iblk, V, (idx t).2.2.2.2.2.2.1]

/-- The convolution branch's weights, whole. -/
theorem blk7 (t : Fin cfg0.N) : iblk m c 7 t = m ((c.tc : Thread nD τ).loc main_arg5) := by
  refine funext fun (y : S2048x2048.Idx) => ?_
  blk_ext [iblk, V, (idx t).2.2.2.2.2.2.2.1]

/-- The last projection's weights, whole. -/
theorem blk8 (t : Fin cfg0.N) : iblk m c 8 t = m ((c.tc : Thread nD τ).loc main_arg6) := by
  refine funext fun (y : S2048x2048.Idx) => ?_
  blk_ext [iblk, V, (idx t).2.2.2.2.2.2.2.2.1]

/-- The gain, as one row. -/
theorem blk9 (t : Fin cfg0.N) (b : Fin 2048) :
    iblk m c 9 t (ix2 (0 : Fin 1) b) = m ((c.tc : Thread nD τ).loc main_arg7) (ix1 b) := by
  blk_point [iblk, V, idx t]

/-- Where a place of point `t`'s result block sits in the array. -/
theorem emb10 (t : Fin cfg0.N) (a : Fin 256) (b : Fin 2048) :
    ((cfg0.win 10).blk t).view.emb (ix2 a b) = ix2 (rowOf t a) b := by
  have e : win0_10.index t = ![t.val, 0] := (idx t).2.2.2.2.2.2.2.2.2.2
  have e0 := Pipeline.Window.rect_emb_val_off win0_10 t (ix2 a b) 0
  have e1 := Pipeline.Window.rect_emb_val_off win0_10 t (ix2 a b) 1
  rw [e] at e0 e1
  refine (eq_ix2 _).trans (congrArg₂ ix2 (Fin.ext ?_) (Fin.ext ?_))
  · exact e0.trans (by show t.val * 256 + a.val = 256 * t.val + a.val; omega)
  · exact e1.trans (by show 0 * 2048 + b.val = b.val; omega)

/-- THE KERNEL's result array is the layer's result. -/
theorem kernel_eq : (dats m 0 c).arrAt 10 cfg0.N = fun i : (⟨2, ![8192, 2048]⟩ : Shape).Idx =>
    out (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5))
      (m ((c.tc : Thread nD τ).loc main_arg6)) (m ((c.tc : Thread nD τ).loc main_arg7)) (i 0) (i 1) := by
  refine (dats m 0 c).arrAt_eq_of_covers 10 _ (by decide +kernel) fun t _ y => ?_
  blk_simp
  rw [after0_10]
  obtain ⟨a, b, rfl⟩ : ∃ (a : Fin 256) (b : Fin 2048), y = ix2 a b := ⟨y 0, y 1, eq_ix2 y⟩
  refine (pay_at _ _ _ _ _ _ _ _ _ _ a b).trans ?_
  rw [blk0, blk6, blk7, blk8, blk9]
  simp only [blk1, blk2, blk3, blk4, blk5]
  exact (congrArg (fun i : (⟨2, ![8192, 2048]⟩ : Shape).Idx =>
    out (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5))
      (m ((c.tc : Thread nD τ).loc main_arg6)) (m ((c.tc : Thread nD τ).loc main_arg7)) (i 0) (i 1)) (emb10 t a b)).symm

end Cert.Kernel2Ideal.Out
end
-- ==== Proof.AttnUnits.lean ====
/- The attention kernel's body as a list of the steps it repeats: scores of a block of keys, a block of scores folded into the
   running maximum and sums, the quotients written out. -/
module

public import proofs.«01_k».proof.Proof.Gen.Kernel4Ideal.Skeleton

@[expose] public section

set_option maxRecDepth 65536

noncomputable section

namespace Cert.Kernel4Ideal.Attn

open Idealize.ShloMosaic Idealize.ShloMosaic.TcCoe
open Idealize.SL Idealize.SL.Sem
open Cert.Kernel4Ideal Cert.Kernel4Ideal.Gen

variable {F : FTy → Type} [FloatOps F]

/-! # The attention's kernel body as a short list of units

The body repeats four steps: form a block of scores, fold a block of scores into the running maximum and the running
weighted sums (on all 1024 queries, or on one half of them, with or without the causal mask), and write a head's
quotients to the output. Each step is a small program below, over the places it reads and writes, and the printed body
is shown to be a sequence of such steps. -/

/-- The programs the steps are. -/
abbrev Pr (F : FTy → Type) := Prog (TpuEff nD τ sig (Elt F) Λ₀ .tc) PUnit

/-- Scores of 512 keys against all 1024 queries. -/
def qkA (ak : Memref sig .tc .vmem S2x8192x256 .bf16) (aq : Memref sig .tc .vmem S2x256x1024 .bf16)
    (sc : Memref sig .tc .vmem S2x512x1024 .f32) (ok oq os : Fin 3 → ℕ)
    (hk : ∀ a, ok a + S1x512x256.size a ≤ S2x8192x256.size a) (hq : ∀ a, oq a + S1x256x1024.size a ≤ S2x256x1024.size a)
    (hs : ∀ a, os a + S1x512x1024.size a ≤ S2x512x1024.size a) : Pr F := do
  let k : Vec F S1x512x256 .bf16 ← Prog.lift (.load ak (Rect.unit (s := S2x8192x256) ok S1x512x256.size hk).toLoadRect (View.loadsAt_vmem h_S1x512x256))
  let q : Vec F S1x256x1024 .bf16 ← Prog.lift (.load aq (Rect.unit (s := S2x256x1024) oq S1x256x1024.size hq).toLoadRect (View.loadsAt_vmem h_S1x256x1024))
  let _ : Vec F S1x512x1024 .f32 ← Prog.lift (.load sc (Rect.unit (s := S2x512x1024) os S1x512x1024.size hs).toLoadRect (View.loadsAt_vmem h_S1x512x1024))
  Prog.lift (.store sc (Rect.unit (s := S2x512x1024) os S1x512x1024.size hs) (k0_pay3 k q) Finset.univ (View.stores_vmem_bits_univ h_S1x512x1024 rfl) (.inl rfl))

/-- Scores of 512 keys against one half of the queries. -/
def qkL (ak : Memref sig .tc .vmem S2x8192x256 .bf16) (aq : Memref sig .tc .vmem S2x256x1024 .bf16)
    (sc : Memref sig .tc .vmem S2x512x1024 .f32) (ok oq os : Fin 3 → ℕ)
    (hk : ∀ a, ok a + S1x512x256.size a ≤ S2x8192x256.size a) (hq : ∀ a, oq a + S1x256x512.size a ≤ S2x256x1024.size a)
    (hs : ∀ a, os a + S1x512x512.size a ≤ S2x512x1024.size a) : Pr F := do
  let k : Vec F S1x512x256 .bf16 ← Prog.lift (.load ak (Rect.unit (s := S2x8192x256) ok S1x512x256.size hk).toLoadRect (View.loadsAt_vmem h_S1x512x256))
  let q : Vec F S1x256x512 .bf16 ← Prog.lift (.load aq (Rect.unit (s := S2x256x1024) oq S1x256x512.size hq).toLoadRect (View.loadsAt_vmem h_S1x256x512))
  let _ : Vec F S1x512x512 .f32 ← Prog.lift (.load sc (Rect.unit (s := S2x512x1024) os S1x512x512.size hs).toLoadRect (View.loadsAt_vmem h_S1x512x512))
  Prog.lift (.store sc (Rect.unit (s := S2x512x1024) os S1x512x512.size hs) (k0_pay148 k q) Finset.univ (View.stores_vmem_bits_univ h_S1x512x512 rfl) (.inl rfl))

/-- A block of scores of all 1024 queries folded into the running maximum and sums. -/
def smA (sc : Memref sig .tc .vmem S2x512x1024 .f32) (am : Memref sig .tc .vmem S2x2x1x1024 .f32)
    (aa : Memref sig .tc .vmem S2x2x144x1024 .f32) (av : Memref sig .tc .vmem S2x16x144x512 .bf16)
    (os : Fin 3 → ℕ) (om oa ov : Fin 4 → ℕ)
    (hs : ∀ a, os a + S1x512x1024.size a ≤ S2x512x1024.size a) (hm : ∀ a, om a + S1x1x1x1024.size a ≤ S2x2x1x1024.size a)
    (ha : ∀ a, oa a + S1x1x144x1024.size a ≤ S2x2x144x1024.size a) (hv : ∀ a, ov a + S1x1x144x512.size a ≤ S2x16x144x512.size a) : Pr F := do
  let s : Vec F S1x512x1024 .f32 ← Prog.lift (.load sc (Rect.unit (s := S2x512x1024) os S1x512x1024.size hs).toLoadRect (View.loadsAt_vmem h_S1x512x1024))
  let m : Vec F S1x1x1x1024 .f32 ← Prog.lift (.load am (Rect.unit (s := S2x2x1x1024) om S1x1x1x1024.size hm).toLoadRect (View.loadsAt_vmem h_S1x1x1x1024))
  let a : Vec F S1x1x144x1024 .f32 ← Prog.lift (.load aa (Rect.unit (s := S2x2x144x1024) oa S1x1x144x1024.size ha).toLoadRect (View.loadsAt_vmem h_S1x1x144x1024))
  let v : Vec F S1x1x144x512 .bf16 ← Prog.lift (.load av (Rect.unit (s := S2x16x144x512) ov S1x1x144x512.size hv).toLoadRect (View.loadsAt_vmem h_S1x1x144x512))
  let _ : Vec F S1x1x144x1024 .f32 ← Prog.lift (.load aa (Rect.unit (s := S2x2x144x1024) oa S1x1x144x1024.size ha).toLoadRect (View.loadsAt_vmem h_S1x1x144x1024))
  Prog.lift (.store aa (Rect.unit (s := S2x2x144x1024) oa S1x1x144x1024.size ha) (k0_pay9 (k0_pay7 s m) (k0_pay8 s m a) v) Finset.univ (View.stores_vmem_bits_univ h_S1x1x144x1024 rfl) (.inl rfl))
  let _ : Vec F S1x1x1x1024 .f32 ← Prog.lift (.load am (Rect.unit (s := S2x2x1x1024) om S1x1x1x1024.size hm).toLoadRect (View.loadsAt_vmem h_S1x1x1x1024))
  Prog.lift (.store am (Rect.unit (s := S2x2x1x1024) om S1x1x1x1024.size hm) (k0_pay10 (k0_pay6 s m)) Finset.univ (View.stores_vmem_bits_univ h_S1x1x1x1024 rfl) (.inl rfl))

/-- A block of scores of one half of the queries, read through `g`, folded into the running maximum and sums. -/
def smH (g : Vec F S1x512x512 .f32 → FVec F S512x512 .f32) (sc : Memref sig .tc .vmem S2x512x1024 .f32) (am : Memref sig .tc .vmem S2x2x1x1024 .f32)
    (aa : Memref sig .tc .vmem S2x2x144x1024 .f32) (av : Memref sig .tc .vmem S2x16x144x512 .bf16)
    (os : Fin 3 → ℕ) (om oa ov : Fin 4 → ℕ)
    (hs : ∀ a, os a + S1x512x512.size a ≤ S2x512x1024.size a) (hm : ∀ a, om a + S1x1x1x512.size a ≤ S2x2x1x1024.size a)
    (ha : ∀ a, oa a + S1x1x144x512.size a ≤ S2x2x144x1024.size a) (hv : ∀ a, ov a + S1x1x144x512.size a ≤ S2x16x144x512.size a) : Pr F := do
  let s : Vec F S1x512x512 .f32 ← Prog.lift (.load sc (Rect.unit (s := S2x512x1024) os S1x512x512.size hs).toLoadRect (View.loadsAt_vmem h_S1x512x512))
  let m : Vec F S1x1x1x512 .f32 ← Prog.lift (.load am (Rect.unit (s := S2x2x1x1024) om S1x1x1x512.size hm).toLoadRect (View.loadsAt_vmem h_S1x1x1x512))
  let a : Vec F S1x1x144x512 .f32 ← Prog.lift (.load aa (Rect.unit (s := S2x2x144x1024) oa S1x1x144x512.size ha).toLoadRect (View.loadsAt_vmem h_S1x1x144x512))
  let v : Vec F S1x1x144x512 .bf16 ← Prog.lift (.load av (Rect.unit (s := S2x16x144x512) ov S1x1x144x512.size hv).toLoadRect (View.loadsAt_vmem h_S1x1x144x512))
  let _ : Vec F S1x1x144x512 .f32 ← Prog.lift (.load aa (Rect.unit (s := S2x2x144x1024) oa S1x1x144x512.size ha).toLoadRect (View.loadsAt_vmem h_S1x1x144x512))
  Prog.lift (.store aa (Rect.unit (s := S2x2x144x1024) oa S1x1x144x512.size ha) (k0_pay152 (g s) m a v) Finset.univ (View.stores_vmem_bits_univ h_S1x1x144x512 rfl) (.inl rfl))
  let _ : Vec F S1x1x1x512 .f32 ← Prog.lift (.load am (Rect.unit (s := S2x2x1x1024) om S1x1x1x512.size hm).toLoadRect (View.loadsAt_vmem h_S1x1x1x512))
  Prog.lift (.store am (Rect.unit (s := S2x2x1x1024) om S1x1x1x512.size hm) (k0_pay153 (g s) m) Finset.univ (View.stores_vmem_bits_univ h_S1x1x1x512 rfl) (.inl rfl))

/-- One head's quotients written to the output. -/
def outU (aa : Memref sig .tc .vmem S2x2x144x1024 .f32) (ao : Memref sig .tc .vmem S2x1024x256 .bf16) (hao : ao.IsWhole)
    (oa : Fin 4 → ℕ) (oo : Fin 3 → ℕ)
    (ha : ∀ a, oa a + S1x1x144x1024.size a ≤ S2x2x144x1024.size a) (ho : ∀ a, oo a + S1x1024x128.size a ≤ S2x1024x256.size a)
    (hp : (Rect.unit (s := S2x1024x256) oo S1x1024x128.size ho).PackedRows (EltTy.packing .bf16)) : Pr F := do
  let a : Vec F S1x1x144x1024 .f32 ← Prog.lift (.load aa (Rect.unit (s := S2x2x144x1024) oa S1x1x144x1024.size ha).toLoadRect (View.loadsAt_vmem h_S1x1x144x1024))
  let _ : Vec F S1x1024x128 .bf16 ← Prog.lift (.load ao (Rect.unit (s := S2x1024x256) oo S1x1024x128.size ho).toLoadRect (View.loadsAt_vmem h_S1x1024x128))
  Prog.lift (.store ao (Rect.unit (s := S2x1024x256) oo S1x1024x128.size ho) (k0_pay2 a) Finset.univ (View.stores_vmem h_S1x1024x128 (hao.storeExact_slice rfl _ hp) (fun _ => rfl)) (.inl rfl))

/-- The running maximum at its start. -/
def iniM (am : Memref sig .tc .vmem S2x2x1x1024 .f32) : Pr F := do
  let _ : Vec F S2x2x1x1024 .f32 ← Prog.lift (.load am (Rect.unit (s := S2x2x1x1024) ![0, 0, 0, 0] S2x2x1x1024.size inb_S2x2x1x1024_S2x2x1x1024_0_0_0_0).toLoadRect (View.loadsAt_vmem h_S2x2x1x1024))
  Prog.lift (.store am (Rect.unit (s := S2x2x1x1024) ![0, 0, 0, 0] S2x2x1x1024.size inb_S2x2x1x1024_S2x2x1x1024_0_0_0_0) (k0_pay441 (F := F)) Finset.univ (View.stores_vmem_bits_univ h_S2x2x1x1024 rfl) (.inl rfl))

/-- The running sums at their start. -/
def iniA (aa : Memref sig .tc .vmem S2x2x144x1024 .f32) : Pr F := do
  let _ : Vec F S2x2x144x1024 .f32 ← Prog.lift (.load aa (Rect.unit (s := S2x2x144x1024) ![0, 0, 0, 0] S2x2x144x1024.size inb_S2x2x144x1024_S2x2x144x1024_0_0_0_0).toLoadRect (View.loadsAt_vmem h_S2x2x144x1024))
  Prog.lift (.store aa (Rect.unit (s := S2x2x144x1024) ![0, 0, 0, 0] S2x2x144x1024.size inb_S2x2x144x1024_S2x2x144x1024_0_0_0_0) (k0_pay442 (F := F)) Finset.univ (View.stores_vmem_bits_univ h_S2x2x144x1024 rfl) (.inl rfl))

/-- One trip of loop 1. -/
def t1R (i : grid0.Coords) (b2 b3 : Memref sig .tc .vmem S2x256x1024 .bf16) (b4 : Memref sig .tc .vmem S2x8192x256 .bf16) (b5 : Memref sig .tc .vmem S2x16x144x512 .bf16) (b6 : Memref sig .tc .vmem S2x1024x256 .bf16) (g6 : b6.IsWhole) (b7 b8 : Memref sig .tc .vmem S2x512x1024 .f32) (b9 : Memref sig .tc .vmem S2x2x1x1024 .f32) (b10 : Memref sig .tc .vmem S2x2x144x1024 .f32) (k0_t1 : Fin (k0_t1_loop i).trips) : Pr F := do
  qkA b4 b2 b8 (k0_off1 i k0_t1 1#32) ![0, 0, 0] ![0, 0, 0] (k0_off1_inb i k0_t1 0) inb_S2x256x1024_S1x256x1024_0_0_0 inb_S2x512x1024_S1x512x1024_0_0_0
  smA b7 b9 b10 b5 ![0, 0, 0] ![0, 0, 0, 0] ![0, 0, 0, 0] (k0_off2 i k0_t1) inb_S2x512x1024_S1x512x1024_0_0_0 inb_S2x2x1x1024_S1x1x1x1024_0_0_0_0 inb_S2x2x144x1024_S1x1x144x1024_0_0_0_0 (k0_off2_inb i k0_t1)
  qkA b4 b2 b8 (k0_off3 i k0_t1 1#32) ![1, 0, 0] ![1, 0, 0] (k0_off3_inb i k0_t1 0) inb_S2x256x1024_S1x256x1024_1_0_0 inb_S2x512x1024_S1x512x1024_1_0_0
  smA b7 b9 b10 b5 ![1, 0, 0] ![0, 1, 0, 0] ![0, 1, 0, 0] (k0_off4 i k0_t1) inb_S2x512x1024_S1x512x1024_1_0_0 inb_S2x2x1x1024_S1x1x1x1024_0_1_0_0 inb_S2x2x144x1024_S1x1x144x1024_0_1_0_0 (k0_off4_inb i k0_t1)
  qkA b4 b2 b7 (k0_off1 i k0_t1 2#32) ![0, 0, 0] ![0, 0, 0] (k0_off1_inb i k0_t1 1) inb_S2x256x1024_S1x256x1024_0_0_0 inb_S2x512x1024_S1x512x1024_0_0_0
  smA b8 b9 b10 b5 ![0, 0, 0] ![0, 0, 0, 0] ![0, 0, 0, 0] (k0_off5 i k0_t1 1#32) inb_S2x512x1024_S1x512x1024_0_0_0 inb_S2x2x1x1024_S1x1x1x1024_0_0_0_0 inb_S2x2x144x1024_S1x1x144x1024_0_0_0_0 (k0_off5_inb i k0_t1 0)
  qkA b4 b2 b7 (k0_off3 i k0_t1 2#32) ![1, 0, 0] ![1, 0, 0] (k0_off3_inb i k0_t1 1) inb_S2x256x1024_S1x256x1024_1_0_0 inb_S2x512x1024_S1x512x1024_1_0_0
  smA b8 b9 b10 b5 ![1, 0, 0] ![0, 1, 0, 0] ![0, 1, 0, 0] (k0_off6 i k0_t1 1#32) inb_S2x512x1024_S1x512x1024_1_0_0 inb_S2x2x1x1024_S1x1x1x1024_0_1_0_0 inb_S2x2x144x1024_S1x1x144x1024_0_1_0_0 (k0_off6_inb i k0_t1 0)
  qkA b4 b2 b8 (k0_off7 i k0_t1 1#32) ![0, 0, 0] ![0, 0, 0] (k0_off7_inb i k0_t1 0) inb_S2x256x1024_S1x256x1024_0_0_0 inb_S2x512x1024_S1x512x1024_0_0_0
  smA b7 b9 b10 b5 ![0, 0, 0] ![0, 0, 0, 0] ![0, 0, 0, 0] (k0_off5 i k0_t1 2#32) inb_S2x512x1024_S1x512x1024_0_0_0 inb_S2x2x1x1024_S1x1x1x1024_0_0_0_0 inb_S2x2x144x1024_S1x1x144x1024_0_0_0_0 (k0_off5_inb i k0_t1 1)
  qkA b4 b2 b8 (k0_off8 i k0_t1 1#32) ![1, 0, 0] ![1, 0, 0] (k0_off8_inb i k0_t1 0) inb_S2x256x1024_S1x256x1024_1_0_0 inb_S2x512x1024_S1x512x1024_1_0_0
  smA b7 b9 b10 b5 ![1, 0, 0] ![0, 1, 0, 0] ![0, 1, 0, 0] (k0_off6 i k0_t1 2#32) inb_S2x512x1024_S1x512x1024_1_0_0 inb_S2x2x1x1024_S1x1x1x1024_0_1_0_0 inb_S2x2x144x1024_S1x1x144x1024_0_1_0_0 (k0_off6_inb i k0_t1 1)
  qkA b4 b2 b7 (k0_off7 i k0_t1 2#32) ![0, 0, 0] ![0, 0, 0] (k0_off7_inb i k0_t1 1) inb_S2x256x1024_S1x256x1024_0_0_0 inb_S2x512x1024_S1x512x1024_0_0_0
  smA b8 b9 b10 b5 ![0, 0, 0] ![0, 0, 0, 0] ![0, 0, 0, 0] (k0_off9 i k0_t1) inb_S2x512x1024_S1x512x1024_0_0_0 inb_S2x2x1x1024_S1x1x1x1024_0_0_0_0 inb_S2x2x144x1024_S1x1x144x1024_0_0_0_0 (k0_off9_inb i k0_t1)
  qkA b4 b2 b7 (k0_off8 i k0_t1 2#32) ![1, 0, 0] ![1, 0, 0] (k0_off8_inb i k0_t1 1) inb_S2x256x1024_S1x256x1024_1_0_0 inb_S2x512x1024_S1x512x1024_1_0_0
  smA b8 b9 b10 b5 ![1, 0, 0] ![0, 1, 0, 0] ![0, 1, 0, 0] (k0_off10 i k0_t1) inb_S2x512x1024_S1x512x1024_1_0_0 inb_S2x2x1x1024_S1x1x1x1024_0_1_0_0 inb_S2x2x144x1024_S1x1x144x1024_0_1_0_0 (k0_off10_inb i k0_t1)

/-- One trip of loop 2. -/
def t2R (i : grid0.Coords) (b2 b3 : Memref sig .tc .vmem S2x256x1024 .bf16) (b4 : Memref sig .tc .vmem S2x8192x256 .bf16) (b5 : Memref sig .tc .vmem S2x16x144x512 .bf16) (b6 : Memref sig .tc .vmem S2x1024x256 .bf16) (g6 : b6.IsWhole) (b7 b8 : Memref sig .tc .vmem S2x512x1024 .f32) (b9 : Memref sig .tc .vmem S2x2x1x1024 .f32) (b10 : Memref sig .tc .vmem S2x2x144x1024 .f32) (k0_t2 : Fin (k0_t2_loop i).trips) : Pr F := do
  qkA b4 b2 b8 (k0_off11 i k0_t2 1#32) ![0, 0, 0] ![0, 0, 0] (k0_off11_inb i k0_t2 0) inb_S2x256x1024_S1x256x1024_0_0_0 inb_S2x512x1024_S1x512x1024_0_0_0
  smA b7 b9 b10 b5 ![0, 0, 0] ![0, 0, 0, 0] ![0, 0, 0, 0] (k0_off12 i k0_t2) inb_S2x512x1024_S1x512x1024_0_0_0 inb_S2x2x1x1024_S1x1x1x1024_0_0_0_0 inb_S2x2x144x1024_S1x1x144x1024_0_0_0_0 (k0_off12_inb i k0_t2)
  qkA b4 b2 b8 (k0_off13 i k0_t2 1#32) ![1, 0, 0] ![1, 0, 0] (k0_off13_inb i k0_t2 0) inb_S2x256x1024_S1x256x1024_1_0_0 inb_S2x512x1024_S1x512x1024_1_0_0
  smA b7 b9 b10 b5 ![1, 0, 0] ![0, 1, 0, 0] ![0, 1, 0, 0] (k0_off14 i k0_t2) inb_S2x512x1024_S1x512x1024_1_0_0 inb_S2x2x1x1024_S1x1x1x1024_0_1_0_0 inb_S2x2x144x1024_S1x1x144x1024_0_1_0_0 (k0_off14_inb i k0_t2)
  qkA b4 b2 b7 (k0_off11 i k0_t2 2#32) ![0, 0, 0] ![0, 0, 0] (k0_off11_inb i k0_t2 1) inb_S2x256x1024_S1x256x1024_0_0_0 inb_S2x512x1024_S1x512x1024_0_0_0
  smA b8 b9 b10 b5 ![0, 0, 0] ![0, 0, 0, 0] ![0, 0, 0, 0] (k0_off15 i k0_t2 1#32) inb_S2x512x1024_S1x512x1024_0_0_0 inb_S2x2x1x1024_S1x1x1x1024_0_0_0_0 inb_S2x2x144x1024_S1x1x144x1024_0_0_0_0 (k0_off15_inb i k0_t2 0)
  qkA b4 b2 b7 (k0_off13 i k0_t2 2#32) ![1, 0, 0] ![1, 0, 0] (k0_off13_inb i k0_t2 1) inb_S2x256x1024_S1x256x1024_1_0_0 inb_S2x512x1024_S1x512x1024_1_0_0
  smA b8 b9 b10 b5 ![1, 0, 0] ![0, 1, 0, 0] ![0, 1, 0, 0] (k0_off16 i k0_t2 1#32) inb_S2x512x1024_S1x512x1024_1_0_0 inb_S2x2x1x1024_S1x1x1x1024_0_1_0_0 inb_S2x2x144x1024_S1x1x144x1024_0_1_0_0 (k0_off16_inb i k0_t2 0)
  qkA b4 b2 b8 (k0_off17 i k0_t2 1#32) ![0, 0, 0] ![0, 0, 0] (k0_off17_inb i k0_t2 0) inb_S2x256x1024_S1x256x1024_0_0_0 inb_S2x512x1024_S1x512x1024_0_0_0
  smA b7 b9 b10 b5 ![0, 0, 0] ![0, 0, 0, 0] ![0, 0, 0, 0] (k0_off15 i k0_t2 2#32) inb_S2x512x1024_S1x512x1024_0_0_0 inb_S2x2x1x1024_S1x1x1x1024_0_0_0_0 inb_S2x2x144x1024_S1x1x144x1024_0_0_0_0 (k0_off15_inb i k0_t2 1)
  qkA b4 b2 b8 (k0_off18 i k0_t2 1#32) ![1, 0, 0] ![1, 0, 0] (k0_off18_inb i k0_t2 0) inb_S2x256x1024_S1x256x1024_1_0_0 inb_S2x512x1024_S1x512x1024_1_0_0
  smA b7 b9 b10 b5 ![1, 0, 0] ![0, 1, 0, 0] ![0, 1, 0, 0] (k0_off16 i k0_t2 2#32) inb_S2x512x1024_S1x512x1024_1_0_0 inb_S2x2x1x1024_S1x1x1x1024_0_1_0_0 inb_S2x2x144x1024_S1x1x144x1024_0_1_0_0 (k0_off16_inb i k0_t2 1)
  qkA b4 b2 b7 (k0_off17 i k0_t2 2#32) ![0, 0, 0] ![0, 0, 0] (k0_off17_inb i k0_t2 1) inb_S2x256x1024_S1x256x1024_0_0_0 inb_S2x512x1024_S1x512x1024_0_0_0
  smA b8 b9 b10 b5 ![0, 0, 0] ![0, 0, 0, 0] ![0, 0, 0, 0] (k0_off19 i k0_t2) inb_S2x512x1024_S1x512x1024_0_0_0 inb_S2x2x1x1024_S1x1x1x1024_0_0_0_0 inb_S2x2x144x1024_S1x1x144x1024_0_0_0_0 (k0_off19_inb i k0_t2)
  qkA b4 b2 b7 (k0_off18 i k0_t2 2#32) ![1, 0, 0] ![1, 0, 0] (k0_off18_inb i k0_t2 1) inb_S2x256x1024_S1x256x1024_1_0_0 inb_S2x512x1024_S1x512x1024_1_0_0
  smA b8 b9 b10 b5 ![1, 0, 0] ![0, 1, 0, 0] ![0, 1, 0, 0] (k0_off20 i k0_t2) inb_S2x512x1024_S1x512x1024_1_0_0 inb_S2x2x1x1024_S1x1x1x1024_0_1_0_0 inb_S2x2x144x1024_S1x1x144x1024_0_1_0_0 (k0_off20_inb i k0_t2)

/-- One trip of loop 3. -/
def t3R (i : grid0.Coords) (b2 b3 : Memref sig .tc .vmem S2x256x1024 .bf16) (b4 : Memref sig .tc .vmem S2x8192x256 .bf16) (b5 : Memref sig .tc .vmem S2x16x144x512 .bf16) (b6 : Memref sig .tc .vmem S2x1024x256 .bf16) (g6 : b6.IsWhole) (b7 b8 : Memref sig .tc .vmem S2x512x1024 .f32) (b9 : Memref sig .tc .vmem S2x2x1x1024 .f32) (b10 : Memref sig .tc .vmem S2x2x144x1024 .f32) (k0_t3 : Fin (k0_t3_loop i).trips) : Pr F := do
  qkA b4 b3 b8 (k0_off39 i k0_t3 1#32) ![0, 0, 0] ![0, 0, 0] (k0_off39_inb i k0_t3 0) inb_S2x256x1024_S1x256x1024_0_0_0 inb_S2x512x1024_S1x512x1024_0_0_0
  smA b7 b9 b10 b5 ![0, 0, 0] ![1, 0, 0, 0] ![1, 0, 0, 0] (k0_off40 i k0_t3) inb_S2x512x1024_S1x512x1024_0_0_0 inb_S2x2x1x1024_S1x1x1x1024_1_0_0_0 inb_S2x2x144x1024_S1x1x144x1024_1_0_0_0 (k0_off40_inb i k0_t3)
  qkA b4 b3 b8 (k0_off41 i k0_t3 1#32) ![1, 0, 0] ![1, 0, 0] (k0_off41_inb i k0_t3 0) inb_S2x256x1024_S1x256x1024_1_0_0 inb_S2x512x1024_S1x512x1024_1_0_0
  smA b7 b9 b10 b5 ![1, 0, 0] ![1, 1, 0, 0] ![1, 1, 0, 0] (k0_off42 i k0_t3) inb_S2x512x1024_S1x512x1024_1_0_0 inb_S2x2x1x1024_S1x1x1x1024_1_1_0_0 inb_S2x2x144x1024_S1x1x144x1024_1_1_0_0 (k0_off42_inb i k0_t3)
  qkA b4 b3 b7 (k0_off39 i k0_t3 2#32) ![0, 0, 0] ![0, 0, 0] (k0_off39_inb i k0_t3 1) inb_S2x256x1024_S1x256x1024_0_0_0 inb_S2x512x1024_S1x512x1024_0_0_0
  smA b8 b9 b10 b5 ![0, 0, 0] ![1, 0, 0, 0] ![1, 0, 0, 0] (k0_off43 i k0_t3 1#32) inb_S2x512x1024_S1x512x1024_0_0_0 inb_S2x2x1x1024_S1x1x1x1024_1_0_0_0 inb_S2x2x144x1024_S1x1x144x1024_1_0_0_0 (k0_off43_inb i k0_t3 0)
  qkA b4 b3 b7 (k0_off41 i k0_t3 2#32) ![1, 0, 0] ![1, 0, 0] (k0_off41_inb i k0_t3 1) inb_S2x256x1024_S1x256x1024_1_0_0 inb_S2x512x1024_S1x512x1024_1_0_0
  smA b8 b9 b10 b5 ![1, 0, 0] ![1, 1, 0, 0] ![1, 1, 0, 0] (k0_off44 i k0_t3 1#32) inb_S2x512x1024_S1x512x1024_1_0_0 inb_S2x2x1x1024_S1x1x1x1024_1_1_0_0 inb_S2x2x144x1024_S1x1x144x1024_1_1_0_0 (k0_off44_inb i k0_t3 0)
  qkA b4 b3 b8 (k0_off45 i k0_t3 1#32) ![0, 0, 0] ![0, 0, 0] (k0_off45_inb i k0_t3 0) inb_S2x256x1024_S1x256x1024_0_0_0 inb_S2x512x1024_S1x512x1024_0_0_0
  smA b7 b9 b10 b5 ![0, 0, 0] ![1, 0, 0, 0] ![1, 0, 0, 0] (k0_off43 i k0_t3 2#32) inb_S2x512x1024_S1x512x1024_0_0_0 inb_S2x2x1x1024_S1x1x1x1024_1_0_0_0 inb_S2x2x144x1024_S1x1x144x1024_1_0_0_0 (k0_off43_inb i k0_t3 1)
  qkA b4 b3 b8 (k0_off46 i k0_t3 1#32) ![1, 0, 0] ![1, 0, 0] (k0_off46_inb i k0_t3 0) inb_S2x256x1024_S1x256x1024_1_0_0 inb_S2x512x1024_S1x512x1024_1_0_0
  smA b7 b9 b10 b5 ![1, 0, 0] ![1, 1, 0, 0] ![1, 1, 0, 0] (k0_off44 i k0_t3 2#32) inb_S2x512x1024_S1x512x1024_1_0_0 inb_S2x2x1x1024_S1x1x1x1024_1_1_0_0 inb_S2x2x144x1024_S1x1x144x1024_1_1_0_0 (k0_off44_inb i k0_t3 1)
  qkA b4 b3 b7 (k0_off45 i k0_t3 2#32) ![0, 0, 0] ![0, 0, 0] (k0_off45_inb i k0_t3 1) inb_S2x256x1024_S1x256x1024_0_0_0 inb_S2x512x1024_S1x512x1024_0_0_0
  smA b8 b9 b10 b5 ![0, 0, 0] ![1, 0, 0, 0] ![1, 0, 0, 0] (k0_off47 i k0_t3) inb_S2x512x1024_S1x512x1024_0_0_0 inb_S2x2x1x1024_S1x1x1x1024_1_0_0_0 inb_S2x2x144x1024_S1x1x144x1024_1_0_0_0 (k0_off47_inb i k0_t3)
  qkA b4 b3 b7 (k0_off46 i k0_t3 2#32) ![1, 0, 0] ![1, 0, 0] (k0_off46_inb i k0_t3 1) inb_S2x256x1024_S1x256x1024_1_0_0 inb_S2x512x1024_S1x512x1024_1_0_0
  smA b8 b9 b10 b5 ![1, 0, 0] ![1, 1, 0, 0] ![1, 1, 0, 0] (k0_off48 i k0_t3) inb_S2x512x1024_S1x512x1024_1_0_0 inb_S2x2x1x1024_S1x1x1x1024_1_1_0_0 inb_S2x2x144x1024_S1x1x144x1024_1_1_0_0 (k0_off48_inb i k0_t3)

/-- One trip of loop 4. -/
def t4R (i : grid0.Coords) (b2 b3 : Memref sig .tc .vmem S2x256x1024 .bf16) (b4 : Memref sig .tc .vmem S2x8192x256 .bf16) (b5 : Memref sig .tc .vmem S2x16x144x512 .bf16) (b6 : Memref sig .tc .vmem S2x1024x256 .bf16) (g6 : b6.IsWhole) (b7 b8 : Memref sig .tc .vmem S2x512x1024 .f32) (b9 : Memref sig .tc .vmem S2x2x1x1024 .f32) (b10 : Memref sig .tc .vmem S2x2x144x1024 .f32) (k0_t4 : Fin (k0_t4_loop i).trips) : Pr F := do
  qkA b4 b3 b8 (k0_off49 i k0_t4 1#32) ![0, 0, 0] ![0, 0, 0] (k0_off49_inb i k0_t4 0) inb_S2x256x1024_S1x256x1024_0_0_0 inb_S2x512x1024_S1x512x1024_0_0_0
  smA b7 b9 b10 b5 ![0, 0, 0] ![1, 0, 0, 0] ![1, 0, 0, 0] (k0_off50 i k0_t4) inb_S2x512x1024_S1x512x1024_0_0_0 inb_S2x2x1x1024_S1x1x1x1024_1_0_0_0 inb_S2x2x144x1024_S1x1x144x1024_1_0_0_0 (k0_off50_inb i k0_t4)
  qkA b4 b3 b8 (k0_off51 i k0_t4 1#32) ![1, 0, 0] ![1, 0, 0] (k0_off51_inb i k0_t4 0) inb_S2x256x1024_S1x256x1024_1_0_0 inb_S2x512x1024_S1x512x1024_1_0_0
  smA b7 b9 b10 b5 ![1, 0, 0] ![1, 1, 0, 0] ![1, 1, 0, 0] (k0_off52 i k0_t4) inb_S2x512x1024_S1x512x1024_1_0_0 inb_S2x2x1x1024_S1x1x1x1024_1_1_0_0 inb_S2x2x144x1024_S1x1x144x1024_1_1_0_0 (k0_off52_inb i k0_t4)
  qkA b4 b3 b7 (k0_off49 i k0_t4 2#32) ![0, 0, 0] ![0, 0, 0] (k0_off49_inb i k0_t4 1) inb_S2x256x1024_S1x256x1024_0_0_0 inb_S2x512x1024_S1x512x1024_0_0_0
  smA b8 b9 b10 b5 ![0, 0, 0] ![1, 0, 0, 0] ![1, 0, 0, 0] (k0_off53 i k0_t4 1#32) inb_S2x512x1024_S1x512x1024_0_0_0 inb_S2x2x1x1024_S1x1x1x1024_1_0_0_0 inb_S2x2x144x1024_S1x1x144x1024_1_0_0_0 (k0_off53_inb i k0_t4 0)
  qkA b4 b3 b7 (k0_off51 i k0_t4 2#32) ![1, 0, 0] ![1, 0, 0] (k0_off51_inb i k0_t4 1) inb_S2x256x1024_S1x256x1024_1_0_0 inb_S2x512x1024_S1x512x1024_1_0_0
  smA b8 b9 b10 b5 ![1, 0, 0] ![1, 1, 0, 0] ![1, 1, 0, 0] (k0_off54 i k0_t4 1#32) inb_S2x512x1024_S1x512x1024_1_0_0 inb_S2x2x1x1024_S1x1x1x1024_1_1_0_0 inb_S2x2x144x1024_S1x1x144x1024_1_1_0_0 (k0_off54_inb i k0_t4 0)
  qkA b4 b3 b8 (k0_off55 i k0_t4 1#32) ![0, 0, 0] ![0, 0, 0] (k0_off55_inb i k0_t4 0) inb_S2x256x1024_S1x256x1024_0_0_0 inb_S2x512x1024_S1x512x1024_0_0_0
  smA b7 b9 b10 b5 ![0, 0, 0] ![1, 0, 0, 0] ![1, 0, 0, 0] (k0_off53 i k0_t4 2#32) inb_S2x512x1024_S1x512x1024_0_0_0 inb_S2x2x1x1024_S1x1x1x1024_1_0_0_0 inb_S2x2x144x1024_S1x1x144x1024_1_0_0_0 (k0_off53_inb i k0_t4 1)
  qkA b4 b3 b8 (k0_off56 i k0_t4 1#32) ![1, 0, 0] ![1, 0, 0] (k0_off56_inb i k0_t4 0) inb_S2x256x1024_S1x256x1024_1_0_0 inb_S2x512x1024_S1x512x1024_1_0_0
  smA b7 b9 b10 b5 ![1, 0, 0] ![1, 1, 0, 0] ![1, 1, 0, 0] (k0_off54 i k0_t4 2#32) inb_S2x512x1024_S1x512x1024_1_0_0 inb_S2x2x1x1024_S1x1x1x1024_1_1_0_0 inb_S2x2x144x1024_S1x1x144x1024_1_1_0_0 (k0_off54_inb i k0_t4 1)
  qkA b4 b3 b7 (k0_off55 i k0_t4 2#32) ![0, 0, 0] ![0, 0, 0] (k0_off55_inb i k0_t4 1) inb_S2x256x1024_S1x256x1024_0_0_0 inb_S2x512x1024_S1x512x1024_0_0_0
  smA b8 b9 b10 b5 ![0, 0, 0] ![1, 0, 0, 0] ![1, 0, 0, 0] (k0_off57 i k0_t4) inb_S2x512x1024_S1x512x1024_0_0_0 inb_S2x2x1x1024_S1x1x1x1024_1_0_0_0 inb_S2x2x144x1024_S1x1x144x1024_1_0_0_0 (k0_off57_inb i k0_t4)
  qkA b4 b3 b7 (k0_off56 i k0_t4 2#32) ![1, 0, 0] ![1, 0, 0] (k0_off56_inb i k0_t4 1) inb_S2x256x1024_S1x256x1024_1_0_0 inb_S2x512x1024_S1x512x1024_1_0_0
  smA b8 b9 b10 b5 ![1, 0, 0] ![1, 1, 0, 0] ![1, 1, 0, 0] (k0_off58 i k0_t4) inb_S2x512x1024_S1x512x1024_1_0_0 inb_S2x2x1x1024_S1x1x1x1024_1_1_0_0 inb_S2x2x144x1024_S1x1x144x1024_1_1_0_0 (k0_off58_inb i k0_t4)

/-- The taken branch of condition 1. -/
def if1R (i : grid0.Coords) (b2 b3 : Memref sig .tc .vmem S2x256x1024 .bf16) (b4 : Memref sig .tc .vmem S2x8192x256 .bf16) (b5 : Memref sig .tc .vmem S2x16x144x512 .bf16) (b6 : Memref sig .tc .vmem S2x1024x256 .bf16) (g6 : b6.IsWhole) (b7 b8 : Memref sig .tc .vmem S2x512x1024 .f32) (b9 : Memref sig .tc .vmem S2x2x1x1024 .f32) (b10 : Memref sig .tc .vmem S2x2x144x1024 .f32) (k0_h1 : k0_cond1 i = 1#1) : Pr F := do
  qkA b4 b2 b8 (k0_off21 i 1#32) ![0, 0, 0] ![0, 0, 0] (k0_off21_inb i k0_h1 0) inb_S2x256x1024_S1x256x1024_0_0_0 inb_S2x512x1024_S1x512x1024_0_0_0
  smA b7 b9 b10 b5 ![0, 0, 0] ![0, 0, 0, 0] ![0, 0, 0, 0] (k0_off22 i) inb_S2x512x1024_S1x512x1024_0_0_0 inb_S2x2x1x1024_S1x1x1x1024_0_0_0_0 inb_S2x2x144x1024_S1x1x144x1024_0_0_0_0 (k0_off22_inb i k0_h1)
  qkA b4 b2 b8 (k0_off23 i 1#32) ![1, 0, 0] ![1, 0, 0] (k0_off23_inb i k0_h1 0) inb_S2x256x1024_S1x256x1024_1_0_0 inb_S2x512x1024_S1x512x1024_1_0_0
  smA b7 b9 b10 b5 ![1, 0, 0] ![0, 1, 0, 0] ![0, 1, 0, 0] (k0_off24 i) inb_S2x512x1024_S1x512x1024_1_0_0 inb_S2x2x1x1024_S1x1x1x1024_0_1_0_0 inb_S2x2x144x1024_S1x1x144x1024_0_1_0_0 (k0_off24_inb i k0_h1)
  qkA b4 b2 b7 (k0_off21 i 2#32) ![0, 0, 0] ![0, 0, 0] (k0_off21_inb i k0_h1 1) inb_S2x256x1024_S1x256x1024_0_0_0 inb_S2x512x1024_S1x512x1024_0_0_0
  smA b8 b9 b10 b5 ![0, 0, 0] ![0, 0, 0, 0] ![0, 0, 0, 0] (k0_off25 i) inb_S2x512x1024_S1x512x1024_0_0_0 inb_S2x2x1x1024_S1x1x1x1024_0_0_0_0 inb_S2x2x144x1024_S1x1x144x1024_0_0_0_0 (k0_off25_inb i k0_h1)
  qkA b4 b2 b7 (k0_off23 i 2#32) ![1, 0, 0] ![1, 0, 0] (k0_off23_inb i k0_h1 1) inb_S2x256x1024_S1x256x1024_1_0_0 inb_S2x512x1024_S1x512x1024_1_0_0
  smA b8 b9 b10 b5 ![1, 0, 0] ![0, 1, 0, 0] ![0, 1, 0, 0] (k0_off26 i) inb_S2x512x1024_S1x512x1024_1_0_0 inb_S2x2x1x1024_S1x1x1x1024_0_1_0_0 inb_S2x2x144x1024_S1x1x144x1024_0_1_0_0 (k0_off26_inb i k0_h1)
  qkL b4 b2 b8 (k0_off27 i) ![0, 0, 512] ![0, 0, 512] (k0_off27_inb i k0_h1) inb_S2x256x1024_S1x256x512_0_0_512 inb_S2x512x1024_S1x512x512_0_0_512
  smH k0_pay149 b7 b9 b10 b5 ![0, 0, 0] ![0, 0, 0, 0] ![0, 0, 0, 0] (k0_off28 i) inb_S2x512x1024_S1x512x512_0_0_0 inb_S2x2x1x1024_S1x1x1x512_0_0_0_0 inb_S2x2x144x1024_S1x1x144x512_0_0_0_0 (k0_off28_inb i k0_h1)
  smH k0_pay154 b7 b9 b10 b5 ![0, 0, 512] ![0, 0, 0, 512] ![0, 0, 0, 512] (k0_off28 i) inb_S2x512x1024_S1x512x512_0_0_512 inb_S2x2x1x1024_S1x1x1x512_0_0_0_512 inb_S2x2x144x1024_S1x1x144x512_0_0_0_512 (k0_off28_inb i k0_h1)
  qkL b4 b2 b8 (k0_off29 i) ![1, 0, 512] ![1, 0, 512] (k0_off29_inb i k0_h1) inb_S2x256x1024_S1x256x512_1_0_512 inb_S2x512x1024_S1x512x512_1_0_512
  smH k0_pay149 b7 b9 b10 b5 ![1, 0, 0] ![0, 1, 0, 0] ![0, 1, 0, 0] (k0_off30 i) inb_S2x512x1024_S1x512x512_1_0_0 inb_S2x2x1x1024_S1x1x1x512_0_1_0_0 inb_S2x2x144x1024_S1x1x144x512_0_1_0_0 (k0_off30_inb i k0_h1)
  smH k0_pay154 b7 b9 b10 b5 ![1, 0, 512] ![0, 1, 0, 512] ![0, 1, 0, 512] (k0_off30 i) inb_S2x512x1024_S1x512x512_1_0_512 inb_S2x2x1x1024_S1x1x1x512_0_1_0_512 inb_S2x2x144x1024_S1x1x144x512_0_1_0_512 (k0_off30_inb i k0_h1)
  smH k0_pay149 b8 b9 b10 b5 ![0, 0, 512] ![0, 0, 0, 512] ![0, 0, 0, 512] (k0_off31 i) inb_S2x512x1024_S1x512x512_0_0_512 inb_S2x2x1x1024_S1x1x1x512_0_0_0_512 inb_S2x2x144x1024_S1x1x144x512_0_0_0_512 (k0_off31_inb i k0_h1)
  smH k0_pay149 b8 b9 b10 b5 ![1, 0, 512] ![0, 1, 0, 512] ![0, 1, 0, 512] (k0_off32 i) inb_S2x512x1024_S1x512x512_1_0_512 inb_S2x2x1x1024_S1x1x1x512_0_1_0_512 inb_S2x2x144x1024_S1x1x144x512_0_1_0_512 (k0_off32_inb i k0_h1)
  outU b10 b6 g6 ![0, 0, 0, 0] ![0, 0, 0] inb_S2x2x144x1024_S1x1x144x1024_0_0_0_0 inb_S2x1024x256_S1x1024x128_0_0_0 packedbf16_S2x1024x256_S1x1024x128_0_0_0
  outU b10 b6 g6 ![0, 1, 0, 0] ![0, 0, 128] inb_S2x2x144x1024_S1x1x144x1024_0_1_0_0 inb_S2x1024x256_S1x1024x128_0_0_128 packedbf16_S2x1024x256_S1x1024x128_0_0_128
  qkA b4 b3 b7 ![0, 0, 0] ![0, 0, 0] ![0, 0, 0] inb_S2x8192x256_S1x512x256_0_0_0 inb_S2x256x1024_S1x256x1024_0_0_0 inb_S2x512x1024_S1x512x1024_0_0_0
  qkA b4 b3 b7 ![1, 0, 0] ![1, 0, 0] ![1, 0, 0] inb_S2x8192x256_S1x512x256_1_0_0 inb_S2x256x1024_S1x256x1024_1_0_0 inb_S2x512x1024_S1x512x1024_1_0_0

/-- The taken branch of condition 2. -/
def if2R (i : grid0.Coords) (b2 b3 : Memref sig .tc .vmem S2x256x1024 .bf16) (b4 : Memref sig .tc .vmem S2x8192x256 .bf16) (b5 : Memref sig .tc .vmem S2x16x144x512 .bf16) (b6 : Memref sig .tc .vmem S2x1024x256 .bf16) (g6 : b6.IsWhole) (b7 b8 : Memref sig .tc .vmem S2x512x1024 .f32) (b9 : Memref sig .tc .vmem S2x2x1x1024 .f32) (b10 : Memref sig .tc .vmem S2x2x144x1024 .f32) (k0_h2 : k0_cond2 i = 1#1) : Pr F := do
  qkL b4 b2 b8 (k0_off33 i) ![0, 0, 512] ![0, 0, 512] (k0_off33_inb i k0_h2) inb_S2x256x1024_S1x256x512_0_0_512 inb_S2x512x1024_S1x512x512_0_0_512
  smH k0_pay149 b7 b9 b10 b5 ![0, 0, 0] ![0, 0, 0, 0] ![0, 0, 0, 0] (k0_off34 i) inb_S2x512x1024_S1x512x512_0_0_0 inb_S2x2x1x1024_S1x1x1x512_0_0_0_0 inb_S2x2x144x1024_S1x1x144x512_0_0_0_0 (k0_off34_inb i k0_h2)
  smH k0_pay154 b7 b9 b10 b5 ![0, 0, 512] ![0, 0, 0, 512] ![0, 0, 0, 512] (k0_off34 i) inb_S2x512x1024_S1x512x512_0_0_512 inb_S2x2x1x1024_S1x1x1x512_0_0_0_512 inb_S2x2x144x1024_S1x1x144x512_0_0_0_512 (k0_off34_inb i k0_h2)
  qkL b4 b2 b8 (k0_off35 i) ![1, 0, 512] ![1, 0, 512] (k0_off35_inb i k0_h2) inb_S2x256x1024_S1x256x512_1_0_512 inb_S2x512x1024_S1x512x512_1_0_512
  smH k0_pay149 b7 b9 b10 b5 ![1, 0, 0] ![0, 1, 0, 0] ![0, 1, 0, 0] (k0_off36 i) inb_S2x512x1024_S1x512x512_1_0_0 inb_S2x2x1x1024_S1x1x1x512_0_1_0_0 inb_S2x2x144x1024_S1x1x144x512_0_1_0_0 (k0_off36_inb i k0_h2)
  smH k0_pay154 b7 b9 b10 b5 ![1, 0, 512] ![0, 1, 0, 512] ![0, 1, 0, 512] (k0_off36 i) inb_S2x512x1024_S1x512x512_1_0_512 inb_S2x2x1x1024_S1x1x1x512_0_1_0_512 inb_S2x2x144x1024_S1x1x144x512_0_1_0_512 (k0_off36_inb i k0_h2)
  smH k0_pay149 b8 b9 b10 b5 ![0, 0, 512] ![0, 0, 0, 512] ![0, 0, 0, 512] (k0_off37 i) inb_S2x512x1024_S1x512x512_0_0_512 inb_S2x2x1x1024_S1x1x1x512_0_0_0_512 inb_S2x2x144x1024_S1x1x144x512_0_0_0_512 (k0_off37_inb i k0_h2)
  smH k0_pay149 b8 b9 b10 b5 ![1, 0, 512] ![0, 1, 0, 512] ![0, 1, 0, 512] (k0_off38 i) inb_S2x512x1024_S1x512x512_1_0_512 inb_S2x2x1x1024_S1x1x1x512_0_1_0_512 inb_S2x2x144x1024_S1x1x144x512_0_1_0_512 (k0_off38_inb i k0_h2)
  outU b10 b6 g6 ![0, 0, 0, 0] ![0, 0, 0] inb_S2x2x144x1024_S1x1x144x1024_0_0_0_0 inb_S2x1024x256_S1x1024x128_0_0_0 packedbf16_S2x1024x256_S1x1024x128_0_0_0
  outU b10 b6 g6 ![0, 1, 0, 0] ![0, 0, 128] inb_S2x2x144x1024_S1x1x144x1024_0_1_0_0 inb_S2x1024x256_S1x1024x128_0_0_128 packedbf16_S2x1024x256_S1x1024x128_0_0_128
  qkA b4 b3 b7 ![0, 0, 0] ![0, 0, 0] ![0, 0, 0] inb_S2x8192x256_S1x512x256_0_0_0 inb_S2x256x1024_S1x256x1024_0_0_0 inb_S2x512x1024_S1x512x1024_0_0_0
  qkA b4 b3 b7 ![1, 0, 0] ![1, 0, 0] ![1, 0, 0] inb_S2x8192x256_S1x512x256_1_0_0 inb_S2x256x1024_S1x256x1024_1_0_0 inb_S2x512x1024_S1x512x1024_1_0_0

/-- The taken branch of condition 3. -/
def if3R (i : grid0.Coords) (b2 b3 : Memref sig .tc .vmem S2x256x1024 .bf16) (b4 : Memref sig .tc .vmem S2x8192x256 .bf16) (b5 : Memref sig .tc .vmem S2x16x144x512 .bf16) (b6 : Memref sig .tc .vmem S2x1024x256 .bf16) (g6 : b6.IsWhole) (b7 b8 : Memref sig .tc .vmem S2x512x1024 .f32) (b9 : Memref sig .tc .vmem S2x2x1x1024 .f32) (b10 : Memref sig .tc .vmem S2x2x144x1024 .f32) (k0_h3 : k0_cond3 i = 1#1) : Pr F := do
  qkA b4 b3 b8 (k0_off59 i 1#32) ![0, 0, 0] ![0, 0, 0] (k0_off59_inb i k0_h3 0) inb_S2x256x1024_S1x256x1024_0_0_0 inb_S2x512x1024_S1x512x1024_0_0_0
  smA b7 b9 b10 b5 ![0, 0, 0] ![1, 0, 0, 0] ![1, 0, 0, 0] (k0_off60 i) inb_S2x512x1024_S1x512x1024_0_0_0 inb_S2x2x1x1024_S1x1x1x1024_1_0_0_0 inb_S2x2x144x1024_S1x1x144x1024_1_0_0_0 (k0_off60_inb i k0_h3)
  qkA b4 b3 b8 (k0_off61 i 1#32) ![1, 0, 0] ![1, 0, 0] (k0_off61_inb i k0_h3 0) inb_S2x256x1024_S1x256x1024_1_0_0 inb_S2x512x1024_S1x512x1024_1_0_0
  smA b7 b9 b10 b5 ![1, 0, 0] ![1, 1, 0, 0] ![1, 1, 0, 0] (k0_off62 i) inb_S2x512x1024_S1x512x1024_1_0_0 inb_S2x2x1x1024_S1x1x1x1024_1_1_0_0 inb_S2x2x144x1024_S1x1x144x1024_1_1_0_0 (k0_off62_inb i k0_h3)
  qkA b4 b3 b7 (k0_off59 i 2#32) ![0, 0, 0] ![0, 0, 0] (k0_off59_inb i k0_h3 1) inb_S2x256x1024_S1x256x1024_0_0_0 inb_S2x512x1024_S1x512x1024_0_0_0
  smA b8 b9 b10 b5 ![0, 0, 0] ![1, 0, 0, 0] ![1, 0, 0, 0] (k0_off63 i) inb_S2x512x1024_S1x512x1024_0_0_0 inb_S2x2x1x1024_S1x1x1x1024_1_0_0_0 inb_S2x2x144x1024_S1x1x144x1024_1_0_0_0 (k0_off63_inb i k0_h3)
  qkA b4 b3 b7 (k0_off61 i 2#32) ![1, 0, 0] ![1, 0, 0] (k0_off61_inb i k0_h3 1) inb_S2x256x1024_S1x256x1024_1_0_0 inb_S2x512x1024_S1x512x1024_1_0_0
  smA b8 b9 b10 b5 ![1, 0, 0] ![1, 1, 0, 0] ![1, 1, 0, 0] (k0_off64 i) inb_S2x512x1024_S1x512x1024_1_0_0 inb_S2x2x1x1024_S1x1x1x1024_1_1_0_0 inb_S2x2x144x1024_S1x1x144x1024_1_1_0_0 (k0_off64_inb i k0_h3)
  qkL b4 b3 b8 (k0_off65 i) ![0, 0, 512] ![0, 0, 512] (k0_off65_inb i k0_h3) inb_S2x256x1024_S1x256x512_0_0_512 inb_S2x512x1024_S1x512x512_0_0_512
  smH k0_pay149 b7 b9 b10 b5 ![0, 0, 0] ![1, 0, 0, 0] ![1, 0, 0, 0] (k0_off66 i) inb_S2x512x1024_S1x512x512_0_0_0 inb_S2x2x1x1024_S1x1x1x512_1_0_0_0 inb_S2x2x144x1024_S1x1x144x512_1_0_0_0 (k0_off66_inb i k0_h3)
  smH k0_pay154 b7 b9 b10 b5 ![0, 0, 512] ![1, 0, 0, 512] ![1, 0, 0, 512] (k0_off66 i) inb_S2x512x1024_S1x512x512_0_0_512 inb_S2x2x1x1024_S1x1x1x512_1_0_0_512 inb_S2x2x144x1024_S1x1x144x512_1_0_0_512 (k0_off66_inb i k0_h3)
  qkL b4 b3 b8 (k0_off67 i) ![1, 0, 512] ![1, 0, 512] (k0_off67_inb i k0_h3) inb_S2x256x1024_S1x256x512_1_0_512 inb_S2x512x1024_S1x512x512_1_0_512
  smH k0_pay149 b7 b9 b10 b5 ![1, 0, 0] ![1, 1, 0, 0] ![1, 1, 0, 0] (k0_off68 i) inb_S2x512x1024_S1x512x512_1_0_0 inb_S2x2x1x1024_S1x1x1x512_1_1_0_0 inb_S2x2x144x1024_S1x1x144x512_1_1_0_0 (k0_off68_inb i k0_h3)
  smH k0_pay154 b7 b9 b10 b5 ![1, 0, 512] ![1, 1, 0, 512] ![1, 1, 0, 512] (k0_off68 i) inb_S2x512x1024_S1x512x512_1_0_512 inb_S2x2x1x1024_S1x1x1x512_1_1_0_512 inb_S2x2x144x1024_S1x1x144x512_1_1_0_512 (k0_off68_inb i k0_h3)
  smH k0_pay149 b8 b9 b10 b5 ![0, 0, 512] ![1, 0, 0, 512] ![1, 0, 0, 512] (k0_off69 i) inb_S2x512x1024_S1x512x512_0_0_512 inb_S2x2x1x1024_S1x1x1x512_1_0_0_512 inb_S2x2x144x1024_S1x1x144x512_1_0_0_512 (k0_off69_inb i k0_h3)
  smH k0_pay149 b8 b9 b10 b5 ![1, 0, 512] ![1, 1, 0, 512] ![1, 1, 0, 512] (k0_off70 i) inb_S2x512x1024_S1x512x512_1_0_512 inb_S2x2x1x1024_S1x1x1x512_1_1_0_512 inb_S2x2x144x1024_S1x1x144x512_1_1_0_512 (k0_off70_inb i k0_h3)
  outU b10 b6 g6 ![1, 0, 0, 0] ![1, 0, 0] inb_S2x2x144x1024_S1x1x144x1024_1_0_0_0 inb_S2x1024x256_S1x1024x128_1_0_0 packedbf16_S2x1024x256_S1x1024x128_1_0_0
  outU b10 b6 g6 ![1, 1, 0, 0] ![1, 0, 128] inb_S2x2x144x1024_S1x1x144x1024_1_1_0_0 inb_S2x1024x256_S1x1024x128_1_0_128 packedbf16_S2x1024x256_S1x1024x128_1_0_128

/-- The taken branch of condition 4. -/
def if4R (i : grid0.Coords) (b2 b3 : Memref sig .tc .vmem S2x256x1024 .bf16) (b4 : Memref sig .tc .vmem S2x8192x256 .bf16) (b5 : Memref sig .tc .vmem S2x16x144x512 .bf16) (b6 : Memref sig .tc .vmem S2x1024x256 .bf16) (g6 : b6.IsWhole) (b7 b8 : Memref sig .tc .vmem S2x512x1024 .f32) (b9 : Memref sig .tc .vmem S2x2x1x1024 .f32) (b10 : Memref sig .tc .vmem S2x2x144x1024 .f32) (k0_h4 : k0_cond4 i = 1#1) : Pr F := do
  qkL b4 b3 b8 (k0_off71 i) ![0, 0, 512] ![0, 0, 512] (k0_off71_inb i k0_h4) inb_S2x256x1024_S1x256x512_0_0_512 inb_S2x512x1024_S1x512x512_0_0_512
  smH k0_pay149 b7 b9 b10 b5 ![0, 0, 0] ![1, 0, 0, 0] ![1, 0, 0, 0] (k0_off72 i) inb_S2x512x1024_S1x512x512_0_0_0 inb_S2x2x1x1024_S1x1x1x512_1_0_0_0 inb_S2x2x144x1024_S1x1x144x512_1_0_0_0 (k0_off72_inb i k0_h4)
  smH k0_pay154 b7 b9 b10 b5 ![0, 0, 512] ![1, 0, 0, 512] ![1, 0, 0, 512] (k0_off72 i) inb_S2x512x1024_S1x512x512_0_0_512 inb_S2x2x1x1024_S1x1x1x512_1_0_0_512 inb_S2x2x144x1024_S1x1x144x512_1_0_0_512 (k0_off72_inb i k0_h4)
  qkL b4 b3 b8 (k0_off73 i) ![1, 0, 512] ![1, 0, 512] (k0_off73_inb i k0_h4) inb_S2x256x1024_S1x256x512_1_0_512 inb_S2x512x1024_S1x512x512_1_0_512
  smH k0_pay149 b7 b9 b10 b5 ![1, 0, 0] ![1, 1, 0, 0] ![1, 1, 0, 0] (k0_off74 i) inb_S2x512x1024_S1x512x512_1_0_0 inb_S2x2x1x1024_S1x1x1x512_1_1_0_0 inb_S2x2x144x1024_S1x1x144x512_1_1_0_0 (k0_off74_inb i k0_h4)
  smH k0_pay154 b7 b9 b10 b5 ![1, 0, 512] ![1, 1, 0, 512] ![1, 1, 0, 512] (k0_off74 i) inb_S2x512x1024_S1x512x512_1_0_512 inb_S2x2x1x1024_S1x1x1x512_1_1_0_512 inb_S2x2x144x1024_S1x1x144x512_1_1_0_512 (k0_off74_inb i k0_h4)
  smH k0_pay149 b8 b9 b10 b5 ![0, 0, 512] ![1, 0, 0, 512] ![1, 0, 0, 512] (k0_off75 i) inb_S2x512x1024_S1x512x512_0_0_512 inb_S2x2x1x1024_S1x1x1x512_1_0_0_512 inb_S2x2x144x1024_S1x1x144x512_1_0_0_512 (k0_off75_inb i k0_h4)
  smH k0_pay149 b8 b9 b10 b5 ![1, 0, 512] ![1, 1, 0, 512] ![1, 1, 0, 512] (k0_off76 i) inb_S2x512x1024_S1x512x512_1_0_512 inb_S2x2x1x1024_S1x1x1x512_1_1_0_512 inb_S2x2x144x1024_S1x1x144x512_1_1_0_512 (k0_off76_inb i k0_h4)
  outU b10 b6 g6 ![1, 0, 0, 0] ![1, 0, 0] inb_S2x2x144x1024_S1x1x144x1024_1_0_0_0 inb_S2x1024x256_S1x1024x128_1_0_0 packedbf16_S2x1024x256_S1x1024x128_1_0_0
  outU b10 b6 g6 ![1, 1, 0, 0] ![1, 0, 128] inb_S2x2x144x1024_S1x1x144x1024_1_1_0_0 inb_S2x1024x256_S1x1024x128_1_0_128 packedbf16_S2x1024x256_S1x1024x128_1_0_128

/-- The first head's second scores, and the loops over the earlier blocks of the first query block. -/
def loopsR (i : grid0.Coords) (b2 b3 : Memref sig .tc .vmem S2x256x1024 .bf16) (b4 : Memref sig .tc .vmem S2x8192x256 .bf16) (b5 : Memref sig .tc .vmem S2x16x144x512 .bf16) (b6 : Memref sig .tc .vmem S2x1024x256 .bf16) (g6 : b6.IsWhole) (b7 b8 : Memref sig .tc .vmem S2x512x1024 .f32) (b9 : Memref sig .tc .vmem S2x2x1x1024 .f32) (b10 : Memref sig .tc .vmem S2x2x144x1024 .f32) : Pr F := do
  qkA b4 b2 b7 ![1, 0, 0] ![1, 0, 0] ![1, 0, 0] inb_S2x8192x256_S1x512x256_1_0_0 inb_S2x256x1024_S1x256x1024_1_0_0 inb_S2x512x1024_S1x512x1024_1_0_0
  Scf.Loop.for (k0_t1_loop i) (k0_t1_ok i) ⟨⟩ (fun t _ => t1R i b2 b3 b4 b5 b6 g6 b7 b8 b9 b10 t)
  Scf.Loop.for (k0_t2_loop i) (k0_t2_ok i) ⟨⟩ (fun t _ => t2R i b2 b3 b4 b5 b6 g6 b7 b8 b9 b10 t)
  pure ⟨⟩

/-- The first query block's last blocks, and all but the last step of the second's. -/
def midR (i : grid0.Coords) (b2 b3 : Memref sig .tc .vmem S2x256x1024 .bf16) (b4 : Memref sig .tc .vmem S2x8192x256 .bf16) (b5 : Memref sig .tc .vmem S2x16x144x512 .bf16) (b6 : Memref sig .tc .vmem S2x1024x256 .bf16) (g6 : b6.IsWhole) (b7 b8 : Memref sig .tc .vmem S2x512x1024 .f32) (b9 : Memref sig .tc .vmem S2x2x1x1024 .f32) (b10 : Memref sig .tc .vmem S2x2x144x1024 .f32) : Pr F := do
  if k0_h1 : k0_cond1 i = 1#1 then if1R i b2 b3 b4 b5 b6 g6 b7 b8 b9 b10 k0_h1 else pure ⟨⟩
  if k0_h2 : k0_cond2 i = 1#1 then if2R i b2 b3 b4 b5 b6 g6 b7 b8 b9 b10 k0_h2 else pure ⟨⟩
  Scf.Loop.for (k0_t3_loop i) (k0_t3_ok i) ⟨⟩ (fun t _ => t3R i b2 b3 b4 b5 b6 g6 b7 b8 b9 b10 t)
  Scf.Loop.for (k0_t4_loop i) (k0_t4_ok i) ⟨⟩ (fun t _ => t4R i b2 b3 b4 b5 b6 g6 b7 b8 b9 b10 t)
  if k0_h3 : k0_cond3 i = 1#1 then if3R i b2 b3 b4 b5 b6 g6 b7 b8 b9 b10 k0_h3 else pure ⟨⟩
  pure ⟨⟩

/-- The whole body. -/
def bodyR (i : grid0.Coords) (b2 b3 : Memref sig .tc .vmem S2x256x1024 .bf16) (b4 : Memref sig .tc .vmem S2x8192x256 .bf16) (b5 : Memref sig .tc .vmem S2x16x144x512 .bf16) (b6 : Memref sig .tc .vmem S2x1024x256 .bf16) (g6 : b6.IsWhole) (b7 b8 : Memref sig .tc .vmem S2x512x1024 .f32) (b9 : Memref sig .tc .vmem S2x2x1x1024 .f32) (b10 : Memref sig .tc .vmem S2x2x144x1024 .f32) : Pr F := do
  iniM b9
  iniA b10
  qkA b4 b2 b7 ![0, 0, 0] ![0, 0, 0] ![0, 0, 0] inb_S2x8192x256_S1x512x256_0_0_0 inb_S2x256x1024_S1x256x1024_0_0_0 inb_S2x512x1024_S1x512x1024_0_0_0
  loopsR i b2 b3 b4 b5 b6 g6 b7 b8 b9 b10
  midR i b2 b3 b4 b5 b6 g6 b7 b8 b9 b10
  if k0_h4 : k0_cond4 i = 1#1 then if4R i b2 b3 b4 b5 b6 g6 b7 b8 b9 b10 k0_h4 else pure ⟨⟩
  pure ⟨⟩

/-- The printed body is its list of units. -/
theorem body_eq (i : grid0.Coords) (b2 : Memref sig .tc .vmem S2x256x1024 .bf16) (g2 : b2.IsWhole) (b3 : Memref sig .tc .vmem S2x256x1024 .bf16) (g3 : b3.IsWhole) (b4 : Memref sig .tc .vmem S2x8192x256 .bf16) (g4 : b4.IsWhole) (b5 : Memref sig .tc .vmem S2x16x144x512 .bf16) (g5 : b5.IsWhole) (b6 : Memref sig .tc .vmem S2x1024x256 .bf16) (g6 : b6.IsWhole) (b7 : Memref sig .tc .vmem S2x512x1024 .f32) (g7 : b7.IsWhole) (b8 : Memref sig .tc .vmem S2x512x1024 .f32) (g8 : b8.IsWhole) (b9 : Memref sig .tc .vmem S2x2x1x1024 .f32) (g9 : b9.IsWhole) (b10 : Memref sig .tc .vmem S2x2x144x1024 .f32) (g10 : b10.IsWhole) :
    cc0_attention (F := F) i b2 g2 b3 g3 b4 g4 b5 g5 b6 g6 b7 g7 b8 g8 b9 g9 b10 g10 = bodyR i b2 b3 b4 b5 b6 g6 b7 b8 b9 b10 := by
  rw [cc0_attention_eq_skeleton]
  unfold cc0_attention_skel bodyR
  rw [k0_part81_eq_skeleton, k0_part82_eq_skeleton, k0_part83_eq_skeleton]
  rfl

end Cert.Kernel4Ideal.Attn

end
-- ==== Proof.AttnRules.lean ====
/- What each step of the attention kernel does to the buffers it holds: one rule per step. -/
module

public import proofs.«01_k».proof.Proof.AttnUnits
public import proofs.«01_k».proof.Proof.Gen.Kernel4Ideal.Frame.Runs
public import Idealize.ShloMosaic.Lib.Pipeline.Value
public import Idealize.ShloMosaic.Lib.Tactic
public import Idealize.ShloMosaic.Lib.WritesUnit

@[expose] public section

set_option maxRecDepth 16384

noncomputable section

namespace Cert.Kernel4Ideal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel4Ideal Cert.Kernel4Ideal.Gen

variable {F : FTy → Type} [FloatOps F]

local notation "𝕄" => MT nD τ sig Unit (Elt F) ℕ (UR sig nD τ) ℕ

/-- An array with a block of it replaced. -/
def put {s : Shape} {α : Type} (d : s.Idx → α) (off size : Fin s.rank → ℕ) (w : ((a : Fin s.rank) → Fin (size a)) → α) : s.Idx → α :=
  fun y => if h : ∀ a, off a ≤ (y a).val ∧ (y a).val < off a + size a then w (Rect.unitLocal (s := s) (off := off) (size := size) y h) else d y

/-- A store of a block leaves the array with that block replaced. -/
theorem read_put {κ : Kind} {sp : Space} {s : Shape} {e : EltTy} (v : View sig κ sp s e) (f : v.ty.Contents (Elt F)) {d : s.Idx → Elt F e}
    (hf : v.read (Elt F) f = d) {off size : Fin s.rank → ℕ} (inb : ∀ a, off a + size a ≤ s.size a)
    (w : (Rect.unit off size inb).shape.Idx → Elt F e) :
    v.read (Elt F) (v.writes (Elt F) f [⟨Rect.unit off size inb, w⟩]) = put d off size w := by
  funext y
  rw [View.read_writes_cons_unit v f inb w [] y rfl]
  unfold put
  split
  · rfl
  · exact congrFun hf y

/-- A buffer held whole, at the contents given. -/
abbrev O (c : Dev nD) {sp : Space} {sh : Shape} {e : EltTy} (m : Memref sig .tc sp sh e) (X : sh.Idx → Elt F e) : sProp 𝕄 :=
  owns (c : Thread nD τ) m fullShare X

/-- A program's weakest precondition on core `c`. -/
abbrev W (c : Dev nD) (E : Set ℕ) {α : Type} (p : Prog (TpuEff nD τ sig (Elt F) Λ₀ .tc) α) (K : α → sProp 𝕄) : sProp 𝕄 :=
  wp frame (wpE (defs₀ (F := F)) Variants.none c none) E p K

/-- One program after another. -/
theorem seq {c : Dev nD} {E : Set ℕ} {α β : Type} {P : sProp 𝕄} {R : α → sProp 𝕄} {Q : β → sProp 𝕄} {p : Prog (TpuEff nD τ sig (Elt F) Λ₀ .tc) α}
    {k : α → Prog (TpuEff nD τ sig (Elt F) Λ₀ .tc) β}
    (h1 : P ⊢ wp frame (wpE (defs₀ (F := F)) Variants.none c none) E p R)
    (h2 : ∀ a, R a ⊢ wp frame (wpE (defs₀ (F := F)) Variants.none c none) E (k a) Q) :
    P ⊢ wp frame (wpE (defs₀ (F := F)) Variants.none c none) E (p >>= k) Q := by
  rw [wp_bind]
  exact h1.trans (wp_mono _ _ E h2)

section
variable (c : Dev nD) (E : Set ℕ)

/-- The score buffer after `qkA`. -/
def qkAv (xk : Vec F S2x8192x256 .bf16) (xq : Vec F S2x256x1024 .bf16) (xs : Vec F S2x512x1024 .f32) (ok oq os : Fin 3 → ℕ) (hk : ∀ a, ok a + S1x512x256.size a ≤ S2x8192x256.size a) (hq : ∀ a, oq a + S1x256x1024.size a ≤ S2x256x1024.size a) : Vec F S2x512x1024 .f32 :=
  put xs os S1x512x1024.size (k0_pay3 (View.ld xk (Rect.unit (s := S2x8192x256) ok S1x512x256.size hk)) (View.ld xq (Rect.unit (s := S2x256x1024) oq S1x256x1024.size hq)))

/-- The rule of `qkA`. -/
theorem wp_qkA (K : PUnit → sProp 𝕄) (ak : Memref sig .tc .vmem S2x8192x256 .bf16) (aq : Memref sig .tc .vmem S2x256x1024 .bf16) (sc : Memref sig .tc .vmem S2x512x1024 .f32) (ok oq os : Fin 3 → ℕ)
    (hk : ∀ a, ok a + S1x512x256.size a ≤ S2x8192x256.size a) (hq : ∀ a, oq a + S1x256x1024.size a ≤ S2x256x1024.size a) (hs : ∀ a, os a + S1x512x1024.size a ≤ S2x512x1024.size a)
    (xk : Vec F S2x8192x256 .bf16) (xq : Vec F S2x256x1024 .bf16) (xs : Vec F S2x512x1024 .f32) :
    (iprop(O c ak xk ∗ O c aq xq ∗ O c sc xs ∗ (iprop(O c ak xk ∗ O c aq xq ∗ O c sc (qkAv xk xq xs ok oq os hk hq)) -∗ K ⟨⟩)) : sProp 𝕄)
      ⊢ W c E (qkA ak aq sc ok oq os hk hq hs) K := by
  unfold qkA O W owns
  iintro ⟨⟨%fk, %hfk, Hk⟩, ⟨%fq, %hfq, Hq⟩, ⟨%fs, %hfs, Hs⟩, Hk⟩
  sl_exec
  sl_step
  iapply Hk
  isplitl [Hk]
  · iexists _; isplitr; · ipureintro; exact hfk
    iexact Hk
  isplitl [Hq]
  · iexists _; isplitr; · ipureintro; exact hfq
    iexact Hq
  · iexists _; isplitr; swap; · iexact Hs
    ipureintro
    rw [read_put _ _ hfs]
    simp only [View.readAt_eq_ld, hfk, hfq, hfs]
    rfl

/-- The score buffer after `qkL`. -/
def qkLv (xk : Vec F S2x8192x256 .bf16) (xq : Vec F S2x256x1024 .bf16) (xs : Vec F S2x512x1024 .f32) (ok oq os : Fin 3 → ℕ) (hk : ∀ a, ok a + S1x512x256.size a ≤ S2x8192x256.size a) (hq : ∀ a, oq a + S1x256x512.size a ≤ S2x256x1024.size a) : Vec F S2x512x1024 .f32 :=
  put xs os S1x512x512.size (k0_pay148 (View.ld xk (Rect.unit (s := S2x8192x256) ok S1x512x256.size hk)) (View.ld xq (Rect.unit (s := S2x256x1024) oq S1x256x512.size hq)))

/-- The rule of `qkL`. -/
theorem wp_qkL (K : PUnit → sProp 𝕄) (ak : Memref sig .tc .vmem S2x8192x256 .bf16) (aq : Memref sig .tc .vmem S2x256x1024 .bf16) (sc : Memref sig .tc .vmem S2x512x1024 .f32) (ok oq os : Fin 3 → ℕ)
    (hk : ∀ a, ok a + S1x512x256.size a ≤ S2x8192x256.size a) (hq : ∀ a, oq a + S1x256x512.size a ≤ S2x256x1024.size a) (hs : ∀ a, os a + S1x512x512.size a ≤ S2x512x1024.size a)
    (xk : Vec F S2x8192x256 .bf16) (xq : Vec F S2x256x1024 .bf16) (xs : Vec F S2x512x1024 .f32) :
    (iprop(O c ak xk ∗ O c aq xq ∗ O c sc xs ∗ (iprop(O c ak xk ∗ O c aq xq ∗ O c sc (qkLv xk xq xs ok oq os hk hq)) -∗ K ⟨⟩)) : sProp 𝕄)
      ⊢ W c E (qkL ak aq sc ok oq os hk hq hs) K := by
  unfold qkL O W owns
  iintro ⟨⟨%fk, %hfk, Hk⟩, ⟨%fq, %hfq, Hq⟩, ⟨%fs, %hfs, Hs⟩, Hk⟩
  sl_exec
  sl_step
  iapply Hk
  isplitl [Hk]
  · iexists _; isplitr; · ipureintro; exact hfk
    iexact Hk
  isplitl [Hq]
  · iexists _; isplitr; · ipureintro; exact hfq
    iexact Hq
  · iexists _; isplitr; swap; · iexact Hs
    ipureintro
    rw [read_put _ _ hfs]
    simp only [View.readAt_eq_ld, hfk, hfq, hfs]
    rfl

/-- The running maximum after `smA`. -/
def smAm (xs : Vec F S2x512x1024 .f32) (xm : Vec F S2x2x1x1024 .f32) (os : Fin 3 → ℕ) (om : Fin 4 → ℕ) (hs : ∀ a, os a + S1x512x1024.size a ≤ S2x512x1024.size a) (hm : ∀ a, om a + S1x1x1x1024.size a ≤ S2x2x1x1024.size a) : Vec F S2x2x1x1024 .f32 :=
  put xm om S1x1x1x1024.size (k0_pay10 (k0_pay6 (View.ld xs (Rect.unit (s := S2x512x1024) os S1x512x1024.size hs)) (View.ld xm (Rect.unit (s := S2x2x1x1024) om S1x1x1x1024.size hm))))

/-- The running sums after `smA`. -/
def smAa (xs : Vec F S2x512x1024 .f32) (xm : Vec F S2x2x1x1024 .f32) (xa : Vec F S2x2x144x1024 .f32) (xv : Vec F S2x16x144x512 .bf16) (os : Fin 3 → ℕ) (om oa ov : Fin 4 → ℕ) (hs : ∀ a, os a + S1x512x1024.size a ≤ S2x512x1024.size a) (hm : ∀ a, om a + S1x1x1x1024.size a ≤ S2x2x1x1024.size a) (ha : ∀ a, oa a + S1x1x144x1024.size a ≤ S2x2x144x1024.size a) (hv : ∀ a, ov a + S1x1x144x512.size a ≤ S2x16x144x512.size a) : Vec F S2x2x144x1024 .f32 :=
  put xa oa S1x1x144x1024.size (k0_pay9 (k0_pay7 (View.ld xs (Rect.unit (s := S2x512x1024) os S1x512x1024.size hs)) (View.ld xm (Rect.unit (s := S2x2x1x1024) om S1x1x1x1024.size hm))) (k0_pay8 (View.ld xs (Rect.unit (s := S2x512x1024) os S1x512x1024.size hs)) (View.ld xm (Rect.unit (s := S2x2x1x1024) om S1x1x1x1024.size hm)) (View.ld xa (Rect.unit (s := S2x2x144x1024) oa S1x1x144x1024.size ha))) (View.ld xv (Rect.unit (s := S2x16x144x512) ov S1x1x144x512.size hv)))

/-- The rule of `smA`. -/
theorem wp_smA (K : PUnit → sProp 𝕄) (sc : Memref sig .tc .vmem S2x512x1024 .f32) (am : Memref sig .tc .vmem S2x2x1x1024 .f32) (aa : Memref sig .tc .vmem S2x2x144x1024 .f32) (av : Memref sig .tc .vmem S2x16x144x512 .bf16) (os : Fin 3 → ℕ) (om oa ov : Fin 4 → ℕ)
    (hs : ∀ a, os a + S1x512x1024.size a ≤ S2x512x1024.size a) (hm : ∀ a, om a + S1x1x1x1024.size a ≤ S2x2x1x1024.size a) (ha : ∀ a, oa a + S1x1x144x1024.size a ≤ S2x2x144x1024.size a) (hv : ∀ a, ov a + S1x1x144x512.size a ≤ S2x16x144x512.size a)
    (xs : Vec F S2x512x1024 .f32) (xm : Vec F S2x2x1x1024 .f32) (xa : Vec F S2x2x144x1024 .f32) (xv : Vec F S2x16x144x512 .bf16) :
    (iprop(O c sc xs ∗ O c am xm ∗ O c aa xa ∗ O c av xv ∗ (iprop(O c sc xs ∗ O c am (smAm xs xm os om hs hm) ∗ O c aa (smAa xs xm xa xv os om oa ov hs hm ha hv) ∗ O c av xv) -∗ K ⟨⟩)) : sProp 𝕄)
      ⊢ W c E (smA sc am aa av os om oa ov hs hm ha hv) K := by
  unfold smA O W owns
  iintro ⟨⟨%fs, %hfs, Hs⟩, ⟨%fm, %hfm, Hm⟩, ⟨%fa, %hfa, Ha⟩, ⟨%fv, %hfv, Hv⟩, Hk⟩
  sl_exec
  sl_step
  iapply Hk
  isplitl [Hs]
  · iexists _; isplitr; · ipureintro; exact hfs
    iexact Hs
  isplitl [Hm]
  · iexists _; isplitr; swap; · iexact Hm
    ipureintro
    rw [read_put _ _ hfm]
    simp only [View.readAt_eq_ld, hfs, hfm, hfa, hfv]
    rfl
  isplitl [Ha]
  · iexists _; isplitr; swap; · iexact Ha
    ipureintro
    rw [read_put _ _ hfa]
    simp only [View.readAt_eq_ld, hfs, hfm, hfa, hfv]
    rfl
  · iexists _; isplitr; · ipureintro; exact hfv
    iexact Hv

/-- The running maximum after `smH`. -/
def smHm (g : Vec F S1x512x512 .f32 → FVec F S512x512 .f32) (xs : Vec F S2x512x1024 .f32) (xm : Vec F S2x2x1x1024 .f32) (os : Fin 3 → ℕ) (om : Fin 4 → ℕ) (hs : ∀ a, os a + S1x512x512.size a ≤ S2x512x1024.size a) (hm : ∀ a, om a + S1x1x1x512.size a ≤ S2x2x1x1024.size a) : Vec F S2x2x1x1024 .f32 :=
  put xm om S1x1x1x512.size (k0_pay153 (g (View.ld xs (Rect.unit (s := S2x512x1024) os S1x512x512.size hs))) (View.ld xm (Rect.unit (s := S2x2x1x1024) om S1x1x1x512.size hm)))

/-- The running sums after `smH`. -/
def smHa (g : Vec F S1x512x512 .f32 → FVec F S512x512 .f32) (xs : Vec F S2x512x1024 .f32) (xm : Vec F S2x2x1x1024 .f32) (xa : Vec F S2x2x144x1024 .f32) (xv : Vec F S2x16x144x512 .bf16) (os : Fin 3 → ℕ) (om oa ov : Fin 4 → ℕ) (hs : ∀ a, os a + S1x512x512.size a ≤ S2x512x1024.size a) (hm : ∀ a, om a + S1x1x1x512.size a ≤ S2x2x1x1024.size a) (ha : ∀ a, oa a + S1x1x144x512.size a ≤ S2x2x144x1024.size a) (hv : ∀ a, ov a + S1x1x144x512.size a ≤ S2x16x144x512.size a) : Vec F S2x2x144x1024 .f32 :=
  put xa oa S1x1x144x512.size (k0_pay152 (g (View.ld xs (Rect.unit (s := S2x512x1024) os S1x512x512.size hs))) (View.ld xm (Rect.unit (s := S2x2x1x1024) om S1x1x1x512.size hm)) (View.ld xa (Rect.unit (s := S2x2x144x1024) oa S1x1x144x512.size ha)) (View.ld xv (Rect.unit (s := S2x16x144x512) ov S1x1x144x512.size hv)))

/-- The rule of `smH`. -/
theorem wp_smH (K : PUnit → sProp 𝕄) (g : Vec F S1x512x512 .f32 → FVec F S512x512 .f32) (sc : Memref sig .tc .vmem S2x512x1024 .f32) (am : Memref sig .tc .vmem S2x2x1x1024 .f32) (aa : Memref sig .tc .vmem S2x2x144x1024 .f32) (av : Memref sig .tc .vmem S2x16x144x512 .bf16) (os : Fin 3 → ℕ) (om oa ov : Fin 4 → ℕ)
    (hs : ∀ a, os a + S1x512x512.size a ≤ S2x512x1024.size a) (hm : ∀ a, om a + S1x1x1x512.size a ≤ S2x2x1x1024.size a) (ha : ∀ a, oa a + S1x1x144x512.size a ≤ S2x2x144x1024.size a) (hv : ∀ a, ov a + S1x1x144x512.size a ≤ S2x16x144x512.size a)
    (xs : Vec F S2x512x1024 .f32) (xm : Vec F S2x2x1x1024 .f32) (xa : Vec F S2x2x144x1024 .f32) (xv : Vec F S2x16x144x512 .bf16) :
    (iprop(O c sc xs ∗ O c am xm ∗ O c aa xa ∗ O c av xv ∗ (iprop(O c sc xs ∗ O c am (smHm g xs xm os om hs hm) ∗ O c aa (smHa g xs xm xa xv os om oa ov hs hm ha hv) ∗ O c av xv) -∗ K ⟨⟩)) : sProp 𝕄)
      ⊢ W c E (smH g sc am aa av os om oa ov hs hm ha hv) K := by
  unfold smH O W owns
  iintro ⟨⟨%fs, %hfs, Hs⟩, ⟨%fm, %hfm, Hm⟩, ⟨%fa, %hfa, Ha⟩, ⟨%fv, %hfv, Hv⟩, Hk⟩
  sl_exec
  sl_step
  iapply Hk
  isplitl [Hs]
  · iexists _; isplitr; · ipureintro; exact hfs
    iexact Hs
  isplitl [Hm]
  · iexists _; isplitr; swap; · iexact Hm
    ipureintro
    rw [read_put _ _ hfm]
    simp only [View.readAt_eq_ld, hfs, hfm, hfa, hfv]
    rfl
  isplitl [Ha]
  · iexists _; isplitr; swap; · iexact Ha
    ipureintro
    rw [read_put _ _ hfa]
    simp only [View.readAt_eq_ld, hfs, hfm, hfa, hfv]
    rfl
  · iexists _; isplitr; · ipureintro; exact hfv
    iexact Hv

/-- The output block after `outU`. -/
def outUo (xa : Vec F S2x2x144x1024 .f32) (xo : Vec F S2x1024x256 .bf16) (oa : Fin 4 → ℕ) (oo : Fin 3 → ℕ) (ha : ∀ a, oa a + S1x1x144x1024.size a ≤ S2x2x144x1024.size a) : Vec F S2x1024x256 .bf16 :=
  put xo oo S1x1024x128.size (k0_pay2 (View.ld xa (Rect.unit (s := S2x2x144x1024) oa S1x1x144x1024.size ha)))

/-- The rule of `outU`. -/
theorem wp_outU (K : PUnit → sProp 𝕄) (aa : Memref sig .tc .vmem S2x2x144x1024 .f32) (ao : Memref sig .tc .vmem S2x1024x256 .bf16) (hao : ao.IsWhole) (oa : Fin 4 → ℕ) (oo : Fin 3 → ℕ)
    (ha : ∀ a, oa a + S1x1x144x1024.size a ≤ S2x2x144x1024.size a) (ho : ∀ a, oo a + S1x1024x128.size a ≤ S2x1024x256.size a) (hp : (Rect.unit (s := S2x1024x256) oo S1x1024x128.size ho).PackedRows (EltTy.packing .bf16))
    (xa : Vec F S2x2x144x1024 .f32) (xo : Vec F S2x1024x256 .bf16) :
    (iprop(O c aa xa ∗ O c ao xo ∗ (iprop(O c aa xa ∗ O c ao (outUo xa xo oa oo ha)) -∗ K ⟨⟩)) : sProp 𝕄)
      ⊢ W c E (outU aa ao hao oa oo ha ho hp) K := by
  unfold outU O W owns
  iintro ⟨⟨%fa, %hfa, Ha⟩, ⟨%fo, %hfo, Ho⟩, Hk⟩
  sl_exec
  sl_step
  iapply Hk
  isplitl [Ha]
  · iexists _; isplitr; · ipureintro; exact hfa
    iexact Ha
  · iexists _; isplitr; swap; · iexact Ho
    ipureintro
    rw [read_put _ _ hfo]
    simp only [View.readAt_eq_ld, hfa, hfo]
    rfl

/-- The rule of `iniM`. -/
theorem wp_iniM (K : PUnit → sProp 𝕄) (am : Memref sig .tc .vmem S2x2x1x1024 .f32) (xm : Vec F S2x2x1x1024 .f32) :
    (iprop(O c am xm ∗ (iprop(O c am (put xm ![0, 0, 0, 0] S2x2x1x1024.size (k0_pay441 (F := F)))) -∗ K ⟨⟩)) : sProp 𝕄)
      ⊢ W c E (iniM am) K := by
  unfold iniM O W owns
  iintro ⟨⟨%f, %hf, H⟩, Hk⟩
  sl_exec
  sl_step
  iapply Hk
  iexists _; isplitr; swap; · iexact H
  ipureintro
  rw [read_put _ _ hf]

/-- The rule of `iniA`. -/
theorem wp_iniA (K : PUnit → sProp 𝕄) (aa : Memref sig .tc .vmem S2x2x144x1024 .f32) (xa : Vec F S2x2x144x1024 .f32) :
    (iprop(O c aa xa ∗ (iprop(O c aa (put xa ![0, 0, 0, 0] S2x2x144x1024.size (k0_pay442 (F := F)))) -∗ K ⟨⟩)) : sProp 𝕄)
      ⊢ W c E (iniA aa) K := by
  unfold iniA O W owns
  iintro ⟨⟨%f, %hf, H⟩, Hk⟩
  sl_exec
  sl_step
  iapply Hk
  iexists _; isplitr; swap; · iexact H
  ipureintro
  rw [read_put _ _ hf]

end

end Cert.Kernel4Ideal.Attn

end
-- ==== Proof.AttnState.lean ====
/- The attention kernel's steps, loop trips and branches as functions on what its buffers hold. -/
module

public import proofs.«01_k».proof.Proof.AttnRules
public import proofs.«01_k».proof.Proof.Gen.Kernel4Ideal.Frame.Runs
public import Idealize.ShloMosaic.Lib.Pipeline.Value
public import Idealize.ShloMosaic.Lib.Tactic
public import Idealize.ShloMosaic.Lib.WritesUnit

@[expose] public section

set_option maxRecDepth 16384

noncomputable section

namespace Cert.Kernel4Ideal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel4Ideal Cert.Kernel4Ideal.Gen

variable {F : FTy → Type} [FloatOps F]

local notation "𝕄" => MT nD τ sig Unit (Elt F) ℕ (UR sig nD τ) ℕ

/-- What the buffers the body writes hold: the two score buffers, the running maxima and sums, and the output block. -/
structure St (F : FTy → Type) where
  s : Bool → Vec F S2x512x1024 .f32
  m : Vec F S2x2x1x1024 .f32
  a : Vec F S2x2x144x1024 .f32
  o : Vec F S2x1024x256 .bf16

/-- One buffer's contents replaced. -/
def St.setS (σ : St F) (b : Bool) (x : Vec F S2x512x1024 .f32) : St F := ⟨fun b' => if b' = b then x else σ.s b', σ.m, σ.a, σ.o⟩

/-- The body's buffers: its inputs at the arrays given, the rest at a state's. -/
def Own (c : Dev nD) (b2 b3 : Memref sig .tc .vmem S2x256x1024 .bf16) (b4 : Memref sig .tc .vmem S2x8192x256 .bf16) (b5 : Memref sig .tc .vmem S2x16x144x512 .bf16) (b6 : Memref sig .tc .vmem S2x1024x256 .bf16) (b7 b8 : Memref sig .tc .vmem S2x512x1024 .f32) (b9 : Memref sig .tc .vmem S2x2x1x1024 .f32) (b10 : Memref sig .tc .vmem S2x2x144x1024 .f32) (xa xb : Vec F S2x256x1024 .bf16)
    (xk : Vec F S2x8192x256 .bf16) (xv : Vec F S2x16x144x512 .bf16) (σ : St F) : sProp 𝕄 :=
  iprop(O c b2 xa ∗ O c b3 xb ∗ O c b4 xk ∗ O c b5 xv ∗ O c b6 σ.o ∗ O c b7 (σ.s false) ∗ O c b8 (σ.s true) ∗ O c b9 σ.m ∗ O c b10 σ.a)

/-- `qkA` on states. -/
def qkAF (b : Bool) (xk : Vec F S2x8192x256 .bf16) (xq : Vec F S2x256x1024 .bf16) (ok oq os : Fin 3 → ℕ) (hk : ∀ a, ok a + S1x512x256.size a ≤ S2x8192x256.size a) (hq : ∀ a, oq a + S1x256x1024.size a ≤ S2x256x1024.size a) (σ : St F) : St F :=
  σ.setS b (qkAv xk xq (σ.s b) ok oq os hk hq)

/-- `qkL` on states. -/
def qkLF (b : Bool) (xk : Vec F S2x8192x256 .bf16) (xq : Vec F S2x256x1024 .bf16) (ok oq os : Fin 3 → ℕ) (hk : ∀ a, ok a + S1x512x256.size a ≤ S2x8192x256.size a) (hq : ∀ a, oq a + S1x256x512.size a ≤ S2x256x1024.size a) (σ : St F) : St F :=
  σ.setS b (qkLv xk xq (σ.s b) ok oq os hk hq)

/-- `smA` on states. -/
def smAF (b : Bool) (xv : Vec F S2x16x144x512 .bf16) (os : Fin 3 → ℕ) (om oa ov : Fin 4 → ℕ) (hs : ∀ a, os a + S1x512x1024.size a ≤ S2x512x1024.size a) (hm : ∀ a, om a + S1x1x1x1024.size a ≤ S2x2x1x1024.size a) (ha : ∀ a, oa a + S1x1x144x1024.size a ≤ S2x2x144x1024.size a) (hv : ∀ a, ov a + S1x1x144x512.size a ≤ S2x16x144x512.size a) (σ : St F) : St F :=
  ⟨σ.s, smAm (σ.s b) σ.m os om hs hm, smAa (σ.s b) σ.m σ.a xv os om oa ov hs hm ha hv, σ.o⟩

/-- `smH` on states. -/
def smHF (g : Vec F S1x512x512 .f32 → FVec F S512x512 .f32) (b : Bool) (xv : Vec F S2x16x144x512 .bf16) (os : Fin 3 → ℕ) (om oa ov : Fin 4 → ℕ) (hs : ∀ a, os a + S1x512x512.size a ≤ S2x512x1024.size a) (hm : ∀ a, om a + S1x1x1x512.size a ≤ S2x2x1x1024.size a) (ha : ∀ a, oa a + S1x1x144x512.size a ≤ S2x2x144x1024.size a) (hv : ∀ a, ov a + S1x1x144x512.size a ≤ S2x16x144x512.size a) (σ : St F) : St F :=
  ⟨σ.s, smHm g (σ.s b) σ.m os om hs hm, smHa g (σ.s b) σ.m σ.a xv os om oa ov hs hm ha hv, σ.o⟩

/-- `outU` on states. -/
def outUF (oa : Fin 4 → ℕ) (oo : Fin 3 → ℕ) (ha : ∀ a, oa a + S1x1x144x1024.size a ≤ S2x2x144x1024.size a) (σ : St F) : St F := ⟨σ.s, σ.m, σ.a, outUo σ.a σ.o oa oo ha⟩

/-- `iniM` on states. -/
def iniMF (σ : St F) : St F := ⟨σ.s, put σ.m ![0, 0, 0, 0] S2x2x1x1024.size (k0_pay441 (F := F)), σ.a, σ.o⟩

/-- `iniA` on states. -/
def iniAF (σ : St F) : St F := ⟨σ.s, σ.m, put σ.a ![0, 0, 0, 0] S2x2x144x1024.size (k0_pay442 (F := F)), σ.o⟩

section
variable (c : Dev nD) (E : Set ℕ) (b2 b3 : Memref sig .tc .vmem S2x256x1024 .bf16) (b4 : Memref sig .tc .vmem S2x8192x256 .bf16) (b5 : Memref sig .tc .vmem S2x16x144x512 .bf16) (b6 : Memref sig .tc .vmem S2x1024x256 .bf16) (g6 : b6.IsWhole) (b7 b8 : Memref sig .tc .vmem S2x512x1024 .f32) (b9 : Memref sig .tc .vmem S2x2x1x1024 .f32) (b10 : Memref sig .tc .vmem S2x2x144x1024 .f32) (xa xb : Vec F S2x256x1024 .bf16)
    (xk : Vec F S2x8192x256 .bf16) (xv : Vec F S2x16x144x512 .bf16) (σ : St F)

/-- Scores of a block of keys against all queries (score buffer 0, query block one), on states. -/
theorem own_qkA00 (ok oq os : Fin 3 → ℕ) (hk : ∀ a, ok a + S1x512x256.size a ≤ S2x8192x256.size a) (hq : ∀ a, oq a + S1x256x1024.size a ≤ S2x256x1024.size a) (hs : ∀ a, os a + S1x512x1024.size a ≤ S2x512x1024.size a) :
    Own c b2 b3 b4 b5 b6 b7 b8 b9 b10 xa xb xk xv σ ⊢ W c E (qkA b4 b2 b7 ok oq os hk hq hs) (fun _ => Own c b2 b3 b4 b5 b6 b7 b8 b9 b10 xa xb xk xv (qkAF false xk xa ok oq os hk hq σ)) := by
  unfold Own
  iintro ⟨H2, H3, H4, H5, H6, H7, H8, H9, H10⟩
  iapply (wp_qkA c E _ b4 b2 b7 ok oq os hk hq hs xk xa (σ.s false))
  isplitl [H4]; · iexact H4
  isplitl [H2]; · iexact H2
  isplitl [H7]; · iexact H7
  iintro ⟨H4, H2, H7⟩
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- Scores of a block of keys against all queries (score buffer 0, query block two), on states. -/
theorem own_qkA01 (ok oq os : Fin 3 → ℕ) (hk : ∀ a, ok a + S1x512x256.size a ≤ S2x8192x256.size a) (hq : ∀ a, oq a + S1x256x1024.size a ≤ S2x256x1024.size a) (hs : ∀ a, os a + S1x512x1024.size a ≤ S2x512x1024.size a) :
    Own c b2 b3 b4 b5 b6 b7 b8 b9 b10 xa xb xk xv σ ⊢ W c E (qkA b4 b2 b8 ok oq os hk hq hs) (fun _ => Own c b2 b3 b4 b5 b6 b7 b8 b9 b10 xa xb xk xv (qkAF true xk xa ok oq os hk hq σ)) := by
  unfold Own
  iintro ⟨H2, H3, H4, H5, H6, H7, H8, H9, H10⟩
  iapply (wp_qkA c E _ b4 b2 b8 ok oq os hk hq hs xk xa (σ.s true))
  isplitl [H4]; · iexact H4
  isplitl [H2]; · iexact H2
  isplitl [H8]; · iexact H8
  iintro ⟨H4, H2, H8⟩
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- Scores of a block of keys against all queries (score buffer 1, query block one), on states. -/
theorem own_qkA10 (ok oq os : Fin 3 → ℕ) (hk : ∀ a, ok a + S1x512x256.size a ≤ S2x8192x256.size a) (hq : ∀ a, oq a + S1x256x1024.size a ≤ S2x256x1024.size a) (hs : ∀ a, os a + S1x512x1024.size a ≤ S2x512x1024.size a) :
    Own c b2 b3 b4 b5 b6 b7 b8 b9 b10 xa xb xk xv σ ⊢ W c E (qkA b4 b3 b7 ok oq os hk hq hs) (fun _ => Own c b2 b3 b4 b5 b6 b7 b8 b9 b10 xa xb xk xv (qkAF false xk xb ok oq os hk hq σ)) := by
  unfold Own
  iintro ⟨H2, H3, H4, H5, H6, H7, H8, H9, H10⟩
  iapply (wp_qkA c E _ b4 b3 b7 ok oq os hk hq hs xk xb (σ.s false))
  isplitl [H4]; · iexact H4
  isplitl [H3]; · iexact H3
  isplitl [H7]; · iexact H7
  iintro ⟨H4, H3, H7⟩
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- Scores of a block of keys against all queries (score buffer 1, query block two), on states. -/
theorem own_qkA11 (ok oq os : Fin 3 → ℕ) (hk : ∀ a, ok a + S1x512x256.size a ≤ S2x8192x256.size a) (hq : ∀ a, oq a + S1x256x1024.size a ≤ S2x256x1024.size a) (hs : ∀ a, os a + S1x512x1024.size a ≤ S2x512x1024.size a) :
    Own c b2 b3 b4 b5 b6 b7 b8 b9 b10 xa xb xk xv σ ⊢ W c E (qkA b4 b3 b8 ok oq os hk hq hs) (fun _ => Own c b2 b3 b4 b5 b6 b7 b8 b9 b10 xa xb xk xv (qkAF true xk xb ok oq os hk hq σ)) := by
  unfold Own
  iintro ⟨H2, H3, H4, H5, H6, H7, H8, H9, H10⟩
  iapply (wp_qkA c E _ b4 b3 b8 ok oq os hk hq hs xk xb (σ.s true))
  isplitl [H4]; · iexact H4
  isplitl [H3]; · iexact H3
  isplitl [H8]; · iexact H8
  iintro ⟨H4, H3, H8⟩
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- Scores of a block of keys against the later half of the queries (score buffer 0, query block one), on states. -/
theorem own_qkL00 (ok oq os : Fin 3 → ℕ) (hk : ∀ a, ok a + S1x512x256.size a ≤ S2x8192x256.size a) (hq : ∀ a, oq a + S1x256x512.size a ≤ S2x256x1024.size a) (hs : ∀ a, os a + S1x512x512.size a ≤ S2x512x1024.size a) :
    Own c b2 b3 b4 b5 b6 b7 b8 b9 b10 xa xb xk xv σ ⊢ W c E (qkL b4 b2 b7 ok oq os hk hq hs) (fun _ => Own c b2 b3 b4 b5 b6 b7 b8 b9 b10 xa xb xk xv (qkLF false xk xa ok oq os hk hq σ)) := by
  unfold Own
  iintro ⟨H2, H3, H4, H5, H6, H7, H8, H9, H10⟩
  iapply (wp_qkL c E _ b4 b2 b7 ok oq os hk hq hs xk xa (σ.s false))
  isplitl [H4]; · iexact H4
  isplitl [H2]; · iexact H2
  isplitl [H7]; · iexact H7
  iintro ⟨H4, H2, H7⟩
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- Scores of a block of keys against the later half of the queries (score buffer 0, query block two), on states. -/
theorem own_qkL01 (ok oq os : Fin 3 → ℕ) (hk : ∀ a, ok a + S1x512x256.size a ≤ S2x8192x256.size a) (hq : ∀ a, oq a + S1x256x512.size a ≤ S2x256x1024.size a) (hs : ∀ a, os a + S1x512x512.size a ≤ S2x512x1024.size a) :
    Own c b2 b3 b4 b5 b6 b7 b8 b9 b10 xa xb xk xv σ ⊢ W c E (qkL b4 b2 b8 ok oq os hk hq hs) (fun _ => Own c b2 b3 b4 b5 b6 b7 b8 b9 b10 xa xb xk xv (qkLF true xk xa ok oq os hk hq σ)) := by
  unfold Own
  iintro ⟨H2, H3, H4, H5, H6, H7, H8, H9, H10⟩
  iapply (wp_qkL c E _ b4 b2 b8 ok oq os hk hq hs xk xa (σ.s true))
  isplitl [H4]; · iexact H4
  isplitl [H2]; · iexact H2
  isplitl [H8]; · iexact H8
  iintro ⟨H4, H2, H8⟩
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- Scores of a block of keys against the later half of the queries (score buffer 1, query block one), on states. -/
theorem own_qkL10 (ok oq os : Fin 3 → ℕ) (hk : ∀ a, ok a + S1x512x256.size a ≤ S2x8192x256.size a) (hq : ∀ a, oq a + S1x256x512.size a ≤ S2x256x1024.size a) (hs : ∀ a, os a + S1x512x512.size a ≤ S2x512x1024.size a) :
    Own c b2 b3 b4 b5 b6 b7 b8 b9 b10 xa xb xk xv σ ⊢ W c E (qkL b4 b3 b7 ok oq os hk hq hs) (fun _ => Own c b2 b3 b4 b5 b6 b7 b8 b9 b10 xa xb xk xv (qkLF false xk xb ok oq os hk hq σ)) := by
  unfold Own
  iintro ⟨H2, H3, H4, H5, H6, H7, H8, H9, H10⟩
  iapply (wp_qkL c E _ b4 b3 b7 ok oq os hk hq hs xk xb (σ.s false))
  isplitl [H4]; · iexact H4
  isplitl [H3]; · iexact H3
  isplitl [H7]; · iexact H7
  iintro ⟨H4, H3, H7⟩
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- Scores of a block of keys against the later half of the queries (score buffer 1, query block two), on states. -/
theorem own_qkL11 (ok oq os : Fin 3 → ℕ) (hk : ∀ a, ok a + S1x512x256.size a ≤ S2x8192x256.size a) (hq : ∀ a, oq a + S1x256x512.size a ≤ S2x256x1024.size a) (hs : ∀ a, os a + S1x512x512.size a ≤ S2x512x1024.size a) :
    Own c b2 b3 b4 b5 b6 b7 b8 b9 b10 xa xb xk xv σ ⊢ W c E (qkL b4 b3 b8 ok oq os hk hq hs) (fun _ => Own c b2 b3 b4 b5 b6 b7 b8 b9 b10 xa xb xk xv (qkLF true xk xb ok oq os hk hq σ)) := by
  unfold Own
  iintro ⟨H2, H3, H4, H5, H6, H7, H8, H9, H10⟩
  iapply (wp_qkL c E _ b4 b3 b8 ok oq os hk hq hs xk xb (σ.s true))
  isplitl [H4]; · iexact H4
  isplitl [H3]; · iexact H3
  isplitl [H8]; · iexact H8
  iintro ⟨H4, H3, H8⟩
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- A block of scores folded in (score buffer 0), on states. -/
theorem own_smA0 (os : Fin 3 → ℕ) (om oa ov : Fin 4 → ℕ) (hs : ∀ a, os a + S1x512x1024.size a ≤ S2x512x1024.size a) (hm : ∀ a, om a + S1x1x1x1024.size a ≤ S2x2x1x1024.size a) (ha : ∀ a, oa a + S1x1x144x1024.size a ≤ S2x2x144x1024.size a) (hv : ∀ a, ov a + S1x1x144x512.size a ≤ S2x16x144x512.size a) :
    Own c b2 b3 b4 b5 b6 b7 b8 b9 b10 xa xb xk xv σ ⊢ W c E (smA b7 b9 b10 b5 os om oa ov hs hm ha hv) (fun _ => Own c b2 b3 b4 b5 b6 b7 b8 b9 b10 xa xb xk xv (smAF false xv os om oa ov hs hm ha hv σ)) := by
  unfold Own
  iintro ⟨H2, H3, H4, H5, H6, H7, H8, H9, H10⟩
  iapply (wp_smA c E _ b7 b9 b10 b5 os om oa ov hs hm ha hv (σ.s false) σ.m σ.a xv)
  isplitl [H7]; · iexact H7
  isplitl [H9]; · iexact H9
  isplitl [H10]; · iexact H10
  isplitl [H5]; · iexact H5
  iintro ⟨H7, H9, H10, H5⟩
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- A block of scores folded in (score buffer 1), on states. -/
theorem own_smA1 (os : Fin 3 → ℕ) (om oa ov : Fin 4 → ℕ) (hs : ∀ a, os a + S1x512x1024.size a ≤ S2x512x1024.size a) (hm : ∀ a, om a + S1x1x1x1024.size a ≤ S2x2x1x1024.size a) (ha : ∀ a, oa a + S1x1x144x1024.size a ≤ S2x2x144x1024.size a) (hv : ∀ a, ov a + S1x1x144x512.size a ≤ S2x16x144x512.size a) :
    Own c b2 b3 b4 b5 b6 b7 b8 b9 b10 xa xb xk xv σ ⊢ W c E (smA b8 b9 b10 b5 os om oa ov hs hm ha hv) (fun _ => Own c b2 b3 b4 b5 b6 b7 b8 b9 b10 xa xb xk xv (smAF true xv os om oa ov hs hm ha hv σ)) := by
  unfold Own
  iintro ⟨H2, H3, H4, H5, H6, H7, H8, H9, H10⟩
  iapply (wp_smA c E _ b8 b9 b10 b5 os om oa ov hs hm ha hv (σ.s true) σ.m σ.a xv)
  isplitl [H8]; · iexact H8
  isplitl [H9]; · iexact H9
  isplitl [H10]; · iexact H10
  isplitl [H5]; · iexact H5
  iintro ⟨H8, H9, H10, H5⟩
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- A half block of scores folded in (score buffer 0), on states. -/
theorem own_smH0 (g : Vec F S1x512x512 .f32 → FVec F S512x512 .f32) (os : Fin 3 → ℕ) (om oa ov : Fin 4 → ℕ) (hs : ∀ a, os a + S1x512x512.size a ≤ S2x512x1024.size a) (hm : ∀ a, om a + S1x1x1x512.size a ≤ S2x2x1x1024.size a) (ha : ∀ a, oa a + S1x1x144x512.size a ≤ S2x2x144x1024.size a) (hv : ∀ a, ov a + S1x1x144x512.size a ≤ S2x16x144x512.size a) :
    Own c b2 b3 b4 b5 b6 b7 b8 b9 b10 xa xb xk xv σ ⊢ W c E (smH g b7 b9 b10 b5 os om oa ov hs hm ha hv) (fun _ => Own c b2 b3 b4 b5 b6 b7 b8 b9 b10 xa xb xk xv (smHF g false xv os om oa ov hs hm ha hv σ)) := by
  unfold Own
  iintro ⟨H2, H3, H4, H5, H6, H7, H8, H9, H10⟩
  iapply (wp_smH c E _ g b7 b9 b10 b5 os om oa ov hs hm ha hv (σ.s false) σ.m σ.a xv)
  isplitl [H7]; · iexact H7
  isplitl [H9]; · iexact H9
  isplitl [H10]; · iexact H10
  isplitl [H5]; · iexact H5
  iintro ⟨H7, H9, H10, H5⟩
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- A half block of scores folded in (score buffer 1), on states. -/
theorem own_smH1 (g : Vec F S1x512x512 .f32 → FVec F S512x512 .f32) (os : Fin 3 → ℕ) (om oa ov : Fin 4 → ℕ) (hs : ∀ a, os a + S1x512x512.size a ≤ S2x512x1024.size a) (hm : ∀ a, om a + S1x1x1x512.size a ≤ S2x2x1x1024.size a) (ha : ∀ a, oa a + S1x1x144x512.size a ≤ S2x2x144x1024.size a) (hv : ∀ a, ov a + S1x1x144x512.size a ≤ S2x16x144x512.size a) :
    Own c b2 b3 b4 b5 b6 b7 b8 b9 b10 xa xb xk xv σ ⊢ W c E (smH g b8 b9 b10 b5 os om oa ov hs hm ha hv) (fun _ => Own c b2 b3 b4 b5 b6 b7 b8 b9 b10 xa xb xk xv (smHF g true xv os om oa ov hs hm ha hv σ)) := by
  unfold Own
  iintro ⟨H2, H3, H4, H5, H6, H7, H8, H9, H10⟩
  iapply (wp_smH c E _ g b8 b9 b10 b5 os om oa ov hs hm ha hv (σ.s true) σ.m σ.a xv)
  isplitl [H8]; · iexact H8
  isplitl [H9]; · iexact H9
  isplitl [H10]; · iexact H10
  isplitl [H5]; · iexact H5
  iintro ⟨H8, H9, H10, H5⟩
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- One head's quotients written out, on states. -/
theorem own_outU (oa : Fin 4 → ℕ) (oo : Fin 3 → ℕ) (ha : ∀ a, oa a + S1x1x144x1024.size a ≤ S2x2x144x1024.size a) (ho : ∀ a, oo a + S1x1024x128.size a ≤ S2x1024x256.size a) (hp : (Rect.unit (s := S2x1024x256) oo S1x1024x128.size ho).PackedRows (EltTy.packing .bf16)) :
    Own c b2 b3 b4 b5 b6 b7 b8 b9 b10 xa xb xk xv σ ⊢ W c E (outU b10 b6 g6 oa oo ha ho hp) (fun _ => Own c b2 b3 b4 b5 b6 b7 b8 b9 b10 xa xb xk xv (outUF oa oo ha σ)) := by
  unfold Own
  iintro ⟨H2, H3, H4, H5, H6, H7, H8, H9, H10⟩
  iapply (wp_outU c E _ b10 b6 g6 oa oo ha ho hp σ.a σ.o)
  isplitl [H10]; · iexact H10
  isplitl [H6]; · iexact H6
  iintro ⟨H10, H6⟩
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- The running maximum set to its start, on states. -/
theorem own_iniM : Own c b2 b3 b4 b5 b6 b7 b8 b9 b10 xa xb xk xv σ ⊢ W c E (iniM b9) (fun _ => Own c b2 b3 b4 b5 b6 b7 b8 b9 b10 xa xb xk xv (iniMF σ)) := by
  unfold Own
  iintro ⟨H2, H3, H4, H5, H6, H7, H8, H9, H10⟩
  iapply (wp_iniM c E _ b9 σ.m)
  isplitl [H9]; · iexact H9
  iintro H9
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- The running sums set to their start, on states. -/
theorem own_iniA : Own c b2 b3 b4 b5 b6 b7 b8 b9 b10 xa xb xk xv σ ⊢ W c E (iniA b10) (fun _ => Own c b2 b3 b4 b5 b6 b7 b8 b9 b10 xa xb xk xv (iniAF σ)) := by
  unfold Own
  iintro ⟨H2, H3, H4, H5, H6, H7, H8, H9, H10⟩
  iapply (wp_iniA c E _ b10 σ.a)
  isplitl [H10]; · iexact H10
  iintro H10
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10
end

/-- One trip of loop 1 on states. -/
def t1F (i : grid0.Coords) (xa xb : Vec F S2x256x1024 .bf16) (xk : Vec F S2x8192x256 .bf16) (xv : Vec F S2x16x144x512 .bf16) (t : Fin (k0_t1_loop i).trips) (σ : St F) : St F :=
  let σ := qkAF true xk xa (k0_off1 i t 1#32) ![0, 0, 0] ![0, 0, 0] (k0_off1_inb i t 0) inb_S2x256x1024_S1x256x1024_0_0_0 σ
  let σ := smAF false xv ![0, 0, 0] ![0, 0, 0, 0] ![0, 0, 0, 0] (k0_off2 i t) inb_S2x512x1024_S1x512x1024_0_0_0 inb_S2x2x1x1024_S1x1x1x1024_0_0_0_0 inb_S2x2x144x1024_S1x1x144x1024_0_0_0_0 (k0_off2_inb i t) σ
  let σ := qkAF true xk xa (k0_off3 i t 1#32) ![1, 0, 0] ![1, 0, 0] (k0_off3_inb i t 0) inb_S2x256x1024_S1x256x1024_1_0_0 σ
  let σ := smAF false xv ![1, 0, 0] ![0, 1, 0, 0] ![0, 1, 0, 0] (k0_off4 i t) inb_S2x512x1024_S1x512x1024_1_0_0 inb_S2x2x1x1024_S1x1x1x1024_0_1_0_0 inb_S2x2x144x1024_S1x1x144x1024_0_1_0_0 (k0_off4_inb i t) σ
  let σ := qkAF false xk xa (k0_off1 i t 2#32) ![0, 0, 0] ![0, 0, 0] (k0_off1_inb i t 1) inb_S2x256x1024_S1x256x1024_0_0_0 σ
  let σ := smAF true xv ![0, 0, 0] ![0, 0, 0, 0] ![0, 0, 0, 0] (k0_off5 i t 1#32) inb_S2x512x1024_S1x512x1024_0_0_0 inb_S2x2x1x1024_S1x1x1x1024_0_0_0_0 inb_S2x2x144x1024_S1x1x144x1024_0_0_0_0 (k0_off5_inb i t 0) σ
  let σ := qkAF false xk xa (k0_off3 i t 2#32) ![1, 0, 0] ![1, 0, 0] (k0_off3_inb i t 1) inb_S2x256x1024_S1x256x1024_1_0_0 σ
  let σ := smAF true xv ![1, 0, 0] ![0, 1, 0, 0] ![0, 1, 0, 0] (k0_off6 i t 1#32) inb_S2x512x1024_S1x512x1024_1_0_0 inb_S2x2x1x1024_S1x1x1x1024_0_1_0_0 inb_S2x2x144x1024_S1x1x144x1024_0_1_0_0 (k0_off6_inb i t 0) σ
  let σ := qkAF true xk xa (k0_off7 i t 1#32) ![0, 0, 0] ![0, 0, 0] (k0_off7_inb i t 0) inb_S2x256x1024_S1x256x1024_0_0_0 σ
  let σ := smAF false xv ![0, 0, 0] ![0, 0, 0, 0] ![0, 0, 0, 0] (k0_off5 i t 2#32) inb_S2x512x1024_S1x512x1024_0_0_0 inb_S2x2x1x1024_S1x1x1x1024_0_0_0_0 inb_S2x2x144x1024_S1x1x144x1024_0_0_0_0 (k0_off5_inb i t 1) σ
  let σ := qkAF true xk xa (k0_off8 i t 1#32) ![1, 0, 0] ![1, 0, 0] (k0_off8_inb i t 0) inb_S2x256x1024_S1x256x1024_1_0_0 σ
  let σ := smAF false xv ![1, 0, 0] ![0, 1, 0, 0] ![0, 1, 0, 0] (k0_off6 i t 2#32) inb_S2x512x1024_S1x512x1024_1_0_0 inb_S2x2x1x1024_S1x1x1x1024_0_1_0_0 inb_S2x2x144x1024_S1x1x144x1024_0_1_0_0 (k0_off6_inb i t 1) σ
  let σ := qkAF false xk xa (k0_off7 i t 2#32) ![0, 0, 0] ![0, 0, 0] (k0_off7_inb i t 1) inb_S2x256x1024_S1x256x1024_0_0_0 σ
  let σ := smAF true xv ![0, 0, 0] ![0, 0, 0, 0] ![0, 0, 0, 0] (k0_off9 i t) inb_S2x512x1024_S1x512x1024_0_0_0 inb_S2x2x1x1024_S1x1x1x1024_0_0_0_0 inb_S2x2x144x1024_S1x1x144x1024_0_0_0_0 (k0_off9_inb i t) σ
  let σ := qkAF false xk xa (k0_off8 i t 2#32) ![1, 0, 0] ![1, 0, 0] (k0_off8_inb i t 1) inb_S2x256x1024_S1x256x1024_1_0_0 σ
  let σ := smAF true xv ![1, 0, 0] ![0, 1, 0, 0] ![0, 1, 0, 0] (k0_off10 i t) inb_S2x512x1024_S1x512x1024_1_0_0 inb_S2x2x1x1024_S1x1x1x1024_0_1_0_0 inb_S2x2x144x1024_S1x1x144x1024_0_1_0_0 (k0_off10_inb i t) σ
  σ

/-- A trip of loop 1 leaves what its function says. -/
theorem own_t1 (c : Dev nD) (E : Set ℕ) (i : grid0.Coords) (b2 b3 : Memref sig .tc .vmem S2x256x1024 .bf16) (b4 : Memref sig .tc .vmem S2x8192x256 .bf16) (b5 : Memref sig .tc .vmem S2x16x144x512 .bf16) (b6 : Memref sig .tc .vmem S2x1024x256 .bf16) (g6 : b6.IsWhole) (b7 b8 : Memref sig .tc .vmem S2x512x1024 .f32) (b9 : Memref sig .tc .vmem S2x2x1x1024 .f32) (b10 : Memref sig .tc .vmem S2x2x144x1024 .f32) (xa xb : Vec F S2x256x1024 .bf16)
    (xk : Vec F S2x8192x256 .bf16) (xv : Vec F S2x16x144x512 .bf16) (σ : St F) (t : Fin (k0_t1_loop i).trips) :
    Own c b2 b3 b4 b5 b6 b7 b8 b9 b10 xa xb xk xv σ ⊢ W c E (t1R i b2 b3 b4 b5 b6 g6 b7 b8 b9 b10 t) (fun _ => Own c b2 b3 b4 b5 b6 b7 b8 b9 b10 xa xb xk xv (t1F i xa xb xk xv t σ)) := by
  unfold t1R t1F
  dsimp only
  refine seq (own_qkA01 c E b2 b3 b4 b5 b6 b7 b8 b9 b10 xa xb xk xv _ _ _ _ _ _ _) fun _ => ?_
  refine seq (own_smA0 c E b2 b3 b4 b5 b6 b7 b8 b9 b10 xa xb xk xv _ _ _ _ _ _ _ _ _) fun _ => ?_
  refine seq (own_qkA01 c E b2 b3 b4 b5 b6 b7 b8 b9 b10 xa xb xk xv _ _ _ _ _ _ _) fun _ => ?_
  refine seq (own_smA0 c E b2 b3 b4 b5 b6 b7 b8 b9 b10 xa xb xk xv _ _ _ _ _ _ _ _ _) fun _ => ?_
  refine seq (own_qkA00 c E b2 b3 b4 b5 b6 b7 b8 b9 b10 xa xb xk xv _ _ _ _ _ _ _) fun _ => ?_
  refine seq (own_smA1 c E b2 b3 b4 b5 b6 b7 b8 b9 b10 xa xb xk xv _ _ _ _ _ _ _ _ _) fun _ => ?_
  refine seq (own_qkA00 c E b2 b3 b4 b5 b6 b7 b8 b9 b10 xa xb xk xv _ _ _ _ _ _ _) fun _ => ?_
  refine seq (own_smA1 c E b2 b3 b4 b5 b6 b7 b8 b9 b10 xa xb xk xv _ _ _ _ _ _ _ _ _) fun _ => ?_
  refine seq (own_qkA01 c E b2 b3 b4 b5 b6 b7 b8 b9 b10 xa xb xk xv _ _ _ _ _ _ _) fun _ => ?_
  refine seq (own_smA0 c E b2 b3 b4 b5 b6 b7 b8 b9 b10 xa xb xk xv _ _ _ _ _ _ _ _ _) fun _ => ?_
  refine seq (own_qkA01 c E b2 b3 b4 b5 b6 b7 b8 b9 b10 xa xb xk xv _ _ _ _ _ _ _) fun _ => ?_
  refine seq (own_smA0 c E b2 b3 b4 b5 b6 b7 b8 b9 b10 xa xb xk xv _ _ _ _ _ _ _ _ _) fun _ => ?_
  refine seq (own_qkA00 c E b2 b3 b4 b5 b6 b7 b8 b9 b10 xa xb xk xv _ _ _ _ _ _ _) fun _ => ?_
  refine seq (own_smA1 c E b2 b3 b4 b5 b6 b7 b8 b9 b10 xa xb xk xv _ _ _ _ _ _ _ _ _) fun _ => ?_
  refine seq (own_qkA00 c E b2 b3 b4 b5 b6 b7 b8 b9 b10 xa xb xk xv _ _ _ _ _ _ _) fun _ => ?_
  exact own_smA1 c E b2 b3 b4 b5 b6 b7 b8 b9 b10 xa xb xk xv _ _ _ _ _ _ _ _ _

/-- One trip of loop 2 on states. -/
def t2F (i : grid0.Coords) (xa xb : Vec F S2x256x1024 .bf16) (xk : Vec F S2x8192x256 .bf16) (xv : Vec F S2x16x144x512 .bf16) (t : Fin (k0_t2_loop i).trips) (σ : St F) : St F :=
  let σ := qkAF true xk xa (k0_off11 i t 1#32) ![0, 0, 0] ![0, 0, 0] (k0_off11_inb i t 0) inb_S2x256x1024_S1x256x1024_0_0_0 σ
  let σ := smAF false xv ![0, 0, 0] ![0, 0, 0, 0] ![0, 0, 0, 0] (k0_off12 i t) inb_S2x512x1024_S1x512x1024_0_0_0 inb_S2x2x1x1024_S1x1x1x1024_0_0_0_0 inb_S2x2x144x1024_S1x1x144x1024_0_0_0_0 (k0_off12_inb i t) σ
  let σ := qkAF true xk xa (k0_off13 i t 1#32) ![1, 0, 0] ![1, 0, 0] (k0_off13_inb i t 0) inb_S2x256x1024_S1x256x1024_1_0_0 σ
  let σ := smAF false xv ![1, 0, 0] ![0, 1, 0, 0] ![0, 1, 0, 0] (k0_off14 i t) inb_S2x512x1024_S1x512x1024_1_0_0 inb_S2x2x1x1024_S1x1x1x1024_0_1_0_0 inb_S2x2x144x1024_S1x1x144x1024_0_1_0_0 (k0_off14_inb i t) σ
  let σ := qkAF false xk xa (k0_off11 i t 2#32) ![0, 0, 0] ![0, 0, 0] (k0_off11_inb i t 1) inb_S2x256x1024_S1x256x1024_0_0_0 σ
  let σ := smAF true xv ![0, 0, 0] ![0, 0, 0, 0] ![0, 0, 0, 0] (k0_off15 i t 1#32) inb_S2x512x1024_S1x512x1024_0_0_0 inb_S2x2x1x1024_S1x1x1x1024_0_0_0_0 inb_S2x2x144x1024_S1x1x144x1024_0_0_0_0 (k0_off15_inb i t 0) σ
  let σ := qkAF false xk xa (k0_off13 i t 2#32) ![1, 0, 0] ![1, 0, 0] (k0_off13_inb i t 1) inb_S2x256x1024_S1x256x1024_1_0_0 σ
  let σ := smAF true xv ![1, 0, 0] ![0, 1, 0, 0] ![0, 1, 0, 0] (k0_off16 i t 1#32) inb_S2x512x1024_S1x512x1024_1_0_0 inb_S2x2x1x1024_S1x1x1x1024_0_1_0_0 inb_S2x2x144x1024_S1x1x144x1024_0_1_0_0 (k0_off16_inb i t 0) σ
  let σ := qkAF true xk xa (k0_off17 i t 1#32) ![0, 0, 0] ![0, 0, 0] (k0_off17_inb i t 0) inb_S2x256x1024_S1x256x1024_0_0_0 σ
  let σ := smAF false xv ![0, 0, 0] ![0, 0, 0, 0] ![0, 0, 0, 0] (k0_off15 i t 2#32) inb_S2x512x1024_S1x512x1024_0_0_0 inb_S2x2x1x1024_S1x1x1x1024_0_0_0_0 inb_S2x2x144x1024_S1x1x144x1024_0_0_0_0 (k0_off15_inb i t 1) σ
  let σ := qkAF true xk xa (k0_off18 i t 1#32) ![1, 0, 0] ![1, 0, 0] (k0_off18_inb i t 0) inb_S2x256x1024_S1x256x1024_1_0_0 σ
  let σ := smAF false xv ![1, 0, 0] ![0, 1, 0, 0] ![0, 1, 0, 0] (k0_off16 i t 2#32) inb_S2x512x1024_S1x512x1024_1_0_0 inb_S2x2x1x1024_S1x1x1x1024_0_1_0_0 inb_S2x2x144x1024_S1x1x144x1024_0_1_0_0 (k0_off16_inb i t 1) σ
  let σ := qkAF false xk xa (k0_off17 i t 2#32) ![0, 0, 0] ![0, 0, 0] (k0_off17_inb i t 1) inb_S2x256x1024_S1x256x1024_0_0_0 σ
  let σ := smAF true xv ![0, 0, 0] ![0, 0, 0, 0] ![0, 0, 0, 0] (k0_off19 i t) inb_S2x512x1024_S1x512x1024_0_0_0 inb_S2x2x1x1024_S1x1x1x1024_0_0_0_0 inb_S2x2x144x1024_S1x1x144x1024_0_0_0_0 (k0_off19_inb i t) σ
  let σ := qkAF false xk xa (k0_off18 i t 2#32) ![1, 0, 0] ![1, 0, 0] (k0_off18_inb i t 1) inb_S2x256x1024_S1x256x1024_1_0_0 σ
  let σ := smAF true xv ![1, 0, 0] ![0, 1, 0, 0] ![0, 1, 0, 0] (k0_off20 i t) inb_S2x512x1024_S1x512x1024_1_0_0 inb_S2x2x1x1024_S1x1x1x1024_0_1_0_0 inb_S2x2x144x1024_S1x1x144x1024_0_1_0_0 (k0_off20_inb i t) σ
  σ

/-- A trip of loop 2 leaves what its function says. -/
theorem own_t2 (c : Dev nD) (E : Set ℕ) (i : grid0.Coords) (b2 b3 : Memref sig .tc .vmem S2x256x1024 .bf16) (b4 : Memref sig .tc .vmem S2x8192x256 .bf16) (b5 : Memref sig .tc .vmem S2x16x144x512 .bf16) (b6 : Memref sig .tc .vmem S2x1024x256 .bf16) (g6 : b6.IsWhole) (b7 b8 : Memref sig .tc .vmem S2x512x1024 .f32) (b9 : Memref sig .tc .vmem S2x2x1x1024 .f32) (b10 : Memref sig .tc .vmem S2x2x144x1024 .f32) (xa xb : Vec F S2x256x1024 .bf16)
    (xk : Vec F S2x8192x256 .bf16) (xv : Vec F S2x16x144x512 .bf16) (σ : St F) (t : Fin (k0_t2_loop i).trips) :
    Own c b2 b3 b4 b5 b6 b7 b8 b9 b10 xa xb xk xv σ ⊢ W c E (t2R i b2 b3 b4 b5 b6 g6 b7 b8 b9 b10 t) (fun _ => Own c b2 b3 b4 b5 b6 b7 b8 b9 b10 xa xb xk xv (t2F i xa xb xk xv t σ)) := by
  unfold t2R t2F
  dsimp only
  refine seq (own_qkA01 c E b2 b3 b4 b5 b6 b7 b8 b9 b10 xa xb xk xv _ _ _ _ _ _ _) fun _ => ?_
  refine seq (own_smA0 c E b2 b3 b4 b5 b6 b7 b8 b9 b10 xa xb xk xv _ _ _ _ _ _ _ _ _) fun _ => ?_
  refine seq (own_qkA01 c E b2 b3 b4 b5 b6 b7 b8 b9 b10 xa xb xk xv _ _ _ _ _ _ _) fun _ => ?_
  refine seq (own_smA0 c E b2 b3 b4 b5 b6 b7 b8 b9 b10 xa xb xk xv _ _ _ _ _ _ _ _ _) fun _ => ?_
  refine seq (own_qkA00 c E b2 b3 b4 b5 b6 b7 b8 b9 b10 xa xb xk xv _ _ _ _ _ _ _) fun _ => ?_
  refine seq (own_smA1 c E b2 b3 b4 b5 b6 b7 b8 b9 b10 xa xb xk xv _ _ _ _ _ _ _ _ _) fun _ => ?_
  refine seq (own_qkA00 c E b2 b3 b4 b5 b6 b7 b8 b9 b10 xa xb xk xv _ _ _ _ _ _ _) fun _ => ?_
  refine seq (own_smA1 c E b2 b3 b4 b5 b6 b7 b8 b9 b10 xa xb xk xv _ _ _ _ _ _ _ _ _) fun _ => ?_
  refine seq (own_qkA01 c E b2 b3 b4 b5 b6 b7 b8 b9 b10 xa xb xk xv _ _ _ _ _ _ _) fun _ => ?_
  refine seq (own_smA0 c E b2 b3 b4 b5 b6 b7 b8 b9 b10 xa xb xk xv _ _ _ _ _ _ _ _ _) fun _ => ?_
  refine seq (own_qkA01 c E b2 b3 b4 b5 b6 b7 b8 b9 b10 xa xb xk xv _ _ _ _ _ _ _) fun _ => ?_
  refine seq (own_smA0 c E b2 b3 b4 b5 b6 b7 b8 b9 b10 xa xb xk xv _ _ _ _ _ _ _ _ _) fun _ => ?_
  refine seq (own_qkA00 c E b2 b3 b4 b5 b6 b7 b8 b9 b10 xa xb xk xv _ _ _ _ _ _ _) fun _ => ?_
  refine seq (own_smA1 c E b2 b3 b4 b5 b6 b7 b8 b9 b10 xa xb xk xv _ _ _ _ _ _ _ _ _) fun _ => ?_
  refine seq (own_qkA00 c E b2 b3 b4 b5 b6 b7 b8 b9 b10 xa xb xk xv _ _ _ _ _ _ _) fun _ => ?_
  exact own_smA1 c E b2 b3 b4 b5 b6 b7 b8 b9 b10 xa xb xk xv _ _ _ _ _ _ _ _ _

/-- One trip of loop 3 on states. -/
def t3F (i : grid0.Coords) (xa xb : Vec F S2x256x1024 .bf16) (xk : Vec F S2x8192x256 .bf16) (xv : Vec F S2x16x144x512 .bf16) (t : Fin (k0_t3_loop i).trips) (σ : St F) : St F :=
  let σ := qkAF true xk xb (k0_off39 i t 1#32) ![0, 0, 0] ![0, 0, 0] (k0_off39_inb i t 0) inb_S2x256x1024_S1x256x1024_0_0_0 σ
  let σ := smAF false xv ![0, 0, 0] ![1, 0, 0, 0] ![1, 0, 0, 0] (k0_off40 i t) inb_S2x512x1024_S1x512x1024_0_0_0 inb_S2x2x1x1024_S1x1x1x1024_1_0_0_0 inb_S2x2x144x1024_S1x1x144x1024_1_0_0_0 (k0_off40_inb i t) σ
  let σ := qkAF true xk xb (k0_off41 i t 1#32) ![1, 0, 0] ![1, 0, 0] (k0_off41_inb i t 0) inb_S2x256x1024_S1x256x1024_1_0_0 σ
  let σ := smAF false xv ![1, 0, 0] ![1, 1, 0, 0] ![1, 1, 0, 0] (k0_off42 i t) inb_S2x512x1024_S1x512x1024_1_0_0 inb_S2x2x1x1024_S1x1x1x1024_1_1_0_0 inb_S2x2x144x1024_S1x1x144x1024_1_1_0_0 (k0_off42_inb i t) σ
  let σ := qkAF false xk xb (k0_off39 i t 2#32) ![0, 0, 0] ![0, 0, 0] (k0_off39_inb i t 1) inb_S2x256x1024_S1x256x1024_0_0_0 σ
  let σ := smAF true xv ![0, 0, 0] ![1, 0, 0, 0] ![1, 0, 0, 0] (k0_off43 i t 1#32) inb_S2x512x1024_S1x512x1024_0_0_0 inb_S2x2x1x1024_S1x1x1x1024_1_0_0_0 inb_S2x2x144x1024_S1x1x144x1024_1_0_0_0 (k0_off43_inb i t 0) σ
  let σ := qkAF false xk xb (k0_off41 i t 2#32) ![1, 0, 0] ![1, 0, 0] (k0_off41_inb i t 1) inb_S2x256x1024_S1x256x1024_1_0_0 σ
  let σ := smAF true xv ![1, 0, 0] ![1, 1, 0, 0] ![1, 1, 0, 0] (k0_off44 i t 1#32) inb_S2x512x1024_S1x512x1024_1_0_0 inb_S2x2x1x1024_S1x1x1x1024_1_1_0_0 inb_S2x2x144x1024_S1x1x144x1024_1_1_0_0 (k0_off44_inb i t 0) σ
  let σ := qkAF true xk xb (k0_off45 i t 1#32) ![0, 0, 0] ![0, 0, 0] (k0_off45_inb i t 0) inb_S2x256x1024_S1x256x1024_0_0_0 σ
  let σ := smAF false xv ![0, 0, 0] ![1, 0, 0, 0] ![1, 0, 0, 0] (k0_off43 i t 2#32) inb_S2x512x1024_S1x512x1024_0_0_0 inb_S2x2x1x1024_S1x1x1x1024_1_0_0_0 inb_S2x2x144x1024_S1x1x144x1024_1_0_0_0 (k0_off43_inb i t 1) σ
  let σ := qkAF true xk xb (k0_off46 i t 1#32) ![1, 0, 0] ![1, 0, 0] (k0_off46_inb i t 0) inb_S2x256x1024_S1x256x1024_1_0_0 σ
  let σ := smAF false xv ![1, 0, 0] ![1, 1, 0, 0] ![1, 1, 0, 0] (k0_off44 i t 2#32) inb_S2x512x1024_S1x512x1024_1_0_0 inb_S2x2x1x1024_S1x1x1x1024_1_1_0_0 inb_S2x2x144x1024_S1x1x144x1024_1_1_0_0 (k0_off44_inb i t 1) σ
  let σ := qkAF false xk xb (k0_off45 i t 2#32) ![0, 0, 0] ![0, 0, 0] (k0_off45_inb i t 1) inb_S2x256x1024_S1x256x1024_0_0_0 σ
  let σ := smAF true xv ![0, 0, 0] ![1, 0, 0, 0] ![1, 0, 0, 0] (k0_off47 i t) inb_S2x512x1024_S1x512x1024_0_0_0 inb_S2x2x1x1024_S1x1x1x1024_1_0_0_0 inb_S2x2x144x1024_S1x1x144x1024_1_0_0_0 (k0_off47_inb i t) σ
  let σ := qkAF false xk xb (k0_off46 i t 2#32) ![1, 0, 0] ![1, 0, 0] (k0_off46_inb i t 1) inb_S2x256x1024_S1x256x1024_1_0_0 σ
  let σ := smAF true xv ![1, 0, 0] ![1, 1, 0, 0] ![1, 1, 0, 0] (k0_off48 i t) inb_S2x512x1024_S1x512x1024_1_0_0 inb_S2x2x1x1024_S1x1x1x1024_1_1_0_0 inb_S2x2x144x1024_S1x1x144x1024_1_1_0_0 (k0_off48_inb i t) σ
  σ

/-- A trip of loop 3 leaves what its function says. -/
theorem own_t3 (c : Dev nD) (E : Set ℕ) (i : grid0.Coords) (b2 b3 : Memref sig .tc .vmem S2x256x1024 .bf16) (b4 : Memref sig .tc .vmem S2x8192x256 .bf16) (b5 : Memref sig .tc .vmem S2x16x144x512 .bf16) (b6 : Memref sig .tc .vmem S2x1024x256 .bf16) (g6 : b6.IsWhole) (b7 b8 : Memref sig .tc .vmem S2x512x1024 .f32) (b9 : Memref sig .tc .vmem S2x2x1x1024 .f32) (b10 : Memref sig .tc .vmem S2x2x144x1024 .f32) (xa xb : Vec F S2x256x1024 .bf16)
    (xk : Vec F S2x8192x256 .bf16) (xv : Vec F S2x16x144x512 .bf16) (σ : St F) (t : Fin (k0_t3_loop i).trips) :
    Own c b2 b3 b4 b5 b6 b7 b8 b9 b10 xa xb xk xv σ ⊢ W c E (t3R i b2 b3 b4 b5 b6 g6 b7 b8 b9 b10 t) (fun _ => Own c b2 b3 b4 b5 b6 b7 b8 b9 b10 xa xb xk xv (t3F i xa xb xk xv t σ)) := by
  unfold t3R t3F
  dsimp only
  refine seq (own_qkA11 c E b2 b3 b4 b5 b6 b7 b8 b9 b10 xa xb xk xv _ _ _ _ _ _ _) fun _ => ?_
  refine seq (own_smA0 c E b2 b3 b4 b5 b6 b7 b8 b9 b10 xa xb xk xv _ _ _ _ _ _ _ _ _) fun _ => ?_
  refine seq (own_qkA11 c E b2 b3 b4 b5 b6 b7 b8 b9 b10 xa xb xk xv _ _ _ _ _ _ _) fun _ => ?_
  refine seq (own_smA0 c E b2 b3 b4 b5 b6 b7 b8 b9 b10 xa xb xk xv _ _ _ _ _ _ _ _ _) fun _ => ?_
  refine seq (own_qkA10 c E b2 b3 b4 b5 b6 b7 b8 b9 b10 xa xb xk xv _ _ _ _ _ _ _) fun _ => ?_
  refine seq (own_smA1 c E b2 b3 b4 b5 b6 b7 b8 b9 b10 xa xb xk xv _ _ _ _ _ _ _ _ _) fun _ => ?_
  refine seq (own_qkA10 c E b2 b3 b4 b5 b6 b7 b8 b9 b10 xa xb xk xv _ _ _ _ _ _ _) fun _ => ?_
  refine seq (own_smA1 c E b2 b3 b4 b5 b6 b7 b8 b9 b10 xa xb xk xv _ _ _ _ _ _ _ _ _) fun _ => ?_
  refine seq (own_qkA11 c E b2 b3 b4 b5 b6 b7 b8 b9 b10 xa xb xk xv _ _ _ _ _ _ _) fun _ => ?_
  refine seq (own_smA0 c E b2 b3 b4 b5 b6 b7 b8 b9 b10 xa xb xk xv _ _ _ _ _ _ _ _ _) fun _ => ?_
  refine seq (own_qkA11 c E b2 b3 b4 b5 b6 b7 b8 b9 b10 xa xb xk xv _ _ _ _ _ _ _) fun _ => ?_
  refine seq (own_smA0 c E b2 b3 b4 b5 b6 b7 b8 b9 b10 xa xb xk xv _ _ _ _ _ _ _ _ _) fun _ => ?_
  refine seq (own_qkA10 c E b2 b3 b4 b5 b6 b7 b8 b9 b10 xa xb xk xv _ _ _ _ _ _ _) fun _ => ?_
  refine seq (own_smA1 c E b2 b3 b4 b5 b6 b7 b8 b9 b10 xa xb xk xv _ _ _ _ _ _ _ _ _) fun _ => ?_
  refine seq (own_qkA10 c E b2 b3 b4 b5 b6 b7 b8 b9 b10 xa xb xk xv _ _ _ _ _ _ _) fun _ => ?_
  exact own_smA1 c E b2 b3 b4 b5 b6 b7 b8 b9 b10 xa xb xk xv _ _ _ _ _ _ _ _ _

/-- One trip of loop 4 on states. -/
def t4F (i : grid0.Coords) (xa xb : Vec F S2x256x1024 .bf16) (xk : Vec F S2x8192x256 .bf16) (xv : Vec F S2x16x144x512 .bf16) (t : Fin (k0_t4_loop i).trips) (σ : St F) : St F :=
  let σ := qkAF true xk xb (k0_off49 i t 1#32) ![0, 0, 0] ![0, 0, 0] (k0_off49_inb i t 0) inb_S2x256x1024_S1x256x1024_0_0_0 σ
  let σ := smAF false xv ![0, 0, 0] ![1, 0, 0, 0] ![1, 0, 0, 0] (k0_off50 i t) inb_S2x512x1024_S1x512x1024_0_0_0 inb_S2x2x1x1024_S1x1x1x1024_1_0_0_0 inb_S2x2x144x1024_S1x1x144x1024_1_0_0_0 (k0_off50_inb i t) σ
  let σ := qkAF true xk xb (k0_off51 i t 1#32) ![1, 0, 0] ![1, 0, 0] (k0_off51_inb i t 0) inb_S2x256x1024_S1x256x1024_1_0_0 σ
  let σ := smAF false xv ![1, 0, 0] ![1, 1, 0, 0] ![1, 1, 0, 0] (k0_off52 i t) inb_S2x512x1024_S1x512x1024_1_0_0 inb_S2x2x1x1024_S1x1x1x1024_1_1_0_0 inb_S2x2x144x1024_S1x1x144x1024_1_1_0_0 (k0_off52_inb i t) σ
  let σ := qkAF false xk xb (k0_off49 i t 2#32) ![0, 0, 0] ![0, 0, 0] (k0_off49_inb i t 1) inb_S2x256x1024_S1x256x1024_0_0_0 σ
  let σ := smAF true xv ![0, 0, 0] ![1, 0, 0, 0] ![1, 0, 0, 0] (k0_off53 i t 1#32) inb_S2x512x1024_S1x512x1024_0_0_0 inb_S2x2x1x1024_S1x1x1x1024_1_0_0_0 inb_S2x2x144x1024_S1x1x144x1024_1_0_0_0 (k0_off53_inb i t 0) σ
  let σ := qkAF false xk xb (k0_off51 i t 2#32) ![1, 0, 0] ![1, 0, 0] (k0_off51_inb i t 1) inb_S2x256x1024_S1x256x1024_1_0_0 σ
  let σ := smAF true xv ![1, 0, 0] ![1, 1, 0, 0] ![1, 1, 0, 0] (k0_off54 i t 1#32) inb_S2x512x1024_S1x512x1024_1_0_0 inb_S2x2x1x1024_S1x1x1x1024_1_1_0_0 inb_S2x2x144x1024_S1x1x144x1024_1_1_0_0 (k0_off54_inb i t 0) σ
  let σ := qkAF true xk xb (k0_off55 i t 1#32) ![0, 0, 0] ![0, 0, 0] (k0_off55_inb i t 0) inb_S2x256x1024_S1x256x1024_0_0_0 σ
  let σ := smAF false xv ![0, 0, 0] ![1, 0, 0, 0] ![1, 0, 0, 0] (k0_off53 i t 2#32) inb_S2x512x1024_S1x512x1024_0_0_0 inb_S2x2x1x1024_S1x1x1x1024_1_0_0_0 inb_S2x2x144x1024_S1x1x144x1024_1_0_0_0 (k0_off53_inb i t 1) σ
  let σ := qkAF true xk xb (k0_off56 i t 1#32) ![1, 0, 0] ![1, 0, 0] (k0_off56_inb i t 0) inb_S2x256x1024_S1x256x1024_1_0_0 σ
  let σ := smAF false xv ![1, 0, 0] ![1, 1, 0, 0] ![1, 1, 0, 0] (k0_off54 i t 2#32) inb_S2x512x1024_S1x512x1024_1_0_0 inb_S2x2x1x1024_S1x1x1x1024_1_1_0_0 inb_S2x2x144x1024_S1x1x144x1024_1_1_0_0 (k0_off54_inb i t 1) σ
  let σ := qkAF false xk xb (k0_off55 i t 2#32) ![0, 0, 0] ![0, 0, 0] (k0_off55_inb i t 1) inb_S2x256x1024_S1x256x1024_0_0_0 σ
  let σ := smAF true xv ![0, 0, 0] ![1, 0, 0, 0] ![1, 0, 0, 0] (k0_off57 i t) inb_S2x512x1024_S1x512x1024_0_0_0 inb_S2x2x1x1024_S1x1x1x1024_1_0_0_0 inb_S2x2x144x1024_S1x1x144x1024_1_0_0_0 (k0_off57_inb i t) σ
  let σ := qkAF false xk xb (k0_off56 i t 2#32) ![1, 0, 0] ![1, 0, 0] (k0_off56_inb i t 1) inb_S2x256x1024_S1x256x1024_1_0_0 σ
  let σ := smAF true xv ![1, 0, 0] ![1, 1, 0, 0] ![1, 1, 0, 0] (k0_off58 i t) inb_S2x512x1024_S1x512x1024_1_0_0 inb_S2x2x1x1024_S1x1x1x1024_1_1_0_0 inb_S2x2x144x1024_S1x1x144x1024_1_1_0_0 (k0_off58_inb i t) σ
  σ

/-- A trip of loop 4 leaves what its function says. -/
theorem own_t4 (c : Dev nD) (E : Set ℕ) (i : grid0.Coords) (b2 b3 : Memref sig .tc .vmem S2x256x1024 .bf16) (b4 : Memref sig .tc .vmem S2x8192x256 .bf16) (b5 : Memref sig .tc .vmem S2x16x144x512 .bf16) (b6 : Memref sig .tc .vmem S2x1024x256 .bf16) (g6 : b6.IsWhole) (b7 b8 : Memref sig .tc .vmem S2x512x1024 .f32) (b9 : Memref sig .tc .vmem S2x2x1x1024 .f32) (b10 : Memref sig .tc .vmem S2x2x144x1024 .f32) (xa xb : Vec F S2x256x1024 .bf16)
    (xk : Vec F S2x8192x256 .bf16) (xv : Vec F S2x16x144x512 .bf16) (σ : St F) (t : Fin (k0_t4_loop i).trips) :
    Own c b2 b3 b4 b5 b6 b7 b8 b9 b10 xa xb xk xv σ ⊢ W c E (t4R i b2 b3 b4 b5 b6 g6 b7 b8 b9 b10 t) (fun _ => Own c b2 b3 b4 b5 b6 b7 b8 b9 b10 xa xb xk xv (t4F i xa xb xk xv t σ)) := by
  unfold t4R t4F
  dsimp only
  refine seq (own_qkA11 c E b2 b3 b4 b5 b6 b7 b8 b9 b10 xa xb xk xv _ _ _ _ _ _ _) fun _ => ?_
  refine seq (own_smA0 c E b2 b3 b4 b5 b6 b7 b8 b9 b10 xa xb xk xv _ _ _ _ _ _ _ _ _) fun _ => ?_
  refine seq (own_qkA11 c E b2 b3 b4 b5 b6 b7 b8 b9 b10 xa xb xk xv _ _ _ _ _ _ _) fun _ => ?_
  refine seq (own_smA0 c E b2 b3 b4 b5 b6 b7 b8 b9 b10 xa xb xk xv _ _ _ _ _ _ _ _ _) fun _ => ?_
  refine seq (own_qkA10 c E b2 b3 b4 b5 b6 b7 b8 b9 b10 xa xb xk xv _ _ _ _ _ _ _) fun _ => ?_
  refine seq (own_smA1 c E b2 b3 b4 b5 b6 b7 b8 b9 b10 xa xb xk xv _ _ _ _ _ _ _ _ _) fun _ => ?_
  refine seq (own_qkA10 c E b2 b3 b4 b5 b6 b7 b8 b9 b10 xa xb xk xv _ _ _ _ _ _ _) fun _ => ?_
  refine seq (own_smA1 c E b2 b3 b4 b5 b6 b7 b8 b9 b10 xa xb xk xv _ _ _ _ _ _ _ _ _) fun _ => ?_
  refine seq (own_qkA11 c E b2 b3 b4 b5 b6 b7 b8 b9 b10 xa xb xk xv _ _ _ _ _ _ _) fun _ => ?_
  refine seq (own_smA0 c E b2 b3 b4 b5 b6 b7 b8 b9 b10 xa xb xk xv _ _ _ _ _ _ _ _ _) fun _ => ?_
  refine seq (own_qkA11 c E b2 b3 b4 b5 b6 b7 b8 b9 b10 xa xb xk xv _ _ _ _ _ _ _) fun _ => ?_
  refine seq (own_smA0 c E b2 b3 b4 b5 b6 b7 b8 b9 b10 xa xb xk xv _ _ _ _ _ _ _ _ _) fun _ => ?_
  refine seq (own_qkA10 c E b2 b3 b4 b5 b6 b7 b8 b9 b10 xa xb xk xv _ _ _ _ _ _ _) fun _ => ?_
  refine seq (own_smA1 c E b2 b3 b4 b5 b6 b7 b8 b9 b10 xa xb xk xv _ _ _ _ _ _ _ _ _) fun _ => ?_
  refine seq (own_qkA10 c E b2 b3 b4 b5 b6 b7 b8 b9 b10 xa xb xk xv _ _ _ _ _ _ _) fun _ => ?_
  exact own_smA1 c E b2 b3 b4 b5 b6 b7 b8 b9 b10 xa xb xk xv _ _ _ _ _ _ _ _ _

/-- The taken branch of condition 1 on states. -/
def if1F (i : grid0.Coords) (xa xb : Vec F S2x256x1024 .bf16) (xk : Vec F S2x8192x256 .bf16) (xv : Vec F S2x16x144x512 .bf16) (k0_h1 : k0_cond1 i = 1#1) (σ : St F) : St F :=
  let σ := qkAF true xk xa (k0_off21 i 1#32) ![0, 0, 0] ![0, 0, 0] (k0_off21_inb i k0_h1 0) inb_S2x256x1024_S1x256x1024_0_0_0 σ
  let σ := smAF false xv ![0, 0, 0] ![0, 0, 0, 0] ![0, 0, 0, 0] (k0_off22 i) inb_S2x512x1024_S1x512x1024_0_0_0 inb_S2x2x1x1024_S1x1x1x1024_0_0_0_0 inb_S2x2x144x1024_S1x1x144x1024_0_0_0_0 (k0_off22_inb i k0_h1) σ
  let σ := qkAF true xk xa (k0_off23 i 1#32) ![1, 0, 0] ![1, 0, 0] (k0_off23_inb i k0_h1 0) inb_S2x256x1024_S1x256x1024_1_0_0 σ
  let σ := smAF false xv ![1, 0, 0] ![0, 1, 0, 0] ![0, 1, 0, 0] (k0_off24 i) inb_S2x512x1024_S1x512x1024_1_0_0 inb_S2x2x1x1024_S1x1x1x1024_0_1_0_0 inb_S2x2x144x1024_S1x1x144x1024_0_1_0_0 (k0_off24_inb i k0_h1) σ
  let σ := qkAF false xk xa (k0_off21 i 2#32) ![0, 0, 0] ![0, 0, 0] (k0_off21_inb i k0_h1 1) inb_S2x256x1024_S1x256x1024_0_0_0 σ
  let σ := smAF true xv ![0, 0, 0] ![0, 0, 0, 0] ![0, 0, 0, 0] (k0_off25 i) inb_S2x512x1024_S1x512x1024_0_0_0 inb_S2x2x1x1024_S1x1x1x1024_0_0_0_0 inb_S2x2x144x1024_S1x1x144x1024_0_0_0_0 (k0_off25_inb i k0_h1) σ
  let σ := qkAF false xk xa (k0_off23 i 2#32) ![1, 0, 0] ![1, 0, 0] (k0_off23_inb i k0_h1 1) inb_S2x256x1024_S1x256x1024_1_0_0 σ
  let σ := smAF true xv ![1, 0, 0] ![0, 1, 0, 0] ![0, 1, 0, 0] (k0_off26 i) inb_S2x512x1024_S1x512x1024_1_0_0 inb_S2x2x1x1024_S1x1x1x1024_0_1_0_0 inb_S2x2x144x1024_S1x1x144x1024_0_1_0_0 (k0_off26_inb i k0_h1) σ
  let σ := qkLF true xk xa (k0_off27 i) ![0, 0, 512] ![0, 0, 512] (k0_off27_inb i k0_h1) inb_S2x256x1024_S1x256x512_0_0_512 σ
  let σ := smHF k0_pay149 false xv ![0, 0, 0] ![0, 0, 0, 0] ![0, 0, 0, 0] (k0_off28 i) inb_S2x512x1024_S1x512x512_0_0_0 inb_S2x2x1x1024_S1x1x1x512_0_0_0_0 inb_S2x2x144x1024_S1x1x144x512_0_0_0_0 (k0_off28_inb i k0_h1) σ
  let σ := smHF k0_pay154 false xv ![0, 0, 512] ![0, 0, 0, 512] ![0, 0, 0, 512] (k0_off28 i) inb_S2x512x1024_S1x512x512_0_0_512 inb_S2x2x1x1024_S1x1x1x512_0_0_0_512 inb_S2x2x144x1024_S1x1x144x512_0_0_0_512 (k0_off28_inb i k0_h1) σ
  let σ := qkLF true xk xa (k0_off29 i) ![1, 0, 512] ![1, 0, 512] (k0_off29_inb i k0_h1) inb_S2x256x1024_S1x256x512_1_0_512 σ
  let σ := smHF k0_pay149 false xv ![1, 0, 0] ![0, 1, 0, 0] ![0, 1, 0, 0] (k0_off30 i) inb_S2x512x1024_S1x512x512_1_0_0 inb_S2x2x1x1024_S1x1x1x512_0_1_0_0 inb_S2x2x144x1024_S1x1x144x512_0_1_0_0 (k0_off30_inb i k0_h1) σ
  let σ := smHF k0_pay154 false xv ![1, 0, 512] ![0, 1, 0, 512] ![0, 1, 0, 512] (k0_off30 i) inb_S2x512x1024_S1x512x512_1_0_512 inb_S2x2x1x1024_S1x1x1x512_0_1_0_512 inb_S2x2x144x1024_S1x1x144x512_0_1_0_512 (k0_off30_inb i k0_h1) σ
  let σ := smHF k0_pay149 true xv ![0, 0, 512] ![0, 0, 0, 512] ![0, 0, 0, 512] (k0_off31 i) inb_S2x512x1024_S1x512x512_0_0_512 inb_S2x2x1x1024_S1x1x1x512_0_0_0_512 inb_S2x2x144x1024_S1x1x144x512_0_0_0_512 (k0_off31_inb i k0_h1) σ
  let σ := smHF k0_pay149 true xv ![1, 0, 512] ![0, 1, 0, 512] ![0, 1, 0, 512] (k0_off32 i) inb_S2x512x1024_S1x512x512_1_0_512 inb_S2x2x1x1024_S1x1x1x512_0_1_0_512 inb_S2x2x144x1024_S1x1x144x512_0_1_0_512 (k0_off32_inb i k0_h1) σ
  let σ := outUF ![0, 0, 0, 0] ![0, 0, 0] inb_S2x2x144x1024_S1x1x144x1024_0_0_0_0 σ
  let σ := outUF ![0, 1, 0, 0] ![0, 0, 128] inb_S2x2x144x1024_S1x1x144x1024_0_1_0_0 σ
  let σ := qkAF false xk xb ![0, 0, 0] ![0, 0, 0] ![0, 0, 0] inb_S2x8192x256_S1x512x256_0_0_0 inb_S2x256x1024_S1x256x1024_0_0_0 σ
  let σ := qkAF false xk xb ![1, 0, 0] ![1, 0, 0] ![1, 0, 0] inb_S2x8192x256_S1x512x256_1_0_0 inb_S2x256x1024_S1x256x1024_1_0_0 σ
  σ

/-- The taken branch of condition 1 leaves what its function says. -/
theorem own_if1 (c : Dev nD) (E : Set ℕ) (i : grid0.Coords) (b2 b3 : Memref sig .tc .vmem S2x256x1024 .bf16) (b4 : Memref sig .tc .vmem S2x8192x256 .bf16) (b5 : Memref sig .tc .vmem S2x16x144x512 .bf16) (b6 : Memref sig .tc .vmem S2x1024x256 .bf16) (g6 : b6.IsWhole) (b7 b8 : Memref sig .tc .vmem S2x512x1024 .f32) (b9 : Memref sig .tc .vmem S2x2x1x1024 .f32) (b10 : Memref sig .tc .vmem S2x2x144x1024 .f32) (xa xb : Vec F S2x256x1024 .bf16)
    (xk : Vec F S2x8192x256 .bf16) (xv : Vec F S2x16x144x512 .bf16) (σ : St F) (k0_h1 : k0_cond1 i = 1#1) :
    Own c b2 b3 b4 b5 b6 b7 b8 b9 b10 xa xb xk xv σ ⊢ W c E (if1R i b2 b3 b4 b5 b6 g6 b7 b8 b9 b10 k0_h1) (fun _ => Own c b2 b3 b4 b5 b6 b7 b8 b9 b10 xa xb xk xv (if1F i xa xb xk xv k0_h1 σ)) := by
  unfold if1R if1F
  dsimp only
  refine seq (own_qkA01 c E b2 b3 b4 b5 b6 b7 b8 b9 b10 xa xb xk xv _ _ _ _ _ _ _) fun _ => ?_
  refine seq (own_smA0 c E b2 b3 b4 b5 b6 b7 b8 b9 b10 xa xb xk xv _ _ _ _ _ _ _ _ _) fun _ => ?_
  refine seq (own_qkA01 c E b2 b3 b4 b5 b6 b7 b8 b9 b10 xa xb xk xv _ _ _ _ _ _ _) fun _ => ?_
  refine seq (own_smA0 c E b2 b3 b4 b5 b6 b7 b8 b9 b10 xa xb xk xv _ _ _ _ _ _ _ _ _) fun _ => ?_
  refine seq (own_qkA00 c E b2 b3 b4 b5 b6 b7 b8 b9 b10 xa xb xk xv _ _ _ _ _ _ _) fun _ => ?_
  refine seq (own_smA1 c E b2 b3 b4 b5 b6 b7 b8 b9 b10 xa xb xk xv _ _ _ _ _ _ _ _ _) fun _ => ?_
  refine seq (own_qkA00 c E b2 b3 b4 b5 b6 b7 b8 b9 b10 xa xb xk xv _ _ _ _ _ _ _) fun _ => ?_
  refine seq (own_smA1 c E b2 b3 b4 b5 b6 b7 b8 b9 b10 xa xb xk xv _ _ _ _ _ _ _ _ _) fun _ => ?_
  refine seq (own_qkL01 c E b2 b3 b4 b5 b6 b7 b8 b9 b10 xa xb xk xv _ _ _ _ _ _ _) fun _ => ?_
  refine seq (own_smH0 c E b2 b3 b4 b5 b6 b7 b8 b9 b10 xa xb xk xv _ _ _ _ _ _ _ _ _ _) fun _ => ?_
  refine seq (own_smH0 c E b2 b3 b4 b5 b6 b7 b8 b9 b10 xa xb xk xv _ _ _ _ _ _ _ _ _ _) fun _ => ?_
  refine seq (own_qkL01 c E b2 b3 b4 b5 b6 b7 b8 b9 b10 xa xb xk xv _ _ _ _ _ _ _) fun _ => ?_
  refine seq (own_smH0 c E b2 b3 b4 b5 b6 b7 b8 b9 b10 xa xb xk xv _ _ _ _ _ _ _ _ _ _) fun _ => ?_
  refine seq (own_smH0 c E b2 b3 b4 b5 b6 b7 b8 b9 b10 xa xb xk xv _ _ _ _ _ _ _ _ _ _) fun _ => ?_
  refine seq (own_smH1 c E b2 b3 b4 b5 b6 b7 b8 b9 b10 xa xb xk xv _ _ _ _ _ _ _ _ _ _) fun _ => ?_
  refine seq (own_smH1 c E b2 b3 b4 b5 b6 b7 b8 b9 b10 xa xb xk xv _ _ _ _ _ _ _ _ _ _) fun _ => ?_
  refine seq (own_outU c E b2 b3 b4 b5 b6 g6 b7 b8 b9 b10 xa xb xk xv _ _ _ _ _ _) fun _ => ?_
  refine seq (own_outU c E b2 b3 b4 b5 b6 g6 b7 b8 b9 b10 xa xb xk xv _ _ _ _ _ _) fun _ => ?_
  refine seq (own_qkA10 c E b2 b3 b4 b5 b6 b7 b8 b9 b10 xa xb xk xv _ _ _ _ _ _ _) fun _ => ?_
  exact own_qkA10 c E b2 b3 b4 b5 b6 b7 b8 b9 b10 xa xb xk xv _ _ _ _ _ _ _

/-- The taken branch of condition 2 on states. -/
def if2F (i : grid0.Coords) (xa xb : Vec F S2x256x1024 .bf16) (xk : Vec F S2x8192x256 .bf16) (xv : Vec F S2x16x144x512 .bf16) (k0_h2 : k0_cond2 i = 1#1) (σ : St F) : St F :=
  let σ := qkLF true xk xa (k0_off33 i) ![0, 0, 512] ![0, 0, 512] (k0_off33_inb i k0_h2) inb_S2x256x1024_S1x256x512_0_0_512 σ
  let σ := smHF k0_pay149 false xv ![0, 0, 0] ![0, 0, 0, 0] ![0, 0, 0, 0] (k0_off34 i) inb_S2x512x1024_S1x512x512_0_0_0 inb_S2x2x1x1024_S1x1x1x512_0_0_0_0 inb_S2x2x144x1024_S1x1x144x512_0_0_0_0 (k0_off34_inb i k0_h2) σ
  let σ := smHF k0_pay154 false xv ![0, 0, 512] ![0, 0, 0, 512] ![0, 0, 0, 512] (k0_off34 i) inb_S2x512x1024_S1x512x512_0_0_512 inb_S2x2x1x1024_S1x1x1x512_0_0_0_512 inb_S2x2x144x1024_S1x1x144x512_0_0_0_512 (k0_off34_inb i k0_h2) σ
  let σ := qkLF true xk xa (k0_off35 i) ![1, 0, 512] ![1, 0, 512] (k0_off35_inb i k0_h2) inb_S2x256x1024_S1x256x512_1_0_512 σ
  let σ := smHF k0_pay149 false xv ![1, 0, 0] ![0, 1, 0, 0] ![0, 1, 0, 0] (k0_off36 i) inb_S2x512x1024_S1x512x512_1_0_0 inb_S2x2x1x1024_S1x1x1x512_0_1_0_0 inb_S2x2x144x1024_S1x1x144x512_0_1_0_0 (k0_off36_inb i k0_h2) σ
  let σ := smHF k0_pay154 false xv ![1, 0, 512] ![0, 1, 0, 512] ![0, 1, 0, 512] (k0_off36 i) inb_S2x512x1024_S1x512x512_1_0_512 inb_S2x2x1x1024_S1x1x1x512_0_1_0_512 inb_S2x2x144x1024_S1x1x144x512_0_1_0_512 (k0_off36_inb i k0_h2) σ
  let σ := smHF k0_pay149 true xv ![0, 0, 512] ![0, 0, 0, 512] ![0, 0, 0, 512] (k0_off37 i) inb_S2x512x1024_S1x512x512_0_0_512 inb_S2x2x1x1024_S1x1x1x512_0_0_0_512 inb_S2x2x144x1024_S1x1x144x512_0_0_0_512 (k0_off37_inb i k0_h2) σ
  let σ := smHF k0_pay149 true xv ![1, 0, 512] ![0, 1, 0, 512] ![0, 1, 0, 512] (k0_off38 i) inb_S2x512x1024_S1x512x512_1_0_512 inb_S2x2x1x1024_S1x1x1x512_0_1_0_512 inb_S2x2x144x1024_S1x1x144x512_0_1_0_512 (k0_off38_inb i k0_h2) σ
  let σ := outUF ![0, 0, 0, 0] ![0, 0, 0] inb_S2x2x144x1024_S1x1x144x1024_0_0_0_0 σ
  let σ := outUF ![0, 1, 0, 0] ![0, 0, 128] inb_S2x2x144x1024_S1x1x144x1024_0_1_0_0 σ
  let σ := qkAF false xk xb ![0, 0, 0] ![0, 0, 0] ![0, 0, 0] inb_S2x8192x256_S1x512x256_0_0_0 inb_S2x256x1024_S1x256x1024_0_0_0 σ
  let σ := qkAF false xk xb ![1, 0, 0] ![1, 0, 0] ![1, 0, 0] inb_S2x8192x256_S1x512x256_1_0_0 inb_S2x256x1024_S1x256x1024_1_0_0 σ
  σ

/-- The taken branch of condition 2 leaves what its function says. -/
theorem own_if2 (c : Dev nD) (E : Set ℕ) (i : grid0.Coords) (b2 b3 : Memref sig .tc .vmem S2x256x1024 .bf16) (b4 : Memref sig .tc .vmem S2x8192x256 .bf16) (b5 : Memref sig .tc .vmem S2x16x144x512 .bf16) (b6 : Memref sig .tc .vmem S2x1024x256 .bf16) (g6 : b6.IsWhole) (b7 b8 : Memref sig .tc .vmem S2x512x1024 .f32) (b9 : Memref sig .tc .vmem S2x2x1x1024 .f32) (b10 : Memref sig .tc .vmem S2x2x144x1024 .f32) (xa xb : Vec F S2x256x1024 .bf16)
    (xk : Vec F S2x8192x256 .bf16) (xv : Vec F S2x16x144x512 .bf16) (σ : St F) (k0_h2 : k0_cond2 i = 1#1) :
    Own c b2 b3 b4 b5 b6 b7 b8 b9 b10 xa xb xk xv σ ⊢ W c E (if2R i b2 b3 b4 b5 b6 g6 b7 b8 b9 b10 k0_h2) (fun _ => Own c b2 b3 b4 b5 b6 b7 b8 b9 b10 xa xb xk xv (if2F i xa xb xk xv k0_h2 σ)) := by
  unfold if2R if2F
  dsimp only
  refine seq (own_qkL01 c E b2 b3 b4 b5 b6 b7 b8 b9 b10 xa xb xk xv _ _ _ _ _ _ _) fun _ => ?_
  refine seq (own_smH0 c E b2 b3 b4 b5 b6 b7 b8 b9 b10 xa xb xk xv _ _ _ _ _ _ _ _ _ _) fun _ => ?_
  refine seq (own_smH0 c E b2 b3 b4 b5 b6 b7 b8 b9 b10 xa xb xk xv _ _ _ _ _ _ _ _ _ _) fun _ => ?_
  refine seq (own_qkL01 c E b2 b3 b4 b5 b6 b7 b8 b9 b10 xa xb xk xv _ _ _ _ _ _ _) fun _ => ?_
  refine seq (own_smH0 c E b2 b3 b4 b5 b6 b7 b8 b9 b10 xa xb xk xv _ _ _ _ _ _ _ _ _ _) fun _ => ?_
  refine seq (own_smH0 c E b2 b3 b4 b5 b6 b7 b8 b9 b10 xa xb xk xv _ _ _ _ _ _ _ _ _ _) fun _ => ?_
  refine seq (own_smH1 c E b2 b3 b4 b5 b6 b7 b8 b9 b10 xa xb xk xv _ _ _ _ _ _ _ _ _ _) fun _ => ?_
  refine seq (own_smH1 c E b2 b3 b4 b5 b6 b7 b8 b9 b10 xa xb xk xv _ _ _ _ _ _ _ _ _ _) fun _ => ?_
  refine seq (own_outU c E b2 b3 b4 b5 b6 g6 b7 b8 b9 b10 xa xb xk xv _ _ _ _ _ _) fun _ => ?_
  refine seq (own_outU c E b2 b3 b4 b5 b6 g6 b7 b8 b9 b10 xa xb xk xv _ _ _ _ _ _) fun _ => ?_
  refine seq (own_qkA10 c E b2 b3 b4 b5 b6 b7 b8 b9 b10 xa xb xk xv _ _ _ _ _ _ _) fun _ => ?_
  exact own_qkA10 c E b2 b3 b4 b5 b6 b7 b8 b9 b10 xa xb xk xv _ _ _ _ _ _ _

/-- The taken branch of condition 3 on states. -/
def if3F (i : grid0.Coords) (xa xb : Vec F S2x256x1024 .bf16) (xk : Vec F S2x8192x256 .bf16) (xv : Vec F S2x16x144x512 .bf16) (k0_h3 : k0_cond3 i = 1#1) (σ : St F) : St F :=
  let σ := qkAF true xk xb (k0_off59 i 1#32) ![0, 0, 0] ![0, 0, 0] (k0_off59_inb i k0_h3 0) inb_S2x256x1024_S1x256x1024_0_0_0 σ
  let σ := smAF false xv ![0, 0, 0] ![1, 0, 0, 0] ![1, 0, 0, 0] (k0_off60 i) inb_S2x512x1024_S1x512x1024_0_0_0 inb_S2x2x1x1024_S1x1x1x1024_1_0_0_0 inb_S2x2x144x1024_S1x1x144x1024_1_0_0_0 (k0_off60_inb i k0_h3) σ
  let σ := qkAF true xk xb (k0_off61 i 1#32) ![1, 0, 0] ![1, 0, 0] (k0_off61_inb i k0_h3 0) inb_S2x256x1024_S1x256x1024_1_0_0 σ
  let σ := smAF false xv ![1, 0, 0] ![1, 1, 0, 0] ![1, 1, 0, 0] (k0_off62 i) inb_S2x512x1024_S1x512x1024_1_0_0 inb_S2x2x1x1024_S1x1x1x1024_1_1_0_0 inb_S2x2x144x1024_S1x1x144x1024_1_1_0_0 (k0_off62_inb i k0_h3) σ
  let σ := qkAF false xk xb (k0_off59 i 2#32) ![0, 0, 0] ![0, 0, 0] (k0_off59_inb i k0_h3 1) inb_S2x256x1024_S1x256x1024_0_0_0 σ
  let σ := smAF true xv ![0, 0, 0] ![1, 0, 0, 0] ![1, 0, 0, 0] (k0_off63 i) inb_S2x512x1024_S1x512x1024_0_0_0 inb_S2x2x1x1024_S1x1x1x1024_1_0_0_0 inb_S2x2x144x1024_S1x1x144x1024_1_0_0_0 (k0_off63_inb i k0_h3) σ
  let σ := qkAF false xk xb (k0_off61 i 2#32) ![1, 0, 0] ![1, 0, 0] (k0_off61_inb i k0_h3 1) inb_S2x256x1024_S1x256x1024_1_0_0 σ
  let σ := smAF true xv ![1, 0, 0] ![1, 1, 0, 0] ![1, 1, 0, 0] (k0_off64 i) inb_S2x512x1024_S1x512x1024_1_0_0 inb_S2x2x1x1024_S1x1x1x1024_1_1_0_0 inb_S2x2x144x1024_S1x1x144x1024_1_1_0_0 (k0_off64_inb i k0_h3) σ
  let σ := qkLF true xk xb (k0_off65 i) ![0, 0, 512] ![0, 0, 512] (k0_off65_inb i k0_h3) inb_S2x256x1024_S1x256x512_0_0_512 σ
  let σ := smHF k0_pay149 false xv ![0, 0, 0] ![1, 0, 0, 0] ![1, 0, 0, 0] (k0_off66 i) inb_S2x512x1024_S1x512x512_0_0_0 inb_S2x2x1x1024_S1x1x1x512_1_0_0_0 inb_S2x2x144x1024_S1x1x144x512_1_0_0_0 (k0_off66_inb i k0_h3) σ
  let σ := smHF k0_pay154 false xv ![0, 0, 512] ![1, 0, 0, 512] ![1, 0, 0, 512] (k0_off66 i) inb_S2x512x1024_S1x512x512_0_0_512 inb_S2x2x1x1024_S1x1x1x512_1_0_0_512 inb_S2x2x144x1024_S1x1x144x512_1_0_0_512 (k0_off66_inb i k0_h3) σ
  let σ := qkLF true xk xb (k0_off67 i) ![1, 0, 512] ![1, 0, 512] (k0_off67_inb i k0_h3) inb_S2x256x1024_S1x256x512_1_0_512 σ
  let σ := smHF k0_pay149 false xv ![1, 0, 0] ![1, 1, 0, 0] ![1, 1, 0, 0] (k0_off68 i) inb_S2x512x1024_S1x512x512_1_0_0 inb_S2x2x1x1024_S1x1x1x512_1_1_0_0 inb_S2x2x144x1024_S1x1x144x512_1_1_0_0 (k0_off68_inb i k0_h3) σ
  let σ := smHF k0_pay154 false xv ![1, 0, 512] ![1, 1, 0, 512] ![1, 1, 0, 512] (k0_off68 i) inb_S2x512x1024_S1x512x512_1_0_512 inb_S2x2x1x1024_S1x1x1x512_1_1_0_512 inb_S2x2x144x1024_S1x1x144x512_1_1_0_512 (k0_off68_inb i k0_h3) σ
  let σ := smHF k0_pay149 true xv ![0, 0, 512] ![1, 0, 0, 512] ![1, 0, 0, 512] (k0_off69 i) inb_S2x512x1024_S1x512x512_0_0_512 inb_S2x2x1x1024_S1x1x1x512_1_0_0_512 inb_S2x2x144x1024_S1x1x144x512_1_0_0_512 (k0_off69_inb i k0_h3) σ
  let σ := smHF k0_pay149 true xv ![1, 0, 512] ![1, 1, 0, 512] ![1, 1, 0, 512] (k0_off70 i) inb_S2x512x1024_S1x512x512_1_0_512 inb_S2x2x1x1024_S1x1x1x512_1_1_0_512 inb_S2x2x144x1024_S1x1x144x512_1_1_0_512 (k0_off70_inb i k0_h3) σ
  let σ := outUF ![1, 0, 0, 0] ![1, 0, 0] inb_S2x2x144x1024_S1x1x144x1024_1_0_0_0 σ
  let σ := outUF ![1, 1, 0, 0] ![1, 0, 128] inb_S2x2x144x1024_S1x1x144x1024_1_1_0_0 σ
  σ

/-- The taken branch of condition 3 leaves what its function says. -/
theorem own_if3 (c : Dev nD) (E : Set ℕ) (i : grid0.Coords) (b2 b3 : Memref sig .tc .vmem S2x256x1024 .bf16) (b4 : Memref sig .tc .vmem S2x8192x256 .bf16) (b5 : Memref sig .tc .vmem S2x16x144x512 .bf16) (b6 : Memref sig .tc .vmem S2x1024x256 .bf16) (g6 : b6.IsWhole) (b7 b8 : Memref sig .tc .vmem S2x512x1024 .f32) (b9 : Memref sig .tc .vmem S2x2x1x1024 .f32) (b10 : Memref sig .tc .vmem S2x2x144x1024 .f32) (xa xb : Vec F S2x256x1024 .bf16)
    (xk : Vec F S2x8192x256 .bf16) (xv : Vec F S2x16x144x512 .bf16) (σ : St F) (k0_h3 : k0_cond3 i = 1#1) :
    Own c b2 b3 b4 b5 b6 b7 b8 b9 b10 xa xb xk xv σ ⊢ W c E (if3R i b2 b3 b4 b5 b6 g6 b7 b8 b9 b10 k0_h3) (fun _ => Own c b2 b3 b4 b5 b6 b7 b8 b9 b10 xa xb xk xv (if3F i xa xb xk xv k0_h3 σ)) := by
  unfold if3R if3F
  dsimp only
  refine seq (own_qkA11 c E b2 b3 b4 b5 b6 b7 b8 b9 b10 xa xb xk xv _ _ _ _ _ _ _) fun _ => ?_
  refine seq (own_smA0 c E b2 b3 b4 b5 b6 b7 b8 b9 b10 xa xb xk xv _ _ _ _ _ _ _ _ _) fun _ => ?_
  refine seq (own_qkA11 c E b2 b3 b4 b5 b6 b7 b8 b9 b10 xa xb xk xv _ _ _ _ _ _ _) fun _ => ?_
  refine seq (own_smA0 c E b2 b3 b4 b5 b6 b7 b8 b9 b10 xa xb xk xv _ _ _ _ _ _ _ _ _) fun _ => ?_
  refine seq (own_qkA10 c E b2 b3 b4 b5 b6 b7 b8 b9 b10 xa xb xk xv _ _ _ _ _ _ _) fun _ => ?_
  refine seq (own_smA1 c E b2 b3 b4 b5 b6 b7 b8 b9 b10 xa xb xk xv _ _ _ _ _ _ _ _ _) fun _ => ?_
  refine seq (own_qkA10 c E b2 b3 b4 b5 b6 b7 b8 b9 b10 xa xb xk xv _ _ _ _ _ _ _) fun _ => ?_
  refine seq (own_smA1 c E b2 b3 b4 b5 b6 b7 b8 b9 b10 xa xb xk xv _ _ _ _ _ _ _ _ _) fun _ => ?_
  refine seq (own_qkL11 c E b2 b3 b4 b5 b6 b7 b8 b9 b10 xa xb xk xv _ _ _ _ _ _ _) fun _ => ?_
  refine seq (own_smH0 c E b2 b3 b4 b5 b6 b7 b8 b9 b10 xa xb xk xv _ _ _ _ _ _ _ _ _ _) fun _ => ?_
  refine seq (own_smH0 c E b2 b3 b4 b5 b6 b7 b8 b9 b10 xa xb xk xv _ _ _ _ _ _ _ _ _ _) fun _ => ?_
  refine seq (own_qkL11 c E b2 b3 b4 b5 b6 b7 b8 b9 b10 xa xb xk xv _ _ _ _ _ _ _) fun _ => ?_
  refine seq (own_smH0 c E b2 b3 b4 b5 b6 b7 b8 b9 b10 xa xb xk xv _ _ _ _ _ _ _ _ _ _) fun _ => ?_
  refine seq (own_smH0 c E b2 b3 b4 b5 b6 b7 b8 b9 b10 xa xb xk xv _ _ _ _ _ _ _ _ _ _) fun _ => ?_
  refine seq (own_smH1 c E b2 b3 b4 b5 b6 b7 b8 b9 b10 xa xb xk xv _ _ _ _ _ _ _ _ _ _) fun _ => ?_
  refine seq (own_smH1 c E b2 b3 b4 b5 b6 b7 b8 b9 b10 xa xb xk xv _ _ _ _ _ _ _ _ _ _) fun _ => ?_
  refine seq (own_outU c E b2 b3 b4 b5 b6 g6 b7 b8 b9 b10 xa xb xk xv _ _ _ _ _ _) fun _ => ?_
  exact own_outU c E b2 b3 b4 b5 b6 g6 b7 b8 b9 b10 xa xb xk xv _ _ _ _ _ _

/-- The taken branch of condition 4 on states. -/
def if4F (i : grid0.Coords) (xa xb : Vec F S2x256x1024 .bf16) (xk : Vec F S2x8192x256 .bf16) (xv : Vec F S2x16x144x512 .bf16) (k0_h4 : k0_cond4 i = 1#1) (σ : St F) : St F :=
  let σ := qkLF true xk xb (k0_off71 i) ![0, 0, 512] ![0, 0, 512] (k0_off71_inb i k0_h4) inb_S2x256x1024_S1x256x512_0_0_512 σ
  let σ := smHF k0_pay149 false xv ![0, 0, 0] ![1, 0, 0, 0] ![1, 0, 0, 0] (k0_off72 i) inb_S2x512x1024_S1x512x512_0_0_0 inb_S2x2x1x1024_S1x1x1x512_1_0_0_0 inb_S2x2x144x1024_S1x1x144x512_1_0_0_0 (k0_off72_inb i k0_h4) σ
  let σ := smHF k0_pay154 false xv ![0, 0, 512] ![1, 0, 0, 512] ![1, 0, 0, 512] (k0_off72 i) inb_S2x512x1024_S1x512x512_0_0_512 inb_S2x2x1x1024_S1x1x1x512_1_0_0_512 inb_S2x2x144x1024_S1x1x144x512_1_0_0_512 (k0_off72_inb i k0_h4) σ
  let σ := qkLF true xk xb (k0_off73 i) ![1, 0, 512] ![1, 0, 512] (k0_off73_inb i k0_h4) inb_S2x256x1024_S1x256x512_1_0_512 σ
  let σ := smHF k0_pay149 false xv ![1, 0, 0] ![1, 1, 0, 0] ![1, 1, 0, 0] (k0_off74 i) inb_S2x512x1024_S1x512x512_1_0_0 inb_S2x2x1x1024_S1x1x1x512_1_1_0_0 inb_S2x2x144x1024_S1x1x144x512_1_1_0_0 (k0_off74_inb i k0_h4) σ
  let σ := smHF k0_pay154 false xv ![1, 0, 512] ![1, 1, 0, 512] ![1, 1, 0, 512] (k0_off74 i) inb_S2x512x1024_S1x512x512_1_0_512 inb_S2x2x1x1024_S1x1x1x512_1_1_0_512 inb_S2x2x144x1024_S1x1x144x512_1_1_0_512 (k0_off74_inb i k0_h4) σ
  let σ := smHF k0_pay149 true xv ![0, 0, 512] ![1, 0, 0, 512] ![1, 0, 0, 512] (k0_off75 i) inb_S2x512x1024_S1x512x512_0_0_512 inb_S2x2x1x1024_S1x1x1x512_1_0_0_512 inb_S2x2x144x1024_S1x1x144x512_1_0_0_512 (k0_off75_inb i k0_h4) σ
  let σ := smHF k0_pay149 true xv ![1, 0, 512] ![1, 1, 0, 512] ![1, 1, 0, 512] (k0_off76 i) inb_S2x512x1024_S1x512x512_1_0_512 inb_S2x2x1x1024_S1x1x1x512_1_1_0_512 inb_S2x2x144x1024_S1x1x144x512_1_1_0_512 (k0_off76_inb i k0_h4) σ
  let σ := outUF ![1, 0, 0, 0] ![1, 0, 0] inb_S2x2x144x1024_S1x1x144x1024_1_0_0_0 σ
  let σ := outUF ![1, 1, 0, 0] ![1, 0, 128] inb_S2x2x144x1024_S1x1x144x1024_1_1_0_0 σ
  σ

/-- The taken branch of condition 4 leaves what its function says. -/
theorem own_if4 (c : Dev nD) (E : Set ℕ) (i : grid0.Coords) (b2 b3 : Memref sig .tc .vmem S2x256x1024 .bf16) (b4 : Memref sig .tc .vmem S2x8192x256 .bf16) (b5 : Memref sig .tc .vmem S2x16x144x512 .bf16) (b6 : Memref sig .tc .vmem S2x1024x256 .bf16) (g6 : b6.IsWhole) (b7 b8 : Memref sig .tc .vmem S2x512x1024 .f32) (b9 : Memref sig .tc .vmem S2x2x1x1024 .f32) (b10 : Memref sig .tc .vmem S2x2x144x1024 .f32) (xa xb : Vec F S2x256x1024 .bf16)
    (xk : Vec F S2x8192x256 .bf16) (xv : Vec F S2x16x144x512 .bf16) (σ : St F) (k0_h4 : k0_cond4 i = 1#1) :
    Own c b2 b3 b4 b5 b6 b7 b8 b9 b10 xa xb xk xv σ ⊢ W c E (if4R i b2 b3 b4 b5 b6 g6 b7 b8 b9 b10 k0_h4) (fun _ => Own c b2 b3 b4 b5 b6 b7 b8 b9 b10 xa xb xk xv (if4F i xa xb xk xv k0_h4 σ)) := by
  unfold if4R if4F
  dsimp only
  refine seq (own_qkL11 c E b2 b3 b4 b5 b6 b7 b8 b9 b10 xa xb xk xv _ _ _ _ _ _ _) fun _ => ?_
  refine seq (own_smH0 c E b2 b3 b4 b5 b6 b7 b8 b9 b10 xa xb xk xv _ _ _ _ _ _ _ _ _ _) fun _ => ?_
  refine seq (own_smH0 c E b2 b3 b4 b5 b6 b7 b8 b9 b10 xa xb xk xv _ _ _ _ _ _ _ _ _ _) fun _ => ?_
  refine seq (own_qkL11 c E b2 b3 b4 b5 b6 b7 b8 b9 b10 xa xb xk xv _ _ _ _ _ _ _) fun _ => ?_
  refine seq (own_smH0 c E b2 b3 b4 b5 b6 b7 b8 b9 b10 xa xb xk xv _ _ _ _ _ _ _ _ _ _) fun _ => ?_
  refine seq (own_smH0 c E b2 b3 b4 b5 b6 b7 b8 b9 b10 xa xb xk xv _ _ _ _ _ _ _ _ _ _) fun _ => ?_
  refine seq (own_smH1 c E b2 b3 b4 b5 b6 b7 b8 b9 b10 xa xb xk xv _ _ _ _ _ _ _ _ _ _) fun _ => ?_
  refine seq (own_smH1 c E b2 b3 b4 b5 b6 b7 b8 b9 b10 xa xb xk xv _ _ _ _ _ _ _ _ _ _) fun _ => ?_
  refine seq (own_outU c E b2 b3 b4 b5 b6 g6 b7 b8 b9 b10 xa xb xk xv _ _ _ _ _ _) fun _ => ?_
  exact own_outU c E b2 b3 b4 b5 b6 g6 b7 b8 b9 b10 xa xb xk xv _ _ _ _ _ _

end Cert.Kernel4Ideal.Attn

end
-- ==== Proof.AttnBody.lean ====
/- The attention kernel's loops and its whole body as functions on what its buffers hold. -/
module

public import proofs.«01_k».proof.Proof.AttnState
public import proofs.«01_k».proof.Proof.Gen.Kernel4Ideal.Frame.Runs
public import Idealize.ShloMosaic.Lib.Pipeline.Value
public import Idealize.ShloMosaic.Lib.Tactic
public import Idealize.ShloMosaic.Lib.LoopRemainder
public import Idealize.ShloMosaic.Lib.WritesUnit

@[expose] public section

set_option maxRecDepth 16384

noncomputable section

namespace Cert.Kernel4Ideal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel4Ideal Cert.Kernel4Ideal.Gen

variable {F : FTy → Type} [FloatOps F]

local notation "𝕄" => MT nD τ sig Unit (Elt F) ℕ (UR sig nD τ) ℕ

/-- A loop's first trips on states. -/
def iterF {n : ℕ} (f : Fin n → St F → St F) : ℕ → St F → St F
  | 0, σ => σ
  | k + 1, σ => if h : k < n then f ⟨k, h⟩ (iterF f k σ) else iterF f k σ

/-- A loop whose every trip takes a state's buffers to the next state's ends at the last state's. -/
theorem own_loop (c : Dev nD) (E : Set ℕ) (P : St F → sProp 𝕄) (l : Scf.Loop 32) (ok : l.OK) (body : Fin l.trips → Pr F) (f : Fin l.trips → St F → St F)
    (hb : ∀ t σ, P σ ⊢ W c E (body t) (fun _ => P (f t σ))) (σ : St F) :
    P σ ⊢ W c E (Scf.Loop.for l ok ⟨⟩ (fun t _ => body t)) (fun _ => P (iterF f l.trips σ)) := by
  refine BIBase.Entails.trans ?_ (Scf.wp_for _ _ E l.lb l.ub l.st ok ⟨⟩ (fun t _ => body t) (fun k _ => P (iterF f k σ)) ?_)
  · show P σ ⊢ _
    iintro H
    isplitl [H]
    · show P σ ⊢ P σ
      exact BIBase.Entails.refl
    · iintro %acc HP
      iexact HP
  · intro k acc
    refine (hb k _).trans (wp_mono _ _ E fun _ => ?_)
    have : iterF f (k.val + 1) σ = f k (iterF f k.val σ) := by
      simp only [iterF]
      exact dif_pos k.isLt
    rw [this]

/-- The program that does nothing. -/
theorem own_pure (c : Dev nD) (E : Set ℕ) (P : sProp 𝕄) : P ⊢ W c E (pure ⟨⟩ : Pr F) (fun _ => P) := by
  exact le_wp_ret _ _ _ _ (fun _ => P)

/-- A branch that does nothing when its condition fails, on states. -/
def iteF (p : Prop) [Decidable p] (f : p → St F → St F) (σ : St F) : St F := if h : p then f h σ else σ

/-- A branch that does nothing when its condition fails, before the rest of a program. -/
theorem own_ite (c : Dev nD) (E : Set ℕ) (P : St F → sProp 𝕄) (p : Prop) [Decidable p] (A : p → Pr F) (f : p → St F → St F)
    (hA : ∀ h σ, P σ ⊢ W c E (A h) (fun _ => P (f h σ))) (σ : St F) {k : PUnit → Pr F} {Q : PUnit → sProp 𝕄}
    (hk : ∀ a, P (iteF p f σ) ⊢ W c E (k a) Q) :
    P σ ⊢ W c E (if h : p then (A h >>= k) else k ⟨⟩) Q := by
  unfold iteF at hk
  by_cases h : p
  · rw [dif_pos h]
    simp only [dif_pos h] at hk
    exact seq (hA h σ) hk
  · rw [dif_neg h]
    simp only [dif_neg h] at hk
    exact hk _

/-- The second head's first scores and the first query block's loop, on states. -/
def loopsF (i : grid0.Coords) (xa xb : Vec F S2x256x1024 .bf16) (xk : Vec F S2x8192x256 .bf16) (xv : Vec F S2x16x144x512 .bf16) (σ : St F) : St F :=
  iterF (t2F i xa xb xk xv) (k0_t2_loop i).trips (iterF (t1F i xa xb xk xv) (k0_t1_loop i).trips (qkAF false xk xa ![1, 0, 0] ![1, 0, 0] ![1, 0, 0] inb_S2x8192x256_S1x512x256_1_0_0 inb_S2x256x1024_S1x256x1024_1_0_0 σ))

/-- The first query block's end and the second's loop, on states. -/
def midF (i : grid0.Coords) (xa xb : Vec F S2x256x1024 .bf16) (xk : Vec F S2x8192x256 .bf16) (xv : Vec F S2x16x144x512 .bf16) (σ : St F) : St F :=
  iteF (k0_cond3 i = 1#1) (if3F i xa xb xk xv) (iterF (t4F i xa xb xk xv) (k0_t4_loop i).trips (iterF (t3F i xa xb xk xv) (k0_t3_loop i).trips
    (iteF (k0_cond2 i = 1#1) (if2F i xa xb xk xv) (iteF (k0_cond1 i = 1#1) (if1F i xa xb xk xv) σ))))

/-- The body on states. -/
def bodyF (i : grid0.Coords) (xa xb : Vec F S2x256x1024 .bf16) (xk : Vec F S2x8192x256 .bf16) (xv : Vec F S2x16x144x512 .bf16) (σ : St F) : St F :=
  iteF (k0_cond4 i = 1#1) (if4F i xa xb xk xv) (midF i xa xb xk xv (loopsF i xa xb xk xv (qkAF false xk xa ![0, 0, 0] ![0, 0, 0] ![0, 0, 0] inb_S2x8192x256_S1x512x256_0_0_0 inb_S2x256x1024_S1x256x1024_0_0_0 (iniAF (iniMF σ)))))

/-- The second head's first scores and the first query block's loop. -/
theorem own_loopsR (c : Dev nD) (E : Set ℕ) (i : grid0.Coords) (arg2 : Memref sig .tc .vmem S2x256x1024 .bf16) (arg3 : Memref sig .tc .vmem S2x256x1024 .bf16) (arg4 : Memref sig .tc .vmem S2x8192x256 .bf16) (arg5 : Memref sig .tc .vmem S2x16x144x512 .bf16) (arg6 : Memref sig .tc .vmem S2x1024x256 .bf16) (harg6 : arg6.IsWhole) (arg7 : Memref sig .tc .vmem S2x512x1024 .f32) (arg8 : Memref sig .tc .vmem S2x512x1024 .f32) (arg9 : Memref sig .tc .vmem S2x2x1x1024 .f32) (arg10 : Memref sig .tc .vmem S2x2x144x1024 .f32) (xa xb : Vec F S2x256x1024 .bf16) (xk : Vec F S2x8192x256 .bf16) (xv : Vec F S2x16x144x512 .bf16) (σ : St F) :
    Own c arg2 arg3 arg4 arg5 arg6 arg7 arg8 arg9 arg10 xa xb xk xv σ ⊢ W c E (loopsR i arg2 arg3 arg4 arg5 arg6 harg6 arg7 arg8 arg9 arg10) (fun _ => Own c arg2 arg3 arg4 arg5 arg6 arg7 arg8 arg9 arg10 xa xb xk xv (loopsF i xa xb xk xv σ)) := by
  unfold loopsR loopsF
  refine seq (own_qkA00 c E arg2 arg3 arg4 arg5 arg6 arg7 arg8 arg9 arg10 xa xb xk xv _ _ _ _ _ _ _) fun _ => ?_
  refine seq (own_loop c E (Own c arg2 arg3 arg4 arg5 arg6 arg7 arg8 arg9 arg10 xa xb xk xv) _ _ _ _ (fun t σ => own_t1 c E i arg2 arg3 arg4 arg5 arg6 harg6 arg7 arg8 arg9 arg10 xa xb xk xv σ t) _) fun _ => ?_
  refine seq (own_loop c E (Own c arg2 arg3 arg4 arg5 arg6 arg7 arg8 arg9 arg10 xa xb xk xv) _ _ _ _ (fun t σ => own_t2 c E i arg2 arg3 arg4 arg5 arg6 harg6 arg7 arg8 arg9 arg10 xa xb xk xv σ t) _) fun _ => ?_
  exact own_pure c E _

/-- The first query block's end and the second's loop. -/
theorem own_midR (c : Dev nD) (E : Set ℕ) (i : grid0.Coords) (arg2 : Memref sig .tc .vmem S2x256x1024 .bf16) (arg3 : Memref sig .tc .vmem S2x256x1024 .bf16) (arg4 : Memref sig .tc .vmem S2x8192x256 .bf16) (arg5 : Memref sig .tc .vmem S2x16x144x512 .bf16) (arg6 : Memref sig .tc .vmem S2x1024x256 .bf16) (harg6 : arg6.IsWhole) (arg7 : Memref sig .tc .vmem S2x512x1024 .f32) (arg8 : Memref sig .tc .vmem S2x512x1024 .f32) (arg9 : Memref sig .tc .vmem S2x2x1x1024 .f32) (arg10 : Memref sig .tc .vmem S2x2x144x1024 .f32) (xa xb : Vec F S2x256x1024 .bf16) (xk : Vec F S2x8192x256 .bf16) (xv : Vec F S2x16x144x512 .bf16) (σ : St F) :
    Own c arg2 arg3 arg4 arg5 arg6 arg7 arg8 arg9 arg10 xa xb xk xv σ ⊢ W c E (midR i arg2 arg3 arg4 arg5 arg6 harg6 arg7 arg8 arg9 arg10) (fun _ => Own c arg2 arg3 arg4 arg5 arg6 arg7 arg8 arg9 arg10 xa xb xk xv (midF i xa xb xk xv σ)) := by
  unfold midR midF
  dsimp only
  refine own_ite c E (Own c arg2 arg3 arg4 arg5 arg6 arg7 arg8 arg9 arg10 xa xb xk xv) _ _ _ (fun h σ => own_if1 c E i arg2 arg3 arg4 arg5 arg6 harg6 arg7 arg8 arg9 arg10 xa xb xk xv σ h) _ fun _ => ?_
  refine own_ite c E (Own c arg2 arg3 arg4 arg5 arg6 arg7 arg8 arg9 arg10 xa xb xk xv) _ _ _ (fun h σ => own_if2 c E i arg2 arg3 arg4 arg5 arg6 harg6 arg7 arg8 arg9 arg10 xa xb xk xv σ h) _ fun _ => ?_
  refine seq (own_loop c E (Own c arg2 arg3 arg4 arg5 arg6 arg7 arg8 arg9 arg10 xa xb xk xv) _ _ _ _ (fun t σ => own_t3 c E i arg2 arg3 arg4 arg5 arg6 harg6 arg7 arg8 arg9 arg10 xa xb xk xv σ t) _) fun _ => ?_
  refine seq (own_loop c E (Own c arg2 arg3 arg4 arg5 arg6 arg7 arg8 arg9 arg10 xa xb xk xv) _ _ _ _ (fun t σ => own_t4 c E i arg2 arg3 arg4 arg5 arg6 harg6 arg7 arg8 arg9 arg10 xa xb xk xv σ t) _) fun _ => ?_
  refine own_ite c E (Own c arg2 arg3 arg4 arg5 arg6 arg7 arg8 arg9 arg10 xa xb xk xv) _ _ _ (fun h σ => own_if3 c E i arg2 arg3 arg4 arg5 arg6 harg6 arg7 arg8 arg9 arg10 xa xb xk xv σ h) _ fun _ => ?_
  exact own_pure c E _

/-- The body takes a state's buffers to the next state's. -/
theorem own_bodyR (c : Dev nD) (E : Set ℕ) (i : grid0.Coords) (arg2 : Memref sig .tc .vmem S2x256x1024 .bf16) (arg3 : Memref sig .tc .vmem S2x256x1024 .bf16) (arg4 : Memref sig .tc .vmem S2x8192x256 .bf16) (arg5 : Memref sig .tc .vmem S2x16x144x512 .bf16) (arg6 : Memref sig .tc .vmem S2x1024x256 .bf16) (harg6 : arg6.IsWhole) (arg7 : Memref sig .tc .vmem S2x512x1024 .f32) (arg8 : Memref sig .tc .vmem S2x512x1024 .f32) (arg9 : Memref sig .tc .vmem S2x2x1x1024 .f32) (arg10 : Memref sig .tc .vmem S2x2x144x1024 .f32) (xa xb : Vec F S2x256x1024 .bf16) (xk : Vec F S2x8192x256 .bf16) (xv : Vec F S2x16x144x512 .bf16) (σ : St F) :
    Own c arg2 arg3 arg4 arg5 arg6 arg7 arg8 arg9 arg10 xa xb xk xv σ ⊢ W c E (bodyR i arg2 arg3 arg4 arg5 arg6 harg6 arg7 arg8 arg9 arg10) (fun _ => Own c arg2 arg3 arg4 arg5 arg6 arg7 arg8 arg9 arg10 xa xb xk xv (bodyF i xa xb xk xv σ)) := by
  unfold bodyR bodyF
  dsimp only
  refine seq (own_iniM c E arg2 arg3 arg4 arg5 arg6 arg7 arg8 arg9 arg10 xa xb xk xv _) fun _ => ?_
  refine seq (own_iniA c E arg2 arg3 arg4 arg5 arg6 arg7 arg8 arg9 arg10 xa xb xk xv _) fun _ => ?_
  refine seq (own_qkA00 c E arg2 arg3 arg4 arg5 arg6 arg7 arg8 arg9 arg10 xa xb xk xv _ _ _ _ _ _ _) fun _ => ?_
  refine seq (own_loopsR c E i arg2 arg3 arg4 arg5 arg6 harg6 arg7 arg8 arg9 arg10 xa xb xk xv _) fun _ => ?_
  refine seq (own_midR c E i arg2 arg3 arg4 arg5 arg6 harg6 arg7 arg8 arg9 arg10 xa xb xk xv _) fun _ => ?_
  refine own_ite c E (Own c arg2 arg3 arg4 arg5 arg6 arg7 arg8 arg9 arg10 xa xb xk xv) _ _ _ (fun h σ => own_if4 c E i arg2 arg3 arg4 arg5 arg6 harg6 arg7 arg8 arg9 arg10 xa xb xk xv σ h) _ fun _ => ?_
  exact own_pure c E _

end Cert.Kernel4Ideal.Attn

end
-- ==== Proof.AttnFrame.lean ====
/- The frame of the attention call by hand: the body's run as a function on states (`own_bodyR`) gives the pipeline's
   obligation at every point, once with the output's contents left unnamed (the frame) and once with them named by any
   function the state function is shown to reach (the value). -/
module

public import proofs.«01_k».proof.Proof.AttnBody
public import Idealize.ShloMosaic.Lib.Claim

@[expose] public section

set_option maxRecDepth 16384

noncomputable section

namespace Cert.Kernel4Ideal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel4Ideal Cert.Kernel4Ideal.Gen

variable {F : FTy → Type} [FloatOps F]

local notation "𝕄" => MT nD τ sig Unit (Elt F) ℕ (UR sig nD τ) ℕ

/-- The pipeline's proof data on core `c`: the inputs' buffers hold their blocks at every point, the output's what `out` says. -/
def dats (m : (ℓ : Loc nD τ sig) → Buf (Elt F) ℓ) (out : Dev nD → Fin cfg0.N → Vec F S2x1024x256 .bf16) (_ : Fin 1) (c : Dev nD) :
    Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => out c t
  Φ _ := Pipeline.ΦA spec0 c
  q w := Pipeline.shareOf spec0 w
  owed _ := 0

variable (m : (ℓ : Loc nD τ sig) → Buf (Elt F) ℓ) (ρ : Dev nD → PrngReg) (out : Dev nD → Fin cfg0.N → Vec F S2x1024x256 .bf16)

/-- The proof data's arrays are the ones the call is entered with. -/
theorem A_eq (c : Dev nD) (w : Fin cfg0.W) : (dats m out 0 c).A w = V m c (Pipeline.arrRef spec0 w) := by
  dsimp only [dats]

/-- What the body leaves in input 0's buffer. -/
theorem after0_0 (c : Dev nD) (t : Fin cfg0.N) : (dats m out 0 c).after 0 t = iblk m c 0 t := by dsimp only [dats]
/-- What the body leaves in input 1's buffer. -/
theorem after0_1 (c : Dev nD) (t : Fin cfg0.N) : (dats m out 0 c).after 1 t = iblk m c 1 t := by dsimp only [dats]
/-- What the body leaves in input 2's buffer. -/
theorem after0_2 (c : Dev nD) (t : Fin cfg0.N) : (dats m out 0 c).after 2 t = iblk m c 2 t := by dsimp only [dats]
/-- What the body leaves in input 3's buffer. -/
theorem after0_3 (c : Dev nD) (t : Fin cfg0.N) : (dats m out 0 c).after 3 t = iblk m c 3 t := by dsimp only [dats]
/-- What the body leaves in the output's buffer. -/
theorem after0_4 (c : Dev nD) (t : Fin cfg0.N) : (dats m out 0 c).after 4 t = out c t := by dsimp only [dats]

/-- What the body finds in input 0's buffer. -/
theorem before0_0 (c : Dev nD) (t : Fin cfg0.N) (d) : (dats m out 0 c).before 0 t d = iblk m c 0 t :=
  before0_0_of m (dats m out 0 c) (A_eq m out c 0) (after0_0 m out c) t d
/-- What the body finds in input 1's buffer. -/
theorem before0_1 (c : Dev nD) (t : Fin cfg0.N) (d) : (dats m out 0 c).before 1 t d = iblk m c 1 t :=
  before0_1_of m (dats m out 0 c) (A_eq m out c 1) (after0_1 m out c) t d
/-- What the body finds in input 2's buffer. -/
theorem before0_2 (c : Dev nD) (t : Fin cfg0.N) (d) : (dats m out 0 c).before 2 t d = iblk m c 2 t :=
  before0_2_of m (dats m out 0 c) (A_eq m out c 2) (after0_2 m out c) t d
/-- What the body finds in input 3's buffer. -/
theorem before0_3 (c : Dev nD) (t : Fin cfg0.N) (d) : (dats m out 0 c).before 3 t d = iblk m c 3 t :=
  before0_3_of m (dats m out 0 c) (A_eq m out c 3) (after0_3 m out c) t d

/-- The output's window is live at every point. -/
theorem liveAt0_4 : ∀ t : Fin cfg0.N, cfg0.idle 4 (grid0.coords t) = false :=
  (by decide +kernel : ∀ t : Fin cfg0.N, cfg0.idle 4 (grid0.coords t) = false)

/-- What the body leaves in the output's buffer, as the pipeline states it: the contents `out` names. -/
theorem leaves4 (c : Dev nD) (t : Fin cfg0.N) : (dats m out 0 c).leavesExact 4 t = owns (c : Thread nD τ) (ms0_4 t) fullShare (out c t) := by
  unfold Dat.leavesExact
  rw [liveAt0_4 t, after0_4]

set_option maxHeartbeats 1600000 in
/-- The body at any point, from the inputs' blocks and any contents of the output's buffer, whatever follows from the contents it leaves there. -/
theorem sound (c : Dev nD) (t : Fin cfg0.N) (Q0 Q4 : sProp 𝕄)
    (hin : Q0 ⊢ (iprop(∃ d, owns (c : Thread nD τ) (ms0_4 t) fullShare d) : sProp 𝕄))
    (h : ∀ σ : St F, owns (c : Thread nD τ) (ms0_4 t) fullShare (bodyF (grid0.coords t) (iblk m c 0 t) (iblk m c 1 t) (iblk m c 2 t) (iblk m c 3 t) σ).o ⊢ Q4) :
    (iprop((dats m out 0 c).Φ t.castSucc ∗ (dats m out 0 c).owesAt () t.castSucc
    ∗ (∃ d, owns (c : Thread nD τ) (ms0_0 t) fullShare ((dats m out 0 c).before 0 t d))
    ∗ (∃ d, owns (c : Thread nD τ) (ms0_1 t) fullShare ((dats m out 0 c).before 1 t d))
    ∗ (∃ d, owns (c : Thread nD τ) (ms0_2 t) fullShare ((dats m out 0 c).before 2 t d))
    ∗ (∃ d, owns (c : Thread nD τ) (ms0_3 t) fullShare ((dats m out 0 c).before 3 t d))
    ∗ Q0) : sProp 𝕄) ⊢ wp frame (wpE (defs₀ (F := F)) Variants.none c none) Set.univ (bodyAt0 t) (fun _ => iprop((dats m out 0 c).Φ t.succ ∗ (dats m out 0 c).owesAt () t.succ
    ∗ (dats m out 0 c).leavesExact 0 t
    ∗ (dats m out 0 c).leavesExact 1 t
    ∗ (dats m out 0 c).leavesExact 2 t
    ∗ (dats m out 0 c).leavesExact 3 t
    ∗ Q4)) := by
  unfold bodyAt0
  simp only [before0_0, before0_1, before0_2, before0_3]
  rw [show (dats m out 0 c).Φ t.succ = (dats m out 0 c).Φ t.castSucc from rfl,
    show (dats m out 0 c).owesAt () t.succ = (dats m out 0 c).owesAt () t.castSucc from rfl]
  rw [show (dats m out 0 c).Φ t.castSucc = Pipeline.ΦA spec0 c from rfl, PhiA0_eq]
  rw [show (dats m out 0 c).leavesExact 0 t = owns (c : Thread nD τ) (ms0_0 t) fullShare ((dats m out 0 c).after 0 t) from by
      unfold Dat.leavesExact; rw [liveAt0_0 t], after0_0]
  rw [show (dats m out 0 c).leavesExact 1 t = owns (c : Thread nD τ) (ms0_1 t) fullShare ((dats m out 0 c).after 1 t) from by
      unfold Dat.leavesExact; rw [liveAt0_1 t], after0_1]
  rw [show (dats m out 0 c).leavesExact 2 t = owns (c : Thread nD τ) (ms0_2 t) fullShare ((dats m out 0 c).after 2 t) from by
      unfold Dat.leavesExact; rw [liveAt0_2 t], after0_2]
  rw [show (dats m out 0 c).leavesExact 3 t = owns (c : Thread nD τ) (ms0_3 t) fullShare ((dats m out 0 c).after 3 t) from by
      unfold Dat.leavesExact; rw [liveAt0_3 t], after0_3]
  rw [body_eq]
  iintro ⟨⟨⟨⟨%e0, HS0⟩, ⟨%e1, HS1⟩, ⟨%e2, HS2⟩, ⟨%e3, HS3⟩⟩, Hg⟩, Ho, ⟨%d0, H0⟩, ⟨%d1, H1⟩, ⟨%d2, H2⟩, ⟨%d3, H3⟩, H4⟩
  ihave H4' := hin $$ H4
  icases H4' with ⟨%d4, H4⟩
  iapply (wp_wand_r frame (wpE (defs₀ (F := F)) Variants.none c none) Set.univ)
  isplitl [H0 H1 H2 H3 H4 HS0 HS1 HS2 HS3]
  · iapply (own_bodyR c Set.univ (grid0.coords t) _ _ _ _ _ _ _ _ _ _ (iblk m c 0 t) (iblk m c 1 t) (iblk m c 2 t) (iblk m c 3 t)
      (⟨fun b => if b then e1 else e0, e2, e3, d4⟩ : St F))
    unfold Own O
    isplitl [H0]; · iexact H0
    isplitl [H1]; · iexact H1
    isplitl [H2]; · iexact H2
    isplitl [H3]; · iexact H3
    isplitl [H4]; · iexact H4
    isplitl [HS0]; · iexact HS0
    isplitl [HS1]; · iexact HS1
    isplitl [HS2]; · iexact HS2
    iexact HS3
  · unfold Own O
    iintro %a ⟨H0, H1, H2, H3, H4, HS0, HS1, HS2, HS3⟩
    isplitl [HS0 HS1 HS2 HS3 Hg]
    · isplitl [HS0 HS1 HS2 HS3]
      · isplitl [HS0]
        · iexists _; iexact HS0
        isplitl [HS1]
        · iexists _; iexact HS1
        isplitl [HS2]
        · iexists _; iexact HS2
        iexists _; iexact HS3
      iexact Hg
    isplitl [Ho]; · iexact Ho
    isplitl [H0]; · iexact H0
    isplitl [H1]; · iexact H1
    isplitl [H2]; · iexact H2
    isplitl [H3]; · iexact H3
    iapply (h _)
    iexact H4

/-- The row of the table of bodies at a point is the body at that point. -/
theorem defs₀_row (t : Fin cfg0.N) :
    defs₀ (F := F) .tc cfg0.body (cfg0.bodyArgs t (cfg0.slots t)) = bodyAt0 t := by
  unfold defs₀; rw [Defs.onTc_tc]

/-- The window whose contents the frame leaves unnamed: the output. -/
def forgets0 : Fin cfg0.W → Bool := fun w => w.val == 4

/-- The pipeline's obligation with the output left unnamed. -/
theorem obligation_unnamed (c : Dev nD) : BodyObligation (dats (F := F) m out 0 c) (defs₀ (F := F)) Variants.none () Set.univ forgets0 := fun t => by
  rw [bigSep_W0, bigSep_W0, defs₀_row]
  exact triple_restated (sound m out c t (iprop(∃ d, owns (c : Thread nD τ) (ms0_4 t) fullShare d)) (iprop(∃ d, owns (c : Thread nD τ) (ms0_4 t) fullShare d)) .rfl
    (fun σ => by iintro H; iexists _; iexact H)) rfl .rfl fun _ => .rfl

/-- The pipeline's obligation with the output named, when the state function reaches what `out` names from every state. -/
theorem obligation_named (hout : ∀ (c : Dev nD) (t : Fin cfg0.N) (σ : St F), (bodyF (grid0.coords t) (iblk m c 0 t) (iblk m c 1 t) (iblk m c 2 t) (iblk m c 3 t) σ).o = out c t)
    (c : Dev nD) : BodyObligation (dats (F := F) m out 0 c) (defs₀ (F := F)) Variants.none () Set.univ := fun t => by
  rw [bigSep_W0, bigSep_W0, defs₀_row]
  exact triple_restated (sound m out c t (iprop(∃ d, owns (c : Thread nD τ) (ms0_4 t) fullShare ((dats m out 0 c).before 4 t d))) ((dats m out 0 c).leavesExact 4 t)
    (by iintro ⟨%d, H⟩; iexists _; iexact H)
    (fun σ => by rw [hout, leaves4])) rfl .rfl fun _ => .rfl

set_option backward.isDefEq.respectTransparency.types false in
/-- The run with the output left unnamed: it ends with every other buffer as the call found it, and every counter at zero. -/
theorem run_unnamed : θ_run defs (onTc (τ := τ) (main (F := F))) (s₀ m ρ) (fun r => (Pipeline.RDat.FramePost (cfgs 0) (fun c => (dats m out 0 c).toRForget forgets0) (V m)) r ∧ r.2.sem = fun _ => 0) :=
  Pipeline.θ_run_frame_forget_shared (Q' := _) cfgs (dats m out) (0 : Fin 1) launch₀0 defs₀ Variants.none forgets0 m ρ main
    (hbody := fun c => (obligation_unnamed m out c).loose) (hq := fun _ _ _ => rfl)
    (howed := fun _ _ => rfl) (V := V m) (hmain := hmain m Variants.none) (hA := A_eq m out) (hΦ := fun _ _ => rfl)

set_option backward.isDefEq.respectTransparency.types false in
/-- The run with the output named: it ends with the pipeline's arrays at what the library computes from what `out` names. -/
theorem run_named (hout : ∀ (c : Dev nD) (t : Fin cfg0.N) (σ : St F), (bodyF (grid0.coords t) (iblk m c 0 t) (iblk m c 1 t) (iblk m c 2 t) (iblk m c 3 t) σ).o = out c t) :
    θ_run defs (onTc (τ := τ) (main (F := F))) (s₀ m ρ) (fun r => (Pipeline.FramePost cfgs (dats m out) 0 (V m)) r ∧ r.2.sem = fun _ => 0) :=
  Pipeline.θ_run_frame_shared (Q' := _) cfgs (dats m out) (0 : Fin 1) launch₀0 defs₀ Variants.none m ρ main
    (hbody := fun c => (obligation_named m out hout c).loose) (hq := fun _ _ _ => rfl)
    (howed := fun _ _ => rfl) (V := V m) (hmain := hmain m Variants.none) (hA := A_eq m out) (hΦ := fun _ _ => rfl)

/-- The frame: every execution ends with the argument arrays unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c => ⟨((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c)⟩, h.2⟩)
    (run_unnamed m ρ (fun _ t => Pipeline.Dat.unnamed (cfg := cfg0) ⟨4, by decide⟩ t))

end Cert.Kernel4Ideal.Attn

end
-- ==== Proof.AttnPay.lean ====
/- What the attention kernel's vector payloads compute, read at an index: scores, masked scores, the running maximum, the
   running sums and the quotient stored. -/
module

public import proofs.«01_k».proof.Proof.Gen.Kernel4Ideal.Skeleton
public import Idealize.ShloMosaic.Lib.Pointwise
public import Idealize.ShloMosaic.Lib.WordCmp

@[expose] public section

set_option maxRecDepth 16384

noncomputable section

namespace Cert.Kernel4Ideal.Attn

open Idealize.ShloMosaic Idealize.ShloMosaic.TcCoe Idealize.ShloMosaic.Tactic
open Cert.Kernel4Ideal Cert.Kernel4Ideal.Gen
open scoped BigOperators

/-- The mask's word is −∞. -/
theorem ninf : Ideal.ofBits FTy.f32 4286578688#32 = ⊥ := by
  simp [Ideal.ofBits, Ideal.ieee]

/-- A tile of scores: keys against queries. -/
theorem pay3_at (v : Vec Ideal S1x512x256 .bf16) (w : Vec Ideal S1x256x1024 .bf16) (r : Fin 512) (q : Fin 1024) :
    k0_pay3 v w (ix3 0 r q) = ∑ e : Fin 256, v (ix3 0 r e) * w (ix3 0 e q) := by
  pointwise [k0_pay3]

/-- A half tile of scores. -/
theorem pay148_at (v : Vec Ideal S1x512x256 .bf16) (w : Vec Ideal S1x256x512 .bf16) (r : Fin 512) (q : Fin 512) :
    k0_pay148 v w (ix3 0 r q) = ∑ e : Fin 256, v (ix3 0 r e) * w (ix3 0 e q) := by
  pointwise [k0_pay148]

/-- The running maximum after a tile. -/
theorem pay6_at (v : Vec Ideal S1x512x1024 .f32) (w : Vec Ideal S1x1x1x1024 .f32) (q : Fin 1024) :
    k0_pay6 v w (ix2 0 q) = max (w (ix4 0 0 0 q)) (Finset.fold max ⊥ (fun r : Fin 512 => v (ix3 0 r q)) Finset.univ) := by
  pointwise [k0_pay6, k0_pay4, k0_pay5]
  rw [ninf]

/-- The same, in the shape it is stored in. -/
theorem pay10_at (v : FVec Ideal S1x1024 .f32) (q : Fin 1024) : k0_pay10 v (ix4 0 0 0 q) = v (ix2 0 q) := by
  pointwise [k0_pay10]

/-- The running sums after a tile. -/
theorem pay9_at (v : Vec Ideal S1x512x1024 .f32) (w : Vec Ideal S1x1x1x1024 .f32) (a : Vec Ideal S1x1x144x1024 .f32) (u : Vec Ideal S1x1x144x512 .bf16) (d : Fin 144) (q : Fin 1024) :
    k0_pay9 (k0_pay7 v w) (k0_pay8 v w a) u (ix4 0 0 d q)
      = Ideal.exp2 (w (ix4 0 0 0 q) - k0_pay6 v w (ix2 0 q)) * a (ix4 0 0 d q)
        + ∑ r : Fin 512, u (ix4 0 0 d r) * Ideal.exp2 (v (ix3 0 r q) - k0_pay6 v w (ix2 0 q)) := by
  pointwise [k0_pay9, k0_pay8, k0_pay7, k0_pay4, k0_pay5]
  rfl

/-- The running maximum after half a tile. -/
theorem pay151_at (v : FVec Ideal S512x512 .f32) (w : Vec Ideal S1x1x1x512 .f32) (q : Fin 512) :
    k0_pay151 v w (ix2 0 q) = max (w (ix4 0 0 0 q)) (Finset.fold max ⊥ (fun r : Fin 512 => v (ix2 r q)) Finset.univ) := by
  pointwise [k0_pay151, k0_pay150]
  rw [ninf]

/-- The same, in the shape it is stored in. -/
theorem pay153_at (v : FVec Ideal S512x512 .f32) (w : Vec Ideal S1x1x1x512 .f32) (q : Fin 512) :
    k0_pay153 v w (ix4 0 0 0 q) = k0_pay151 v w (ix2 0 q) := by
  pointwise [k0_pay153]

/-- The running sums after half a tile. -/
theorem pay152_at (v : FVec Ideal S512x512 .f32) (w : Vec Ideal S1x1x1x512 .f32) (a : Vec Ideal S1x1x144x512 .f32) (u : Vec Ideal S1x1x144x512 .bf16) (d : Fin 144) (q : Fin 512) :
    k0_pay152 v w a u (ix4 0 0 d q)
      = Ideal.exp2 (w (ix4 0 0 0 q) - k0_pay151 v w (ix2 0 q)) * a (ix4 0 0 d q)
        + ∑ r : Fin 512, u (ix4 0 0 d r) * Ideal.exp2 (v (ix2 r q) - k0_pay151 v w (ix2 0 q)) := by
  pointwise [k0_pay152, k0_pay150]
  rfl

/-- A half tile's scores unmasked. -/
theorem pay154_at (v : Vec Ideal S1x512x512 .f32) (r q : Fin 512) : k0_pay154 v (ix2 r q) = v (ix3 0 r q) := by
  pointwise [k0_pay154]

/-- A half tile's scores with the keys after the query at −∞. -/
theorem pay149_at (v : Vec Ideal S1x512x512 .f32) (r q : Fin 512) :
    k0_pay149 v (ix2 r q) = if r.val ≤ q.val then v (ix3 0 r q) else ⊥ := by
  pointwise [k0_pay149, k0_pay147]
  rw [ninf]
  have hiff := WordCmp.cmpi_sle_ofNat_eq_one_iff (w := 32) (a := r.val) (b := q.val) (by have := r.isLt; omega) (by have := q.isLt; omega)
  unfold Scalar.select
  by_cases h : r.val ≤ q.val
  · exact (if_pos (hiff.mpr h)).trans (if_pos h).symm
  · exact (if_neg fun h' => h (hiff.mp h')).trans (if_neg h).symm

/-- The rows stored: each value row over the row of ones, transposed. -/
theorem pay2_at (v : Vec Ideal S1x1x144x1024 .f32) (q : Fin 1024) (d : Fin 128) :
    k0_pay2 v (ix3 0 q d) = Ideal.div (v (ix4 0 0 ⟨d.val, by omega⟩ q)) (v (ix4 0 0 128 q)) := by
  pointwise [k0_pay2]

/-- The running maximum's first contents. -/
theorem pay441_at (a b : Fin 2) (q : Fin 1024) : (k0_pay441 (F := Ideal)) (ix4 a b 0 q) = ⊥ := by
  pointwise [k0_pay441]
  rw [ninf]

/-- The running sums' first contents. -/
theorem pay442_at (a b : Fin 2) (d : Fin 144) (q : Fin 1024) : (k0_pay442 (F := Ideal)) (ix4 a b d q) = 0 := by
  pointwise [k0_pay442]

end Cert.Kernel4Ideal.Attn

end
-- ==== Proof.AttnMath.lean ====
/- The mathematics of a softmax accumulated block by block: a running maximum and running sums of weighted values,
   carried from a prefix of the keys to a longer one, end as the softmax's average of the values. -/
module

public import Idealize.ShloMosaic.Lib.Pointwise

@[expose] public section

noncomputable section

namespace Cert.AttnMath

open Idealize.ShloMosaic
open scoped BigOperators

/-- The greatest of the first `n` scores. -/
def mx (f : ℕ → EReal) (n : ℕ) : EReal := (Finset.range n).sup f

/-- The first `n` values' sum, each weighted by two to its score less the greatest. -/
def acc (f V : ℕ → EReal) (n : ℕ) : EReal := ∑ k ∈ Finset.range n, Ideal.exp2 (f k - mx f n) * V k

/-- No key: the maximum is −∞. -/
theorem mx_zero (f : ℕ → EReal) : mx f 0 = ⊥ := rfl

/-- No key: the sum is zero. -/
theorem acc_zero (f V : ℕ → EReal) : acc f V 0 = 0 := rfl

/-- A maximum folded from −∞ over a block is the block's greatest. -/
theorem fold_eq_sup {B : ℕ} (g : Fin B → EReal) : Finset.fold max ⊥ g Finset.univ = Finset.univ.sup g := rfl

/-- The greatest of a longer prefix, from a prefix's and the next block's. -/
theorem mx_step (f : ℕ → EReal) (n B : ℕ) (g : Fin B → EReal) (hg : ∀ r, g r = f (n + r.val)) :
    max (mx f n) (Finset.fold max ⊥ g Finset.univ) = mx f (n + B) := by
  rw [fold_eq_sup]
  apply le_antisymm
  · refine max_le (Finset.sup_mono (Finset.range_mono (Nat.le_add_right _ _))) (Finset.sup_le fun r _ => ?_)
    rw [hg]
    exact Finset.le_sup (f := f) (Finset.mem_range.mpr (by have := r.isLt; omega))
  · refine Finset.sup_le fun k hk => ?_
    rw [Finset.mem_range] at hk
    by_cases h : k < n
    · exact le_max_of_le_left (Finset.le_sup (f := f) (Finset.mem_range.mpr h))
    · refine le_max_of_le_right ?_
      have e : f k = g ⟨k - n, by omega⟩ := by
        rw [hg]; congr 1; show k = n + (k - n); omega
      rw [e]
      exact Finset.le_sup (f := g) (Finset.mem_univ _)

/-- A prefix with a score above −∞ and none at +∞ has a real greatest. -/
theorem mx_real (f : ℕ → EReal) (h0 : f 0 ≠ ⊥) (ht : ∀ k, f k ≠ ⊤) (n : ℕ) (hn : 0 < n) : ∃ M : ℝ, mx f n = (M : EReal) := by
  obtain ⟨k, hk, e⟩ := Finset.exists_mem_eq_sup (Finset.range n) ⟨0, Finset.mem_range.mpr hn⟩ f
  have hle : f 0 ≤ mx f n := Finset.le_sup (f := f) (Finset.mem_range.mpr hn)
  have ht' : mx f n ≠ ⊤ := by unfold mx; rw [e]; exact ht k
  have hb' : mx f n ≠ ⊥ := fun hb => h0 (le_bot_iff.mp (hb ▸ hle))
  exact ⟨(mx f n).toReal, (EReal.coe_toReal ht' hb').symm⟩

/-- Two to a difference is two to a difference through a real between. -/
theorem exp2_chain (x : EReal) (hx : x ≠ ⊤) (M M' : ℝ) :
    Ideal.exp2 ((M : EReal) - M') * Ideal.exp2 (x - M) = Ideal.exp2 (x - M') := by
  induction x with
  | bot => simp
  | top => exact absurd rfl hx
  | coe r =>
    rw [← EReal.coe_sub, ← EReal.coe_sub, ← EReal.coe_sub, Ideal.exp2_coe, Ideal.exp2_coe, Ideal.exp2_coe, ← EReal.coe_mul]
    congr 1
    show (2 : ℝ) ^ (M - M') * (2 : ℝ) ^ (r - M) = (2 : ℝ) ^ (r - M')
    rw [← Real.rpow_add (by norm_num)]
    congr 1
    ring

/-- A nonnegative real factor moves into a sum. -/
theorem mul_sum_real (c : ℝ) (hc : 0 ≤ c) (s : Finset ℕ) (g : ℕ → EReal) :
    (c : EReal) * ∑ k ∈ s, g k = ∑ k ∈ s, (c : EReal) * g k := by
  induction s using Finset.cons_induction with
  | empty => simp
  | cons a s ha ih =>
    rw [Finset.sum_cons, Finset.sum_cons, EReal.left_distrib_of_nonneg_of_ne_top (by exact_mod_cast hc) (EReal.coe_ne_top c), ih]

/-- A sum of reals read as extended reals is the sum of them so read. -/
theorem coe_sum {ι : Type} (s : Finset ι) (g : ι → ℝ) : ((∑ k ∈ s, g k : ℝ) : EReal) = ∑ k ∈ s, (g k : EReal) := by
  induction s using Finset.cons_induction with
  | empty => simp
  | cons a s ha ih => rw [Finset.sum_cons, Finset.sum_cons, EReal.coe_add, ih]

/-- The weighted sum of a longer prefix, from a prefix's rescaled and the next block's. -/
theorem acc_step (f V : ℕ → EReal) (h0 : f 0 ≠ ⊥) (ht : ∀ k, f k ≠ ⊤) (n B : ℕ) (hB : 0 < B) (g u : Fin B → EReal)
    (hg : ∀ r, g r = f (n + r.val)) (hu : ∀ r, u r = V (n + r.val)) :
    Ideal.exp2 (mx f n - mx f (n + B)) * acc f V n + ∑ r : Fin B, u r * Ideal.exp2 (g r - mx f (n + B)) = acc f V (n + B) := by
  have e : acc f V (n + B) = ∑ k ∈ Finset.range n, Ideal.exp2 (f k - mx f (n + B)) * V k
      + ∑ r : Fin B, u r * Ideal.exp2 (g r - mx f (n + B)) := by
    unfold acc
    rw [Finset.sum_range_add, ← Fin.sum_univ_eq_sum_range (fun r => Ideal.exp2 (f (n + r) - mx f (n + B)) * V (n + r)) B]
    congr 1
    refine Finset.sum_congr rfl fun r _ => ?_
    rw [hg, hu, mul_comm]
  rw [e]
  congr 1
  obtain ⟨M', hM'⟩ := mx_real f h0 ht (n + B) (by omega)
  rcases Nat.eq_zero_or_pos n with rfl | hn
  · simp [acc]
  · obtain ⟨M, hM⟩ := mx_real f h0 ht n hn
    unfold acc
    rw [hM', hM]
    have hc : Ideal.exp2 ((M : EReal) - M') = ((2 : ℝ) ^ (M - M') : ℝ) := by rw [← EReal.coe_sub, Ideal.exp2_coe]; rfl
    rw [hc, mul_sum_real _ (by positivity)]
    refine Finset.sum_congr rfl fun k _ => ?_
    rw [← mul_assoc, ← hc, exp2_chain _ (ht k)]

/-- Scores known up to a position, −∞ after it. -/
def causal (s : ℕ → ℝ) (Q : ℕ) (k : ℕ) : EReal := if k ≤ Q then (s k : EReal) else ⊥

/-- The first key is never masked. -/
theorem causal_zero (s : ℕ → ℝ) (Q : ℕ) : causal s Q 0 ≠ ⊥ := by
  unfold causal; rw [if_pos (Nat.zero_le _)]; exact EReal.coe_ne_bot _

/-- No masked score is +∞. -/
theorem causal_top (s : ℕ → ℝ) (Q k : ℕ) : causal s Q k ≠ ⊤ := by
  unfold causal; split
  · exact EReal.coe_ne_top _
  · exact bot_ne_top

/-- The greatest of a prefix that reaches past the position is one of the known scores. -/
theorem mx_causal (s : ℕ → ℝ) (Q n : ℕ) (hQ : Q < n) : ∃ k0, k0 ≤ Q ∧ (∀ k, k ≤ Q → s k ≤ s k0) ∧ mx (causal s Q) n = (s k0 : EReal) := by
  obtain ⟨k0, h1, h2⟩ := Finset.exists_max_image (Finset.range (Q + 1)) s ⟨0, Finset.mem_range.mpr (by omega)⟩
  rw [Finset.mem_range] at h1
  refine ⟨k0, by omega, fun k hk => h2 k (Finset.mem_range.mpr (by omega)), le_antisymm (Finset.sup_le fun k _ => ?_) ?_⟩
  · unfold causal
    split
    · rename_i h
      exact_mod_cast h2 k (Finset.mem_range.mpr (by omega))
    · exact bot_le
  · have : causal s Q k0 ≤ mx (causal s Q) n := Finset.le_sup (f := causal s Q) (Finset.mem_range.mpr (by omega))
    unfold causal at this
    rwa [if_pos (by omega : k0 ≤ Q)] at this

/-- The softmax's weight of a key before it is divided by their sum. -/
def wgt (s : ℕ → ℝ) (M : ℝ) (Q k : ℕ) : ℝ := if k ≤ Q then Real.exp (s k - M) else 0

/-- The accumulated sums' quotient is the softmax's average of the values: scores in units of a power of two on one side, of the
    exponential on the other; a prefix that reaches past the position on one side, all `T` keys on the other. -/
theorem quotient (s : ℕ → ℝ) (V : ℕ → EReal) (Q N T : ℕ) (hN : Q < N) (hT : N ≤ T) (x : Fin T → EReal)
    (hx : ∀ k, x k = causal s Q k.val) (v : Fin T → EReal) (hv : ∀ k, v k = V k.val) (one : ℕ → EReal) (hone : ∀ k, k < N → one k = 1) :
    Ideal.div (acc (causal (fun k => s k / Real.log 2) Q) V N) (acc (causal (fun k => s k / Real.log 2) Q) one N)
      = ∑ k : Fin T, v k * Ideal.div (Ideal.exp (x k - Finset.fold max ⊥ x Finset.univ))
          (∑ k : Fin T, Ideal.exp (x k - Finset.fold max ⊥ x Finset.univ)) := by
  have hl : (0 : ℝ) < Real.log 2 := Real.log_pos (by norm_num)
  have hR : Finset.fold max ⊥ x Finset.univ = mx (causal s Q) T := by
    have := mx_step (causal s Q) 0 T x (fun r => by rw [hx, Nat.zero_add])
    rw [mx_zero, Nat.zero_add] at this
    rw [← this]
    exact (max_eq_right bot_le).symm
  obtain ⟨k0, hk0, hmax, hM⟩ := mx_causal s Q T (by omega)
  have hM2 : mx (causal (fun k => s k / Real.log 2) Q) N = ((s k0 / Real.log 2 : ℝ) : EReal) := by
    obtain ⟨k1, hk1, hmax1, e1⟩ := mx_causal (fun k => s k / Real.log 2) Q N hN
    rw [e1]
    have a := hmax1 k0 hk0
    have b := hmax k1 hk1
    have c : s k1 / Real.log 2 ≤ s k0 / Real.log 2 := div_le_div_of_nonneg_right b hl.le
    exact_mod_cast le_antisymm c a
  have hE : ∀ k, Ideal.exp2 (causal (fun k => s k / Real.log 2) Q k - mx (causal (fun k => s k / Real.log 2) Q) N) = (wgt s (s k0) Q k : EReal) := by
    intro k
    rw [hM2]
    unfold causal wgt
    split
    · rw [← EReal.coe_sub, Ideal.exp2_coe]
      congr 1
      show (2 : ℝ) ^ (s k / Real.log 2 - s k0 / Real.log 2) = _
      rw [Real.rpow_def_of_pos (by norm_num)]
      congr 1
      field_simp
    · simp
  have hX : ∀ k : Fin T, Ideal.exp (x k - Finset.fold max ⊥ x Finset.univ) = (wgt s (s k0) Q k.val : EReal) := by
    intro k
    rw [hR, hM, hx]
    unfold causal wgt
    split
    · rw [← EReal.coe_sub, Ideal.exp_coe]
    · simp
  have h0 : ∀ k, N ≤ k → wgt s (s k0) Q k = 0 := fun k hk => by unfold wgt; rw [if_neg (by omega)]
  have hnn : ∀ k, 0 ≤ wgt s (s k0) Q k := fun k => by unfold wgt; split; exacts [(Real.exp_pos _).le, le_rfl]
  have hA : ∀ U : ℕ → EReal, acc (causal (fun k => s k / Real.log 2) Q) U N = ∑ k ∈ Finset.range T, (wgt s (s k0) Q k : EReal) * U k := by
    intro U
    unfold acc
    rw [Finset.sum_congr rfl fun k _ => by rw [hE k]]
    refine Finset.sum_subset (Finset.range_mono hT) fun k _ hk => ?_
    rw [Finset.mem_range] at hk
    rw [h0 k (by omega)]
    simp
  have hD : acc (causal (fun k => s k / Real.log 2) Q) one N = ((∑ k ∈ Finset.range T, wgt s (s k0) Q k : ℝ) : EReal) := by
    rw [hA one, coe_sum]
    refine Finset.sum_congr rfl fun k _ => ?_
    by_cases hk : k < N
    · rw [hone k hk, mul_one]
    · rw [h0 k (by omega)]; simp
  have hD2 : (∑ k : Fin T, Ideal.exp (x k - Finset.fold max ⊥ x Finset.univ)) = ((∑ k ∈ Finset.range T, wgt s (s k0) Q k : ℝ) : EReal) := by
    rw [Finset.sum_congr rfl fun k _ => hX k, Fin.sum_univ_eq_sum_range (fun k => (wgt s (s k0) Q k : EReal)) T, coe_sum]
  have hpos : 0 < ∑ k ∈ Finset.range T, wgt s (s k0) Q k := by
    refine Finset.sum_pos' (fun k _ => hnn k) ⟨0, Finset.mem_range.mpr (by omega), ?_⟩
    unfold wgt
    rw [if_pos (Nat.zero_le _)]
    exact Real.exp_pos _
  rw [hD, hD2, Ideal.div_coe hpos.ne', hA V, mul_comm, mul_sum_real _ (by positivity), ← Fin.sum_univ_eq_sum_range (fun k => _ * ((wgt s (s k0) Q k : EReal) * V k)) T]
  refine Finset.sum_congr rfl fun k _ => ?_
  rw [Ideal.div_coe hpos.ne', hX, hv]
  ac_rfl

end Cert.AttnMath

end
-- ==== Proof.AttnCol.lean ====
/- One query's column of the attention kernel's buffers: which tiles of scores it holds, its running maximum and its running
   sums over the keys taken so far; and what each step of the kernel does to it. -/
module

public import proofs.«01_k».proof.Proof.AttnPay
public import proofs.«01_k».proof.Proof.AttnMath
public import proofs.«01_k».proof.Proof.AttnBody
public import Idealize.ShloMosaic.Lib.Pipeline.ValueKit

@[expose] public section

set_option maxRecDepth 16384

noncomputable section

namespace Cert.Kernel4Ideal.Attn

open Idealize.ShloMosaic Idealize.ShloMosaic.TcCoe Idealize.ShloMosaic.Tactic
open Cert.Kernel4Ideal Cert.Kernel4Ideal.Gen
open Cert.AttnMath
open scoped BigOperators

/-- A block's replacement read inside the block. -/
theorem put_in {s : Shape} {α : Type} (d : s.Idx → α) (off size : Fin s.rank → ℕ) (w : ((a : Fin s.rank) → Fin (size a)) → α) (y : s.Idx)
    (z : (a : Fin s.rank) → Fin (size a)) (hz : ∀ a, (y a).val = off a + (z a).val) : put d off size w y = w z := by
  unfold put
  rw [dif_pos (fun a => by have := (z a).isLt; have := hz a; omega)]
  congr 1
  funext a
  apply Fin.ext
  rw [Rect.unitLocal_val]
  have := hz a
  omega

/-- A block's replacement read outside the block. -/
theorem put_out {s : Shape} {α : Type} (d : s.Idx → α) (off size : Fin s.rank → ℕ) (w : ((a : Fin s.rank) → Fin (size a)) → α) (y : s.Idx)
    (a : Fin s.rank) (h : ¬ (off a ≤ (y a).val ∧ (y a).val < off a + size a)) : put d off size w y = d y := by
  unfold put
  exact dif_neg fun h' => h (h' a)

/-- A block read at an index is the array read there. -/
theorem ld_in {s : Shape} {e : EltTy} (X : s.Idx → Elt Ideal e) (off size : Fin s.rank → ℕ) (inb : ∀ a, off a + size a ≤ s.size a)
    (z : (Rect.unit off size inb).shape.Idx) (y : s.Idx) (hz : ∀ a, (y a).val = off a + (z a).val) : View.ld X (Rect.unit off size inb) z = X y :=
  View.ld_unit_apply_of X off size inb z y hz

/-- A fact at each of three axes. -/
theorem all3 {P : Fin 3 → Prop} (h0 : P 0) (h1 : P 1) (h2 : P 2) : ∀ a, P a := by
  intro a; fin_cases a
  exacts [h0, h1, h2]

/-- A fact at each of four axes. -/
theorem all4 {P : Fin 4 → Prop} (h0 : P 0) (h1 : P 1) (h2 : P 2) (h3 : P 3) : ∀ a, P a := by
  intro a; fin_cases a
  exacts [h0, h1, h2, h3]

/-- The column's head, query block and query; its position among the keys; its scores; the values' rows. -/
structure Col where
  hd : Fin 2
  sl : Fin 2
  q : Fin 1024
  Q : ℕ
  s : ℕ → ℝ
  V : Fin 144 → ℕ → EReal

/-- The column's scores with the keys after its position at −∞. -/
abbrev Col.f (C : Col) : ℕ → EReal := causal C.s C.Q

/-- Which tile of scores each buffer holds in the column, if known, and the running maximum and sums over the first `n` keys. -/
structure Inv (C : Col) (σ : St Ideal) (x y : Option ℕ) (n : ℕ) : Prop where
  hold : ∀ b j, (bif b then y else x) = some j → ∀ r : Fin 512, σ.s b (ix3 C.hd r C.q) = (C.s (512 * j + r.val) : EReal)
  hm : σ.m (ix4 C.sl C.hd 0 C.q) = mx C.f n
  ha : ∀ d : Fin 144, σ.a (ix4 C.sl C.hd d C.q) = acc C.f (C.V d) n

/-- The keys and queries give the column's scores. -/
def Scores (C : Col) (xk : Vec Ideal S2x8192x256 .bf16) (xq : Vec Ideal S2x256x1024 .bf16) : Prop :=
  ∀ k : Fin 8192, ∑ e : Fin 256, xk (ix3 C.hd k e) * xq (ix3 C.hd e C.q) = (C.s k.val : EReal)

/-- The values' tiles give the column's values. -/
def Values (C : Col) (xv : Vec Ideal S2x16x144x512 .bf16) : Prop :=
  ∀ (j : Fin 16) (d : Fin 144) (r : Fin 512), xv (ix4 C.hd j d r) = C.V d (512 * j.val + r.val)

variable {C : Col} {σ : St Ideal} {x y x' y' : Option ℕ} {n n' : ℕ}

/-- A buffer replaced outside the column, or with a tile's scores in it. -/
theorem Inv.setS {b : Bool} {z : Option ℕ} {X : Vec Ideal S2x512x1024 .f32} (hI : Inv C σ x y n) (hx' : x' = bif b then x else z) (hy' : y' = bif b then z else y)
    (h : ∀ j, z = some j → ∀ r : Fin 512, X (ix3 C.hd r C.q) = (C.s (512 * j + r.val) : EReal)) : Inv C (σ.setS b X) x' y' n := by
  refine ⟨fun b' j hj r => ?_, hI.hm, hI.ha⟩
  show (if b' = b then X else σ.s b') (ix3 C.hd r C.q) = _
  by_cases hb : b' = b
  · rw [if_pos hb]
    subst hb hx' hy'
    refine h j ?_ r
    cases b' <;> exact hj
  · rw [if_neg hb]
    subst hx' hy'
    refine hI.hold b' j ?_ r
    cases b <;> cases b' <;> first | exact hj | exact absurd rfl hb

/-- Scores of the column's head written over a whole tile. -/
theorem qkA_same {b : Bool} (j : ℕ) {xk : Vec Ideal S2x8192x256 .bf16} {xq : Vec Ideal S2x256x1024 .bf16} (hS : Scores C xk xq) {ok oq os : Fin 3 → ℕ} {hk hq}
    (hok : ok = ![C.hd.val, 512 * j, 0]) (hoq : oq = ![C.hd.val, 0, 0]) (hos : os = ![C.hd.val, 0, 0]) (hx' : x' = bif b then x else some j)
    (hy' : y' = bif b then some j else y) (hI : Inv C σ x y n) : Inv C (qkAF b xk xq ok oq os hk hq σ) x' y' n := by
  subst hok hoq hos
  refine hI.setS hx' hy' fun j' hj r => ?_
  obtain rfl : j = j' := Option.some.inj hj
  have hlt : 512 * j + r.val < 8192 := by
    have h1 : 512 * j + 512 ≤ 8192 := hk 1
    have := r.isLt
    omega
  unfold qkAv
  refine Eq.trans (put_in (s := S2x512x1024) _ _ S1x512x1024.size _ _ (ix3 0 r C.q : S1x512x1024.Idx) ?_) ?_
  · exact all3 (by rfl) (Nat.zero_add _).symm (Nat.zero_add _).symm
  rw [pay3_at]
  refine Eq.trans ?_ (hS ⟨512 * j + r.val, hlt⟩)
  refine Finset.sum_congr rfl fun e _ => ?_
  rw [ld_in xk _ _ hk (ix3 0 r e) (ix3 C.hd ⟨512 * j + r.val, hlt⟩ e) (all3 (by rfl) (by rfl) (Nat.zero_add _).symm),
    ld_in xq _ _ hq (ix3 0 e C.q) (ix3 C.hd e C.q) (all3 (by rfl) (Nat.zero_add _).symm (Nat.zero_add _).symm)]

/-- Scores of the other head written. -/
theorem qkA_other {b : Bool} (h : ℕ) (hne : C.hd.val ≠ h) {xk : Vec Ideal S2x8192x256 .bf16} {xq : Vec Ideal S2x256x1024 .bf16} {ok oq os : Fin 3 → ℕ} {hk hq}
    (hos : os = ![h, 0, 0]) (hI : Inv C σ x y n) : Inv C (qkAF b xk xq ok oq os hk hq σ) x y n := by
  subst hos
  refine hI.setS (z := bif b then y else x) (by cases b <;> rfl) (by cases b <;> rfl) fun j hj r => ?_
  unfold qkAv
  refine Eq.trans (put_out (s := S2x512x1024) _ _ S1x512x1024.size _ _ 0 ?_) ?_
  · show ¬ (h ≤ C.hd.val ∧ C.hd.val < h + 1); omega
  exact hI.hold b j hj r

/-- Scores written that no one relies on. -/
theorem qkA_drop {b : Bool} {xk : Vec Ideal S2x8192x256 .bf16} {xq : Vec Ideal S2x256x1024 .bf16} {ok oq os : Fin 3 → ℕ} {hk hq}
    (hI : Inv C σ none none n) : Inv C (qkAF b xk xq ok oq os hk hq σ) none none n :=
  hI.setS (z := none) (by cases b <;> rfl) (by cases b <;> rfl) fun j hj => by cases hj

/-- Scores of the column's head written over a tile's second half, the column in it. -/
theorem qkL_same {b : Bool} (j : ℕ) {xk : Vec Ideal S2x8192x256 .bf16} {xq : Vec Ideal S2x256x1024 .bf16} (hS : Scores C xk xq) (hq5 : 512 ≤ C.q.val) {ok oq os : Fin 3 → ℕ} {hk hq}
    (hok : ok = ![C.hd.val, 512 * j, 0]) (hoq : oq = ![C.hd.val, 0, 512]) (hos : os = ![C.hd.val, 0, 512]) (hx' : x' = bif b then x else some j)
    (hy' : y' = bif b then some j else y) (hI : Inv C σ x y n) : Inv C (qkLF b xk xq ok oq os hk hq σ) x' y' n := by
  subst hok hoq hos
  refine hI.setS hx' hy' fun j' hj r => ?_
  obtain rfl : j = j' := Option.some.inj hj
  have hlt : 512 * j + r.val < 8192 := by
    have h1 : 512 * j + 512 ≤ 8192 := hk 1
    have := r.isLt
    omega
  have hql : C.q.val - 512 < 512 := by have := C.q.isLt; omega
  have hqe : C.q.val = 512 + (C.q.val - 512) := by omega
  unfold qkLv
  refine Eq.trans (put_in (s := S2x512x1024) _ _ S1x512x512.size _ _ (ix3 0 r ⟨C.q.val - 512, hql⟩ : S1x512x512.Idx) ?_) ?_
  · exact all3 (by rfl) (Nat.zero_add _).symm hqe
  rw [pay148_at]
  refine Eq.trans ?_ (hS ⟨512 * j + r.val, hlt⟩)
  refine Finset.sum_congr rfl fun e _ => ?_
  rw [ld_in xk _ _ hk (ix3 0 r e) (ix3 C.hd ⟨512 * j + r.val, hlt⟩ e) (all3 (by rfl) (by rfl) (Nat.zero_add _).symm),
    ld_in xq _ _ hq (ix3 0 e ⟨C.q.val - 512, hql⟩) (ix3 C.hd e C.q) (all3 (by rfl) (Nat.zero_add _).symm hqe)]

/-- Scores of the other head written over a tile's second half. -/
theorem qkL_other {b : Bool} (h : ℕ) (hne : C.hd.val ≠ h) {xk : Vec Ideal S2x8192x256 .bf16} {xq : Vec Ideal S2x256x1024 .bf16} {ok oq os : Fin 3 → ℕ} {hk hq}
    (hos : os = ![h, 0, 512]) (hI : Inv C σ x y n) : Inv C (qkLF b xk xq ok oq os hk hq σ) x y n := by
  subst hos
  refine hI.setS (z := bif b then y else x) (by cases b <;> rfl) (by cases b <;> rfl) fun j hj r => ?_
  unfold qkLv
  refine Eq.trans (put_out (s := S2x512x1024) _ _ S1x512x512.size _ _ 0 ?_) ?_
  · show ¬ (h ≤ C.hd.val ∧ C.hd.val < h + 1); omega
  exact hI.hold b j hj r

/-- Scores written over a tile's second half, the column in its first. -/
theorem qkL_half {b : Bool} (h : ℕ) (hq5 : C.q.val < 512) {xk : Vec Ideal S2x8192x256 .bf16} {xq : Vec Ideal S2x256x1024 .bf16} {ok oq os : Fin 3 → ℕ} {hk hq}
    (hos : os = ![h, 0, 512]) (hI : Inv C σ x y n) : Inv C (qkLF b xk xq ok oq os hk hq σ) x y n := by
  subst hos
  refine hI.setS (z := bif b then y else x) (by cases b <;> rfl) (by cases b <;> rfl) fun j hj r => ?_
  unfold qkLv
  refine Eq.trans (put_out (s := S2x512x1024) _ _ S1x512x512.size _ _ 2 ?_) ?_
  · show ¬ (512 ≤ C.q.val ∧ C.q.val < 512 + 512); omega
  exact hI.hold b j hj r

/-- Scores written over a tile's second half that no one relies on. -/
theorem qkL_drop {b : Bool} {xk : Vec Ideal S2x8192x256 .bf16} {xq : Vec Ideal S2x256x1024 .bf16} {ok oq os : Fin 3 → ℕ} {hk hq}
    (hI : Inv C σ none none n) : Inv C (qkLF b xk xq ok oq os hk hq σ) none none n :=
  hI.setS (z := none) (by cases b <;> rfl) (by cases b <;> rfl) fun j hj => by cases hj

/-- The running maximum and sums carried over a block of keys: what a step must have computed in the column. -/
theorem Inv.step (hI : Inv C σ x y n) (j : ℕ) (hn : n = 512 * j) (hn' : n' = 512 * (j + 1)) {σ' : St Ideal} (g u : Fin 144 → Fin 512 → EReal)
    (hg : ∀ d r, g d r = C.f (n + r.val)) (hu : ∀ d r, u d r = C.V d (n + r.val)) (hs : σ'.s = σ.s)
    (hm : σ'.m (ix4 C.sl C.hd 0 C.q) = max (σ.m (ix4 C.sl C.hd 0 C.q)) (Finset.fold max ⊥ (g 0) Finset.univ))
    (ha : ∀ d, σ'.a (ix4 C.sl C.hd d C.q) = Ideal.exp2 (σ.m (ix4 C.sl C.hd 0 C.q) - max (σ.m (ix4 C.sl C.hd 0 C.q)) (Finset.fold max ⊥ (g 0) Finset.univ)) * σ.a (ix4 C.sl C.hd d C.q)
      + ∑ r : Fin 512, u d r * Ideal.exp2 (g d r - max (σ.m (ix4 C.sl C.hd 0 C.q)) (Finset.fold max ⊥ (g 0) Finset.univ))) :
    Inv C σ' x y n' := by
  have e : n' = n + 512 := by omega
  have hmx : max (σ.m (ix4 C.sl C.hd 0 C.q)) (Finset.fold max ⊥ (g 0) Finset.univ) = mx C.f (n + 512) := by
    rw [hI.hm]
    exact mx_step C.f n 512 (g 0) (hg 0)
  subst e
  refine ⟨fun b k hk r => ?_, ?_, fun d => ?_⟩
  · rw [hs]; exact hI.hold b k hk r
  · rw [hm, hmx]
  · rw [ha, hmx, hI.hm, hI.ha]
    exact acc_step C.f (C.V d) (causal_zero _ _) (causal_top _ _) n 512 (by norm_num) (g d) (u d) (hg d) (hu d)

/-- A whole tile taken in the column's head and query block, every key of it at or before the column's position. -/
theorem smA_same {b : Bool} (j : ℕ) {xv : Vec Ideal S2x16x144x512 .bf16} (hV : Values C xv) {os : Fin 3 → ℕ} {om oa ov : Fin 4 → ℕ} {hs hm ha hv}
    (hos : os = ![C.hd.val, 0, 0]) (hom : om = ![C.sl.val, C.hd.val, 0, 0]) (hoa : oa = ![C.sl.val, C.hd.val, 0, 0]) (hov : ov = ![C.hd.val, j, 0, 0])
    (hb : (bif b then y else x) = some j) (hn : n = 512 * j) (hn' : n' = 512 * (j + 1)) (hQ : 512 * (j + 1) ≤ C.Q + 1) (hI : Inv C σ x y n) :
    Inv C (smAF b xv os om oa ov hs hm ha hv σ) x y n' := by
  subst hos hom hoa hov
  have hj : j < 16 := by
    have h1 : j + 1 ≤ 16 := hv 1
    omega
  have em : View.ld σ.m (Rect.unit (s := S2x2x1x1024) ![C.sl.val, C.hd.val, 0, 0] S1x1x1x1024.size hm) (ix4 0 0 0 C.q) = σ.m (ix4 C.sl C.hd 0 C.q) :=
    ld_in σ.m _ _ hm (ix4 0 0 0 C.q) (ix4 C.sl C.hd 0 C.q) (all4 (by rfl) (by rfl) (by rfl) (Nat.zero_add _).symm)
  have es : ∀ r : Fin 512, View.ld (σ.s b) (Rect.unit (s := S2x512x1024) ![C.hd.val, 0, 0] S1x512x1024.size hs) (ix3 0 r C.q) = σ.s b (ix3 C.hd r C.q) := fun r =>
    ld_in (σ.s b) _ _ hs (ix3 0 r C.q) (ix3 C.hd r C.q) (all3 (by rfl) (Nat.zero_add _).symm (Nat.zero_add _).symm)
  refine hI.step j hn hn' (fun _ r => σ.s b (ix3 C.hd r C.q)) (fun d r => xv (ix4 C.hd ⟨j, hj⟩ d r)) (fun d r => ?_) (fun d r => ?_) rfl ?_ (fun d => ?_)
  · rw [hI.hold b j hb r]
    unfold Col.f causal
    rw [if_pos (by have := r.isLt; omega), hn]
  · rw [hV ⟨j, hj⟩ d r, hn]
  · show smAm (σ.s b) σ.m _ _ hs hm _ = _
    unfold smAm
    refine Eq.trans (put_in (s := S2x2x1x1024) _ _ S1x1x1x1024.size _ _ (ix4 0 0 0 C.q : S1x1x1x1024.Idx) ?_) ?_
    · exact all4 (by rfl) (by rfl) (by rfl) (Nat.zero_add _).symm
    rw [pay10_at, pay6_at, em]
    simp only [es]
  · show smAa (σ.s b) σ.m σ.a xv _ _ _ _ hs hm ha hv _ = _
    unfold smAa
    refine Eq.trans (put_in (s := S2x2x144x1024) _ _ S1x1x144x1024.size _ _ (ix4 0 0 d C.q : S1x1x144x1024.Idx) ?_) ?_
    · exact all4 (by rfl) (by rfl) (Nat.zero_add _).symm (Nat.zero_add _).symm
    rw [pay9_at, pay6_at, em]
    simp only [es]
    rw [ld_in σ.a _ _ ha (ix4 0 0 d C.q) (ix4 C.sl C.hd d C.q) (all4 (by rfl) (by rfl) (Nat.zero_add _).symm (Nat.zero_add _).symm)]
    congr 1
    refine Finset.sum_congr rfl fun r _ => ?_
    rw [ld_in xv _ _ hv (ix4 0 0 d r) (ix4 C.hd ⟨j, hj⟩ d r) (all4 (by rfl) (by rfl) (Nat.zero_add _).symm (Nat.zero_add _).symm)]

/-- A tile taken in another head or query block. -/
theorem smA_other {b : Bool} (s' h' : ℕ) (hne : C.sl.val ≠ s' ∨ C.hd.val ≠ h') {xv : Vec Ideal S2x16x144x512 .bf16} {os : Fin 3 → ℕ} {om oa ov : Fin 4 → ℕ} {hs hm ha hv}
    (hom : om = ![s', h', 0, 0]) (hoa : oa = ![s', h', 0, 0]) (hI : Inv C σ x y n) : Inv C (smAF b xv os om oa ov hs hm ha hv σ) x y n := by
  subst hom hoa
  refine ⟨hI.hold, ?_, fun d => ?_⟩
  · show smAm (σ.s b) σ.m _ _ hs hm _ = _
    unfold smAm
    rcases hne with hne | hne
    · refine Eq.trans (put_out (s := S2x2x1x1024) _ _ S1x1x1x1024.size _ _ 0 ?_) (hI.hm)
      show ¬ (s' ≤ C.sl.val ∧ C.sl.val < s' + 1); omega
    · refine Eq.trans (put_out (s := S2x2x1x1024) _ _ S1x1x1x1024.size _ _ 1 ?_) (hI.hm)
      show ¬ (h' ≤ C.hd.val ∧ C.hd.val < h' + 1); omega
  · show smAa (σ.s b) σ.m σ.a xv _ _ _ _ hs hm ha hv _ = _
    unfold smAa
    rcases hne with hne | hne
    · refine Eq.trans (put_out (s := S2x2x144x1024) _ _ S1x1x144x1024.size _ _ 0 ?_) (hI.ha d)
      show ¬ (s' ≤ C.sl.val ∧ C.sl.val < s' + 1); omega
    · refine Eq.trans (put_out (s := S2x2x144x1024) _ _ S1x1x144x1024.size _ _ 1 ?_) (hI.ha d)
      show ¬ (h' ≤ C.hd.val ∧ C.hd.val < h' + 1); omega

/-- Half a tile taken, its columns starting at `lo`, in the column's head and query block and the column in it: any payload that gives
    the column its scores with the keys after its position at −∞. -/
theorem smH_same {b : Bool} (j lo : ℕ) {g : Vec Ideal S1x512x512 .f32 → FVec Ideal S512x512 .f32} {xv : Vec Ideal S2x16x144x512 .bf16} (hV : Values C xv)
    {os : Fin 3 → ℕ} {om oa ov : Fin 4 → ℕ} {hs hm ha hv} (hlo : lo ≤ C.q.val) (hhi : C.q.val < lo + 512)
    (hos : os = ![C.hd.val, 0, lo]) (hom : om = ![C.sl.val, C.hd.val, 0, lo]) (hoa : oa = ![C.sl.val, C.hd.val, 0, lo]) (hov : ov = ![C.hd.val, j, 0, 0])
    (hb : (bif b then y else x) = some j) (hn : n = 512 * j) (hn' : n' = 512 * (j + 1))
    (hg : ∀ (X : Vec Ideal S1x512x512 .f32) (r : Fin 512) (p : Fin 512), lo + p.val = C.q.val → X (ix3 0 r p) = (C.s (512 * j + r.val) : EReal) →
      g X (ix2 r p) = C.f (512 * j + r.val)) (hI : Inv C σ x y n) :
    Inv C (smHF g b xv os om oa ov hs hm ha hv σ) x y n' := by
  subst hos hom hoa hov
  have hj : j < 16 := by
    have h1 : j + 1 ≤ 16 := hv 1
    omega
  have hp : C.q.val - lo < 512 := by omega
  have hqe : C.q.val = lo + (C.q.val - lo) := by omega
  have em : View.ld σ.m (Rect.unit (s := S2x2x1x1024) ![C.sl.val, C.hd.val, 0, lo] S1x1x1x512.size hm) (ix4 0 0 0 ⟨C.q.val - lo, hp⟩) = σ.m (ix4 C.sl C.hd 0 C.q) :=
    ld_in σ.m _ _ hm (ix4 0 0 0 ⟨C.q.val - lo, hp⟩) (ix4 C.sl C.hd 0 C.q) (all4 (by rfl) (by rfl) (by rfl) hqe)
  have es : ∀ r : Fin 512, View.ld (σ.s b) (Rect.unit (s := S2x512x1024) ![C.hd.val, 0, lo] S1x512x512.size hs) (ix3 0 r ⟨C.q.val - lo, hp⟩) = (C.s (512 * j + r.val) : EReal) := fun r =>
    (ld_in (σ.s b) _ _ hs (ix3 0 r ⟨C.q.val - lo, hp⟩) (ix3 C.hd r C.q) (all3 (by rfl) (Nat.zero_add _).symm hqe)).trans (hI.hold b j hb r)
  have eg : ∀ r : Fin 512, g (View.ld (σ.s b) (Rect.unit (s := S2x512x1024) ![C.hd.val, 0, lo] S1x512x512.size hs)) (ix2 r ⟨C.q.val - lo, hp⟩) = C.f (512 * j + r.val) := fun r =>
    hg _ r ⟨C.q.val - lo, hp⟩ hqe.symm (es r)
  refine hI.step j hn hn' (fun _ r => C.f (512 * j + r.val)) (fun d r => xv (ix4 C.hd ⟨j, hj⟩ d r)) (fun d r => ?_) (fun d r => ?_) rfl ?_ (fun d => ?_)
  · rw [hn]
  · rw [hV ⟨j, hj⟩ d r, hn]
  · show smHm g (σ.s b) σ.m _ _ hs hm _ = _
    unfold smHm
    refine Eq.trans (put_in (s := S2x2x1x1024) _ _ S1x1x1x512.size _ _ (ix4 0 0 0 ⟨C.q.val - lo, hp⟩ : S1x1x1x512.Idx) ?_) ?_
    · exact all4 (by rfl) (by rfl) (by rfl) hqe
    rw [pay153_at, pay151_at, em]
    simp only [eg]
  · show smHa g (σ.s b) σ.m σ.a xv _ _ _ _ hs hm ha hv _ = _
    unfold smHa
    refine Eq.trans (put_in (s := S2x2x144x1024) _ _ S1x1x144x512.size _ _ (ix4 0 0 d ⟨C.q.val - lo, hp⟩ : S1x1x144x512.Idx) ?_) ?_
    · exact all4 (by rfl) (by rfl) (Nat.zero_add _).symm hqe
    rw [pay152_at, pay151_at, em]
    simp only [eg]
    rw [ld_in σ.a _ _ ha (ix4 0 0 d ⟨C.q.val - lo, hp⟩) (ix4 C.sl C.hd d C.q) (all4 (by rfl) (by rfl) (Nat.zero_add _).symm hqe)]
    congr 1
    refine Finset.sum_congr rfl fun r _ => ?_
    rw [ld_in xv _ _ hv (ix4 0 0 d r) (ix4 C.hd ⟨j, hj⟩ d r) (all4 (by rfl) (by rfl) (Nat.zero_add _).symm (Nat.zero_add _).symm)]

/-- Half a tile taken in the column's half, on the diagonal. -/
theorem smH_mask {b : Bool} (j lo : ℕ) {xv : Vec Ideal S2x16x144x512 .bf16} (hV : Values C xv)
    {os : Fin 3 → ℕ} {om oa ov : Fin 4 → ℕ} {hs hm ha hv} (hlo : lo ≤ C.q.val) (hhi : C.q.val < lo + 512)
    (hos : os = ![C.hd.val, 0, lo]) (hom : om = ![C.sl.val, C.hd.val, 0, lo]) (hoa : oa = ![C.sl.val, C.hd.val, 0, lo]) (hov : ov = ![C.hd.val, j, 0, 0])
    (hb : (bif b then y else x) = some j) (hn : n = 512 * j) (hn' : n' = 512 * (j + 1)) (hQ : 512 * j + C.q.val = C.Q + lo) (hI : Inv C σ x y n) :
    Inv C (smHF k0_pay149 b xv os om oa ov hs hm ha hv σ) x y n' :=
  smH_same j lo hV hlo hhi hos hom hoa hov hb hn hn' (fun X r p hp hX => by
    rw [pay149_at, hX]
    unfold Col.f causal
    by_cases h : r.val ≤ p.val
    · rw [if_pos h, if_pos (by omega)]
    · rw [if_neg h, if_neg (by omega)]) hI

/-- Half a tile taken in the column's half, before the diagonal. -/
theorem smH_full {b : Bool} (j lo : ℕ) {xv : Vec Ideal S2x16x144x512 .bf16} (hV : Values C xv)
    {os : Fin 3 → ℕ} {om oa ov : Fin 4 → ℕ} {hs hm ha hv} (hlo : lo ≤ C.q.val) (hhi : C.q.val < lo + 512)
    (hos : os = ![C.hd.val, 0, lo]) (hom : om = ![C.sl.val, C.hd.val, 0, lo]) (hoa : oa = ![C.sl.val, C.hd.val, 0, lo]) (hov : ov = ![C.hd.val, j, 0, 0])
    (hb : (bif b then y else x) = some j) (hn : n = 512 * j) (hn' : n' = 512 * (j + 1)) (hQ : 512 * (j + 1) ≤ C.Q + 1) (hI : Inv C σ x y n) :
    Inv C (smHF k0_pay154 b xv os om oa ov hs hm ha hv σ) x y n' :=
  smH_same j lo hV hlo hhi hos hom hoa hov hb hn hn' (fun X r p hp hX => by
    rw [pay154_at, hX]
    unfold Col.f causal
    rw [if_pos (by have := r.isLt; omega)]) hI

/-- Half a tile taken in another head, query block or half. -/
theorem smH_other {b : Bool} (s' h' lo : ℕ) (hne : (C.sl.val ≠ s' ∨ C.hd.val ≠ h') ∨ ¬ (lo ≤ C.q.val ∧ C.q.val < lo + 512)) {g : Vec Ideal S1x512x512 .f32 → FVec Ideal S512x512 .f32}
    {xv : Vec Ideal S2x16x144x512 .bf16} {os : Fin 3 → ℕ} {om oa ov : Fin 4 → ℕ} {hs hm ha hv}
    (hom : om = ![s', h', 0, lo]) (hoa : oa = ![s', h', 0, lo]) (hI : Inv C σ x y n) : Inv C (smHF g b xv os om oa ov hs hm ha hv σ) x y n := by
  subst hom hoa
  refine ⟨hI.hold, ?_, fun d => ?_⟩
  · show smHm g (σ.s b) σ.m _ _ hs hm _ = _
    unfold smHm
    rcases hne with (hne | hne) | hne
    · refine Eq.trans (put_out (s := S2x2x1x1024) _ _ S1x1x1x512.size _ _ 0 ?_) (hI.hm)
      show ¬ (s' ≤ C.sl.val ∧ C.sl.val < s' + 1); omega
    · refine Eq.trans (put_out (s := S2x2x1x1024) _ _ S1x1x1x512.size _ _ 1 ?_) (hI.hm)
      show ¬ (h' ≤ C.hd.val ∧ C.hd.val < h' + 1); omega
    · exact Eq.trans (put_out (s := S2x2x1x1024) _ _ S1x1x1x512.size _ _ 3 hne) (hI.hm)
  · show smHa g (σ.s b) σ.m σ.a xv _ _ _ _ hs hm ha hv _ = _
    unfold smHa
    rcases hne with (hne | hne) | hne
    · refine Eq.trans (put_out (s := S2x2x144x1024) _ _ S1x1x144x512.size _ _ 0 ?_) (hI.ha d)
      show ¬ (s' ≤ C.sl.val ∧ C.sl.val < s' + 1); omega
    · refine Eq.trans (put_out (s := S2x2x144x1024) _ _ S1x1x144x512.size _ _ 1 ?_) (hI.ha d)
      show ¬ (h' ≤ C.hd.val ∧ C.hd.val < h' + 1); omega
    · exact Eq.trans (put_out (s := S2x2x144x1024) _ _ S1x1x144x512.size _ _ 3 hne) (hI.ha d)

/-- Rows stored into the output leave the column. -/
theorem out_keep {oa : Fin 4 → ℕ} {oo : Fin 3 → ℕ} {ha} (hI : Inv C σ x y n) : Inv C (outUF oa oo ha σ) x y n := ⟨hI.hold, hI.hm, hI.ha⟩

/-- The output's row of the column holds the quotient of its sums over the first `n` keys. -/
def Done (C : Col) (σ : St Ideal) (n : ℕ) : Prop :=
  ∀ d : Fin 128, σ.o (ix3 C.sl C.q ⟨128 * C.hd.val + d.val, by have := C.hd.isLt; have := d.isLt; omega⟩) = Ideal.div (acc C.f (C.V ⟨d.val, by have := d.isLt; omega⟩) n) (acc C.f (C.V 128) n)

/-- The column's rows stored. -/
theorem out_same {oa : Fin 4 → ℕ} {oo : Fin 3 → ℕ} {ha} (hoa : oa = ![C.sl.val, C.hd.val, 0, 0]) (hoo : oo = ![C.sl.val, 0, 128 * C.hd.val]) (hI : Inv C σ x y n) :
    Done C (outUF oa oo ha σ) n := by
  subst hoa hoo
  intro d
  show outUo σ.a σ.o _ _ ha _ = _
  unfold outUo
  refine Eq.trans (put_in (s := S2x1024x256) _ _ S1x1024x128.size _ _ (ix3 0 C.q d : S1x1024x128.Idx) ?_) ?_
  · exact all3 (by rfl) (Nat.zero_add _).symm (by rfl)
  rw [pay2_at]
  rw [ld_in σ.a _ _ ha (ix4 0 0 ⟨d.val, _⟩ C.q) (ix4 C.sl C.hd ⟨d.val, by have := d.isLt; omega⟩ C.q) (all4 (by rfl) (by rfl) (Nat.zero_add _).symm (Nat.zero_add _).symm),
    ld_in σ.a _ _ ha (ix4 0 0 128 C.q) (ix4 C.sl C.hd 128 C.q) (all4 (by rfl) (by rfl) (Nat.zero_add _).symm (Nat.zero_add _).symm), hI.ha, hI.ha]

/-- Rows of the other head stored. -/
theorem done_other {oa : Fin 4 → ℕ} {oo : Fin 3 → ℕ} {ha} (s' h' : ℕ) (hne : C.sl.val ≠ s' ∨ C.hd.val ≠ h') (hoo : oo = ![s', 0, 128 * h']) (hI : Done C σ n) :
    Done C (outUF oa oo ha σ) n := by
  subst hoo
  intro d
  show outUo σ.a σ.o _ _ ha _ = _
  unfold outUo
  have hd := d.isLt
  rcases hne with hne | hne
  · refine Eq.trans (put_out (s := S2x1024x256) _ _ S1x1024x128.size _ _ 0 ?_) (hI d)
    show ¬ (s' ≤ C.sl.val ∧ C.sl.val < s' + 1); omega
  · refine Eq.trans (put_out (s := S2x1024x256) _ _ S1x1024x128.size _ _ 2 ?_) (hI d)
    show ¬ (128 * h' ≤ 128 * C.hd.val + d.val ∧ 128 * C.hd.val + d.val < 128 * h' + 128); omega

/-- A step that leaves the output leaves the rows stored. -/
theorem done_keep {σ' : St Ideal} (h : σ'.o = σ.o) (hI : Done C σ n) : Done C σ' n := fun d => by rw [h]; exact hI d

/-- The first contents: no key taken. -/
theorem inv_ini : Inv C (iniAF (iniMF σ)) none none 0 := by
  refine ⟨fun b j hj => (by cases b <;> cases hj), ?_, fun d => ?_⟩
  · show put σ.m _ _ _ _ = _
    refine Eq.trans (put_in (s := S2x2x1x1024) _ _ S2x2x1x1024.size _ _ (ix4 C.sl C.hd 0 C.q : S2x2x1x1024.Idx) ?_) ?_
    · exact all4 (Nat.zero_add _).symm (Nat.zero_add _).symm (Nat.zero_add _).symm (Nat.zero_add _).symm
    rw [pay441_at]
    rfl
  · show put σ.a _ _ _ _ = _
    refine Eq.trans (put_in (s := S2x2x144x1024) _ _ S2x2x144x1024.size _ _ (ix4 C.sl C.hd d C.q : S2x2x144x1024.Idx) ?_) ?_
    · exact all4 (Nat.zero_add _).symm (Nat.zero_add _).symm (Nat.zero_add _).symm (Nat.zero_add _).symm
    rw [pay442_at]
    rfl

end Cert.Kernel4Ideal.Attn

end
-- ==== Proof.AttnOff.lean ====
/- Where the attention kernel reads keys and values: each offset as a tile number. -/
module

public import proofs.«01_k».proof.Proof.AttnBody

@[expose] public section

set_option maxRecDepth 16384

noncomputable section

namespace Cert.Kernel4Ideal.Attn

open Idealize.ShloMosaic Idealize.ShloMosaic.TcCoe Idealize.ShloMosaic.Tactic
open Cert.Kernel4Ideal Cert.Kernel4Ideal.Gen

/-- Tile 4 * u.val + 1 of head 0, its keys, in trip `u` of loop t1. -/
theorem off1_1_eq : ∀ t : Fin cfg0.N, ∀ u : Fin (k0_t1_loop (grid0.coords t)).trips, k0_off1 (grid0.coords t) u 1#32 = ![0, 512 * (4 * u.val + 1), 0] := by decide +kernel

/-- Tile 4 * u.val + 2 of head 0, its keys, in trip `u` of loop t1. -/
theorem off1_2_eq : ∀ t : Fin cfg0.N, ∀ u : Fin (k0_t1_loop (grid0.coords t)).trips, k0_off1 (grid0.coords t) u 2#32 = ![0, 512 * (4 * u.val + 2), 0] := by decide +kernel

/-- Tile 4 * u.val of head 0, its values, in trip `u` of loop t1. -/
theorem off2_eq : ∀ t : Fin cfg0.N, ∀ u : Fin (k0_t1_loop (grid0.coords t)).trips, k0_off2 (grid0.coords t) u = ![0, 4 * u.val, 0, 0] := by decide +kernel

/-- Tile 4 * u.val + 1 of head 1, its keys, in trip `u` of loop t1. -/
theorem off3_1_eq : ∀ t : Fin cfg0.N, ∀ u : Fin (k0_t1_loop (grid0.coords t)).trips, k0_off3 (grid0.coords t) u 1#32 = ![1, 512 * (4 * u.val + 1), 0] := by decide +kernel

/-- Tile 4 * u.val + 2 of head 1, its keys, in trip `u` of loop t1. -/
theorem off3_2_eq : ∀ t : Fin cfg0.N, ∀ u : Fin (k0_t1_loop (grid0.coords t)).trips, k0_off3 (grid0.coords t) u 2#32 = ![1, 512 * (4 * u.val + 2), 0] := by decide +kernel

/-- Tile 4 * u.val of head 1, its values, in trip `u` of loop t1. -/
theorem off4_eq : ∀ t : Fin cfg0.N, ∀ u : Fin (k0_t1_loop (grid0.coords t)).trips, k0_off4 (grid0.coords t) u = ![1, 4 * u.val, 0, 0] := by decide +kernel

/-- Tile 4 * u.val + 1 of head 0, its values, in trip `u` of loop t1. -/
theorem off5_1_eq : ∀ t : Fin cfg0.N, ∀ u : Fin (k0_t1_loop (grid0.coords t)).trips, k0_off5 (grid0.coords t) u 1#32 = ![0, 4 * u.val + 1, 0, 0] := by decide +kernel

/-- Tile 4 * u.val + 2 of head 0, its values, in trip `u` of loop t1. -/
theorem off5_2_eq : ∀ t : Fin cfg0.N, ∀ u : Fin (k0_t1_loop (grid0.coords t)).trips, k0_off5 (grid0.coords t) u 2#32 = ![0, 4 * u.val + 2, 0, 0] := by decide +kernel

/-- Tile 4 * u.val + 1 of head 1, its values, in trip `u` of loop t1. -/
theorem off6_1_eq : ∀ t : Fin cfg0.N, ∀ u : Fin (k0_t1_loop (grid0.coords t)).trips, k0_off6 (grid0.coords t) u 1#32 = ![1, 4 * u.val + 1, 0, 0] := by decide +kernel

/-- Tile 4 * u.val + 2 of head 1, its values, in trip `u` of loop t1. -/
theorem off6_2_eq : ∀ t : Fin cfg0.N, ∀ u : Fin (k0_t1_loop (grid0.coords t)).trips, k0_off6 (grid0.coords t) u 2#32 = ![1, 4 * u.val + 2, 0, 0] := by decide +kernel

/-- Tile 4 * u.val + 3 of head 0, its keys, in trip `u` of loop t1. -/
theorem off7_1_eq : ∀ t : Fin cfg0.N, ∀ u : Fin (k0_t1_loop (grid0.coords t)).trips, k0_off7 (grid0.coords t) u 1#32 = ![0, 512 * (4 * u.val + 3), 0] := by decide +kernel

/-- Tile 4 * u.val + 4 of head 0, its keys, in trip `u` of loop t1. -/
theorem off7_2_eq : ∀ t : Fin cfg0.N, ∀ u : Fin (k0_t1_loop (grid0.coords t)).trips, k0_off7 (grid0.coords t) u 2#32 = ![0, 512 * (4 * u.val + 4), 0] := by decide +kernel

/-- Tile 4 * u.val + 3 of head 1, its keys, in trip `u` of loop t1. -/
theorem off8_1_eq : ∀ t : Fin cfg0.N, ∀ u : Fin (k0_t1_loop (grid0.coords t)).trips, k0_off8 (grid0.coords t) u 1#32 = ![1, 512 * (4 * u.val + 3), 0] := by decide +kernel

/-- Tile 4 * u.val + 4 of head 1, its keys, in trip `u` of loop t1. -/
theorem off8_2_eq : ∀ t : Fin cfg0.N, ∀ u : Fin (k0_t1_loop (grid0.coords t)).trips, k0_off8 (grid0.coords t) u 2#32 = ![1, 512 * (4 * u.val + 4), 0] := by decide +kernel

/-- Tile 4 * u.val + 3 of head 0, its values, in trip `u` of loop t1. -/
theorem off9_eq : ∀ t : Fin cfg0.N, ∀ u : Fin (k0_t1_loop (grid0.coords t)).trips, k0_off9 (grid0.coords t) u = ![0, 4 * u.val + 3, 0, 0] := by decide +kernel

/-- Tile 4 * u.val + 3 of head 1, its values, in trip `u` of loop t1. -/
theorem off10_eq : ∀ t : Fin cfg0.N, ∀ u : Fin (k0_t1_loop (grid0.coords t)).trips, k0_off10 (grid0.coords t) u = ![1, 4 * u.val + 3, 0, 0] := by decide +kernel

/-- Tile 4 * u.val + 1 of head 0, its keys, in trip `u` of loop t3. -/
theorem off39_1_eq : ∀ t : Fin cfg0.N, ∀ u : Fin (k0_t3_loop (grid0.coords t)).trips, k0_off39 (grid0.coords t) u 1#32 = ![0, 512 * (4 * u.val + 1), 0] := by decide +kernel

/-- Tile 4 * u.val + 2 of head 0, its keys, in trip `u` of loop t3. -/
theorem off39_2_eq : ∀ t : Fin cfg0.N, ∀ u : Fin (k0_t3_loop (grid0.coords t)).trips, k0_off39 (grid0.coords t) u 2#32 = ![0, 512 * (4 * u.val + 2), 0] := by decide +kernel

/-- Tile 4 * u.val of head 0, its values, in trip `u` of loop t3. -/
theorem off40_eq : ∀ t : Fin cfg0.N, ∀ u : Fin (k0_t3_loop (grid0.coords t)).trips, k0_off40 (grid0.coords t) u = ![0, 4 * u.val, 0, 0] := by decide +kernel

/-- Tile 4 * u.val + 1 of head 1, its keys, in trip `u` of loop t3. -/
theorem off41_1_eq : ∀ t : Fin cfg0.N, ∀ u : Fin (k0_t3_loop (grid0.coords t)).trips, k0_off41 (grid0.coords t) u 1#32 = ![1, 512 * (4 * u.val + 1), 0] := by decide +kernel

/-- Tile 4 * u.val + 2 of head 1, its keys, in trip `u` of loop t3. -/
theorem off41_2_eq : ∀ t : Fin cfg0.N, ∀ u : Fin (k0_t3_loop (grid0.coords t)).trips, k0_off41 (grid0.coords t) u 2#32 = ![1, 512 * (4 * u.val + 2), 0] := by decide +kernel

/-- Tile 4 * u.val of head 1, its values, in trip `u` of loop t3. -/
theorem off42_eq : ∀ t : Fin cfg0.N, ∀ u : Fin (k0_t3_loop (grid0.coords t)).trips, k0_off42 (grid0.coords t) u = ![1, 4 * u.val, 0, 0] := by decide +kernel

/-- Tile 4 * u.val + 1 of head 0, its values, in trip `u` of loop t3. -/
theorem off43_1_eq : ∀ t : Fin cfg0.N, ∀ u : Fin (k0_t3_loop (grid0.coords t)).trips, k0_off43 (grid0.coords t) u 1#32 = ![0, 4 * u.val + 1, 0, 0] := by decide +kernel

/-- Tile 4 * u.val + 2 of head 0, its values, in trip `u` of loop t3. -/
theorem off43_2_eq : ∀ t : Fin cfg0.N, ∀ u : Fin (k0_t3_loop (grid0.coords t)).trips, k0_off43 (grid0.coords t) u 2#32 = ![0, 4 * u.val + 2, 0, 0] := by decide +kernel

/-- Tile 4 * u.val + 1 of head 1, its values, in trip `u` of loop t3. -/
theorem off44_1_eq : ∀ t : Fin cfg0.N, ∀ u : Fin (k0_t3_loop (grid0.coords t)).trips, k0_off44 (grid0.coords t) u 1#32 = ![1, 4 * u.val + 1, 0, 0] := by decide +kernel

/-- Tile 4 * u.val + 2 of head 1, its values, in trip `u` of loop t3. -/
theorem off44_2_eq : ∀ t : Fin cfg0.N, ∀ u : Fin (k0_t3_loop (grid0.coords t)).trips, k0_off44 (grid0.coords t) u 2#32 = ![1, 4 * u.val + 2, 0, 0] := by decide +kernel

/-- Tile 4 * u.val + 3 of head 0, its keys, in trip `u` of loop t3. -/
theorem off45_1_eq : ∀ t : Fin cfg0.N, ∀ u : Fin (k0_t3_loop (grid0.coords t)).trips, k0_off45 (grid0.coords t) u 1#32 = ![0, 512 * (4 * u.val + 3), 0] := by decide +kernel

/-- Tile 4 * u.val + 4 of head 0, its keys, in trip `u` of loop t3. -/
theorem off45_2_eq : ∀ t : Fin cfg0.N, ∀ u : Fin (k0_t3_loop (grid0.coords t)).trips, k0_off45 (grid0.coords t) u 2#32 = ![0, 512 * (4 * u.val + 4), 0] := by decide +kernel

/-- Tile 4 * u.val + 3 of head 1, its keys, in trip `u` of loop t3. -/
theorem off46_1_eq : ∀ t : Fin cfg0.N, ∀ u : Fin (k0_t3_loop (grid0.coords t)).trips, k0_off46 (grid0.coords t) u 1#32 = ![1, 512 * (4 * u.val + 3), 0] := by decide +kernel

/-- Tile 4 * u.val + 4 of head 1, its keys, in trip `u` of loop t3. -/
theorem off46_2_eq : ∀ t : Fin cfg0.N, ∀ u : Fin (k0_t3_loop (grid0.coords t)).trips, k0_off46 (grid0.coords t) u 2#32 = ![1, 512 * (4 * u.val + 4), 0] := by decide +kernel

/-- Tile 4 * u.val + 3 of head 0, its values, in trip `u` of loop t3. -/
theorem off47_eq : ∀ t : Fin cfg0.N, ∀ u : Fin (k0_t3_loop (grid0.coords t)).trips, k0_off47 (grid0.coords t) u = ![0, 4 * u.val + 3, 0, 0] := by decide +kernel

/-- Tile 4 * u.val + 3 of head 1, its values, in trip `u` of loop t3. -/
theorem off48_eq : ∀ t : Fin cfg0.N, ∀ u : Fin (k0_t3_loop (grid0.coords t)).trips, k0_off48 (grid0.coords t) u = ![1, 4 * u.val + 3, 0, 0] := by decide +kernel

/-- Tile (2 * (t.val % 4)) - 1 of head 0, its keys, in branch 1. -/
theorem off21_1_eq : ∀ t : Fin cfg0.N, k0_cond1 (grid0.coords t) = 1#1 → k0_off21 (grid0.coords t) 1#32 = ![0, 512 * ((2 * (t.val % 4)) - 1), 0] := by decide +kernel

/-- Tile (2 * (t.val % 4)) - 2 of head 0, its values, in branch 1. -/
theorem off22_eq : ∀ t : Fin cfg0.N, k0_cond1 (grid0.coords t) = 1#1 → k0_off22 (grid0.coords t) = ![0, (2 * (t.val % 4)) - 2, 0, 0] := by decide +kernel

/-- Tile (2 * (t.val % 4)) - 1 of head 1, its keys, in branch 1. -/
theorem off23_1_eq : ∀ t : Fin cfg0.N, k0_cond1 (grid0.coords t) = 1#1 → k0_off23 (grid0.coords t) 1#32 = ![1, 512 * ((2 * (t.val % 4)) - 1), 0] := by decide +kernel

/-- Tile (2 * (t.val % 4)) - 2 of head 1, its values, in branch 1. -/
theorem off24_eq : ∀ t : Fin cfg0.N, k0_cond1 (grid0.coords t) = 1#1 → k0_off24 (grid0.coords t) = ![1, (2 * (t.val % 4)) - 2, 0, 0] := by decide +kernel

/-- Tile (2 * (t.val % 4)) of head 0, its keys, in branch 1. -/
theorem off21_2_eq : ∀ t : Fin cfg0.N, k0_cond1 (grid0.coords t) = 1#1 → k0_off21 (grid0.coords t) 2#32 = ![0, 512 * ((2 * (t.val % 4))), 0] := by decide +kernel

/-- Tile (2 * (t.val % 4)) - 1 of head 0, its values, in branch 1. -/
theorem off25_eq : ∀ t : Fin cfg0.N, k0_cond1 (grid0.coords t) = 1#1 → k0_off25 (grid0.coords t) = ![0, (2 * (t.val % 4)) - 1, 0, 0] := by decide +kernel

/-- Tile (2 * (t.val % 4)) of head 1, its keys, in branch 1. -/
theorem off23_2_eq : ∀ t : Fin cfg0.N, k0_cond1 (grid0.coords t) = 1#1 → k0_off23 (grid0.coords t) 2#32 = ![1, 512 * ((2 * (t.val % 4))), 0] := by decide +kernel

/-- Tile (2 * (t.val % 4)) - 1 of head 1, its values, in branch 1. -/
theorem off26_eq : ∀ t : Fin cfg0.N, k0_cond1 (grid0.coords t) = 1#1 → k0_off26 (grid0.coords t) = ![1, (2 * (t.val % 4)) - 1, 0, 0] := by decide +kernel

/-- Tile (2 * (t.val % 4)) + 1 of head 0, its keys, in branch 1. -/
theorem off27_eq : ∀ t : Fin cfg0.N, k0_cond1 (grid0.coords t) = 1#1 → k0_off27 (grid0.coords t) = ![0, 512 * ((2 * (t.val % 4)) + 1), 0] := by decide +kernel

/-- Tile (2 * (t.val % 4)) of head 0, its values, in branch 1. -/
theorem off28_eq : ∀ t : Fin cfg0.N, k0_cond1 (grid0.coords t) = 1#1 → k0_off28 (grid0.coords t) = ![0, (2 * (t.val % 4)), 0, 0] := by decide +kernel

/-- Tile (2 * (t.val % 4)) + 1 of head 1, its keys, in branch 1. -/
theorem off29_eq : ∀ t : Fin cfg0.N, k0_cond1 (grid0.coords t) = 1#1 → k0_off29 (grid0.coords t) = ![1, 512 * ((2 * (t.val % 4)) + 1), 0] := by decide +kernel

/-- Tile (2 * (t.val % 4)) of head 1, its values, in branch 1. -/
theorem off30_eq : ∀ t : Fin cfg0.N, k0_cond1 (grid0.coords t) = 1#1 → k0_off30 (grid0.coords t) = ![1, (2 * (t.val % 4)), 0, 0] := by decide +kernel

/-- Tile (2 * (t.val % 4)) + 1 of head 0, its values, in branch 1. -/
theorem off31_eq : ∀ t : Fin cfg0.N, k0_cond1 (grid0.coords t) = 1#1 → k0_off31 (grid0.coords t) = ![0, (2 * (t.val % 4)) + 1, 0, 0] := by decide +kernel

/-- Tile (2 * (t.val % 4)) + 1 of head 1, its values, in branch 1. -/
theorem off32_eq : ∀ t : Fin cfg0.N, k0_cond1 (grid0.coords t) = 1#1 → k0_off32 (grid0.coords t) = ![1, (2 * (t.val % 4)) + 1, 0, 0] := by decide +kernel

/-- Tile (2 * (t.val % 4)) + 1 of head 0, its keys, in branch 2. -/
theorem off33_eq : ∀ t : Fin cfg0.N, k0_cond2 (grid0.coords t) = 1#1 → k0_off33 (grid0.coords t) = ![0, 512 * ((2 * (t.val % 4)) + 1), 0] := by decide +kernel

/-- Tile (2 * (t.val % 4)) of head 0, its values, in branch 2. -/
theorem off34_eq : ∀ t : Fin cfg0.N, k0_cond2 (grid0.coords t) = 1#1 → k0_off34 (grid0.coords t) = ![0, (2 * (t.val % 4)), 0, 0] := by decide +kernel

/-- Tile (2 * (t.val % 4)) + 1 of head 1, its keys, in branch 2. -/
theorem off35_eq : ∀ t : Fin cfg0.N, k0_cond2 (grid0.coords t) = 1#1 → k0_off35 (grid0.coords t) = ![1, 512 * ((2 * (t.val % 4)) + 1), 0] := by decide +kernel

/-- Tile (2 * (t.val % 4)) of head 1, its values, in branch 2. -/
theorem off36_eq : ∀ t : Fin cfg0.N, k0_cond2 (grid0.coords t) = 1#1 → k0_off36 (grid0.coords t) = ![1, (2 * (t.val % 4)), 0, 0] := by decide +kernel

/-- Tile (2 * (t.val % 4)) + 1 of head 0, its values, in branch 2. -/
theorem off37_eq : ∀ t : Fin cfg0.N, k0_cond2 (grid0.coords t) = 1#1 → k0_off37 (grid0.coords t) = ![0, (2 * (t.val % 4)) + 1, 0, 0] := by decide +kernel

/-- Tile (2 * (t.val % 4)) + 1 of head 1, its values, in branch 2. -/
theorem off38_eq : ∀ t : Fin cfg0.N, k0_cond2 (grid0.coords t) = 1#1 → k0_off38 (grid0.coords t) = ![1, (2 * (t.val % 4)) + 1, 0, 0] := by decide +kernel

/-- Tile (2 * (t.val % 4 + 4)) - 1 of head 0, its keys, in branch 3. -/
theorem off59_1_eq : ∀ t : Fin cfg0.N, k0_cond3 (grid0.coords t) = 1#1 → k0_off59 (grid0.coords t) 1#32 = ![0, 512 * ((2 * (t.val % 4 + 4)) - 1), 0] := by decide +kernel

/-- Tile (2 * (t.val % 4 + 4)) - 2 of head 0, its values, in branch 3. -/
theorem off60_eq : ∀ t : Fin cfg0.N, k0_cond3 (grid0.coords t) = 1#1 → k0_off60 (grid0.coords t) = ![0, (2 * (t.val % 4 + 4)) - 2, 0, 0] := by decide +kernel

/-- Tile (2 * (t.val % 4 + 4)) - 1 of head 1, its keys, in branch 3. -/
theorem off61_1_eq : ∀ t : Fin cfg0.N, k0_cond3 (grid0.coords t) = 1#1 → k0_off61 (grid0.coords t) 1#32 = ![1, 512 * ((2 * (t.val % 4 + 4)) - 1), 0] := by decide +kernel

/-- Tile (2 * (t.val % 4 + 4)) - 2 of head 1, its values, in branch 3. -/
theorem off62_eq : ∀ t : Fin cfg0.N, k0_cond3 (grid0.coords t) = 1#1 → k0_off62 (grid0.coords t) = ![1, (2 * (t.val % 4 + 4)) - 2, 0, 0] := by decide +kernel

/-- Tile (2 * (t.val % 4 + 4)) of head 0, its keys, in branch 3. -/
theorem off59_2_eq : ∀ t : Fin cfg0.N, k0_cond3 (grid0.coords t) = 1#1 → k0_off59 (grid0.coords t) 2#32 = ![0, 512 * ((2 * (t.val % 4 + 4))), 0] := by decide +kernel

/-- Tile (2 * (t.val % 4 + 4)) - 1 of head 0, its values, in branch 3. -/
theorem off63_eq : ∀ t : Fin cfg0.N, k0_cond3 (grid0.coords t) = 1#1 → k0_off63 (grid0.coords t) = ![0, (2 * (t.val % 4 + 4)) - 1, 0, 0] := by decide +kernel

/-- Tile (2 * (t.val % 4 + 4)) of head 1, its keys, in branch 3. -/
theorem off61_2_eq : ∀ t : Fin cfg0.N, k0_cond3 (grid0.coords t) = 1#1 → k0_off61 (grid0.coords t) 2#32 = ![1, 512 * ((2 * (t.val % 4 + 4))), 0] := by decide +kernel

/-- Tile (2 * (t.val % 4 + 4)) - 1 of head 1, its values, in branch 3. -/
theorem off64_eq : ∀ t : Fin cfg0.N, k0_cond3 (grid0.coords t) = 1#1 → k0_off64 (grid0.coords t) = ![1, (2 * (t.val % 4 + 4)) - 1, 0, 0] := by decide +kernel

/-- Tile (2 * (t.val % 4 + 4)) + 1 of head 0, its keys, in branch 3. -/
theorem off65_eq : ∀ t : Fin cfg0.N, k0_cond3 (grid0.coords t) = 1#1 → k0_off65 (grid0.coords t) = ![0, 512 * ((2 * (t.val % 4 + 4)) + 1), 0] := by decide +kernel

/-- Tile (2 * (t.val % 4 + 4)) of head 0, its values, in branch 3. -/
theorem off66_eq : ∀ t : Fin cfg0.N, k0_cond3 (grid0.coords t) = 1#1 → k0_off66 (grid0.coords t) = ![0, (2 * (t.val % 4 + 4)), 0, 0] := by decide +kernel

/-- Tile (2 * (t.val % 4 + 4)) + 1 of head 1, its keys, in branch 3. -/
theorem off67_eq : ∀ t : Fin cfg0.N, k0_cond3 (grid0.coords t) = 1#1 → k0_off67 (grid0.coords t) = ![1, 512 * ((2 * (t.val % 4 + 4)) + 1), 0] := by decide +kernel

/-- Tile (2 * (t.val % 4 + 4)) of head 1, its values, in branch 3. -/
theorem off68_eq : ∀ t : Fin cfg0.N, k0_cond3 (grid0.coords t) = 1#1 → k0_off68 (grid0.coords t) = ![1, (2 * (t.val % 4 + 4)), 0, 0] := by decide +kernel

/-- Tile (2 * (t.val % 4 + 4)) + 1 of head 0, its values, in branch 3. -/
theorem off69_eq : ∀ t : Fin cfg0.N, k0_cond3 (grid0.coords t) = 1#1 → k0_off69 (grid0.coords t) = ![0, (2 * (t.val % 4 + 4)) + 1, 0, 0] := by decide +kernel

/-- Tile (2 * (t.val % 4 + 4)) + 1 of head 1, its values, in branch 3. -/
theorem off70_eq : ∀ t : Fin cfg0.N, k0_cond3 (grid0.coords t) = 1#1 → k0_off70 (grid0.coords t) = ![1, (2 * (t.val % 4 + 4)) + 1, 0, 0] := by decide +kernel

/-- Tile (2 * (t.val % 4 + 4)) + 1 of head 0, its keys, in branch 4. -/
theorem off71_eq : ∀ t : Fin cfg0.N, k0_cond4 (grid0.coords t) = 1#1 → k0_off71 (grid0.coords t) = ![0, 512 * ((2 * (t.val % 4 + 4)) + 1), 0] := by decide +kernel

/-- Tile (2 * (t.val % 4 + 4)) of head 0, its values, in branch 4. -/
theorem off72_eq : ∀ t : Fin cfg0.N, k0_cond4 (grid0.coords t) = 1#1 → k0_off72 (grid0.coords t) = ![0, (2 * (t.val % 4 + 4)), 0, 0] := by decide +kernel

/-- Tile (2 * (t.val % 4 + 4)) + 1 of head 1, its keys, in branch 4. -/
theorem off73_eq : ∀ t : Fin cfg0.N, k0_cond4 (grid0.coords t) = 1#1 → k0_off73 (grid0.coords t) = ![1, 512 * ((2 * (t.val % 4 + 4)) + 1), 0] := by decide +kernel

/-- Tile (2 * (t.val % 4 + 4)) of head 1, its values, in branch 4. -/
theorem off74_eq : ∀ t : Fin cfg0.N, k0_cond4 (grid0.coords t) = 1#1 → k0_off74 (grid0.coords t) = ![1, (2 * (t.val % 4 + 4)), 0, 0] := by decide +kernel

/-- Tile (2 * (t.val % 4 + 4)) + 1 of head 0, its values, in branch 4. -/
theorem off75_eq : ∀ t : Fin cfg0.N, k0_cond4 (grid0.coords t) = 1#1 → k0_off75 (grid0.coords t) = ![0, (2 * (t.val % 4 + 4)) + 1, 0, 0] := by decide +kernel

/-- Tile (2 * (t.val % 4 + 4)) + 1 of head 1, its values, in branch 4. -/
theorem off76_eq : ∀ t : Fin cfg0.N, k0_cond4 (grid0.coords t) = 1#1 → k0_off76 (grid0.coords t) = ![1, (2 * (t.val % 4 + 4)) + 1, 0, 0] := by decide +kernel

/-- The first loop's trips: one for every four whole tiles before the first query block. -/
theorem trips1_eq : ∀ t : Fin cfg0.N, (k0_t1_loop (grid0.coords t)).trips = t.val % 4 / 2 := by decide +kernel

/-- The first remainder loop makes no trip. -/
theorem trips2_eq : ∀ t : Fin cfg0.N, (k0_t2_loop (grid0.coords t)).trips = 0 := by decide +kernel

/-- The second loop's trips: one for every four whole tiles before the second query block. -/
theorem trips3_eq : ∀ t : Fin cfg0.N, (k0_t3_loop (grid0.coords t)).trips = (t.val % 4 + 4) / 2 := by decide +kernel

/-- The second remainder loop makes no trip. -/
theorem trips4_eq : ∀ t : Fin cfg0.N, (k0_t4_loop (grid0.coords t)).trips = 0 := by decide +kernel

/-- The first odd branch runs when the query block's number is odd. -/
theorem cond1_eq : ∀ t : Fin cfg0.N, k0_cond1 (grid0.coords t) = 1#1 ↔ t.val % 4 % 2 = 1 := by decide +kernel

/-- The first even branch runs when the query block's number is even. -/
theorem cond2_eq : ∀ t : Fin cfg0.N, k0_cond2 (grid0.coords t) = 1#1 ↔ t.val % 4 % 2 = 0 := by decide +kernel

/-- The second odd branch runs when the query block's number is odd. -/
theorem cond3_eq : ∀ t : Fin cfg0.N, k0_cond3 (grid0.coords t) = 1#1 ↔ t.val % 4 % 2 = 1 := by decide +kernel

/-- The second even branch runs when the query block's number is even. -/
theorem cond4_eq : ∀ t : Fin cfg0.N, k0_cond4 (grid0.coords t) = 1#1 ↔ t.val % 4 % 2 = 0 := by decide +kernel

end Cert.Kernel4Ideal.Attn

end
-- ==== Proof.AttnChain.lean ====
/- The attention kernel's loops and branches on one query's column, step by step. -/
module

public import proofs.«01_k».proof.Proof.AttnCol
public import proofs.«01_k».proof.Proof.AttnOff

@[expose] public section

set_option maxRecDepth 16384

noncomputable section

namespace Cert.Kernel4Ideal.Attn

open Idealize.ShloMosaic Idealize.ShloMosaic.TcCoe Idealize.ShloMosaic.Tactic
open Cert.Kernel4Ideal Cert.Kernel4Ideal.Gen
open Cert.AttnMath

variable {C : Col} {σ : St Ideal} {xa xb : Vec Ideal S2x256x1024 .bf16} {xk : Vec Ideal S2x8192x256 .bf16} {xv : Vec Ideal S2x16x144x512 .bf16}

/-- Forgetting what a buffer holds. -/
theorem Inv.weak {x y : Option ℕ} {n : ℕ} (hI : Inv C σ x y n) : Inv C σ x none n :=
  ⟨fun b j hj r => by cases b <;> first | exact hI.hold false j hj r | exact absurd hj (by simp), hI.hm, hI.ha⟩

/-- Forgetting what both buffers hold. -/
theorem Inv.weak' {x y : Option ℕ} {n : ℕ} (hI : Inv C σ x y n) : Inv C σ none none n :=
  ⟨fun b j hj r => by cases b <;> exact absurd hj (by simp), hI.hm, hI.ha⟩

/-- Scores written leave the rows stored. -/
theorem done_qkA {n : ℕ} {b : Bool} {xq : Vec Ideal S2x256x1024 .bf16} {ok oq os : Fin 3 → ℕ} {hk hq} (hI : Done C σ n) : Done C (qkAF b xk xq ok oq os hk hq σ) n := done_keep rfl hI

/-- Scores written over half a tile leave the rows stored. -/
theorem done_qkL {n : ℕ} {b : Bool} {xq : Vec Ideal S2x256x1024 .bf16} {ok oq os : Fin 3 → ℕ} {hk hq} (hI : Done C σ n) : Done C (qkLF b xk xq ok oq os hk hq σ) n := done_keep rfl hI

/-- A tile taken leaves the rows stored. -/
theorem done_smA {n : ℕ} {b : Bool} {os : Fin 3 → ℕ} {om oa ov : Fin 4 → ℕ} {hs hm ha hv} (hI : Done C σ n) : Done C (smAF b xv os om oa ov hs hm ha hv σ) n := done_keep rfl hI

/-- Half a tile taken leaves the rows stored. -/
theorem done_smH {n : ℕ} {g : Vec Ideal S1x512x512 .f32 → FVec Ideal S512x512 .f32} {b : Bool} {os : Fin 3 → ℕ} {om oa ov : Fin 4 → ℕ} {hs hm ha hv} (hI : Done C σ n) :
    Done C (smHF g b xv os om oa ov hs hm ha hv σ) n := done_keep rfl hI

/-- A trip of loop t1 takes four tiles in a column of head 0. -/
theorem t1_0 (t : Fin cfg0.N) (u : Fin (k0_t1_loop (grid0.coords t)).trips) (hl : C.sl.val = 0) (hh : C.hd.val = 0) (hS : Scores C xk xa) (hV : Values C xv)
    (hQ : 512 * (4 * u.1 + 4) ≤ C.Q + 1) (hI : Inv C σ (some (4 * u.1)) none (512 * (4 * u.1))) :
    Inv C (t1F (grid0.coords t) xa xb xk xv u σ) (some (4 * u.1 + 4)) none (512 * (4 * u.1 + 3 + 1)) := by
  unfold t1F
  dsimp only
  refine Inv.weak (y := some (4 * u.1 + 3)) ?_
  refine smA_other (x := some (4 * u.1 + 4)) (y := some (4 * u.1 + 3)) 0 1 (Or.inr (by rw [hh]; decide)) rfl rfl ?_
  refine qkA_other (x := some (4 * u.1 + 4)) (y := some (4 * u.1 + 3)) 1 (by rw [hh]; decide) rfl ?_
  refine smA_same (x := some (4 * u.1 + 4)) (y := some (4 * u.1 + 3)) (n := 512 * (4 * u.1 + 2 + 1)) (4 * u.1 + 3) hV (by rw [hh]) (by rw [hl, hh]) (by rw [hl, hh]) (by rw [hh]; exact off9_eq t u) rfl (by omega) (by omega) (by omega) ?_
  refine qkA_same (x := some (4 * u.1 + 2)) (y := some (4 * u.1 + 3)) (4 * u.1 + 4) hS (by rw [hh]; exact off7_2_eq t u) (by rw [hh]) (by rw [hh]) rfl rfl ?_
  refine smA_other (x := some (4 * u.1 + 2)) (y := some (4 * u.1 + 3)) 0 1 (Or.inr (by rw [hh]; decide)) rfl rfl ?_
  refine qkA_other (x := some (4 * u.1 + 2)) (y := some (4 * u.1 + 3)) 1 (by rw [hh]; decide) rfl ?_
  refine smA_same (x := some (4 * u.1 + 2)) (y := some (4 * u.1 + 3)) (n := 512 * (4 * u.1 + 1 + 1)) (4 * u.1 + 2) hV (by rw [hh]) (by rw [hl, hh]) (by rw [hl, hh]) (by rw [hh]; exact off5_2_eq t u) rfl (by omega) (by omega) (by omega) ?_
  refine qkA_same (x := some (4 * u.1 + 2)) (y := some (4 * u.1 + 1)) (4 * u.1 + 3) hS (by rw [hh]; exact off7_1_eq t u) (by rw [hh]) (by rw [hh]) rfl rfl ?_
  refine smA_other (x := some (4 * u.1 + 2)) (y := some (4 * u.1 + 1)) 0 1 (Or.inr (by rw [hh]; decide)) rfl rfl ?_
  refine qkA_other (x := some (4 * u.1 + 2)) (y := some (4 * u.1 + 1)) 1 (by rw [hh]; decide) rfl ?_
  refine smA_same (x := some (4 * u.1 + 2)) (y := some (4 * u.1 + 1)) (n := 512 * (4 * u.1 + 1)) (4 * u.1 + 1) hV (by rw [hh]) (by rw [hl, hh]) (by rw [hl, hh]) (by rw [hh]; exact off5_1_eq t u) rfl (by omega) (by omega) (by omega) ?_
  refine qkA_same (x := some (4 * u.1)) (y := some (4 * u.1 + 1)) (4 * u.1 + 2) hS (by rw [hh]; exact off1_2_eq t u) (by rw [hh]) (by rw [hh]) rfl rfl ?_
  refine smA_other (x := some (4 * u.1)) (y := some (4 * u.1 + 1)) 0 1 (Or.inr (by rw [hh]; decide)) rfl rfl ?_
  refine qkA_other (x := some (4 * u.1)) (y := some (4 * u.1 + 1)) 1 (by rw [hh]; decide) rfl ?_
  refine smA_same (x := some (4 * u.1)) (y := some (4 * u.1 + 1)) (n := 512 * (4 * u.1)) (4 * u.1) hV (by rw [hh]) (by rw [hl, hh]) (by rw [hl, hh]) (by rw [hh]; exact off2_eq t u) rfl (by omega) (by omega) (by omega) ?_
  refine qkA_same (x := some (4 * u.1)) (y := none) (4 * u.1 + 1) hS (by rw [hh]; exact off1_1_eq t u) (by rw [hh]) (by rw [hh]) rfl rfl ?_
  exact hI

/-- A trip of loop t1 takes four tiles in a column of head 1. -/
theorem t1_1 (t : Fin cfg0.N) (u : Fin (k0_t1_loop (grid0.coords t)).trips) (hl : C.sl.val = 0) (hh : C.hd.val = 1) (hS : Scores C xk xa) (hV : Values C xv)
    (hQ : 512 * (4 * u.1 + 4) ≤ C.Q + 1) (hI : Inv C σ (some (4 * u.1)) none (512 * (4 * u.1))) :
    Inv C (t1F (grid0.coords t) xa xb xk xv u σ) (some (4 * u.1 + 4)) none (512 * (4 * u.1 + 3 + 1)) := by
  unfold t1F
  dsimp only
  refine Inv.weak (y := some (4 * u.1 + 3)) ?_
  refine smA_same (x := some (4 * u.1 + 4)) (y := some (4 * u.1 + 3)) (n := 512 * (4 * u.1 + 2 + 1)) (4 * u.1 + 3) hV (by rw [hh]) (by rw [hl, hh]) (by rw [hl, hh]) (by rw [hh]; exact off10_eq t u) rfl (by omega) (by omega) (by omega) ?_
  refine qkA_same (x := some (4 * u.1 + 2)) (y := some (4 * u.1 + 3)) (4 * u.1 + 4) hS (by rw [hh]; exact off8_2_eq t u) (by rw [hh]) (by rw [hh]) rfl rfl ?_
  refine smA_other (x := some (4 * u.1 + 2)) (y := some (4 * u.1 + 3)) 0 0 (Or.inr (by rw [hh]; decide)) rfl rfl ?_
  refine qkA_other (x := some (4 * u.1 + 2)) (y := some (4 * u.1 + 3)) 0 (by rw [hh]; decide) rfl ?_
  refine smA_same (x := some (4 * u.1 + 2)) (y := some (4 * u.1 + 3)) (n := 512 * (4 * u.1 + 1 + 1)) (4 * u.1 + 2) hV (by rw [hh]) (by rw [hl, hh]) (by rw [hl, hh]) (by rw [hh]; exact off6_2_eq t u) rfl (by omega) (by omega) (by omega) ?_
  refine qkA_same (x := some (4 * u.1 + 2)) (y := some (4 * u.1 + 1)) (4 * u.1 + 3) hS (by rw [hh]; exact off8_1_eq t u) (by rw [hh]) (by rw [hh]) rfl rfl ?_
  refine smA_other (x := some (4 * u.1 + 2)) (y := some (4 * u.1 + 1)) 0 0 (Or.inr (by rw [hh]; decide)) rfl rfl ?_
  refine qkA_other (x := some (4 * u.1 + 2)) (y := some (4 * u.1 + 1)) 0 (by rw [hh]; decide) rfl ?_
  refine smA_same (x := some (4 * u.1 + 2)) (y := some (4 * u.1 + 1)) (n := 512 * (4 * u.1 + 1)) (4 * u.1 + 1) hV (by rw [hh]) (by rw [hl, hh]) (by rw [hl, hh]) (by rw [hh]; exact off6_1_eq t u) rfl (by omega) (by omega) (by omega) ?_
  refine qkA_same (x := some (4 * u.1)) (y := some (4 * u.1 + 1)) (4 * u.1 + 2) hS (by rw [hh]; exact off3_2_eq t u) (by rw [hh]) (by rw [hh]) rfl rfl ?_
  refine smA_other (x := some (4 * u.1)) (y := some (4 * u.1 + 1)) 0 0 (Or.inr (by rw [hh]; decide)) rfl rfl ?_
  refine qkA_other (x := some (4 * u.1)) (y := some (4 * u.1 + 1)) 0 (by rw [hh]; decide) rfl ?_
  refine smA_same (x := some (4 * u.1)) (y := some (4 * u.1 + 1)) (n := 512 * (4 * u.1)) (4 * u.1) hV (by rw [hh]) (by rw [hl, hh]) (by rw [hl, hh]) (by rw [hh]; exact off4_eq t u) rfl (by omega) (by omega) (by omega) ?_
  refine qkA_same (x := some (4 * u.1)) (y := none) (4 * u.1 + 1) hS (by rw [hh]; exact off3_1_eq t u) (by rw [hh]) (by rw [hh]) rfl rfl ?_
  refine smA_other (x := some (4 * u.1)) (y := none) 0 0 (Or.inr (by rw [hh]; decide)) rfl rfl ?_
  refine qkA_other (x := some (4 * u.1)) (y := none) 0 (by rw [hh]; decide) rfl ?_
  exact hI

/-- A trip of loop t3 takes four tiles in a column of head 0. -/
theorem t3_0 (t : Fin cfg0.N) (u : Fin (k0_t3_loop (grid0.coords t)).trips) (hl : C.sl.val = 1) (hh : C.hd.val = 0) (hS : Scores C xk xb) (hV : Values C xv)
    (hQ : 512 * (4 * u.1 + 4) ≤ C.Q + 1) (hI : Inv C σ (some (4 * u.1)) none (512 * (4 * u.1))) :
    Inv C (t3F (grid0.coords t) xa xb xk xv u σ) (some (4 * u.1 + 4)) none (512 * (4 * u.1 + 3 + 1)) := by
  unfold t3F
  dsimp only
  refine Inv.weak (y := some (4 * u.1 + 3)) ?_
  refine smA_other (x := some (4 * u.1 + 4)) (y := some (4 * u.1 + 3)) 1 1 (Or.inr (by rw [hh]; decide)) rfl rfl ?_
  refine qkA_other (x := some (4 * u.1 + 4)) (y := some (4 * u.1 + 3)) 1 (by rw [hh]; decide) rfl ?_
  refine smA_same (x := some (4 * u.1 + 4)) (y := some (4 * u.1 + 3)) (n := 512 * (4 * u.1 + 2 + 1)) (4 * u.1 + 3) hV (by rw [hh]) (by rw [hl, hh]) (by rw [hl, hh]) (by rw [hh]; exact off47_eq t u) rfl (by omega) (by omega) (by omega) ?_
  refine qkA_same (x := some (4 * u.1 + 2)) (y := some (4 * u.1 + 3)) (4 * u.1 + 4) hS (by rw [hh]; exact off45_2_eq t u) (by rw [hh]) (by rw [hh]) rfl rfl ?_
  refine smA_other (x := some (4 * u.1 + 2)) (y := some (4 * u.1 + 3)) 1 1 (Or.inr (by rw [hh]; decide)) rfl rfl ?_
  refine qkA_other (x := some (4 * u.1 + 2)) (y := some (4 * u.1 + 3)) 1 (by rw [hh]; decide) rfl ?_
  refine smA_same (x := some (4 * u.1 + 2)) (y := some (4 * u.1 + 3)) (n := 512 * (4 * u.1 + 1 + 1)) (4 * u.1 + 2) hV (by rw [hh]) (by rw [hl, hh]) (by rw [hl, hh]) (by rw [hh]; exact off43_2_eq t u) rfl (by omega) (by omega) (by omega) ?_
  refine qkA_same (x := some (4 * u.1 + 2)) (y := some (4 * u.1 + 1)) (4 * u.1 + 3) hS (by rw [hh]; exact off45_1_eq t u) (by rw [hh]) (by rw [hh]) rfl rfl ?_
  refine smA_other (x := some (4 * u.1 + 2)) (y := some (4 * u.1 + 1)) 1 1 (Or.inr (by rw [hh]; decide)) rfl rfl ?_
  refine qkA_other (x := some (4 * u.1 + 2)) (y := some (4 * u.1 + 1)) 1 (by rw [hh]; decide) rfl ?_
  refine smA_same (x := some (4 * u.1 + 2)) (y := some (4 * u.1 + 1)) (n := 512 * (4 * u.1 + 1)) (4 * u.1 + 1) hV (by rw [hh]) (by rw [hl, hh]) (by rw [hl, hh]) (by rw [hh]; exact off43_1_eq t u) rfl (by omega) (by omega) (by omega) ?_
  refine qkA_same (x := some (4 * u.1)) (y := some (4 * u.1 + 1)) (4 * u.1 + 2) hS (by rw [hh]; exact off39_2_eq t u) (by rw [hh]) (by rw [hh]) rfl rfl ?_
  refine smA_other (x := some (4 * u.1)) (y := some (4 * u.1 + 1)) 1 1 (Or.inr (by rw [hh]; decide)) rfl rfl ?_
  refine qkA_other (x := some (4 * u.1)) (y := some (4 * u.1 + 1)) 1 (by rw [hh]; decide) rfl ?_
  refine smA_same (x := some (4 * u.1)) (y := some (4 * u.1 + 1)) (n := 512 * (4 * u.1)) (4 * u.1) hV (by rw [hh]) (by rw [hl, hh]) (by rw [hl, hh]) (by rw [hh]; exact off40_eq t u) rfl (by omega) (by omega) (by omega) ?_
  refine qkA_same (x := some (4 * u.1)) (y := none) (4 * u.1 + 1) hS (by rw [hh]; exact off39_1_eq t u) (by rw [hh]) (by rw [hh]) rfl rfl ?_
  exact hI

/-- A trip of loop t3 takes four tiles in a column of head 1. -/
theorem t3_1 (t : Fin cfg0.N) (u : Fin (k0_t3_loop (grid0.coords t)).trips) (hl : C.sl.val = 1) (hh : C.hd.val = 1) (hS : Scores C xk xb) (hV : Values C xv)
    (hQ : 512 * (4 * u.1 + 4) ≤ C.Q + 1) (hI : Inv C σ (some (4 * u.1)) none (512 * (4 * u.1))) :
    Inv C (t3F (grid0.coords t) xa xb xk xv u σ) (some (4 * u.1 + 4)) none (512 * (4 * u.1 + 3 + 1)) := by
  unfold t3F
  dsimp only
  refine Inv.weak (y := some (4 * u.1 + 3)) ?_
  refine smA_same (x := some (4 * u.1 + 4)) (y := some (4 * u.1 + 3)) (n := 512 * (4 * u.1 + 2 + 1)) (4 * u.1 + 3) hV (by rw [hh]) (by rw [hl, hh]) (by rw [hl, hh]) (by rw [hh]; exact off48_eq t u) rfl (by omega) (by omega) (by omega) ?_
  refine qkA_same (x := some (4 * u.1 + 2)) (y := some (4 * u.1 + 3)) (4 * u.1 + 4) hS (by rw [hh]; exact off46_2_eq t u) (by rw [hh]) (by rw [hh]) rfl rfl ?_
  refine smA_other (x := some (4 * u.1 + 2)) (y := some (4 * u.1 + 3)) 1 0 (Or.inr (by rw [hh]; decide)) rfl rfl ?_
  refine qkA_other (x := some (4 * u.1 + 2)) (y := some (4 * u.1 + 3)) 0 (by rw [hh]; decide) rfl ?_
  refine smA_same (x := some (4 * u.1 + 2)) (y := some (4 * u.1 + 3)) (n := 512 * (4 * u.1 + 1 + 1)) (4 * u.1 + 2) hV (by rw [hh]) (by rw [hl, hh]) (by rw [hl, hh]) (by rw [hh]; exact off44_2_eq t u) rfl (by omega) (by omega) (by omega) ?_
  refine qkA_same (x := some (4 * u.1 + 2)) (y := some (4 * u.1 + 1)) (4 * u.1 + 3) hS (by rw [hh]; exact off46_1_eq t u) (by rw [hh]) (by rw [hh]) rfl rfl ?_
  refine smA_other (x := some (4 * u.1 + 2)) (y := some (4 * u.1 + 1)) 1 0 (Or.inr (by rw [hh]; decide)) rfl rfl ?_
  refine qkA_other (x := some (4 * u.1 + 2)) (y := some (4 * u.1 + 1)) 0 (by rw [hh]; decide) rfl ?_
  refine smA_same (x := some (4 * u.1 + 2)) (y := some (4 * u.1 + 1)) (n := 512 * (4 * u.1 + 1)) (4 * u.1 + 1) hV (by rw [hh]) (by rw [hl, hh]) (by rw [hl, hh]) (by rw [hh]; exact off44_1_eq t u) rfl (by omega) (by omega) (by omega) ?_
  refine qkA_same (x := some (4 * u.1)) (y := some (4 * u.1 + 1)) (4 * u.1 + 2) hS (by rw [hh]; exact off41_2_eq t u) (by rw [hh]) (by rw [hh]) rfl rfl ?_
  refine smA_other (x := some (4 * u.1)) (y := some (4 * u.1 + 1)) 1 0 (Or.inr (by rw [hh]; decide)) rfl rfl ?_
  refine qkA_other (x := some (4 * u.1)) (y := some (4 * u.1 + 1)) 0 (by rw [hh]; decide) rfl ?_
  refine smA_same (x := some (4 * u.1)) (y := some (4 * u.1 + 1)) (n := 512 * (4 * u.1)) (4 * u.1) hV (by rw [hh]) (by rw [hl, hh]) (by rw [hl, hh]) (by rw [hh]; exact off42_eq t u) rfl (by omega) (by omega) (by omega) ?_
  refine qkA_same (x := some (4 * u.1)) (y := none) (4 * u.1 + 1) hS (by rw [hh]; exact off41_1_eq t u) (by rw [hh]) (by rw [hh]) rfl rfl ?_
  refine smA_other (x := some (4 * u.1)) (y := none) 1 0 (Or.inr (by rw [hh]; decide)) rfl rfl ?_
  refine qkA_other (x := some (4 * u.1)) (y := none) 0 (by rw [hh]; decide) rfl ?_
  exact hI

/-- A trip of the first loop leaves a column of the second query block. -/
theorem t1_skip (t : Fin cfg0.N) (u : Fin (k0_t1_loop (grid0.coords t)).trips) (hl : C.sl.val = 1) (hI : Inv C σ none none 0) :
    Inv C (t1F (grid0.coords t) xa xb xk xv u σ) none none 0 := by
  unfold t1F
  dsimp only
  refine smA_other (x := none) (y := none) 0 1 (Or.inl (by rw [hl]; decide)) rfl rfl ?_
  refine qkA_drop ?_
  refine smA_other (x := none) (y := none) 0 0 (Or.inl (by rw [hl]; decide)) rfl rfl ?_
  refine qkA_drop ?_
  refine smA_other (x := none) (y := none) 0 1 (Or.inl (by rw [hl]; decide)) rfl rfl ?_
  refine qkA_drop ?_
  refine smA_other (x := none) (y := none) 0 0 (Or.inl (by rw [hl]; decide)) rfl rfl ?_
  refine qkA_drop ?_
  refine smA_other (x := none) (y := none) 0 1 (Or.inl (by rw [hl]; decide)) rfl rfl ?_
  refine qkA_drop ?_
  refine smA_other (x := none) (y := none) 0 0 (Or.inl (by rw [hl]; decide)) rfl rfl ?_
  refine qkA_drop ?_
  refine smA_other (x := none) (y := none) 0 1 (Or.inl (by rw [hl]; decide)) rfl rfl ?_
  refine qkA_drop ?_
  refine smA_other (x := none) (y := none) 0 0 (Or.inl (by rw [hl]; decide)) rfl rfl ?_
  refine qkA_drop ?_
  exact hI

/-- Branch 1 ends a column of head 0 in its block's first half and stores its row. -/
theorem if1_0_lo (t : Fin cfg0.N) (hc : k0_cond1 (grid0.coords t) = 1#1) (hp : t.1 % 4 % 2 = 1) (hl : C.sl.val = 0) (hh : C.hd.val = 0) (hS : Scores C xk xa) (hV : Values C xv)
    (hq : C.q.val < 512) (hQ : C.Q = 512 * (2 * (t.1 % 4)) + C.q.val) (hI : Inv C σ (some (2 * (t.1 % 4) - 2)) none (512 * (2 * (t.1 % 4) - 2))) :
    Done C (if1F (grid0.coords t) xa xb xk xv hc σ) (512 * (2 * (t.1 % 4) + 1)) := by
  have hlt := C.q.isLt
  unfold if1F
  dsimp only
  refine done_qkA ?_
  refine done_qkA ?_
  refine done_other 0 1 (by rw [hl, hh]; decide) rfl ?_
  refine out_same (x := some (2 * (t.1 % 4))) (y := some (2 * (t.1 % 4) - 1)) (n := 512 * (2 * (t.1 % 4) + 1)) (by rw [hl, hh]) (by rw [hl, hh]) ?_
  refine smH_other (x := some (2 * (t.1 % 4))) (y := some (2 * (t.1 % 4) - 1)) 0 1 512 (Or.inl (Or.inr (by rw [hh]; decide))) rfl rfl ?_
  refine smH_other (x := some (2 * (t.1 % 4))) (y := some (2 * (t.1 % 4) - 1)) 0 0 512 (Or.inr (by omega)) rfl rfl ?_
  refine smH_other (x := some (2 * (t.1 % 4))) (y := some (2 * (t.1 % 4) - 1)) 0 1 512 (Or.inl (Or.inr (by rw [hh]; decide))) rfl rfl ?_
  refine smH_other (x := some (2 * (t.1 % 4))) (y := some (2 * (t.1 % 4) - 1)) 0 1 0 (Or.inl (Or.inr (by rw [hh]; decide))) rfl rfl ?_
  refine qkL_other (x := some (2 * (t.1 % 4))) (y := some (2 * (t.1 % 4) - 1)) 1 (by rw [hh]; decide) rfl ?_
  refine smH_other (x := some (2 * (t.1 % 4))) (y := some (2 * (t.1 % 4) - 1)) 0 0 512 (Or.inr (by omega)) rfl rfl ?_
  refine smH_mask (x := some (2 * (t.1 % 4))) (y := some (2 * (t.1 % 4) - 1)) (n := 512 * (2 * (t.1 % 4) - 1 + 1)) (2 * (t.1 % 4)) 0 hV (by omega) (by omega) (by rw [hh]) (by rw [hl, hh]) (by rw [hl, hh]) (by rw [hh]; exact off28_eq t hc) rfl (by omega) (by omega) (by omega) ?_
  refine qkL_half (x := some (2 * (t.1 % 4))) (y := some (2 * (t.1 % 4) - 1)) 0 hq rfl ?_
  refine smA_other (x := some (2 * (t.1 % 4))) (y := some (2 * (t.1 % 4) - 1)) 0 1 (Or.inr (by rw [hh]; decide)) rfl rfl ?_
  refine qkA_other (x := some (2 * (t.1 % 4))) (y := some (2 * (t.1 % 4) - 1)) 1 (by rw [hh]; decide) rfl ?_
  refine smA_same (x := some (2 * (t.1 % 4))) (y := some (2 * (t.1 % 4) - 1)) (n := 512 * (2 * (t.1 % 4) - 2 + 1)) (2 * (t.1 % 4) - 1) hV (by rw [hh]) (by rw [hl, hh]) (by rw [hl, hh]) (by rw [hh]; exact off25_eq t hc) rfl (by omega) (by omega) (by omega) ?_
  refine qkA_same (x := some (2 * (t.1 % 4) - 2)) (y := some (2 * (t.1 % 4) - 1)) (2 * (t.1 % 4)) hS (by rw [hh]; exact off21_2_eq t hc) (by rw [hh]) (by rw [hh]) rfl rfl ?_
  refine smA_other (x := some (2 * (t.1 % 4) - 2)) (y := some (2 * (t.1 % 4) - 1)) 0 1 (Or.inr (by rw [hh]; decide)) rfl rfl ?_
  refine qkA_other (x := some (2 * (t.1 % 4) - 2)) (y := some (2 * (t.1 % 4) - 1)) 1 (by rw [hh]; decide) rfl ?_
  refine smA_same (x := some (2 * (t.1 % 4) - 2)) (y := some (2 * (t.1 % 4) - 1)) (n := 512 * (2 * (t.1 % 4) - 2)) (2 * (t.1 % 4) - 2) hV (by rw [hh]) (by rw [hl, hh]) (by rw [hl, hh]) (by rw [hh]; exact off22_eq t hc) rfl (by omega) (by omega) (by omega) ?_
  refine qkA_same (x := some (2 * (t.1 % 4) - 2)) (y := none) (2 * (t.1 % 4) - 1) hS (by rw [hh]; exact off21_1_eq t hc) (by rw [hh]) (by rw [hh]) rfl rfl ?_
  exact hI

/-- Branch 1 ends a column of head 0 in its block's second half and stores its row. -/
theorem if1_0_hi (t : Fin cfg0.N) (hc : k0_cond1 (grid0.coords t) = 1#1) (hp : t.1 % 4 % 2 = 1) (hl : C.sl.val = 0) (hh : C.hd.val = 0) (hS : Scores C xk xa) (hV : Values C xv)
    (hq : 512 ≤ C.q.val) (hQ : C.Q = 512 * (2 * (t.1 % 4)) + C.q.val) (hI : Inv C σ (some (2 * (t.1 % 4) - 2)) none (512 * (2 * (t.1 % 4) - 2))) :
    Done C (if1F (grid0.coords t) xa xb xk xv hc σ) (512 * (2 * (t.1 % 4) + 1 + 1)) := by
  have hlt := C.q.isLt
  unfold if1F
  dsimp only
  refine done_qkA ?_
  refine done_qkA ?_
  refine done_other 0 1 (by rw [hl, hh]; decide) rfl ?_
  refine out_same (x := some (2 * (t.1 % 4))) (y := some (2 * (t.1 % 4) + 1)) (n := 512 * (2 * (t.1 % 4) + 1 + 1)) (by rw [hl, hh]) (by rw [hl, hh]) ?_
  refine smH_other (x := some (2 * (t.1 % 4))) (y := some (2 * (t.1 % 4) + 1)) 0 1 512 (Or.inl (Or.inr (by rw [hh]; decide))) rfl rfl ?_
  refine smH_mask (x := some (2 * (t.1 % 4))) (y := some (2 * (t.1 % 4) + 1)) (n := 512 * (2 * (t.1 % 4) + 1)) (2 * (t.1 % 4) + 1) 512 hV (by omega) (by omega) (by rw [hh]) (by rw [hl, hh]) (by rw [hl, hh]) (by rw [hh]; exact off31_eq t hc) rfl (by omega) (by omega) (by omega) ?_
  refine smH_other (x := some (2 * (t.1 % 4))) (y := some (2 * (t.1 % 4) + 1)) 0 1 512 (Or.inl (Or.inr (by rw [hh]; decide))) rfl rfl ?_
  refine smH_other (x := some (2 * (t.1 % 4))) (y := some (2 * (t.1 % 4) + 1)) 0 1 0 (Or.inl (Or.inr (by rw [hh]; decide))) rfl rfl ?_
  refine qkL_other (x := some (2 * (t.1 % 4))) (y := some (2 * (t.1 % 4) + 1)) 1 (by rw [hh]; decide) rfl ?_
  refine smH_full (x := some (2 * (t.1 % 4))) (y := some (2 * (t.1 % 4) + 1)) (n := 512 * (2 * (t.1 % 4) - 1 + 1)) (2 * (t.1 % 4)) 512 hV (by omega) (by omega) (by rw [hh]) (by rw [hl, hh]) (by rw [hl, hh]) (by rw [hh]; exact off28_eq t hc) rfl (by omega) (by omega) (by omega) ?_
  refine smH_other (x := some (2 * (t.1 % 4))) (y := some (2 * (t.1 % 4) + 1)) 0 0 0 (Or.inr (by omega)) rfl rfl ?_
  refine qkL_same (x := some (2 * (t.1 % 4))) (y := some (2 * (t.1 % 4) - 1)) (2 * (t.1 % 4) + 1) hS hq (by rw [hh]; exact off27_eq t hc) (by rw [hh]) (by rw [hh]) rfl rfl ?_
  refine smA_other (x := some (2 * (t.1 % 4))) (y := some (2 * (t.1 % 4) - 1)) 0 1 (Or.inr (by rw [hh]; decide)) rfl rfl ?_
  refine qkA_other (x := some (2 * (t.1 % 4))) (y := some (2 * (t.1 % 4) - 1)) 1 (by rw [hh]; decide) rfl ?_
  refine smA_same (x := some (2 * (t.1 % 4))) (y := some (2 * (t.1 % 4) - 1)) (n := 512 * (2 * (t.1 % 4) - 2 + 1)) (2 * (t.1 % 4) - 1) hV (by rw [hh]) (by rw [hl, hh]) (by rw [hl, hh]) (by rw [hh]; exact off25_eq t hc) rfl (by omega) (by omega) (by omega) ?_
  refine qkA_same (x := some (2 * (t.1 % 4) - 2)) (y := some (2 * (t.1 % 4) - 1)) (2 * (t.1 % 4)) hS (by rw [hh]; exact off21_2_eq t hc) (by rw [hh]) (by rw [hh]) rfl rfl ?_
  refine smA_other (x := some (2 * (t.1 % 4) - 2)) (y := some (2 * (t.1 % 4) - 1)) 0 1 (Or.inr (by rw [hh]; decide)) rfl rfl ?_
  refine qkA_other (x := some (2 * (t.1 % 4) - 2)) (y := some (2 * (t.1 % 4) - 1)) 1 (by rw [hh]; decide) rfl ?_
  refine smA_same (x := some (2 * (t.1 % 4) - 2)) (y := some (2 * (t.1 % 4) - 1)) (n := 512 * (2 * (t.1 % 4) - 2)) (2 * (t.1 % 4) - 2) hV (by rw [hh]) (by rw [hl, hh]) (by rw [hl, hh]) (by rw [hh]; exact off22_eq t hc) rfl (by omega) (by omega) (by omega) ?_
  refine qkA_same (x := some (2 * (t.1 % 4) - 2)) (y := none) (2 * (t.1 % 4) - 1) hS (by rw [hh]; exact off21_1_eq t hc) (by rw [hh]) (by rw [hh]) rfl rfl ?_
  exact hI

/-- Branch 1 ends a column of head 1 in its block's first half and stores its row. -/
theorem if1_1_lo (t : Fin cfg0.N) (hc : k0_cond1 (grid0.coords t) = 1#1) (hp : t.1 % 4 % 2 = 1) (hl : C.sl.val = 0) (hh : C.hd.val = 1) (hS : Scores C xk xa) (hV : Values C xv)
    (hq : C.q.val < 512) (hQ : C.Q = 512 * (2 * (t.1 % 4)) + C.q.val) (hI : Inv C σ (some (2 * (t.1 % 4) - 2)) none (512 * (2 * (t.1 % 4) - 2))) :
    Done C (if1F (grid0.coords t) xa xb xk xv hc σ) (512 * (2 * (t.1 % 4) + 1)) := by
  have hlt := C.q.isLt
  unfold if1F
  dsimp only
  refine done_qkA ?_
  refine done_qkA ?_
  refine out_same (x := some (2 * (t.1 % 4))) (y := some (2 * (t.1 % 4) - 1)) (n := 512 * (2 * (t.1 % 4) + 1)) (by rw [hl, hh]) (by rw [hl, hh]) ?_
  refine out_keep (x := some (2 * (t.1 % 4))) (y := some (2 * (t.1 % 4) - 1)) ?_
  refine smH_other (x := some (2 * (t.1 % 4))) (y := some (2 * (t.1 % 4) - 1)) 0 1 512 (Or.inr (by omega)) rfl rfl ?_
  refine smH_other (x := some (2 * (t.1 % 4))) (y := some (2 * (t.1 % 4) - 1)) 0 0 512 (Or.inl (Or.inr (by rw [hh]; decide))) rfl rfl ?_
  refine smH_other (x := some (2 * (t.1 % 4))) (y := some (2 * (t.1 % 4) - 1)) 0 1 512 (Or.inr (by omega)) rfl rfl ?_
  refine smH_mask (x := some (2 * (t.1 % 4))) (y := some (2 * (t.1 % 4) - 1)) (n := 512 * (2 * (t.1 % 4) - 1 + 1)) (2 * (t.1 % 4)) 0 hV (by omega) (by omega) (by rw [hh]) (by rw [hl, hh]) (by rw [hl, hh]) (by rw [hh]; exact off30_eq t hc) rfl (by omega) (by omega) (by omega) ?_
  refine qkL_half (x := some (2 * (t.1 % 4))) (y := some (2 * (t.1 % 4) - 1)) 1 hq rfl ?_
  refine smH_other (x := some (2 * (t.1 % 4))) (y := some (2 * (t.1 % 4) - 1)) 0 0 512 (Or.inl (Or.inr (by rw [hh]; decide))) rfl rfl ?_
  refine smH_other (x := some (2 * (t.1 % 4))) (y := some (2 * (t.1 % 4) - 1)) 0 0 0 (Or.inl (Or.inr (by rw [hh]; decide))) rfl rfl ?_
  refine qkL_other (x := some (2 * (t.1 % 4))) (y := some (2 * (t.1 % 4) - 1)) 0 (by rw [hh]; decide) rfl ?_
  refine smA_same (x := some (2 * (t.1 % 4))) (y := some (2 * (t.1 % 4) - 1)) (n := 512 * (2 * (t.1 % 4) - 2 + 1)) (2 * (t.1 % 4) - 1) hV (by rw [hh]) (by rw [hl, hh]) (by rw [hl, hh]) (by rw [hh]; exact off26_eq t hc) rfl (by omega) (by omega) (by omega) ?_
  refine qkA_same (x := some (2 * (t.1 % 4) - 2)) (y := some (2 * (t.1 % 4) - 1)) (2 * (t.1 % 4)) hS (by rw [hh]; exact off23_2_eq t hc) (by rw [hh]) (by rw [hh]) rfl rfl ?_
  refine smA_other (x := some (2 * (t.1 % 4) - 2)) (y := some (2 * (t.1 % 4) - 1)) 0 0 (Or.inr (by rw [hh]; decide)) rfl rfl ?_
  refine qkA_other (x := some (2 * (t.1 % 4) - 2)) (y := some (2 * (t.1 % 4) - 1)) 0 (by rw [hh]; decide) rfl ?_
  refine smA_same (x := some (2 * (t.1 % 4) - 2)) (y := some (2 * (t.1 % 4) - 1)) (n := 512 * (2 * (t.1 % 4) - 2)) (2 * (t.1 % 4) - 2) hV (by rw [hh]) (by rw [hl, hh]) (by rw [hl, hh]) (by rw [hh]; exact off24_eq t hc) rfl (by omega) (by omega) (by omega) ?_
  refine qkA_same (x := some (2 * (t.1 % 4) - 2)) (y := none) (2 * (t.1 % 4) - 1) hS (by rw [hh]; exact off23_1_eq t hc) (by rw [hh]) (by rw [hh]) rfl rfl ?_
  refine smA_other (x := some (2 * (t.1 % 4) - 2)) (y := none) 0 0 (Or.inr (by rw [hh]; decide)) rfl rfl ?_
  refine qkA_other (x := some (2 * (t.1 % 4) - 2)) (y := none) 0 (by rw [hh]; decide) rfl ?_
  exact hI

/-- Branch 1 ends a column of head 1 in its block's second half and stores its row. -/
theorem if1_1_hi (t : Fin cfg0.N) (hc : k0_cond1 (grid0.coords t) = 1#1) (hp : t.1 % 4 % 2 = 1) (hl : C.sl.val = 0) (hh : C.hd.val = 1) (hS : Scores C xk xa) (hV : Values C xv)
    (hq : 512 ≤ C.q.val) (hQ : C.Q = 512 * (2 * (t.1 % 4)) + C.q.val) (hI : Inv C σ (some (2 * (t.1 % 4) - 2)) none (512 * (2 * (t.1 % 4) - 2))) :
    Done C (if1F (grid0.coords t) xa xb xk xv hc σ) (512 * (2 * (t.1 % 4) + 1 + 1)) := by
  have hlt := C.q.isLt
  unfold if1F
  dsimp only
  refine done_qkA ?_
  refine done_qkA ?_
  refine out_same (x := some (2 * (t.1 % 4))) (y := some (2 * (t.1 % 4) + 1)) (n := 512 * (2 * (t.1 % 4) + 1 + 1)) (by rw [hl, hh]) (by rw [hl, hh]) ?_
  refine out_keep (x := some (2 * (t.1 % 4))) (y := some (2 * (t.1 % 4) + 1)) ?_
  refine smH_mask (x := some (2 * (t.1 % 4))) (y := some (2 * (t.1 % 4) + 1)) (n := 512 * (2 * (t.1 % 4) + 1)) (2 * (t.1 % 4) + 1) 512 hV (by omega) (by omega) (by rw [hh]) (by rw [hl, hh]) (by rw [hl, hh]) (by rw [hh]; exact off32_eq t hc) rfl (by omega) (by omega) (by omega) ?_
  refine smH_other (x := some (2 * (t.1 % 4))) (y := some (2 * (t.1 % 4) + 1)) 0 0 512 (Or.inl (Or.inr (by rw [hh]; decide))) rfl rfl ?_
  refine smH_full (x := some (2 * (t.1 % 4))) (y := some (2 * (t.1 % 4) + 1)) (n := 512 * (2 * (t.1 % 4) - 1 + 1)) (2 * (t.1 % 4)) 512 hV (by omega) (by omega) (by rw [hh]) (by rw [hl, hh]) (by rw [hl, hh]) (by rw [hh]; exact off30_eq t hc) rfl (by omega) (by omega) (by omega) ?_
  refine smH_other (x := some (2 * (t.1 % 4))) (y := some (2 * (t.1 % 4) + 1)) 0 1 0 (Or.inr (by omega)) rfl rfl ?_
  refine qkL_same (x := some (2 * (t.1 % 4))) (y := some (2 * (t.1 % 4) - 1)) (2 * (t.1 % 4) + 1) hS hq (by rw [hh]; exact off29_eq t hc) (by rw [hh]) (by rw [hh]) rfl rfl ?_
  refine smH_other (x := some (2 * (t.1 % 4))) (y := some (2 * (t.1 % 4) - 1)) 0 0 512 (Or.inl (Or.inr (by rw [hh]; decide))) rfl rfl ?_
  refine smH_other (x := some (2 * (t.1 % 4))) (y := some (2 * (t.1 % 4) - 1)) 0 0 0 (Or.inl (Or.inr (by rw [hh]; decide))) rfl rfl ?_
  refine qkL_other (x := some (2 * (t.1 % 4))) (y := some (2 * (t.1 % 4) - 1)) 0 (by rw [hh]; decide) rfl ?_
  refine smA_same (x := some (2 * (t.1 % 4))) (y := some (2 * (t.1 % 4) - 1)) (n := 512 * (2 * (t.1 % 4) - 2 + 1)) (2 * (t.1 % 4) - 1) hV (by rw [hh]) (by rw [hl, hh]) (by rw [hl, hh]) (by rw [hh]; exact off26_eq t hc) rfl (by omega) (by omega) (by omega) ?_
  refine qkA_same (x := some (2 * (t.1 % 4) - 2)) (y := some (2 * (t.1 % 4) - 1)) (2 * (t.1 % 4)) hS (by rw [hh]; exact off23_2_eq t hc) (by rw [hh]) (by rw [hh]) rfl rfl ?_
  refine smA_other (x := some (2 * (t.1 % 4) - 2)) (y := some (2 * (t.1 % 4) - 1)) 0 0 (Or.inr (by rw [hh]; decide)) rfl rfl ?_
  refine qkA_other (x := some (2 * (t.1 % 4) - 2)) (y := some (2 * (t.1 % 4) - 1)) 0 (by rw [hh]; decide) rfl ?_
  refine smA_same (x := some (2 * (t.1 % 4) - 2)) (y := some (2 * (t.1 % 4) - 1)) (n := 512 * (2 * (t.1 % 4) - 2)) (2 * (t.1 % 4) - 2) hV (by rw [hh]) (by rw [hl, hh]) (by rw [hl, hh]) (by rw [hh]; exact off24_eq t hc) rfl (by omega) (by omega) (by omega) ?_
  refine qkA_same (x := some (2 * (t.1 % 4) - 2)) (y := none) (2 * (t.1 % 4) - 1) hS (by rw [hh]; exact off23_1_eq t hc) (by rw [hh]) (by rw [hh]) rfl rfl ?_
  refine smA_other (x := some (2 * (t.1 % 4) - 2)) (y := none) 0 0 (Or.inr (by rw [hh]; decide)) rfl rfl ?_
  refine qkA_other (x := some (2 * (t.1 % 4) - 2)) (y := none) 0 (by rw [hh]; decide) rfl ?_
  exact hI

/-- Branch 1 readies a column of head 0 of the second query block. -/
theorem if1_next_0 (t : Fin cfg0.N) (hc : k0_cond1 (grid0.coords t) = 1#1) (hl : C.sl.val = 1) (hh : C.hd.val = 0) (hS : Scores C xk xb) (hI : Inv C σ none none 0) :
    Inv C (if1F (grid0.coords t) xa xb xk xv hc σ) (some (0)) none 0 := by
  unfold if1F
  dsimp only
  refine qkA_other (x := some (0)) (y := none) 1 (by rw [hh]; decide) rfl ?_
  refine qkA_same (x := none) (y := none) (0) hS (by rw [hh]) (by rw [hh]) (by rw [hh]) rfl rfl ?_
  refine out_keep (x := none) (y := none) ?_
  refine out_keep (x := none) (y := none) ?_
  refine smH_other (x := none) (y := none) 0 1 512 (Or.inl (Or.inl (by rw [hl]; decide))) rfl rfl ?_
  refine smH_other (x := none) (y := none) 0 0 512 (Or.inl (Or.inl (by rw [hl]; decide))) rfl rfl ?_
  refine smH_other (x := none) (y := none) 0 1 512 (Or.inl (Or.inl (by rw [hl]; decide))) rfl rfl ?_
  refine smH_other (x := none) (y := none) 0 1 0 (Or.inl (Or.inl (by rw [hl]; decide))) rfl rfl ?_
  refine qkL_drop ?_
  refine smH_other (x := none) (y := none) 0 0 512 (Or.inl (Or.inl (by rw [hl]; decide))) rfl rfl ?_
  refine smH_other (x := none) (y := none) 0 0 0 (Or.inl (Or.inl (by rw [hl]; decide))) rfl rfl ?_
  refine qkL_drop ?_
  refine smA_other (x := none) (y := none) 0 1 (Or.inl (by rw [hl]; decide)) rfl rfl ?_
  refine qkA_drop ?_
  refine smA_other (x := none) (y := none) 0 0 (Or.inl (by rw [hl]; decide)) rfl rfl ?_
  refine qkA_drop ?_
  refine smA_other (x := none) (y := none) 0 1 (Or.inl (by rw [hl]; decide)) rfl rfl ?_
  refine qkA_drop ?_
  refine smA_other (x := none) (y := none) 0 0 (Or.inl (by rw [hl]; decide)) rfl rfl ?_
  refine qkA_drop ?_
  exact hI

/-- Branch 1 readies a column of head 1 of the second query block. -/
theorem if1_next_1 (t : Fin cfg0.N) (hc : k0_cond1 (grid0.coords t) = 1#1) (hl : C.sl.val = 1) (hh : C.hd.val = 1) (hS : Scores C xk xb) (hI : Inv C σ none none 0) :
    Inv C (if1F (grid0.coords t) xa xb xk xv hc σ) (some (0)) none 0 := by
  unfold if1F
  dsimp only
  refine qkA_same (x := none) (y := none) (0) hS (by rw [hh]) (by rw [hh]) (by rw [hh]) rfl rfl ?_
  refine qkA_other (x := none) (y := none) 0 (by rw [hh]; decide) rfl ?_
  refine out_keep (x := none) (y := none) ?_
  refine out_keep (x := none) (y := none) ?_
  refine smH_other (x := none) (y := none) 0 1 512 (Or.inl (Or.inl (by rw [hl]; decide))) rfl rfl ?_
  refine smH_other (x := none) (y := none) 0 0 512 (Or.inl (Or.inl (by rw [hl]; decide))) rfl rfl ?_
  refine smH_other (x := none) (y := none) 0 1 512 (Or.inl (Or.inl (by rw [hl]; decide))) rfl rfl ?_
  refine smH_other (x := none) (y := none) 0 1 0 (Or.inl (Or.inl (by rw [hl]; decide))) rfl rfl ?_
  refine qkL_drop ?_
  refine smH_other (x := none) (y := none) 0 0 512 (Or.inl (Or.inl (by rw [hl]; decide))) rfl rfl ?_
  refine smH_other (x := none) (y := none) 0 0 0 (Or.inl (Or.inl (by rw [hl]; decide))) rfl rfl ?_
  refine qkL_drop ?_
  refine smA_other (x := none) (y := none) 0 1 (Or.inl (by rw [hl]; decide)) rfl rfl ?_
  refine qkA_drop ?_
  refine smA_other (x := none) (y := none) 0 0 (Or.inl (by rw [hl]; decide)) rfl rfl ?_
  refine qkA_drop ?_
  refine smA_other (x := none) (y := none) 0 1 (Or.inl (by rw [hl]; decide)) rfl rfl ?_
  refine qkA_drop ?_
  refine smA_other (x := none) (y := none) 0 0 (Or.inl (by rw [hl]; decide)) rfl rfl ?_
  refine qkA_drop ?_
  exact hI

/-- Branch 2 ends a column of head 0 in its block's first half and stores its row. -/
theorem if2_0_lo (t : Fin cfg0.N) (hc : k0_cond2 (grid0.coords t) = 1#1) (hp : t.1 % 4 % 2 = 0) (hl : C.sl.val = 0) (hh : C.hd.val = 0) (hS : Scores C xk xa) (hV : Values C xv)
    (hq : C.q.val < 512) (hQ : C.Q = 512 * (2 * (t.1 % 4)) + C.q.val) (hI : Inv C σ (some (2 * (t.1 % 4))) none (512 * (2 * (t.1 % 4)))) :
    Done C (if2F (grid0.coords t) xa xb xk xv hc σ) (512 * (2 * (t.1 % 4) + 1)) := by
  have hlt := C.q.isLt
  unfold if2F
  dsimp only
  refine done_qkA ?_
  refine done_qkA ?_
  refine done_other 0 1 (by rw [hl, hh]; decide) rfl ?_
  refine out_same (x := some (2 * (t.1 % 4))) (y := none) (n := 512 * (2 * (t.1 % 4) + 1)) (by rw [hl, hh]) (by rw [hl, hh]) ?_
  refine smH_other (x := some (2 * (t.1 % 4))) (y := none) 0 1 512 (Or.inl (Or.inr (by rw [hh]; decide))) rfl rfl ?_
  refine smH_other (x := some (2 * (t.1 % 4))) (y := none) 0 0 512 (Or.inr (by omega)) rfl rfl ?_
  refine smH_other (x := some (2 * (t.1 % 4))) (y := none) 0 1 512 (Or.inl (Or.inr (by rw [hh]; decide))) rfl rfl ?_
  refine smH_other (x := some (2 * (t.1 % 4))) (y := none) 0 1 0 (Or.inl (Or.inr (by rw [hh]; decide))) rfl rfl ?_
  refine qkL_other (x := some (2 * (t.1 % 4))) (y := none) 1 (by rw [hh]; decide) rfl ?_
  refine smH_other (x := some (2 * (t.1 % 4))) (y := none) 0 0 512 (Or.inr (by omega)) rfl rfl ?_
  refine smH_mask (x := some (2 * (t.1 % 4))) (y := none) (n := 512 * (2 * (t.1 % 4))) (2 * (t.1 % 4)) 0 hV (by omega) (by omega) (by rw [hh]) (by rw [hl, hh]) (by rw [hl, hh]) (by rw [hh]; exact off34_eq t hc) rfl (by omega) (by omega) (by omega) ?_
  refine qkL_half (x := some (2 * (t.1 % 4))) (y := none) 0 hq rfl ?_
  exact hI

/-- Branch 2 ends a column of head 0 in its block's second half and stores its row. -/
theorem if2_0_hi (t : Fin cfg0.N) (hc : k0_cond2 (grid0.coords t) = 1#1) (hp : t.1 % 4 % 2 = 0) (hl : C.sl.val = 0) (hh : C.hd.val = 0) (hS : Scores C xk xa) (hV : Values C xv)
    (hq : 512 ≤ C.q.val) (hQ : C.Q = 512 * (2 * (t.1 % 4)) + C.q.val) (hI : Inv C σ (some (2 * (t.1 % 4))) none (512 * (2 * (t.1 % 4)))) :
    Done C (if2F (grid0.coords t) xa xb xk xv hc σ) (512 * (2 * (t.1 % 4) + 1 + 1)) := by
  have hlt := C.q.isLt
  unfold if2F
  dsimp only
  refine done_qkA ?_
  refine done_qkA ?_
  refine done_other 0 1 (by rw [hl, hh]; decide) rfl ?_
  refine out_same (x := some (2 * (t.1 % 4))) (y := some (2 * (t.1 % 4) + 1)) (n := 512 * (2 * (t.1 % 4) + 1 + 1)) (by rw [hl, hh]) (by rw [hl, hh]) ?_
  refine smH_other (x := some (2 * (t.1 % 4))) (y := some (2 * (t.1 % 4) + 1)) 0 1 512 (Or.inl (Or.inr (by rw [hh]; decide))) rfl rfl ?_
  refine smH_mask (x := some (2 * (t.1 % 4))) (y := some (2 * (t.1 % 4) + 1)) (n := 512 * (2 * (t.1 % 4) + 1)) (2 * (t.1 % 4) + 1) 512 hV (by omega) (by omega) (by rw [hh]) (by rw [hl, hh]) (by rw [hl, hh]) (by rw [hh]; exact off37_eq t hc) rfl (by omega) (by omega) (by omega) ?_
  refine smH_other (x := some (2 * (t.1 % 4))) (y := some (2 * (t.1 % 4) + 1)) 0 1 512 (Or.inl (Or.inr (by rw [hh]; decide))) rfl rfl ?_
  refine smH_other (x := some (2 * (t.1 % 4))) (y := some (2 * (t.1 % 4) + 1)) 0 1 0 (Or.inl (Or.inr (by rw [hh]; decide))) rfl rfl ?_
  refine qkL_other (x := some (2 * (t.1 % 4))) (y := some (2 * (t.1 % 4) + 1)) 1 (by rw [hh]; decide) rfl ?_
  refine smH_full (x := some (2 * (t.1 % 4))) (y := some (2 * (t.1 % 4) + 1)) (n := 512 * (2 * (t.1 % 4))) (2 * (t.1 % 4)) 512 hV (by omega) (by omega) (by rw [hh]) (by rw [hl, hh]) (by rw [hl, hh]) (by rw [hh]; exact off34_eq t hc) rfl (by omega) (by omega) (by omega) ?_
  refine smH_other (x := some (2 * (t.1 % 4))) (y := some (2 * (t.1 % 4) + 1)) 0 0 0 (Or.inr (by omega)) rfl rfl ?_
  refine qkL_same (x := some (2 * (t.1 % 4))) (y := none) (2 * (t.1 % 4) + 1) hS hq (by rw [hh]; exact off33_eq t hc) (by rw [hh]) (by rw [hh]) rfl rfl ?_
  exact hI

/-- Branch 2 ends a column of head 1 in its block's first half and stores its row. -/
theorem if2_1_lo (t : Fin cfg0.N) (hc : k0_cond2 (grid0.coords t) = 1#1) (hp : t.1 % 4 % 2 = 0) (hl : C.sl.val = 0) (hh : C.hd.val = 1) (hS : Scores C xk xa) (hV : Values C xv)
    (hq : C.q.val < 512) (hQ : C.Q = 512 * (2 * (t.1 % 4)) + C.q.val) (hI : Inv C σ (some (2 * (t.1 % 4))) none (512 * (2 * (t.1 % 4)))) :
    Done C (if2F (grid0.coords t) xa xb xk xv hc σ) (512 * (2 * (t.1 % 4) + 1)) := by
  have hlt := C.q.isLt
  unfold if2F
  dsimp only
  refine done_qkA ?_
  refine done_qkA ?_
  refine out_same (x := some (2 * (t.1 % 4))) (y := none) (n := 512 * (2 * (t.1 % 4) + 1)) (by rw [hl, hh]) (by rw [hl, hh]) ?_
  refine out_keep (x := some (2 * (t.1 % 4))) (y := none) ?_
  refine smH_other (x := some (2 * (t.1 % 4))) (y := none) 0 1 512 (Or.inr (by omega)) rfl rfl ?_
  refine smH_other (x := some (2 * (t.1 % 4))) (y := none) 0 0 512 (Or.inl (Or.inr (by rw [hh]; decide))) rfl rfl ?_
  refine smH_other (x := some (2 * (t.1 % 4))) (y := none) 0 1 512 (Or.inr (by omega)) rfl rfl ?_
  refine smH_mask (x := some (2 * (t.1 % 4))) (y := none) (n := 512 * (2 * (t.1 % 4))) (2 * (t.1 % 4)) 0 hV (by omega) (by omega) (by rw [hh]) (by rw [hl, hh]) (by rw [hl, hh]) (by rw [hh]; exact off36_eq t hc) rfl (by omega) (by omega) (by omega) ?_
  refine qkL_half (x := some (2 * (t.1 % 4))) (y := none) 1 hq rfl ?_
  refine smH_other (x := some (2 * (t.1 % 4))) (y := none) 0 0 512 (Or.inl (Or.inr (by rw [hh]; decide))) rfl rfl ?_
  refine smH_other (x := some (2 * (t.1 % 4))) (y := none) 0 0 0 (Or.inl (Or.inr (by rw [hh]; decide))) rfl rfl ?_
  refine qkL_other (x := some (2 * (t.1 % 4))) (y := none) 0 (by rw [hh]; decide) rfl ?_
  exact hI

/-- Branch 2 ends a column of head 1 in its block's second half and stores its row. -/
theorem if2_1_hi (t : Fin cfg0.N) (hc : k0_cond2 (grid0.coords t) = 1#1) (hp : t.1 % 4 % 2 = 0) (hl : C.sl.val = 0) (hh : C.hd.val = 1) (hS : Scores C xk xa) (hV : Values C xv)
    (hq : 512 ≤ C.q.val) (hQ : C.Q = 512 * (2 * (t.1 % 4)) + C.q.val) (hI : Inv C σ (some (2 * (t.1 % 4))) none (512 * (2 * (t.1 % 4)))) :
    Done C (if2F (grid0.coords t) xa xb xk xv hc σ) (512 * (2 * (t.1 % 4) + 1 + 1)) := by
  have hlt := C.q.isLt
  unfold if2F
  dsimp only
  refine done_qkA ?_
  refine done_qkA ?_
  refine out_same (x := some (2 * (t.1 % 4))) (y := some (2 * (t.1 % 4) + 1)) (n := 512 * (2 * (t.1 % 4) + 1 + 1)) (by rw [hl, hh]) (by rw [hl, hh]) ?_
  refine out_keep (x := some (2 * (t.1 % 4))) (y := some (2 * (t.1 % 4) + 1)) ?_
  refine smH_mask (x := some (2 * (t.1 % 4))) (y := some (2 * (t.1 % 4) + 1)) (n := 512 * (2 * (t.1 % 4) + 1)) (2 * (t.1 % 4) + 1) 512 hV (by omega) (by omega) (by rw [hh]) (by rw [hl, hh]) (by rw [hl, hh]) (by rw [hh]; exact off38_eq t hc) rfl (by omega) (by omega) (by omega) ?_
  refine smH_other (x := some (2 * (t.1 % 4))) (y := some (2 * (t.1 % 4) + 1)) 0 0 512 (Or.inl (Or.inr (by rw [hh]; decide))) rfl rfl ?_
  refine smH_full (x := some (2 * (t.1 % 4))) (y := some (2 * (t.1 % 4) + 1)) (n := 512 * (2 * (t.1 % 4))) (2 * (t.1 % 4)) 512 hV (by omega) (by omega) (by rw [hh]) (by rw [hl, hh]) (by rw [hl, hh]) (by rw [hh]; exact off36_eq t hc) rfl (by omega) (by omega) (by omega) ?_
  refine smH_other (x := some (2 * (t.1 % 4))) (y := some (2 * (t.1 % 4) + 1)) 0 1 0 (Or.inr (by omega)) rfl rfl ?_
  refine qkL_same (x := some (2 * (t.1 % 4))) (y := none) (2 * (t.1 % 4) + 1) hS hq (by rw [hh]; exact off35_eq t hc) (by rw [hh]) (by rw [hh]) rfl rfl ?_
  refine smH_other (x := some (2 * (t.1 % 4))) (y := none) 0 0 512 (Or.inl (Or.inr (by rw [hh]; decide))) rfl rfl ?_
  refine smH_other (x := some (2 * (t.1 % 4))) (y := none) 0 0 0 (Or.inl (Or.inr (by rw [hh]; decide))) rfl rfl ?_
  refine qkL_other (x := some (2 * (t.1 % 4))) (y := none) 0 (by rw [hh]; decide) rfl ?_
  exact hI

/-- Branch 2 readies a column of head 0 of the second query block. -/
theorem if2_next_0 (t : Fin cfg0.N) (hc : k0_cond2 (grid0.coords t) = 1#1) (hl : C.sl.val = 1) (hh : C.hd.val = 0) (hS : Scores C xk xb) (hI : Inv C σ none none 0) :
    Inv C (if2F (grid0.coords t) xa xb xk xv hc σ) (some (0)) none 0 := by
  unfold if2F
  dsimp only
  refine qkA_other (x := some (0)) (y := none) 1 (by rw [hh]; decide) rfl ?_
  refine qkA_same (x := none) (y := none) (0) hS (by rw [hh]) (by rw [hh]) (by rw [hh]) rfl rfl ?_
  refine out_keep (x := none) (y := none) ?_
  refine out_keep (x := none) (y := none) ?_
  refine smH_other (x := none) (y := none) 0 1 512 (Or.inl (Or.inl (by rw [hl]; decide))) rfl rfl ?_
  refine smH_other (x := none) (y := none) 0 0 512 (Or.inl (Or.inl (by rw [hl]; decide))) rfl rfl ?_
  refine smH_other (x := none) (y := none) 0 1 512 (Or.inl (Or.inl (by rw [hl]; decide))) rfl rfl ?_
  refine smH_other (x := none) (y := none) 0 1 0 (Or.inl (Or.inl (by rw [hl]; decide))) rfl rfl ?_
  refine qkL_drop ?_
  refine smH_other (x := none) (y := none) 0 0 512 (Or.inl (Or.inl (by rw [hl]; decide))) rfl rfl ?_
  refine smH_other (x := none) (y := none) 0 0 0 (Or.inl (Or.inl (by rw [hl]; decide))) rfl rfl ?_
  refine qkL_drop ?_
  exact hI

/-- Branch 2 readies a column of head 1 of the second query block. -/
theorem if2_next_1 (t : Fin cfg0.N) (hc : k0_cond2 (grid0.coords t) = 1#1) (hl : C.sl.val = 1) (hh : C.hd.val = 1) (hS : Scores C xk xb) (hI : Inv C σ none none 0) :
    Inv C (if2F (grid0.coords t) xa xb xk xv hc σ) (some (0)) none 0 := by
  unfold if2F
  dsimp only
  refine qkA_same (x := none) (y := none) (0) hS (by rw [hh]) (by rw [hh]) (by rw [hh]) rfl rfl ?_
  refine qkA_other (x := none) (y := none) 0 (by rw [hh]; decide) rfl ?_
  refine out_keep (x := none) (y := none) ?_
  refine out_keep (x := none) (y := none) ?_
  refine smH_other (x := none) (y := none) 0 1 512 (Or.inl (Or.inl (by rw [hl]; decide))) rfl rfl ?_
  refine smH_other (x := none) (y := none) 0 0 512 (Or.inl (Or.inl (by rw [hl]; decide))) rfl rfl ?_
  refine smH_other (x := none) (y := none) 0 1 512 (Or.inl (Or.inl (by rw [hl]; decide))) rfl rfl ?_
  refine smH_other (x := none) (y := none) 0 1 0 (Or.inl (Or.inl (by rw [hl]; decide))) rfl rfl ?_
  refine qkL_drop ?_
  refine smH_other (x := none) (y := none) 0 0 512 (Or.inl (Or.inl (by rw [hl]; decide))) rfl rfl ?_
  refine smH_other (x := none) (y := none) 0 0 0 (Or.inl (Or.inl (by rw [hl]; decide))) rfl rfl ?_
  refine qkL_drop ?_
  exact hI

/-- Branch 3 ends a column of head 0 in its block's first half and stores its row. -/
theorem if3_0_lo (t : Fin cfg0.N) (hc : k0_cond3 (grid0.coords t) = 1#1) (hp : t.1 % 4 % 2 = 1) (hl : C.sl.val = 1) (hh : C.hd.val = 0) (hS : Scores C xk xb) (hV : Values C xv)
    (hq : C.q.val < 512) (hQ : C.Q = 512 * (2 * (t.1 % 4 + 4)) + C.q.val) (hI : Inv C σ (some (2 * (t.1 % 4 + 4) - 2)) none (512 * (2 * (t.1 % 4 + 4) - 2))) :
    Done C (if3F (grid0.coords t) xa xb xk xv hc σ) (512 * (2 * (t.1 % 4 + 4) + 1)) := by
  have hlt := C.q.isLt
  unfold if3F
  dsimp only
  refine done_other 1 1 (by rw [hl, hh]; decide) rfl ?_
  refine out_same (x := some (2 * (t.1 % 4 + 4))) (y := some (2 * (t.1 % 4 + 4) - 1)) (n := 512 * (2 * (t.1 % 4 + 4) + 1)) (by rw [hl, hh]) (by rw [hl, hh]) ?_
  refine smH_other (x := some (2 * (t.1 % 4 + 4))) (y := some (2 * (t.1 % 4 + 4) - 1)) 1 1 512 (Or.inl (Or.inr (by rw [hh]; decide))) rfl rfl ?_
  refine smH_other (x := some (2 * (t.1 % 4 + 4))) (y := some (2 * (t.1 % 4 + 4) - 1)) 1 0 512 (Or.inr (by omega)) rfl rfl ?_
  refine smH_other (x := some (2 * (t.1 % 4 + 4))) (y := some (2 * (t.1 % 4 + 4) - 1)) 1 1 512 (Or.inl (Or.inr (by rw [hh]; decide))) rfl rfl ?_
  refine smH_other (x := some (2 * (t.1 % 4 + 4))) (y := some (2 * (t.1 % 4 + 4) - 1)) 1 1 0 (Or.inl (Or.inr (by rw [hh]; decide))) rfl rfl ?_
  refine qkL_other (x := some (2 * (t.1 % 4 + 4))) (y := some (2 * (t.1 % 4 + 4) - 1)) 1 (by rw [hh]; decide) rfl ?_
  refine smH_other (x := some (2 * (t.1 % 4 + 4))) (y := some (2 * (t.1 % 4 + 4) - 1)) 1 0 512 (Or.inr (by omega)) rfl rfl ?_
  refine smH_mask (x := some (2 * (t.1 % 4 + 4))) (y := some (2 * (t.1 % 4 + 4) - 1)) (n := 512 * (2 * (t.1 % 4 + 4) - 1 + 1)) (2 * (t.1 % 4 + 4)) 0 hV (by omega) (by omega) (by rw [hh]) (by rw [hl, hh]) (by rw [hl, hh]) (by rw [hh]; exact off66_eq t hc) rfl (by omega) (by omega) (by omega) ?_
  refine qkL_half (x := some (2 * (t.1 % 4 + 4))) (y := some (2 * (t.1 % 4 + 4) - 1)) 0 hq rfl ?_
  refine smA_other (x := some (2 * (t.1 % 4 + 4))) (y := some (2 * (t.1 % 4 + 4) - 1)) 1 1 (Or.inr (by rw [hh]; decide)) rfl rfl ?_
  refine qkA_other (x := some (2 * (t.1 % 4 + 4))) (y := some (2 * (t.1 % 4 + 4) - 1)) 1 (by rw [hh]; decide) rfl ?_
  refine smA_same (x := some (2 * (t.1 % 4 + 4))) (y := some (2 * (t.1 % 4 + 4) - 1)) (n := 512 * (2 * (t.1 % 4 + 4) - 2 + 1)) (2 * (t.1 % 4 + 4) - 1) hV (by rw [hh]) (by rw [hl, hh]) (by rw [hl, hh]) (by rw [hh]; exact off63_eq t hc) rfl (by omega) (by omega) (by omega) ?_
  refine qkA_same (x := some (2 * (t.1 % 4 + 4) - 2)) (y := some (2 * (t.1 % 4 + 4) - 1)) (2 * (t.1 % 4 + 4)) hS (by rw [hh]; exact off59_2_eq t hc) (by rw [hh]) (by rw [hh]) rfl rfl ?_
  refine smA_other (x := some (2 * (t.1 % 4 + 4) - 2)) (y := some (2 * (t.1 % 4 + 4) - 1)) 1 1 (Or.inr (by rw [hh]; decide)) rfl rfl ?_
  refine qkA_other (x := some (2 * (t.1 % 4 + 4) - 2)) (y := some (2 * (t.1 % 4 + 4) - 1)) 1 (by rw [hh]; decide) rfl ?_
  refine smA_same (x := some (2 * (t.1 % 4 + 4) - 2)) (y := some (2 * (t.1 % 4 + 4) - 1)) (n := 512 * (2 * (t.1 % 4 + 4) - 2)) (2 * (t.1 % 4 + 4) - 2) hV (by rw [hh]) (by rw [hl, hh]) (by rw [hl, hh]) (by rw [hh]; exact off60_eq t hc) rfl (by omega) (by omega) (by omega) ?_
  refine qkA_same (x := some (2 * (t.1 % 4 + 4) - 2)) (y := none) (2 * (t.1 % 4 + 4) - 1) hS (by rw [hh]; exact off59_1_eq t hc) (by rw [hh]) (by rw [hh]) rfl rfl ?_
  exact hI

/-- Branch 3 ends a column of head 0 in its block's second half and stores its row. -/
theorem if3_0_hi (t : Fin cfg0.N) (hc : k0_cond3 (grid0.coords t) = 1#1) (hp : t.1 % 4 % 2 = 1) (hl : C.sl.val = 1) (hh : C.hd.val = 0) (hS : Scores C xk xb) (hV : Values C xv)
    (hq : 512 ≤ C.q.val) (hQ : C.Q = 512 * (2 * (t.1 % 4 + 4)) + C.q.val) (hI : Inv C σ (some (2 * (t.1 % 4 + 4) - 2)) none (512 * (2 * (t.1 % 4 + 4) - 2))) :
    Done C (if3F (grid0.coords t) xa xb xk xv hc σ) (512 * (2 * (t.1 % 4 + 4) + 1 + 1)) := by
  have hlt := C.q.isLt
  unfold if3F
  dsimp only
  refine done_other 1 1 (by rw [hl, hh]; decide) rfl ?_
  refine out_same (x := some (2 * (t.1 % 4 + 4))) (y := some (2 * (t.1 % 4 + 4) + 1)) (n := 512 * (2 * (t.1 % 4 + 4) + 1 + 1)) (by rw [hl, hh]) (by rw [hl, hh]) ?_
  refine smH_other (x := some (2 * (t.1 % 4 + 4))) (y := some (2 * (t.1 % 4 + 4) + 1)) 1 1 512 (Or.inl (Or.inr (by rw [hh]; decide))) rfl rfl ?_
  refine smH_mask (x := some (2 * (t.1 % 4 + 4))) (y := some (2 * (t.1 % 4 + 4) + 1)) (n := 512 * (2 * (t.1 % 4 + 4) + 1)) (2 * (t.1 % 4 + 4) + 1) 512 hV (by omega) (by omega) (by rw [hh]) (by rw [hl, hh]) (by rw [hl, hh]) (by rw [hh]; exact off69_eq t hc) rfl (by omega) (by omega) (by omega) ?_
  refine smH_other (x := some (2 * (t.1 % 4 + 4))) (y := some (2 * (t.1 % 4 + 4) + 1)) 1 1 512 (Or.inl (Or.inr (by rw [hh]; decide))) rfl rfl ?_
  refine smH_other (x := some (2 * (t.1 % 4 + 4))) (y := some (2 * (t.1 % 4 + 4) + 1)) 1 1 0 (Or.inl (Or.inr (by rw [hh]; decide))) rfl rfl ?_
  refine qkL_other (x := some (2 * (t.1 % 4 + 4))) (y := some (2 * (t.1 % 4 + 4) + 1)) 1 (by rw [hh]; decide) rfl ?_
  refine smH_full (x := some (2 * (t.1 % 4 + 4))) (y := some (2 * (t.1 % 4 + 4) + 1)) (n := 512 * (2 * (t.1 % 4 + 4) - 1 + 1)) (2 * (t.1 % 4 + 4)) 512 hV (by omega) (by omega) (by rw [hh]) (by rw [hl, hh]) (by rw [hl, hh]) (by rw [hh]; exact off66_eq t hc) rfl (by omega) (by omega) (by omega) ?_
  refine smH_other (x := some (2 * (t.1 % 4 + 4))) (y := some (2 * (t.1 % 4 + 4) + 1)) 1 0 0 (Or.inr (by omega)) rfl rfl ?_
  refine qkL_same (x := some (2 * (t.1 % 4 + 4))) (y := some (2 * (t.1 % 4 + 4) - 1)) (2 * (t.1 % 4 + 4) + 1) hS hq (by rw [hh]; exact off65_eq t hc) (by rw [hh]) (by rw [hh]) rfl rfl ?_
  refine smA_other (x := some (2 * (t.1 % 4 + 4))) (y := some (2 * (t.1 % 4 + 4) - 1)) 1 1 (Or.inr (by rw [hh]; decide)) rfl rfl ?_
  refine qkA_other (x := some (2 * (t.1 % 4 + 4))) (y := some (2 * (t.1 % 4 + 4) - 1)) 1 (by rw [hh]; decide) rfl ?_
  refine smA_same (x := some (2 * (t.1 % 4 + 4))) (y := some (2 * (t.1 % 4 + 4) - 1)) (n := 512 * (2 * (t.1 % 4 + 4) - 2 + 1)) (2 * (t.1 % 4 + 4) - 1) hV (by rw [hh]) (by rw [hl, hh]) (by rw [hl, hh]) (by rw [hh]; exact off63_eq t hc) rfl (by omega) (by omega) (by omega) ?_
  refine qkA_same (x := some (2 * (t.1 % 4 + 4) - 2)) (y := some (2 * (t.1 % 4 + 4) - 1)) (2 * (t.1 % 4 + 4)) hS (by rw [hh]; exact off59_2_eq t hc) (by rw [hh]) (by rw [hh]) rfl rfl ?_
  refine smA_other (x := some (2 * (t.1 % 4 + 4) - 2)) (y := some (2 * (t.1 % 4 + 4) - 1)) 1 1 (Or.inr (by rw [hh]; decide)) rfl rfl ?_
  refine qkA_other (x := some (2 * (t.1 % 4 + 4) - 2)) (y := some (2 * (t.1 % 4 + 4) - 1)) 1 (by rw [hh]; decide) rfl ?_
  refine smA_same (x := some (2 * (t.1 % 4 + 4) - 2)) (y := some (2 * (t.1 % 4 + 4) - 1)) (n := 512 * (2 * (t.1 % 4 + 4) - 2)) (2 * (t.1 % 4 + 4) - 2) hV (by rw [hh]) (by rw [hl, hh]) (by rw [hl, hh]) (by rw [hh]; exact off60_eq t hc) rfl (by omega) (by omega) (by omega) ?_
  refine qkA_same (x := some (2 * (t.1 % 4 + 4) - 2)) (y := none) (2 * (t.1 % 4 + 4) - 1) hS (by rw [hh]; exact off59_1_eq t hc) (by rw [hh]) (by rw [hh]) rfl rfl ?_
  exact hI

/-- Branch 3 ends a column of head 1 in its block's first half and stores its row. -/
theorem if3_1_lo (t : Fin cfg0.N) (hc : k0_cond3 (grid0.coords t) = 1#1) (hp : t.1 % 4 % 2 = 1) (hl : C.sl.val = 1) (hh : C.hd.val = 1) (hS : Scores C xk xb) (hV : Values C xv)
    (hq : C.q.val < 512) (hQ : C.Q = 512 * (2 * (t.1 % 4 + 4)) + C.q.val) (hI : Inv C σ (some (2 * (t.1 % 4 + 4) - 2)) none (512 * (2 * (t.1 % 4 + 4) - 2))) :
    Done C (if3F (grid0.coords t) xa xb xk xv hc σ) (512 * (2 * (t.1 % 4 + 4) + 1)) := by
  have hlt := C.q.isLt
  unfold if3F
  dsimp only
  refine out_same (x := some (2 * (t.1 % 4 + 4))) (y := some (2 * (t.1 % 4 + 4) - 1)) (n := 512 * (2 * (t.1 % 4 + 4) + 1)) (by rw [hl, hh]) (by rw [hl, hh]) ?_
  refine out_keep (x := some (2 * (t.1 % 4 + 4))) (y := some (2 * (t.1 % 4 + 4) - 1)) ?_
  refine smH_other (x := some (2 * (t.1 % 4 + 4))) (y := some (2 * (t.1 % 4 + 4) - 1)) 1 1 512 (Or.inr (by omega)) rfl rfl ?_
  refine smH_other (x := some (2 * (t.1 % 4 + 4))) (y := some (2 * (t.1 % 4 + 4) - 1)) 1 0 512 (Or.inl (Or.inr (by rw [hh]; decide))) rfl rfl ?_
  refine smH_other (x := some (2 * (t.1 % 4 + 4))) (y := some (2 * (t.1 % 4 + 4) - 1)) 1 1 512 (Or.inr (by omega)) rfl rfl ?_
  refine smH_mask (x := some (2 * (t.1 % 4 + 4))) (y := some (2 * (t.1 % 4 + 4) - 1)) (n := 512 * (2 * (t.1 % 4 + 4) - 1 + 1)) (2 * (t.1 % 4 + 4)) 0 hV (by omega) (by omega) (by rw [hh]) (by rw [hl, hh]) (by rw [hl, hh]) (by rw [hh]; exact off68_eq t hc) rfl (by omega) (by omega) (by omega) ?_
  refine qkL_half (x := some (2 * (t.1 % 4 + 4))) (y := some (2 * (t.1 % 4 + 4) - 1)) 1 hq rfl ?_
  refine smH_other (x := some (2 * (t.1 % 4 + 4))) (y := some (2 * (t.1 % 4 + 4) - 1)) 1 0 512 (Or.inl (Or.inr (by rw [hh]; decide))) rfl rfl ?_
  refine smH_other (x := some (2 * (t.1 % 4 + 4))) (y := some (2 * (t.1 % 4 + 4) - 1)) 1 0 0 (Or.inl (Or.inr (by rw [hh]; decide))) rfl rfl ?_
  refine qkL_other (x := some (2 * (t.1 % 4 + 4))) (y := some (2 * (t.1 % 4 + 4) - 1)) 0 (by rw [hh]; decide) rfl ?_
  refine smA_same (x := some (2 * (t.1 % 4 + 4))) (y := some (2 * (t.1 % 4 + 4) - 1)) (n := 512 * (2 * (t.1 % 4 + 4) - 2 + 1)) (2 * (t.1 % 4 + 4) - 1) hV (by rw [hh]) (by rw [hl, hh]) (by rw [hl, hh]) (by rw [hh]; exact off64_eq t hc) rfl (by omega) (by omega) (by omega) ?_
  refine qkA_same (x := some (2 * (t.1 % 4 + 4) - 2)) (y := some (2 * (t.1 % 4 + 4) - 1)) (2 * (t.1 % 4 + 4)) hS (by rw [hh]; exact off61_2_eq t hc) (by rw [hh]) (by rw [hh]) rfl rfl ?_
  refine smA_other (x := some (2 * (t.1 % 4 + 4) - 2)) (y := some (2 * (t.1 % 4 + 4) - 1)) 1 0 (Or.inr (by rw [hh]; decide)) rfl rfl ?_
  refine qkA_other (x := some (2 * (t.1 % 4 + 4) - 2)) (y := some (2 * (t.1 % 4 + 4) - 1)) 0 (by rw [hh]; decide) rfl ?_
  refine smA_same (x := some (2 * (t.1 % 4 + 4) - 2)) (y := some (2 * (t.1 % 4 + 4) - 1)) (n := 512 * (2 * (t.1 % 4 + 4) - 2)) (2 * (t.1 % 4 + 4) - 2) hV (by rw [hh]) (by rw [hl, hh]) (by rw [hl, hh]) (by rw [hh]; exact off62_eq t hc) rfl (by omega) (by omega) (by omega) ?_
  refine qkA_same (x := some (2 * (t.1 % 4 + 4) - 2)) (y := none) (2 * (t.1 % 4 + 4) - 1) hS (by rw [hh]; exact off61_1_eq t hc) (by rw [hh]) (by rw [hh]) rfl rfl ?_
  refine smA_other (x := some (2 * (t.1 % 4 + 4) - 2)) (y := none) 1 0 (Or.inr (by rw [hh]; decide)) rfl rfl ?_
  refine qkA_other (x := some (2 * (t.1 % 4 + 4) - 2)) (y := none) 0 (by rw [hh]; decide) rfl ?_
  exact hI

/-- Branch 3 ends a column of head 1 in its block's second half and stores its row. -/
theorem if3_1_hi (t : Fin cfg0.N) (hc : k0_cond3 (grid0.coords t) = 1#1) (hp : t.1 % 4 % 2 = 1) (hl : C.sl.val = 1) (hh : C.hd.val = 1) (hS : Scores C xk xb) (hV : Values C xv)
    (hq : 512 ≤ C.q.val) (hQ : C.Q = 512 * (2 * (t.1 % 4 + 4)) + C.q.val) (hI : Inv C σ (some (2 * (t.1 % 4 + 4) - 2)) none (512 * (2 * (t.1 % 4 + 4) - 2))) :
    Done C (if3F (grid0.coords t) xa xb xk xv hc σ) (512 * (2 * (t.1 % 4 + 4) + 1 + 1)) := by
  have hlt := C.q.isLt
  unfold if3F
  dsimp only
  refine out_same (x := some (2 * (t.1 % 4 + 4))) (y := some (2 * (t.1 % 4 + 4) + 1)) (n := 512 * (2 * (t.1 % 4 + 4) + 1 + 1)) (by rw [hl, hh]) (by rw [hl, hh]) ?_
  refine out_keep (x := some (2 * (t.1 % 4 + 4))) (y := some (2 * (t.1 % 4 + 4) + 1)) ?_
  refine smH_mask (x := some (2 * (t.1 % 4 + 4))) (y := some (2 * (t.1 % 4 + 4) + 1)) (n := 512 * (2 * (t.1 % 4 + 4) + 1)) (2 * (t.1 % 4 + 4) + 1) 512 hV (by omega) (by omega) (by rw [hh]) (by rw [hl, hh]) (by rw [hl, hh]) (by rw [hh]; exact off70_eq t hc) rfl (by omega) (by omega) (by omega) ?_
  refine smH_other (x := some (2 * (t.1 % 4 + 4))) (y := some (2 * (t.1 % 4 + 4) + 1)) 1 0 512 (Or.inl (Or.inr (by rw [hh]; decide))) rfl rfl ?_
  refine smH_full (x := some (2 * (t.1 % 4 + 4))) (y := some (2 * (t.1 % 4 + 4) + 1)) (n := 512 * (2 * (t.1 % 4 + 4) - 1 + 1)) (2 * (t.1 % 4 + 4)) 512 hV (by omega) (by omega) (by rw [hh]) (by rw [hl, hh]) (by rw [hl, hh]) (by rw [hh]; exact off68_eq t hc) rfl (by omega) (by omega) (by omega) ?_
  refine smH_other (x := some (2 * (t.1 % 4 + 4))) (y := some (2 * (t.1 % 4 + 4) + 1)) 1 1 0 (Or.inr (by omega)) rfl rfl ?_
  refine qkL_same (x := some (2 * (t.1 % 4 + 4))) (y := some (2 * (t.1 % 4 + 4) - 1)) (2 * (t.1 % 4 + 4) + 1) hS hq (by rw [hh]; exact off67_eq t hc) (by rw [hh]) (by rw [hh]) rfl rfl ?_
  refine smH_other (x := some (2 * (t.1 % 4 + 4))) (y := some (2 * (t.1 % 4 + 4) - 1)) 1 0 512 (Or.inl (Or.inr (by rw [hh]; decide))) rfl rfl ?_
  refine smH_other (x := some (2 * (t.1 % 4 + 4))) (y := some (2 * (t.1 % 4 + 4) - 1)) 1 0 0 (Or.inl (Or.inr (by rw [hh]; decide))) rfl rfl ?_
  refine qkL_other (x := some (2 * (t.1 % 4 + 4))) (y := some (2 * (t.1 % 4 + 4) - 1)) 0 (by rw [hh]; decide) rfl ?_
  refine smA_same (x := some (2 * (t.1 % 4 + 4))) (y := some (2 * (t.1 % 4 + 4) - 1)) (n := 512 * (2 * (t.1 % 4 + 4) - 2 + 1)) (2 * (t.1 % 4 + 4) - 1) hV (by rw [hh]) (by rw [hl, hh]) (by rw [hl, hh]) (by rw [hh]; exact off64_eq t hc) rfl (by omega) (by omega) (by omega) ?_
  refine qkA_same (x := some (2 * (t.1 % 4 + 4) - 2)) (y := some (2 * (t.1 % 4 + 4) - 1)) (2 * (t.1 % 4 + 4)) hS (by rw [hh]; exact off61_2_eq t hc) (by rw [hh]) (by rw [hh]) rfl rfl ?_
  refine smA_other (x := some (2 * (t.1 % 4 + 4) - 2)) (y := some (2 * (t.1 % 4 + 4) - 1)) 1 0 (Or.inr (by rw [hh]; decide)) rfl rfl ?_
  refine qkA_other (x := some (2 * (t.1 % 4 + 4) - 2)) (y := some (2 * (t.1 % 4 + 4) - 1)) 0 (by rw [hh]; decide) rfl ?_
  refine smA_same (x := some (2 * (t.1 % 4 + 4) - 2)) (y := some (2 * (t.1 % 4 + 4) - 1)) (n := 512 * (2 * (t.1 % 4 + 4) - 2)) (2 * (t.1 % 4 + 4) - 2) hV (by rw [hh]) (by rw [hl, hh]) (by rw [hl, hh]) (by rw [hh]; exact off62_eq t hc) rfl (by omega) (by omega) (by omega) ?_
  refine qkA_same (x := some (2 * (t.1 % 4 + 4) - 2)) (y := none) (2 * (t.1 % 4 + 4) - 1) hS (by rw [hh]; exact off61_1_eq t hc) (by rw [hh]) (by rw [hh]) rfl rfl ?_
  refine smA_other (x := some (2 * (t.1 % 4 + 4) - 2)) (y := none) 1 0 (Or.inr (by rw [hh]; decide)) rfl rfl ?_
  refine qkA_other (x := some (2 * (t.1 % 4 + 4) - 2)) (y := none) 0 (by rw [hh]; decide) rfl ?_
  exact hI

/-- Branch 3 leaves the rows stored by the first query block. -/
theorem if3_done (t : Fin cfg0.N) (hc : k0_cond3 (grid0.coords t) = 1#1) (hl : C.sl.val = 0) {n : ℕ} (hI : Done C σ n) :
    Done C (if3F (grid0.coords t) xa xb xk xv hc σ) n := by
  unfold if3F
  dsimp only
  refine done_other 1 1 (Or.inl (by rw [hl]; decide)) rfl ?_
  refine done_other 1 0 (Or.inl (by rw [hl]; decide)) rfl ?_
  refine done_smH ?_
  refine done_smH ?_
  refine done_smH ?_
  refine done_smH ?_
  refine done_qkL ?_
  refine done_smH ?_
  refine done_smH ?_
  refine done_qkL ?_
  refine done_smA ?_
  refine done_qkA ?_
  refine done_smA ?_
  refine done_qkA ?_
  refine done_smA ?_
  refine done_qkA ?_
  refine done_smA ?_
  refine done_qkA ?_
  exact hI

/-- Branch 4 ends a column of head 0 in its block's first half and stores its row. -/
theorem if4_0_lo (t : Fin cfg0.N) (hc : k0_cond4 (grid0.coords t) = 1#1) (hp : t.1 % 4 % 2 = 0) (hl : C.sl.val = 1) (hh : C.hd.val = 0) (hS : Scores C xk xb) (hV : Values C xv)
    (hq : C.q.val < 512) (hQ : C.Q = 512 * (2 * (t.1 % 4 + 4)) + C.q.val) (hI : Inv C σ (some (2 * (t.1 % 4 + 4))) none (512 * (2 * (t.1 % 4 + 4)))) :
    Done C (if4F (grid0.coords t) xa xb xk xv hc σ) (512 * (2 * (t.1 % 4 + 4) + 1)) := by
  have hlt := C.q.isLt
  unfold if4F
  dsimp only
  refine done_other 1 1 (by rw [hl, hh]; decide) rfl ?_
  refine out_same (x := some (2 * (t.1 % 4 + 4))) (y := none) (n := 512 * (2 * (t.1 % 4 + 4) + 1)) (by rw [hl, hh]) (by rw [hl, hh]) ?_
  refine smH_other (x := some (2 * (t.1 % 4 + 4))) (y := none) 1 1 512 (Or.inl (Or.inr (by rw [hh]; decide))) rfl rfl ?_
  refine smH_other (x := some (2 * (t.1 % 4 + 4))) (y := none) 1 0 512 (Or.inr (by omega)) rfl rfl ?_
  refine smH_other (x := some (2 * (t.1 % 4 + 4))) (y := none) 1 1 512 (Or.inl (Or.inr (by rw [hh]; decide))) rfl rfl ?_
  refine smH_other (x := some (2 * (t.1 % 4 + 4))) (y := none) 1 1 0 (Or.inl (Or.inr (by rw [hh]; decide))) rfl rfl ?_
  refine qkL_other (x := some (2 * (t.1 % 4 + 4))) (y := none) 1 (by rw [hh]; decide) rfl ?_
  refine smH_other (x := some (2 * (t.1 % 4 + 4))) (y := none) 1 0 512 (Or.inr (by omega)) rfl rfl ?_
  refine smH_mask (x := some (2 * (t.1 % 4 + 4))) (y := none) (n := 512 * (2 * (t.1 % 4 + 4))) (2 * (t.1 % 4 + 4)) 0 hV (by omega) (by omega) (by rw [hh]) (by rw [hl, hh]) (by rw [hl, hh]) (by rw [hh]; exact off72_eq t hc) rfl (by omega) (by omega) (by omega) ?_
  refine qkL_half (x := some (2 * (t.1 % 4 + 4))) (y := none) 0 hq rfl ?_
  exact hI

/-- Branch 4 ends a column of head 0 in its block's second half and stores its row. -/
theorem if4_0_hi (t : Fin cfg0.N) (hc : k0_cond4 (grid0.coords t) = 1#1) (hp : t.1 % 4 % 2 = 0) (hl : C.sl.val = 1) (hh : C.hd.val = 0) (hS : Scores C xk xb) (hV : Values C xv)
    (hq : 512 ≤ C.q.val) (hQ : C.Q = 512 * (2 * (t.1 % 4 + 4)) + C.q.val) (hI : Inv C σ (some (2 * (t.1 % 4 + 4))) none (512 * (2 * (t.1 % 4 + 4)))) :
    Done C (if4F (grid0.coords t) xa xb xk xv hc σ) (512 * (2 * (t.1 % 4 + 4) + 1 + 1)) := by
  have hlt := C.q.isLt
  unfold if4F
  dsimp only
  refine done_other 1 1 (by rw [hl, hh]; decide) rfl ?_
  refine out_same (x := some (2 * (t.1 % 4 + 4))) (y := some (2 * (t.1 % 4 + 4) + 1)) (n := 512 * (2 * (t.1 % 4 + 4) + 1 + 1)) (by rw [hl, hh]) (by rw [hl, hh]) ?_
  refine smH_other (x := some (2 * (t.1 % 4 + 4))) (y := some (2 * (t.1 % 4 + 4) + 1)) 1 1 512 (Or.inl (Or.inr (by rw [hh]; decide))) rfl rfl ?_
  refine smH_mask (x := some (2 * (t.1 % 4 + 4))) (y := some (2 * (t.1 % 4 + 4) + 1)) (n := 512 * (2 * (t.1 % 4 + 4) + 1)) (2 * (t.1 % 4 + 4) + 1) 512 hV (by omega) (by omega) (by rw [hh]) (by rw [hl, hh]) (by rw [hl, hh]) (by rw [hh]; exact off75_eq t hc) rfl (by omega) (by omega) (by omega) ?_
  refine smH_other (x := some (2 * (t.1 % 4 + 4))) (y := some (2 * (t.1 % 4 + 4) + 1)) 1 1 512 (Or.inl (Or.inr (by rw [hh]; decide))) rfl rfl ?_
  refine smH_other (x := some (2 * (t.1 % 4 + 4))) (y := some (2 * (t.1 % 4 + 4) + 1)) 1 1 0 (Or.inl (Or.inr (by rw [hh]; decide))) rfl rfl ?_
  refine qkL_other (x := some (2 * (t.1 % 4 + 4))) (y := some (2 * (t.1 % 4 + 4) + 1)) 1 (by rw [hh]; decide) rfl ?_
  refine smH_full (x := some (2 * (t.1 % 4 + 4))) (y := some (2 * (t.1 % 4 + 4) + 1)) (n := 512 * (2 * (t.1 % 4 + 4))) (2 * (t.1 % 4 + 4)) 512 hV (by omega) (by omega) (by rw [hh]) (by rw [hl, hh]) (by rw [hl, hh]) (by rw [hh]; exact off72_eq t hc) rfl (by omega) (by omega) (by omega) ?_
  refine smH_other (x := some (2 * (t.1 % 4 + 4))) (y := some (2 * (t.1 % 4 + 4) + 1)) 1 0 0 (Or.inr (by omega)) rfl rfl ?_
  refine qkL_same (x := some (2 * (t.1 % 4 + 4))) (y := none) (2 * (t.1 % 4 + 4) + 1) hS hq (by rw [hh]; exact off71_eq t hc) (by rw [hh]) (by rw [hh]) rfl rfl ?_
  exact hI

/-- Branch 4 ends a column of head 1 in its block's first half and stores its row. -/
theorem if4_1_lo (t : Fin cfg0.N) (hc : k0_cond4 (grid0.coords t) = 1#1) (hp : t.1 % 4 % 2 = 0) (hl : C.sl.val = 1) (hh : C.hd.val = 1) (hS : Scores C xk xb) (hV : Values C xv)
    (hq : C.q.val < 512) (hQ : C.Q = 512 * (2 * (t.1 % 4 + 4)) + C.q.val) (hI : Inv C σ (some (2 * (t.1 % 4 + 4))) none (512 * (2 * (t.1 % 4 + 4)))) :
    Done C (if4F (grid0.coords t) xa xb xk xv hc σ) (512 * (2 * (t.1 % 4 + 4) + 1)) := by
  have hlt := C.q.isLt
  unfold if4F
  dsimp only
  refine out_same (x := some (2 * (t.1 % 4 + 4))) (y := none) (n := 512 * (2 * (t.1 % 4 + 4) + 1)) (by rw [hl, hh]) (by rw [hl, hh]) ?_
  refine out_keep (x := some (2 * (t.1 % 4 + 4))) (y := none) ?_
  refine smH_other (x := some (2 * (t.1 % 4 + 4))) (y := none) 1 1 512 (Or.inr (by omega)) rfl rfl ?_
  refine smH_other (x := some (2 * (t.1 % 4 + 4))) (y := none) 1 0 512 (Or.inl (Or.inr (by rw [hh]; decide))) rfl rfl ?_
  refine smH_other (x := some (2 * (t.1 % 4 + 4))) (y := none) 1 1 512 (Or.inr (by omega)) rfl rfl ?_
  refine smH_mask (x := some (2 * (t.1 % 4 + 4))) (y := none) (n := 512 * (2 * (t.1 % 4 + 4))) (2 * (t.1 % 4 + 4)) 0 hV (by omega) (by omega) (by rw [hh]) (by rw [hl, hh]) (by rw [hl, hh]) (by rw [hh]; exact off74_eq t hc) rfl (by omega) (by omega) (by omega) ?_
  refine qkL_half (x := some (2 * (t.1 % 4 + 4))) (y := none) 1 hq rfl ?_
  refine smH_other (x := some (2 * (t.1 % 4 + 4))) (y := none) 1 0 512 (Or.inl (Or.inr (by rw [hh]; decide))) rfl rfl ?_
  refine smH_other (x := some (2 * (t.1 % 4 + 4))) (y := none) 1 0 0 (Or.inl (Or.inr (by rw [hh]; decide))) rfl rfl ?_
  refine qkL_other (x := some (2 * (t.1 % 4 + 4))) (y := none) 0 (by rw [hh]; decide) rfl ?_
  exact hI

/-- Branch 4 ends a column of head 1 in its block's second half and stores its row. -/
theorem if4_1_hi (t : Fin cfg0.N) (hc : k0_cond4 (grid0.coords t) = 1#1) (hp : t.1 % 4 % 2 = 0) (hl : C.sl.val = 1) (hh : C.hd.val = 1) (hS : Scores C xk xb) (hV : Values C xv)
    (hq : 512 ≤ C.q.val) (hQ : C.Q = 512 * (2 * (t.1 % 4 + 4)) + C.q.val) (hI : Inv C σ (some (2 * (t.1 % 4 + 4))) none (512 * (2 * (t.1 % 4 + 4)))) :
    Done C (if4F (grid0.coords t) xa xb xk xv hc σ) (512 * (2 * (t.1 % 4 + 4) + 1 + 1)) := by
  have hlt := C.q.isLt
  unfold if4F
  dsimp only
  refine out_same (x := some (2 * (t.1 % 4 + 4))) (y := some (2 * (t.1 % 4 + 4) + 1)) (n := 512 * (2 * (t.1 % 4 + 4) + 1 + 1)) (by rw [hl, hh]) (by rw [hl, hh]) ?_
  refine out_keep (x := some (2 * (t.1 % 4 + 4))) (y := some (2 * (t.1 % 4 + 4) + 1)) ?_
  refine smH_mask (x := some (2 * (t.1 % 4 + 4))) (y := some (2 * (t.1 % 4 + 4) + 1)) (n := 512 * (2 * (t.1 % 4 + 4) + 1)) (2 * (t.1 % 4 + 4) + 1) 512 hV (by omega) (by omega) (by rw [hh]) (by rw [hl, hh]) (by rw [hl, hh]) (by rw [hh]; exact off76_eq t hc) rfl (by omega) (by omega) (by omega) ?_
  refine smH_other (x := some (2 * (t.1 % 4 + 4))) (y := some (2 * (t.1 % 4 + 4) + 1)) 1 0 512 (Or.inl (Or.inr (by rw [hh]; decide))) rfl rfl ?_
  refine smH_full (x := some (2 * (t.1 % 4 + 4))) (y := some (2 * (t.1 % 4 + 4) + 1)) (n := 512 * (2 * (t.1 % 4 + 4))) (2 * (t.1 % 4 + 4)) 512 hV (by omega) (by omega) (by rw [hh]) (by rw [hl, hh]) (by rw [hl, hh]) (by rw [hh]; exact off74_eq t hc) rfl (by omega) (by omega) (by omega) ?_
  refine smH_other (x := some (2 * (t.1 % 4 + 4))) (y := some (2 * (t.1 % 4 + 4) + 1)) 1 1 0 (Or.inr (by omega)) rfl rfl ?_
  refine qkL_same (x := some (2 * (t.1 % 4 + 4))) (y := none) (2 * (t.1 % 4 + 4) + 1) hS hq (by rw [hh]; exact off73_eq t hc) (by rw [hh]) (by rw [hh]) rfl rfl ?_
  refine smH_other (x := some (2 * (t.1 % 4 + 4))) (y := none) 1 0 512 (Or.inl (Or.inr (by rw [hh]; decide))) rfl rfl ?_
  refine smH_other (x := some (2 * (t.1 % 4 + 4))) (y := none) 1 0 0 (Or.inl (Or.inr (by rw [hh]; decide))) rfl rfl ?_
  refine qkL_other (x := some (2 * (t.1 % 4 + 4))) (y := none) 0 (by rw [hh]; decide) rfl ?_
  exact hI

/-- Branch 4 leaves the rows stored by the first query block. -/
theorem if4_done (t : Fin cfg0.N) (hc : k0_cond4 (grid0.coords t) = 1#1) (hl : C.sl.val = 0) {n : ℕ} (hI : Done C σ n) :
    Done C (if4F (grid0.coords t) xa xb xk xv hc σ) n := by
  unfold if4F
  dsimp only
  refine done_other 1 1 (Or.inl (by rw [hl]; decide)) rfl ?_
  refine done_other 1 0 (Or.inl (by rw [hl]; decide)) rfl ?_
  refine done_smH ?_
  refine done_smH ?_
  refine done_smH ?_
  refine done_smH ?_
  refine done_qkL ?_
  refine done_smH ?_
  refine done_smH ?_
  refine done_qkL ?_
  exact hI

end Cert.Kernel4Ideal.Attn

end
-- ==== Proof.AttnWhole.lean ====
/- The attention kernel's body on one query's column: whatever its buffers held before, the column's row of the output ends as the
   quotient of the column's sums over the keys up to its tile's last. -/
module

public import proofs.«01_k».proof.Proof.AttnChain

@[expose] public section

set_option maxRecDepth 16384

noncomputable section

namespace Cert.Kernel4Ideal.Attn

open Idealize.ShloMosaic Idealize.ShloMosaic.TcCoe Idealize.ShloMosaic.Tactic
open Cert.Kernel4Ideal Cert.Kernel4Ideal.Gen
open Cert.AttnMath

/-- What a loop's trips carry from one to the next holds after them. -/
theorem iter_inv {N : ℕ} {f : Fin N → St Ideal → St Ideal} (P : ℕ → St Ideal → Prop) (σ : St Ideal) (h0 : P 0 σ) (hs : ∀ (u : Fin N) (σ : St Ideal), P u.val σ → P (u.val + 1) (f u σ)) :
    ∀ k, k ≤ N → P k (iterF f k σ)
  | 0, _ => h0
  | k + 1, hk => by
    have e : iterF f (k + 1) σ = f ⟨k, by omega⟩ (iterF f k σ) := dif_pos (by omega)
    rw [e]
    exact hs ⟨k, by omega⟩ _ (iter_inv P σ h0 hs k (by omega))

/-- A loop of no trips does nothing. -/
theorem iter_zero {N : ℕ} {f : Fin N → St Ideal → St Ideal} {k : ℕ} (hk : k = 0) (σ : St Ideal) : iterF f k σ = σ := by
  subst hk
  rfl

/-- A branch taken. -/
theorem ite_pos {p : Prop} [Decidable p] {f : p → St Ideal → St Ideal} (h : p) (σ : St Ideal) : iteF p f σ = f h σ := dif_pos h

/-- A branch not taken. -/
theorem ite_neg {p : Prop} [Decidable p] {f : p → St Ideal → St Ideal} (h : ¬ p) (σ : St Ideal) : iteF p f σ = σ := dif_neg h

variable {C : Col} {xa xb : Vec Ideal S2x256x1024 .bf16} {xk : Vec Ideal S2x8192x256 .bf16} {xv : Vec Ideal S2x16x144x512 .bf16}

/-- The first loop takes every whole tile it comes to in a column of the first query block. -/
theorem loop1 (t : Fin cfg0.N) (σ : St Ideal) (hl : C.sl.val = 0) (hS : Scores C xk xa) (hV : Values C xv) (hQ : C.Q = 1024 * (t.val % 4) + C.q.val) :
    Inv C (loopsF (grid0.coords t) xa xb xk xv (qkAF false xk xa ![0, 0, 0] ![0, 0, 0] ![0, 0, 0] inb_S2x8192x256_S1x512x256_0_0_0 inb_S2x256x1024_S1x256x1024_0_0_0 (iniAF (iniMF σ))))
      (some (4 * (t.val % 4 / 2))) none (512 * (4 * (t.val % 4 / 2))) := by
  unfold loopsF
  rw [iter_zero (trips2_eq t)]
  have hk : (k0_t1_loop (grid0.coords t)).trips = t.val % 4 / 2 := trips1_eq t
  have hd : C.hd.val = 0 ∨ C.hd.val = 1 := by have := C.hd.isLt; omega
  rcases hd with hh | hh
  · have h0 : Inv C (qkAF false xk xa ![1, 0, 0] ![1, 0, 0] ![1, 0, 0] inb_S2x8192x256_S1x512x256_1_0_0 inb_S2x256x1024_S1x256x1024_1_0_0
        (qkAF false xk xa ![0, 0, 0] ![0, 0, 0] ![0, 0, 0] inb_S2x8192x256_S1x512x256_0_0_0 inb_S2x256x1024_S1x256x1024_0_0_0 (iniAF (iniMF σ)))) (some (4 * 0)) none (512 * (4 * 0)) := by
      refine qkA_other 1 (by rw [hh]; decide) rfl ?_
      exact qkA_same (x := none) (y := none) 0 hS (by rw [hh]) (by rw [hh]) (by rw [hh]) rfl rfl inv_ini
    have := iter_inv (f := t1F (grid0.coords t) xa xb xk xv) (fun k σ => Inv C σ (some (4 * k)) none (512 * (4 * k))) _ h0
      (fun u σ hI => t1_0 t u hl hh hS hV (by have := u.isLt; omega) hI) _ (le_refl _)
    rw [← hk]
    exact this
  · have h0 : Inv C (qkAF false xk xa ![1, 0, 0] ![1, 0, 0] ![1, 0, 0] inb_S2x8192x256_S1x512x256_1_0_0 inb_S2x256x1024_S1x256x1024_1_0_0
        (qkAF false xk xa ![0, 0, 0] ![0, 0, 0] ![0, 0, 0] inb_S2x8192x256_S1x512x256_0_0_0 inb_S2x256x1024_S1x256x1024_0_0_0 (iniAF (iniMF σ)))) (some (4 * 0)) none (512 * (4 * 0)) := by
      refine qkA_same (x := none) (y := none) 0 hS (by rw [hh]) (by rw [hh]) (by rw [hh]) rfl rfl ?_
      exact qkA_other 0 (by rw [hh]; decide) rfl inv_ini
    have := iter_inv (f := t1F (grid0.coords t) xa xb xk xv) (fun k σ => Inv C σ (some (4 * k)) none (512 * (4 * k))) _ h0
      (fun u σ hI => t1_1 t u hl hh hS hV (by have := u.isLt; omega) hI) _ (le_refl _)
    rw [← hk]
    exact this

/-- The first loop leaves a column of the second query block. -/
theorem loop1_skip (t : Fin cfg0.N) (σ : St Ideal) (hl : C.sl.val = 1) :
    Inv C (loopsF (grid0.coords t) xa xb xk xv (qkAF false xk xa ![0, 0, 0] ![0, 0, 0] ![0, 0, 0] inb_S2x8192x256_S1x512x256_0_0_0 inb_S2x256x1024_S1x256x1024_0_0_0 (iniAF (iniMF σ))))
      none none 0 := by
  unfold loopsF
  rw [iter_zero (trips2_eq t)]
  exact iter_inv (f := t1F (grid0.coords t) xa xb xk xv) (fun k σ => Inv C σ none none 0) _ (qkA_drop (qkA_drop inv_ini))
    (fun u σ hI => t1_skip t u hl hI) _ (le_refl _)

/-- The second loop takes every whole tile it comes to in a column of the second query block. -/
theorem loop3 (t : Fin cfg0.N) (σ : St Ideal) (hl : C.sl.val = 1) (hS : Scores C xk xb) (hV : Values C xv) (hQ : C.Q = 1024 * (t.val % 4 + 4) + C.q.val)
    (hI : Inv C σ (some 0) none 0) :
    Inv C (iterF (t3F (grid0.coords t) xa xb xk xv) (k0_t3_loop (grid0.coords t)).trips σ) (some (4 * ((t.val % 4 + 4) / 2))) none (512 * (4 * ((t.val % 4 + 4) / 2))) := by
  have hk : (k0_t3_loop (grid0.coords t)).trips = (t.val % 4 + 4) / 2 := trips3_eq t
  have hd : C.hd.val = 0 ∨ C.hd.val = 1 := by have := C.hd.isLt; omega
  rcases hd with hh | hh
  · have := iter_inv (f := t3F (grid0.coords t) xa xb xk xv) (fun k σ => Inv C σ (some (4 * k)) none (512 * (4 * k))) σ hI
      (fun u σ hI => t3_0 t u hl hh hS hV (by have := u.isLt; omega) hI) _ (le_refl _)
    rw [← hk]
    exact this
  · have := iter_inv (f := t3F (grid0.coords t) xa xb xk xv) (fun k σ => Inv C σ (some (4 * k)) none (512 * (4 * k))) σ hI
      (fun u σ hI => t3_1 t u hl hh hS hV (by have := u.isLt; omega) hI) _ (le_refl _)
    rw [← hk]
    exact this

/-- The second loop leaves the rows stored. -/
theorem loop3_done (t : Fin cfg0.N) (σ : St Ideal) {n : ℕ} (hI : Done C σ n) :
    Done C (iterF (t3F (grid0.coords t) xa xb xk xv) (k0_t3_loop (grid0.coords t)).trips σ) n :=
  iter_inv (f := t3F (grid0.coords t) xa xb xk xv) (fun _ σ => Done C σ n) σ hI (fun u σ h => done_keep (by rfl) h) _ (le_refl _)

/-- The rest of the body after the first query block's rows are stored leaves them. -/
theorem rest_done (t : Fin cfg0.N) (σ : St Ideal) (hl : C.sl.val = 0) {n : ℕ} (hI : Done C σ n) :
    Done C (iteF (k0_cond4 (grid0.coords t) = 1#1) (if4F (grid0.coords t) xa xb xk xv) (iteF (k0_cond3 (grid0.coords t) = 1#1) (if3F (grid0.coords t) xa xb xk xv)
      (iterF (t4F (grid0.coords t) xa xb xk xv) (k0_t4_loop (grid0.coords t)).trips (iterF (t3F (grid0.coords t) xa xb xk xv) (k0_t3_loop (grid0.coords t)).trips σ)))) n := by
  rw [iter_zero (trips4_eq t)]
  have h3 := loop3_done (xa := xa) (xb := xb) (xk := xk) (xv := xv) t σ hI
  by_cases hc : k0_cond3 (grid0.coords t) = 1#1
  · have hn : ¬ k0_cond4 (grid0.coords t) = 1#1 := fun h => by
      have := (cond3_eq t).mp hc; have := (cond4_eq t).mp h; omega
    rw [ite_neg hn, ite_pos hc]
    exact if3_done t hc hl h3
  · have hp : k0_cond4 (grid0.coords t) = 1#1 := (cond4_eq t).mpr (by
      have : ¬ t.val % 4 % 2 = 1 := fun h => hc ((cond3_eq t).mpr h)
      omega)
    rw [ite_pos hp, ite_neg hc]
    exact if4_done t hp hl h3

/-- A column of the first query block ends with its row stored. -/
theorem body_first (t : Fin cfg0.N) (σ : St Ideal) (hl : C.sl.val = 0) (hS : Scores C xk xa) (hV : Values C xv) (hQ : C.Q = 1024 * (t.val % 4) + C.q.val) :
    ∃ N, C.Q < N ∧ N ≤ 8192 ∧ Done C (bodyF (grid0.coords t) xa xb xk xv σ) N := by
  have hlt := C.q.isLt
  have hL := loop1 (xa := xa) (xb := xb) (xk := xk) (xv := xv) t σ hl hS hV hQ
  have hd : C.hd.val = 0 ∨ C.hd.val = 1 := by have := C.hd.isLt; omega
  unfold bodyF midF
  by_cases hp : t.val % 4 % 2 = 1
  · have hc : k0_cond1 (grid0.coords t) = 1#1 := (cond1_eq t).mpr hp
    have hn : ¬ k0_cond2 (grid0.coords t) = 1#1 := fun h => by have := (cond2_eq t).mp h; omega
    rw [ite_neg hn, ite_pos hc]
    have e : 4 * (t.val % 4 / 2) = 2 * (t.val % 4) - 2 := by omega
    rw [e] at hL
    have hQ' : C.Q = 512 * (2 * (t.val % 4)) + C.q.val := by omega
    by_cases hq : C.q.val < 512
    · refine ⟨512 * (2 * (t.val % 4) + 1), by omega, by omega, rest_done t _ hl ?_⟩
      rcases hd with hh | hh
      · exact if1_0_lo t hc hp hl hh hS hV hq hQ' hL
      · exact if1_1_lo t hc hp hl hh hS hV hq hQ' hL
    · refine ⟨512 * (2 * (t.val % 4) + 1 + 1), by omega, by omega, rest_done t _ hl ?_⟩
      rcases hd with hh | hh
      · exact if1_0_hi t hc hp hl hh hS hV (by omega) hQ' hL
      · exact if1_1_hi t hc hp hl hh hS hV (by omega) hQ' hL
  · have hp : t.val % 4 % 2 = 0 := by omega
    have hc : k0_cond2 (grid0.coords t) = 1#1 := (cond2_eq t).mpr hp
    have hn : ¬ k0_cond1 (grid0.coords t) = 1#1 := fun h => by have := (cond1_eq t).mp h; omega
    rw [ite_pos hc, ite_neg hn]
    have e : 4 * (t.val % 4 / 2) = 2 * (t.val % 4) := by omega
    rw [e] at hL
    have hQ' : C.Q = 512 * (2 * (t.val % 4)) + C.q.val := by omega
    by_cases hq : C.q.val < 512
    · refine ⟨512 * (2 * (t.val % 4) + 1), by omega, by omega, rest_done t _ hl ?_⟩
      rcases hd with hh | hh
      · exact if2_0_lo t hc hp hl hh hS hV hq hQ' hL
      · exact if2_1_lo t hc hp hl hh hS hV hq hQ' hL
    · refine ⟨512 * (2 * (t.val % 4) + 1 + 1), by omega, by omega, rest_done t _ hl ?_⟩
      rcases hd with hh | hh
      · exact if2_0_hi t hc hp hl hh hS hV (by omega) hQ' hL
      · exact if2_1_hi t hc hp hl hh hS hV (by omega) hQ' hL

/-- A column of the second query block ends with its row stored. -/
theorem body_second (t : Fin cfg0.N) (σ : St Ideal) (hl : C.sl.val = 1) (hS : Scores C xk xb) (hV : Values C xv) (hQ : C.Q = 1024 * (t.val % 4 + 4) + C.q.val) :
    ∃ N, C.Q < N ∧ N ≤ 8192 ∧ Done C (bodyF (grid0.coords t) xa xb xk xv σ) N := by
  have hlt := C.q.isLt
  have hL := loop1_skip (C := C) (xa := xa) (xb := xb) (xk := xk) (xv := xv) t σ hl
  have hd : C.hd.val = 0 ∨ C.hd.val = 1 := by have := C.hd.isLt; omega
  unfold bodyF midF
  rw [iter_zero (trips4_eq t)]
  by_cases hp : t.val % 4 % 2 = 1
  · have hc1 : k0_cond1 (grid0.coords t) = 1#1 := (cond1_eq t).mpr hp
    have hn2 : ¬ k0_cond2 (grid0.coords t) = 1#1 := fun h => by have := (cond2_eq t).mp h; omega
    have hc3 : k0_cond3 (grid0.coords t) = 1#1 := (cond3_eq t).mpr hp
    have hn4 : ¬ k0_cond4 (grid0.coords t) = 1#1 := fun h => by have := (cond4_eq t).mp h; omega
    rw [ite_neg hn4, ite_pos hc3, ite_neg hn2, ite_pos hc1]
    have h0 : ∀ τ, Inv C τ none none 0 → Inv C (if1F (grid0.coords t) xa xb xk xv hc1 τ) (some 0) none 0 := by
      intro τ hL
      rcases hd with hh | hh
      · exact if1_next_0 t hc1 hl hh hS hL
      · exact if1_next_1 t hc1 hl hh hS hL
    have h3 := loop3 (xa := xa) (xb := xb) (xk := xk) (xv := xv) t _ hl hS hV hQ (h0 _ hL)
    have e : 4 * ((t.val % 4 + 4) / 2) = 2 * (t.val % 4 + 4) - 2 := by omega
    rw [e] at h3
    have hQ' : C.Q = 512 * (2 * (t.val % 4 + 4)) + C.q.val := by omega
    by_cases hq : C.q.val < 512
    · refine ⟨512 * (2 * (t.val % 4 + 4) + 1), by omega, by omega, ?_⟩
      rcases hd with hh | hh
      · exact if3_0_lo t hc3 hp hl hh hS hV hq hQ' h3
      · exact if3_1_lo t hc3 hp hl hh hS hV hq hQ' h3
    · refine ⟨512 * (2 * (t.val % 4 + 4) + 1 + 1), by omega, by omega, ?_⟩
      rcases hd with hh | hh
      · exact if3_0_hi t hc3 hp hl hh hS hV (by omega) hQ' h3
      · exact if3_1_hi t hc3 hp hl hh hS hV (by omega) hQ' h3
  · have hp : t.val % 4 % 2 = 0 := by omega
    have hc2 : k0_cond2 (grid0.coords t) = 1#1 := (cond2_eq t).mpr hp
    have hn1 : ¬ k0_cond1 (grid0.coords t) = 1#1 := fun h => by have := (cond1_eq t).mp h; omega
    have hc4 : k0_cond4 (grid0.coords t) = 1#1 := (cond4_eq t).mpr hp
    have hn3 : ¬ k0_cond3 (grid0.coords t) = 1#1 := fun h => by have := (cond3_eq t).mp h; omega
    rw [ite_pos hc4, ite_neg hn3, ite_pos hc2, ite_neg hn1]
    have h0 : ∀ τ, Inv C τ none none 0 → Inv C (if2F (grid0.coords t) xa xb xk xv hc2 τ) (some 0) none 0 := by
      intro τ hL
      rcases hd with hh | hh
      · exact if2_next_0 t hc2 hl hh hS hL
      · exact if2_next_1 t hc2 hl hh hS hL
    have h3 := loop3 (xa := xa) (xb := xb) (xk := xk) (xv := xv) t _ hl hS hV hQ (h0 _ hL)
    have e : 4 * ((t.val % 4 + 4) / 2) = 2 * (t.val % 4 + 4) := by omega
    rw [e] at h3
    have hQ' : C.Q = 512 * (2 * (t.val % 4 + 4)) + C.q.val := by omega
    by_cases hq : C.q.val < 512
    · refine ⟨512 * (2 * (t.val % 4 + 4) + 1), by omega, by omega, ?_⟩
      rcases hd with hh | hh
      · exact if4_0_lo t hc4 hp hl hh hS hV hq hQ' h3
      · exact if4_1_lo t hc4 hp hl hh hS hV hq hQ' h3
    · refine ⟨512 * (2 * (t.val % 4 + 4) + 1 + 1), by omega, by omega, ?_⟩
      rcases hd with hh | hh
      · exact if4_0_hi t hc4 hp hl hh hS hV (by omega) hQ' h3
      · exact if4_1_hi t hc4 hp hl hh hS hV (by omega) hQ' h3

end Cert.Kernel4Ideal.Attn

end
-- ==== Proof.AttnSpec.lean ====
/- Causal softmax attention as mathematics, and the reference program's result as it. -/
module

public import proofs.«01_k».proof.Proof.Gen.Reference4Ideal.Run
public import Idealize.ShloMosaic.Lib.Pointwise
public import Idealize.ShloMosaic.Lib.WordCmp

@[expose] public section

set_option maxRecDepth 16384

noncomputable section

namespace Cert.AttnSpec

open Idealize.ShloMosaic Idealize.ShloMosaic.TcCoe Idealize.SL.Sem
open scoped BigOperators

/-- A score: the query's and the key's products over the content coordinates and over the rotary ones, divided by the root of 192. -/
def score (qn : (⟨3, ![8192, 16, 128]⟩ : Shape).Idx → EReal) (qr : (⟨3, ![8192, 16, 64]⟩ : Shape).Idx → EReal)
    (kn : (⟨3, ![8192, 16, 128]⟩ : Shape).Idx → EReal) (kr : (⟨2, ![8192, 64]⟩ : Shape).Idx → EReal) (h : Fin 16) (Q k : Fin 8192) : EReal :=
  Ideal.div ((∑ e : Fin 128, qn (ix3 Q h e) * kn (ix3 k h e)) + ∑ e : Fin 64, kr (ix2 k e) * qr (ix3 Q h e)) (Ideal.sqrt (Ideal.ofBits .f32 0x43400000#32))

/-- A score, or −∞ when the key comes after the query. -/
def masked (x : Fin 8192 → EReal) (Q k : Fin 8192) : EReal := if k.val ≤ Q.val then x k else ⊥

/-- The values' mean under the softmax of the scores. -/
def soft (x v : Fin 8192 → EReal) : EReal :=
  ∑ k : Fin 8192, v k * Ideal.div (Ideal.exp (x k - Finset.fold max ⊥ x Finset.univ)) (∑ k : Fin 8192, Ideal.exp (x k - Finset.fold max ⊥ x Finset.univ))

/-- The attention's result at a query, a head and a coordinate. -/
def attn (qn : (⟨3, ![8192, 16, 128]⟩ : Shape).Idx → EReal) (qr : (⟨3, ![8192, 16, 64]⟩ : Shape).Idx → EReal)
    (kn : (⟨3, ![8192, 16, 128]⟩ : Shape).Idx → EReal) (kr : (⟨2, ![8192, 64]⟩ : Shape).Idx → EReal) (v : (⟨3, ![8192, 16, 128]⟩ : Shape).Idx → EReal)
    (Q : Fin 8192) (h : Fin 16) (d : Fin 128) : EReal :=
  soft (masked (score qn qr kn kr h Q) Q) (fun k => v (ix3 k h d))

/-- The word of −∞ is −∞. -/
theorem ninf32 : Ideal.ofBits .f32 0xFF800000#32 = (⊥ : EReal) := by simp [Ideal.ofBits, Ideal.ieee]

/-- A reduction with maximum along the last of three axes. -/
theorem reduce_max {n0 n1 n2 : ℕ} {u : Shape} (x : FVec Ideal ⟨3, ![n0, n1, n2]⟩ .f32) (init : u.Idx → Ideal .f32)
    (h : (⟨3, ![n0, n1, n2]⟩ : Shape).ReducesTo [2] ⟨2, ![n0, n1]⟩) (hu : 0 < u.numel) (i : Fin n0) (j : Fin n1) :
    Host.reduce FloatOps.maximumf x init h hu (ix2 i j) = Finset.fold max (init (Shape.Idx.first hu)) (fun k => x (ix3 i j k)) Finset.univ := by
  pointwise

/-- An exponential of an array less an array of row bounds, at an index. -/
theorem exp_less (X : FVec Ideal ⟨3, ![16, 8192, 8192]⟩ .f32) (M B : FVec Ideal ⟨2, ![16, 8192]⟩ .f32) (h2 h3)
    (i : Fin 16) (j : Fin 8192) (k : Fin 8192) :
    Host.exp (subf X (broadcastInDim ⟨3, ![16, 8192, 8192]⟩ ![0, 1, 2] h3 (broadcastInDim ⟨3, ![16, 8192, 1]⟩ ![0, 1] h2 (maximumf B M)))) (ix3 i j k)
      = Ideal.exp (X (ix3 i j k) - max (B (ix2 i j)) (M (ix2 i j))) := by
  pointwise

section Reference

open Cert.Reference4Ideal Cert.Reference4Ideal.Gen

/-- The reference's masked scores. -/
def refScores (a0 : FVec Ideal S8192x16x128 .f32) (a1 : FVec Ideal S8192x16x64 .f32) (a2 : FVec Ideal S8192x16x128 .f32) (a3 : FVec Ideal S8192x64 .f32) : FVec Ideal S16x8192x8192 .f32 :=
  (select (broadcastInDim S16x8192x8192 ![0, 1, 2] bcast_S1x8192x8192_S16x8192x8192_0_1_2 (broadcastInDim S1x8192x8192 ![1, 2] bcast_S8192x8192_S1x8192x8192_1_2 (cmpi .sle (broadcastInDim S8192x8192 ![0, 1] bcast_S1x8192_S8192x8192_0_1 (broadcastInDim S1x8192 ![1] bcast_S8192_S1x8192_1 (iotaInDim S8192 32 0))) (broadcastInDim S8192x8192 ![0, 1] bcast_S8192x1_S8192x8192_0_1 (broadcastInDim S8192x1 ![0] bcast_S8192_S8192x1_0 (iotaInDim S8192 32 0)))))) (Host.divf (addf (Host.dotGeneral dot_S8192x16x128_S8192x16x128_S16x8192x8192_2_2_0_0_1_1 none a0 a2) (transpose S16x8192x8192 [2, 1, 0] (Host.dotGeneral dot_S8192x64_S8192x16x64_S8192x8192x16_1_2_0_01_n_n none a3 a1) transposes_S8192x8192x16_S16x8192x8192_2_1_0)) (broadcastInDim S16x8192x8192 ![] bcast_S_S16x8192x8192 (Host.sqrt (constant S_ .f32 0x43400000#32)))) (broadcastInDim S16x8192x8192 ![] bcast_S_S16x8192x8192 (id (constant S_ .f32 0xFF800000#32))))

/-- The reference's maxima of rows. -/
def refMax (X : FVec Ideal S16x8192x8192 .f32) : FVec Ideal S16x8192 .f32 := Host.reduce FloatOps.maximumf X (constant S_ .f32 0xFF800000#32) reducesTo_S16x8192x8192_S16x8192_d2 h_S_

/-- The reference's exponentials of scores less their row's maximum. -/
def refExp (X : FVec Ideal S16x8192x8192 .f32) : FVec Ideal S16x8192x8192 .f32 :=
  (Host.exp (subf X (broadcastInDim S16x8192x8192 ![0, 1, 2] bcast_S16x8192x1_S16x8192x8192_0_1_2 (broadcastInDim S16x8192x1 ![0, 1] bcast_S16x8192_S16x8192x1_0_1 (maximumf (broadcastInDim S16x8192 ![] bcast_S_S16x8192 (constant S_ .f32 0xFF800000#32)) (refMax X))))))

/-- The reference's weighted values, its heads side by side. -/
def refOut (a4 : FVec Ideal S8192x16x128 .f32) (E : FVec Ideal S16x8192x8192 .f32) : FVec Ideal S2x4096x2048 .bf16 :=
  truncf .bf16 (shapeCast _ (transpose S8192x16x128 [2, 0, 1] (Host.dotGeneral dot_S8192x16x128_S16x8192x8192_S16x128x8192_0_2_2_1_1_0 none a4 (Host.divf E (broadcastInDim S16x8192x8192 ![0, 1, 2] bcast_S16x8192x1_S16x8192x8192_0_1_2 (broadcastInDim S16x8192x1 ![0, 1] bcast_S16x8192_S16x8192x1_0_1 (Host.reduceAdd E (constant S_ .f32 0x00000000#32) reducesTo_S16x8192x8192_S16x8192_d2 h_S_))))) transposes_S16x128x8192_S8192x16x128_2_0_1) shapeCasts_S8192x16x128_S2x4096x2048) bitsLt_bf16_f32

/-- A masked score of the reference. -/
theorem refScores_at (a0 : FVec Ideal S8192x16x128 .f32) (a1 : FVec Ideal S8192x16x64 .f32) (a2 : FVec Ideal S8192x16x128 .f32) (a3 : FVec Ideal S8192x64 .f32)
    (h : Fin 16) (Q k : Fin 8192) : refScores a0 a1 a2 a3 (ix3 h Q k) = masked (score a0 a1 a2 a3 h Q) Q k := by
  unfold masked score
  pointwise [refScores]
  have e : (id (constant (F := Ideal) S_ .f32 0xFF800000#32) : FVec Ideal S_ .f32) ix0 = (⊥ : EReal) := ninf32
  rw [e]
  have hiff := WordCmp.cmpi_sle_ofNat_eq_one_iff (w := 32) (a := k.val) (b := Q.val) (by have := k.isLt; omega) (by have := Q.isLt; omega)
  unfold Scalar.select
  by_cases h : k.val ≤ Q.val
  · exact (if_pos (hiff.mpr h)).trans (if_pos h).symm
  · exact (if_neg fun h' => h (hiff.mp h')).trans (if_neg h).symm

/-- A maximum of the reference. -/
theorem refMax_at (X : FVec Ideal S16x8192x8192 .f32) (h : Fin 16) (Q : Fin 8192) :
    refMax X (ix2 h Q) = Finset.fold max ⊥ (fun k => X (ix3 h Q k)) Finset.univ := by
  unfold refMax
  refine (reduce_max X _ _ _ h Q).trans ?_
  have e : (constant (F := Ideal) S_ .f32 0xFF800000#32 : FVec Ideal S_ .f32) (Shape.Idx.first h_S_) = (⊥ : EReal) := ninf32
  rw [e]

/-- An exponential of the reference. -/
theorem refExp_at (X : FVec Ideal S16x8192x8192 .f32) (h : Fin 16) (Q k : Fin 8192) :
    refExp X (ix3 h Q k) = Ideal.exp (X (ix3 h Q k) - Finset.fold max ⊥ (fun k => X (ix3 h Q k)) Finset.univ) := by
  refine (exp_less X (refMax X) _ _ _ h Q k).trans ?_
  have e : (broadcastInDim S16x8192 ![] bcast_S_S16x8192 (constant (F := Ideal) S_ .f32 0xFF800000#32) : FVec Ideal S16x8192 .f32) (ix2 h Q) = (⊥ : EReal) := ninf32
  rw [e, refMax_at, max_eq_right bot_le]

/-- A weighted value of the reference. -/
theorem refOut_at (a4 : FVec Ideal S8192x16x128 .f32) (E : FVec Ideal S16x8192x8192 .f32) (b : Fin 2) (r : Fin 4096) (e : Fin 2048) :
    refOut a4 E (ix3 b r e) = ∑ k : Fin 8192, a4 (ix3 k ⟨e.val / 128, by omega⟩ ⟨e.val % 128, by omega⟩)
      * Ideal.div (E (ix3 ⟨e.val / 128, by omega⟩ ⟨b.val * 4096 + r.val, by omega⟩ k)) (∑ k : Fin 8192, E (ix3 ⟨e.val / 128, by omega⟩ ⟨b.val * 4096 + r.val, by omega⟩ k)) := by
  pointwise [refOut]

/-- The result as the attention, at an index of its two batches. -/
def res (qn : (⟨3, ![8192, 16, 128]⟩ : Shape).Idx → EReal) (qr : (⟨3, ![8192, 16, 64]⟩ : Shape).Idx → EReal)
    (kn : (⟨3, ![8192, 16, 128]⟩ : Shape).Idx → EReal) (kr : (⟨2, ![8192, 64]⟩ : Shape).Idx → EReal) (v : (⟨3, ![8192, 16, 128]⟩ : Shape).Idx → EReal)
    (b : Fin 2) (r : Fin 4096) (e : Fin 2048) : EReal :=
  attn qn qr kn kr v ⟨b.val * 4096 + r.val, by omega⟩ ⟨e.val / 128, by omega⟩ ⟨e.val % 128, by omega⟩

/-- THE REFERENCE's run ends with the attention's result, its arguments unchanged. -/
theorem reference_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      (r.2.mem ((c.tc : Thread nD τ).loc main_v29) = fun i : (⟨3, ![2, 4096, 2048]⟩ : Shape).Idx =>
        res (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (i 0) (i 1) (i 2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) := by
  refine (θ_run defs _ _).mono (fun r h c => ⟨(h c).1.trans (funext fun (i : (⟨3, ![2, 4096, 2048]⟩ : Shape).Idx) => ?_), (h c).2⟩) (Cert.Reference4Ideal.Value.run (F := Ideal) m ρ)
  obtain ⟨a, b, e, rfl⟩ : ∃ (a : Fin 2) (b : Fin 4096) (e : Fin 2048), i = ix3 a b e := ⟨i 0, i 1, i 2, eq_ix3 i⟩
  show _ = res _ _ _ _ _ a b e
  refine (show Cert.Reference4Ideal.Value.res_main_v29 m c (ix3 a b e) = refOut (m ((c.tc : Thread nD τ).loc main_arg4))
    (refExp (refScores (m ((c.tc : Thread nD τ).loc main_arg0)) (m ((c.tc : Thread nD τ).loc main_arg1)) (m ((c.tc : Thread nD τ).loc main_arg2))
      (m ((c.tc : Thread nD τ).loc main_arg3)))) (ix3 a b e) from rfl).trans ?_
  rw [refOut_at]
  unfold res attn soft
  simp only [refExp_at, refScores_at]

end Reference

end Cert.AttnSpec
end
-- ==== Proof.AttnHost.lean ====
/- The arrays the host prepares for the attention call, at every index. -/
module

public import proofs.«01_k».proof.Proof.Gen.Kernel4Ideal.Frame.Runs
public import proofs.«01_k».proof.Proof.AttnSpec
public import Idealize.ShloMosaic.Lib.Pipeline.ValueKit
public import Idealize.ShloMosaic.Lib.Pointwise

@[expose] public section

set_option maxRecDepth 16384

noncomputable section

namespace Cert.Kernel4Ideal.Attn

open Cert.Kernel4Ideal Cert.Kernel4Ideal.Gen Idealize.ShloMosaic Idealize.ShloMosaic.TcCoe Idealize.SL.Sem

/-- The divisor of the queries: the logarithm of 2 times the root of 192. -/
def den : EReal := Ideal.log (Ideal.ofBits .f32 0x40000000#32) * Ideal.sqrt (Ideal.ofBits .f32 0x43400000#32)

/-- A coordinate of a joined row: the content part, then the rotary part, then zeros. -/
def join (a : Fin 128 → EReal) (b : Fin 64 → EReal) (e : Fin 256) : EReal :=
  if h : e.val < 128 then a ⟨e.val, h⟩ else if h' : e.val - 128 < 64 then b ⟨e.val - 128, h'⟩ else 0

/-- The prepared queries as an array of the arguments. -/
def qArr (qn : FVec Ideal S8192x16x128 .f32) (qr : FVec Ideal S8192x16x64 .f32) : FVec Ideal S16x256x8192 .bf16 :=
  transpose S16x256x8192 [1, 2, 0] (truncf .bf16 (Host.divf
    (concatenate S8192x16x256 2 [⟨S8192x16x128, qn⟩, ⟨S8192x16x64, qr⟩, ⟨S8192x16x64, broadcastInDim S8192x16x64 ![] bcast_S_S8192x16x64 (constant (F := Ideal) S_ .f32 0x00000000#32)⟩]
      concatenates_S8192x16x128_S8192x16x64_S8192x16x64_S8192x16x256_d2)
    (broadcastInDim S8192x16x256 ![] bcast_S_S8192x16x256 (mulf (Host.log (constant (F := Ideal) S_ .f32 0x40000000#32)) (Host.sqrt (constant S_ .f32 0x43400000#32))))) bitsLt_bf16_f32)
    transposes_S8192x16x256_S16x256x8192_1_2_0

/-- The prepared keys as an array of the arguments. -/
def kArr (kn : FVec Ideal S8192x16x128 .f32) (kr : FVec Ideal S8192x64 .f32) : FVec Ideal S16x8192x256 .bf16 :=
  transpose S16x8192x256 [1, 0, 2] (truncf .bf16
    (concatenate S8192x16x256 2 [⟨S8192x16x128, kn⟩, ⟨S8192x16x64, broadcastInDim S8192x16x64 ![0, 1, 2] bcast_S8192x1x64_S8192x16x64_0_1_2 (broadcastInDim S8192x1x64 ![0, 2] bcast_S8192x64_S8192x1x64_0_2 kr)⟩,
        ⟨S8192x16x64, broadcastInDim S8192x16x64 ![] bcast_S_S8192x16x64 (constant (F := Ideal) S_ .f32 0x00000000#32)⟩]
      concatenates_S8192x16x128_S8192x16x64_S8192x16x64_S8192x16x256_d2) bitsLt_bf16_f32)
    transposes_S8192x16x256_S16x8192x256_1_0_2

/-- The prepared values as an array of the arguments. -/
def vArr (v : FVec Ideal S8192x16x128 .f32) : FVec Ideal S16x16x144x512 .bf16 :=
  concatenate S16x16x144x512 2 [⟨S16x16x128x512, transpose S16x16x128x512 [2, 0, 3, 1] (shapeCast S16x512x16x128 (truncf .bf16 v bitsLt_bf16_f32) shapeCasts_S8192x16x128_S16x512x16x128) transposes_S16x512x16x128_S16x16x128x512_2_0_3_1⟩,
    ⟨S16x16x16x512, broadcastInDim S16x16x16x512 ![] bcast_S_S16x16x16x512 (constant (F := Ideal) S_ .bf16 0x3F80#16)⟩] concatenates_S16x16x128x512_S16x16x16x512_S16x16x144x512_d2

/-- A prepared query's coordinate. -/
theorem qArr_at (qn : FVec Ideal S8192x16x128 .f32) (qr : FVec Ideal S8192x16x64 .f32) (h : Fin 16) (e : Fin 256) (Q : Fin 8192) :
    qArr qn qr (ix3 h e Q) = Ideal.div (join (fun e => qn (ix3 Q h e)) (fun e => qr (ix3 Q h e)) e) den := by
  unfold join den
  pointwise [qArr]

/-- A prepared key's coordinate. -/
theorem kArr_at (kn : FVec Ideal S8192x16x128 .f32) (kr : FVec Ideal S8192x64 .f32) (h : Fin 16) (k : Fin 8192) (e : Fin 256) :
    kArr kn kr (ix3 h k e) = join (fun e => kn (ix3 k h e)) (fun e => kr (ix2 k e)) e := by
  unfold join
  pointwise [kArr]

/-- A prepared value's coordinate: the value's own below 128, else one. -/
theorem vArr_at (v : FVec Ideal S8192x16x128 .f32) (h : Fin 16) (j : Fin 16) (d : Fin 144) (r : Fin 512) :
    vArr v (ix4 h j d r) = if hd : d.val < 128 then v (ix3 ⟨512 * j.val + r.val, by omega⟩ h ⟨d.val, hd⟩) else 1 := by
  pointwise [vArr]
  have e : j.val * 512 + r.val = 512 * j.val + r.val := by omega
  simp only [e]

variable (m : (ℓ : Loc nD τ sig) → Buf (Elt Ideal) ℓ) (c : Dev nD)

/-- The call's queries. -/
theorem V15 : V m c main_v15 = qArr (m ((c.tc : Thread nD τ).loc main_arg0)) (m ((c.tc : Thread nD τ).loc main_arg1)) := by
  unfold qArr
  unfold_abbrev_sides
  after_results
  rfl

/-- The call's keys. -/
theorem V17 : V m c main_v17 = kArr (m ((c.tc : Thread nD τ).loc main_arg2)) (m ((c.tc : Thread nD τ).loc main_arg3)) := by
  unfold kArr
  unfold_abbrev_sides
  after_results
  rfl

/-- The call's values. -/
theorem V18 : V m c main_v18 = vArr (m ((c.tc : Thread nD τ).loc main_arg4)) := by
  unfold vArr
  unfold_abbrev_sides
  after_results
  rfl

end Cert.Kernel4Ideal.Attn
end
-- ==== Proof.AttnTie.lean ====
/- The attention call's kernel computes causal softmax attention: its result array at every index, for finite queries and keys. -/
module

public import proofs.«01_k».proof.Proof.AttnFrame
public import proofs.«01_k».proof.Proof.AttnWhole
public import proofs.«01_k».proof.Proof.AttnHost

@[expose] public section

set_option maxRecDepth 16384

noncomputable section

namespace Cert.Kernel4Ideal.Attn

open Cert.Kernel4Ideal Cert.Kernel4Ideal.Gen Idealize.ShloMosaic Idealize.ShloMosaic.TcCoe Idealize.SL.Sem
open Cert.AttnSpec Cert.AttnMath
open scoped BigOperators

/-- The word of 2. -/
theorem two32 : Ideal.ofBits .f32 0x40000000#32 = ((2 : ℝ) : EReal) := by
  simp [Ideal.ofBits, Ideal.ieee]
  rw [← EReal.coe_mul]
  norm_num

/-- The word of 192. -/
theorem c192 : Ideal.ofBits .f32 0x43400000#32 = ((192 : ℝ) : EReal) := by
  simp [Ideal.ofBits, Ideal.ieee]
  rw [← EReal.coe_mul]
  norm_num

/-- The root of 192. -/
theorem root192 : Ideal.sqrt (Ideal.ofBits .f32 0x43400000#32) = ((√192 : ℝ) : EReal) := by
  rw [c192, Ideal.sqrt_coe, if_neg (by norm_num)]

/-- The divisor of the queries as a number. -/
theorem den_eq : den = ((Real.log 2 * √192 : ℝ) : EReal) := by
  unfold den
  rw [root192, two32, Ideal.log_coe, if_neg (by norm_num), ← EReal.coe_mul]

/-- A sum over a joined row: its two parts' sums. -/
theorem sum_parts (f : Fin 256 → ℝ) (g : Fin 128 → ℝ) (g' : Fin 64 → ℝ) (h0 : ∀ e : Fin 128, f ⟨e.val, by omega⟩ = g e)
    (h1 : ∀ e : Fin 64, f ⟨128 + e.val, by omega⟩ = g' e) (h2 : ∀ e : Fin 64, f ⟨192 + e.val, by omega⟩ = 0) :
    ∑ e : Fin 256, f e = (∑ e : Fin 128, g e) + ∑ e : Fin 64, g' e := by
  refine (Fin.sum_univ_add (a := 128) (b := 128) f).trans ?_
  refine congrArg₂ (· + ·) (Finset.sum_congr rfl fun e _ => h0 e) ?_
  refine (Fin.sum_univ_add (a := 64) (b := 64) (fun i => f (Fin.natAdd 128 i))).trans ?_
  have z : ∑ e : Fin 64, f (Fin.natAdd 128 (Fin.natAdd 64 e)) = 0 :=
    Finset.sum_eq_zero fun e _ => (congrArg f (Fin.ext (by simp; omega))).trans (h2 e)
  rw [z, add_zero]
  exact Finset.sum_congr rfl fun e _ => h1 e

/-- A joined row of numbers is a row of numbers. -/
theorem join_coe (a : Fin 128 → ℝ) (b : Fin 64 → ℝ) (e : Fin 256) :
    join (fun e => (a e : EReal)) (fun e => (b e : EReal)) e
      = ((if h : e.val < 128 then a ⟨e.val, h⟩ else if h' : e.val - 128 < 64 then b ⟨e.val - 128, h'⟩ else 0 : ℝ) : EReal) := by
  unfold join
  split
  · rfl
  · split
    · rfl
    · exact EReal.coe_zero.symm

/-- The product of a prepared key and a prepared query: the sums over both parts, divided. -/
theorem dot_join (kn qn : Fin 128 → ℝ) (kr qr : Fin 64 → ℝ) :
    ∑ e : Fin 256, join (fun e => (kn e : EReal)) (fun e => (kr e : EReal)) e * Ideal.div (join (fun e => (qn e : EReal)) (fun e => (qr e : EReal)) e) den
      = ((((∑ e, qn e * kn e) + ∑ e, kr e * qr e) * (1 / √192) / Real.log 2 : ℝ) : EReal) := by
  have hl : Real.log 2 ≠ 0 := (Real.log_pos (by norm_num)).ne'
  have hs : (√192 : ℝ) ≠ 0 := (Real.sqrt_pos.mpr (by norm_num)).ne'
  simp only [join_coe, den_eq, Ideal.div_coe (mul_ne_zero hl hs), ← EReal.coe_mul]
  rw [← coe_sum]
  refine congrArg _ ((sum_parts _ (fun e => qn e * kn e * (1 / (Real.log 2 * √192))) (fun e => kr e * qr e * (1 / (Real.log 2 * √192))) ?_ ?_ ?_).trans ?_)
  · intro e
    simp only [e.isLt, dif_pos]
    ring
  · intro e
    have h : ¬ 128 + e.val < 128 := by omega
    have h' : 128 + e.val - 128 = e.val := by omega
    simp only [dif_neg h, h', e.isLt, dif_pos]
    ring
  · intro e
    have h : ¬ 192 + e.val < 128 := by omega
    have h' : ¬ 192 + e.val - 128 < 64 := by omega
    simp only [dif_neg h, dif_neg h', zero_mul]
  · rw [← Finset.sum_mul, ← Finset.sum_mul]
    field_simp

/-- A score of numbers is a number. -/
theorem score_coe (qn kn : (⟨3, ![8192, 16, 128]⟩ : Shape).Idx → ℝ) (qr : (⟨3, ![8192, 16, 64]⟩ : Shape).Idx → ℝ)
    (kr : (⟨2, ![8192, 64]⟩ : Shape).Idx → ℝ) (h : Fin 16) (Q k : Fin 8192) :
    score (fun i => (qn i : EReal)) (fun i => (qr i : EReal)) (fun i => (kn i : EReal)) (fun i => (kr i : EReal)) h Q k
      = ((((∑ e : Fin 128, qn (ix3 Q h e) * kn (ix3 k h e)) + ∑ e : Fin 64, kr (ix2 k e) * qr (ix3 Q h e)) * (1 / √192) : ℝ) : EReal) := by
  have hs : (√192 : ℝ) ≠ 0 := (Real.sqrt_pos.mpr (by norm_num)).ne'
  unfold score
  rw [root192, Ideal.div_coe hs]
  simp only [← EReal.coe_mul]
  rw [← coe_sum, ← coe_sum, ← EReal.coe_add, ← EReal.coe_mul]

/-- The block indices of the windows at point `t`: the point's pair of heads is `t / 4`, its query blocks are `t % 4` and `t % 4 + 4`. -/
theorem idx : ∀ t : Fin cfg0.N, win0_0.index t = ![t.val / 4, 0, t.val % 4] ∧ win0_1.index t = ![t.val / 4, 0, t.val % 4 + 4]
    ∧ win0_2.index t = ![t.val / 4, 0, 0] ∧ win0_3.index t = ![t.val / 4, 0, 0, 0] ∧ win0_4.index t = ![0, t.val % 4, t.val / 4] :=
  (by decide +kernel : ∀ t : Fin grid0.N, _)

/-- The head of a place of point `t`'s pair. -/
abbrev headOf (t : Fin cfg0.N) (hd : Fin 2) : Fin 16 := ⟨2 * (t.val / 4) + hd.val, by have : t.val < 32 := t.isLt; omega⟩

/-- Where a place of point `t`'s first query block sits in the array. -/
theorem emb0 (t : Fin cfg0.N) (a : Fin 2) (b : Fin 256) (e : Fin 1024) :
    ((cfg0.win 0).blk t).view.emb (ix3 a b e) = ix3 (headOf t a) b ⟨1024 * (t.val % 4) + e.val, by omega⟩ := by
  have i : win0_0.index t = ![t.val / 4, 0, t.val % 4] := (idx t).1
  have e0 := Pipeline.Window.rect_emb_val_off win0_0 t (ix3 a b e) 0
  have e1 := Pipeline.Window.rect_emb_val_off win0_0 t (ix3 a b e) 1
  have e2 := Pipeline.Window.rect_emb_val_off win0_0 t (ix3 a b e) 2
  rw [i] at e0 e1 e2
  refine (eq_ix3 _).trans (congr (congrArg₂ ix3 (Fin.ext ?_) (Fin.ext ?_)) (Fin.ext ?_))
  · exact e0.trans (by show t.val / 4 * 2 + a.val = 2 * (t.val / 4) + a.val; omega)
  · exact e1.trans (by show 0 * 256 + b.val = b.val; omega)
  · exact e2.trans (by show t.val % 4 * 1024 + e.val = 1024 * (t.val % 4) + e.val; omega)

/-- Where a place of point `t`'s second query block sits in the array. -/
theorem emb1 (t : Fin cfg0.N) (a : Fin 2) (b : Fin 256) (e : Fin 1024) :
    ((cfg0.win 1).blk t).view.emb (ix3 a b e) = ix3 (headOf t a) b ⟨1024 * (t.val % 4 + 4) + e.val, by omega⟩ := by
  have i : win0_1.index t = ![t.val / 4, 0, t.val % 4 + 4] := (idx t).2.1
  have e0 := Pipeline.Window.rect_emb_val_off win0_1 t (ix3 a b e) 0
  have e1 := Pipeline.Window.rect_emb_val_off win0_1 t (ix3 a b e) 1
  have e2 := Pipeline.Window.rect_emb_val_off win0_1 t (ix3 a b e) 2
  rw [i] at e0 e1 e2
  refine (eq_ix3 _).trans (congr (congrArg₂ ix3 (Fin.ext ?_) (Fin.ext ?_)) (Fin.ext ?_))
  · exact e0.trans (by show t.val / 4 * 2 + a.val = 2 * (t.val / 4) + a.val; omega)
  · exact e1.trans (by show 0 * 256 + b.val = b.val; omega)
  · exact e2.trans (by show (t.val % 4 + 4) * 1024 + e.val = 1024 * (t.val % 4 + 4) + e.val; omega)

/-- Where a place of point `t`'s keys sits in the array. -/
theorem emb2 (t : Fin cfg0.N) (a : Fin 2) (b : Fin 8192) (e : Fin 256) :
    ((cfg0.win 2).blk t).view.emb (ix3 a b e) = ix3 (headOf t a) b e := by
  have i : win0_2.index t = ![t.val / 4, 0, 0] := (idx t).2.2.1
  have e0 := Pipeline.Window.rect_emb_val_off win0_2 t (ix3 a b e) 0
  have e1 := Pipeline.Window.rect_emb_val_off win0_2 t (ix3 a b e) 1
  have e2 := Pipeline.Window.rect_emb_val_off win0_2 t (ix3 a b e) 2
  rw [i] at e0 e1 e2
  refine (eq_ix3 _).trans (congr (congrArg₂ ix3 (Fin.ext ?_) (Fin.ext ?_)) (Fin.ext ?_))
  · exact e0.trans (by show t.val / 4 * 2 + a.val = 2 * (t.val / 4) + a.val; omega)
  · exact e1.trans (by show 0 * 8192 + b.val = b.val; omega)
  · exact e2.trans (by show 0 * 256 + e.val = e.val; omega)

/-- Where a place of point `t`'s values sits in the array. -/
theorem emb3 (t : Fin cfg0.N) (a : Fin 2) (b : Fin 16) (d : Fin 144) (e : Fin 512) :
    ((cfg0.win 3).blk t).view.emb (ix4 a b d e) = ix4 (headOf t a) b d e := by
  have i : win0_3.index t = ![t.val / 4, 0, 0, 0] := (idx t).2.2.2.1
  have e0 := Pipeline.Window.rect_emb_val_off win0_3 t (ix4 a b d e) 0
  have e1 := Pipeline.Window.rect_emb_val_off win0_3 t (ix4 a b d e) 1
  have e2 := Pipeline.Window.rect_emb_val_off win0_3 t (ix4 a b d e) 2
  have e3 := Pipeline.Window.rect_emb_val_off win0_3 t (ix4 a b d e) 3
  rw [i] at e0 e1 e2 e3
  refine (eq_ix4 _).trans (congr (congr (congrArg₂ ix4 (Fin.ext ?_) (Fin.ext ?_)) (Fin.ext ?_)) (Fin.ext ?_))
  · exact e0.trans (by show t.val / 4 * 2 + a.val = 2 * (t.val / 4) + a.val; omega)
  · exact e1.trans (by show 0 * 16 + b.val = b.val; omega)
  · exact e2.trans (by show 0 * 144 + d.val = d.val; omega)
  · exact e3.trans (by show 0 * 512 + e.val = e.val; omega)

/-- Where a place of point `t`'s result block sits in the array. -/
theorem emb4 (t : Fin cfg0.N) (a : Fin 2) (b : Fin 1024) (e : Fin 256) :
    ((cfg0.win 4).blk t).view.emb (ix3 a b e)
      = ix3 a ⟨1024 * (t.val % 4) + b.val, by omega⟩ ⟨256 * (t.val / 4) + e.val, by have : t.val < 32 := t.isLt; omega⟩ := by
  have i : win0_4.index t = ![0, t.val % 4, t.val / 4] := (idx t).2.2.2.2
  have e0 := Pipeline.Window.rect_emb_val_off win0_4 t (ix3 a b e) 0
  have e1 := Pipeline.Window.rect_emb_val_off win0_4 t (ix3 a b e) 1
  have e2 := Pipeline.Window.rect_emb_val_off win0_4 t (ix3 a b e) 2
  rw [i] at e0 e1 e2
  refine (eq_ix3 _).trans (congr (congrArg₂ ix3 (Fin.ext ?_) (Fin.ext ?_)) (Fin.ext ?_))
  · exact e0.trans (by show 0 * 2 + a.val = a.val; omega)
  · exact e1.trans (by show t.val % 4 * 1024 + b.val = 1024 * (t.val % 4) + b.val; omega)
  · exact e2.trans (by show t.val / 4 * 256 + e.val = 256 * (t.val / 4) + e.val; omega)

variable (m : (ℓ : Loc nD τ sig) → Buf (Elt Ideal) ℓ) (c : Dev nD)

/-- The call's arguments, as arrays of extended reals. -/
abbrev argQn : (⟨3, ![8192, 16, 128]⟩ : Shape).Idx → EReal := m ((c.tc : Thread nD τ).loc main_arg0)
abbrev argQr : (⟨3, ![8192, 16, 64]⟩ : Shape).Idx → EReal := m ((c.tc : Thread nD τ).loc main_arg1)
abbrev argKn : (⟨3, ![8192, 16, 128]⟩ : Shape).Idx → EReal := m ((c.tc : Thread nD τ).loc main_arg2)
abbrev argKr : (⟨2, ![8192, 64]⟩ : Shape).Idx → EReal := m ((c.tc : Thread nD τ).loc main_arg3)
abbrev argV : (⟨3, ![8192, 16, 128]⟩ : Shape).Idx → EReal := m ((c.tc : Thread nD τ).loc main_arg4)

/-- A prepared query of point `t`'s first block. -/
theorem blk_q0 (t : Fin cfg0.N) (a : Fin 2) (b : Fin 256) (e : Fin 1024) :
    iblk m c 0 t (ix3 a b e) = qArr (argQn m c) (argQr m c) (ix3 (headOf t a) b ⟨1024 * (t.val % 4) + e.val, by omega⟩) :=
  (congrArg (V m c main_v15) (emb0 t a b e)).trans (congrFun (V15 m c) _)

/-- A prepared query of point `t`'s second block. -/
theorem blk_q1 (t : Fin cfg0.N) (a : Fin 2) (b : Fin 256) (e : Fin 1024) :
    iblk m c 1 t (ix3 a b e) = qArr (argQn m c) (argQr m c) (ix3 (headOf t a) b ⟨1024 * (t.val % 4 + 4) + e.val, by omega⟩) :=
  (congrArg (V m c main_v15) (emb1 t a b e)).trans (congrFun (V15 m c) _)

/-- A prepared key of point `t`'s block. -/
theorem blk_k (t : Fin cfg0.N) (a : Fin 2) (b : Fin 8192) (e : Fin 256) :
    iblk m c 2 t (ix3 a b e) = kArr (argKn m c) (argKr m c) (ix3 (headOf t a) b e) :=
  (congrArg (V m c main_v17) (emb2 t a b e)).trans (congrFun (V17 m c) _)

/-- A prepared value of point `t`'s block. -/
theorem blk_v (t : Fin cfg0.N) (a : Fin 2) (b : Fin 16) (d : Fin 144) (e : Fin 512) :
    iblk m c 3 t (ix4 a b d e) = vArr (argV m c) (ix4 (headOf t a) b d e) :=
  (congrArg (V m c main_v18) (emb3 t a b d e)).trans (congrFun (V18 m c) _)

/-- The queries and the keys are numbers. -/
def Numbers : Prop := (∀ i, ∃ r : ℝ, argQn m c i = (r : EReal)) ∧ (∀ i, ∃ r : ℝ, argQr m c i = (r : EReal))
  ∧ (∀ i, ∃ r : ℝ, argKn m c i = (r : EReal)) ∧ ∀ i, ∃ r : ℝ, argKr m c i = (r : EReal)

/-- A column of values, and of ones behind them. -/
def vcol (h : Fin 16) (d : Fin 144) (k : ℕ) : EReal :=
  if hk : k < 8192 then if hd : d.val < 128 then argV m c (ix3 ⟨k, hk⟩ h ⟨d.val, hd⟩) else 1 else 1

/-- THE RESULT BLOCK of point `t` at an index is the attention, whatever the buffers held. -/
theorem block_at (hm : Numbers m c) (t : Fin cfg0.N) (σ : St Ideal) (hd sl : Fin 2) (q : Fin 1024) (d : Fin 128) :
    (bodyF (grid0.coords t) (iblk m c 0 t) (iblk m c 1 t) (iblk m c 2 t) (iblk m c 3 t) σ).o (ix3 sl q ⟨128 * hd.val + d.val, by omega⟩)
      = attn (argQn m c) (argQr m c) (argKn m c) (argKr m c) (argV m c) ⟨4096 * sl.val + 1024 * (t.val % 4) + q.val, by omega⟩ (headOf t hd) d := by
  obtain ⟨hqn, hqr, hkn, hkr⟩ := hm
  choose qn hqn using hqn
  choose qr hqr using hqr
  choose kn hkn using hkn
  choose kr hkr using hkr
  obtain ⟨Q, hQ⟩ : ∃ Q : Fin 8192, Q = ⟨4096 * sl.val + 1024 * (t.val % 4) + q.val, by omega⟩ := ⟨_, rfl⟩
  have hQv : Q.val = 4096 * sl.val + 1024 * (t.val % 4) + q.val := congrArg Fin.val hQ
  rw [← hQ]
  let sr : Fin 8192 → ℝ := fun k => ((∑ e : Fin 128, qn (ix3 Q (headOf t hd) e) * kn (ix3 k (headOf t hd) e)) + ∑ e : Fin 64, kr (ix2 k e) * qr (ix3 Q (headOf t hd) e)) * (1 / √192)
  let s : ℕ → ℝ := fun k => if h : k < 8192 then sr ⟨k, h⟩ else 0
  have hs : ∀ k : Fin 8192, s k.val = sr k := fun k => dif_pos k.isLt
  let C : Col := ⟨hd, sl, q, Q.val, fun k => s k / Real.log 2, vcol m c (headOf t hd)⟩
  have hsc : ∀ k, score (argQn m c) (argQr m c) (argKn m c) (argKr m c) (headOf t hd) Q k = (s k.val : EReal) := fun k => by
    rw [hs, funext hqn, funext hqr, funext hkn, funext hkr]
    exact score_coe qn kn qr kr (headOf t hd) Q k
  have hdot : ∀ k : Fin 8192, ∑ e : Fin 256, kArr (argKn m c) (argKr m c) (ix3 (headOf t hd) k e) * qArr (argQn m c) (argQr m c) (ix3 (headOf t hd) e Q)
      = ((s k.val / Real.log 2 : ℝ) : EReal) := fun k => by
    rw [hs]
    simp only [kArr_at, qArr_at, hqn, hqr, hkn, hkr]
    exact dot_join (fun e => kn (ix3 k (headOf t hd) e)) (fun e => qn (ix3 Q (headOf t hd) e)) (fun e => kr (ix2 k e)) (fun e => qr (ix3 Q (headOf t hd) e))
  have hV : Values C (iblk m c 3 t) := fun j d r => by
    refine (blk_v m c t hd j d r).trans ((vArr_at _ _ _ _ _).trans ?_)
    have hlt : 512 * j.val + r.val < 8192 := by omega
    show _ = vcol m c (headOf t hd) d (512 * j.val + r.val)
    unfold vcol
    rw [dif_pos hlt]
  obtain ⟨N, hN, hT, hD⟩ : ∃ N, C.Q < N ∧ N ≤ 8192 ∧ Done C (bodyF (grid0.coords t) (iblk m c 0 t) (iblk m c 1 t) (iblk m c 2 t) (iblk m c 3 t) σ) N := by
    have hsl : sl.val = 0 ∨ sl.val = 1 := by omega
    rcases hsl with h | h
    · refine body_first (C := C) t σ h (fun k => ?_) hV (by show Q.val = _; rw [hQv, h]; show _ = 1024 * (t.val % 4) + q.val; omega)
      have eQ : Q = ⟨1024 * (t.val % 4) + q.val, by omega⟩ := Fin.ext (by rw [hQv, h]; show _ = 1024 * (t.val % 4) + q.val; omega)
      refine (Finset.sum_congr rfl fun e _ => ?_).trans (hdot k)
      exact congrArg₂ (· * ·) (blk_k m c t hd k e) (by rw [eQ]; exact blk_q0 m c t hd _ q)
    · refine body_second (C := C) t σ h (fun k => ?_) hV (by show Q.val = _; rw [hQv, h]; show _ = 1024 * (t.val % 4 + 4) + q.val; omega)
      have eQ : Q = ⟨1024 * (t.val % 4 + 4) + q.val, by omega⟩ := Fin.ext (by rw [hQv, h]; show _ = 1024 * (t.val % 4 + 4) + q.val; omega)
      refine (Finset.sum_congr rfl fun e _ => ?_).trans (hdot k)
      exact congrArg₂ (· * ·) (blk_k m c t hd k e) (by rw [eQ]; exact blk_q1 m c t hd _ q)
  refine (hD d).trans ?_
  refine quotient s (vcol m c (headOf t hd) ⟨d.val, by omega⟩) Q.val N 8192 hN hT _ (fun k => ?_) (fun k => argV m c (ix3 k (headOf t hd) d)) (fun k => ?_)
    (vcol m c (headOf t hd) 128) (fun k _ => ?_)
  · unfold masked causal
    rw [hsc]
  · unfold vcol
    rw [dif_pos k.isLt, dif_pos d.isLt]
  · unfold vcol
    have h : ¬ ((128 : Fin 144).val < 128) := by decide
    simp only [dif_neg h]
    split <;> rfl

/-- What point `t` leaves in the result's buffer. -/
def outB (c : Dev nD) (t : Fin cfg0.N) : Vec Ideal S2x1024x256 .bf16 := fun y : (⟨3, ![2, 1024, 256]⟩ : Shape).Idx =>
  res (argQn m c) (argQr m c) (argKn m c) (argKr m c) (argV m c) (y 0) ⟨1024 * (t.val % 4) + (y 1).val, by have : (y 1).val < 1024 := (y 1).isLt; omega⟩
    ⟨256 * (t.val / 4) + (y 2).val, by have : t.val < 32 := t.isLt; have : (y 2).val < 256 := (y 2).isLt; omega⟩

/-- THE RESULT BLOCK of point `t`. -/
theorem block_eq (hm : ∀ c, Numbers m c) (c : Dev nD) (t : Fin cfg0.N) (σ : St Ideal) :
    (bodyF (grid0.coords t) (iblk m c 0 t) (iblk m c 1 t) (iblk m c 2 t) (iblk m c 3 t) σ).o = outB m c t := by
  refine funext fun (y : (⟨3, ![2, 1024, 256]⟩ : Shape).Idx) => ?_
  obtain ⟨a, b, e, rfl⟩ : ∃ (a : Fin 2) (b : Fin 1024) (e : Fin 256), y = ix3 a b e := ⟨y 0, y 1, y 2, eq_ix3 y⟩
  have ht : t.val < 32 := t.isLt
  have he : e = ⟨128 * (e.val / 128) + e.val % 128, by omega⟩ := Fin.ext (by show e.val = 128 * (e.val / 128) + e.val % 128; omega)
  have hB := block_at m c (hm c) t σ ⟨e.val / 128, by omega⟩ a b ⟨e.val % 128, by omega⟩
  refine ((congrArg (fun e => (bodyF (grid0.coords t) (iblk m c 0 t) (iblk m c 1 t) (iblk m c 2 t) (iblk m c 3 t) σ).o (ix3 a b e)) he).trans hB).trans ?_
  show _ = attn (argQn m c) (argQr m c) (argKn m c) (argKr m c) (argV m c) ⟨a.val * 4096 + (1024 * (t.val % 4) + b.val), _⟩
    ⟨(256 * (t.val / 4) + e.val) / 128, _⟩ ⟨(256 * (t.val / 4) + e.val) % 128, _⟩
  have e1 : 4096 * a.val + 1024 * (t.val % 4) + b.val = a.val * 4096 + (1024 * (t.val % 4) + b.val) := by omega
  have e2 : 2 * (t.val / 4) + e.val / 128 = (256 * (t.val / 4) + e.val) / 128 := by omega
  have e3 : e.val % 128 = (256 * (t.val / 4) + e.val) % 128 := by omega
  exact congr (congr (congrArg _ (Fin.ext e1)) (Fin.ext e2)) (Fin.ext e3)

/-- THE KERNEL's result array is the attention's result. -/
theorem kernel_eq : (dats m (outB m) 0 c).arrAt 4 cfg0.N = fun i : (⟨3, ![2, 4096, 2048]⟩ : Shape).Idx =>
    res (argQn m c) (argQr m c) (argKn m c) (argKr m c) (argV m c) (i 0) (i 1) (i 2) := by
  refine (dats m (outB m) 0 c).arrAt_eq_of_covers 4 _ (by decide +kernel) fun t _ y => ?_
  blk_simp
  rw [after0_4]
  obtain ⟨a, b, e, rfl⟩ : ∃ (a : Fin 2) (b : Fin 1024) (e : Fin 256), y = ix3 a b e := ⟨y 0, y 1, y 2, eq_ix3 y⟩
  exact (congrArg (fun i : (⟨3, ![2, 4096, 2048]⟩ : Shape).Idx =>
    res (argQn m c) (argQr m c) (argKn m c) (argKr m c) (argV m c) (i 0) (i 1) (i 2)) (emb4 t a b e)).symm

/-- THE KERNEL's run ends with the attention's result, its arguments unchanged, for finite queries and keys. -/
theorem value_run (ρ : Dev nD → PrngReg) (hm : ∀ c, Numbers m c) :
    θ_run defs (onTc (τ := τ) (main (F := Ideal))) ⟨m, fun _ => 0, ρ⟩ fun r => ∀ c : Dev nD,
      (r.2.mem ((c.tc : Thread nD τ).loc main_v19) = fun i : (⟨3, ![2, 4096, 2048]⟩ : Shape).Idx =>
        res (argQn m c) (argQr m c) (argKn m c) (argKr m c) (argV m c) (i 0) (i 1) (i 2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun r h c => ⟨((h.1 c).1 4).trans (kernel_eq m c),
      ((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c)⟩)
    (run_named m ρ (outB m) (block_eq m hm))

/-- An array whose absolute values are below +∞ is an array of numbers. -/
theorem number_of {s : Shape} (x : FVec Ideal s .f32) (hb : S_.BroadcastsInDim s (![] : Fin 0 → Fin s.rank))
    (h : cmpf .olt (Host.absf x) (broadcastInDim s ![] hb (constant (F := Ideal) S_ .f32 0x7F800000#32)) = fun _ => 1#1) (i : s.Idx) :
    ∃ r : ℝ, x i = (r : EReal) := by
  have h1 : Ideal.cmp .olt (max (x i) (-(x i))) (Ideal.ofBits .f32 0x7F800000#32) = 1#1 := congrFun h i
  have h2 : max (x i) (-(x i)) < (⊤ : EReal) := by
    have e : Ideal.ofBits .f32 0x7F800000#32 = (⊤ : EReal) := by simp [Ideal.ofBits, Ideal.ieee]
    rw [e] at h1
    by_contra hn
    simp [Ideal.cmp, hn] at h1
  refine ⟨(x i).toReal, (EReal.coe_toReal ?_ ?_).symm⟩
  · exact ((le_max_left _ _).trans_lt h2).ne
  · intro hb
    have := (le_max_right (x i) (-(x i))).trans_lt h2
    rw [hb, EReal.neg_bot] at this
    exact lt_irrefl _ this

end Cert.Kernel4Ideal.Attn
end
-- ==== Proof.GatesStep.lean ====
/- What one grid point of the gates' kernel leaves in its result blocks and in its scratch weights, as plain terms of what
   it found: on the first row block of a column block the weights are cast into scratch, on any other they are read back. -/
module

public import proofs.«01_k».proof.Proof.Gen.Kernel3Ideal.Frame
public import Idealize.ShloMosaic.Lib.Pipeline.Value
public import Idealize.ShloMosaic.Lib.ValueIdx
public import Idealize.ShloMosaic.Lib.Tactic

@[expose] public section

noncomputable section

namespace Cert.Kernel3Ideal.Gates

open Cert.Kernel3Ideal Cert.Kernel3Ideal.Gen Idealize.ShloMosaic Idealize.ShloMosaic.TcCoe Idealize.SL.Sem

variable {F : FTy → Type} [FloatOps F]

/-- The zero offset, written out, is the zero offset. -/
theorem hz : (![0, 0] : Fin 2 → Nat) = fun _ => 0 := funext fun a => by fin_cases a <;> rfl

/-- The gates' block a grid point writes: the lower 512 rows over the upper 512 rows, from the input rows `x0` and the cast
    weight block `w`. -/
def outV (i : grid0.Coords) (x0 : Vec F S1024x2048 .bf16) (w : Vec F S1024x2048 .bf16) : S1024x1024.Idx → Elt F .bf16 :=
  View.canon
      [⟨Rect.unit ![512, 0] ![512, 1024] inb_S1024x1024_S512x1024_512_0,
          k0_pay1 (Scalar.cmpi .slt (BitVec.ofNat 32 (i 0).val) 2#32) (View.ld x0 (Rect.unit ![512, 0] ![512, 2048] inb_S1024x2048_S512x2048_512_0)) w⟩,
        ⟨Rect.unit ![0, 0] ![512, 1024] inb_S1024x1024_S512x1024_0_0,
          k0_pay6 i (View.ld x0 (Rect.unit ![0, 0] ![512, 2048] inb_S1024x2048_S512x2048_0_0)) w⟩]

variable (c : Dev nD) (i : grid0.Coords) (arg2 : Memref sig .tc .vmem S1024x2048 .bf16) (harg2 : arg2.IsWhole) (arg3 : Memref sig .tc .vmem S1024x2048 .f32) (harg3 : arg3.IsWhole) (arg4 : Memref sig .tc .vmem S64x2048 .f32) (harg4 : arg4.IsWhole) (arg5 : Memref sig .tc .vmem S64x2048 .f32) (harg5 : arg5.IsWhole) (arg6 : Memref sig .tc .vmem S64x2048 .f32) (harg6 : arg6.IsWhole) (arg7 : Memref sig .tc .vmem S1024x1024 .bf16) (harg7 : arg7.IsWhole) (arg8 : Memref sig .tc .vmem S64x2048 .bf16) (harg8 : arg8.IsWhole) (arg9 : Memref sig .tc .vmem S64x2048 .bf16) (harg9 : arg9.IsWhole) (arg10 : Memref sig .tc .vmem S64x2048 .bf16) (harg10 : arg10.IsWhole) (arg11 : Memref sig .tc .vmem S1024x2048 .bf16) (harg11 : arg11.IsWhole)
  (x0 : Vec F S1024x2048 .bf16) (x1 : Vec F S1024x2048 .f32) (x2 x3 x4 : Vec F S64x2048 .f32) (xs0 : Vec F S1024x2048 .bf16)

/-- On the first row block the gates' block is `outV` of the weights cast there. -/
theorem out_A_5 (hc : cond0_0 i) :
    out0_A_5 c i arg2 harg2 arg3 harg3 arg4 harg4 arg5 harg5 arg6 harg6 arg7 harg7 arg8 harg8 arg9 harg9 arg10 harg10 arg11 harg11 hc x0 x1 x2 x3 x4 = outV i x0 (k0_pay2 x1) := by
  unfold out0_A_5
  rw [View.read_writes_eq_canon _ _ _ (cover0_A_5 c i arg2 harg2 arg3 harg3 arg4 harg4 arg5 harg5 arg6 harg6 arg7 harg7 arg8 harg8 arg9 harg9 arg10 harg10 arg11 harg11 hc x0 x1 x2 x3 x4)]
  unfold kernelRun0_A outV
  dsimp only
  sl_unfold_words
  simp only [View.readAt_eq_ld, harg2.read_unread, harg3.read_unread, harg4.read_unread, harg5.read_unread, harg6.read_unread, harg11.read_unread, View.ld_unit_zero (S := S1024x2048) hz, View.ld_unit_zero (S := S64x2048) hz, View.readCov_unit_zero (S := S1024x2048) _ hz]

/-- Past it the gates' block is `outV` of the scratch weights. -/
theorem out_B_5 (hc : ¬cond0_0 i) :
    out0_B_5 c i arg2 harg2 arg3 harg3 arg4 harg4 arg5 harg5 arg6 harg6 arg7 harg7 arg8 harg8 arg9 harg9 arg10 harg10 arg11 harg11 hc x0 x1 x2 x3 x4 xs0 = outV i x0 xs0 := by
  unfold out0_B_5
  rw [View.read_writes_eq_canon _ _ _ (cover0_B_5 c i arg2 harg2 arg3 harg3 arg4 harg4 arg5 harg5 arg6 harg6 arg7 harg7 arg8 harg8 arg9 harg9 arg10 harg10 arg11 harg11 hc x0 x1 x2 x3 x4 xs0)]
  unfold kernelRun0_B outV
  dsimp only
  sl_unfold_words
  simp only [View.readAt_eq_ld, harg2.read_unread, harg3.read_unread, harg4.read_unread, harg5.read_unread, harg6.read_unread, harg11.read_unread, View.ld_unit_zero (S := S1024x2048) hz, View.ld_unit_zero (S := S64x2048) hz, View.readCov_unit_zero (S := S1024x2048) _ hz]

/-- On the first row block the scratch is left at the weight block, cast. -/
theorem sout_A_0 (hc : cond0_0 i) :
    sout0_A_0 c i arg2 harg2 arg3 harg3 arg4 harg4 arg5 harg5 arg6 harg6 arg7 harg7 arg8 harg8 arg9 harg9 arg10 harg10 arg11 harg11 hc x0 x1 x2 x3 x4 = k0_pay2 x1 := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 hc x0 x1 x2 x3 x4)]
  unfold kernelRun0_A
  dsimp only
  sl_unfold_words
  simp only [View.readAt_eq_ld, harg2.read_unread, harg3.read_unread, harg4.read_unread, harg5.read_unread, harg6.read_unread, harg11.read_unread, View.ld_unit_zero (S := S1024x2048) hz, View.ld_unit_zero (S := S64x2048) hz, View.readCov_unit_zero (S := S1024x2048) _ hz]
  rw [View.canon_unit_zero hz]

/-- The side block of output 6 is its input block, cast (case A). -/
theorem out_A_6 (hc : cond0_0 i) :
    out0_A_6 c i arg2 harg2 arg3 harg3 arg4 harg4 arg5 harg5 arg6 harg6 arg7 harg7 arg8 harg8 arg9 harg9 arg10 harg10 arg11 harg11 hc x0 x1 x2 x3 x4 = k0_pay3 x2 := by
  unfold out0_A_6
  rw [View.read_writes_eq_canon _ _ _ (cover0_A_6 c i arg2 harg2 arg3 harg3 arg4 harg4 arg5 harg5 arg6 harg6 arg7 harg7 arg8 harg8 arg9 harg9 arg10 harg10 arg11 harg11 hc x0 x1 x2 x3 x4)]
  unfold kernelRun0_A
  dsimp only
  sl_unfold_words
  simp only [View.readAt_eq_ld, harg2.read_unread, harg3.read_unread, harg4.read_unread, harg5.read_unread, harg6.read_unread, harg11.read_unread, View.ld_unit_zero (S := S1024x2048) hz, View.ld_unit_zero (S := S64x2048) hz, View.readCov_unit_zero (S := S1024x2048) _ hz]
  rw [View.canon_unit_zero hz]

/-- The side block of output 6 is its input block, cast (case B). -/
theorem out_B_6 (hc : ¬cond0_0 i) :
    out0_B_6 c i arg2 harg2 arg3 harg3 arg4 harg4 arg5 harg5 arg6 harg6 arg7 harg7 arg8 harg8 arg9 harg9 arg10 harg10 arg11 harg11 hc x0 x1 x2 x3 x4 xs0 = k0_pay3 x2 := by
  unfold out0_B_6
  rw [View.read_writes_eq_canon _ _ _ (cover0_B_6 c i arg2 harg2 arg3 harg3 arg4 harg4 arg5 harg5 arg6 harg6 arg7 harg7 arg8 harg8 arg9 harg9 arg10 harg10 arg11 harg11 hc x0 x1 x2 x3 x4 xs0)]
  unfold kernelRun0_B
  dsimp only
  sl_unfold_words
  simp only [View.readAt_eq_ld, harg2.read_unread, harg3.read_unread, harg4.read_unread, harg5.read_unread, harg6.read_unread, harg11.read_unread, View.ld_unit_zero (S := S1024x2048) hz, View.ld_unit_zero (S := S64x2048) hz, View.readCov_unit_zero (S := S1024x2048) _ hz]
  rw [View.canon_unit_zero hz]

/-- The side block of output 7 is its input block, cast (case A). -/
theorem out_A_7 (hc : cond0_0 i) :
    out0_A_7 c i arg2 harg2 arg3 harg3 arg4 harg4 arg5 harg5 arg6 harg6 arg7 harg7 arg8 harg8 arg9 harg9 arg10 harg10 arg11 harg11 hc x0 x1 x2 x3 x4 = k0_pay4 x3 := by
  unfold out0_A_7
  rw [View.read_writes_eq_canon _ _ _ (cover0_A_7 c i arg2 harg2 arg3 harg3 arg4 harg4 arg5 harg5 arg6 harg6 arg7 harg7 arg8 harg8 arg9 harg9 arg10 harg10 arg11 harg11 hc x0 x1 x2 x3 x4)]
  unfold kernelRun0_A
  dsimp only
  sl_unfold_words
  simp only [View.readAt_eq_ld, harg2.read_unread, harg3.read_unread, harg4.read_unread, harg5.read_unread, harg6.read_unread, harg11.read_unread, View.ld_unit_zero (S := S1024x2048) hz, View.ld_unit_zero (S := S64x2048) hz, View.readCov_unit_zero (S := S1024x2048) _ hz]
  rw [View.canon_unit_zero hz]

/-- The side block of output 7 is its input block, cast (case B). -/
theorem out_B_7 (hc : ¬cond0_0 i) :
    out0_B_7 c i arg2 harg2 arg3 harg3 arg4 harg4 arg5 harg5 arg6 harg6 arg7 harg7 arg8 harg8 arg9 harg9 arg10 harg10 arg11 harg11 hc x0 x1 x2 x3 x4 xs0 = k0_pay4 x3 := by
  unfold out0_B_7
  rw [View.read_writes_eq_canon _ _ _ (cover0_B_7 c i arg2 harg2 arg3 harg3 arg4 harg4 arg5 harg5 arg6 harg6 arg7 harg7 arg8 harg8 arg9 harg9 arg10 harg10 arg11 harg11 hc x0 x1 x2 x3 x4 xs0)]
  unfold kernelRun0_B
  dsimp only
  sl_unfold_words
  simp only [View.readAt_eq_ld, harg2.read_unread, harg3.read_unread, harg4.read_unread, harg5.read_unread, harg6.read_unread, harg11.read_unread, View.ld_unit_zero (S := S1024x2048) hz, View.ld_unit_zero (S := S64x2048) hz, View.readCov_unit_zero (S := S1024x2048) _ hz]
  rw [View.canon_unit_zero hz]

/-- The side block of output 8 is its input block, cast (case A). -/
theorem out_A_8 (hc : cond0_0 i) :
    out0_A_8 c i arg2 harg2 arg3 harg3 arg4 harg4 arg5 harg5 arg6 harg6 arg7 harg7 arg8 harg8 arg9 harg9 arg10 harg10 arg11 harg11 hc x0 x1 x2 x3 x4 = k0_pay5 x4 := by
  unfold out0_A_8
  rw [View.read_writes_eq_canon _ _ _ (cover0_A_8 c i arg2 harg2 arg3 harg3 arg4 harg4 arg5 harg5 arg6 harg6 arg7 harg7 arg8 harg8 arg9 harg9 arg10 harg10 arg11 harg11 hc x0 x1 x2 x3 x4)]
  unfold kernelRun0_A
  dsimp only
  sl_unfold_words
  simp only [View.readAt_eq_ld, harg2.read_unread, harg3.read_unread, harg4.read_unread, harg5.read_unread, harg6.read_unread, harg11.read_unread, View.ld_unit_zero (S := S1024x2048) hz, View.ld_unit_zero (S := S64x2048) hz, View.readCov_unit_zero (S := S1024x2048) _ hz]
  rw [View.canon_unit_zero hz]

/-- The side block of output 8 is its input block, cast (case B). -/
theorem out_B_8 (hc : ¬cond0_0 i) :
    out0_B_8 c i arg2 harg2 arg3 harg3 arg4 harg4 arg5 harg5 arg6 harg6 arg7 harg7 arg8 harg8 arg9 harg9 arg10 harg10 arg11 harg11 hc x0 x1 x2 x3 x4 xs0 = k0_pay5 x4 := by
  unfold out0_B_8
  rw [View.read_writes_eq_canon _ _ _ (cover0_B_8 c i arg2 harg2 arg3 harg3 arg4 harg4 arg5 harg5 arg6 harg6 arg7 harg7 arg8 harg8 arg9 harg9 arg10 harg10 arg11 harg11 hc x0 x1 x2 x3 x4 xs0)]
  unfold kernelRun0_B
  dsimp only
  sl_unfold_words
  simp only [View.readAt_eq_ld, harg2.read_unread, harg3.read_unread, harg4.read_unread, harg5.read_unread, harg6.read_unread, harg11.read_unread, View.ld_unit_zero (S := S1024x2048) hz, View.ld_unit_zero (S := S64x2048) hz, View.readCov_unit_zero (S := S1024x2048) _ hz]
  rw [View.canon_unit_zero hz]

/-- Past the first row block the scratch is as the point before left it. -/
theorem sout_B_0 (hc : ¬cond0_0 i) : sout0_B_0 c i arg2 harg2 arg3 harg3 arg4 harg4 arg5 harg5 arg6 harg6 arg7 harg7 arg8 harg8 arg9 harg9 arg10 harg10 arg11 harg11 hc x0 x1 x2 x3 x4 xs0 = xs0 := by
  unfold sout0_B_0
  rfl

end Cert.Kernel3Ideal.Gates
end
-- ==== Proof.GatesState.lean ====
/- The gates' kernel over the grid: after every point the scratch weights are the column block's weights, cast; so every
   point's gates are `outV` of the point's own blocks, and every side block its input block, cast. -/
module

public import proofs.«01_k».proof.Proof.GatesStep
public import Idealize.ShloMosaic.Lib.Pipeline.ValueKit
public import Idealize.ShloMosaic.Lib.Pointwise

@[expose] public section

set_option maxRecDepth 16384

noncomputable section

namespace Cert.Kernel3Ideal.Gates

open Cert.Kernel3Ideal Cert.Kernel3Ideal.Gen Idealize.ShloMosaic Idealize.ShloMosaic.TcCoe Idealize.SL.Sem

variable {F : FTy → Type} [FloatOps F] (m : (ℓ : Loc nD τ sig) → Buf (Elt F) ℓ) (c : Dev nD)

/-- The first weight row of point `t`'s weight block: column block `t / 8`, past the gap from the third on. -/
abbrev wrow (t : ℕ) : ℕ := 1088 + 1024 * (t / 8) + (if t / 8 < 2 then 0 else 8192)

/-- The block indices of the windows at point `t`. -/
theorem idx : ∀ t : Fin cfg0.N, win0_0.index t = ![t.val % 8, 0] ∧ win0_1.index t = ![wrow t.val, 0]
    ∧ win0_2.index t = ![min t.val 31, 0] ∧ win0_3.index t = ![min t.val 31, 0] ∧ win0_4.index t = ![min t.val 31, 0]
    ∧ win0_5.index t = ![t.val % 8, t.val / 8]
    ∧ win0_6.index t = ![min t.val 31, 0] ∧ win0_7.index t = ![min t.val 31, 0] ∧ win0_8.index t = ![min t.val 31, 0] :=
  (by decide +kernel : ∀ t : Fin grid0.N, _)

/-- The weight row of a row of the block is a row of the weights. -/
theorem wrow_lt (t : Fin cfg0.N) (b : ℕ) (hb : b < 1024) : wrow t.val + b < 15424 := by
  have ht : t.val < 48 := t.isLt
  unfold wrow; split_ifs <;> omega

/-- The input rows' block. -/
theorem blk_h (t : Fin cfg0.N) (a : Fin 1024) (k : Fin 2048) :
    iblk m c 0 t (ix2 a k) = m ((c.tc : Thread nD τ).loc main_arg0) (ix2 ⟨1024 * (t.val % 8) + a.val, by omega⟩ k) := by
  blk_ext [iblk, V, (idx t).1]

/-- The weight block: columns of the weights, transposed. -/
theorem blk_w (t : Fin cfg0.N) (y : S1024x2048.Idx) :
    iblk m c 1 t y = m ((c.tc : Thread nD τ).loc main_arg1) (ix2 (y 1) ⟨wrow t.val + (y 0).val, wrow_lt t _ (y 0).isLt⟩) := by
  blk_simp [iblk]
  entry_read
  pointwise
  have e : win0_1.index t = ![wrow t.val, 0] := (idx t).2.1
  have e0 := Pipeline.Window.rect_emb_val_off win0_1 t y 0
  have e1 := Pipeline.Window.rect_emb_val_off win0_1 t y 1
  rw [e] at e0 e1
  refine congrArg _ (congrArg₂ ix2 (Fin.ext ?_) (Fin.ext ?_))
  · exact e1.trans (Nat.zero_add _)
  · exact e0

/-- The side weights' blocks. -/
theorem blk_s2 (t : Fin cfg0.N) (a : Fin 64) (k : Fin 2048) :
    iblk m c 2 t (ix2 a k) = m ((c.tc : Thread nD τ).loc main_arg2) (ix2 ⟨64 * min t.val 31 + a.val, by omega⟩ k) := by
  blk_ext [iblk, V, (idx t).2.2.1]

theorem blk_s3 (t : Fin cfg0.N) (a : Fin 64) (k : Fin 2048) :
    iblk m c 3 t (ix2 a k) = m ((c.tc : Thread nD τ).loc main_arg3) (ix2 ⟨64 * min t.val 31 + a.val, by omega⟩ k) := by
  blk_ext [iblk, V, (idx t).2.2.2.1]

theorem blk_s4 (t : Fin cfg0.N) (a : Fin 64) (k : Fin 2048) :
    iblk m c 4 t (ix2 a k) = m ((c.tc : Thread nD τ).loc main_arg4) (ix2 ⟨64 * min t.val 31 + a.val, by omega⟩ k) := by
  blk_ext [iblk, V, (idx t).2.2.2.2.1]

/-- Two points of one column block read the same weight block. -/
theorem blk_w_same (t u : Fin cfg0.N) (h : t.val / 8 = u.val / 8) : iblk m c 1 t = iblk m c 1 u := by
  refine funext fun (y : S1024x2048.Idx) => ?_
  rw [blk_w m c t y, blk_w m c u y]; simp only [wrow, h]

/-- THE SCRATCH after point `t`: the column block's weights, cast. -/
theorem scratch (n : ℕ) : ∀ t : Fin cfg0.N, t.val = n → (outsAt0 m c t.val t.isLt).2.2.2.2 = k0_pay2 (iblk m c 1 t) := by
  induction n with
  | zero =>
    intro t ht
    have h0 : t.val % 8 = 0 := by omega
    rw [outsAt0_A m c t h0]
    dsimp only
    rw [sout_A_0]
  | succ n ih =>
    intro t ht
    by_cases h0 : t.val % 8 = 0
    · rw [outsAt0_A m c t h0]
      dsimp only
      rw [sout_A_0]
    · have hp : t.val - 1 < cfg0.N := by have := t.isLt; omega
      have i1 := ih ⟨t.val - 1, hp⟩ (by show t.val - 1 = n; omega)
      have b1 := blk_w_same m c ⟨t.val - 1, hp⟩ t (by show (t.val - 1) / 8 = t.val / 8; omega)
      dsimp only at i1
      rw [outsAt0_B m c t h0]
      dsimp only
      rw [sout_B_0, i1, b1]

/-- THE GATES' BLOCK of point `t`. -/
theorem out_eq (t : Fin cfg0.N) :
    (outsAt0 m c t.val t.isLt).1 = outV (grid0.coords t) (iblk m c 0 t) (k0_pay2 (iblk m c 1 t)) := by
  by_cases h0 : t.val % 8 = 0
  · rw [outsAt0_A m c t h0]
    dsimp only
    rw [out_A_5]
  · have hp : t.val - 1 < cfg0.N := by have := t.isLt; omega
    have i1 := scratch m c _ ⟨t.val - 1, hp⟩ rfl
    have b1 := blk_w_same m c ⟨t.val - 1, hp⟩ t (by show (t.val - 1) / 8 = t.val / 8; omega)
    dsimp only at i1
    rw [outsAt0_B m c t h0]
    dsimp only
    rw [out_B_5, i1, b1]

/-- THE SIDE BLOCKS of point `t`. -/
theorem side_eq (t : Fin cfg0.N) : (outsAt0 m c t.val t.isLt).2.1 = k0_pay3 (iblk m c 2 t)
    ∧ (outsAt0 m c t.val t.isLt).2.2.1 = k0_pay4 (iblk m c 3 t) ∧ (outsAt0 m c t.val t.isLt).2.2.2.1 = k0_pay5 (iblk m c 4 t) := by
  by_cases h0 : t.val % 8 = 0
  · rw [outsAt0_A m c t h0]
    dsimp only
    rw [out_A_6, out_A_7, out_A_8]
    exact ⟨rfl, rfl, rfl⟩
  · rw [outsAt0_B m c t h0]
    dsimp only
    rw [out_B_6, out_B_7, out_B_8]
    exact ⟨rfl, rfl, rfl⟩

end Cert.Kernel3Ideal.Gates
end
-- ==== Proof.GatesSpec.lean ====
/- The layer's gates as mathematics — the attention's output gate through `x · σ(x)`, the two merge gates through `σ` — and
   the reference program's results as them. -/
module

public import proofs.«01_k».proof.Proof.Gen.Reference3Ideal.Run
public import proofs.«01_k».proof.Proof.Sigmoid

@[expose] public section

set_option maxRecDepth 16384

noncomputable section

namespace Cert.GatesSpec

open Idealize.ShloMosaic Idealize.ShloMosaic.TcCoe Idealize.SL.Sem Cert.Sigmoid
open scoped BigOperators

/-- Row `r` of the input times column `q` of the input weights. -/
def proj (h : (⟨2, ![8192, 2048]⟩ : Shape).Idx → EReal) (w : (⟨2, ![2048, 15424]⟩ : Shape).Idx → EReal) (r : Fin 8192)
    (q : Fin 15424) : EReal :=
  ∑ k : Fin 2048, h (ix2 r k) * w (ix2 k q)

/-- Gate `q` of row `r`: the first 2048 from the columns 1088 …, through `x · σ(x)`; the other 4096 from the columns
    11328 …, through `σ`. -/
def gate (h : (⟨2, ![8192, 2048]⟩ : Shape).Idx → EReal) (w : (⟨2, ![2048, 15424]⟩ : Shape).Idx → EReal) (r : Fin 8192)
    (q : Fin 6144) : EReal :=
  if q.val < 2048 then proj h w r ⟨1088 + q.val, by omega⟩ * sig (proj h w r ⟨1088 + q.val, by omega⟩)
  else sig (proj h w r ⟨11328 + (q.val - 2048), by omega⟩)

open Cert.Reference3Ideal in
/-- THE REFERENCE's run ends with the gates and the three weights, its arguments unchanged. -/
theorem reference_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      (r.2.mem ((c.tc : Thread nD τ).loc main_v23) = fun i : (⟨2, ![8192, 6144]⟩ : Shape).Idx =>
        gate (m ((c.tc : Thread nD τ).loc main_arg0)) (m ((c.tc : Thread nD τ).loc main_arg1)) (i 0) (i 1))
      ∧ (r.2.mem ((c.tc : Thread nD τ).loc main_v24) = fun i : (⟨2, ![2048, 2048]⟩ : Shape).Idx =>
        (m ((c.tc : Thread nD τ).loc main_arg2) : (⟨2, ![2048, 2048]⟩ : Shape).Idx → EReal) i)
      ∧ (r.2.mem ((c.tc : Thread nD τ).loc main_v25) = fun i : (⟨2, ![2048, 2048]⟩ : Shape).Idx =>
        (m ((c.tc : Thread nD τ).loc main_arg3) : (⟨2, ![2048, 2048]⟩ : Shape).Idx → EReal) i)
      ∧ (r.2.mem ((c.tc : Thread nD τ).loc main_v26) = fun i : (⟨2, ![2048, 2048]⟩ : Shape).Idx =>
        (m ((c.tc : Thread nD τ).loc main_arg4) : (⟨2, ![2048, 2048]⟩ : Shape).Idx → EReal) i)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) := by
  refine (θ_run defs _ _).mono (fun r h c => ⟨(h c).1.trans (funext fun (i : (⟨2, ![8192, 6144]⟩ : Shape).Idx) => ?_),
    (h c).2.1.trans (funext fun (i : (⟨2, ![2048, 2048]⟩ : Shape).Idx) => ?_),
    (h c).2.2.1.trans (funext fun (i : (⟨2, ![2048, 2048]⟩ : Shape).Idx) => ?_),
    (h c).2.2.2.1.trans (funext fun (i : (⟨2, ![2048, 2048]⟩ : Shape).Idx) => ?_), (h c).2.2.2.2⟩) (Cert.Reference3Ideal.Value.run (F := Ideal) m ρ)
  · obtain ⟨a, b, rfl⟩ : ∃ (a : Fin 8192) (b : Fin 6144), i = ix2 a b := ⟨i 0, i 1, eq_ix2 i⟩
    show _ = gate _ _ a b
    unfold gate proj Cert.Sigmoid.sig
    pointwise
    by_cases h0 : b.val < 2048
    · exact (dif_pos h0).trans (if_pos h0).symm
    · refine (dif_neg h0).trans (Eq.trans ?_ (if_neg h0).symm)
      by_cases h1 : b.val - 2048 < 2048
      · exact dif_pos h1
      · refine (dif_neg h1).trans ?_
        have e : (⟨13376 + (b.val - 2048 - 2048), by omega⟩ : Fin 15424) = ⟨11328 + (b.val - 2048), by omega⟩ :=
          Fin.ext (by show 13376 + (b.val - 2048 - 2048) = 11328 + (b.val - 2048); omega)
        exact congrArg (fun z : Fin 15424 => Cert.Sigmoid.sig (proj (m ((c.tc : Thread nD τ).loc main_arg0)) (m ((c.tc : Thread nD τ).loc main_arg1)) a z)) e
  · rfl
  · rfl
  · rfl

end Cert.GatesSpec
end
-- ==== Proof.GatesTie.lean ====
/- The gates' kernel computes the gates and the three weights: its four result arrays. -/
module

public import proofs.«01_k».proof.Proof.Gen.Kernel3Ideal.Value
public import proofs.«01_k».proof.Proof.GatesState
public import proofs.«01_k».proof.Proof.GatesSpec

@[expose] public section

set_option maxRecDepth 16384

noncomputable section

namespace Cert.Kernel3Ideal.Gates

open Cert.Kernel3Ideal Cert.Kernel3Ideal.Gen Idealize.ShloMosaic Idealize.ShloMosaic.TcCoe Idealize.SL.Sem
open scoped BigOperators

/-- Row `r` of `x` times row `q` of `w`. -/
def dotRow {R Q : ℕ} (x : (⟨2, ![R, 2048]⟩ : Shape).Idx → EReal) (w : (⟨2, ![Q, 2048]⟩ : Shape).Idx → EReal) (r : Fin R)
    (q : Fin Q) : EReal :=
  ∑ k : Fin 2048, x (ix2 r k) * w (ix2 q k)

/-- The gates of a half block at an index: through `x · σ(x)` if the flag is set, else through `σ`. -/
theorem pay1_at (v : BitVec 1) (x : Vec Ideal S512x2048 .bf16) (w : Vec Ideal S1024x2048 .bf16) (r : Fin 512) (q : Fin 1024) :
    k0_pay1 v x w (ix2 r q)
      = if v = 1#1 then dotRow x w r q * Sigmoid.sig (dotRow x w r q) else Sigmoid.sig (dotRow x w r q) := by
  rw [← Sigmoid.half_tanh_bf16]
  unfold dotRow
  pointwise [k0_pay1]
  rfl

/-- Both halves are computed alike. -/
theorem pay6_eq (i : grid0.Coords) (x : Vec Ideal S512x2048 .bf16) (w : Vec Ideal S1024x2048 .bf16) :
    k0_pay6 i x w = k0_pay1 (Scalar.cmpi .slt (BitVec.ofNat 32 (i 0).val) 2#32) x w := rfl

/-- The casts change nothing over exact numbers. -/
theorem cast_at (x : Vec Ideal S1024x2048 .f32) (q : Fin 1024) (k : Fin 2048) : k0_pay2 x (ix2 q k) = x (ix2 q k) := by
  pointwise [k0_pay2]

/-- THE GATES' BLOCK at an index. -/
theorem outV_at (i : grid0.Coords) (x : Vec Ideal S1024x2048 .bf16) (w : Vec Ideal S1024x2048 .bf16) (r : Fin 1024) (q : Fin 1024) :
    outV i x w (ix2 r q) = if Scalar.cmpi .slt (BitVec.ofNat 32 (i 0).val) 2#32 = 1#1 then dotRow x w r q * Sigmoid.sig (dotRow x w r q)
      else Sigmoid.sig (dotRow x w r q) := by
  unfold outV
  refine View.canon_eq_of_allAt _ _ _ ?_ ?_
  · exact View.cover_of_tiled_head _ _ _ (by rfl) _
  · refine View.allAt_cons_unit _ _ _ _ _ ?_ (View.allAt_cons_unit _ _ _ _ _ ?_ (View.allAt_nil _ _)) <;> intro y hy <;>
      have h0 := hy 0 <;> have h1 := hy 1
    · obtain ⟨a, b, rfl⟩ : ∃ (a : Fin 512) (b : Fin 1024), y = ix2 a b := ⟨y 0, y 1, eq_ix2 y⟩
      obtain rfl : q = b := Fin.ext (by simpa using h1)
      have hb : 512 + a.val < 1024 := by omega
      have ea : r = ⟨512 + a.val, hb⟩ := Fin.ext h0
      have e : dotRow (View.ld x (Rect.unit ![512, 0] ![512, 2048] inb_S1024x2048_S512x2048_512_0)) w a q = dotRow x w r q := by
        unfold dotRow
        pointwise
        subst ea
        rfl
      rw [pay1_at, e]
    · obtain ⟨a, b, rfl⟩ : ∃ (a : Fin 512) (b : Fin 1024), y = ix2 a b := ⟨y 0, y 1, eq_ix2 y⟩
      obtain rfl : q = b := Fin.ext (by simpa using h1)
      have hb : a.val < 1024 := by omega
      have ea : r = ⟨a.val, hb⟩ := Fin.ext (by simpa using h0)
      have e : dotRow (View.ld x (Rect.unit ![0, 0] ![512, 2048] inb_S1024x2048_S512x2048_0_0)) w a q = dotRow x w r q := by
        unfold dotRow
        pointwise
        subst ea
        rfl
      rw [pay6_eq, pay1_at, e]

/-- The flag at a grid point: set on the first two column blocks. -/
theorem flag : ∀ t : Fin cfg0.N, (Scalar.cmpi .slt (BitVec.ofNat 32 ((grid0.coords t) 0).val) 2#32 = 1#1) ↔ t.val / 8 < 2 :=
  (by decide +kernel : ∀ t : Fin grid0.N, _)

variable (m : (ℓ : Loc nD τ sig) → Buf (Elt Ideal) ℓ) (c : Dev nD)

/-- The input rows and the weights, as arrays of extended reals. -/
abbrev argH : (⟨2, ![8192, 2048]⟩ : Shape).Idx → EReal := m ((c.tc : Thread nD τ).loc main_arg0)
abbrev argW : (⟨2, ![2048, 15424]⟩ : Shape).Idx → EReal := m ((c.tc : Thread nD τ).loc main_arg1)

/-- The array row and column of a place in point `t`'s block of gates. -/
abbrev rowOf (t : Fin cfg0.N) (a : Fin 1024) : Fin 8192 := ⟨1024 * (t.val % 8) + a.val, by omega⟩
abbrev colOf (t : Fin cfg0.N) (b : Fin 1024) : Fin 6144 := ⟨1024 * (t.val / 8) + b.val, by have : t.val < 48 := t.isLt; omega⟩

/-- The projection at a place of the block. -/
theorem dot_at (t : Fin cfg0.N) (a b : Fin 1024) :
    dotRow (iblk m c 0 t) (k0_pay2 (iblk m c 1 t)) a b
      = GatesSpec.proj (argH m c) (argW m c) (rowOf t a) ⟨wrow t.val + b.val, wrow_lt t _ b.isLt⟩ := by
  refine Finset.sum_congr rfl fun k _ => ?_
  rw [cast_at _ b k, blk_h, blk_w]
  rfl

/-- THE GATES' BLOCK of point `t` is the gates' block. -/
theorem block_at (t : Fin cfg0.N) (a b : Fin 1024) :
    (outsAt0 m c t.val t.isLt).1 (ix2 a b) = GatesSpec.gate (argH m c) (argW m c) (rowOf t a) (colOf t b) := by
  have ht : t.val < 48 := t.isLt
  rw [out_eq, outV_at, dot_at]
  unfold GatesSpec.gate
  by_cases h : t.val / 8 < 2
  · have e : (⟨wrow t.val + b.val, wrow_lt t _ b.isLt⟩ : Fin 15424) = ⟨1088 + (colOf t b).val, by have := (colOf t b).isLt; omega⟩ := Fin.ext (by
      show wrow t.val + b.val = 1088 + (1024 * (t.val / 8) + b.val); unfold wrow; rw [if_pos h]; omega)
    rw [if_pos ((flag t).mpr h), if_pos (by show 1024 * (t.val / 8) + b.val < 2048; omega), e]
  · have e : (⟨wrow t.val + b.val, wrow_lt t _ b.isLt⟩ : Fin 15424) = ⟨11328 + ((colOf t b).val - 2048), by have := (colOf t b).isLt; omega⟩ := Fin.ext (by
      show wrow t.val + b.val = 11328 + (1024 * (t.val / 8) + b.val - 2048); unfold wrow; rw [if_neg h]; omega)
    rw [if_neg (fun q => h ((flag t).mp q)), if_neg (by show ¬ 1024 * (t.val / 8) + b.val < 2048; omega), e]

/-- Where a place of point `t`'s block of gates sits in the array. -/
theorem emb5 (t : Fin cfg0.N) (a b : Fin 1024) : ((cfg0.win 5).blk t).view.emb (ix2 a b) = ix2 (rowOf t a) (colOf t b) := by
  have e : win0_5.index t = ![t.val % 8, t.val / 8] := (idx t).2.2.2.2.2.1
  have e0 := Pipeline.Window.rect_emb_val_off win0_5 t (ix2 a b) 0
  have e1 := Pipeline.Window.rect_emb_val_off win0_5 t (ix2 a b) 1
  rw [e] at e0 e1
  refine (eq_ix2 _).trans (congrArg₂ ix2 (Fin.ext ?_) (Fin.ext ?_))
  · exact e0.trans (by show t.val % 8 * 1024 + a.val = 1024 * (t.val % 8) + a.val; omega)
  · exact e1.trans (by show t.val / 8 * 1024 + b.val = 1024 * (t.val / 8) + b.val; omega)

/-- THE KERNEL's gates. -/
theorem kernel_gates : (dats m 0 c).arrAt 5 cfg0.N = fun i : (⟨2, ![8192, 6144]⟩ : Shape).Idx =>
    GatesSpec.gate (argH m c) (argW m c) (i 0) (i 1) := by
  refine (dats m 0 c).arrAt_eq_of_covers 5 _ (by decide +kernel) fun t _ y => ?_
  blk_simp
  rw [after0_5]
  obtain ⟨a, b, rfl⟩ : ∃ (a b : Fin 1024), y = ix2 a b := ⟨y 0, y 1, eq_ix2 y⟩
  refine (block_at m c t a b).trans ?_
  exact (congrArg (fun i : (⟨2, ![8192, 6144]⟩ : Shape).Idx => GatesSpec.gate (argH m c) (argW m c) (i 0) (i 1)) (emb5 t a b)).symm

/-- The array row of a row of point `t`'s side blocks. -/
abbrev srow (t : Fin cfg0.N) (a : Fin 64) : Fin 2048 := ⟨64 * min t.val 31 + a.val, by omega⟩

/-- Where a place of point `t`'s side blocks sits in the arrays. -/
theorem emb6 (t : Fin cfg0.N) (a : Fin 64) (b : Fin 2048) : ((cfg0.win 6).blk t).view.emb (ix2 a b) = ix2 (srow t a) b := by
  have e : win0_6.index t = ![min t.val 31, 0] := (idx t).2.2.2.2.2.2.1
  have e0 := Pipeline.Window.rect_emb_val_off win0_6 t (ix2 a b) 0
  have e1 := Pipeline.Window.rect_emb_val_off win0_6 t (ix2 a b) 1
  rw [e] at e0 e1
  refine (eq_ix2 _).trans (congrArg₂ ix2 (Fin.ext ?_) (Fin.ext ?_))
  · exact e0.trans (by show min t.val 31 * 64 + a.val = 64 * min t.val 31 + a.val; omega)
  · exact e1.trans (by show 0 * 2048 + b.val = b.val; omega)

theorem emb7 (t : Fin cfg0.N) (a : Fin 64) (b : Fin 2048) : ((cfg0.win 7).blk t).view.emb (ix2 a b) = ix2 (srow t a) b := by
  have e : win0_7.index t = ![min t.val 31, 0] := (idx t).2.2.2.2.2.2.2.1
  have e0 := Pipeline.Window.rect_emb_val_off win0_7 t (ix2 a b) 0
  have e1 := Pipeline.Window.rect_emb_val_off win0_7 t (ix2 a b) 1
  rw [e] at e0 e1
  refine (eq_ix2 _).trans (congrArg₂ ix2 (Fin.ext ?_) (Fin.ext ?_))
  · exact e0.trans (by show min t.val 31 * 64 + a.val = 64 * min t.val 31 + a.val; omega)
  · exact e1.trans (by show 0 * 2048 + b.val = b.val; omega)

theorem emb8 (t : Fin cfg0.N) (a : Fin 64) (b : Fin 2048) : ((cfg0.win 8).blk t).view.emb (ix2 a b) = ix2 (srow t a) b := by
  have e : win0_8.index t = ![min t.val 31, 0] := (idx t).2.2.2.2.2.2.2.2
  have e0 := Pipeline.Window.rect_emb_val_off win0_8 t (ix2 a b) 0
  have e1 := Pipeline.Window.rect_emb_val_off win0_8 t (ix2 a b) 1
  rw [e] at e0 e1
  refine (eq_ix2 _).trans (congrArg₂ ix2 (Fin.ext ?_) (Fin.ext ?_))
  · exact e0.trans (by show min t.val 31 * 64 + a.val = 64 * min t.val 31 + a.val; omega)
  · exact e1.trans (by show 0 * 2048 + b.val = b.val; omega)

/-- THE KERNEL's first side weights are the argument, cast. -/
theorem kernel_side6 : (dats m 0 c).arrAt 6 cfg0.N = fun i : (⟨2, ![2048, 2048]⟩ : Shape).Idx =>
    (m ((c.tc : Thread nD τ).loc main_arg2) : (⟨2, ![2048, 2048]⟩ : Shape).Idx → EReal) i := by
  refine (dats m 0 c).arrAt_eq_of_covers 6 _ (by decide +kernel) fun t _ y => ?_
  blk_simp
  rw [after0_6, (side_eq m c t).1]
  obtain ⟨a, b, rfl⟩ : ∃ (a : Fin 64) (b : Fin 2048), y = ix2 a b := ⟨y 0, y 1, eq_ix2 y⟩
  refine (blk_s2 m c t a b).trans ?_
  exact (congrArg (m ((c.tc : Thread nD τ).loc main_arg2) : (⟨2, ![2048, 2048]⟩ : Shape).Idx → EReal) (emb6 t a b)).symm

/-- THE KERNEL's second side weights are the argument, cast. -/
theorem kernel_side7 : (dats m 0 c).arrAt 7 cfg0.N = fun i : (⟨2, ![2048, 2048]⟩ : Shape).Idx =>
    (m ((c.tc : Thread nD τ).loc main_arg3) : (⟨2, ![2048, 2048]⟩ : Shape).Idx → EReal) i := by
  refine (dats m 0 c).arrAt_eq_of_covers 7 _ (by decide +kernel) fun t _ y => ?_
  blk_simp
  rw [after0_7, (side_eq m c t).2.1]
  obtain ⟨a, b, rfl⟩ : ∃ (a : Fin 64) (b : Fin 2048), y = ix2 a b := ⟨y 0, y 1, eq_ix2 y⟩
  refine (blk_s3 m c t a b).trans ?_
  exact (congrArg (m ((c.tc : Thread nD τ).loc main_arg3) : (⟨2, ![2048, 2048]⟩ : Shape).Idx → EReal) (emb7 t a b)).symm

/-- THE KERNEL's third side weights are the argument, cast. -/
theorem kernel_side8 : (dats m 0 c).arrAt 8 cfg0.N = fun i : (⟨2, ![2048, 2048]⟩ : Shape).Idx =>
    (m ((c.tc : Thread nD τ).loc main_arg4) : (⟨2, ![2048, 2048]⟩ : Shape).Idx → EReal) i := by
  refine (dats m 0 c).arrAt_eq_of_covers 8 _ (by decide +kernel) fun t _ y => ?_
  blk_simp
  rw [after0_8, (side_eq m c t).2.2]
  obtain ⟨a, b, rfl⟩ : ∃ (a : Fin 64) (b : Fin 2048), y = ix2 a b := ⟨y 0, y 1, eq_ix2 y⟩
  refine (blk_s4 m c t a b).trans ?_
  exact (congrArg (m ((c.tc : Thread nD τ).loc main_arg4) : (⟨2, ![2048, 2048]⟩ : Shape).Idx → EReal) (emb8 t a b)).symm

end Cert.Kernel3Ideal.Gates
end
-- ==== Proof.LatSpec.lean ====
/- The latent projections as mathematics — the first norm of x, the low-rank queries, keys and values, their rotation by the
   positions — and the reference program's four results as it. -/
module

public import proofs.«01_k».proof.Proof.Gen.Reference5Ideal.Run
public import Idealize.ShloMosaic.Lib.Pointwise

@[expose] public section

set_option maxRecDepth 16384

noncomputable section

namespace Cert.LatSpec

open Idealize.ShloMosaic Idealize.ShloMosaic.TcCoe Idealize.SL.Sem
open scoped BigOperators

/-- Element `q` of the row `v`, normalised by the root of its mean square (over `n` elements, with the norm's small constant
    under the root), times the gain `g`. -/
def rmsn {N : ℕ} (n : EReal) (v g : Fin N → EReal) (q : Fin N) : EReal :=
  v q * Ideal.rsqrt (Ideal.div (∑ e : Fin N, v e * v e) n + Ideal.ofBits .f32 0x358637BD#32) * g q

/-- The arguments at one position: the row of the residual stream, its position, the gains and the weights. -/
structure Row where
  x : Fin 2048 → EReal
  pos : BitVec 32
  g : Fin 2048 → EReal
  w : Fin 2048 → Fin 15424 → EReal
  gq : Fin 512 → EReal
  wq : Fin 512 → Fin 3072 → EReal
  gkv : Fin 512 → EReal
  wkv : Fin 512 → Fin 4096 → EReal

variable (R : Row)

/-- The first norm. -/
def h (q : Fin 2048) : EReal := rmsn (Ideal.ofBits .f32 0x45000000#32) R.x R.g q

/-- A column of the latent projection. -/
def lat (e : Fin 15424) : EReal := ∑ k : Fin 2048, h R k * R.w k e

/-- The normalised query latent. -/
def qa (j : Fin 512) : EReal := rmsn (Ideal.ofBits .f32 0x44000000#32) (fun j => lat R ⟨j.val, by omega⟩) R.gq j

/-- The normalised key and value latent. -/
def ckv (j : Fin 512) : EReal := rmsn (Ideal.ofBits .f32 0x44000000#32) (fun j => lat R ⟨512 + j.val, by omega⟩) R.gkv j

/-- The divisor of the queries: the logarithm of 2 times the root of 192. -/
def den : EReal := Ideal.log (Ideal.ofBits .f32 0x40000000#32) * Ideal.sqrt (Ideal.ofBits .f32 0x43400000#32)

/-- A query's coordinate, scaled. -/
def qs (e : Fin 3072) : EReal := Ideal.div (∑ j : Fin 512, qa R j * R.wq j e) den

/-- A key's or value's coordinate. -/
def kv (e : Fin 4096) : EReal := ∑ j : Fin 512, ckv R j * R.wkv j e

/-- The angle of the rotation's frequency `f` at the position. -/
def ang (f : ℕ) : EReal := (FloatOps.sitofp (F := Ideal) .f32 R.pos : EReal) * Ideal.pow (Ideal.ofBits .f32 0x461C4000#32)
  (Ideal.div (-(Ideal.ofBits .f32 0x40000000#32 * (FloatOps.sitofp (F := Ideal) .f32 (BitVec.ofNat 32 f) : EReal))) (Ideal.ofBits .f32 0x42800000#32))

/-- Coordinate `d` of the rotated 64 numbers `y`: the halves turned by the angles. -/
def rope (y : Fin 64 → EReal) (d : Fin 64) : EReal :=
  if h : d.val < 32 then y ⟨d.val, by omega⟩ * Ideal.cos (ang R d.val) - y ⟨32 + d.val, by omega⟩ * Ideal.sin (ang R d.val)
  else y ⟨d.val - 32, by omega⟩ * Ideal.sin (ang R (d.val - 32)) + y ⟨32 + (d.val - 32), by omega⟩ * Ideal.cos (ang R (d.val - 32))

/-- Coordinate `d` of head `hd`'s query: plain, then rotated, then zeros. -/
def query (hd : Fin 16) (d : Fin 256) : EReal :=
  if h : d.val < 128 then qs R ⟨hd.val * 192 + d.val, by omega⟩
  else if h' : d.val - 128 < 64 then rope R (fun e => qs R ⟨hd.val * 192 + (128 + e.val), by omega⟩) ⟨d.val - 128, h'⟩ else 0

/-- Coordinate `d` of head `hd`'s key: plain, then the rotated part all heads share, then zeros. -/
def key (hd : Fin 16) (d : Fin 256) : EReal :=
  if h : d.val < 128 then kv R ⟨hd.val * 256 + d.val, by omega⟩
  else if h' : d.val - 128 < 64 then rope R (fun e => lat R ⟨1024 + e.val, by omega⟩) ⟨d.val - 128, h'⟩ else 0

/-- Coordinate `d` of head `hd`'s value; past the 128th, one. -/
def value (hd : Fin 16) (d : Fin 144) : EReal :=
  if h : d.val < 128 then kv R ⟨hd.val * 256 + (128 + d.val), by omega⟩ else 1

end Cert.LatSpec

namespace Cert.Reference5Ideal.Lat

open Cert.Reference5Ideal Cert.Reference5Ideal.Value Idealize.ShloMosaic Idealize.ShloMosaic.TcCoe Idealize.SL.Sem Cert.LatSpec
open scoped BigOperators

variable (m : (ℓ : Loc nD τ sig) → Buf (Elt Ideal) ℓ) (c : Dev nD)

/-- The arguments at position `s`. -/
def row (s : Fin 8192) : Row where
  x k := m ((c.tc : Thread nD τ).loc main_arg0) (ix2 s k)
  pos := m ((c.tc : Thread nD τ).loc main_arg1) (ix1 s)
  g k := m ((c.tc : Thread nD τ).loc main_arg2) (ix1 k)
  w k e := m ((c.tc : Thread nD τ).loc main_arg3) (ix2 k e)
  gq k := m ((c.tc : Thread nD τ).loc main_arg4) (ix1 k)
  wq k e := m ((c.tc : Thread nD τ).loc main_arg5) (ix2 k e)
  gkv k := m ((c.tc : Thread nD τ).loc main_arg6) (ix1 k)
  wkv k e := m ((c.tc : Thread nD τ).loc main_arg7) (ix2 k e)

/-- The reference's values. -/
theorem v_at (hd j : Fin 16) (d : Fin 144) (r : Fin 512) : res_main_v113 m c (ix4 hd j d r)
    = value (row m c ⟨j.val * 512 + r.val, by omega⟩) hd d := by
  unfold value kv ckv rmsn lat h rmsn row
  pointwise [res_main_v113]

/-- The reference's queries. -/
theorem q_at (hd : Fin 16) (d : Fin 256) (s : Fin 8192) : res_main_v111 m c (ix3 hd d s) = query (row m c s) hd d := by
  unfold query rope ang qs qa rmsn lat h rmsn row den
  pointwise [res_main_v111]

/-- The reference's keys. -/
theorem k_at (hd : Fin 16) (s : Fin 8192) (d : Fin 256) : res_main_v112 m c (ix3 hd s d) = key (row m c s) hd d := by
  unfold key rope ang kv ckv rmsn lat h rmsn row
  pointwise [res_main_v112]

/-- THE REFERENCE's run ends with the first norm, the queries, the keys and the values, its arguments unchanged. -/
theorem reference_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      (r.2.mem ((c.tc : Thread nD τ).loc main_v110) = fun i : (⟨2, ![8192, 2048]⟩ : Shape).Idx => h (row m c (i 0)) (i 1))
      ∧ (r.2.mem ((c.tc : Thread nD τ).loc main_v111) = fun i : (⟨3, ![16, 256, 8192]⟩ : Shape).Idx => query (row m c (i 2)) (i 0) (i 1))
      ∧ (r.2.mem ((c.tc : Thread nD τ).loc main_v112) = fun i : (⟨3, ![16, 8192, 256]⟩ : Shape).Idx => key (row m c (i 1)) (i 0) (i 2))
      ∧ (r.2.mem ((c.tc : Thread nD τ).loc main_v113) = fun i : (⟨4, ![16, 16, 144, 512]⟩ : Shape).Idx =>
          value (row m c ⟨(i 1).val * 512 + (i 3).val, by have h1 : (i 1).val < 16 := (i 1).isLt; have h3 : (i 3).val < 512 := (i 3).isLt; omega⟩) (i 0) (i 2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) := by
  refine (θ_run defs _ _).mono (fun r hr c => ⟨(hr c).1.trans (funext fun (i : (⟨2, ![8192, 2048]⟩ : Shape).Idx) => ?_),
    (hr c).2.1.trans (funext fun (i : (⟨3, ![16, 256, 8192]⟩ : Shape).Idx) => ?_),
    (hr c).2.2.1.trans (funext fun (i : (⟨3, ![16, 8192, 256]⟩ : Shape).Idx) => ?_),
    (hr c).2.2.2.1.trans (funext fun (i : (⟨4, ![16, 16, 144, 512]⟩ : Shape).Idx) => ?_), (hr c).2.2.2.2⟩) (Cert.Reference5Ideal.Value.run (F := Ideal) m ρ)
  · obtain ⟨a, b, rfl⟩ : ∃ (a : Fin 8192) (b : Fin 2048), i = ix2 a b := ⟨i 0, i 1, eq_ix2 i⟩
    show _ = h (row m c a) b
    unfold h rmsn row
    pointwise
  · obtain ⟨a, b, d, rfl⟩ : ∃ (a : Fin 16) (b : Fin 256) (d : Fin 8192), i = ix3 a b d := ⟨i 0, i 1, i 2, eq_ix3 i⟩
    exact q_at m c a b d
  · obtain ⟨a, b, d, rfl⟩ : ∃ (a : Fin 16) (b : Fin 8192) (d : Fin 256), i = ix3 a b d := ⟨i 0, i 1, i 2, eq_ix3 i⟩
    exact k_at m c a b d
  · obtain ⟨a, b, d, e, rfl⟩ : ∃ (a : Fin 16) (b : Fin 16) (d : Fin 144) (e : Fin 512), i = ix4 a b d e := ⟨i 0, i 1, i 2, i 3, eq_ix4 i⟩
    exact v_at m c a b d e

end Cert.Reference5Ideal.Lat
end
-- ==== Proof.LatHost.lean ====
/- The arrays the host prepares for the latent call, at every index. -/
module

public import proofs.«01_k».proof.Proof.Gen.Kernel5Ideal.Frame.Runs
public import proofs.«01_k».proof.Proof.LatSpec
public import Idealize.ShloMosaic.Lib.Pipeline.ValueKit
public import Idealize.ShloMosaic.Lib.Pointwise

@[expose] public section

set_option maxRecDepth 16384

noncomputable section

namespace Cert.Kernel5Ideal.Lat

open Cert.Kernel5Ideal Cert.Kernel5Ideal.Gen Idealize.ShloMosaic Idealize.ShloMosaic.TcCoe Idealize.SL.Sem

/-- The angles: one row for each frequency, one column for each position. -/
def angArr (p : IVec S8192 32) : FVec Ideal S32x8192 .f32 :=
  mulf (broadcastInDim S32x8192 ![0, 1] bcast_S32x1_S32x8192_0_1 (broadcastInDim S32x1 ![0] bcast_S32_S32x1_0
    (Host.powf (broadcastInDim S32 ![] bcast_S_S32 (constant (F := Ideal) S_ .f32 0x461C4000#32))
      (Host.divf (Host.negf (addf (broadcastInDim S32 ![] bcast_S_S32 (constant (F := Ideal) S_ .f32 0x00000000#32))
        (mulf (broadcastInDim S32 ![] bcast_S_S32 (constant (F := Ideal) S_ .f32 0x40000000#32)) (sitofp .f32 (iotaInDim S32 32 0)))))
        (broadcastInDim S32 ![] bcast_S_S32 (constant (F := Ideal) S_ .f32 0x42800000#32))))))
    (broadcastInDim S32x8192 ![0, 1] bcast_S1x8192_S32x8192_0_1 (broadcastInDim S1x8192 ![1] bcast_S8192_S1x8192_1 (sitofp .f32 p)))

/-- The cosine rows. -/
def cosArr (p : IVec S8192 32) : FVec Ideal S128x8192 .f32 :=
  concatenate S128x8192 0 [⟨S32x8192, Host.cos (angArr p)⟩, ⟨S32x8192, Host.cos (angArr p)⟩, ⟨S64x8192, broadcastInDim S64x8192 ![] bcast_S_S64x8192 (constant (F := Ideal) S_ .f32 0x00000000#32)⟩]
    concatenates_S32x8192_S32x8192_S64x8192_S128x8192_d0

/-- The sine rows, the first half negated. -/
def sinArr (p : IVec S8192 32) : FVec Ideal S128x8192 .f32 :=
  concatenate S128x8192 0 [⟨S32x8192, Host.negf (Host.sin (angArr p))⟩, ⟨S32x8192, Host.sin (angArr p)⟩, ⟨S64x8192, broadcastInDim S64x8192 ![] bcast_S_S64x8192 (constant (F := Ideal) S_ .f32 0x00000000#32)⟩]
    concatenates_S32x8192_S32x8192_S64x8192_S128x8192_d0

/-- The input weights' first 1088 columns, then the rotated columns again with their halves exchanged. -/
def wlArr (w : FVec Ideal S2048x15424 .f32) : FVec Ideal S2048x1152 .bf16 :=
  truncf .bf16 (concatenate S2048x1152 1 [⟨S2048x1088, extractStridedSlice S2048x1088 ![0, 0] w slices_S2048x15424_S2048x1088_0_0⟩,
    ⟨S2048x32, extractStridedSlice S2048x32 ![0, 1056] w slices_S2048x15424_S2048x32_0_1056⟩,
    ⟨S2048x32, extractStridedSlice S2048x32 ![0, 1024] w slices_S2048x15424_S2048x32_0_1024⟩] concatenates_S2048x1088_S2048x32_S2048x32_S2048x1152_d1) bitsLt_bf16_f32

/-- The queries' weights, head by head, the rotated ones again with their halves exchanged. -/
def wqArr (w : FVec Ideal S512x3072 .f32) : FVec Ideal S4096x512 .bf16 :=
  truncf .bf16 (transpose S4096x512 [1, 0] (shapeCast S512x4096 (concatenate S512x16x256 2 [⟨S512x16x192, shapeCast S512x16x192 w shapeCasts_S512x3072_S512x16x192⟩,
    ⟨S512x16x32, extractStridedSlice S512x16x32 ![0, 0, 160] (shapeCast S512x16x192 w shapeCasts_S512x3072_S512x16x192) slices_S512x16x192_S512x16x32_0_0_160⟩,
    ⟨S512x16x32, extractStridedSlice S512x16x32 ![0, 0, 128] (shapeCast S512x16x192 w shapeCasts_S512x3072_S512x16x192) slices_S512x16x192_S512x16x32_0_0_128⟩]
    concatenates_S512x16x192_S512x16x32_S512x16x32_S512x16x256_d2) shapeCasts_S512x16x256_S512x4096) transposes_S512x4096_S4096x512_1_0) bitsLt_bf16_f32

/-- The keys' weights. -/
def wkArr (w : FVec Ideal S512x4096 .f32) : FVec Ideal S512x2048 .bf16 :=
  truncf .bf16 (shapeCast S512x2048 (extractStridedSlice S512x16x128 ![0, 0, 0] (shapeCast S512x16x256 w shapeCasts_S512x4096_S512x16x256) slices_S512x16x256_S512x16x128_0_0_0)
    shapeCasts_S512x16x128_S512x2048) bitsLt_bf16_f32

/-- The values' weights, a row for each of their columns. -/
def wvArr (w : FVec Ideal S512x4096 .f32) : FVec Ideal S2048x512 .bf16 :=
  truncf .bf16 (transpose S2048x512 [1, 0] (shapeCast S512x2048 (extractStridedSlice S512x16x128 ![0, 0, 128] (shapeCast S512x16x256 w shapeCasts_S512x4096_S512x16x256)
    slices_S512x16x256_S512x16x128_0_0_128) shapeCasts_S512x16x128_S512x2048) transposes_S512x2048_S2048x512_1_0) bitsLt_bf16_f32

open Cert.LatSpec

/-- The cosine row `f` at a position: both halves of the frequencies, then zeros. -/
def cosR (R : Row) (f : ℕ) : EReal := if f < 32 then Ideal.cos (ang R f) else if f - 32 < 32 then Ideal.cos (ang R (f - 32)) else 0

/-- The sine row `f` at a position: the frequencies negated, the frequencies, then zeros. -/
def sinR (R : Row) (f : ℕ) : EReal := if f < 32 then -Ideal.sin (ang R f) else if f - 32 < 32 then Ideal.sin (ang R (f - 32)) else 0

/-- The input column that column `e` of the joined weights repeats. -/
def lcol (e : Fin 1152) : Fin 15424 :=
  if h : e.val < 1088 then ⟨e.val, by omega⟩ else if h' : e.val - 1088 < 32 then ⟨1056 + (e.val - 1088), by omega⟩ else ⟨1024 + (e.val - 1088 - 32), by omega⟩

/-- The queries' column that place `d` of head `hd`'s joined weights repeats. -/
def qcol (hd : Fin 16) (d : Fin 256) : Fin 3072 :=
  if h : d.val < 192 then ⟨hd.val * 192 + d.val, by omega⟩
  else if h' : d.val - 192 < 32 then ⟨hd.val * 192 + (160 + (d.val - 192)), by omega⟩ else ⟨hd.val * 192 + (128 + (d.val - 192 - 32)), by omega⟩

/-- A cosine row's place. -/
theorem cosArr_at (R : Row) (p : IVec S8192 32) (f : Fin 128) (s : Fin 8192) (hp : p (ix1 s) = R.pos) : cosArr p (ix2 f s) = cosR R f.val := by
  unfold cosR ang
  pointwise [cosArr, angArr]
  simp only [hp, mul_comm]
  try rfl

/-- A sine row's place. -/
theorem sinArr_at (R : Row) (p : IVec S8192 32) (f : Fin 128) (s : Fin 8192) (hp : p (ix1 s) = R.pos) : sinArr p (ix2 f s) = sinR R f.val := by
  unfold sinR ang
  pointwise [sinArr, angArr]
  simp only [hp, mul_comm]
  try rfl

/-- The joined input weights. -/
theorem wlArr_at (w : FVec Ideal S2048x15424 .f32) (j : Fin 2048) (e : Fin 1152) : wlArr w (ix2 j e) = w (ix2 j (lcol e)) := by
  pointwise [wlArr]
  unfold lcol
  split_ifs <;> rfl

/-- The joined queries' weights. -/
theorem wqArr_at (w : FVec Ideal S512x3072 .f32) (j : Fin 512) (hd : Fin 16) (d : Fin 256) :
    wqArr w (ix2 ⟨hd.val * 256 + d.val, by omega⟩ j) = w (ix2 j (qcol hd d)) := by
  pointwise [wqArr]
  unfold qcol
  split_ifs <;> rfl

/-- The keys' weights. -/
theorem wkArr_at (w : FVec Ideal S512x4096 .f32) (j : Fin 512) (hd : Fin 16) (d : Fin 128) :
    wkArr w (ix2 j ⟨hd.val * 128 + d.val, by omega⟩) = w (ix2 j ⟨hd.val * 256 + d.val, by omega⟩) := by
  pointwise [wkArr]

/-- The values' weights. -/
theorem wvArr_at (w : FVec Ideal S512x4096 .f32) (j : Fin 512) (hd : Fin 16) (d : Fin 128) :
    wvArr w (ix2 ⟨hd.val * 128 + d.val, by omega⟩ j) = w (ix2 j ⟨hd.val * 256 + (128 + d.val), by omega⟩) := by
  pointwise [wvArr]

variable (m : (ℓ : Loc nD τ sig) → Buf (Elt Ideal) ℓ) (c : Dev nD)

/-- The call's cosine rows. -/
theorem V19 : V m c main_v19 = cosArr (m ((c.tc : Thread nD τ).loc main_arg1)) := by
  unfold cosArr angArr
  unfold_abbrev_sides
  after_results
  rfl

/-- The call's sine rows. -/
theorem V21 : V m c main_v21 = sinArr (m ((c.tc : Thread nD τ).loc main_arg1)) := by
  unfold sinArr angArr
  unfold_abbrev_sides
  after_results
  rfl

/-- The call's input weights. -/
theorem V37 : V m c main_v37 = wlArr (m ((c.tc : Thread nD τ).loc main_arg3)) := by
  unfold wlArr
  unfold_abbrev_sides
  after_results
  rfl

/-- The call's queries' weights. -/
theorem V41 : V m c main_v41 = wqArr (m ((c.tc : Thread nD τ).loc main_arg5)) := by
  unfold wqArr
  unfold_abbrev_sides
  after_results
  rfl

/-- The call's keys' weights. -/
theorem V42 : V m c main_v42 = wkArr (m ((c.tc : Thread nD τ).loc main_arg7)) := by
  unfold wkArr
  unfold_abbrev_sides
  after_results
  rfl

/-- The call's values' weights. -/
theorem V44 : V m c main_v44 = wvArr (m ((c.tc : Thread nD τ).loc main_arg7)) := by
  unfold wvArr
  unfold_abbrev_sides
  after_results
  rfl

/-- The first gain, as one row. -/
theorem V36 : V m c main_v36 = shapeCast S1x2048 (m ((c.tc : Thread nD τ).loc main_arg2)) shapeCasts_S2048_S1x2048 := by
  unfold_abbrev_sides
  after_results
  rfl

/-- The queries' gain, as one row. -/
theorem V38 : V m c main_v38 = shapeCast S1x512 (m ((c.tc : Thread nD τ).loc main_arg4)) shapeCasts_S512_S1x512 := by
  unfold_abbrev_sides
  after_results
  rfl

/-- The keys' and values' gain, as one row. -/
theorem V39 : V m c main_v39 = shapeCast S1x512 (m ((c.tc : Thread nD τ).loc main_arg6)) shapeCasts_S512_S1x512 := by
  unfold_abbrev_sides
  after_results
  rfl

end Cert.Kernel5Ideal.Lat
end
-- ==== Proof.LatOut.lean ====
/- What the latent call's body leaves in its four output blocks, at every index. -/
module

public import proofs.«01_k».proof.Proof.Gen.Kernel5Ideal.Frame
public import Idealize.ShloMosaic.Lib.Pipeline.ValueKit
public import Idealize.ShloMosaic.Lib.Pointwise

@[expose] public section

set_option maxRecDepth 16384

noncomputable section

namespace Cert.Kernel5Ideal.Lat

open Cert.Kernel5Ideal Cert.Kernel5Ideal.Gen Idealize.ShloMosaic Idealize.ShloMosaic.TcCoe Idealize.SL.Sem
open scoped BigOperators

/-- The offsets of a whole read. -/
theorem hz : (![0, 0] : Fin 2 → ℕ) = fun _ => 0 := by decide

variable (c : Dev nD) (i : grid0.Coords) (arg1 : Memref sig .tc .vmem S512x2048 .f32) (harg1 : arg1.IsWhole) (arg2 : Memref sig .tc .vmem S1x2048 .f32) (harg2 : arg2.IsWhole) (arg3 : Memref sig .tc .vmem S2048x1152 .bf16) (harg3 : arg3.IsWhole) (arg4 : Memref sig .tc .vmem S1x512 .f32) (harg4 : arg4.IsWhole) (arg5 : Memref sig .tc .vmem S1x512 .f32) (harg5 : arg5.IsWhole) (arg6 : Memref sig .tc .vmem S4096x512 .bf16) (harg6 : arg6.IsWhole) (arg7 : Memref sig .tc .vmem S512x2048 .bf16) (harg7 : arg7.IsWhole) (arg8 : Memref sig .tc .vmem S2048x512 .bf16) (harg8 : arg8.IsWhole) (arg9 : Memref sig .tc .vmem S128x512 .f32) (harg9 : arg9.IsWhole) (arg10 : Memref sig .tc .vmem S128x512 .f32) (harg10 : arg10.IsWhole) (arg11 : Memref sig .tc .vmem S512x2048 .bf16) (harg11 : arg11.IsWhole) (arg12 : Memref sig .tc .vmem S16x256x512 .bf16) (harg12 : arg12.IsWhole) (arg13 : Memref sig .tc .vmem S16x512x256 .bf16) (harg13 : arg13.IsWhole) (arg14 : Memref sig .tc .vmem S16x1x144x512 .bf16) (harg14 : arg14.IsWhole)
  (x0 : Vec Ideal S512x2048 .f32) (x1 : Vec Ideal S1x2048 .f32) (x2 : Vec Ideal S2048x1152 .bf16) (x3 : Vec Ideal S1x512 .f32) (x4 : Vec Ideal S1x512 .f32) (x5 : Vec Ideal S4096x512 .bf16) (x6 : Vec Ideal S512x2048 .bf16) (x7 : Vec Ideal S2048x512 .bf16) (x8 : Vec Ideal S128x512 .f32) (x9 : Vec Ideal S128x512 .f32)

/-- Row `e` of the queries' weights against the norm's row `r`, times the named scale. -/
def qk (A : FVec Ideal S512x512 .bf16) (w : Vec Ideal S4096x512 .bf16) (e : Fin 4096) (r : Fin 512) : EReal :=
  (∑ j : Fin 512, w (ix2 e j) * A (ix2 r j)) * (Named.named (F := Ideal) κ "q_scale" 0x3DD53B95#32 : Ideal .f32)

/-- A place of the queries' block: a plain row, or a row of the rotated rows. -/
def outQ (A : FVec Ideal S512x512 .bf16) (w : Vec Ideal S4096x512 .bf16) (cs sn : Vec Ideal S128x512 .f32) (hd : Fin 16) (d : Fin 256) (r : Fin 512) : EReal :=
  if h : d.val < 128 then qk A w ⟨hd.val * 256 + d.val, by omega⟩ r
  else qk A w ⟨hd.val * 256 + 128 + (d.val - 128), by omega⟩ r * cs (ix2 ⟨d.val - 128, by omega⟩ r)
    + (if h' : d.val - 128 < 64 then qk A w ⟨hd.val * 256 + 128 + 64 + (d.val - 128), by omega⟩ r
        else qk A w ⟨hd.val * 256 + 128 + (d.val - 128 - 64), by omega⟩ r) * sn (ix2 ⟨d.val - 128, by omega⟩ r)

set_option maxHeartbeats 4000000 in
/-- The queries' block. -/
theorem out_q (hd : Fin 16) (d : Fin 256) (r : Fin 512) :
    out0_A_11 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 (ix3 hd d r) = outQ (k0_pay4 x0 x1 x2 x3) x5 x8 x9 hd d r := by
  unfold out0_A_11
  rw [View.read_writes_eq_canon _ _ _ (cover0_A_11 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9)]
  refine View.canon_eq_of_allAt _ _ _ (cover0_A_11 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 _) ?_
  unfold kernelRun0_A
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, View.ld_unit_zero (S := S512x2048) hz, View.ld_unit_zero (S := S1x2048) hz, View.ld_unit_zero (S := S2048x1152) hz, View.ld_unit_zero (S := S1x512) hz, View.ld_unit_zero (S := S128x512) hz]
  generalize k0_pay4 x0 x1 x2 x3 = A
  rcases hd with ⟨hd, hhd⟩
  rcases d with ⟨d, hd'⟩
  rcases r with ⟨r, hr⟩
  repeat (refine View.allAt_cons_unit _ _ _ _ _ ?_ ?_; swap)
  · exact View.allAt_nil _ _
  all_goals
    intro x hx
    have h0 : hd = _ := hx 0
    have h1 : d = _ := hx 1
    have h2 : r = _ := hx 2
    obtain ⟨a, b, e, rfl⟩ : ∃ (a : Fin 1) (b : Fin 128) (e : Fin 512), x = ix3 a b e := ⟨x 0, x 1, x 2, eq_ix3 x⟩
    obtain rfl : a = 0 := Subsingleton.elim _ _
    clear hx
    dsimp only [Matrix.cons_val, ix3] at h0 h1 h2
    subst h0 h1 h2
    unfold outQ qk
    first | rw [dif_pos (by show _ + _ < 128; omega)] | rw [dif_neg (by show ¬ _ + _ < 128; omega)]
    simp only [Fin.val_zero, Nat.add_zero, Nat.zero_add, Nat.reduceMul, Nat.reduceAdd, ← Nat.add_assoc, Nat.add_sub_cancel_left]
    pointwise [k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124]
    try simp only [Nat.zero_add, Nat.reduceMul, Nat.reduceAdd, ← Nat.add_assoc, Nat.add_sub_cancel_left]
    try rfl

/-- The first norm's block. -/
theorem out_h : out0_A_10 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 = k0_pay2 x0 x1 := by
  unfold out0_A_10
  rw [View.read_writes_eq_canon _ _ _ (cover0_A_10 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9)]
  unfold kernelRun0_A
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, View.ld_unit_zero (S := S512x2048) hz, View.ld_unit_zero (S := S1x2048) hz, View.ld_unit_zero (S := S2048x1152) hz, View.ld_unit_zero (S := S1x512) hz, View.ld_unit_zero (S := S128x512) hz]
  rw [View.canon_unit_zero (S := S512x2048) hz]

end Cert.Kernel5Ideal.Lat
end
-- ==== Proof.LatKeys.lean ====
/- What the latent call's body leaves in its keys' and values' blocks, at every index. -/
module

public import proofs.«01_k».proof.Proof.LatOut
public import Idealize.ShloMosaic.Lib.Pipeline.ValueKit
public import Idealize.ShloMosaic.Lib.Pointwise

@[expose] public section

set_option maxRecDepth 16384

noncomputable section

namespace Cert.Kernel5Ideal.Lat

open Cert.Kernel5Ideal Cert.Kernel5Ideal.Gen Idealize.ShloMosaic Idealize.ShloMosaic.TcCoe Idealize.SL.Sem
open scoped BigOperators

variable (c : Dev nD) (i : grid0.Coords) (arg1 : Memref sig .tc .vmem S512x2048 .f32) (harg1 : arg1.IsWhole) (arg2 : Memref sig .tc .vmem S1x2048 .f32) (harg2 : arg2.IsWhole) (arg3 : Memref sig .tc .vmem S2048x1152 .bf16) (harg3 : arg3.IsWhole) (arg4 : Memref sig .tc .vmem S1x512 .f32) (harg4 : arg4.IsWhole) (arg5 : Memref sig .tc .vmem S1x512 .f32) (harg5 : arg5.IsWhole) (arg6 : Memref sig .tc .vmem S4096x512 .bf16) (harg6 : arg6.IsWhole) (arg7 : Memref sig .tc .vmem S512x2048 .bf16) (harg7 : arg7.IsWhole) (arg8 : Memref sig .tc .vmem S2048x512 .bf16) (harg8 : arg8.IsWhole) (arg9 : Memref sig .tc .vmem S128x512 .f32) (harg9 : arg9.IsWhole) (arg10 : Memref sig .tc .vmem S128x512 .f32) (harg10 : arg10.IsWhole) (arg11 : Memref sig .tc .vmem S512x2048 .bf16) (harg11 : arg11.IsWhole) (arg12 : Memref sig .tc .vmem S16x256x512 .bf16) (harg12 : arg12.IsWhole) (arg13 : Memref sig .tc .vmem S16x512x256 .bf16) (harg13 : arg13.IsWhole) (arg14 : Memref sig .tc .vmem S16x1x144x512 .bf16) (harg14 : arg14.IsWhole)
  (x0 : Vec Ideal S512x2048 .f32) (x1 : Vec Ideal S1x2048 .f32) (x2 : Vec Ideal S2048x1152 .bf16) (x3 : Vec Ideal S1x512 .f32) (x4 : Vec Ideal S1x512 .f32) (x5 : Vec Ideal S4096x512 .bf16) (x6 : Vec Ideal S512x2048 .bf16) (x7 : Vec Ideal S2048x512 .bf16) (x8 : Vec Ideal S128x512 .f32) (x9 : Vec Ideal S128x512 .f32)

/-- A place of the keys' block: a product with the latent row, or the shared rotated part. -/
def outK (C : FVec Ideal S512x512 .bf16) (kr : FVec Ideal S512x128 .bf16) (w : Vec Ideal S512x2048 .bf16) (hd : Fin 16) (r : Fin 512) (d : Fin 256) : EReal :=
  if h : d.val < 128 then ∑ j : Fin 512, C (ix2 r j) * w (ix2 j ⟨hd.val * 128 + d.val, by omega⟩) else kr (ix2 r ⟨d.val - 128, by omega⟩)

/-- A place of the values' block: a product with the latent row, or one. -/
def outV (C : FVec Ideal S512x512 .bf16) (w : Vec Ideal S2048x512 .bf16) (hd : Fin 16) (d : Fin 144) (r : Fin 512) : EReal :=
  if h : d.val < 128 then ∑ j : Fin 512, w (ix2 ⟨hd.val * 128 + d.val, by omega⟩ j) * C (ix2 r j) else 1

set_option maxHeartbeats 4000000 in
/-- The keys' block. -/
theorem out_k (hd : Fin 16) (r : Fin 512) (d : Fin 256) :
    out0_A_12 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 (ix3 hd r d)
      = outK (k0_pay7 (k0_pay5 x0 x1 x2) (k0_pay6 x4)) (k0_pay10 (k0_pay3 x0 x1 x2) x8 x9) x6 hd r d := by
  unfold out0_A_12
  rw [View.read_writes_eq_canon _ _ _ (cover0_A_12 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9)]
  refine View.canon_eq_of_allAt _ _ _ (cover0_A_12 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 _) ?_
  unfold kernelRun0_A
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, View.ld_unit_zero (S := S512x2048) hz, View.ld_unit_zero (S := S1x2048) hz, View.ld_unit_zero (S := S2048x1152) hz, View.ld_unit_zero (S := S1x512) hz, View.ld_unit_zero (S := S128x512) hz]
  generalize k0_pay10 (k0_pay3 x0 x1 x2) x8 x9 = A
  generalize k0_pay5 x0 x1 x2 = B
  generalize k0_pay6 x4 = D
  rcases hd with ⟨hd, hhd⟩
  rcases d with ⟨d, hd'⟩
  rcases r with ⟨r, hr⟩
  repeat (refine View.allAt_cons_unit _ _ _ _ _ ?_ ?_; swap)
  · exact View.allAt_nil _ _
  all_goals
    intro x hx
    have h0 : hd = _ := hx 0
    have h1 : r = _ := hx 1
    have h2 : d = _ := hx 2
    obtain ⟨a, b, e, rfl⟩ : ∃ (a : Fin 1) (b : Fin 512) (e : Fin 128), x = ix3 a b e := ⟨x 0, x 1, x 2, eq_ix3 x⟩
    obtain rfl : a = 0 := Subsingleton.elim _ _
    clear hx
    dsimp only [Matrix.cons_val, ix3] at h0 h1 h2
    subst h0 h1 h2
    unfold outK
    first | rw [dif_pos (by show _ + _ < 128; omega)] | rw [dif_neg (by show ¬ _ + _ < 128; omega)]
    simp only [Fin.val_zero, Nat.add_zero, Nat.zero_add, Nat.reduceMul, Nat.reduceAdd, ← Nat.add_assoc, Nat.add_sub_cancel_left]
    pointwise [k0_pay8, k0_pay9, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124]
    try simp only [Nat.zero_add, Nat.reduceMul, Nat.reduceAdd, ← Nat.add_assoc, Nat.add_sub_cancel_left]
    try rfl

set_option maxHeartbeats 4000000 in
/-- The values' block. -/
theorem out_v (hd : Fin 16) (d : Fin 144) (r : Fin 512) :
    out0_A_13 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 (ix4 hd (0 : Fin 1) d r)
      = outV (k0_pay7 (k0_pay5 x0 x1 x2) (k0_pay6 x4)) x7 hd d r := by
  unfold out0_A_13
  rw [View.read_writes_eq_canon _ _ _ (cover0_A_13 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9)]
  refine View.canon_eq_of_allAt _ _ _ (cover0_A_13 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 _) ?_
  unfold kernelRun0_A
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, View.ld_unit_zero (S := S512x2048) hz, View.ld_unit_zero (S := S1x2048) hz, View.ld_unit_zero (S := S2048x1152) hz, View.ld_unit_zero (S := S1x512) hz, View.ld_unit_zero (S := S128x512) hz]
  generalize k0_pay5 x0 x1 x2 = B
  generalize k0_pay6 x4 = D
  rcases hd with ⟨hd, hhd⟩
  rcases d with ⟨d, hd'⟩
  rcases r with ⟨r, hr⟩
  repeat (refine View.allAt_cons_unit _ _ _ _ _ ?_ ?_; swap)
  · exact View.allAt_nil _ _
  all_goals
    intro x hx
    have h0 : hd = _ := hx 0
    have h1 : d = _ := hx 2
    have h2 : r = _ := hx 3
    first
    | obtain ⟨a, f, b, e, rfl⟩ : ∃ (a : Fin 1) (f : Fin 1) (b : Fin 128) (e : Fin 512), x = ix4 a f b e := ⟨x 0, x 1, x 2, x 3, eq_ix4 x⟩
    | obtain ⟨a, f, b, e, rfl⟩ : ∃ (a : Fin 1) (f : Fin 1) (b : Fin 16) (e : Fin 512), x = ix4 a f b e := ⟨x 0, x 1, x 2, x 3, eq_ix4 x⟩
    obtain rfl : a = 0 := Subsingleton.elim _ _
    obtain rfl : f = 0 := Subsingleton.elim _ _
    clear hx
    dsimp only [Matrix.cons_val, ix4] at h0 h1 h2
    subst h0 h1 h2
    unfold outV
    first | rw [dif_pos (by show _ + _ < 128; omega)] | rw [dif_neg (by show ¬ _ + _ < 128; omega)]
    try simp only [Fin.val_zero, Nat.add_zero, Nat.zero_add, Nat.reduceMul, Nat.reduceAdd, ← Nat.add_assoc, Nat.add_sub_cancel_left]
    pointwise [k0_pay8, k0_pay9, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124]
    try simp only [Nat.zero_add, Nat.reduceMul, Nat.reduceAdd, ← Nat.add_assoc, Nat.add_sub_cancel_left]
    try rfl

end Cert.Kernel5Ideal.Lat
end
-- ==== Proof.LatPay.lean ====
/- The latent call's block arithmetic is the latent projections' mathematics, row by row. -/
module

public import proofs.«01_k».proof.Proof.LatHost
public import proofs.«01_k».proof.Proof.LatKeys
public import proofs.«01_k».proof.Proof.AttnTie

@[expose] public section

set_option maxRecDepth 16384

noncomputable section

namespace Cert.Kernel5Ideal.Lat

open Cert.Kernel5Ideal Cert.Kernel5Ideal.Gen Idealize.ShloMosaic Idealize.ShloMosaic.TcCoe Idealize.SL.Sem
open Cert.LatSpec
open scoped BigOperators

/-- A number times the named scale is the number over the queries' divisor. -/
theorem scale_eq (x : EReal) : x * (Named.named (F := Ideal) κ "q_scale" 0x3DD53B95#32 : Ideal .f32) = Ideal.div x den := by
  rw [IdealRules.named_const.ideal_named_scalar κ "q_scale" _ ((((Real.log 2) * (Real.sqrt 192))⁻¹ : ℝ) : EReal) rfl,
    show den = ((Real.log 2 * √192 : ℝ) : EReal) from Cert.Kernel4Ideal.Attn.den_eq,
    Ideal.div_coe (mul_ne_zero (Real.log_pos (by norm_num)).ne' (Real.sqrt_pos.mpr (by norm_num)).ne'), one_div]

/-- A grid point's input blocks hold the arguments of the rows `R`. -/
structure Blk (R : Fin 512 → Row) (x0 : Vec Ideal S512x2048 .f32) (x1 : Vec Ideal S1x2048 .f32) (x2 : Vec Ideal S2048x1152 .bf16)
    (x3 x4 : Vec Ideal S1x512 .f32) (x5 : Vec Ideal S4096x512 .bf16) (x6 : Vec Ideal S512x2048 .bf16) (x7 : Vec Ideal S2048x512 .bf16)
    (x8 x9 : Vec Ideal S128x512 .f32) : Prop where
  hx : ∀ r k, x0 (ix2 r k) = (R r).x k
  hg : ∀ r k, x1 (ix2 0 k) = (R r).g k
  hw : ∀ r j e, x2 (ix2 j e) = (R r).w j (lcol e)
  hgq : ∀ r k, x3 (ix2 0 k) = (R r).gq k
  hgk : ∀ r k, x4 (ix2 0 k) = (R r).gkv k
  hq : ∀ r j (hd : Fin 16) (d : Fin 256), x5 (ix2 ⟨hd.val * 256 + d.val, by omega⟩ j) = (R r).wq j (qcol hd d)
  hk : ∀ r j (hd : Fin 16) (d : Fin 128), x6 (ix2 j ⟨hd.val * 128 + d.val, by omega⟩) = (R r).wkv j ⟨hd.val * 256 + d.val, by omega⟩
  hv : ∀ r j (hd : Fin 16) (d : Fin 128), x7 (ix2 ⟨hd.val * 128 + d.val, by omega⟩ j) = (R r).wkv j ⟨hd.val * 256 + (128 + d.val), by omega⟩
  hc : ∀ (f : Fin 128) r, x8 (ix2 f r) = cosR (R r) f.val
  hs : ∀ (f : Fin 128) r, x9 (ix2 f r) = sinR (R r) f.val

variable {R : Fin 512 → Row} {x0 : Vec Ideal S512x2048 .f32} {x1 : Vec Ideal S1x2048 .f32} {x2 : Vec Ideal S2048x1152 .bf16}
  {x3 x4 : Vec Ideal S1x512 .f32} {x5 : Vec Ideal S4096x512 .bf16} {x6 : Vec Ideal S512x2048 .bf16} {x7 : Vec Ideal S2048x512 .bf16}
  {x8 x9 : Vec Ideal S128x512 .f32} (H : Blk R x0 x1 x2 x3 x4 x5 x6 x7 x8 x9)

include H

/-- The first norm. -/
theorem pay2_at (r : Fin 512) (q : Fin 2048) : k0_pay2 x0 x1 (ix2 r q) = h (R r) q := by
  unfold h rmsn
  pointwise [k0_pay2]
  simp only [H.hx, H.hg r]

/-- The joined latent projection. -/
theorem pay3_at (r : Fin 512) (e : Fin 1152) : k0_pay3 x0 x1 x2 (ix2 r e) = lat (R r) (lcol e) := by
  unfold lat
  pointwise [k0_pay3]
  simp only [pay2_at H, H.hw r]

/-- The normalised query latent. -/
theorem pay4_at (r : Fin 512) (j : Fin 512) : k0_pay4 x0 x1 x2 x3 (ix2 r j) = qa (R r) j := by
  have e : ∀ j : Fin 512, lcol ⟨j.val, by omega⟩ = ⟨j.val, by omega⟩ := fun j => by unfold lcol; rw [dif_pos (by show j.val < 1088; omega)]
  unfold qa rmsn
  pointwise [k0_pay4]
  simp only [pay3_at H, H.hgq r, e]

/-- The normalised key and value latent. -/
theorem pay7_at (r : Fin 512) (j : Fin 512) : k0_pay7 (k0_pay5 x0 x1 x2) (k0_pay6 x4) (ix2 r j) = ckv (R r) j := by
  have e : ∀ j : Fin 512, lcol ⟨512 + j.val, by omega⟩ = ⟨512 + j.val, by omega⟩ := fun j => by unfold lcol; rw [dif_pos (by show 512 + j.val < 1088; omega)]
  unfold ckv rmsn
  pointwise [k0_pay7, k0_pay5, k0_pay6]
  simp only [pay3_at H, H.hgk r, e]

/-- A place of the queries' product. -/
theorem qk_at (hd : Fin 16) (d : Fin 256) (r : Fin 512) :
    qk (k0_pay4 x0 x1 x2 x3) x5 ⟨hd.val * 256 + d.val, by omega⟩ r = qs (R r) (qcol hd d) := by
  unfold qk qs
  rw [scale_eq]
  simp only [pay4_at H, H.hq r]
  exact congrArg (fun z => Ideal.div z den) (Finset.sum_congr rfl fun j _ => mul_comm _ _)

/-- The queries' block is the queries. -/
theorem outQ_eq (hd : Fin 16) (d : Fin 256) (r : Fin 512) : outQ (k0_pay4 x0 x1 x2 x3) x5 x8 x9 hd d r = query (R r) hd d := by
  have q0 : ∀ (e : Fin 4096) (d' : Fin 256), e.val = hd.val * 256 + d'.val → qk (k0_pay4 x0 x1 x2 x3) x5 e r = qs (R r) (qcol hd d') := by
    intro e d' he
    rw [← qk_at H]
    exact congrArg (fun e => qk (k0_pay4 x0 x1 x2 x3) x5 e r) (Fin.ext he)
  unfold outQ query rope
  by_cases h1 : d.val < 128
  · rw [dif_pos h1, dif_pos h1, q0 _ d rfl]
    unfold qcol
    rw [dif_pos (by omega)]
  rw [dif_neg h1, dif_neg h1, q0 _ d (by show hd.val * 256 + 128 + (d.val - 128) = _; omega), H.hc, H.hs]
  by_cases h2 : d.val - 128 < 64
  · rw [dif_pos h2, dif_pos h2, q0 _ ⟨64 + d.val, by omega⟩ (by show hd.val * 256 + 128 + 64 + (d.val - 128) = hd.val * 256 + (64 + d.val); omega)]
    unfold cosR sinR qcol
    rw [dif_pos (show d.val < 192 by omega), dif_neg (show ¬ 64 + d.val < 192 by omega)]
    by_cases h3 : d.val - 128 < 32
    · simp only [h3, if_true, dif_pos, dif_pos (show 64 + d.val - 192 < 32 by omega), mul_neg, ← sub_eq_add_neg]
      congr 4 <;> omega
    · simp only [h3, if_false, dif_neg, dif_neg (show ¬ 64 + d.val - 192 < 32 by omega), if_pos (show d.val - 128 - 32 < 32 by omega), not_false_eq_true]
      rw [add_comm]
      congr 4 <;> omega
  · rw [dif_neg h2, dif_neg h2]
    unfold cosR sinR
    rw [if_neg (by show ¬ d.val - 128 < 32; omega), if_neg (by show ¬ d.val - 128 - 32 < 32; omega),
      if_neg (by show ¬ d.val - 128 < 32; omega), if_neg (by show ¬ d.val - 128 - 32 < 32; omega), mul_zero, mul_zero, add_zero]

/-- The keys' shared rotated part, from the joined projection. -/
theorem pay10_at (r : Fin 512) (f : Fin 128) : k0_pay10 (k0_pay3 x0 x1 x2) x8 x9 (ix2 r f)
    = if h' : f.val < 64 then rope (R r) (fun e => lat (R r) ⟨1024 + e.val, by omega⟩) ⟨f.val, h'⟩ else 0 := by
  pointwise [k0_pay10, k0_pay8, k0_pay9]
  rw [pay3_at H, pay3_at H, H.hc, H.hs]
  unfold rope cosR sinR
  by_cases h2 : f.val < 64
  · rw [dif_pos h2]
    have e1 : lcol ⟨1024 + f.val, by omega⟩ = ⟨1024 + f.val, by omega⟩ := by unfold lcol; rw [dif_pos (show 1024 + f.val < 1088 by omega)]
    by_cases h3 : f.val < 32
    · have e2 : lcol ⟨1024 + (f.val + 128 - 64) % 128, by omega⟩ = ⟨1024 + (32 + f.val), by omega⟩ := by
        unfold lcol
        rw [dif_neg (show ¬ 1024 + (f.val + 128 - 64) % 128 < 1088 by omega), dif_pos (show 1024 + (f.val + 128 - 64) % 128 - 1088 < 32 by omega)]
        exact Fin.ext (by show 1056 + (1024 + (f.val + 128 - 64) % 128 - 1088) = 1024 + (32 + f.val); omega)
      rw [e1, e2, if_pos h3, if_pos h3, dif_pos (show (⟨f.val, h2⟩ : Fin 64).val < 32 from h3), mul_neg, ← sub_eq_add_neg]
    · have e2 : lcol ⟨1024 + (f.val + 128 - 64) % 128, by omega⟩ = ⟨1024 + (f.val - 32), by omega⟩ := by
        unfold lcol
        rw [dif_neg (show ¬ 1024 + (f.val + 128 - 64) % 128 < 1088 by omega), dif_neg (show ¬ 1024 + (f.val + 128 - 64) % 128 - 1088 < 32 by omega)]
        exact Fin.ext (by show 1024 + (1024 + (f.val + 128 - 64) % 128 - 1088 - 32) = 1024 + (f.val - 32); omega)
      have e3 : (⟨1024 + f.val, by omega⟩ : Fin 15424) = ⟨1024 + (32 + (f.val - 32)), by omega⟩ :=
        Fin.ext (by show 1024 + f.val = 1024 + (32 + (f.val - 32)); omega)
      rw [e1, e2, e3, if_neg h3, if_neg h3, if_pos (show f.val - 32 < 32 by omega), if_pos (show f.val - 32 < 32 by omega),
        dif_neg (show ¬ (⟨f.val, h2⟩ : Fin 64).val < 32 from h3), add_comm]
  · rw [dif_neg h2, if_neg (by omega), if_neg (by omega), if_neg (by omega), if_neg (by omega), mul_zero, mul_zero, add_zero]

/-- The keys' block is the keys. -/
theorem outK_eq (hd : Fin 16) (r : Fin 512) (d : Fin 256) :
    outK (k0_pay7 (k0_pay5 x0 x1 x2) (k0_pay6 x4)) (k0_pay10 (k0_pay3 x0 x1 x2) x8 x9) x6 hd r d = key (R r) hd d := by
  unfold outK key kv
  by_cases h1 : d.val < 128
  · rw [dif_pos h1, dif_pos h1]
    exact Finset.sum_congr rfl fun j _ => congrArg₂ (· * ·) (pay7_at H r j) (H.hk r j hd ⟨d.val, h1⟩)
  · rw [dif_neg h1, dif_neg h1, pay10_at H]

/-- The values' block is the values. -/
theorem outV_eq (hd : Fin 16) (d : Fin 144) (r : Fin 512) : outV (k0_pay7 (k0_pay5 x0 x1 x2) (k0_pay6 x4)) x7 hd d r = value (R r) hd d := by
  unfold outV value kv
  by_cases h1 : d.val < 128
  · rw [dif_pos h1, dif_pos h1]
    exact Finset.sum_congr rfl fun j _ => (congrArg₂ (· * ·) (H.hv r j hd ⟨d.val, h1⟩) (pay7_at H r j)).trans (mul_comm _ _)
  · rw [dif_neg h1, dif_neg h1]

end Cert.Kernel5Ideal.Lat
end
-- ==== Proof.LatTie.lean ====
/- The latent call's kernel computes the latent projections: its four result arrays at every index. -/
module

public import proofs.«01_k».proof.Proof.Gen.Kernel5Ideal.Value
public import proofs.«01_k».proof.Proof.Gen.Kernel5.Frame
public import proofs.«01_k».proof.Proof.LatPay

@[expose] public section

set_option maxRecDepth 16384

noncomputable section

namespace Cert.Kernel5Ideal.Lat

open Cert.Kernel5Ideal Cert.Kernel5Ideal.Gen Idealize.ShloMosaic Idealize.ShloMosaic.TcCoe Idealize.SL.Sem
open Cert.LatSpec
open scoped BigOperators

/-- The block indices of the windows at point `t`: row block `t`, the gains and weights whole, column block `t` of the rotation rows;
    row block `t` of the first norm, the queries, the keys and the values. -/
theorem idx : ∀ t : Fin cfg0.N, win0_0.index t = ![t.val, 0] ∧ win0_1.index t = ![0, 0] ∧ win0_2.index t = ![0, 0]
    ∧ win0_3.index t = ![0, 0] ∧ win0_4.index t = ![0, 0] ∧ win0_5.index t = ![0, 0] ∧ win0_6.index t = ![0, 0]
    ∧ win0_7.index t = ![0, 0] ∧ win0_8.index t = ![0, t.val] ∧ win0_9.index t = ![0, t.val] ∧ win0_10.index t = ![t.val, 0]
    ∧ win0_11.index t = ![0, 0, t.val] ∧ win0_12.index t = ![0, t.val, 0] ∧ win0_13.index t = ![0, t.val, 0, 0] :=
  (by decide +kernel : ∀ t : Fin grid0.N, _)

variable (m : (ℓ : Loc nD τ sig) → Buf (Elt Ideal) ℓ) (c : Dev nD)

/-- The arguments at position `s`. -/
def row (s : Fin 8192) : Row where
  x k := m ((c.tc : Thread nD τ).loc main_arg0) (ix2 s k)
  pos := m ((c.tc : Thread nD τ).loc main_arg1) (ix1 s)
  g k := m ((c.tc : Thread nD τ).loc main_arg2) (ix1 k)
  w k e := m ((c.tc : Thread nD τ).loc main_arg3) (ix2 k e)
  gq k := m ((c.tc : Thread nD τ).loc main_arg4) (ix1 k)
  wq k e := m ((c.tc : Thread nD τ).loc main_arg5) (ix2 k e)
  gkv k := m ((c.tc : Thread nD τ).loc main_arg6) (ix1 k)
  wkv k e := m ((c.tc : Thread nD τ).loc main_arg7) (ix2 k e)

/-- The array row of a row of point `t`'s block. -/
abbrev rowOf (t : Fin cfg0.N) (a : Fin 512) : Fin 8192 := ⟨t.val * 512 + a.val, by have : t.val < 16 := t.isLt; omega⟩

/-- The layer's input: row block `t`. -/
theorem blk0 (t : Fin cfg0.N) (a : Fin 512) (b : Fin 2048) :
    iblk m c 0 t (ix2 a b) = m ((c.tc : Thread nD τ).loc main_arg0) (ix2 (rowOf t a) b) := by
  blk_ext [iblk, V_main_arg0 m c, (idx t).1]

/-- The first gain. -/
theorem blk1 (t : Fin cfg0.N) (b : Fin 2048) : iblk m c 1 t (ix2 (0 : Fin 1) b) = m ((c.tc : Thread nD τ).loc main_arg2) (ix1 b) := by
  have e : iblk m c 1 t = V m c main_v36 := by
    refine funext fun (y : S1x2048.Idx) => ?_
    blk_ext [iblk, (idx t).2.1]
  rw [e, V36]
  pointwise

/-- The joined input weights. -/
theorem blk2 (t : Fin cfg0.N) : iblk m c 2 t = V m c main_v37 := by
  refine funext fun (y : S2048x1152.Idx) => ?_
  blk_ext [iblk, (idx t).2.2.1]

/-- The queries' gain. -/
theorem blk3 (t : Fin cfg0.N) (b : Fin 512) : iblk m c 3 t (ix2 (0 : Fin 1) b) = m ((c.tc : Thread nD τ).loc main_arg4) (ix1 b) := by
  have e : iblk m c 3 t = V m c main_v38 := by
    refine funext fun (y : S1x512.Idx) => ?_
    blk_ext [iblk, (idx t).2.2.2.1]
  rw [e, V38]
  pointwise

/-- The keys' and values' gain. -/
theorem blk4 (t : Fin cfg0.N) (b : Fin 512) : iblk m c 4 t (ix2 (0 : Fin 1) b) = m ((c.tc : Thread nD τ).loc main_arg6) (ix1 b) := by
  have e : iblk m c 4 t = V m c main_v39 := by
    refine funext fun (y : S1x512.Idx) => ?_
    blk_ext [iblk, (idx t).2.2.2.2.1]
  rw [e, V39]
  pointwise

/-- The queries' weights. -/
theorem blk5 (t : Fin cfg0.N) : iblk m c 5 t = V m c main_v41 := by
  refine funext fun (y : S4096x512.Idx) => ?_
  blk_ext [iblk, (idx t).2.2.2.2.2.1]

/-- The keys' weights. -/
theorem blk6 (t : Fin cfg0.N) : iblk m c 6 t = V m c main_v42 := by
  refine funext fun (y : S512x2048.Idx) => ?_
  blk_ext [iblk, (idx t).2.2.2.2.2.2.1]

/-- The values' weights. -/
theorem blk7 (t : Fin cfg0.N) : iblk m c 7 t = V m c main_v44 := by
  refine funext fun (y : S2048x512.Idx) => ?_
  blk_ext [iblk, (idx t).2.2.2.2.2.2.2.1]

/-- The cosine rows: column block `t`. -/
theorem blk8 (t : Fin cfg0.N) (f : Fin 128) (a : Fin 512) : iblk m c 8 t (ix2 f a) = V m c main_v19 (ix2 f (rowOf t a)) := by
  blk_ext [iblk, (idx t).2.2.2.2.2.2.2.2.1]

/-- The sine rows: column block `t`. -/
theorem blk9 (t : Fin cfg0.N) (f : Fin 128) (a : Fin 512) : iblk m c 9 t (ix2 f a) = V m c main_v21 (ix2 f (rowOf t a)) := by
  blk_ext [iblk, (idx t).2.2.2.2.2.2.2.2.2.1]

/-- Point `t`'s blocks hold the arguments of its rows. -/
theorem blk (t : Fin cfg0.N) : Blk (fun r => row m c (rowOf t r)) (iblk m c 0 t) (iblk m c 1 t) (iblk m c 2 t) (iblk m c 3 t) (iblk m c 4 t)
    (iblk m c 5 t) (iblk m c 6 t) (iblk m c 7 t) (iblk m c 8 t) (iblk m c 9 t) where
  hx r k := blk0 m c t r k
  hg r k := blk1 m c t k
  hw r j e := by rw [blk2, V37]; exact wlArr_at _ j e
  hgq r k := blk3 m c t k
  hgk r k := blk4 m c t k
  hq r j hd d := by rw [blk5, V41]; exact wqArr_at _ j hd d
  hk r j hd d := by rw [blk6, V42]; exact wkArr_at _ j hd d
  hv r j hd d := by rw [blk7, V44]; exact wvArr_at _ j hd d
  hc f r := by rw [blk8, V19]; exact cosArr_at _ _ f _ rfl
  hs f r := by rw [blk9, V21]; exact sinArr_at _ _ f _ rfl

/-- The first norm, the queries, the keys and the values as arrays. -/
def hA : (⟨2, ![8192, 2048]⟩ : Shape).Idx → EReal := fun i => h (row m c (i 0)) (i 1)
/-- The queries. -/
def qA : (⟨3, ![16, 256, 8192]⟩ : Shape).Idx → EReal := fun i => query (row m c (i 2)) (i 0) (i 1)
/-- The keys. -/
def kA : (⟨3, ![16, 8192, 256]⟩ : Shape).Idx → EReal := fun i => key (row m c (i 1)) (i 0) (i 2)
/-- The values. -/
def vA : (⟨4, ![16, 16, 144, 512]⟩ : Shape).Idx → EReal := fun i =>
  value (row m c ⟨(i 1).val * 512 + (i 3).val, by have h1 : (i 1).val < 16 := (i 1).isLt; have h3 : (i 3).val < 512 := (i 3).isLt; omega⟩) (i 0) (i 2)

/-- Where a place of point `t`'s block of the first norm sits. -/
theorem emb10 (t : Fin cfg0.N) (a : Fin 512) (b : Fin 2048) : ((cfg0.win 10).blk t).view.emb (ix2 a b) = ix2 (rowOf t a) b := by
  have e : win0_10.index t = ![t.val, 0] := (idx t).2.2.2.2.2.2.2.2.2.2.1
  have e0 := Pipeline.Window.rect_emb_val_off win0_10 t (ix2 a b) 0
  have e1 := Pipeline.Window.rect_emb_val_off win0_10 t (ix2 a b) 1
  rw [e] at e0 e1
  refine (eq_ix2 _).trans (congrArg₂ ix2 (Fin.ext ?_) (Fin.ext ?_))
  · exact e0
  · exact e1.trans (by show 0 * 2048 + b.val = b.val; omega)

/-- Places with equal coordinates are equal. -/
theorem ix3_congr {n0 n1 n2 : ℕ} {a a' : Fin n0} {b b' : Fin n1} {r r' : Fin n2} (ha : a.val = a'.val) (hb : b.val = b'.val) (hr : r.val = r'.val) :
    ix3 a b r = ix3 a' b' r' := by
  obtain rfl := Fin.ext ha
  obtain rfl := Fin.ext hb
  obtain rfl := Fin.ext hr
  rfl

/-- Where a place of point `t`'s block of the queries sits. -/
theorem emb11 (t : Fin cfg0.N) (a : Fin 16) (b : Fin 256) (r : Fin 512) : ((cfg0.win 11).blk t).view.emb (ix3 a b r) = ix3 a b (rowOf t r) := by
  have e : win0_11.index t = ![0, 0, t.val] := (idx t).2.2.2.2.2.2.2.2.2.2.2.1
  have e0 := Pipeline.Window.rect_emb_val_off win0_11 t (ix3 a b r) 0
  have e1 := Pipeline.Window.rect_emb_val_off win0_11 t (ix3 a b r) 1
  have e2 := Pipeline.Window.rect_emb_val_off win0_11 t (ix3 a b r) 2
  rw [e] at e0 e1 e2
  exact (eq_ix3 _).trans (ix3_congr (e0.trans (by show 0 * 16 + a.val = a.val; omega)) (e1.trans (by show 0 * 256 + b.val = b.val; omega)) e2)

/-- Where a place of point `t`'s block of the keys sits. -/
theorem emb12 (t : Fin cfg0.N) (a : Fin 16) (r : Fin 512) (b : Fin 256) : ((cfg0.win 12).blk t).view.emb (ix3 a r b) = ix3 a (rowOf t r) b := by
  have e : win0_12.index t = ![0, t.val, 0] := (idx t).2.2.2.2.2.2.2.2.2.2.2.2.1
  have e0 := Pipeline.Window.rect_emb_val_off win0_12 t (ix3 a r b) 0
  have e1 := Pipeline.Window.rect_emb_val_off win0_12 t (ix3 a r b) 1
  have e2 := Pipeline.Window.rect_emb_val_off win0_12 t (ix3 a r b) 2
  rw [e] at e0 e1 e2
  exact (eq_ix3 _).trans (ix3_congr (e0.trans (by show 0 * 16 + a.val = a.val; omega)) e1 (e2.trans (by show 0 * 256 + b.val = b.val; omega)))

/-- Where a place of point `t`'s block of the values sits. -/
theorem emb13 (t : Fin cfg0.N) (a : Fin 16) (b : Fin 144) (r : Fin 512) :
    ((cfg0.win 13).blk t).view.emb (ix4 a (0 : Fin 1) b r) = ix4 a (⟨t.val, t.isLt⟩ : Fin 16) b r := by
  have e : win0_13.index t = ![0, t.val, 0, 0] := (idx t).2.2.2.2.2.2.2.2.2.2.2.2.2
  have e0 := Pipeline.Window.rect_emb_val_off win0_13 t (ix4 a (0 : Fin 1) b r) 0
  have e1 := Pipeline.Window.rect_emb_val_off win0_13 t (ix4 a (0 : Fin 1) b r) 1
  have e2 := Pipeline.Window.rect_emb_val_off win0_13 t (ix4 a (0 : Fin 1) b r) 2
  have e3 := Pipeline.Window.rect_emb_val_off win0_13 t (ix4 a (0 : Fin 1) b r) 3
  rw [e] at e0 e1 e2 e3
  refine (eq_ix4 _).trans ?_
  congr 1
  · exact Fin.ext (e0.trans (by show 0 * 16 + a.val = a.val; omega))
  · exact Fin.ext (e1.trans (by show t.val * 1 + 0 = t.val; omega))
  · exact Fin.ext (e2.trans (by show 0 * 144 + b.val = b.val; omega))
  · exact Fin.ext (e3.trans (by show 0 * 512 + r.val = r.val; omega))

/-- THE KERNEL's first norm. -/
theorem kernel_h : (dats m 0 c).arrAt 10 cfg0.N = hA m c := by
  refine (dats m 0 c).arrAt_eq_of_covers 10 _ (by decide +kernel) fun t _ y => ?_
  blk_simp
  rw [after0_10]
  obtain ⟨a, b, rfl⟩ : ∃ (a : Fin 512) (b : Fin 2048), y = ix2 a b := ⟨y 0, y 1, eq_ix2 y⟩
  unfold outsAt0
  dsimp only
  rw [out_h, pay2_at (blk m c t)]
  exact (congrArg (hA m c) (emb10 t a b)).symm

/-- THE KERNEL's queries. -/
theorem kernel_q : (dats m 0 c).arrAt 11 cfg0.N = qA m c := by
  refine (dats m 0 c).arrAt_eq_of_covers 11 _ (by decide +kernel) fun t _ y => ?_
  blk_simp
  rw [after0_11]
  obtain ⟨a, b, r, rfl⟩ : ∃ (a : Fin 16) (b : Fin 256) (r : Fin 512), y = ix3 a b r := ⟨y 0, y 1, y 2, eq_ix3 y⟩
  unfold outsAt0
  dsimp only
  rw [out_q, outQ_eq (blk m c t)]
  exact (congrArg (qA m c) (emb11 t a b r)).symm

/-- THE KERNEL's keys. -/
theorem kernel_k : (dats m 0 c).arrAt 12 cfg0.N = kA m c := by
  refine (dats m 0 c).arrAt_eq_of_covers 12 _ (by decide +kernel) fun t _ y => ?_
  blk_simp
  rw [after0_12]
  obtain ⟨a, r, b, rfl⟩ : ∃ (a : Fin 16) (r : Fin 512) (b : Fin 256), y = ix3 a r b := ⟨y 0, y 1, y 2, eq_ix3 y⟩
  unfold outsAt0
  dsimp only
  rw [out_k, outK_eq (blk m c t)]
  exact (congrArg (kA m c) (emb12 t a r b)).symm

/-- THE KERNEL's values. -/
theorem kernel_v : (dats m 0 c).arrAt 13 cfg0.N = vA m c := by
  refine (dats m 0 c).arrAt_eq_of_covers 13 _ (by decide +kernel) fun t _ y => ?_
  blk_simp
  rw [after0_13]
  obtain ⟨a, f, b, r, rfl⟩ : ∃ (a : Fin 16) (f : Fin 1) (b : Fin 144) (r : Fin 512), y = ix4 a f b r := ⟨y 0, y 1, y 2, y 3, eq_ix4 y⟩
  obtain rfl : f = 0 := Subsingleton.elim _ _
  unfold outsAt0
  dsimp only
  rw [out_v, outV_eq (blk m c t)]
  exact (congrArg (vA m c) (emb13 t a b r)).symm

end Cert.Kernel5Ideal.Lat
end
-- ==== Proof.lean ====
/- The claims assembled: each frame claim from the program's generated run, and each value claim from the kernel's and the
   reference's results, both read as the call's mathematics: the convolution mixer (Proof/ConvSpec.lean), the layer's last
   step (Proof/OutSpec.lean), the gates (Proof/GatesSpec.lean), the causal softmax attention (Proof/AttnSpec.lean). -/
module

public import proofs.«01_k».proof.Defs
public import proofs.«01_k».proof.Proof.Gen.Kernel.Frame
public import proofs.«01_k».proof.Proof.Gen.KernelIdeal.Value
public import proofs.«01_k».proof.Proof.Gen.ReferenceIdeal.Run
public import proofs.«01_k».proof.Proof.Gen.Kernel2.Frame
public import proofs.«01_k».proof.Proof.Gen.Kernel2Ideal.Value
public import proofs.«01_k».proof.Proof.Gen.Reference2Ideal.Run
public import proofs.«01_k».proof.Proof.Gen.Kernel3.Frame
public import proofs.«01_k».proof.Proof.Gen.Kernel3Ideal.Value
public import proofs.«01_k».proof.Proof.Gen.Reference3Ideal.Run
public import proofs.«01_k».proof.Proof.ConvTie
public import proofs.«01_k».proof.Proof.OutTie
public import proofs.«01_k».proof.Proof.AttnTie
public import proofs.«01_k».proof.Proof.RawFrame
public import proofs.«01_k».proof.Proof.GatesTie
public import proofs.«01_k».proof.Proof.LatTie
public import Idealize.ShloMosaic.Adequacy
public import Idealize.ShloMosaic.Init
public import Idealize.ShloMosaic.Lib.Quiescent

@[expose] public section

noncomputable section

namespace Cert.Proof

open Idealize.ShloMosaic Idealize.SL.Sem

/-- The convolution mixer's reference runs, leaving its arguments and every counter as they were. -/
theorem quiescent_ReferenceIdeal : quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The last step's reference runs, likewise. -/
theorem quiescent_Reference2Ideal : quiescent_Reference2Ideal := fun m ρ _ =>
  (θ_run Cert.Reference2Ideal.defs _ _).mono (fun r h => ⟨fun c => (h c).2, sem_eq_zero_of_no_sems (by decide) r.2⟩)
    (Cert.OutSpec.reference_run m ρ)

/-- The gates' reference runs, likewise. -/
theorem quiescent_Reference3Ideal : quiescent_Reference3Ideal := fun m ρ _ =>
  (θ_run Cert.Reference3Ideal.defs _ _).mono (fun r h => ⟨fun c => (h c).2.2.2.2, sem_eq_zero_of_no_sems (by decide) r.2⟩)
    (Cert.GatesSpec.reference_run m ρ)

/-- The attention's reference runs, likewise. -/
theorem quiescent_Reference4Ideal : quiescent_Reference4Ideal := fun m ρ _ =>
  (θ_run Cert.Reference4Ideal.defs _ _).mono (fun r h => ⟨fun c => (h c).2, sem_eq_zero_of_no_sems (by decide) r.2⟩)
    (Cert.AttnSpec.reference_run m ρ)

/-- The latent projections' reference runs, likewise. -/
theorem quiescent_Reference5Ideal : quiescent_Reference5Ideal := fun m ρ _ =>
  (θ_run Cert.Reference5Ideal.defs _ _).mono (fun r h => ⟨fun c => (h c).2.2.2.2, sem_eq_zero_of_no_sems (by decide) r.2⟩)
    (Cert.Reference5Ideal.Lat.reference_run m ρ)

/-- The precondition's side conditions. -/
theorem facts_finite : Cert.Pre_finite.Facts := ⟨by decide, by decide, by decide⟩

/-- THE CONVOLUTION MIXER: kernel and reference end with the same array. -/
theorem algebraic_KernelIdeal_ReferenceIdeal : algebraic_KernelIdeal_ReferenceIdeal := by
  intro m ρ m' ρ' _ hagree
  refine ⟨_, Cert.KernelIdeal.Value.run (F := Ideal) m ρ, ?_⟩
  refine (θ_run Cert.ReferenceIdeal.defs _ _).mono (fun _ h c => ⟨?_, (h c).2⟩) (Cert.ReferenceIdeal.Value.run (F := Ideal) m' ρ')
  rw [(h c).1]
  refine funext fun (i : (⟨2, ![8192, 2048]⟩ : Shape).Idx) => ?_
  rw [eq_ix2 i]
  refine (Cert.ConvSpec.reference_at m' c (i 0) (i 1)).trans ?_
  refine Eq.trans ?_ (Cert.KernelIdeal.Conv.kernel_at m c (i 0) (i 1)).symm
  rw [(hagree c).1, (hagree c).2.1, (hagree c).2.2]

/-- THE LAST STEP: kernel and reference end with the same array, the layer's result. -/
theorem algebraic_Kernel2Ideal_Reference2Ideal : algebraic_Kernel2Ideal_Reference2Ideal := by
  intro m ρ m' ρ' _ hagree
  refine ⟨_, Cert.Kernel2Ideal.Value.run_blocks (F := Ideal) m ρ, ?_⟩
  refine (θ_run Cert.Reference2Ideal.defs _ _).mono (fun _ h c => ⟨?_, (h c).2⟩) (Cert.OutSpec.reference_run m' ρ')
  obtain ⟨a0, a1, a2, a3, a4, a5, a6, a7⟩ := hagree c
  rw [(h c).1, Cert.Kernel2Ideal.Out.kernel_eq, a0, a1, a2, a3, a4, a5, a6, a7]

/-- THE GATES: kernel and reference end with the same gates and the same three weights. -/
theorem algebraic_Kernel3Ideal_Reference3Ideal : algebraic_Kernel3Ideal_Reference3Ideal := by
  intro m ρ m' ρ' _ hagree
  refine ⟨_, _, _, _, Cert.Kernel3Ideal.Value.run_blocks (F := Ideal) m ρ, ?_⟩
  refine (θ_run Cert.Reference3Ideal.defs _ _).mono (fun _ h c => ⟨?_, ?_, ?_, ?_, (h c).2.2.2.2⟩) (Cert.GatesSpec.reference_run m' ρ')
  all_goals obtain ⟨a0, a1, a2, a3, a4⟩ := hagree c
  · rw [(h c).1, Cert.Kernel3Ideal.Gates.kernel_gates, a0, a1]
  · rw [(h c).2.1, Cert.Kernel3Ideal.Gates.kernel_side6, a2]
  · rw [(h c).2.2.1, Cert.Kernel3Ideal.Gates.kernel_side7, a3]
  · rw [(h c).2.2.2.1, Cert.Kernel3Ideal.Gates.kernel_side8, a4]

/-- The precondition says that the queries and the keys are numbers. -/
theorem numbers [Cert.Pre_finite.Facts] (m : (ℓ : Loc Cert.Kernel4Ideal.nD Cert.Kernel4Ideal.τ Cert.Kernel4Ideal.sig) → Buf (Elt Ideal) ℓ)
    (h : Pre_Kernel4Ideal_finite m) (c : Dev Cert.Kernel4Ideal.nD) : Cert.Kernel4Ideal.Attn.Numbers m c :=
  ⟨Cert.Kernel4Ideal.Attn.number_of _ _ (h c).1, Cert.Kernel4Ideal.Attn.number_of _ _ (h c).2.1,
    Cert.Kernel4Ideal.Attn.number_of _ _ (h c).2.2.1, Cert.Kernel4Ideal.Attn.number_of _ _ (h c).2.2.2⟩

/-- THE ATTENTION: for finite queries and keys, kernel and reference end with the same array. -/
theorem algebraic_Kernel4Ideal_Reference4Ideal [Cert.Pre_finite.Facts] : algebraic_Kernel4Ideal_Reference4Ideal_pre_finite := by
  intro m ρ m' ρ' hpre hagree
  refine ⟨_, Cert.Kernel4Ideal.Attn.value_run m ρ (numbers m hpre), ?_⟩
  refine (θ_run Cert.Reference4Ideal.defs _ _).mono (fun _ h c => ⟨?_, (h c).2⟩) (Cert.AttnSpec.reference_run m' ρ')
  obtain ⟨a0, a1, a2, a3, a4⟩ := hagree c
  rw [(h c).1, a0, a1, a2, a3, a4]

/-- THE LATENT PROJECTIONS: kernel and reference end with the same first norm, queries, keys and values. -/
theorem algebraic_Kernel5Ideal_Reference5Ideal : algebraic_Kernel5Ideal_Reference5Ideal := by
  intro m ρ m' ρ' _ hagree
  refine ⟨_, _, _, _, Cert.Kernel5Ideal.Value.run_blocks (F := Ideal) m ρ, ?_⟩
  refine (θ_run Cert.Reference5Ideal.defs _ _).mono (fun _ h c => ?_) (Cert.Reference5Ideal.Lat.reference_run m' ρ')
  have e : ∀ s, Cert.Reference5Ideal.Lat.row m' c s = Cert.Kernel5Ideal.Lat.row m c s := fun s => by
    obtain ⟨a0, a1, a2, a3, a4, a5, a6, a7⟩ := hagree c
    unfold Cert.Reference5Ideal.Lat.row Cert.Kernel5Ideal.Lat.row
    rw [a0, a1, a2, a3, a4, a5, a6, a7]
  refine ⟨?_, ?_, ?_, ?_, (h c).2.2.2.2⟩
  · rw [(h c).1, Cert.Kernel5Ideal.Lat.kernel_h]
    exact funext fun (i : (⟨2, ![8192, 2048]⟩ : Shape).Idx) => congrArg (fun R => Cert.LatSpec.h R (i 1)) (e _)
  · rw [(h c).2.1, Cert.Kernel5Ideal.Lat.kernel_q]
    exact funext fun (i : (⟨3, ![16, 256, 8192]⟩ : Shape).Idx) => congrArg (fun R => Cert.LatSpec.query R (i 0) (i 1)) (e _)
  · rw [(h c).2.2.1, Cert.Kernel5Ideal.Lat.kernel_k]
    exact funext fun (i : (⟨3, ![16, 8192, 256]⟩ : Shape).Idx) => congrArg (fun R => Cert.LatSpec.key R (i 0) (i 2)) (e _)
  · rw [(h c).2.2.2.1, Cert.Kernel5Ideal.Lat.kernel_v]
    exact funext fun (i : (⟨4, ![16, 16, 144, 512]⟩ : Shape).Idx) => congrArg (fun R => Cert.LatSpec.value R (i 0) (i 2)) (e _)

/-- Everything claimed. -/
theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts, facts_finite,
  fun m ρ _ => Cert.Kernel.Gen.frame m ρ, fun m ρ _ => Cert.KernelIdeal.Gen.frame m ρ, quiescent_ReferenceIdeal,
  fun m ρ _ => Cert.Kernel2.Gen.frame m ρ, fun m ρ _ => Cert.Kernel2Ideal.Gen.frame m ρ, quiescent_Reference2Ideal,
  fun m ρ _ => Cert.Kernel3.Gen.frame m ρ, fun m ρ _ => Cert.Kernel3Ideal.Gen.frame m ρ, quiescent_Reference3Ideal,
  fun m ρ _ => Cert.Kernel4.Attn.frame m ρ, fun m ρ _ => Cert.Kernel4Ideal.Attn.frame m ρ, fun m ρ _ => Cert.Kernel4Ideal.Attn.frame m ρ,
  quiescent_Reference4Ideal, fun m ρ _ => quiescent_Reference4Ideal m ρ _root_.trivial,
  fun m ρ _ => Cert.Kernel5.Gen.frame m ρ, fun m ρ _ => Cert.Kernel5Ideal.Gen.frame m ρ, quiescent_Reference5Ideal,
  (trivial : preserves_Kernel_KernelIdeal), algebraic_KernelIdeal_ReferenceIdeal,
  (trivial : preserves_Kernel2_Kernel2Ideal), algebraic_Kernel2Ideal_Reference2Ideal,
  (trivial : preserves_Kernel3_Kernel3Ideal), algebraic_Kernel3Ideal_Reference3Ideal,
  (trivial : preserves_Kernel4_Kernel4Ideal), @algebraic_Kernel4Ideal_Reference4Ideal facts_finite,
  (IdealRules.named_const.statement Cert.Kernel5Ideal.κ "q_scale" .f32 0x3DD53B95#32 ((((Real.log 2) * (Real.sqrt 192))⁻¹ : ℝ) : EReal) rfl : preserves_Kernel5_Kernel5Ideal),
  algebraic_Kernel5Ideal_Reference5Ideal⟩

end Cert.Proof

end
